-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inproj [hPre_finite_inproj : Cert.Pre_finite_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_mixer [hPre_finite_mixer : Cert.Pre_finite_mixer.Facts] (m : (ℓ : Loc Cert.MixerIdeal.nD Cert.MixerIdeal.τ Cert.MixerIdeal.sig) → Buf (Elt Ideal) ℓ) : Prop :=
  ∀ c : Dev Cert.MixerIdeal.nD,
    (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_mixer [hPre_finite_mixer : Cert.Pre_finite_mixer.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdIdeal_finite_mixer_fwd [hPre_finite_mixer_fwd : Cert.Pre_finite_mixer_fwd.Facts] (m : (ℓ : Loc Cert.MixerFwdIdeal.nD Cert.MixerFwdIdeal.τ Cert.MixerFwdIdeal.sig) → Buf (Elt Ideal) ℓ) : Prop :=
  ∀ c : Dev Cert.MixerFwdIdeal.nD,
    (Cert.Pre_finite_mixer_fwd.fn (F := Ideal) (m ((c.tc : Thread Cert.MixerFwdIdeal.nD Cert.MixerFwdIdeal.τ).loc Cert.MixerFwdIdeal.main_arg0)) (m ((c.tc : Thread Cert.MixerFwdIdeal.nD Cert.MixerFwdIdeal.τ).loc Cert.MixerFwdIdeal.main_arg1)) (m ((c.tc : Thread Cert.MixerFwdIdeal.nD Cert.MixerFwdIdeal.τ).loc Cert.MixerFwdIdeal.main_arg2)) (m ((c.tc : Thread Cert.MixerFwdIdeal.nD Cert.MixerFwdIdeal.τ).loc Cert.MixerFwdIdeal.main_arg3))) = (fun _ => 1#1)

def Pre_MixerFwdRefIdeal (m : (ℓ : Loc Cert.MixerFwdRefIdeal.nD Cert.MixerFwdRefIdeal.τ Cert.MixerFwdRefIdeal.sig) → Buf (Elt Ideal) ℓ) : Prop :=
  True

def Pre_MixerFwdRefIdeal_finite_mixer_fwd [hPre_finite_mixer_fwd : Cert.Pre_finite_mixer_fwd.Facts] (m : (ℓ : Loc Cert.MixerFwdRefIdeal.nD Cert.MixerFwdRefIdeal.τ Cert.MixerFwdRefIdeal.sig) → Buf (Elt Ideal) ℓ) : Prop :=
  ∀ c : Dev Cert.MixerFwdRefIdeal.nD,
    (Cert.Pre_finite_mixer_fwd.fn (F := Ideal) (m ((c.tc : Thread Cert.MixerFwdRefIdeal.nD Cert.MixerFwdRefIdeal.τ).loc Cert.MixerFwdRefIdeal.main_arg0)) (m ((c.tc : Thread Cert.MixerFwdRefIdeal.nD Cert.MixerFwdRefIdeal.τ).loc Cert.MixerFwdRefIdeal.main_arg1)) (m ((c.tc : Thread Cert.MixerFwdRefIdeal.nD Cert.MixerFwdRefIdeal.τ).loc Cert.MixerFwdRefIdeal.main_arg2)) (m ((c.tc : Thread Cert.MixerFwdRefIdeal.nD Cert.MixerFwdRefIdeal.τ).loc Cert.MixerFwdRefIdeal.main_arg3))) = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumMeta (m : (ℓ : Loc Cert.SumMeta.nD Cert.SumMeta.τ Cert.SumMeta.sig) → Buf (Elt Bits) ℓ) : Prop :=
  True

def Pre_SumMetaIdeal (m : (ℓ : Loc Cert.SumMetaIdeal.nD Cert.SumMetaIdeal.τ Cert.SumMetaIdeal.sig) → Buf (Elt Ideal) ℓ) : Prop :=
  True

def Pre_SumMetaRefIdeal (m : (ℓ : Loc Cert.SumMetaRefIdeal.nD Cert.SumMetaRefIdeal.τ Cert.SumMetaRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_inproj [hInprojIdeal : Cert.InprojIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerIdeal_pre_finite_mixer [hMixerIdeal : Cert.MixerIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_mixer m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_MixerRefIdeal_pre_finite_mixer [hMixerRefIdeal : Cert.MixerRefIdeal.Facts] [hPre_finite_mixer : Cert.Pre_finite_mixer.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_mixer m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ r.2.sem = fun _ => 0)

def quiescent_MixerFwdIdeal_pre_finite_mixer_fwd [hMixerFwdIdeal : Cert.MixerFwdIdeal.Facts] [hPre_finite_mixer_fwd : Cert.Pre_finite_mixer_fwd.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal_finite_mixer_fwd m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3))
      ∧ r.2.sem = fun _ => 0)

def quiescent_MixerFwdRefIdeal_pre_finite_mixer_fwd [hMixerFwdRefIdeal : Cert.MixerFwdRefIdeal.Facts] [hPre_finite_mixer_fwd : Cert.Pre_finite_mixer_fwd.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal_finite_mixer_fwd m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumMeta [hSumMeta : Cert.SumMeta.Facts] : Prop :=
  ∀ (m : (ℓ : Loc Cert.SumMeta.nD Cert.SumMeta.τ Cert.SumMeta.sig) → Buf (Elt Bits) ℓ) (g : Dev Cert.SumMeta.nD → PrngReg), Pre_SumMeta m →
    θ_run (Cert.SumMeta.defs (F := Bits)) (onTc (τ := Cert.SumMeta.τ) (Cert.SumMeta.main (F := Bits))) ⟨m, fun _ => 0, g⟩ (fun r => (∀ c : Dev Cert.SumMeta.nD,
      r.2.mem ((c.tc : Thread Cert.SumMeta.nD Cert.SumMeta.τ).loc Cert.SumMeta.main_arg0) = m ((c.tc : Thread Cert.SumMeta.nD Cert.SumMeta.τ).loc Cert.SumMeta.main_arg0))
      ∧ r.2.sem = fun _ => 0)

def quiescent_SumMetaIdeal [hSumMetaIdeal : Cert.SumMetaIdeal.Facts] : Prop :=
  ∀ (m : (ℓ : Loc Cert.SumMetaIdeal.nD Cert.SumMetaIdeal.τ Cert.SumMetaIdeal.sig) → Buf (Elt Ideal) ℓ) (g : Dev Cert.SumMetaIdeal.nD → PrngReg), Pre_SumMetaIdeal m →
    θ_run (Cert.SumMetaIdeal.defs (F := Ideal)) (onTc (τ := Cert.SumMetaIdeal.τ) (Cert.SumMetaIdeal.main (F := Ideal))) ⟨m, fun _ => 0, g⟩ (fun r => (∀ c : Dev Cert.SumMetaIdeal.nD,
      r.2.mem ((c.tc : Thread Cert.SumMetaIdeal.nD Cert.SumMetaIdeal.τ).loc Cert.SumMetaIdeal.main_arg0) = m ((c.tc : Thread Cert.SumMetaIdeal.nD Cert.SumMetaIdeal.τ).loc Cert.SumMetaIdeal.main_arg0))
      ∧ r.2.sem = fun _ => 0)

def quiescent_SumMetaRefIdeal [hSumMetaRefIdeal : Cert.SumMetaRefIdeal.Facts] : Prop :=
  ∀ (m : (ℓ : Loc Cert.SumMetaRefIdeal.nD Cert.SumMetaRefIdeal.τ Cert.SumMetaRefIdeal.sig) → Buf (Elt Ideal) ℓ) (g : Dev Cert.SumMetaRefIdeal.nD → PrngReg), Pre_SumMetaRefIdeal m →
    θ_run (Cert.SumMetaRefIdeal.defs (F := Ideal)) (onTc (τ := Cert.SumMetaRefIdeal.τ) (Cert.SumMetaRefIdeal.main (F := Ideal))) ⟨m, fun _ => 0, g⟩ (fun r => (∀ c : Dev Cert.SumMetaRefIdeal.nD,
      r.2.mem ((c.tc : Thread Cert.SumMetaRefIdeal.nD Cert.SumMetaRefIdeal.τ).loc Cert.SumMetaRefIdeal.main_arg0) = m ((c.tc : Thread Cert.SumMetaRefIdeal.nD Cert.SumMetaRefIdeal.τ).loc Cert.SumMetaRefIdeal.main_arg0))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5))
      ∧ r.2.sem = fun _ => 0)

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v19)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v19) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inproj_InprojIdeal : Prop :=
  True

def algebraic_InprojIdeal_InprojRefIdeal_pre_finite_inproj [hInprojIdeal : Cert.InprojIdeal.Facts] [hInprojRefIdeal : Cert.InprojRefIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v16_0)) (v1 : (c : Dev Cert.InprojIdeal.nD) → Buf (Elt Ideal) ((c.tc : Thread Cert.InprojIdeal.nD Cert.InprojIdeal.τ).loc Cert.InprojIdeal.main_v16_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v16_0) = v0 c
          ∧ r.2.mem ((c.tc : Thread Cert.InprojIdeal.nD Cert.InprojIdeal.τ).loc Cert.InprojIdeal.main_v16_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v40) = v0 c
          ∧ r.2.mem ((c.tc : Thread Cert.InprojRefIdeal.nD Cert.InprojRefIdeal.τ).loc Cert.InprojRefIdeal.main_v41) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v30_0)) (v1 : (c : Dev Cert.MlpIdeal.nD) → Buf (Elt Ideal) ((c.tc : Thread Cert.MlpIdeal.nD Cert.MlpIdeal.τ).loc Cert.MlpIdeal.main_v30_1)) (v2 : (c : Dev Cert.MlpIdeal.nD) → Buf (Elt Ideal) ((c.tc : Thread Cert.MlpIdeal.nD Cert.MlpIdeal.τ).loc Cert.MlpIdeal.main_v30_2)) (v3 : (c : Dev Cert.MlpIdeal.nD) → Buf (Elt Ideal) ((c.tc : Thread Cert.MlpIdeal.nD Cert.MlpIdeal.τ).loc Cert.MlpIdeal.main_v30_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v30_0) = v0 c
          ∧ r.2.mem ((c.tc : Thread Cert.MlpIdeal.nD Cert.MlpIdeal.τ).loc Cert.MlpIdeal.main_v30_1) = v1 c
          ∧ r.2.mem ((c.tc : Thread Cert.MlpIdeal.nD Cert.MlpIdeal.τ).loc Cert.MlpIdeal.main_v30_2) = v2 c
          ∧ r.2.mem ((c.tc : Thread Cert.MlpIdeal.nD Cert.MlpIdeal.τ).loc Cert.MlpIdeal.main_v30_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_v59) = v1 c
          ∧ r.2.mem ((c.tc : Thread Cert.MlpRefIdeal.nD Cert.MlpRefIdeal.τ).loc Cert.MlpRefIdeal.main_v62) = v2 c
          ∧ r.2.mem ((c.tc : Thread Cert.MlpRefIdeal.nD Cert.MlpRefIdeal.τ).loc Cert.MlpRefIdeal.main_v63) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mixer_MixerIdeal : Prop :=
  True

def algebraic_MixerIdeal_MixerRefIdeal_pre_finite_mixer [hMixerIdeal : Cert.MixerIdeal.Facts] [hMixerRefIdeal : Cert.MixerRefIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_mixer m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v33_0)) (v1 : (c : Dev Cert.MixerIdeal.nD) → Buf (Elt Ideal) ((c.tc : Thread Cert.MixerIdeal.nD Cert.MixerIdeal.τ).loc Cert.MixerIdeal.main_v33_1)) (v2 : (c : Dev Cert.MixerIdeal.nD) → Buf (Elt Ideal) ((c.tc : Thread Cert.MixerIdeal.nD Cert.MixerIdeal.τ).loc Cert.MixerIdeal.main_v33_2)) (v3 : (c : Dev Cert.MixerIdeal.nD) → Buf (Elt Ideal) ((c.tc : Thread Cert.MixerIdeal.nD Cert.MixerIdeal.τ).loc Cert.MixerIdeal.main_v42)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v33_0) = v0 c
          ∧ r.2.mem ((c.tc : Thread Cert.MixerIdeal.nD Cert.MixerIdeal.τ).loc Cert.MixerIdeal.main_v33_1) = v1 c
          ∧ r.2.mem ((c.tc : Thread Cert.MixerIdeal.nD Cert.MixerIdeal.τ).loc Cert.MixerIdeal.main_v33_2) = v2 c
          ∧ r.2.mem ((c.tc : Thread Cert.MixerIdeal.nD Cert.MixerIdeal.τ).loc Cert.MixerIdeal.main_v42) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v259) = v0 c
          ∧ r.2.mem ((c.tc : Thread Cert.MixerRefIdeal.nD Cert.MixerRefIdeal.τ).loc Cert.MixerRefIdeal.main_v251) = v1 c
          ∧ r.2.mem ((c.tc : Thread Cert.MixerRefIdeal.nD Cert.MixerRefIdeal.τ).loc Cert.MixerRefIdeal.main_v260) = v2 c
          ∧ r.2.mem ((c.tc : Thread Cert.MixerRefIdeal.nD Cert.MixerRefIdeal.τ).loc Cert.MixerRefIdeal.main_v169) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_AttnFwd_AttnFwdIdeal : Prop :=
  True

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v19)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v19) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v28) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_MixerFwd_MixerFwdIdeal : Prop :=
  True

def algebraic_MixerFwdIdeal_MixerFwdRefIdeal_pre_finite_mixer_fwd [hMixerFwdIdeal : Cert.MixerFwdIdeal.Facts] [hMixerFwdRefIdeal : Cert.MixerFwdRefIdeal.Facts] [hPre_finite_mixer_fwd : Cert.Pre_finite_mixer_fwd.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal_finite_mixer_fwd m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)) →
    ∃ (v0 : (c : Dev Cert.MixerFwdIdeal.nD) → Buf (Elt Ideal) ((c.tc : Thread Cert.MixerFwdIdeal.nD Cert.MixerFwdIdeal.τ).loc Cert.MixerFwdIdeal.main_v30)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v30) = v0 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v156) = v0 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v9_0)) (v1 : (c : Dev Cert.InprojFwdIdeal.nD) → Buf (Elt Ideal) ((c.tc : Thread Cert.InprojFwdIdeal.nD Cert.InprojFwdIdeal.τ).loc Cert.InprojFwdIdeal.main_v9_1)) (v2 : (c : Dev Cert.InprojFwdIdeal.nD) → Buf (Elt Ideal) ((c.tc : Thread Cert.InprojFwdIdeal.nD Cert.InprojFwdIdeal.τ).loc Cert.InprojFwdIdeal.main_v9_2)) (v3 : (c : Dev Cert.InprojFwdIdeal.nD) → Buf (Elt Ideal) ((c.tc : Thread Cert.InprojFwdIdeal.nD Cert.InprojFwdIdeal.τ).loc Cert.InprojFwdIdeal.main_v9_3)) (v4 : (c : Dev Cert.InprojFwdIdeal.nD) → Buf (Elt Ideal) ((c.tc : Thread Cert.InprojFwdIdeal.nD Cert.InprojFwdIdeal.τ).loc Cert.InprojFwdIdeal.main_v9_4)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v9_0) = v0 c
          ∧ r.2.mem ((c.tc : Thread Cert.InprojFwdIdeal.nD Cert.InprojFwdIdeal.τ).loc Cert.InprojFwdIdeal.main_v9_1) = v1 c
          ∧ r.2.mem ((c.tc : Thread Cert.InprojFwdIdeal.nD Cert.InprojFwdIdeal.τ).loc Cert.InprojFwdIdeal.main_v9_2) = v2 c
          ∧ r.2.mem ((c.tc : Thread Cert.InprojFwdIdeal.nD Cert.InprojFwdIdeal.τ).loc Cert.InprojFwdIdeal.main_v9_3) = v3 c
          ∧ r.2.mem ((c.tc : Thread Cert.InprojFwdIdeal.nD Cert.InprojFwdIdeal.τ).loc Cert.InprojFwdIdeal.main_v9_4) = v4 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v19) = v0 c
          ∧ r.2.mem ((c.tc : Thread Cert.InprojFwdRefIdeal.nD Cert.InprojFwdRefIdeal.τ).loc Cert.InprojFwdRefIdeal.main_v22) = v1 c
          ∧ r.2.mem ((c.tc : Thread Cert.InprojFwdRefIdeal.nD Cert.InprojFwdRefIdeal.τ).loc Cert.InprojFwdRefIdeal.main_v25) = v2 c
          ∧ r.2.mem ((c.tc : Thread Cert.InprojFwdRefIdeal.nD Cert.InprojFwdRefIdeal.τ).loc Cert.InprojFwdRefIdeal.main_v28) = v3 c
          ∧ r.2.mem ((c.tc : Thread Cert.InprojFwdRefIdeal.nD Cert.InprojFwdRefIdeal.τ).loc Cert.InprojFwdRefIdeal.main_v31) = v4 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)) →
    ∃ (v0 : (c : Dev Cert.OutprojIdeal.nD) → Buf (Elt Ideal) ((c.tc : Thread Cert.OutprojIdeal.nD Cert.OutprojIdeal.τ).loc Cert.OutprojIdeal.main_v6_0)) (v1 : (c : Dev Cert.OutprojIdeal.nD) → Buf (Elt Ideal) ((c.tc : Thread Cert.OutprojIdeal.nD Cert.OutprojIdeal.τ).loc Cert.OutprojIdeal.main_v6_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6_0) = v0 c
          ∧ r.2.mem ((c.tc : Thread Cert.OutprojIdeal.nD Cert.OutprojIdeal.τ).loc Cert.OutprojIdeal.main_v6_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_v9) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumMeta_SumMetaIdeal : Prop :=
  True

def algebraic_SumMetaIdeal_SumMetaRefIdeal [hSumMetaIdeal : Cert.SumMetaIdeal.Facts] [hSumMetaRefIdeal : Cert.SumMetaRefIdeal.Facts] : Prop :=
  ∀ (m : (ℓ : Loc Cert.SumMetaIdeal.nD Cert.SumMetaIdeal.τ Cert.SumMetaIdeal.sig) → Buf (Elt Ideal) ℓ) (g : Dev Cert.SumMetaIdeal.nD → PrngReg)
    (m' : (ℓ : Loc Cert.SumMetaRefIdeal.nD Cert.SumMetaRefIdeal.τ Cert.SumMetaRefIdeal.sig) → Buf (Elt Ideal) ℓ) (g' : Dev Cert.SumMetaRefIdeal.nD → PrngReg), Pre_SumMetaIdeal m →
    (∀ c : Dev Cert.SumMetaIdeal.nD,
      m' ((c.tc : Thread Cert.SumMetaRefIdeal.nD Cert.SumMetaRefIdeal.τ).loc Cert.SumMetaRefIdeal.main_arg0) = m ((c.tc : Thread Cert.SumMetaIdeal.nD Cert.SumMetaIdeal.τ).loc Cert.SumMetaIdeal.main_arg0)) →
    ∃ (v0 : (c : Dev Cert.SumMetaIdeal.nD) → Buf (Elt Ideal) ((c.tc : Thread Cert.SumMetaIdeal.nD Cert.SumMetaIdeal.τ).loc Cert.SumMetaIdeal.main_v0)),
      θ_run (Cert.SumMetaIdeal.defs (F := Ideal)) (onTc (τ := Cert.SumMetaIdeal.τ) (Cert.SumMetaIdeal.main (F := Ideal))) ⟨m, fun _ => 0, g⟩ (fun r => ∀ c : Dev Cert.SumMetaIdeal.nD,
          r.2.mem ((c.tc : Thread Cert.SumMetaIdeal.nD Cert.SumMetaIdeal.τ).loc Cert.SumMetaIdeal.main_v0) = v0 c
          ∧ r.2.mem ((c.tc : Thread Cert.SumMetaIdeal.nD Cert.SumMetaIdeal.τ).loc Cert.SumMetaIdeal.main_arg0) = m ((c.tc : Thread Cert.SumMetaIdeal.nD Cert.SumMetaIdeal.τ).loc Cert.SumMetaIdeal.main_arg0))
      ∧ θ_run (Cert.SumMetaRefIdeal.defs (F := Ideal)) (onTc (τ := Cert.SumMetaRefIdeal.τ) (Cert.SumMetaRefIdeal.main (F := Ideal))) ⟨m', fun _ => 0, g'⟩ (fun r => ∀ c : Dev Cert.SumMetaRefIdeal.nD,
          r.2.mem ((c.tc : Thread Cert.SumMetaRefIdeal.nD Cert.SumMetaRefIdeal.τ).loc Cert.SumMetaRefIdeal.main_v0) = v0 c
          ∧ r.2.mem ((c.tc : Thread Cert.SumMetaRefIdeal.nD Cert.SumMetaRefIdeal.τ).loc Cert.SumMetaRefIdeal.main_arg0) = m' ((c.tc : Thread Cert.SumMetaRefIdeal.nD Cert.SumMetaRefIdeal.τ).loc Cert.SumMetaRefIdeal.main_arg0))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v8)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v8) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v4) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)) →
    ∃ (v0 : (c : Dev Cert.MlpFwdIdeal.nD) → Buf (Elt Ideal) ((c.tc : Thread Cert.MlpFwdIdeal.nD Cert.MlpFwdIdeal.τ).loc Cert.MlpFwdIdeal.main_v15_0)) (v1 : (c : Dev Cert.MlpFwdIdeal.nD) → Buf (Elt Ideal) ((c.tc : Thread Cert.MlpFwdIdeal.nD Cert.MlpFwdIdeal.τ).loc Cert.MlpFwdIdeal.main_v15_1)) (v2 : (c : Dev Cert.MlpFwdIdeal.nD) → Buf (Elt Ideal) ((c.tc : Thread Cert.MlpFwdIdeal.nD Cert.MlpFwdIdeal.τ).loc Cert.MlpFwdIdeal.main_v15_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v15_0) = v0 c
          ∧ r.2.mem ((c.tc : Thread Cert.MlpFwdIdeal.nD Cert.MlpFwdIdeal.τ).loc Cert.MlpFwdIdeal.main_v15_1) = v1 c
          ∧ r.2.mem ((c.tc : Thread Cert.MlpFwdIdeal.nD Cert.MlpFwdIdeal.τ).loc Cert.MlpFwdIdeal.main_v15_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v25) = v0 c
          ∧ r.2.mem ((c.tc : Thread Cert.MlpFwdRefIdeal.nD Cert.MlpFwdRefIdeal.τ).loc Cert.MlpFwdRefIdeal.main_v28) = v1 c
          ∧ r.2.mem ((c.tc : Thread Cert.MlpFwdRefIdeal.nD Cert.MlpFwdRefIdeal.τ).loc Cert.MlpFwdRefIdeal.main_v30) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hMlp : Cert.Mlp.Facts) (hMlpIdeal : Cert.MlpIdeal.Facts) (hMlpRefIdeal : Cert.MlpRefIdeal.Facts) (hMixer : Cert.Mixer.Facts) (hMixerIdeal : Cert.MixerIdeal.Facts) (hMixerRefIdeal : Cert.MixerRefIdeal.Facts) (hAttnFwd : Cert.AttnFwd.Facts) (hAttnFwdIdeal : Cert.AttnFwdIdeal.Facts) (hAttnFwdRefIdeal : Cert.AttnFwdRefIdeal.Facts) (hMixerFwd : Cert.MixerFwd.Facts) (hMixerFwdIdeal : Cert.MixerFwdIdeal.Facts) (hMixerFwdRefIdeal : Cert.MixerFwdRefIdeal.Facts) (hInprojFwd : Cert.InprojFwd.Facts) (hInprojFwdIdeal : Cert.InprojFwdIdeal.Facts) (hInprojFwdRefIdeal : Cert.InprojFwdRefIdeal.Facts) (hOutproj : Cert.Outproj.Facts) (hOutprojIdeal : Cert.OutprojIdeal.Facts) (hOutprojRefIdeal : Cert.OutprojRefIdeal.Facts) (hAdamw : Cert.Adamw.Facts) (hAdamwIdeal : Cert.AdamwIdeal.Facts) (hAdamwRefIdeal : Cert.AdamwRefIdeal.Facts) (hSumMeta : Cert.SumMeta.Facts) (hSumMetaIdeal : Cert.SumMetaIdeal.Facts) (hSumMetaRefIdeal : Cert.SumMetaRefIdeal.Facts) (hGradW : Cert.GradW.Facts) (hGradWIdeal : Cert.GradWIdeal.Facts) (hGradWRefIdeal : Cert.GradWRefIdeal.Facts) (hMlpFwd : Cert.MlpFwd.Facts) (hMlpFwdIdeal : Cert.MlpFwdIdeal.Facts) (hMlpFwdRefIdeal : Cert.MlpFwdRefIdeal.Facts) (hPre_finite_loss : Cert.Pre_finite_loss.Facts) (hPre_finite_attn : Cert.Pre_finite_attn.Facts) (hPre_finite_inproj : Cert.Pre_finite_inproj.Facts) (hPre_finite_mlp : Cert.Pre_finite_mlp.Facts) (hPre_finite_mixer : Cert.Pre_finite_mixer.Facts) (hPre_finite_attn_fwd : Cert.Pre_finite_attn_fwd.Facts) (hPre_finite_mixer_fwd : Cert.Pre_finite_mixer_fwd.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Inproj (hInproj := hInproj)
    ∧ quiescent_InprojIdeal (hInprojIdeal := hInprojIdeal)
    ∧ quiescent_InprojIdeal_pre_finite_inproj (hInprojIdeal := hInprojIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Mixer (hMixer := hMixer)
    ∧ quiescent_MixerIdeal (hMixerIdeal := hMixerIdeal)
    ∧ quiescent_MixerIdeal_pre_finite_mixer (hMixerIdeal := hMixerIdeal) (hPre_finite_mixer := hPre_finite_mixer)
    ∧ quiescent_MixerRefIdeal (hMixerRefIdeal := hMixerRefIdeal)
    ∧ quiescent_MixerRefIdeal_pre_finite_mixer (hMixerRefIdeal := hMixerRefIdeal) (hPre_finite_mixer := hPre_finite_mixer)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_MixerFwd (hMixerFwd := hMixerFwd)
    ∧ quiescent_MixerFwdIdeal (hMixerFwdIdeal := hMixerFwdIdeal)
    ∧ quiescent_MixerFwdIdeal_pre_finite_mixer_fwd (hMixerFwdIdeal := hMixerFwdIdeal) (hPre_finite_mixer_fwd := hPre_finite_mixer_fwd)
    ∧ quiescent_MixerFwdRefIdeal (hMixerFwdRefIdeal := hMixerFwdRefIdeal)
    ∧ quiescent_MixerFwdRefIdeal_pre_finite_mixer_fwd (hMixerFwdRefIdeal := hMixerFwdRefIdeal) (hPre_finite_mixer_fwd := hPre_finite_mixer_fwd)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumMeta (hSumMeta := hSumMeta)
    ∧ quiescent_SumMetaIdeal (hSumMetaIdeal := hSumMetaIdeal)
    ∧ quiescent_SumMetaRefIdeal (hSumMetaRefIdeal := hSumMetaRefIdeal)
    ∧ quiescent_GradW (hGradW := hGradW)
    ∧ quiescent_GradWIdeal (hGradWIdeal := hGradWIdeal)
    ∧ quiescent_GradWRefIdeal (hGradWRefIdeal := hGradWRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Inproj_InprojIdeal
    ∧ algebraic_InprojIdeal_InprojRefIdeal_pre_finite_inproj (hInprojIdeal := hInprojIdeal) (hInprojRefIdeal := hInprojRefIdeal) (hPre_finite_inproj := hPre_finite_inproj)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Mixer_MixerIdeal
    ∧ algebraic_MixerIdeal_MixerRefIdeal_pre_finite_mixer (hMixerIdeal := hMixerIdeal) (hMixerRefIdeal := hMixerRefIdeal) (hPre_finite_mixer := hPre_finite_mixer)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_MixerFwd_MixerFwdIdeal
    ∧ algebraic_MixerFwdIdeal_MixerFwdRefIdeal_pre_finite_mixer_fwd (hMixerFwdIdeal := hMixerFwdIdeal) (hMixerFwdRefIdeal := hMixerFwdRefIdeal) (hPre_finite_mixer_fwd := hPre_finite_mixer_fwd)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_Outproj_OutprojIdeal
    ∧ algebraic_OutprojIdeal_OutprojRefIdeal (hOutprojIdeal := hOutprojIdeal) (hOutprojRefIdeal := hOutprojRefIdeal)
    ∧ preserves_Adamw_AdamwIdeal
    ∧ algebraic_AdamwIdeal_AdamwRefIdeal (hAdamwIdeal := hAdamwIdeal) (hAdamwRefIdeal := hAdamwRefIdeal)
    ∧ preserves_SumMeta_SumMetaIdeal
    ∧ algebraic_SumMetaIdeal_SumMetaRefIdeal (hSumMetaIdeal := hSumMetaIdeal) (hSumMetaRefIdeal := hSumMetaRefIdeal)
    ∧ preserves_GradW_GradWIdeal
    ∧ algebraic_GradWIdeal_GradWRefIdeal (hGradWIdeal := hGradWIdeal) (hGradWRefIdeal := hGradWRefIdeal)
    ∧ preserves_MlpFwd_MlpFwdIdeal
    ∧ algebraic_MlpFwdIdeal_MlpFwdRefIdeal (hMlpFwdIdeal := hMlpFwdIdeal) (hMlpFwdRefIdeal := hMlpFwdRefIdeal)
-- ==== Pre_finite_attn.lean ====
abbrev S4x2064x512 : Shape := ⟨3, ![4, 2064, 512]⟩
abbrev S_ : Shape := ⟨0, ![]⟩

class Facts : Prop where
  bcast_S_S4x2064x512 : S_.BroadcastsInDim S4x2064x512 (![] : Fin 0 → Fin S4x2064x512.rank)
  reducesTo_S4x2064x512_S_d0_1_2 : S4x2064x512.ReducesTo [0, 1, 2] S_
  h_S_ : 0 < S_.numel

variable [Facts]

def fn_part1 {F : FTy → Type} [FloatOps F] (main_v13 : IVec S_ 1) (main_v16 : IVec S4x2064x512 1) : IVec S_ 1 :=
  let main_c_5 : IVec S_ 1 := constantI S_ 1 1#1
  let main_v17 : IVec S_ 1 := (fun x v => Host.reduce IntOp.andi x v reducesTo_S4x2064x512_S_d0_1_2 h_S_) main_v16 main_c_5
  let main_v18 : IVec S_ 1 := andi main_v13 main_v17
  main_v18

def fn {F : FTy → Type} [FloatOps F] (main_arg0 : FVec F S4x2064x512 .f32) (main_arg1 : FVec F S4x2064x512 .f32) (main_arg2 : FVec F S4x2064x512 .f32) (main_arg3 : FVec F S4x2064x512 .f32) : IVec S_ 1 :=
  let main_v0 : FVec F S4x2064x512 .f32 := Host.absf main_arg0
  let main_cst : FVec F S_ .f32 := constant S_ .f32 0x7F800000#32
  let main_v1 : FVec F S4x2064x512 .f32 := broadcastInDim S4x2064x512 ![] bcast_S_S4x2064x512 main_cst
  let main_v2 : IVec S4x2064x512 1 := cmpf .olt main_v0 main_v1
  let main_c : IVec S_ 1 := constantI S_ 1 1#1
  let main_v3 : IVec S_ 1 := (fun x v => Host.reduce IntOp.andi x v reducesTo_S4x2064x512_S_d0_1_2 h_S_) main_v2 main_c
  let main_v4 : FVec F S4x2064x512 .f32 := Host.absf main_arg1
  let main_cst_0 : FVec F S_ .f32 := constant S_ .f32 0x7F800000#32
  let main_v5 : FVec F S4x2064x512 .f32 := broadcastInDim S4x2064x512 ![] bcast_S_S4x2064x512 main_cst_0
  let main_v6 : IVec S4x2064x512 1 := cmpf .olt main_v4 main_v5
  let main_c_1 : IVec S_ 1 := constantI S_ 1 1#1
  let main_v7 : IVec S_ 1 := (fun x v => Host.reduce IntOp.andi x v reducesTo_S4x2064x512_S_d0_1_2 h_S_) main_v6 main_c_1
  let main_v8 : IVec S_ 1 := andi main_v3 main_v7
  let main_v9 : FVec F S4x2064x512 .f32 := Host.absf main_arg2
  let main_cst_2 : FVec F S_ .f32 := constant S_ .f32 0x7F800000#32
  let main_v10 : FVec F S4x2064x512 .f32 := broadcastInDim S4x2064x512 ![] bcast_S_S4x2064x512 main_cst_2
  let main_v11 : IVec S4x2064x512 1 := cmpf .olt main_v9 main_v10
  let main_c_3 : IVec S_ 1 := constantI S_ 1 1#1
  let main_v12 : IVec S_ 1 := (fun x v => Host.reduce IntOp.andi x v reducesTo_S4x2064x512_S_d0_1_2 h_S_) main_v11 main_c_3
  let main_v13 : IVec S_ 1 := andi main_v8 main_v12
  let main_v14 : FVec F S4x2064x512 .f32 := Host.absf main_arg3
  let main_cst_4 : FVec F S_ .f32 := constant S_ .f32 0x7F800000#32
  let main_v15 : FVec F S4x2064x512 .f32 := broadcastInDim S4x2064x512 ![] bcast_S_S4x2064x512 main_cst_4
  let main_v16 : IVec S4x2064x512 1 := cmpf .olt main_v14 main_v15
  fn_part1 (F := F) main_v13 main_v16
-- ==== Pre_finite_attn_fwd.lean ====
abbrev S4x2064x512 : Shape := ⟨3, ![4, 2064, 512]⟩
abbrev S_ : Shape := ⟨0, ![]⟩

class Facts : Prop where
  bcast_S_S4x2064x512 : S_.BroadcastsInDim S4x2064x512 (![] : Fin 0 → Fin S4x2064x512.rank)
  reducesTo_S4x2064x512_S_d0_1_2 : S4x2064x512.ReducesTo [0, 1, 2] S_
  h_S_ : 0 < S_.numel

variable [Facts]

def fn {F : FTy → Type} [FloatOps F] (main_arg0 : FVec F S4x2064x512 .f32) (main_arg1 : FVec F S4x2064x512 .f32) (main_arg2 : FVec F S4x2064x512 .f32) (main_arg3 : FVec F S4x2064x512 .f32) : IVec S_ 1 :=
  let main_v0 : FVec F S4x2064x512 .f32 := Host.absf main_arg0
  let main_cst : FVec F S_ .f32 := constant S_ .f32 0x7F800000#32
  let main_v1 : FVec F S4x2064x512 .f32 := broadcastInDim S4x2064x512 ![] bcast_S_S4x2064x512 main_cst
  let main_v2 : IVec S4x2064x512 1 := cmpf .olt main_v0 main_v1
  let main_c : IVec S_ 1 := constantI S_ 1 1#1
  let main_v3 : IVec S_ 1 := (fun x v => Host.reduce IntOp.andi x v reducesTo_S4x2064x512_S_d0_1_2 h_S_) main_v2 main_c
  let main_v4 : FVec F S4x2064x512 .f32 := Host.absf main_arg1
  let main_cst_0 : FVec F S_ .f32 := constant S_ .f32 0x7F800000#32
  let main_v5 : FVec F S4x2064x512 .f32 := broadcastInDim S4x2064x512 ![] bcast_S_S4x2064x512 main_cst_0
  let main_v6 : IVec S4x2064x512 1 := cmpf .olt main_v4 main_v5
  let main_c_1 : IVec S_ 1 := constantI S_ 1 1#1
  let main_v7 : IVec S_ 1 := (fun x v => Host.reduce IntOp.andi x v reducesTo_S4x2064x512_S_d0_1_2 h_S_) main_v6 main_c_1
  let main_v8 : IVec S_ 1 := andi main_v3 main_v7
  let main_v9 : FVec F S4x2064x512 .f32 := Host.absf main_arg2
  let main_cst_2 : FVec F S_ .f32 := constant S_ .f32 0x7F800000#32
  let main_v10 : FVec F S4x2064x512 .f32 := broadcastInDim S4x2064x512 ![] bcast_S_S4x2064x512 main_cst_2
  let main_v11 : IVec S4x2064x512 1 := cmpf .olt main_v9 main_v10
  let main_c_3 : IVec S_ 1 := constantI S_ 1 1#1
  let main_v12 : IVec S_ 1 := (fun x v => Host.reduce IntOp.andi x v reducesTo_S4x2064x512_S_d0_1_2 h_S_) main_v11 main_c_3
  let main_v13 : IVec S_ 1 := andi main_v8 main_v12
  main_v13
-- ==== Pre_finite_inproj.lean ====
abbrev S4x2064x1024 : Shape := ⟨3, ![4, 2064, 1024]⟩
abbrev S1024 : Shape := ⟨1, ![1024]⟩
abbrev S4x2064x2560 : Shape := ⟨3, ![4, 2064, 2560]⟩
abbrev S1024x2560 : Shape := ⟨2, ![1024, 2560]⟩
abbrev S_ : Shape := ⟨0, ![]⟩

class Facts : Prop where
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x2064x2560 : S_.BroadcastsInDim S4x2064x2560 (![] : Fin 0 → Fin S4x2064x2560.rank)
  reducesTo_S4x2064x2560_S_d0_1_2 : S4x2064x2560.ReducesTo [0, 1, 2] S_
  bcast_S_S1024x2560 : S_.BroadcastsInDim S1024x2560 (![] : Fin 0 → Fin S1024x2560.rank)
  reducesTo_S1024x2560_S_d0_1 : S1024x2560.ReducesTo [0, 1] S_

variable [Facts]

def fn_part1 {F : FTy → Type} [FloatOps F] (main_arg4 : FVec F S1024x2560 .f32) (main_v13 : IVec S_ 1) (main_v16 : IVec S4x2064x2560 1) : IVec S_ 1 :=
  let main_c_5 : IVec S_ 1 := constantI S_ 1 1#1
  let main_v17 : IVec S_ 1 := (fun x v => Host.reduce IntOp.andi x v reducesTo_S4x2064x2560_S_d0_1_2 h_S_) main_v16 main_c_5
  let main_v18 : IVec S_ 1 := andi main_v13 main_v17
  let main_v19 : FVec F S1024x2560 .f32 := Host.absf main_arg4
  let main_cst_6 : FVec F S_ .f32 := constant S_ .f32 0x7F800000#32
  let main_v20 : FVec F S1024x2560 .f32 := broadcastInDim S1024x2560 ![] bcast_S_S1024x2560 main_cst_6
  let main_v21 : IVec S1024x2560 1 := cmpf .olt main_v19 main_v20
  let main_c_7 : IVec S_ 1 := constantI S_ 1 1#1
  let main_v22 : IVec S_ 1 := (fun x v => Host.reduce IntOp.andi x v reducesTo_S1024x2560_S_d0_1 h_S_) main_v21 main_c_7
  let main_v23 : IVec S_ 1 := andi main_v18 main_v22
  main_v23

def fn {F : FTy → Type} [FloatOps F] (main_arg0 : FVec F S4x2064x1024 .f32) (main_arg1 : FVec F S4x2064x1024 .f32) (main_arg2 : FVec F S1024 .f32) (main_arg3 : FVec F S4x2064x2560 .f32) (main_arg4 : FVec F S1024x2560 .f32) : IVec S_ 1 :=
  let main_v0 : FVec F S4x2064x1024 .f32 := Host.absf main_arg0
  let main_cst : FVec F S_ .f32 := constant S_ .f32 0x7F800000#32
  let main_v1 : FVec F S4x2064x1024 .f32 := broadcastInDim S4x2064x1024 ![] bcast_S_S4x2064x1024 main_cst
  let main_v2 : IVec S4x2064x1024 1 := cmpf .olt main_v0 main_v1
  let main_c : IVec S_ 1 := constantI S_ 1 1#1
  let main_v3 : IVec S_ 1 := (fun x v => Host.reduce IntOp.andi x v reducesTo_S4x2064x1024_S_d0_1_2 h_S_) main_v2 main_c
  let main_v4 : FVec F S4x2064x1024 .f32 := Host.absf main_arg1
  let main_cst_0 : FVec F S_ .f32 := constant S_ .f32 0x7F800000#32
  let main_v5 : FVec F S4x2064x1024 .f32 := broadcastInDim S4x2064x1024 ![] bcast_S_S4x2064x1024 main_cst_0
  let main_v6 : IVec S4x2064x1024 1 := cmpf .olt main_v4 main_v5
  let main_c_1 : IVec S_ 1 := constantI S_ 1 1#1
  let main_v7 : IVec S_ 1 := (fun x v => Host.reduce IntOp.andi x v reducesTo_S4x2064x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x2064x2560 .f32 := Host.absf main_arg3
  let main_cst_4 : FVec F S_ .f32 := constant S_ .f32 0x7F800000#32
  let main_v15 : FVec F S4x2064x2560 .f32 := broadcastInDim S4x2064x2560 ![] bcast_S_S4x2064x2560 main_cst_4
  let main_v16 : IVec S4x2064x2560 1 := cmpf .olt main_v14 main_v15
  fn_part1 (F := F) main_arg4 main_v13 main_v16
-- ==== Pre_finite_loss.lean ====
abbrev S4x2064x1024 : Shape := ⟨3, ![4, 2064, 1024]⟩
abbrev S1024 : Shape := ⟨1, ![1024]⟩
abbrev S4x2048x1024 : Shape := ⟨3, ![4, 2048, 1024]⟩
abbrev S_ : Shape := ⟨0, ![]⟩

class Facts : Prop where
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn {F : FTy → Type} [FloatOps F] (main_arg0 : FVec F S4x2064x1024 .f32) (main_arg1 : FVec F S1024 .f32) (main_arg2 : FVec F S4x2048x1024 .f32) : IVec S_ 1 :=
  let main_v0 : FVec F S4x2064x1024 .f32 := Host.absf main_arg0
  let main_cst : FVec F S_ .f32 := constant S_ .f32 0x7F800000#32
  let main_v1 : FVec F S4x2064x1024 .f32 := broadcastInDim S4x2064x1024 ![] bcast_S_S4x2064x1024 main_cst
  let main_v2 : IVec S4x2064x1024 1 := cmpf .olt main_v0 main_v1
  let main_c : IVec S_ 1 := constantI S_ 1 1#1
  let main_v3 : IVec S_ 1 := (fun x v => Host.reduce IntOp.andi x v reducesTo_S4x2064x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Pre_finite_mixer.lean ====
abbrev S4x2064x1024 : Shape := ⟨3, ![4, 2064, 1024]⟩
abbrev S4x2064x512 : Shape := ⟨3, ![4, 2064, 512]⟩
abbrev S3x256 : Shape := ⟨2, ![3, 256]⟩
abbrev S4x64x64 : Shape := ⟨3, ![4, 64, 64]⟩
abbrev S256 : Shape := ⟨1, ![256]⟩
abbrev S_ : Shape := ⟨0, ![]⟩

class Facts : Prop where
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S4x2064x512 : S_.BroadcastsInDim S4x2064x512 (![] : Fin 0 → Fin S4x2064x512.rank)
  reducesTo_S4x2064x512_S_d0_1_2 : S4x2064x512.ReducesTo [0, 1, 2] S_
  bcast_S_S3x256 : S_.BroadcastsInDim S3x256 (![] : Fin 0 → Fin S3x256.rank)
  reducesTo_S3x256_S_d0_1 : S3x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x2064x1024 .f32) (main_arg1 : FVec F S4x2064x512 .f32) (main_arg2 : FVec F S3x256 .f32) (main_arg3 : FVec F S4x64x64 .f32) (main_arg4 : FVec F S256 .f32) : IVec S_ 1 :=
  let main_v0 : FVec F S4x2064x1024 .f32 := Host.absf main_arg0
  let main_cst : FVec F S_ .f32 := constant S_ .f32 0x7F800000#32
  let main_v1 : FVec F S4x2064x1024 .f32 := broadcastInDim S4x2064x1024 ![] bcast_S_S4x2064x1024 main_cst
  let main_v2 : IVec S4x2064x1024 1 := cmpf .olt main_v0 main_v1
  let main_c : IVec S_ 1 := constantI S_ 1 1#1
  let main_v3 : IVec S_ 1 := (fun x v => Host.reduce IntOp.andi x v reducesTo_S4x2064x1024_S_d0_1_2 h_S_) main_v2 main_c
  let main_v4 : FVec F S4x2064x512 .f32 := Host.absf main_arg1
  let main_cst_0 : FVec F S_ .f32 := constant S_ .f32 0x7F800000#32
  let main_v5 : FVec F S4x2064x512 .f32 := broadcastInDim S4x2064x512 ![] bcast_S_S4x2064x512 main_cst_0
  let main_v6 : IVec S4x2064x512 1 := cmpf .olt main_v4 main_v5
  let main_c_1 : IVec S_ 1 := constantI S_ 1 1#1
  let main_v7 : IVec S_ 1 := (fun x v => Host.reduce IntOp.andi x v reducesTo_S4x2064x512_S_d0_1_2 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_v13 main_v16
-- ==== Pre_finite_mixer_fwd.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩

class Facts : Prop where
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x2064x1024 .f32) (main_arg1 : FVec F S3x256 .f32) (main_arg2 : FVec F S4x64x64 .f32) (main_arg3 : FVec F S256 .f32) : IVec S_ 1 :=
  let main_v0 : FVec F S4x2064x1024 .f32 := Host.absf main_arg0
  let main_cst : FVec F S_ .f32 := constant S_ .f32 0x7F800000#32
  let main_v1 : FVec F S4x2064x1024 .f32 := broadcastInDim S4x2064x1024 ![] bcast_S_S4x2064x1024 main_cst
  let main_v2 : IVec S4x2064x1024 1 := cmpf .olt main_v0 main_v1
  let main_c : IVec S_ 1 := constantI S_ 1 1#1
  let main_v3 : IVec S_ 1 := (fun x v => Host.reduce IntOp.andi x v reducesTo_S4x2064x1024_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S4x64x64 .f32 := Host.absf main_arg2
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Pre_finite_mlp.lean ====
abbrev S4x2064x1024 : Shape := ⟨3, ![4, 2064, 1024]⟩
abbrev S1024 : Shape := ⟨1, ![1024]⟩
abbrev S2x1024x4096 : Shape := ⟨3, ![2, 1024, 4096]⟩
abbrev S2x4096x1024 : Shape := ⟨3, ![2, 4096, 1024]⟩
abbrev S_ : Shape := ⟨0, ![]⟩

class Facts : Prop where
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part1 {F : FTy → Type} [FloatOps F] (main_arg4 : FVec F S4x2064x1024 .f32) (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  let main_v19 : FVec F S4x2064x1024 .f32 := Host.absf main_arg4
  let main_cst_6 : FVec F S_ .f32 := constant S_ .f32 0x7F800000#32
  let main_v20 : FVec F S4x2064x1024 .f32 := broadcastInDim S4x2064x1024 ![] bcast_S_S4x2064x1024 main_cst_6
  let main_v21 : IVec S4x2064x1024 1 := cmpf .olt main_v19 main_v20
  let main_c_7 : IVec S_ 1 := constantI S_ 1 1#1
  let main_v22 : IVec S_ 1 := (fun x v => Host.reduce IntOp.andi x v reducesTo_S4x2064x1024_S_d0_1_2 h_S_) main_v21 main_c_7
  let main_v23 : IVec S_ 1 := andi main_v18 main_v22
  main_v23

def fn {F : FTy → Type} [FloatOps F] (main_arg0 : FVec F S4x2064x1024 .f32) (main_arg1 : FVec F S1024 .f32) (main_arg2 : FVec F S2x1024x4096 .f32) (main_arg3 : FVec F S2x4096x1024 .f32) (main_arg4 : FVec F S4x2064x1024 .f32) : IVec S_ 1 :=
  let main_v0 : FVec F S4x2064x1024 .f32 := Host.absf main_arg0
  let main_cst : FVec F S_ .f32 := constant S_ .f32 0x7F800000#32
  let main_v1 : FVec F S4x2064x1024 .f32 := broadcastInDim S4x2064x1024 ![] bcast_S_S4x2064x1024 main_cst
  let main_v2 : IVec S4x2064x1024 1 := cmpf .olt main_v0 main_v1
  let main_c : IVec S_ 1 := constantI S_ 1 1#1
  let main_v3 : IVec S_ 1 := (fun x v => Host.reduce IntOp.andi x v reducesTo_S4x2064x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x4096 .f32 := Host.absf main_arg2
  let main_cst_2 : FVec F S_ .f32 := constant S_ .f32 0x7F800000#32
  let main_v10 : FVec F S2x1024x4096 .f32 := broadcastInDim S2x1024x4096 ![] bcast_S_S2x1024x4096 main_cst_2
  let main_v11 : IVec S2x1024x4096 1 := cmpf .olt main_v9 main_v10
  let main_c_3 : IVec S_ 1 := constantI S_ 1 1#1
  let main_v12 : IVec S_ 1 := (fun x v => Host.reduce IntOp.andi x v reducesTo_S2x1024x4096_S_d0_1_2 h_S_) main_v11 main_c_3
  let main_v13 : IVec S_ 1 := andi main_v8 main_v12
  let main_v14 : FVec F S2x4096x1024 .f32 := Host.absf main_arg3
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_arg4 main_v13 main_v16
-- ==== Loss.lean ====
abbrev S4x2064x1024 : Shape := ⟨3, ![4, 2064, 1024]⟩
abbrev S1024 : Shape := ⟨1, ![1024]⟩
abbrev S4x2048x1024 : Shape := ⟨3, ![4, 2048, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S8192x1024 : Shape := ⟨2, ![8192, 1024]⟩
abbrev S1x128 : Shape := ⟨2, ![1, 128]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S4x2048x1024, .f32⟩
  | .hbm, ⟨3, _⟩ => ⟨S_, .f32⟩
  | .hbm, ⟨4, _⟩ => ⟨S4x112x1024, .f32⟩
  | .hbm, ⟨5, _⟩ => ⟨S4x2176x1024, .f32⟩
  | .hbm, ⟨6, _⟩ => ⟨S8704x1024, .f32⟩
  | .hbm, ⟨7, _⟩ => ⟨S1x1024, .f32⟩
  | .hbm, ⟨8, _⟩ => ⟨S8192x1024, .f32⟩
  | .hbm, ⟨9, _⟩ => ⟨S1x128, .f32⟩
  | .hbm, ⟨10, _⟩ => ⟨S8704x1024, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S1x128, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== LossRefIdeal.lean ====
abbrev S4x2064x1024 : Shape := ⟨3, ![4, 2064, 1024]⟩
abbrev S1024 : Shape := ⟨1, ![1024]⟩
abbrev S4x2048x1024 : Shape := ⟨3, ![4, 2048, 1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S4x2048 : Shape := ⟨2, ![4, 2048]⟩
abbrev S1x128 : Shape := ⟨2, ![1, 128]⟩
abbrev S4x2176x1024 : Shape := ⟨3, ![4, 2176, 1024]⟩
abbrev S8704x1024 : Shape := ⟨2, ![8704, 1024]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S4x2048x1024, .f32⟩
  | .hbm, ⟨3, _⟩ => ⟨S4x2064x1024, .f32⟩
  | .hbm, ⟨4, _⟩ => ⟨S_, .f32⟩
  | .hbm, ⟨5, _⟩ => ⟨S4x2064, .f32⟩
  | .hbm, ⟨6, _⟩ => ⟨S4x2064x1, .f32⟩
  | .hbm, ⟨7, _⟩ => ⟨S_, .f32⟩
  | .hbm, ⟨8, _⟩ => ⟨S4x2064x1, .f32⟩
  | .hbm, ⟨9, _⟩ => ⟨S4x2064x1, .f32⟩
  | .hbm, ⟨10, _⟩ => ⟨S_, .f32⟩
  | .hbm, ⟨11, _⟩ => ⟨S4x2064x1, .f32⟩
  | .hbm, ⟨12, _⟩ => ⟨S4x2064x1, .f32⟩
  | .hbm, ⟨13, _⟩ => ⟨S4x2064x1, .f32⟩
  | .hbm, ⟨14, _⟩ => ⟨S4x2064x1, .f32⟩
  | .hbm, ⟨15, _⟩ => ⟨S_, .f32⟩
  | .hbm, ⟨16, _⟩ => ⟨S4x2064x1, .f32⟩
  | .hbm, ⟨17, _⟩ => ⟨S4x2064x1, .f32⟩
  | .hbm, ⟨18, _⟩ => ⟨S4x2064x1024, .f32⟩
  | .hbm, ⟨19, _⟩ => ⟨S4x2064x1024, .f32⟩
  | .hbm, ⟨20, _⟩ => ⟨S1x1x1024, .f32⟩
  | .hbm, ⟨21, _⟩ => ⟨S4x2064x1024, .f32⟩
  | .hbm, ⟨22, _⟩ => ⟨S4x2064x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x2048, .f32⟩
  | .hbm, ⟨42, _⟩ => ⟨S_, .f32⟩
  | .hbm, ⟨43, _⟩ => ⟨S4x2048, .f32⟩
  | .hbm, ⟨44, _⟩ => ⟨S4x2048, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2064x1024, .f32⟩
  | .hbm, ⟨49, _⟩ => ⟨S4x2064x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2064x1024, .f32⟩
  | .hbm, ⟨54, _⟩ => ⟨S4x2064x1024, .f32⟩
  | .hbm, ⟨55, _⟩ => ⟨S_, .f32⟩
  | .hbm, ⟨56, _⟩ => ⟨S1024, .f32⟩
  | .hbm, ⟨57, _⟩ => ⟨S4x2064x1024, .f32⟩
  | .hbm, ⟨58, _⟩ => ⟨S_, .f32⟩
  | .hbm, ⟨59, _⟩ => ⟨S4x2064, .f32⟩
  | .hbm, ⟨60, _⟩ => ⟨S4x2064x1, .f32⟩
  | .hbm, ⟨61, _⟩ => ⟨S4x2064x1024, .f32⟩
  | .hbm, ⟨62, _⟩ => ⟨S4x2064x1024, .f32⟩
  | .hbm, ⟨63, _⟩ => ⟨S4x2064x1, .f32⟩
  | .hbm, ⟨64, _⟩ => ⟨S_, .f32⟩
  | .hbm, ⟨65, _⟩ => ⟨S4x2064x1, .f32⟩
  | .hbm, ⟨66, _⟩ => ⟨S4x2064x1, .f32⟩
  | .hbm, ⟨67, _⟩ => ⟨S_, .f32⟩
  | .hbm, ⟨68, _⟩ => ⟨S4x2064, .f32⟩
  | .hbm, ⟨69, _⟩ => ⟨S4x2064x1024, .f32⟩
  | .hbm, ⟨70, _⟩ => ⟨S4x2064x1024, .f32⟩
  | .hbm, ⟨71, _⟩ => ⟨S4x2064x1024, .f32⟩
  | .hbm, ⟨72, _⟩ => ⟨S4x2064x1024, .f32⟩
  | .hbm, ⟨73, _⟩ => ⟨S4x2064x1024, .f32⟩
  | .hbm, ⟨74, _⟩ => ⟨S1x128, .f32⟩
  | .hbm, ⟨75, _⟩ => ⟨S_, .i32⟩
  | .hbm, ⟨76, _⟩ => ⟨S_, .f32⟩
  | .hbm, ⟨77, _⟩ => ⟨S4x2176x1024, .f32⟩
  | .hbm, ⟨78, _⟩ => ⟨S8704x1024, .f32⟩
  | .hbm, ⟨79, _⟩ => ⟨S1x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Attn.lean ====
abbrev S4x2064x512 : Shape := ⟨3, ![4, 2064, 512]⟩
abbrev S_ : Shape := ⟨0, ![]⟩
abbrev S4x112x512 : Shape := ⟨3, ![4, 112, 512]⟩
abbrev S4x2176x512 : Shape := ⟨3, ![4, 2176, 512]⟩
abbrev S8704x512 : Shape := ⟨2, ![8704, 512]⟩
abbrev S8704x1536 : Shape := ⟨2, ![8704, 1536]⟩
abbrev S2176x512 : Shape := ⟨2, ![2176, 512]⟩
abbrev S2176x1536 : Shape := ⟨2, ![2176, 1536]⟩
abbrev S4x9x256x256 : Shape := ⟨4, ![4, 9, 256, 256]⟩
abbrev S256x256 : Shape := ⟨2, ![256, 256]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S1x1x256x256 : Shape := ⟨4, ![1, 1, 256, 256]⟩
abbrev S256 : Shape := ⟨1, ![256]⟩
abbrev S4x2176x1536 : Shape := ⟨3, ![4, 2176, 1536]⟩
abbrev S4x2064x1536 : Shape := ⟨3, ![4, 2064, 1536]⟩

abbrev nBuf : Space → Nat
  | .hbm => 28
  | .vmem => 9
  | .smem => 0
  | _ => 0

abbrev bufTy : (tb : Table) → Fin (tcTables nBuf tb) → BufTy
  | .hbm, ⟨0, _⟩ => ⟨S4x2064x512, .f32⟩
  | .hbm, ⟨1, _⟩ => ⟨S4x2064x512, .f32⟩
  | .hbm, ⟨2, _⟩ => ⟨S4x2064x512, .f32⟩
  | .hbm, ⟨3, _⟩ => ⟨S4x2064x512, .f32⟩
  | .hbm, ⟨4, _⟩ => ⟨S_, .f32⟩
  | .hbm, ⟨5, _⟩ => ⟨S4x112x512, .f32⟩
  | .hbm, ⟨6, _⟩ => ⟨S4x2176x512, .f32⟩
  | .hbm, ⟨7, _⟩ => ⟨S8704x512, .f32⟩
  | .hbm, ⟨8, _⟩ => ⟨S8704x512, .bf16⟩
  | .hbm, ⟨9, _⟩ => ⟨S_, .f32⟩
  | .hbm, ⟨10, _⟩ => ⟨S4x112x512, .f32⟩
  | .hbm, ⟨11, _⟩ => ⟨S4x2176x512, .f32⟩
  | .hbm, ⟨12, _⟩ => ⟨S8704x512, .f32⟩
  | .hbm, ⟨13, _⟩ => ⟨S8704x512, .bf16⟩
  | .hbm, ⟨14, _⟩ => ⟨S_, .f32⟩
  | .hbm, ⟨15, _⟩ => ⟨S4x112x512, .f32⟩
  | .hbm, ⟨16, _⟩ => ⟨S4x2176x512, .f32⟩
  | .hbm, ⟨17, _⟩ => ⟨S8704x512, .f32⟩
  | .hbm, ⟨18, _⟩ => ⟨S8704x512, .bf16⟩
  | .hbm, ⟨19, _⟩ => ⟨S_, .f32⟩
  | .hbm, ⟨20, _⟩ => ⟨S4x112x512, .f32⟩
  | .hbm, ⟨21, _⟩ => ⟨S4x2176x512, .f32⟩
  | .hbm, ⟨22, _⟩ => ⟨S8704x512, .f32⟩
  | .hbm, ⟨23, _⟩ => ⟨S8704x512, .bf16⟩
  | .hbm, ⟨24, _⟩ => ⟨S8704x1536, .bf16⟩
  | .hbm, ⟨25, _⟩ => ⟨S8704x1536, .f32⟩
  | .hbm, ⟨26, _⟩ => ⟨S4x2176x1536, .f32⟩
  | .hbm, ⟨27, _⟩ => ⟨S4x2064x1536, .f32⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S2176x512, .bf16⟩
  | .local _ .vmem, ⟨4, _⟩ => ⟨S2176x1536, .bf16⟩
  | .local _ .vmem, ⟨5, _⟩ => ⟨S2176x512, .f32⟩
  | .local _ .vmem, ⟨6, _⟩ => ⟨S2176x512, .f32⟩
  | .local _ .vmem, ⟨7, _⟩ => ⟨S4x9x256x256, .f32⟩
  | .local _ .vmem, ⟨8, _⟩ => ⟨S4x9x256x256, .f32⟩
  | _, _ => ⟨S4x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32 : BitVec 32 := 0#32
  let c17_i32 : BitVec 32 := 17#32
  let v30 : BitVec 32 := Scalar.addi c0_i32 c17_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v37 : BitVec 32 := Scalar.muli arg11 c128_i32
  v37
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v37 : BitVec 32 := Scalar.muli arg11 c128_i32
  let v38 : BitVec 32 := v37
  let v39 : Index := Scalar.indexCast v38
  let c0_16 : Index := 0#32
  ![v39.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_19 : BitVec 32 := 128#32
  let v52 : BitVec 32 := Scalar.muli arg11 c128_i32_19
  v52
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_19 : BitVec 32 := 128#32
  let v52 : BitVec 32 := Scalar.muli arg11 c128_i32_19
  let v53 : BitVec 32 := v52
  let v54 : Index := Scalar.indexCast v53
  let c128 : Index := 128#32
  ![v54.toNat, 128]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_22 : BitVec 32 := 128#32
  let v67 : BitVec 32 := Scalar.muli arg11 c128_i32_22
  v67
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_22 : BitVec 32 := 128#32
  let v67 : BitVec 32 := Scalar.muli arg11 c128_i32_22
  let v68 : BitVec 32 := v67
  let v69 : Index := Scalar.indexCast v68
  let c256 : Index := 256#32
  ![v69.toNat, 256]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_25 : BitVec 32 := 128#32
  let v82 : BitVec 32 := Scalar.muli arg11 c128_i32_25
  v82
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_25 : BitVec 32 := 128#32
  let v82 : BitVec 32 := Scalar.muli arg11 c128_i32_25
  let v83 : BitVec 32 := v82
  let v84 : Index := Scalar.indexCast v83
  let c384 : Index := 384#32
  ![v84.toNat, 384]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_28 : BitVec 32 := 128#32
  let v97 : BitVec 32 := Scalar.muli arg11 c128_i32_28
  v97
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_31 : BitVec 32 := 128#32
  let v110 : BitVec 32 := Scalar.muli arg11 c128_i32_31
  v110
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_34 : BitVec 32 := 128#32
  let v123 : BitVec 32 := Scalar.muli arg11 c128_i32_34
  v123
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_37 : BitVec 32 := 128#32
  let v136 : BitVec 32 := Scalar.muli arg11 c128_i32_37
  v136
@[reducible] def k0_t2_loop (k0_t1 : Fin k0_t1_loop.trips) : Scf.Loop 32 :=
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_53 : BitVec 32 := 1#32
  ⟨c0_i32_51, v175, c1_i32_53⟩
def k0_mult9 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c1_i32_53 : BitVec 32 := 1#32
  let arg12 : BitVec 32 := Scf.iv c0_i32_51 c1_i32_53 k0_t2
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  v246
def k0_off5 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c1_i32_53 : BitVec 32 := 1#32
  let arg12 : BitVec 32 := Scf.iv c0_i32_51 c1_i32_53 k0_t2
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v260 : Index := Scalar.indexCast v259
  let c0_88 : Index := 0#32
  ![v260.toNat, 0]
def k0_off6 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c1_i32_53 : BitVec 32 := 1#32
  let arg12 : BitVec 32 := Scf.iv c0_i32_51 c1_i32_53 k0_t2
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v264 : Index := Scalar.indexCast v259
  let c128_90 : Index := 128#32
  ![v264.toNat, 128]
def k0_off7 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c1_i32_53 : BitVec 32 := 1#32
  let arg12 : BitVec 32 := Scf.iv c0_i32_51 c1_i32_53 k0_t2
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v268 : Index := Scalar.indexCast v259
  let c256_92 : Index := 256#32
  ![v268.toNat, 256]
def k0_off8 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c1_i32_53 : BitVec 32 := 1#32
  let arg12 : BitVec 32 := Scf.iv c0_i32_51 c1_i32_53 k0_t2
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v272 : Index := Scalar.indexCast v259
  let c384_94 : Index := 384#32
  ![v272.toNat, 384]
def k0_off9 (k0_t1 : Fin k0_t1_loop.trips) (k0_t2 : Fin (k0_t2_loop k0_t1).trips) : Fin 4 → Nat :=
  let c0_108 : Index := 0#32
  let c0_i32_51 : BitVec 32 := 0#32
  let c1_i32_53 : BitVec 32 := 1#32
  let arg12 : BitVec 32 := Scf.iv c0_i32_51 c1_i32_53 k0_t2
  let v306 : Index := Scalar.indexCast arg12
  let c0_109 : Index := 0#32
  let c0_110 : Index := 0#32
  ![0, v306.toNat, 0, 0]
def k0_off10 (k0_t1 : Fin k0_t1_loop.trips) (k0_t2 : Fin (k0_t2_loop k0_t1).trips) : Fin 4 → Nat :=
  let c1 : Index := 1#32
  let c0_i32_51 : BitVec 32 := 0#32
  let c1_i32_53 : BitVec 32 := 1#32
  let arg12 : BitVec 32 := Scf.iv c0_i32_51 c1_i32_53 k0_t2
  let v326 : Index := Scalar.indexCast arg12
  let c0_116 : Index := 0#32
  let c0_117 : Index := 0#32
  ![1, v326.toNat, 0, 0]
def k0_off11 (k0_t1 : Fin k0_t1_loop.trips) (k0_t2 : Fin (k0_t2_loop k0_t1).trips) : Fin 4 → Nat :=
  let c2 : Index := 2#32
  let c0_i32_51 : BitVec 32 := 0#32
  let c1_i32_53 : BitVec 32 := 1#32
  let arg12 : BitVec 32 := Scf.iv c0_i32_51 c1_i32_53 k0_t2
  let v346 : Index := Scalar.indexCast arg12
  let c0_123 : Index := 0#32
  let c0_124 : Index := 0#32
  ![2, v346.toNat, 0, 0]
def k0_off12 (k0_t1 : Fin k0_t1_loop.trips) (k0_t2 : Fin (k0_t2_loop k0_t1).trips) : Fin 4 → Nat :=
  let c3 : Index := 3#32
  let c0_i32_51 : BitVec 32 := 0#32
  let c1_i32_53 : BitVec 32 := 1#32
  let arg12 : BitVec 32 := Scf.iv c0_i32_51 c1_i32_53 k0_t2
  let v366 : Index := Scalar.indexCast arg12
  let c0_130 : Index := 0#32
  let c0_131 : Index := 0#32
  ![3, v366.toNat, 0, 0]
@[reducible] def k0_t3_loop (k0_t1 : Fin k0_t1_loop.trips) : Scf.Loop 32 :=
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let v172 : BitVec 32 := Scalar.addi c0_i32_51 v171
  let c1_i32_54 : BitVec 32 := 1#32
  ⟨v175, v172, c1_i32_54⟩
def k0_mult10 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  v246
def k0_off13 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v260 : Index := Scalar.indexCast v259
  let c0_88 : Index := 0#32
  ![v260.toNat, 0]
def k0_off14 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v264 : Index := Scalar.indexCast v259
  let c128_90 : Index := 128#32
  ![v264.toNat, 128]
def k0_off15 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v268 : Index := Scalar.indexCast v259
  let c256_92 : Index := 256#32
  ![v268.toNat, 256]
def k0_off16 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_79 : BitVec 32 := 1#32
  let v241 : BitVec 32 := Scalar.addi arg11 c1_i32_79
  let c2_i32_81 : BitVec 32 := 2#32
  let c0_i32_51 : BitVec 32 := 0#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let c1_i32_80 : BitVec 32 := 1#32
  let v242 : BitVec 32 := Scalar.addi arg12 c1_i32_80
  let v243 : BitVec 32 := Scalar.muli c2_i32_81 v242
  let v244 : BitVec 32 := Scalar.subi v241 v243
  let c0_i32_82 : BitVec 32 := 0#32
  let v245 : BitVec 32 := Scalar.maxsi v244 c0_i32_82
  let c128_i32_83 : BitVec 32 := 128#32
  let v246 : BitVec 32 := Scalar.muli v245 c128_i32_83
  let v259 : BitVec 32 := v246
  let v272 : Index := Scalar.indexCast v259
  let c384_94 : Index := 384#32
  ![v272.toNat, 384]
def k0_off17 (k0_t1 : Fin k0_t1_loop.trips) (k0_t3 : Fin (k0_t3_loop k0_t1).trips) : Fin 4 → Nat :=
  let c0_108 : Index := 0#32
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let v306 : Index := Scalar.indexCast arg12
  let c0_109 : Index := 0#32
  let c0_110 : Index := 0#32
  ![0, v306.toNat, 0, 0]
def k0_off18 (k0_t1 : Fin k0_t1_loop.trips) (k0_t3 : Fin (k0_t3_loop k0_t1).trips) : Fin 4 → Nat :=
  let c1 : Index := 1#32
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let v326 : Index := Scalar.indexCast arg12
  let c0_116 : Index := 0#32
  let c0_117 : Index := 0#32
  ![1, v326.toNat, 0, 0]
def k0_off19 (k0_t1 : Fin k0_t1_loop.trips) (k0_t3 : Fin (k0_t3_loop k0_t1).trips) : Fin 4 → Nat :=
  let c2 : Index := 2#32
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let v346 : Index := Scalar.indexCast arg12
  let c0_123 : Index := 0#32
  let c0_124 : Index := 0#32
  ![2, v346.toNat, 0, 0]
def k0_off20 (k0_t1 : Fin k0_t1_loop.trips) (k0_t3 : Fin (k0_t3_loop k0_t1).trips) : Fin 4 → Nat :=
  let c3 : Index := 3#32
  let c0_i32_51 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v171 : BitVec 32 := Scalar.subi v166 c0_i32_51
  let c1_i32_52 : BitVec 32 := 1#32
  let v173 : BitVec 32 := Scalar.divsi v171 c1_i32_52
  let v174 : BitVec 32 := Scalar.muli v173 c1_i32_52
  let v175 : BitVec 32 := Scalar.addi c0_i32_51 v174
  let c1_i32_54 : BitVec 32 := 1#32
  let arg12 : BitVec 32 := Scf.iv v175 c1_i32_54 k0_t3
  let v366 : Index := Scalar.indexCast arg12
  let c0_130 : Index := 0#32
  let c0_131 : Index := 0#32
  ![3, v366.toNat, 0, 0]
@[reducible] def k0_t4_loop (k0_t1 : Fin k0_t1_loop.trips) : Scf.Loop 32 :=
  let c0_i32_63 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_65 : BitVec 32 := 1#32
  ⟨c0_i32_63, v190, c1_i32_65⟩
def k0_mult11 (k0_t1 : Fin k0_t1_loop.trips) (k0_t4 : Fin (k0_t4_loop k0_t1).trips) : BitVec 32 :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  v248
def k0_off21 (k0_t1 : Fin k0_t1_loop.trips) (k0_t4 : Fin (k0_t4_loop k0_t1).trips) : Fin 4 → Nat :=
  let c0_89 : Index := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let v262 : Index := Scalar.indexCast v242
  let c0_90 : Index := 0#32
  let c0_91 : Index := 0#32
  ![0, v262.toNat, 0, 0]
def k0_off22 (k0_t1 : Fin k0_t1_loop.trips) (k0_t4 : Fin (k0_t4_loop k0_t1).trips) : Fin 4 → Nat :=
  let c1 : Index := 1#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let v265 : Index := Scalar.indexCast v242
  let c0_92 : Index := 0#32
  let c0_93 : Index := 0#32
  ![1, v265.toNat, 0, 0]
def k0_off23 (k0_t1 : Fin k0_t1_loop.trips) (k0_t4 : Fin (k0_t4_loop k0_t1).trips) : Fin 4 → Nat :=
  let c2 : Index := 2#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let v268 : Index := Scalar.indexCast v242
  let c0_94 : Index := 0#32
  let c0_95 : Index := 0#32
  ![2, v268.toNat, 0, 0]
def k0_off24 (k0_t1 : Fin k0_t1_loop.trips) (k0_t4 : Fin (k0_t4_loop k0_t1).trips) : Fin 4 → Nat :=
  let c3 : Index := 3#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let v271 : Index := Scalar.indexCast v242
  let c0_96 : Index := 0#32
  let c0_97 : Index := 0#32
  ![3, v271.toNat, 0, 0]
def k0_off25 (k0_t1 : Fin k0_t1_loop.trips) (k0_t4 : Fin (k0_t4_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v315 : Index := Scalar.indexCast v261
  let c0_111 : Index := 0#32
  ![v315.toNat, 0]
def k0_off26 (k0_t1 : Fin k0_t1_loop.trips) (k0_t4 : Fin (k0_t4_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v344 : Index := Scalar.indexCast v261
  let c128_122 : Index := 128#32
  ![v344.toNat, 128]
def k0_off27 (k0_t1 : Fin k0_t1_loop.trips) (k0_t4 : Fin (k0_t4_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v373 : Index := Scalar.indexCast v261
  let c256_133 : Index := 256#32
  ![v373.toNat, 256]
def k0_off28 (k0_t1 : Fin k0_t1_loop.trips) (k0_t4 : Fin (k0_t4_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let c1_i32_65 : BitVec 32 := 1#32
  let arg12 : BitVec 32 := Scf.iv c0_i32_63 c1_i32_65 k0_t4
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v402 : Index := Scalar.indexCast v261
  let c384_144 : Index := 384#32
  ![v402.toNat, 384]
@[reducible] def k0_t5_loop (k0_t1 : Fin k0_t1_loop.trips) : Scf.Loop 32 :=
  let c0_i32_63 : BitVec 32 := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let v187 : BitVec 32 := Scalar.addi c0_i32_63 v186
  let c1_i32_66 : BitVec 32 := 1#32
  ⟨v190, v187, c1_i32_66⟩
def k0_mult12 (k0_t1 : Fin k0_t1_loop.trips) (k0_t5 : Fin (k0_t5_loop k0_t1).trips) : BitVec 32 :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  v248
def k0_off29 (k0_t1 : Fin k0_t1_loop.trips) (k0_t5 : Fin (k0_t5_loop k0_t1).trips) : Fin 4 → Nat :=
  let c0_89 : Index := 0#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let v262 : Index := Scalar.indexCast v242
  let c0_90 : Index := 0#32
  let c0_91 : Index := 0#32
  ![0, v262.toNat, 0, 0]
def k0_off30 (k0_t1 : Fin k0_t1_loop.trips) (k0_t5 : Fin (k0_t5_loop k0_t1).trips) : Fin 4 → Nat :=
  let c1 : Index := 1#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let v265 : Index := Scalar.indexCast v242
  let c0_92 : Index := 0#32
  let c0_93 : Index := 0#32
  ![1, v265.toNat, 0, 0]
def k0_off31 (k0_t1 : Fin k0_t1_loop.trips) (k0_t5 : Fin (k0_t5_loop k0_t1).trips) : Fin 4 → Nat :=
  let c2 : Index := 2#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let v268 : Index := Scalar.indexCast v242
  let c0_94 : Index := 0#32
  let c0_95 : Index := 0#32
  ![2, v268.toNat, 0, 0]
def k0_off32 (k0_t1 : Fin k0_t1_loop.trips) (k0_t5 : Fin (k0_t5_loop k0_t1).trips) : Fin 4 → Nat :=
  let c3 : Index := 3#32
  let c0_i32 : BitVec 32 := 0#32
  let c1_i32 : BitVec 32 := 1#32
  let arg11 : BitVec 32 := Scf.iv c0_i32 c1_i32 k0_t1
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let v271 : Index := Scalar.indexCast v242
  let c0_96 : Index := 0#32
  let c0_97 : Index := 0#32
  ![3, v271.toNat, 0, 0]
def k0_off33 (k0_t1 : Fin k0_t1_loop.trips) (k0_t5 : Fin (k0_t5_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v315 : Index := Scalar.indexCast v261
  let c0_111 : Index := 0#32
  ![v315.toNat, 0]
def k0_off34 (k0_t1 : Fin k0_t1_loop.trips) (k0_t5 : Fin (k0_t5_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v344 : Index := Scalar.indexCast v261
  let c128_122 : Index := 128#32
  ![v344.toNat, 128]
def k0_off35 (k0_t1 : Fin k0_t1_loop.trips) (k0_t5 : Fin (k0_t5_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v373 : Index := Scalar.indexCast v261
  let c256_133 : Index := 256#32
  ![v373.toNat, 256]
def k0_off36 (k0_t1 : Fin k0_t1_loop.trips) (k0_t5 : Fin (k0_t5_loop k0_t1).trips) : Fin 2 → Nat :=
  let c0_i32 : BitVec 32 := 0#32
  let c1_i32 : BitVec 32 := 1#32
  let arg11 : BitVec 32 := Scf.iv c0_i32 c1_i32 k0_t1
  let c1_i32_80 : BitVec 32 := 1#32
  let v243 : BitVec 32 := Scalar.addi arg11 c1_i32_80
  let c2_i32_82 : BitVec 32 := 2#32
  let c2_i32 : BitVec 32 := 2#32
  let v149 : BitVec 32 := Scalar.addi arg11 c2_i32
  let c0_i32_41 : BitVec 32 := 0#32
  let v151 : BitVec 1 := Scalar.cmpi .sgt v149 c0_i32_41
  let v152 : BitVec 32 := Scalar.extui v151
  let c0_i32_42 : BitVec 32 := 0#32
  let v153 : BitVec 1 := Scalar.cmpi .slt v149 c0_i32_42
  let v154 : BitVec 32 := Scalar.extui v153
  let v155 : BitVec 32 := Scalar.subi v152 v154
  let c2_i32_40 : BitVec 32 := 2#32
  let c0_i32_43 : BitVec 32 := 0#32
  let v156 : BitVec 1 := Scalar.cmpi .sgt c2_i32_40 c0_i32_43
  let v157 : BitVec 32 := Scalar.extui v156
  let c0_i32_44 : BitVec 32 := 0#32
  let v158 : BitVec 1 := Scalar.cmpi .slt c2_i32_40 c0_i32_44
  let v159 : BitVec 32 := Scalar.extui v158
  let v160 : BitVec 32 := Scalar.subi v157 v159
  let v161 : BitVec 1 := Scalar.cmpi .ne v155 v160
  let v162 : BitVec 32 := Scalar.remsi v149 c2_i32_40
  let c0_i32_45 : BitVec 32 := 0#32
  let v163 : BitVec 1 := Scalar.cmpi .ne v162 c0_i32_45
  let v164 : BitVec 1 := Scalar.andi v161 v163
  let v150 : BitVec 32 := Scalar.divsi v149 c2_i32_40
  let c1_i32_46 : BitVec 32 := 1#32
  let v165 : BitVec 32 := Scalar.subi v150 c1_i32_46
  let v166 : BitVec 32 := Scalar.select v164 v165 v150
  let c1_i32_79 : BitVec 32 := 1#32
  let v241 : BitVec 32 := Scalar.subi v166 c1_i32_79
  let c0_i32_63 : BitVec 32 := 0#32
  let v186 : BitVec 32 := Scalar.subi v166 c0_i32_63
  let c1_i32_64 : BitVec 32 := 1#32
  let v188 : BitVec 32 := Scalar.divsi v186 c1_i32_64
  let v189 : BitVec 32 := Scalar.muli v188 c1_i32_64
  let v190 : BitVec 32 := Scalar.addi c0_i32_63 v189
  let c1_i32_66 : BitVec 32 := 1#32
  let arg12 : BitVec 32 := Scf.iv v190 c1_i32_66 k0_t5
  let v242 : BitVec 32 := Scalar.subi v241 arg12
  let c1_i32_81 : BitVec 32 := 1#32
  let v244 : BitVec 32 := Scalar.addi v242 c1_i32_81
  let v245 : BitVec 32 := Scalar.muli c2_i32_82 v244
  let v246 : BitVec 32 := Scalar.subi v243 v245
  let c0_i32_83 : BitVec 32 := 0#32
  let v247 : BitVec 32 := Scalar.maxsi v246 c0_i32_83
  let c128_i32_84 : BitVec 32 := 128#32
  let v248 : BitVec 32 := Scalar.muli v247 c128_i32_84
  let v261 : BitVec 32 := v248
  let v402 : Index := Scalar.indexCast v261
  let c384_144 : Index := 384#32
  ![v402.toNat, 384]
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_68 : BitVec 32 := 128#32
  let v201 : BitVec 32 := Scalar.muli arg11 c128_i32_68
  v201
def k0_off37 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_68 : BitVec 32 := 128#32
  let v201 : BitVec 32 := Scalar.muli arg11 c128_i32_68
  let v202 : BitVec 32 := v201
  let v203 : Index := Scalar.indexCast v202
  let c0_69 : Index := 0#32
  ![v203.toNat, 0]
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_71 : BitVec 32 := 128#32
  let v213 : BitVec 32 := Scalar.muli arg11 c128_i32_71
  v213
def k0_off38 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_71 : BitVec 32 := 128#32
  let v213 : BitVec 32 := Scalar.muli arg11 c128_i32_71
  let v214 : BitVec 32 := v213
  let v215 : Index := Scalar.indexCast v214
  let c128_72 : Index := 128#32
  ![v215.toNat, 128]
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_74 : BitVec 32 := 128#32
  let v225 : BitVec 32 := Scalar.muli arg11 c128_i32_74
  v225
def k0_off39 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_74 : BitVec 32 := 128#32
  let v225 : BitVec 32 := Scalar.muli arg11 c128_i32_74
  let v226 : BitVec 32 := v225
  let v227 : Index := Scalar.indexCast v226
  let c256_75 : Index := 256#32
  ![v227.toNat, 256]
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_77 : BitVec 32 := 128#32
  let v237 : BitVec 32 := Scalar.muli arg11 c128_i32_77
  v237
def k0_off40 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32_77 : BitVec 32 := 128#32
  let v237 : BitVec 32 := Scalar.muli arg11 c128_i32_77
  let v238 : BitVec 32 := v237
  let v239 : Index := Scalar.indexCast v238
  let c384_78 : Index := 384#32
  ![v239.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2176x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2176x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2176x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== AttnRefIdeal.lean ====
abbrev S4x2064x512 : Shape := ⟨3, ![4, 2064, 512]⟩
abbrev S4x2064x8x64 : Shape := ⟨4, ![4, 2064, 8, 64]⟩
abbrev S4x8x2064x64 : Shape := ⟨4, ![4, 8, 2064, 64]⟩
abbrev S4x8x2064x2064 : Shape := ⟨4, ![4, 8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x8x64x2064 : Shape := ⟨4, ![4, 8, 64, 2064]⟩
abbrev S4x2064x1536 : Shape := ⟨3, ![4, 2064, 1536]⟩

abbrev nBuf : Space → Nat
  | .hbm => 178
  | .vmem => 0
  | .smem => 0
  | _ => 0

abbrev hbmTy0_0 (i : Nat) : BufTy := match i % 128 with
  | 0 => ⟨S4x2064x512, .f32⟩
  | 1 => ⟨S4x2064x512, .f32⟩
  | 2 => ⟨S4x2064x512, .f32⟩
  | 3 => ⟨S4x2064x512, .f32⟩
  | 4 => ⟨S4x2064x8x64, .f32⟩
  | 5 => ⟨S4x8x2064x64, .f32⟩
  | 6 => ⟨S4x2064x8x64, .f32⟩
  | 7 => ⟨S4x8x2064x64, .f32⟩
  | 8 => ⟨S4x2064x8x64, .f32⟩
  | 9 => ⟨S4x8x2064x64, .f32⟩
  | 10 => ⟨S4x8x2064x2064, .f32⟩
  | 11 => ⟨S_, .f32⟩
  | 12 => ⟨S4x8x2064x2064, .f32⟩
  | 13 => ⟨S4x8x2064x2064, .f32⟩
  | 14 => ⟨S2064, .i32⟩
  | 15 => ⟨S1x2064, .i32⟩
  | 16 => ⟨S2064, .i32⟩
  | 17 => ⟨S2064x1, .i32⟩
  | 18 => ⟨S2064x2064, .i32⟩
  | 19 => ⟨S2064x2064, .i32⟩
  | 20 => ⟨S2064x2064, .i1⟩
  | 21 => ⟨S4x8x2064x2064, .f32⟩
  | 22 => ⟨S4x8x2064x2064, .f32⟩
  | 23 => ⟨S_, .f32⟩
  | 24 => ⟨S4x8x2064x2064, .f32⟩
  | 25 => ⟨S4x8x2064x2064, .f32⟩
  | 26 => ⟨S4x8x2064x2064, .f32⟩
  | 27 => ⟨S4x8x2064x2064, .f32⟩
  | 28 => ⟨S4x8x2064x2064, .i1⟩
  | 29 => ⟨S4x8x2064x2064, .f32⟩
  | 30 => ⟨S4x8x2064x2064, .f32⟩
  | 31 => ⟨S4x8x2064x2064, .f32⟩
  | 32 => ⟨S4x8x2064x2064, .f32⟩
  | 33 => ⟨S4x8x2064x2064, .f32⟩
  | 34 => ⟨S4x8x2064x2064, .f32⟩
  | 35 => ⟨S4x8x2064x2064, .f32⟩
  | 36 => ⟨S4x8x2064x2064, .f32⟩
  | 37 => ⟨S_, .f32⟩
  | 38 => ⟨S4x8x2064x2064, .f32⟩
  | 39 => ⟨S4x8x2064x2064, .i1⟩
  | 40 => ⟨S_, .f32⟩
  | 41 => ⟨S4x8x2064x2064, .f32⟩
  | 42 => ⟨S4x8x2064x2064, .f32⟩
  | 43 => ⟨S_, .f32⟩
  | 44 => ⟨S4x8x2064x2064, .f32⟩
  | 45 => ⟨S4x8x2064x2064, .i1⟩
  | 46 => ⟨S_, .f32⟩
  | 47 => ⟨S4x8x2064x2064, .f32⟩
  | 48 => ⟨S4x8x2064x2064, .f32⟩
  | 49 => ⟨S4x8x2064x2064, .f32⟩
  | 50 => ⟨S4x8x2064x2064, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x8x2064x2064, .f32⟩
  | 59 => ⟨S4x8x2064x2064, .i1⟩
  | 60 => ⟨S_, .f32⟩
  | 61 => ⟨S4x8x2064x2064, .f32⟩
  | 62 => ⟨S4x8x2064x2064, .f32⟩
  | 63 => ⟨S4x8x2064x2064, .f32⟩
  | 64 => ⟨S4x8x2064x2064, .f32⟩
  | 65 => ⟨S4x8x2064x2064, .f32⟩
  | 66 => ⟨S_, .f32⟩
  | 67 => ⟨S4x8x2064x2064, .f32⟩
  | 68 => ⟨S4x8x2064x2064, .f32⟩
  | 69 => ⟨S4x8x2064x2064, .f32⟩
  | 70 => ⟨S_, .f32⟩
  | 71 => ⟨S_, .f32⟩
  | 72 => ⟨S4x8x2064x2064, .i1⟩
  | 73 => ⟨S4x8x2064x2064, .f32⟩
  | 74 => ⟨S4x8x2064x2064, .f32⟩
  | 75 => ⟨S_, .f32⟩
  | 76 => ⟨S4x8x2064x2064, .f32⟩
  | 77 => ⟨S_, .f32⟩
  | 78 => ⟨S_, .f32⟩
  | 79 => ⟨S4x8x2064x2064, .f32⟩
  | 80 => ⟨S4x8x2064x2064, .f32⟩
  | 81 => ⟨S4x8x2064x2064, .f32⟩
  | 82 => ⟨S_, .f32⟩
  | 83 => ⟨S4x8x2064x2064, .f32⟩
  | 84 => ⟨S4x8x2064x2064, .f32⟩
  | 85 => ⟨S4x8x2064x2064, .f32⟩
  | 86 => ⟨S4x8x2064x2064, .f32⟩
  | 87 => ⟨S4x8x2064x2064, .i1⟩
  | 88 => ⟨S4x8x2064x2064, .f32⟩
  | 89 => ⟨S4x8x2064x2064, .f32⟩
  | 90 => ⟨S4x8x2064x2064, .f32⟩
  | 91 => ⟨S4x8x2064x2064, .f32⟩
  | 92 => ⟨S4x8x2064x2064, .f32⟩
  | 93 => ⟨S4x8x2064x2064, .f32⟩
  | 94 => ⟨S4x8x2064x2064, .f32⟩
  | 95 => ⟨S4x8x2064x2064, .f32⟩
  | 96 => ⟨S_, .f32⟩
  | 97 => ⟨S4x8x2064x2064, .f32⟩
  | 98 => ⟨S4x8x2064x2064, .i1⟩
  | 99 => ⟨S_, .f32⟩
  | 100 => ⟨S4x8x2064x2064, .f32⟩
  | 101 => ⟨S4x8x2064x2064, .f32⟩
  | 102 => ⟨S_, .f32⟩
  | 103 => ⟨S4x8x2064x2064, .f32⟩
  | 104 => ⟨S4x8x2064x2064, .i1⟩
  | 105 => ⟨S_, .f32⟩
  | 106 => ⟨S4x8x2064x2064, .f32⟩
  | 107 => ⟨S4x8x2064x2064, .f32⟩
  | 108 => ⟨S4x8x2064x2064, .f32⟩
  | 109 => ⟨S4x8x2064x2064, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S4x8x2064x2064, .f32⟩
  | 118 => ⟨S4x8x2064x2064, .i1⟩
  | 119 => ⟨S_, .f32⟩
  | 120 => ⟨S4x8x2064x2064, .f32⟩
  | 121 => ⟨S4x8x2064x2064, .f32⟩
  | 122 => ⟨S4x8x2064x2064, .f32⟩
  | 123 => ⟨S4x8x2064x2064, .f32⟩
  | 124 => ⟨S4x8x2064x2064, .f32⟩
  | 125 => ⟨S_, .f32⟩
  | 126 => ⟨S4x8x2064x2064, .f32⟩
  | 127 => ⟨S4x8x2064x2064, .f32⟩
  | _ => ⟨S4x2064x512, .f32⟩

abbrev hbmTy0_1 (i : Nat) : BufTy := match i % 128 with
  | 0 => ⟨S4x8x2064x2064, .f32⟩
  | 1 => ⟨S4x8x2064x2064, .f32⟩
  | 2 => ⟨S4x8x2064x2064, .f32⟩
  | 3 => ⟨S_, .f32⟩
  | 4 => ⟨S_, .f32⟩
  | 5 => ⟨S4x8x2064x2064, .i1⟩
  | 6 => ⟨S4x8x2064x2064, .f32⟩
  | 7 => ⟨S4x8x2064x2064, .f32⟩
  | 8 => ⟨S_, .f32⟩
  | 9 => ⟨S4x8x2064x2064, .f32⟩
  | 10 => ⟨S4x8x2064x64, .f32⟩
  | 11 => ⟨S4x2064x8x64, .f32⟩
  | 12 => ⟨S4x2064x512, .f32⟩
  | 13 => ⟨S4x2064x8x64, .f32⟩
  | 14 => ⟨S4x8x2064x64, .f32⟩
  | 15 => ⟨S4x8x64x2064, .f32⟩
  | 16 => ⟨S4x8x2064x64, .f32⟩
  | 17 => ⟨S4x8x2064x2064, .f32⟩
  | 18 => ⟨S_, .f32⟩
  | 19 => ⟨S4x8x2064x2064, .f32⟩
  | 20 => ⟨S4x8x2064x2064, .f32⟩
  | 21 => ⟨S4x8x2064x2064, .f32⟩
  | 22 => ⟨S4x8x2064x2064, .f32⟩
  | 23 => ⟨S4x8x2064x2064, .f32⟩
  | 24 => ⟨S4x8x2064x2064, .f32⟩
  | 25 => ⟨S4x8x2064x2064, .f32⟩
  | 26 => ⟨S_, .f32⟩
  | 27 => ⟨S_, .f32⟩
  | 28 => ⟨S4x8x2064x2064, .f32⟩
  | 29 => ⟨S4x8x2064x2064, .f32⟩
  | 30 => ⟨S_, .f32⟩
  | 31 => ⟨S4x8x2064x2064, .f32⟩
  | 32 => ⟨S4x8x2064x2064, .f32⟩
  | 33 => ⟨S4x8x2064x2064, .f32⟩
  | 34 => ⟨S4x8x2064x2064, .f32⟩
  | 35 => ⟨S4x8x2064x2064, .f32⟩
  | 36 => ⟨S4x8x2064x2064, .f32⟩
  | 37 => ⟨S4x8x2064x2064, .f32⟩
  | 38 => ⟨S_, .f32⟩
  | 39 => ⟨S4x8x2064x2064, .f32⟩
  | 40 => ⟨S4x8x2064x2064, .f32⟩
  | 41 => ⟨S4x8x2064x64, .f32⟩
  | 42 => ⟨S4x8x2064x64, .f32⟩
  | 43 => ⟨S4x2064x8x64, .f32⟩
  | 44 => ⟨S4x2064x512, .f32⟩
  | 45 => ⟨S4x2064x8x64, .f32⟩
  | 46 => ⟨S4x2064x512, .f32⟩
  | 47 => ⟨S4x2064x8x64, .f32⟩
  | 48 => ⟨S4x2064x512, .f32⟩
  | 49 => ⟨S4x2064x1536, .f32⟩
  | _ => ⟨S4x2064x512, .f32⟩

abbrev hbmTy (i : Nat) : BufTy := match i / 128 with
  | 0 => hbmTy0_0 i
  | 1 => hbmTy0_1 i
  | _ => ⟨S4x2064x512, .f32⟩

abbrev bufTy : (tb : Table) → Fin (tcTables nBuf tb) → BufTy
  | .hbm, ⟨i, _⟩ => hbmTy i
  | _, _ => ⟨S4x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩

abbrev nD : Nat := 1
abbrev τ : Topo := Topo.v7x

variable {F : FTy → Type} [FloatOps F]
-- ==== Inproj.lean ====
abbrev S4x2064x1024 : Shape := ⟨3, ![4, 2064, 1024]⟩
abbrev S1024 : Shape := ⟨1, ![1024]⟩
abbrev S4x2064x2560 : Shape := ⟨3, ![4, 2064, 2560]⟩
abbrev S1024x2560 : Shape := ⟨2, ![1024, 2560]⟩
abbrev S_ : Shape := ⟨0, ![]⟩
abbrev S4x112x2560 : Shape := ⟨3, ![4, 112, 2560]⟩
abbrev S4x2176x2560 : Shape := ⟨3, ![4, 2176, 2560]⟩
abbrev S8704x2560 : Shape := ⟨2, ![8704, 2560]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S8704x1536 : Shape := ⟨2, ![8704, 1536]⟩
abbrev S1024x1024 : Shape := ⟨2, ![1024, 1024]⟩
abbrev S1024x1536 : Shape := ⟨2, ![1024, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 26
  | .vmem => 14
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S1024, .f32⟩
  | .hbm, ⟨3, _⟩ => ⟨S4x2064x2560, .f32⟩
  | .hbm, ⟨4, _⟩ => ⟨S1024x2560, .f32⟩
  | .hbm, ⟨5, _⟩ => ⟨S1024x2560, .bf16⟩
  | .hbm, ⟨6, _⟩ => ⟨S_, .f32⟩
  | .hbm, ⟨7, _⟩ => ⟨S4x112x2560, .f32⟩
  | .hbm, ⟨8, _⟩ => ⟨S4x2176x2560, .f32⟩
  | .hbm, ⟨9, _⟩ => ⟨S8704x2560, .f32⟩
  | .hbm, ⟨10, _⟩ => ⟨S8704x2560, .bf16⟩
  | .hbm, ⟨11, _⟩ => ⟨S_, .f32⟩
  | .hbm, ⟨12, _⟩ => ⟨S4x112x1024, .f32⟩
  | .hbm, ⟨13, _⟩ => ⟨S4x2176x1024, .f32⟩
  | .hbm, ⟨14, _⟩ => ⟨S8704x1024, .f32⟩
  | .hbm, ⟨15, _⟩ => ⟨S_, .f32⟩
  | .hbm, ⟨16, _⟩ => ⟨S4x112x1024, .f32⟩
  | .hbm, ⟨17, _⟩ => ⟨S4x2176x1024, .f32⟩
  | .hbm, ⟨18, _⟩ => ⟨S8704x1024, .f32⟩
  | .hbm, ⟨19, _⟩ => ⟨S1x1024, .f32⟩
  | .hbm, ⟨20, _⟩ => ⟨S8704x1024, .bf16⟩
  | .hbm, ⟨21, _⟩ => ⟨S8704x1536, .bf16⟩
  | .hbm, ⟨22, _⟩ => ⟨S1024x1024, .bf16⟩
  | .hbm, ⟨23, _⟩ => ⟨S1024x1536, .bf16⟩
  | .hbm, ⟨24, _⟩ => ⟨S8704x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | .local _ .vmem, ⟨9, _⟩ => ⟨S1024x1024, .bf16⟩
  | .local _ .vmem, ⟨10, _⟩ => ⟨S1024x1536, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InprojRefIdeal.lean ====
abbrev S4x2064x1024 : Shape := ⟨3, ![4, 2064, 1024]⟩
abbrev S1024 : Shape := ⟨1, ![1024]⟩
abbrev S4x2064x2560 : Shape := ⟨3, ![4, 2064, 2560]⟩
abbrev S1024x2560 : Shape := ⟨2, ![1024, 2560]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S4x2176x1024 : Shape := ⟨3, ![4, 2176, 1024]⟩
abbrev S8704x1024 : Shape := ⟨2, ![8704, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S1024, .f32⟩
  | .hbm, ⟨3, _⟩ => ⟨S4x2064x2560, .f32⟩
  | .hbm, ⟨4, _⟩ => ⟨S1024x2560, .f32⟩
  | .hbm, ⟨5, _⟩ => ⟨S4x2064x1024, .f32⟩
  | .hbm, ⟨6, _⟩ => ⟨S_, .f32⟩
  | .hbm, ⟨7, _⟩ => ⟨S4x2064, .f32⟩
  | .hbm, ⟨8, _⟩ => ⟨S4x2064x1, .f32⟩
  | .hbm, ⟨9, _⟩ => ⟨S_, .f32⟩
  | .hbm, ⟨10, _⟩ => ⟨S4x2064x1, .f32⟩
  | .hbm, ⟨11, _⟩ => ⟨S4x2064x1, .f32⟩
  | .hbm, ⟨12, _⟩ => ⟨S_, .f32⟩
  | .hbm, ⟨13, _⟩ => ⟨S4x2064x1, .f32⟩
  | .hbm, ⟨14, _⟩ => ⟨S4x2064x1, .f32⟩
  | .hbm, ⟨15, _⟩ => ⟨S4x2064x1, .f32⟩
  | .hbm, ⟨16, _⟩ => ⟨S4x2064x1, .f32⟩
  | .hbm, ⟨17, _⟩ => ⟨S_, .f32⟩
  | .hbm, ⟨18, _⟩ => ⟨S4x2064x1, .f32⟩
  | .hbm, ⟨19, _⟩ => ⟨S4x2064x1, .f32⟩
  | .hbm, ⟨20, _⟩ => ⟨S4x2064x1024, .f32⟩
  | .hbm, ⟨21, _⟩ => ⟨S4x2064x1024, .f32⟩
  | .hbm, ⟨22, _⟩ => ⟨S1x1x1024, .f32⟩
  | .hbm, ⟨23, _⟩ => ⟨S4x2064x1024, .f32⟩
  | .hbm, ⟨24, _⟩ => ⟨S4x2064x1024, .f32⟩
  | .hbm, ⟨25, _⟩ => ⟨S4x2064x2560, .f32⟩
  | .hbm, ⟨26, _⟩ => ⟨S4x2064x1024, .f32⟩
  | .hbm, ⟨27, _⟩ => ⟨S4x2064x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2064x1024, .f32⟩
  | .hbm, ⟨32, _⟩ => ⟨S4x2064x1024, .f32⟩
  | .hbm, ⟨33, _⟩ => ⟨S_, .f32⟩
  | .hbm, ⟨34, _⟩ => ⟨S1024, .f32⟩
  | .hbm, ⟨35, _⟩ => ⟨S4x2064x1024, .f32⟩
  | .hbm, ⟨36, _⟩ => ⟨S_, .f32⟩
  | .hbm, ⟨37, _⟩ => ⟨S4x2064, .f32⟩
  | .hbm, ⟨38, _⟩ => ⟨S4x2064x1, .f32⟩
  | .hbm, ⟨39, _⟩ => ⟨S4x2064x1024, .f32⟩
  | .hbm, ⟨40, _⟩ => ⟨S4x2064x1024, .f32⟩
  | .hbm, ⟨41, _⟩ => ⟨S4x2064x1024, .f32⟩
  | .hbm, ⟨42, _⟩ => ⟨S4x2064x1, .f32⟩
  | .hbm, ⟨43, _⟩ => ⟨S_, .f32⟩
  | .hbm, ⟨44, _⟩ => ⟨S4x2064x1, .f32⟩
  | .hbm, ⟨45, _⟩ => ⟨S4x2064x1, .f32⟩
  | .hbm, ⟨46, _⟩ => ⟨S_, .f32⟩
  | .hbm, ⟨47, _⟩ => ⟨S4x2064, .f32⟩
  | .hbm, ⟨48, _⟩ => ⟨S4x2064x1024, .f32⟩
  | .hbm, ⟨49, _⟩ => ⟨S4x2064x1024, .f32⟩
  | .hbm, ⟨50, _⟩ => ⟨S4x2064x1024, .f32⟩
  | .hbm, ⟨51, _⟩ => ⟨S4x2064x1024, .f32⟩
  | .hbm, ⟨52, _⟩ => ⟨S4x2064x1024, .f32⟩
  | .hbm, ⟨53, _⟩ => ⟨S_, .i32⟩
  | .hbm, ⟨54, _⟩ => ⟨S_, .f32⟩
  | .hbm, ⟨55, _⟩ => ⟨S4x2176x1024, .f32⟩
  | .hbm, ⟨56, _⟩ => ⟨S8704x1024, .f32⟩
  | .hbm, ⟨57, _⟩ => ⟨S1x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Mlp.lean ====
abbrev S4x2064x1024 : Shape := ⟨3, ![4, 2064, 1024]⟩
abbrev S1024 : Shape := ⟨1, ![1024]⟩
abbrev S2x1024x4096 : Shape := ⟨3, ![2, 1024, 4096]⟩
abbrev S2x4096x1024 : Shape := ⟨3, ![2, 4096, 1024]⟩
abbrev S2x1024x8x512 : Shape := ⟨4, ![2, 1024, 8, 512]⟩
abbrev S8x2x1024x512 : Shape := ⟨4, ![8, 2, 1024, 512]⟩
abbrev S2x8x512x1024 : Shape := ⟨4, ![2, 8, 512, 1024]⟩
abbrev S8x2x512x1024 : Shape := ⟨4, ![8, 2, 512, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S4x2064 : Shape := ⟨2, ![4, 2064]⟩
abbrev S4x2064x1 : Shape := ⟨3, ![4, 2064, 1]⟩
abbrev S1x1x1024 : Shape := ⟨3, ![1, 1, 1024]⟩
abbrev S1x1024 : Shape := ⟨2, ![1, 1024]⟩
abbrev S8704x4096 : Shape := ⟨2, ![8704, 4096]⟩
abbrev S1088x1024 : Shape := ⟨2, ![1088, 1024]⟩
abbrev S1x1x1024x512 : Shape := ⟨4, ![1, 1, 1024, 512]⟩
abbrev S1x1x512x1024 : Shape := ⟨4, ![1, 1, 512, 1024]⟩
abbrev S1088x512 : Shape := ⟨2, ![1088, 512]⟩
abbrev S1024x512 : Shape := ⟨2, ![1024, 512]⟩
abbrev S512x1024 : Shape := ⟨2, ![512, 1024]⟩
abbrev S1088 : Shape := ⟨1, ![1088]⟩
abbrev S1088x1 : Shape := ⟨2, ![1088, 1]⟩

abbrev nBuf : Space → Nat
  | .hbm => 45
  | .vmem => 20
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S2x1024x4096, .f32⟩
  | .hbm, ⟨3, _⟩ => ⟨S2x4096x1024, .f32⟩
  | .hbm, ⟨4, _⟩ => ⟨S4x2064x1024, .f32⟩
  | .hbm, ⟨5, _⟩ => ⟨S2x1024x8x512, .f32⟩
  | .hbm, ⟨6, _⟩ => ⟨S8x2x1024x512, .f32⟩
  | .hbm, ⟨7, _⟩ => ⟨S8x2x1024x512, .bf16⟩
  | .hbm, ⟨8, _⟩ => ⟨S2x8x512x1024, .f32⟩
  | .hbm, ⟨9, _⟩ => ⟨S8x2x512x1024, .f32⟩
  | .hbm, ⟨10, _⟩ => ⟨S8x2x512x1024, .bf16⟩
  | .hbm, ⟨11, _⟩ => ⟨S_, .f32⟩
  | .hbm, ⟨12, _⟩ => ⟨S4x112x1024, .f32⟩
  | .hbm, ⟨13, _⟩ => ⟨S4x2176x1024, .f32⟩
  | .hbm, ⟨14, _⟩ => ⟨S8704x1024, .f32⟩
  | .hbm, ⟨15, _⟩ => ⟨S_, .f32⟩
  | .hbm, ⟨16, _⟩ => ⟨S4x112x1024, .f32⟩
  | .hbm, ⟨17, _⟩ => ⟨S4x2176x1024, .f32⟩
  | .hbm, ⟨18, _⟩ => ⟨S8704x1024, .f32⟩
  | .hbm, ⟨19, _⟩ => ⟨S4x2064x1024, .f32⟩
  | .hbm, ⟨20, _⟩ => ⟨S_, .f32⟩
  | .hbm, ⟨21, _⟩ => ⟨S4x2064, .f32⟩
  | .hbm, ⟨22, _⟩ => ⟨S4x2064x1, .f32⟩
  | .hbm, ⟨23, _⟩ => ⟨S_, .f32⟩
  | .hbm, ⟨24, _⟩ => ⟨S4x2064x1, .f32⟩
  | .hbm, ⟨25, _⟩ => ⟨S4x2064x1, .f32⟩
  | .hbm, ⟨26, _⟩ => ⟨S_, .f32⟩
  | .hbm, ⟨27, _⟩ => ⟨S4x2064x1, .f32⟩
  | .hbm, ⟨28, _⟩ => ⟨S4x2064x1, .f32⟩
  | .hbm, ⟨29, _⟩ => ⟨S4x2064x1, .f32⟩
  | .hbm, ⟨30, _⟩ => ⟨S4x2064x1024, .f32⟩
  | .hbm, ⟨31, _⟩ => ⟨S4x2064x1024, .f32⟩
  | .hbm, ⟨32, _⟩ => ⟨S1x1x1024, .f32⟩
  | .hbm, ⟨33, _⟩ => ⟨S4x2064x1024, .f32⟩
  | .hbm, ⟨34, _⟩ => ⟨S4x2064x1024, .f32⟩
  | .hbm, ⟨35, _⟩ => ⟨S_, .f32⟩
  | .hbm, ⟨36, _⟩ => ⟨S4x112x1024, .f32⟩
  | .hbm, ⟨37, _⟩ => ⟨S4x2176x1024, .f32⟩
  | .hbm, ⟨38, _⟩ => ⟨S8704x1024, .f32⟩
  | .hbm, ⟨39, _⟩ => ⟨S8704x1024, .bf16⟩
  | .hbm, ⟨40, _⟩ => ⟨S1x1024, .f32⟩
  | .hbm, ⟨41, _⟩ => ⟨S8704x1024, .f32⟩
  | .hbm, ⟨42, _⟩ => ⟨S8704x4096, .bf16⟩
  | .hbm, ⟨43, _⟩ => ⟨S8704x4096, .bf16⟩
  | .hbm, ⟨44, _⟩ => ⟨S1x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1088x1024, .bf16⟩
  | .local _ .vmem, ⟨5, _⟩ => ⟨S1088x1024, .bf16⟩
  | .local _ .vmem, ⟨6, _⟩ => ⟨S1x1024, .f32⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1088x1024, .f32⟩
  | .local _ .vmem, ⟨12, _⟩ => ⟨S1088x1024, .f32⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1x1024, .f32⟩
  | .local _ .vmem, ⟨18, _⟩ => ⟨S1088x1024, .f32⟩
  | .local _ .vmem, ⟨19, _⟩ => ⟨S1088x1024, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_31 : BitVec 32 := 0#32
  let v37 : BitVec 1 := Scalar.cmpi .ne v36 c0_i32_31
  v37

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MlpRefIdeal.lean ====
abbrev S4x2064x1024 : Shape := ⟨3, ![4, 2064, 1024]⟩
abbrev S1024 : Shape := ⟨1, ![1024]⟩
abbrev S2x1024x4096 : Shape := ⟨3, ![2, 1024, 4096]⟩
abbrev S2x4096x1024 : Shape := ⟨3, ![2, 4096, 1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x2064x4096 : Shape := ⟨3, ![4, 2064, 4096]⟩
abbrev S1x4096x1024 : Shape := ⟨3, ![1, 4096, 1024]⟩
abbrev S4096x1024 : Shape := ⟨2, ![4096, 1024]⟩
abbrev S4x2176x1024 : Shape := ⟨3, ![4, 2176, 1024]⟩
abbrev S8704x1024 : Shape := ⟨2, ![8704, 1024]⟩
abbrev S4x2176x4096 : Shape := ⟨3, ![4, 2176, 4096]⟩
abbrev S8704x4096 : Shape := ⟨2, ![8704, 4096]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S2x1024x4096, .f32⟩
  | .hbm, ⟨3, _⟩ => ⟨S2x4096x1024, .f32⟩
  | .hbm, ⟨4, _⟩ => ⟨S4x2064x1024, .f32⟩
  | .hbm, ⟨5, _⟩ => ⟨S4x2064x1024, .f32⟩
  | .hbm, ⟨6, _⟩ => ⟨S_, .f32⟩
  | .hbm, ⟨7, _⟩ => ⟨S4x2064, .f32⟩
  | .hbm, ⟨8, _⟩ => ⟨S4x2064x1, .f32⟩
  | .hbm, ⟨9, _⟩ => ⟨S_, .f32⟩
  | .hbm, ⟨10, _⟩ => ⟨S4x2064x1, .f32⟩
  | .hbm, ⟨11, _⟩ => ⟨S4x2064x1, .f32⟩
  | .hbm, ⟨12, _⟩ => ⟨S_, .f32⟩
  | .hbm, ⟨13, _⟩ => ⟨S4x2064x1, .f32⟩
  | .hbm, ⟨14, _⟩ => ⟨S4x2064x1, .f32⟩
  | .hbm, ⟨15, _⟩ => ⟨S4x2064x1, .f32⟩
  | .hbm, ⟨16, _⟩ => ⟨S4x2064x1, .f32⟩
  | .hbm, ⟨17, _⟩ => ⟨S_, .f32⟩
  | .hbm, ⟨18, _⟩ => ⟨S4x2064x1, .f32⟩
  | .hbm, ⟨19, _⟩ => ⟨S4x2064x1, .f32⟩
  | .hbm, ⟨20, _⟩ => ⟨S4x2064x1024, .f32⟩
  | .hbm, ⟨21, _⟩ => ⟨S4x2064x1024, .f32⟩
  | .hbm, ⟨22, _⟩ => ⟨S1x1x1024, .f32⟩
  | .hbm, ⟨23, _⟩ => ⟨S4x2064x1024, .f32⟩
  | .hbm, ⟨24, _⟩ => ⟨S4x2064x1024, .f32⟩
  | .hbm, ⟨25, _⟩ => ⟨S1x1024x4096, .f32⟩
  | .hbm, ⟨26, _⟩ => ⟨S1024x4096, .f32⟩
  | .hbm, ⟨27, _⟩ => ⟨S4x2064x4096, .f32⟩
  | .hbm, ⟨28, _⟩ => ⟨S_, .f32⟩
  | .hbm, ⟨29, _⟩ => ⟨S4x2064x4096, .f32⟩
  | .hbm, ⟨30, _⟩ => ⟨S4x2064x4096, .f32⟩
  | .hbm, ⟨31, _⟩ => ⟨S_, .f32⟩
  | .hbm, ⟨32, _⟩ => ⟨S4x2064x4096, .f32⟩
  | .hbm, ⟨33, _⟩ => ⟨S4x2064x4096, .i1⟩
  | .hbm, ⟨34, _⟩ => ⟨S_, .f32⟩
  | .hbm, ⟨35, _⟩ => ⟨S4x2064x4096, .f32⟩
  | .hbm, ⟨36, _⟩ => ⟨S4x2064x4096, .f32⟩
  | .hbm, ⟨37, _⟩ => ⟨S_, .f32⟩
  | .hbm, ⟨38, _⟩ => ⟨S4x2064x4096, .f32⟩
  | .hbm, ⟨39, _⟩ => ⟨S4x2064x4096, .f32⟩
  | .hbm, ⟨40, _⟩ => ⟨S1x4096x1024, .f32⟩
  | .hbm, ⟨41, _⟩ => ⟨S4096x1024, .f32⟩
  | .hbm, ⟨42, _⟩ => ⟨S4x2064x1024, .f32⟩
  | .hbm, ⟨43, _⟩ => ⟨S4x2064x4096, .f32⟩
  | .hbm, ⟨44, _⟩ => ⟨S4x2064x4096, .f32⟩
  | .hbm, ⟨45, _⟩ => ⟨S_, .f32⟩
  | .hbm, ⟨46, _⟩ => ⟨S4x2064x4096, .f32⟩
  | .hbm, ⟨47, _⟩ => ⟨S4x2064x4096, .f32⟩
  | .hbm, ⟨48, _⟩ => ⟨S4x2064x1024, .f32⟩
  | .hbm, ⟨49, _⟩ => ⟨S4x2064x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2064x1024, .f32⟩
  | .hbm, ⟨54, _⟩ => ⟨S4x2064x1024, .f32⟩
  | .hbm, ⟨55, _⟩ => ⟨S_, .f32⟩
  | .hbm, ⟨56, _⟩ => ⟨S1024, .f32⟩
  | .hbm, ⟨57, _⟩ => ⟨S4x2064x1024, .f32⟩
  | .hbm, ⟨58, _⟩ => ⟨S_, .f32⟩
  | .hbm, ⟨59, _⟩ => ⟨S4x2064, .f32⟩
  | .hbm, ⟨60, _⟩ => ⟨S4x2064x1, .f32⟩
  | .hbm, ⟨61, _⟩ => ⟨S4x2064x1024, .f32⟩
  | .hbm, ⟨62, _⟩ => ⟨S4x2064x1024, .f32⟩
  | .hbm, ⟨63, _⟩ => ⟨S4x2064x1, .f32⟩
  | .hbm, ⟨64, _⟩ => ⟨S_, .f32⟩
  | .hbm, ⟨65, _⟩ => ⟨S4x2064x1, .f32⟩
  | .hbm, ⟨66, _⟩ => ⟨S4x2064x1, .f32⟩
  | .hbm, ⟨67, _⟩ => ⟨S_, .f32⟩
  | .hbm, ⟨68, _⟩ => ⟨S4x2064, .f32⟩
  | .hbm, ⟨69, _⟩ => ⟨S4x2064x1024, .f32⟩
  | .hbm, ⟨70, _⟩ => ⟨S4x2064x1024, .f32⟩
  | .hbm, ⟨71, _⟩ => ⟨S4x2064x1024, .f32⟩
  | .hbm, ⟨72, _⟩ => ⟨S4x2064x1024, .f32⟩
  | .hbm, ⟨73, _⟩ => ⟨S4x2064x1024, .f32⟩
  | .hbm, ⟨74, _⟩ => ⟨S4x2064x1024, .f32⟩
  | .hbm, ⟨75, _⟩ => ⟨S_, .i32⟩
  | .hbm, ⟨76, _⟩ => ⟨S_, .f32⟩
  | .hbm, ⟨77, _⟩ => ⟨S4x2176x1024, .f32⟩
  | .hbm, ⟨78, _⟩ => ⟨S8704x1024, .f32⟩
  | .hbm, ⟨79, _⟩ => ⟨S_, .i32⟩
  | .hbm, ⟨80, _⟩ => ⟨S_, .f32⟩
  | .hbm, ⟨81, _⟩ => ⟨S4x2176x4096, .f32⟩
  | .hbm, ⟨82, _⟩ => ⟨S8704x4096, .f32⟩
  | .hbm, ⟨83, _⟩ => ⟨S8704x4096, .bf16⟩
  | .hbm, ⟨84, _⟩ => ⟨S_, .i32⟩
  | .hbm, ⟨85, _⟩ => ⟨S_, .f32⟩
  | .hbm, ⟨86, _⟩ => ⟨S4x2176x4096, .f32⟩
  | .hbm, ⟨87, _⟩ => ⟨S8704x4096, .f32⟩
  | .hbm, ⟨88, _⟩ => ⟨S8704x4096, .bf16⟩
  | .hbm, ⟨89, _⟩ => ⟨S1x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_call1_v0 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_call3_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Mixer.lean ====
abbrev S4x2064x1024 : Shape := ⟨3, ![4, 2064, 1024]⟩
abbrev S4x2064x512 : Shape := ⟨3, ![4, 2064, 512]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S4x112x1024 : Shape := ⟨3, ![4, 112, 1024]⟩
abbrev S4x2176x1024 : Shape := ⟨3, ![4, 2176, 1024]⟩
abbrev S8704x1024 : Shape := ⟨2, ![8704, 1024]⟩
abbrev S4x112x512 : Shape := ⟨3, ![4, 112, 512]⟩
abbrev S4x2176x512 : Shape := ⟨3, ![4, 2176, 512]⟩
abbrev S8704x512 : Shape := ⟨2, ![8704, 512]⟩
abbrev S1x256 : Shape := ⟨2, ![1, 256]⟩
abbrev S2176x1024 : Shape := ⟨2, ![2176, 1024]⟩
abbrev S2176x512 : Shape := ⟨2, ![2176, 512]⟩
abbrev S2176x256 : Shape := ⟨2, ![2176, 256]⟩

abbrev nBuf : Space → Nat
  | .hbm => 62
  | .vmem => 12
  | .smem => 0
  | _ => 0

abbrev bufTy : (tb : Table) → Fin (tcTables nBuf tb) → BufTy
  | .hbm, ⟨0, _⟩ => ⟨S4x2064x1024, .f32⟩
  | .hbm, ⟨1, _⟩ => ⟨S4x2064x512, .f32⟩
  | .hbm, ⟨2, _⟩ => ⟨S3x256, .f32⟩
  | .hbm, ⟨3, _⟩ => ⟨S4x64x64, .f32⟩
  | .hbm, ⟨4, _⟩ => ⟨S256, .f32⟩
  | .hbm, ⟨5, _⟩ => ⟨S_, .f32⟩
  | .hbm, ⟨6, _⟩ => ⟨S256x256, .f32⟩
  | .hbm, ⟨7, _⟩ => ⟨S1x64x64, .f32⟩
  | .hbm, ⟨8, _⟩ => ⟨S64x64, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S256x256, .f32⟩
  | .hbm, ⟨15, _⟩ => ⟨S1x64x64, .f32⟩
  | .hbm, ⟨16, _⟩ => ⟨S64x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x256, .f32⟩
  | .hbm, ⟨23, _⟩ => ⟨S1x64x64, .f32⟩
  | .hbm, ⟨24, _⟩ => ⟨S64x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S256x256, .f32⟩
  | .hbm, ⟨31, _⟩ => ⟨S1x64x64, .f32⟩
  | .hbm, ⟨32, _⟩ => ⟨S64x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S256x256, .f32⟩
  | .hbm, ⟨39, _⟩ => ⟨S_, .f32⟩
  | .hbm, ⟨40, _⟩ => ⟨S4x112x1024, .f32⟩
  | .hbm, ⟨41, _⟩ => ⟨S4x2176x1024, .f32⟩
  | .hbm, ⟨42, _⟩ => ⟨S8704x1024, .f32⟩
  | .hbm, ⟨43, _⟩ => ⟨S_, .f32⟩
  | .hbm, ⟨44, _⟩ => ⟨S4x112x512, .f32⟩
  | .hbm, ⟨45, _⟩ => ⟨S4x2176x512, .f32⟩
  | .hbm, ⟨46, _⟩ => ⟨S8704x512, .f32⟩
  | .hbm, ⟨47, _⟩ => ⟨S256x256, .bf16⟩
  | .hbm, ⟨48, _⟩ => ⟨S1x256, .f32⟩
  | .hbm, ⟨49, _⟩ => ⟨S8704x1024, .bf16⟩
  | .hbm, ⟨50, _⟩ => ⟨S3x256, .f32⟩
  | .hbm, ⟨51, _⟩ => ⟨S1x256, .f32⟩
  | .hbm, ⟨52, _⟩ => ⟨S256x256, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S1x64x64, .f32⟩
  | .hbm, ⟨58, _⟩ => ⟨S1x64x64, .f32⟩
  | .hbm, ⟨59, _⟩ => ⟨S1x64x64, .f32⟩
  | .hbm, ⟨60, _⟩ => ⟨S1x64x64, .f32⟩
  | .hbm, ⟨61, _⟩ => ⟨S4x64x64, .f32⟩
  | .local _ .vmem, ⟨0, _⟩ => ⟨S2176x1024, .f32⟩
  | .local _ .vmem, ⟨1, _⟩ => ⟨S2176x1024, .f32⟩
  | .local _ .vmem, ⟨2, _⟩ => ⟨S2176x512, .f32⟩
  | .local _ .vmem, ⟨3, _⟩ => ⟨S2176x512, .f32⟩
  | .local _ .vmem, ⟨4, _⟩ => ⟨S3x256, .f32⟩
  | .local _ .vmem, ⟨5, _⟩ => ⟨S256x256, .bf16⟩
  | .local _ .vmem, ⟨6, _⟩ => ⟨S1x256, .f32⟩
  | .local _ .vmem, ⟨7, _⟩ => ⟨S2176x1024, .bf16⟩
  | .local _ .vmem, ⟨8, _⟩ => ⟨S2176x1024, .bf16⟩
  | .local _ .vmem, ⟨9, _⟩ => ⟨S3x256, .f32⟩
  | .local _ .vmem, ⟨10, _⟩ => ⟨S1x256, .f32⟩
  | .local _ .vmem, ⟨11, _⟩ => ⟨S256x256, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixerRefIdeal.lean ====
abbrev S4x2064x1024 : Shape := ⟨3, ![4, 2064, 1024]⟩
abbrev S4x2064x512 : Shape := ⟨3, ![4, 2064, 512]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S4x1x4x64 : Shape := ⟨4, ![4, 1, 4, 64]⟩
abbrev S4x2065x4x64 : Shape := ⟨4, ![4, 2065, 4, 64]⟩
abbrev S2064 : Shape := ⟨1, ![2064]⟩
abbrev S4x2064x1x64 : Shape := ⟨4, ![4, 2064, 1, 64]⟩
abbrev S4x2064x64 : Shape := ⟨3, ![4, 2064, 64]⟩
abbrev S2064x1 : Shape := ⟨2, ![2064, 1]⟩
abbrev S2064x2 : Shape := ⟨2, ![2064, 2]⟩
abbrev S1x2064x1 : Shape := ⟨3, ![1, 2064, 1]⟩
abbrev S4x64x4x2064 : Shape := ⟨4, ![4, 64, 4, 2064]⟩
abbrev S4x4x2064x64 : Shape := ⟨4, ![4, 4, 2064, 64]⟩
abbrev S4x2176x1024 : Shape := ⟨3, ![4, 2176, 1024]⟩
abbrev S8704x1024 : Shape := ⟨2, ![8704, 1024]⟩

abbrev nBuf : Space → Nat
  | .hbm => 326
  | .vmem => 0
  | .smem => 0
  | _ => 0

abbrev hbmTy0_0 (i : Nat) : BufTy := match i % 128 with
  | 0 => ⟨S4x2064x1024, .f32⟩
  | 1 => ⟨S4x2064x512, .f32⟩
  | 2 => ⟨S3x256, .f32⟩
  | 3 => ⟨S4x64x64, .f32⟩
  | 4 => ⟨S256, .f32⟩
  | 5 => ⟨S4x2064x256, .f32⟩
  | 6 => ⟨S4x2064x256, .f32⟩
  | 7 => ⟨S4x2064x256, .f32⟩
  | 8 => ⟨S4x2064x256, .f32⟩
  | 9 => ⟨S4x2064x256, .f32⟩
  | 10 => ⟨S_, .f32⟩
  | 11 => ⟨S4x2x256, .f32⟩
  | 12 => ⟨S4x2066x256, .f32⟩
  | 13 => ⟨S_, .f32⟩
  | 14 => ⟨S4x2x256, .f32⟩
  | 15 => ⟨S1x256, .f32⟩
  | 16 => ⟨S256, .f32⟩
  | 17 => ⟨S4x2064x256, .f32⟩
  | 18 => ⟨S1x1x256, .f32⟩
  | 19 => ⟨S4x2064x256, .f32⟩
  | 20 => ⟨S4x2064x256, .f32⟩
  | 21 => ⟨S1x256, .f32⟩
  | 22 => ⟨S256, .f32⟩
  | 23 => ⟨S4x2064x256, .f32⟩
  | 24 => ⟨S1x1x256, .f32⟩
  | 25 => ⟨S4x2064x256, .f32⟩
  | 26 => ⟨S4x2064x256, .f32⟩
  | 27 => ⟨S4x2064x256, .f32⟩
  | 28 => ⟨S1x256, .f32⟩
  | 29 => ⟨S256, .f32⟩
  | 30 => ⟨S4x2064x256, .f32⟩
  | 31 => ⟨S1x1x256, .f32⟩
  | 32 => ⟨S4x2064x256, .f32⟩
  | 33 => ⟨S4x2064x256, .f32⟩
  | 34 => ⟨S4x2064x256, .f32⟩
  | 35 => ⟨S4x2064x256, .f32⟩
  | 36 => ⟨S4x2064x4x64, .f32⟩
  | 37 => ⟨S_, .f32⟩
  | 38 => ⟨S4x1x4x64, .f32⟩
  | 39 => ⟨S_, .f32⟩
  | 40 => ⟨S_, .f32⟩
  | 41 => ⟨S4x2064x4x64, .f32⟩
  | 42 => ⟨S4x2065x4x64, .f32⟩
  | 43 => ⟨S_, .f32⟩
  | 44 => ⟨S4x1x4x64, .f32⟩
  | 45 => ⟨S2064, .i32⟩
  | 46 => ⟨S_, .i32⟩
  | 47 => ⟨S2064, .i32⟩
  | 48 => ⟨S2064, .i32⟩
  | 49 => ⟨S_, .i32⟩
  | 50 => ⟨S2064, .i32⟩
  | 51 => ⟨S2064, .i32⟩
  | 52 => ⟨S_, .i32⟩
  | 53 => ⟨S2064, .i32⟩
  | 54 => ⟨S2064, .i32⟩
  | 55 => ⟨S4x2064x1x64, .f32⟩
  | 56 => ⟨S4x2064x64, .f32⟩
  | 57 => ⟨S_, .i32⟩
  | 58 => ⟨S2064, .i32⟩
  | 59 => ⟨S2064, .i1⟩
  | 60 => ⟨S_, .i32⟩
  | 61 => ⟨S2064, .i32⟩
  | 62 => ⟨S2064, .i32⟩
  | 63 => ⟨S2064, .i32⟩
  | 64 => ⟨S_, .i32⟩
  | 65 => ⟨S2064, .i32⟩
  | 66 => ⟨S2064, .i32⟩
  | 67 => ⟨S2064x1, .i32⟩
  | 68 => ⟨S2064x1, .i32⟩
  | 69 => ⟨S2064x2, .i32⟩
  | 70 => ⟨S4x2064x64, .f32⟩
  | 71 => ⟨S4x2064x64, .f32⟩
  | 72 => ⟨S_, .i32⟩
  | 73 => ⟨S2064, .i32⟩
  | 74 => ⟨S2064, .i32⟩
  | 75 => ⟨S2064, .i32⟩
  | 76 => ⟨S2064, .f32⟩
  | 77 => ⟨S1x2064x1, .f32⟩
  | 78 => ⟨S4x2064x64, .f32⟩
  | 79 => ⟨S4x2064x64, .f32⟩
  | 80 => ⟨S_, .i32⟩
  | 81 => ⟨S2064, .i32⟩
  | 82 => ⟨S2064, .i32⟩
  | 83 => ⟨S_, .i32⟩
  | 84 => ⟨S2064, .i32⟩
  | 85 => ⟨S2064, .i32⟩
  | 86 => ⟨S_, .i32⟩
  | 87 => ⟨S2064, .i32⟩
  | 88 => ⟨S2064, .i32⟩
  | 89 => ⟨S4x2064x1x64, .f32⟩
  | 90 => ⟨S4x2064x64, .f32⟩
  | 91 => ⟨S_, .i32⟩
  | 92 => ⟨S2064, .i32⟩
  | 93 => ⟨S2064, .i1⟩
  | 94 => ⟨S_, .i32⟩
  | 95 => ⟨S2064, .i32⟩
  | 96 => ⟨S2064, .i32⟩
  | 97 => ⟨S2064, .i32⟩
  | 98 => ⟨S_, .i32⟩
  | 99 => ⟨S2064, .i32⟩
  | 100 => ⟨S2064, .i32⟩
  | 101 => ⟨S2064x1, .i32⟩
  | 102 => ⟨S2064x1, .i32⟩
  | 103 => ⟨S2064x2, .i32⟩
  | 104 => ⟨S4x2064x64, .f32⟩
  | 105 => ⟨S4x2064x64, .f32⟩
  | 106 => ⟨S_, .i32⟩
  | 107 => ⟨S2064, .i32⟩
  | 108 => ⟨S2064, .i32⟩
  | 109 => ⟨S2064, .i32⟩
  | 110 => ⟨S2064, .f32⟩
  | 111 => ⟨S1x2064x1, .f32⟩
  | 112 => ⟨S4x2064x64, .f32⟩
  | 113 => ⟨S4x2064x64, .f32⟩
  | 114 => ⟨S_, .i32⟩
  | 115 => ⟨S2064, .i32⟩
  | 116 => ⟨S2064, .i32⟩
  | 117 => ⟨S_, .i32⟩
  | 118 => ⟨S2064, .i32⟩
  | 119 => ⟨S2064, .i32⟩
  | 120 => ⟨S_, .i32⟩
  | 121 => ⟨S2064, .i32⟩
  | 122 => ⟨S2064, .i32⟩
  | 123 => ⟨S4x2064x1x64, .f32⟩
  | 124 => ⟨S4x2064x64, .f32⟩
  | 125 => ⟨S_, .i32⟩
  | 126 => ⟨S2064, .i32⟩
  | 127 => ⟨S2064, .i1⟩
  | _ => ⟨S4x2064x1024, .f32⟩

abbrev hbmTy0_1 (i : Nat) : BufTy := match i % 128 with
  | 0 => ⟨S_, .i32⟩
  | 1 => ⟨S2064, .i32⟩
  | 2 => ⟨S2064, .i32⟩
  | 3 => ⟨S2064, .i32⟩
  | 4 => ⟨S_, .i32⟩
  | 5 => ⟨S2064, .i32⟩
  | 6 => ⟨S2064, .i32⟩
  | 7 => ⟨S2064x1, .i32⟩
  | 8 => ⟨S2064x1, .i32⟩
  | 9 => ⟨S2064x2, .i32⟩
  | 10 => ⟨S4x2064x64, .f32⟩
  | 11 => ⟨S4x2064x64, .f32⟩
  | 12 => ⟨S_, .i32⟩
  | 13 => ⟨S2064, .i32⟩
  | 14 => ⟨S2064, .i32⟩
  | 15 => ⟨S2064, .i32⟩
  | 16 => ⟨S2064, .f32⟩
  | 17 => ⟨S1x2064x1, .f32⟩
  | 18 => ⟨S4x2064x64, .f32⟩
  | 19 => ⟨S4x2064x64, .f32⟩
  | 20 => ⟨S_, .i32⟩
  | 21 => ⟨S2064, .i32⟩
  | 22 => ⟨S2064, .i32⟩
  | 23 => ⟨S_, .i32⟩
  | 24 => ⟨S2064, .i32⟩
  | 25 => ⟨S2064, .i32⟩
  | 26 => ⟨S_, .i32⟩
  | 27 => ⟨S2064, .i32⟩
  | 28 => ⟨S2064, .i32⟩
  | 29 => ⟨S4x2064x1x64, .f32⟩
  | 30 => ⟨S4x2064x64, .f32⟩
  | 31 => ⟨S_, .i32⟩
  | 32 => ⟨S2064, .i32⟩
  | 33 => ⟨S2064, .i1⟩
  | 34 => ⟨S_, .i32⟩
  | 35 => ⟨S2064, .i32⟩
  | 36 => ⟨S2064, .i32⟩
  | 37 => ⟨S2064, .i32⟩
  | 38 => ⟨S_, .i32⟩
  | 39 => ⟨S2064, .i32⟩
  | 40 => ⟨S2064, .i32⟩
  | 41 => ⟨S2064x1, .i32⟩
  | 42 => ⟨S2064x1, .i32⟩
  | 43 => ⟨S2064x2, .i32⟩
  | 44 => ⟨S4x2064x64, .f32⟩
  | 45 => ⟨S4x2064x64, .f32⟩
  | 46 => ⟨S_, .i32⟩
  | 47 => ⟨S2064, .i32⟩
  | 48 => ⟨S2064, .i32⟩
  | 49 => ⟨S2064, .i32⟩
  | 50 => ⟨S2064, .f32⟩
  | 51 => ⟨S1x2064x1, .f32⟩
  | 52 => ⟨S4x2064x64, .f32⟩
  | 53 => ⟨S4x2064x64, .f32⟩
  | 54 => ⟨S4x2064x1x64, .f32⟩
  | 55 => ⟨S4x2064x1x64, .f32⟩
  | 56 => ⟨S4x2064x1x64, .f32⟩
  | 57 => ⟨S4x2064x1x64, .f32⟩
  | 58 => ⟨S4x2064x4x64, .f32⟩
  | 59 => ⟨S4x2064x4x64, .f32⟩
  | 60 => ⟨S4x64x4x2064, .f32⟩
  | 61 => ⟨S4x2064x4x64, .f32⟩
  | 62 => ⟨S4x2064x256, .f32⟩
  | 63 => ⟨S1x1x256, .f32⟩
  | 64 => ⟨S4x2064x256, .f32⟩
  | 65 => ⟨S4x2064x256, .f32⟩
  | 66 => ⟨S4x2064x512, .f32⟩
  | 67 => ⟨S4x2064x256, .f32⟩
  | 68 => ⟨S4x2064x256, .f32⟩
  | 69 => ⟨S4x2064x256, .f32⟩
  | 70 => ⟨S_, .f32⟩
  | 71 => ⟨S256, .f32⟩
  | 72 => ⟨S1x1x256, .f32⟩
  | 73 => ⟨S4x2064x256, .f32⟩
  | 74 => ⟨S4x2064x256, .f32⟩
  | 75 => ⟨S_, .f32⟩
  | 76 => ⟨S256, .f32⟩
  | 77 => ⟨S4x2064x4x64, .f32⟩
  | 78 => ⟨S4x64x4x2064, .f32⟩
  | 79 => ⟨S4x4x2064x64, .f32⟩
  | 80 => ⟨S4x2064x4x64, .f32⟩
  | 81 => ⟨S4x64x64, .f32⟩
  | 82 => ⟨S4x64x64, .f32⟩
  | 83 => ⟨S4x2064x4x64, .f32⟩
  | 84 => ⟨S4x2064x1x64, .f32⟩
  | 85 => ⟨S4x2064x64, .f32⟩
  | 86 => ⟨S4x2064x1x64, .f32⟩
  | 87 => ⟨S4x2064x64, .f32⟩
  | 88 => ⟨S4x2064x1x64, .f32⟩
  | 89 => ⟨S4x2064x64, .f32⟩
  | 90 => ⟨S4x2064x1x64, .f32⟩
  | 91 => ⟨S4x2064x64, .f32⟩
  | 92 => ⟨S4x2064x64, .f32⟩
  | 93 => ⟨S4x2064x64, .f32⟩
  | 94 => ⟨S4x2064x64, .f32⟩
  | 95 => ⟨S_, .f32⟩
  | 96 => ⟨S4x2065x4x64, .f32⟩
  | 97 => ⟨S4x2065x4x64, .f32⟩
  | 98 => ⟨S4x2064x1x64, .f32⟩
  | 99 => ⟨S_, .f32⟩
  | 100 => ⟨S4x2065x4x64, .f32⟩
  | 101 => ⟨S4x2065x4x64, .f32⟩
  | 102 => ⟨S4x2064x64, .f32⟩
  | 103 => ⟨S4x2064x64, .f32⟩
  | 104 => ⟨S4x2064x64, .f32⟩
  | 105 => ⟨S_, .f32⟩
  | 106 => ⟨S4x2065x4x64, .f32⟩
  | 107 => ⟨S4x2065x4x64, .f32⟩
  | 108 => ⟨S4x2065x4x64, .f32⟩
  | 109 => ⟨S4x2064x1x64, .f32⟩
  | 110 => ⟨S_, .f32⟩
  | 111 => ⟨S4x2065x4x64, .f32⟩
  | 112 => ⟨S4x2065x4x64, .f32⟩
  | 113 => ⟨S4x2064x64, .f32⟩
  | 114 => ⟨S4x2064x64, .f32⟩
  | 115 => ⟨S4x2064x64, .f32⟩
  | 116 => ⟨S_, .f32⟩
  | 117 => ⟨S4x2065x4x64, .f32⟩
  | 118 => ⟨S4x2065x4x64, .f32⟩
  | 119 => ⟨S4x2065x4x64, .f32⟩
  | 120 => ⟨S4x2064x1x64, .f32⟩
  | 121 => ⟨S_, .f32⟩
  | 122 => ⟨S4x2065x4x64, .f32⟩
  | 123 => ⟨S4x2065x4x64, .f32⟩
  | 124 => ⟨S4x2064x64, .f32⟩
  | 125 => ⟨S4x2064x64, .f32⟩
  | 126 => ⟨S4x2064x64, .f32⟩
  | 127 => ⟨S_, .f32⟩
  | _ => ⟨S4x2064x1024, .f32⟩

abbrev hbmTy0_2 (i : Nat) : BufTy := match i % 128 with
  | 0 => ⟨S4x2065x4x64, .f32⟩
  | 1 => ⟨S4x2065x4x64, .f32⟩
  | 2 => ⟨S4x2065x4x64, .f32⟩
  | 3 => ⟨S4x2064x1x64, .f32⟩
  | 4 => ⟨S_, .f32⟩
  | 5 => ⟨S4x2065x4x64, .f32⟩
  | 6 => ⟨S4x2065x4x64, .f32⟩
  | 7 => ⟨S4x1x4x64, .f32⟩
  | 8 => ⟨S4x2064x4x64, .f32⟩
  | 9 => ⟨S_, .f32⟩
  | 10 => ⟨S_, .f32⟩
  | 11 => ⟨S4x2064x4x64, .f32⟩
  | 12 => ⟨S4x2064x4x64, .f32⟩
  | 13 => ⟨S4x2064x256, .f32⟩
  | 14 => ⟨S4x2064x256, .f32⟩
  | 15 => ⟨S4x2064x256, .f32⟩
  | 16 => ⟨S4x2064x256, .f32⟩
  | 17 => ⟨S4x2064x256, .f32⟩
  | 18 => ⟨S4x2064x256, .f32⟩
  | 19 => ⟨S_, .f32⟩
  | 20 => ⟨S256, .f32⟩
  | 21 => ⟨S1x1x256, .f32⟩
  | 22 => ⟨S_, .f32⟩
  | 23 => ⟨S256, .f32⟩
  | 24 => ⟨S_, .f32⟩
  | 25 => ⟨S4x2066x256, .f32⟩
  | 26 => ⟨S1x256, .f32⟩
  | 27 => ⟨S_, .f32⟩
  | 28 => ⟨S3x256, .f32⟩
  | 29 => ⟨S4x2064x256, .f32⟩
  | 30 => ⟨S4x2064x256, .f32⟩
  | 31 => ⟨S4x2064x256, .f32⟩
  | 32 => ⟨S_, .f32⟩
  | 33 => ⟨S256, .f32⟩
  | 34 => ⟨S1x1x256, .f32⟩
  | 35 => ⟨S_, .f32⟩
  | 36 => ⟨S256, .f32⟩
  | 37 => ⟨S_, .f32⟩
  | 38 => ⟨S4x2066x256, .f32⟩
  | 39 => ⟨S4x2066x256, .f32⟩
  | 40 => ⟨S1x256, .f32⟩
  | 41 => ⟨S_, .f32⟩
  | 42 => ⟨S3x256, .f32⟩
  | 43 => ⟨S3x256, .f32⟩
  | 44 => ⟨S4x2064x256, .f32⟩
  | 45 => ⟨S4x2064x256, .f32⟩
  | 46 => ⟨S4x2064x256, .f32⟩
  | 47 => ⟨S_, .f32⟩
  | 48 => ⟨S256, .f32⟩
  | 49 => ⟨S1x1x256, .f32⟩
  | 50 => ⟨S_, .f32⟩
  | 51 => ⟨S256, .f32⟩
  | 52 => ⟨S_, .f32⟩
  | 53 => ⟨S4x2066x256, .f32⟩
  | 54 => ⟨S4x2066x256, .f32⟩
  | 55 => ⟨S1x256, .f32⟩
  | 56 => ⟨S_, .f32⟩
  | 57 => ⟨S3x256, .f32⟩
  | 58 => ⟨S3x256, .f32⟩
  | 59 => ⟨S4x2x256, .f32⟩
  | 60 => ⟨S4x2064x256, .f32⟩
  | 61 => ⟨S4x2064x256, .f32⟩
  | 62 => ⟨S4x2064x256, .f32⟩
  | 63 => ⟨S4x2064x1024, .f32⟩
  | 64 => ⟨S_, .i32⟩
  | 65 => ⟨S_, .f32⟩
  | 66 => ⟨S4x2176x1024, .f32⟩
  | 67 => ⟨S8704x1024, .f32⟩
  | 68 => ⟨S8704x1024, .bf16⟩
  | 69 => ⟨S1x256, .f32⟩
  | _ => ⟨S4x2064x1024, .f32⟩

abbrev hbmTy (i : Nat) : BufTy := match i / 128 with
  | 0 => hbmTy0_0 i
  | 1 => hbmTy0_1 i
  | 2 => hbmTy0_2 i
  | _ => ⟨S4x2064x1024, .f32⟩

abbrev bufTy : (tb : Table) → Fin (tcTables nBuf tb) → BufTy
  | .hbm, ⟨i, _⟩ => hbmTy i
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_call0_cst : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_9 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_12 : Ref sig .tc := ⟨.hbm, 91, rfl⟩
abbrev main_v70 : Ref sig .tc := ⟨.hbm, 92, rfl⟩
abbrev main_v71 : Ref sig .tc := ⟨.hbm, 93, rfl⟩
abbrev main_c_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_15 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_16 : Ref sig .tc := ⟨.hbm, 114, rfl⟩
abbrev main_v89 : Ref sig .tc := ⟨.hbm, 115, rfl⟩
abbrev main_v90 : Ref sig .tc := ⟨.hbm, 116, rfl⟩
abbrev main_c_17 : Ref sig .tc := ⟨.hbm, 117, rfl⟩
abbrev main_v91 : Ref sig .tc := ⟨.hbm, 118, rfl⟩
abbrev main_v92 : Ref sig .tc := ⟨.hbm, 119, rfl⟩
abbrev main_c_18 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_19 : Ref sig .tc := ⟨.hbm, 125, rfl⟩
abbrev main_v97 : Ref sig .tc := ⟨.hbm, 126, rfl⟩
abbrev main_v98 : Ref sig .tc := ⟨.hbm, 127, rfl⟩
abbrev main_c_20 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c_21 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_22 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_23 : Ref sig .tc := ⟨.hbm, 148, rfl⟩
abbrev main_v116 : Ref sig .tc := ⟨.hbm, 149, rfl⟩
abbrev main_v117 : Ref sig .tc := ⟨.hbm, 150, rfl⟩
abbrev main_c_24 : Ref sig .tc := ⟨.hbm, 151, rfl⟩
abbrev main_v118 : Ref sig .tc := ⟨.hbm, 152, rfl⟩
abbrev main_v119 : Ref sig .tc := ⟨.hbm, 153, rfl⟩
abbrev main_c_25 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_26 : Ref sig .tc := ⟨.hbm, 159, rfl⟩
abbrev main_v124 : Ref sig .tc := ⟨.hbm, 160, rfl⟩
abbrev main_v125 : Ref sig .tc := ⟨.hbm, 161, rfl⟩
abbrev main_c_27 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_c_28 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_29 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_30 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_31 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_32 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_cst_33 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_34 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_35 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_36 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_cst_37 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_cst_38 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_39 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_call1_cst : Ref sig .tc := ⟨.hbm, 265, rfl⟩
abbrev main_call1_v0 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_40 : Ref sig .tc := ⟨.hbm, 275, rfl⟩
abbrev main_v224 : Ref sig .tc := ⟨.hbm, 276, rfl⟩
abbrev main_v225 : Ref sig .tc := ⟨.hbm, 277, rfl⟩
abbrev main_cst_41 : Ref sig .tc := ⟨.hbm, 278, rfl⟩
abbrev main_v226 : Ref sig .tc := ⟨.hbm, 279, rfl⟩
abbrev main_cst_42 : Ref sig .tc := ⟨.hbm, 280, rfl⟩
abbrev main_v227 : Ref sig .tc := ⟨.hbm, 281, rfl⟩
abbrev main_v228 : Ref sig .tc := ⟨.hbm, 282, rfl⟩
abbrev main_cst_43 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_cst_44 : Ref sig .tc := ⟨.hbm, 288, rfl⟩
abbrev main_v233 : Ref sig .tc := ⟨.hbm, 289, rfl⟩
abbrev main_v234 : Ref sig .tc := ⟨.hbm, 290, rfl⟩
abbrev main_cst_45 : Ref sig .tc := ⟨.hbm, 291, rfl⟩
abbrev main_v235 : Ref sig .tc := ⟨.hbm, 292, rfl⟩
abbrev main_cst_46 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_cst_47 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_cst_48 : Ref sig .tc := ⟨.hbm, 303, rfl⟩
abbrev main_v244 : Ref sig .tc := ⟨.hbm, 304, rfl⟩
abbrev main_v245 : Ref sig .tc := ⟨.hbm, 305, rfl⟩
abbrev main_cst_49 : Ref sig .tc := ⟨.hbm, 306, rfl⟩
abbrev main_v246 : Ref sig .tc := ⟨.hbm, 307, rfl⟩
abbrev main_cst_50 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_cst_51 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_c_52 : Ref sig .tc := ⟨.hbm, 320, rfl⟩
abbrev main_call2_v0 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩

abbrev nD : Nat := 1
abbrev τ : Topo := Topo.v7x

variable {F : FTy → Type} [FloatOps F]
-- ==== AttnFwd.lean ====
abbrev S4x2064x512 : Shape := ⟨3, ![4, 2064, 512]⟩
abbrev S_ : Shape := ⟨0, ![]⟩
abbrev S4x112x512 : Shape := ⟨3, ![4, 112, 512]⟩
abbrev S4x2176x512 : Shape := ⟨3, ![4, 2176, 512]⟩
abbrev S8704x512 : Shape := ⟨2, ![8704, 512]⟩
abbrev S8704x1024 : Shape := ⟨2, ![8704, 1024]⟩
abbrev S2176x512 : Shape := ⟨2, ![2176, 512]⟩
abbrev S2176x1024 : Shape := ⟨2, ![2176, 1024]⟩
abbrev S256x256 : Shape := ⟨2, ![256, 256]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S4x2176x1024 : Shape := ⟨3, ![4, 2176, 1024]⟩
abbrev S4x2064x1024 : Shape := ⟨3, ![4, 2064, 1024]⟩

abbrev nBuf : Space → Nat
  | .hbm => 28
  | .vmem => 10
  | .smem => 0
  | _ => 0

abbrev bufTy : (tb : Table) → Fin (tcTables nBuf tb) → BufTy
  | .hbm, ⟨0, _⟩ => ⟨S4x2064x512, .f32⟩
  | .hbm, ⟨1, _⟩ => ⟨S4x2064x512, .f32⟩
  | .hbm, ⟨2, _⟩ => ⟨S4x2064x512, .f32⟩
  | .hbm, ⟨3, _⟩ => ⟨S4x2064x512, .f32⟩
  | .hbm, ⟨4, _⟩ => ⟨S_, .f32⟩
  | .hbm, ⟨5, _⟩ => ⟨S4x112x512, .f32⟩
  | .hbm, ⟨6, _⟩ => ⟨S4x2176x512, .f32⟩
  | .hbm, ⟨7, _⟩ => ⟨S8704x512, .f32⟩
  | .hbm, ⟨8, _⟩ => ⟨S8704x512, .bf16⟩
  | .hbm, ⟨9, _⟩ => ⟨S_, .f32⟩
  | .hbm, ⟨10, _⟩ => ⟨S4x112x512, .f32⟩
  | .hbm, ⟨11, _⟩ => ⟨S4x2176x512, .f32⟩
  | .hbm, ⟨12, _⟩ => ⟨S8704x512, .f32⟩
  | .hbm, ⟨13, _⟩ => ⟨S8704x512, .bf16⟩
  | .hbm, ⟨14, _⟩ => ⟨S_, .f32⟩
  | .hbm, ⟨15, _⟩ => ⟨S4x112x512, .f32⟩
  | .hbm, ⟨16, _⟩ => ⟨S4x2176x512, .f32⟩
  | .hbm, ⟨17, _⟩ => ⟨S8704x512, .f32⟩
  | .hbm, ⟨18, _⟩ => ⟨S8704x512, .bf16⟩
  | .hbm, ⟨19, _⟩ => ⟨S_, .f32⟩
  | .hbm, ⟨20, _⟩ => ⟨S4x112x512, .f32⟩
  | .hbm, ⟨21, _⟩ => ⟨S4x2176x512, .f32⟩
  | .hbm, ⟨22, _⟩ => ⟨S8704x512, .f32⟩
  | .hbm, ⟨23, _⟩ => ⟨S8704x512, .bf16⟩
  | .hbm, ⟨24, _⟩ => ⟨S8704x1024, .bf16⟩
  | .hbm, ⟨25, _⟩ => ⟨S8704x1024, .f32⟩
  | .hbm, ⟨26, _⟩ => ⟨S4x2176x1024, .f32⟩
  | .hbm, ⟨27, _⟩ => ⟨S4x2064x1024, .f32⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S2176x512, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .bf16⟩
  | .local _ .vmem, ⟨7, _⟩ => ⟨S2176x512, .bf16⟩
  | .local _ .vmem, ⟨8, _⟩ => ⟨S2176x1024, .bf16⟩
  | .local _ .vmem, ⟨9, _⟩ => ⟨S2176x1024, .bf16⟩
  | _, _ => ⟨S4x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32 : BitVec 32 := 0#32
  let c17_i32 : BitVec 32 := 17#32
  let v20 : BitVec 32 := Scalar.addi c0_i32 c17_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v21 : BitVec 32 := Scalar.muli arg7 c128_i32
  v21
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v21 : BitVec 32 := Scalar.muli arg7 c128_i32
  let v22 : BitVec 32 := v21
  let v23 : Index := Scalar.indexCast v22
  let c0_6 : Index := 0#32
  ![v23.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_9 : BitVec 32 := 128#32
  let v36 : BitVec 32 := Scalar.muli arg7 c128_i32_9
  v36
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_9 : BitVec 32 := 128#32
  let v36 : BitVec 32 := Scalar.muli arg7 c128_i32_9
  let v37 : BitVec 32 := v36
  let v38 : Index := Scalar.indexCast v37
  let c128 : Index := 128#32
  ![v38.toNat, 128]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_12 : BitVec 32 := 128#32
  let v51 : BitVec 32 := Scalar.muli arg7 c128_i32_12
  v51
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_12 : BitVec 32 := 128#32
  let v51 : BitVec 32 := Scalar.muli arg7 c128_i32_12
  let v52 : BitVec 32 := v51
  let v53 : Index := Scalar.indexCast v52
  let c256 : Index := 256#32
  ![v53.toNat, 256]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_15 : BitVec 32 := 128#32
  let v66 : BitVec 32 := Scalar.muli arg7 c128_i32_15
  v66
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_15 : BitVec 32 := 128#32
  let v66 : BitVec 32 := Scalar.muli arg7 c128_i32_15
  let v67 : BitVec 32 := v66
  let v68 : Index := Scalar.indexCast v67
  let c384 : Index := 384#32
  ![v68.toNat, 384]
@[reducible] def k0_t2_loop (k0_t1 : Fin k0_t1_loop.trips) : Scf.Loop 32 :=
  let c0_i32_33 : BitVec 32 := 0#32
  let c0_i32 : BitVec 32 := 0#32
  let c1_i32 : BitVec 32 := 1#32
  let arg7 : BitVec 32 := Scf.iv c0_i32 c1_i32 k0_t1
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_35 : BitVec 32 := 1#32
  ⟨c0_i32_33, v111, c1_i32_35⟩
def k0_mult5 (k0_t1 : Fin k0_t1_loop.trips) (k0_t2 : Fin (k0_t2_loop k0_t1).trips) : BitVec 32 :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c1_i32_35 : BitVec 32 := 1#32
  let arg8 : BitVec 32 := Scf.iv c0_i32_33 c1_i32_35 k0_t2
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  v159
def k0_off5 (k0_t1 : Fin k0_t1_loop.trips) (k0_t2 : Fin (k0_t2_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c1_i32_35 : BitVec 32 := 1#32
  let arg8 : BitVec 32 := Scf.iv c0_i32_33 c1_i32_35 k0_t2
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v173 : Index := Scalar.indexCast v164
  let c0_50 : Index := 0#32
  ![v173.toNat, 0]
def k0_off6 (k0_t1 : Fin k0_t1_loop.trips) (k0_t2 : Fin (k0_t2_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c1_i32_35 : BitVec 32 := 1#32
  let arg8 : BitVec 32 := Scf.iv c0_i32_33 c1_i32_35 k0_t2
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v177 : Index := Scalar.indexCast v164
  let c128_52 : Index := 128#32
  ![v177.toNat, 128]
def k0_off7 (k0_t1 : Fin k0_t1_loop.trips) (k0_t2 : Fin (k0_t2_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c1_i32_35 : BitVec 32 := 1#32
  let arg8 : BitVec 32 := Scf.iv c0_i32_33 c1_i32_35 k0_t2
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v181 : Index := Scalar.indexCast v164
  let c256_54 : Index := 256#32
  ![v181.toNat, 256]
def k0_off8 (k0_t1 : Fin k0_t1_loop.trips) (k0_t2 : Fin (k0_t2_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c1_i32_35 : BitVec 32 := 1#32
  let arg8 : BitVec 32 := Scf.iv c0_i32_33 c1_i32_35 k0_t2
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v185 : Index := Scalar.indexCast v164
  let c384_56 : Index := 384#32
  ![v185.toNat, 384]
@[reducible] def k0_t3_loop (k0_t1 : Fin k0_t1_loop.trips) : Scf.Loop 32 :=
  let c0_i32_33 : BitVec 32 := 0#32
  let c0_i32 : BitVec 32 := 0#32
  let c1_i32 : BitVec 32 := 1#32
  let arg7 : BitVec 32 := Scf.iv c0_i32 c1_i32 k0_t1
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let v108 : BitVec 32 := Scalar.addi c0_i32_33 v107
  let c1_i32_36 : BitVec 32 := 1#32
  ⟨v111, v108, c1_i32_36⟩
def k0_mult6 (k0_t1 : Fin k0_t1_loop.trips) (k0_t3 : Fin (k0_t3_loop k0_t1).trips) : BitVec 32 :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg8 : BitVec 32 := Scf.iv v111 c1_i32_36 k0_t3
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  v159
def k0_off9 (k0_t1 : Fin k0_t1_loop.trips) (k0_t3 : Fin (k0_t3_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg8 : BitVec 32 := Scf.iv v111 c1_i32_36 k0_t3
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v173 : Index := Scalar.indexCast v164
  let c0_50 : Index := 0#32
  ![v173.toNat, 0]
def k0_off10 (k0_t1 : Fin k0_t1_loop.trips) (k0_t3 : Fin (k0_t3_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg8 : BitVec 32 := Scf.iv v111 c1_i32_36 k0_t3
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v177 : Index := Scalar.indexCast v164
  let c128_52 : Index := 128#32
  ![v177.toNat, 128]
def k0_off11 (k0_t1 : Fin k0_t1_loop.trips) (k0_t3 : Fin (k0_t3_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg8 : BitVec 32 := Scf.iv v111 c1_i32_36 k0_t3
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v181 : Index := Scalar.indexCast v164
  let c256_54 : Index := 256#32
  ![v181.toNat, 256]
def k0_off12 (k0_t1 : Fin k0_t1_loop.trips) (k0_t3 : Fin (k0_t3_loop k0_t1).trips) : Fin 2 → Nat :=
  let c0_i32 : BitVec 32 := 0#32
  let c1_i32 : BitVec 32 := 1#32
  let arg7 : BitVec 32 := Scf.iv c0_i32 c1_i32 k0_t1
  let c1_i32_41 : BitVec 32 := 1#32
  let v154 : BitVec 32 := Scalar.addi arg7 c1_i32_41
  let c2_i32_43 : BitVec 32 := 2#32
  let c0_i32_33 : BitVec 32 := 0#32
  let c2_i32 : BitVec 32 := 2#32
  let v89 : BitVec 32 := Scalar.addi arg7 c2_i32
  let c0_i32_27 : BitVec 32 := 0#32
  let v91 : BitVec 1 := Scalar.cmpi .sgt v89 c0_i32_27
  let v92 : BitVec 32 := Scalar.extui v91
  let c0_i32_28 : BitVec 32 := 0#32
  let v93 : BitVec 1 := Scalar.cmpi .slt v89 c0_i32_28
  let v94 : BitVec 32 := Scalar.extui v93
  let v95 : BitVec 32 := Scalar.subi v92 v94
  let c2_i32_26 : BitVec 32 := 2#32
  let c0_i32_29 : BitVec 32 := 0#32
  let v96 : BitVec 1 := Scalar.cmpi .sgt c2_i32_26 c0_i32_29
  let v97 : BitVec 32 := Scalar.extui v96
  let c0_i32_30 : BitVec 32 := 0#32
  let v98 : BitVec 1 := Scalar.cmpi .slt c2_i32_26 c0_i32_30
  let v99 : BitVec 32 := Scalar.extui v98
  let v100 : BitVec 32 := Scalar.subi v97 v99
  let v101 : BitVec 1 := Scalar.cmpi .ne v95 v100
  let v102 : BitVec 32 := Scalar.remsi v89 c2_i32_26
  let c0_i32_31 : BitVec 32 := 0#32
  let v103 : BitVec 1 := Scalar.cmpi .ne v102 c0_i32_31
  let v104 : BitVec 1 := Scalar.andi v101 v103
  let v90 : BitVec 32 := Scalar.divsi v89 c2_i32_26
  let c1_i32_32 : BitVec 32 := 1#32
  let v105 : BitVec 32 := Scalar.subi v90 c1_i32_32
  let v106 : BitVec 32 := Scalar.select v104 v105 v90
  let v107 : BitVec 32 := Scalar.subi v106 c0_i32_33
  let c1_i32_34 : BitVec 32 := 1#32
  let v109 : BitVec 32 := Scalar.divsi v107 c1_i32_34
  let v110 : BitVec 32 := Scalar.muli v109 c1_i32_34
  let v111 : BitVec 32 := Scalar.addi c0_i32_33 v110
  let c1_i32_36 : BitVec 32 := 1#32
  let arg8 : BitVec 32 := Scf.iv v111 c1_i32_36 k0_t3
  let c1_i32_42 : BitVec 32 := 1#32
  let v155 : BitVec 32 := Scalar.addi arg8 c1_i32_42
  let v156 : BitVec 32 := Scalar.muli c2_i32_43 v155
  let v157 : BitVec 32 := Scalar.subi v154 v156
  let c0_i32_44 : BitVec 32 := 0#32
  let v158 : BitVec 32 := Scalar.maxsi v157 c0_i32_44
  let c128_i32_45 : BitVec 32 := 128#32
  let v159 : BitVec 32 := Scalar.muli v158 c128_i32_45
  let v164 : BitVec 32 := v159
  let v185 : Index := Scalar.indexCast v164
  let c384_56 : Index := 384#32
  ![v185.toNat, 384]
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_37 : BitVec 32 := 128#32
  let v120 : BitVec 32 := Scalar.muli arg7 c128_i32_37
  v120
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_37 : BitVec 32 := 128#32
  let v120 : BitVec 32 := Scalar.muli arg7 c128_i32_37
  let v121 : BitVec 32 := v120
  let v122 : Index := Scalar.indexCast v121
  let c512 : Index := 512#32
  ![v122.toNat, 512]
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_38 : BitVec 32 := 128#32
  let v130 : BitVec 32 := Scalar.muli arg7 c128_i32_38
  v130
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_38 : BitVec 32 := 128#32
  let v130 : BitVec 32 := Scalar.muli arg7 c128_i32_38
  let v131 : BitVec 32 := v130
  let v132 : Index := Scalar.indexCast v131
  let c640 : Index := 640#32
  ![v132.toNat, 640]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_39 : BitVec 32 := 128#32
  let v140 : BitVec 32 := Scalar.muli arg7 c128_i32_39
  v140
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_39 : BitVec 32 := 128#32
  let v140 : BitVec 32 := Scalar.muli arg7 c128_i32_39
  let v141 : BitVec 32 := v140
  let v142 : Index := Scalar.indexCast v141
  let c768 : Index := 768#32
  ![v142.toNat, 768]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_40 : BitVec 32 := 128#32
  let v150 : BitVec 32 := Scalar.muli arg7 c128_i32_40
  v150
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_40 : BitVec 32 := 128#32
  let v150 : BitVec 32 := Scalar.muli arg7 c128_i32_40
  let v151 : BitVec 32 := v150
  let v152 : Index := Scalar.indexCast v151
  let c896 : Index := 896#32
  ![v152.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnFwdRefIdeal.lean ====
abbrev S4x2064x512 : Shape := ⟨3, ![4, 2064, 512]⟩
abbrev S4x2064x8x64 : Shape := ⟨4, ![4, 2064, 8, 64]⟩
abbrev S4x8x2064x64 : Shape := ⟨4, ![4, 8, 2064, 64]⟩
abbrev S4x8x2064x2064 : Shape := ⟨4, ![4, 8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x2064x1024 : Shape := ⟨3, ![4, 2064, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2064x512, .f32⟩
  | .hbm, ⟨1, _⟩ => ⟨S4x2064x512, .f32⟩
  | .hbm, ⟨2, _⟩ => ⟨S4x2064x512, .f32⟩
  | .hbm, ⟨3, _⟩ => ⟨S4x2064x512, .f32⟩
  | .hbm, ⟨4, _⟩ => ⟨S4x2064x8x64, .f32⟩
  | .hbm, ⟨5, _⟩ => ⟨S4x8x2064x64, .f32⟩
  | .hbm, ⟨6, _⟩ => ⟨S4x2064x8x64, .f32⟩
  | .hbm, ⟨7, _⟩ => ⟨S4x8x2064x64, .f32⟩
  | .hbm, ⟨8, _⟩ => ⟨S4x2064x8x64, .f32⟩
  | .hbm, ⟨9, _⟩ => ⟨S4x8x2064x64, .f32⟩
  | .hbm, ⟨10, _⟩ => ⟨S4x8x2064x2064, .f32⟩
  | .hbm, ⟨11, _⟩ => ⟨S_, .f32⟩
  | .hbm, ⟨12, _⟩ => ⟨S4x8x2064x2064, .f32⟩
  | .hbm, ⟨13, _⟩ => ⟨S4x8x2064x2064, .f32⟩
  | .hbm, ⟨14, _⟩ => ⟨S2064, .i32⟩
  | .hbm, ⟨15, _⟩ => ⟨S1x2064, .i32⟩
  | .hbm, ⟨16, _⟩ => ⟨S2064, .i32⟩
  | .hbm, ⟨17, _⟩ => ⟨S2064x1, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S4x8x2064x2064, .f32⟩
  | .hbm, ⟨22, _⟩ => ⟨S4x8x2064x2064, .f32⟩
  | .hbm, ⟨23, _⟩ => ⟨S_, .f32⟩
  | .hbm, ⟨24, _⟩ => ⟨S4x8x2064x2064, .f32⟩
  | .hbm, ⟨25, _⟩ => ⟨S4x8x2064x2064, .f32⟩
  | .hbm, ⟨26, _⟩ => ⟨S4x8x2064x2064, .f32⟩
  | .hbm, ⟨27, _⟩ => ⟨S4x8x2064x2064, .f32⟩
  | .hbm, ⟨28, _⟩ => ⟨S4x8x2064x2064, .i1⟩
  | .hbm, ⟨29, _⟩ => ⟨S4x8x2064x2064, .f32⟩
  | .hbm, ⟨30, _⟩ => ⟨S4x8x2064x2064, .f32⟩
  | .hbm, ⟨31, _⟩ => ⟨S4x8x2064x2064, .f32⟩
  | .hbm, ⟨32, _⟩ => ⟨S4x8x2064x2064, .f32⟩
  | .hbm, ⟨33, _⟩ => ⟨S4x8x2064x2064, .f32⟩
  | .hbm, ⟨34, _⟩ => ⟨S4x8x2064x2064, .f32⟩
  | .hbm, ⟨35, _⟩ => ⟨S4x8x2064x2064, .f32⟩
  | .hbm, ⟨36, _⟩ => ⟨S4x8x2064x2064, .f32⟩
  | .hbm, ⟨37, _⟩ => ⟨S4x8x2064x2064, .f32⟩
  | .hbm, ⟨38, _⟩ => ⟨S_, .f32⟩
  | .hbm, ⟨39, _⟩ => ⟨S_, .f32⟩
  | .hbm, ⟨40, _⟩ => ⟨S4x8x2064x2064, .i1⟩
  | .hbm, ⟨41, _⟩ => ⟨S4x8x2064x2064, .f32⟩
  | .hbm, ⟨42, _⟩ => ⟨S4x8x2064x2064, .f32⟩
  | .hbm, ⟨43, _⟩ => ⟨S_, .f32⟩
  | .hbm, ⟨44, _⟩ => ⟨S_, .f32⟩
  | .hbm, ⟨45, _⟩ => ⟨S4x8x2064x2064, .f32⟩
  | .hbm, ⟨46, _⟩ => ⟨S4x8x2064x2064, .f32⟩
  | .hbm, ⟨47, _⟩ => ⟨S4x8x2064x2064, .f32⟩
  | .hbm, ⟨48, _⟩ => ⟨S_, .f32⟩
  | .hbm, ⟨49, _⟩ => ⟨S4x8x2064x2064, .f32⟩
  | .hbm, ⟨50, _⟩ => ⟨S4x8x2064x2064, .f32⟩
  | .hbm, ⟨51, _⟩ => ⟨S4x8x2064x2064, .f32⟩
  | .hbm, ⟨52, _⟩ => ⟨S4x8x2064x2064, .f32⟩
  | .hbm, ⟨53, _⟩ => ⟨S4x8x2064x2064, .i1⟩
  | .hbm, ⟨54, _⟩ => ⟨S4x8x2064x2064, .f32⟩
  | .hbm, ⟨55, _⟩ => ⟨S4x8x2064x2064, .f32⟩
  | .hbm, ⟨56, _⟩ => ⟨S4x8x2064x2064, .f32⟩
  | .hbm, ⟨57, _⟩ => ⟨S4x8x2064x2064, .f32⟩
  | .hbm, ⟨58, _⟩ => ⟨S4x8x2064x2064, .f32⟩
  | .hbm, ⟨59, _⟩ => ⟨S4x8x2064x2064, .f32⟩
  | .hbm, ⟨60, _⟩ => ⟨S4x8x2064x2064, .f32⟩
  | .hbm, ⟨61, _⟩ => ⟨S4x8x2064x2064, .f32⟩
  | .hbm, ⟨62, _⟩ => ⟨S4x8x2064x2064, .f32⟩
  | .hbm, ⟨63, _⟩ => ⟨S4x8x2064x2064, .f32⟩
  | .hbm, ⟨64, _⟩ => ⟨S4x8x2064x2064, .f32⟩
  | .hbm, ⟨65, _⟩ => ⟨S_, .f32⟩
  | .hbm, ⟨66, _⟩ => ⟨S_, .f32⟩
  | .hbm, ⟨67, _⟩ => ⟨S4x8x2064x2064, .i1⟩
  | .hbm, ⟨68, _⟩ => ⟨S4x8x2064x2064, .f32⟩
  | .hbm, ⟨69, _⟩ => ⟨S4x8x2064x2064, .f32⟩
  | .hbm, ⟨70, _⟩ => ⟨S4x8x2064x64, .f32⟩
  | .hbm, ⟨71, _⟩ => ⟨S4x2064x8x64, .f32⟩
  | .hbm, ⟨72, _⟩ => ⟨S4x2064x512, .f32⟩
  | .hbm, ⟨73, _⟩ => ⟨S4x2064x1024, .f32⟩
  | _, _ => ⟨S4x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== MixerFwd.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x256 : Shape := ⟨2, ![1, 256]⟩
abbrev S8704x512 : Shape := ⟨2, ![8704, 512]⟩
abbrev S2176x1024 : Shape := ⟨2, ![2176, 1024]⟩
abbrev S2176x512 : Shape := ⟨2, ![2176, 512]⟩
abbrev S2176x256 : Shape := ⟨2, ![2176, 256]⟩

abbrev nBuf : Space → Nat
  | .hbm => 45
  | .vmem => 7
  | .smem => 0
  | _ => 0

abbrev bufTy : (tb : Table) → Fin (tcTables nBuf tb) → BufTy
  | .hbm, ⟨0, _⟩ => ⟨S4x2064x1024, .f32⟩
  | .hbm, ⟨1, _⟩ => ⟨S3x256, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .f32⟩
  | .hbm, ⟨38, _⟩ => ⟨S_, .f32⟩
  | .hbm, ⟨39, _⟩ => ⟨S4x112x1024, .f32⟩
  | .hbm, ⟨40, _⟩ => ⟨S4x2176x1024, .f32⟩
  | .hbm, ⟨41, _⟩ => ⟨S8704x1024, .f32⟩
  | .hbm, ⟨42, _⟩ => ⟨S256x256, .bf16⟩
  | .hbm, ⟨43, _⟩ => ⟨S1x256, .f32⟩
  | .hbm, ⟨44, _⟩ => ⟨S8704x512, .bf16⟩
  | .local _ .vmem, ⟨0, _⟩ => ⟨S2176x1024, .f32⟩
  | .local _ .vmem, ⟨1, _⟩ => ⟨S2176x1024, .f32⟩
  | .local _ .vmem, ⟨2, _⟩ => ⟨S3x256, .f32⟩
  | .local _ .vmem, ⟨3, _⟩ => ⟨S256x256, .bf16⟩
  | .local _ .vmem, ⟨4, _⟩ => ⟨S1x256, .f32⟩
  | .local _ .vmem, ⟨5, _⟩ => ⟨S2176x512, .bf16⟩
  | .local _ .vmem, ⟨6, _⟩ => ⟨S2176x512, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixerFwdRefIdeal.lean ====
abbrev S4x2064x1024 : Shape := ⟨3, ![4, 2064, 1024]⟩
abbrev S3x256 : Shape := ⟨2, ![3, 256]⟩
abbrev S4x64x64 : Shape := ⟨3, ![4, 64, 64]⟩
abbrev S256 : Shape := ⟨1, ![256]⟩
abbrev S4x2064x256 : Shape := ⟨3, ![4, 2064, 256]⟩
abbrev S_ : Shape := ⟨0, ![]⟩
abbrev S4x2x256 : Shape := ⟨3, ![4, 2, 256]⟩
abbrev S4x2066x256 : Shape := ⟨3, ![4, 2066, 256]⟩
abbrev S1x256 : Shape := ⟨2, ![1, 256]⟩
abbrev S1x1x256 : Shape := ⟨3, ![1, 1, 256]⟩
abbrev S4x2064x4x64 : Shape := ⟨4, ![4, 2064, 4, 64]⟩
abbrev S4x1x4x64 : Shape := ⟨4, ![4, 1, 4, 64]⟩
abbrev S4x2065x4x64 : Shape := ⟨4, ![4, 2065, 4, 64]⟩
abbrev S2064 : Shape := ⟨1, ![2064]⟩
abbrev S4x2064x1x64 : Shape := ⟨4, ![4, 2064, 1, 64]⟩
abbrev S4x2064x64 : Shape := ⟨3, ![4, 2064, 64]⟩
abbrev S2064x1 : Shape := ⟨2, ![2064, 1]⟩
abbrev S2064x2 : Shape := ⟨2, ![2064, 2]⟩
abbrev S1x2064x1 : Shape := ⟨3, ![1, 2064, 1]⟩
abbrev S4x64x4x2064 : Shape := ⟨4, ![4, 64, 4, 2064]⟩
abbrev S4x2064x512 : Shape := ⟨3, ![4, 2064, 512]⟩
abbrev S4x2176x512 : Shape := ⟨3, ![4, 2176, 512]⟩
abbrev S8704x512 : Shape := ⟨2, ![8704, 512]⟩

abbrev nBuf : Space → Nat
  | .hbm => 195
  | .vmem => 0
  | .smem => 0
  | _ => 0

abbrev hbmTy0_0 (i : Nat) : BufTy := match i % 128 with
  | 0 => ⟨S4x2064x1024, .f32⟩
  | 1 => ⟨S3x256, .f32⟩
  | 2 => ⟨S4x64x64, .f32⟩
  | 3 => ⟨S256, .f32⟩
  | 4 => ⟨S4x2064x256, .f32⟩
  | 5 => ⟨S4x2064x256, .f32⟩
  | 6 => ⟨S4x2064x256, .f32⟩
  | 7 => ⟨S4x2064x256, .f32⟩
  | 8 => ⟨S4x2064x256, .f32⟩
  | 9 => ⟨S_, .f32⟩
  | 10 => ⟨S4x2x256, .f32⟩
  | 11 => ⟨S4x2066x256, .f32⟩
  | 12 => ⟨S1x256, .f32⟩
  | 13 => ⟨S256, .f32⟩
  | 14 => ⟨S4x2064x256, .f32⟩
  | 15 => ⟨S1x1x256, .f32⟩
  | 16 => ⟨S4x2064x256, .f32⟩
  | 17 => ⟨S4x2064x256, .f32⟩
  | 18 => ⟨S1x256, .f32⟩
  | 19 => ⟨S256, .f32⟩
  | 20 => ⟨S4x2064x256, .f32⟩
  | 21 => ⟨S1x1x256, .f32⟩
  | 22 => ⟨S4x2064x256, .f32⟩
  | 23 => ⟨S4x2064x256, .f32⟩
  | 24 => ⟨S4x2064x256, .f32⟩
  | 25 => ⟨S1x256, .f32⟩
  | 26 => ⟨S256, .f32⟩
  | 27 => ⟨S4x2064x256, .f32⟩
  | 28 => ⟨S1x1x256, .f32⟩
  | 29 => ⟨S4x2064x256, .f32⟩
  | 30 => ⟨S4x2064x256, .f32⟩
  | 31 => ⟨S4x2064x256, .f32⟩
  | 32 => ⟨S4x2064x256, .f32⟩
  | 33 => ⟨S4x2064x4x64, .f32⟩
  | 34 => ⟨S_, .f32⟩
  | 35 => ⟨S4x1x4x64, .f32⟩
  | 36 => ⟨S_, .f32⟩
  | 37 => ⟨S_, .f32⟩
  | 38 => ⟨S4x2064x4x64, .f32⟩
  | 39 => ⟨S4x2065x4x64, .f32⟩
  | 40 => ⟨S2064, .i32⟩
  | 41 => ⟨S_, .i32⟩
  | 42 => ⟨S2064, .i32⟩
  | 43 => ⟨S2064, .i32⟩
  | 44 => ⟨S_, .i32⟩
  | 45 => ⟨S2064, .i32⟩
  | 46 => ⟨S2064, .i32⟩
  | 47 => ⟨S_, .i32⟩
  | 48 => ⟨S2064, .i32⟩
  | 49 => ⟨S2064, .i32⟩
  | 50 => ⟨S4x2064x1x64, .f32⟩
  | 51 => ⟨S4x2064x64, .f32⟩
  | 52 => ⟨S_, .i32⟩
  | 53 => ⟨S2064, .i32⟩
  | 54 => ⟨S2064, .i1⟩
  | 55 => ⟨S_, .i32⟩
  | 56 => ⟨S2064, .i32⟩
  | 57 => ⟨S2064, .i32⟩
  | 58 => ⟨S2064, .i32⟩
  | 59 => ⟨S_, .i32⟩
  | 60 => ⟨S2064, .i32⟩
  | 61 => ⟨S2064, .i32⟩
  | 62 => ⟨S2064x1, .i32⟩
  | 63 => ⟨S2064x1, .i32⟩
  | 64 => ⟨S2064x2, .i32⟩
  | 65 => ⟨S4x2064x64, .f32⟩
  | 66 => ⟨S4x2064x64, .f32⟩
  | 67 => ⟨S_, .i32⟩
  | 68 => ⟨S2064, .i32⟩
  | 69 => ⟨S2064, .i32⟩
  | 70 => ⟨S2064, .i32⟩
  | 71 => ⟨S2064, .f32⟩
  | 72 => ⟨S1x2064x1, .f32⟩
  | 73 => ⟨S4x2064x64, .f32⟩
  | 74 => ⟨S4x2064x64, .f32⟩
  | 75 => ⟨S_, .i32⟩
  | 76 => ⟨S2064, .i32⟩
  | 77 => ⟨S2064, .i32⟩
  | 78 => ⟨S_, .i32⟩
  | 79 => ⟨S2064, .i32⟩
  | 80 => ⟨S2064, .i32⟩
  | 81 => ⟨S_, .i32⟩
  | 82 => ⟨S2064, .i32⟩
  | 83 => ⟨S2064, .i32⟩
  | 84 => ⟨S4x2064x1x64, .f32⟩
  | 85 => ⟨S4x2064x64, .f32⟩
  | 86 => ⟨S_, .i32⟩
  | 87 => ⟨S2064, .i32⟩
  | 88 => ⟨S2064, .i1⟩
  | 89 => ⟨S_, .i32⟩
  | 90 => ⟨S2064, .i32⟩
  | 91 => ⟨S2064, .i32⟩
  | 92 => ⟨S2064, .i32⟩
  | 93 => ⟨S_, .i32⟩
  | 94 => ⟨S2064, .i32⟩
  | 95 => ⟨S2064, .i32⟩
  | 96 => ⟨S2064x1, .i32⟩
  | 97 => ⟨S2064x1, .i32⟩
  | 98 => ⟨S2064x2, .i32⟩
  | 99 => ⟨S4x2064x64, .f32⟩
  | 100 => ⟨S4x2064x64, .f32⟩
  | 101 => ⟨S_, .i32⟩
  | 102 => ⟨S2064, .i32⟩
  | 103 => ⟨S2064, .i32⟩
  | 104 => ⟨S2064, .i32⟩
  | 105 => ⟨S2064, .f32⟩
  | 106 => ⟨S1x2064x1, .f32⟩
  | 107 => ⟨S4x2064x64, .f32⟩
  | 108 => ⟨S4x2064x64, .f32⟩
  | 109 => ⟨S_, .i32⟩
  | 110 => ⟨S2064, .i32⟩
  | 111 => ⟨S2064, .i32⟩
  | 112 => ⟨S_, .i32⟩
  | 113 => ⟨S2064, .i32⟩
  | 114 => ⟨S2064, .i32⟩
  | 115 => ⟨S_, .i32⟩
  | 116 => ⟨S2064, .i32⟩
  | 117 => ⟨S2064, .i32⟩
  | 118 => ⟨S4x2064x1x64, .f32⟩
  | 119 => ⟨S4x2064x64, .f32⟩
  | 120 => ⟨S_, .i32⟩
  | 121 => ⟨S2064, .i32⟩
  | 122 => ⟨S2064, .i1⟩
  | 123 => ⟨S_, .i32⟩
  | 124 => ⟨S2064, .i32⟩
  | 125 => ⟨S2064, .i32⟩
  | 126 => ⟨S2064, .i32⟩
  | 127 => ⟨S_, .i32⟩
  | _ => ⟨S4x2064x1024, .f32⟩

abbrev hbmTy0_1 (i : Nat) : BufTy := match i % 128 with
  | 0 => ⟨S2064, .i32⟩
  | 1 => ⟨S2064, .i32⟩
  | 2 => ⟨S2064x1, .i32⟩
  | 3 => ⟨S2064x1, .i32⟩
  | 4 => ⟨S2064x2, .i32⟩
  | 5 => ⟨S4x2064x64, .f32⟩
  | 6 => ⟨S4x2064x64, .f32⟩
  | 7 => ⟨S_, .i32⟩
  | 8 => ⟨S2064, .i32⟩
  | 9 => ⟨S2064, .i32⟩
  | 10 => ⟨S2064, .i32⟩
  | 11 => ⟨S2064, .f32⟩
  | 12 => ⟨S1x2064x1, .f32⟩
  | 13 => ⟨S4x2064x64, .f32⟩
  | 14 => ⟨S4x2064x64, .f32⟩
  | 15 => ⟨S_, .i32⟩
  | 16 => ⟨S2064, .i32⟩
  | 17 => ⟨S2064, .i32⟩
  | 18 => ⟨S_, .i32⟩
  | 19 => ⟨S2064, .i32⟩
  | 20 => ⟨S2064, .i32⟩
  | 21 => ⟨S_, .i32⟩
  | 22 => ⟨S2064, .i32⟩
  | 23 => ⟨S2064, .i32⟩
  | 24 => ⟨S4x2064x1x64, .f32⟩
  | 25 => ⟨S4x2064x64, .f32⟩
  | 26 => ⟨S_, .i32⟩
  | 27 => ⟨S2064, .i32⟩
  | 28 => ⟨S2064, .i1⟩
  | 29 => ⟨S_, .i32⟩
  | 30 => ⟨S2064, .i32⟩
  | 31 => ⟨S2064, .i32⟩
  | 32 => ⟨S2064, .i32⟩
  | 33 => ⟨S_, .i32⟩
  | 34 => ⟨S2064, .i32⟩
  | 35 => ⟨S2064, .i32⟩
  | 36 => ⟨S2064x1, .i32⟩
  | 37 => ⟨S2064x1, .i32⟩
  | 38 => ⟨S2064x2, .i32⟩
  | 39 => ⟨S4x2064x64, .f32⟩
  | 40 => ⟨S4x2064x64, .f32⟩
  | 41 => ⟨S_, .i32⟩
  | 42 => ⟨S2064, .i32⟩
  | 43 => ⟨S2064, .i32⟩
  | 44 => ⟨S2064, .i32⟩
  | 45 => ⟨S2064, .f32⟩
  | 46 => ⟨S1x2064x1, .f32⟩
  | 47 => ⟨S4x2064x64, .f32⟩
  | 48 => ⟨S4x2064x64, .f32⟩
  | 49 => ⟨S4x2064x1x64, .f32⟩
  | 50 => ⟨S4x2064x1x64, .f32⟩
  | 51 => ⟨S4x2064x1x64, .f32⟩
  | 52 => ⟨S4x2064x1x64, .f32⟩
  | 53 => ⟨S4x2064x4x64, .f32⟩
  | 54 => ⟨S4x2064x4x64, .f32⟩
  | 55 => ⟨S4x64x4x2064, .f32⟩
  | 56 => ⟨S4x2064x4x64, .f32⟩
  | 57 => ⟨S4x2064x256, .f32⟩
  | 58 => ⟨S1x1x256, .f32⟩
  | 59 => ⟨S4x2064x256, .f32⟩
  | 60 => ⟨S4x2064x256, .f32⟩
  | 61 => ⟨S4x2064x512, .f32⟩
  | 62 => ⟨S_, .i32⟩
  | 63 => ⟨S_, .f32⟩
  | 64 => ⟨S4x2176x512, .f32⟩
  | 65 => ⟨S8704x512, .f32⟩
  | 66 => ⟨S8704x512, .bf16⟩
  | _ => ⟨S4x2064x1024, .f32⟩

abbrev hbmTy (i : Nat) : BufTy := match i / 128 with
  | 0 => hbmTy0_0 i
  | 1 => hbmTy0_1 i
  | _ => ⟨S4x2064x1024, .f32⟩

abbrev bufTy : (tb : Table) → Fin (tcTables nBuf tb) → BufTy
  | .hbm, ⟨i, _⟩ => hbmTy i
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_call0_cst : Ref sig .tc := ⟨.hbm, 36, rfl⟩
abbrev main_call0_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_7 : Ref sig .tc := ⟨.hbm, 75, rfl⟩
abbrev main_v60 : Ref sig .tc := ⟨.hbm, 76, rfl⟩
abbrev main_v61 : Ref sig .tc := ⟨.hbm, 77, rfl⟩
abbrev main_c_8 : Ref sig .tc := ⟨.hbm, 78, rfl⟩
abbrev main_v62 : Ref sig .tc := ⟨.hbm, 79, rfl⟩
abbrev main_v63 : Ref sig .tc := ⟨.hbm, 80, rfl⟩
abbrev main_c_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_10 : Ref sig .tc := ⟨.hbm, 86, rfl⟩
abbrev main_v68 : Ref sig .tc := ⟨.hbm, 87, rfl⟩
abbrev main_v69 : Ref sig .tc := ⟨.hbm, 88, rfl⟩
abbrev main_c_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_13 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_14 : Ref sig .tc := ⟨.hbm, 109, rfl⟩
abbrev main_v87 : Ref sig .tc := ⟨.hbm, 110, rfl⟩
abbrev main_v88 : Ref sig .tc := ⟨.hbm, 111, rfl⟩
abbrev main_c_15 : Ref sig .tc := ⟨.hbm, 112, rfl⟩
abbrev main_v89 : Ref sig .tc := ⟨.hbm, 113, rfl⟩
abbrev main_v90 : Ref sig .tc := ⟨.hbm, 114, rfl⟩
abbrev main_c_16 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_17 : Ref sig .tc := ⟨.hbm, 120, rfl⟩
abbrev main_v95 : Ref sig .tc := ⟨.hbm, 121, rfl⟩
abbrev main_v96 : Ref sig .tc := ⟨.hbm, 122, rfl⟩
abbrev main_c_18 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_19 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_20 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_c_21 : Ref sig .tc := ⟨.hbm, 143, rfl⟩
abbrev main_v114 : Ref sig .tc := ⟨.hbm, 144, rfl⟩
abbrev main_v115 : Ref sig .tc := ⟨.hbm, 145, rfl⟩
abbrev main_c_22 : Ref sig .tc := ⟨.hbm, 146, rfl⟩
abbrev main_v116 : Ref sig .tc := ⟨.hbm, 147, rfl⟩
abbrev main_v117 : Ref sig .tc := ⟨.hbm, 148, rfl⟩
abbrev main_c_23 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_c_24 : Ref sig .tc := ⟨.hbm, 154, rfl⟩
abbrev main_v122 : Ref sig .tc := ⟨.hbm, 155, rfl⟩
abbrev main_v123 : Ref sig .tc := ⟨.hbm, 156, rfl⟩
abbrev main_c_25 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_26 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_c_27 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_c_28 : Ref sig .tc := ⟨.hbm, 190, rfl⟩
abbrev main_call1_v0 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩

abbrev nD : Nat := 1
abbrev τ : Topo := Topo.v7x

variable {F : FTy → Type} [FloatOps F]
-- ==== InprojFwd.lean ====
abbrev S4x2064x1024 : Shape := ⟨3, ![4, 2064, 1024]⟩
abbrev S1024 : Shape := ⟨1, ![1024]⟩
abbrev S1024x2560 : Shape := ⟨2, ![1024, 2560]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S1024x1024 : Shape := ⟨2, ![1024, 1024]⟩
abbrev S1024x512 : Shape := ⟨2, ![1024, 512]⟩
abbrev S8704x512 : Shape := ⟨2, ![8704, 512]⟩
abbrev S1088x1024 : Shape := ⟨2, ![1088, 1024]⟩
abbrev S1088x512 : Shape := ⟨2, ![1088, 512]⟩
abbrev S1088 : Shape := ⟨1, ![1088]⟩
abbrev S1088x1 : Shape := ⟨2, ![1088, 1]⟩

abbrev nBuf : Space → Nat
  | .hbm => 18
  | .vmem => 17
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S_, .f32⟩
  | .hbm, ⟨5, _⟩ => ⟨S4x112x1024, .f32⟩
  | .hbm, ⟨6, _⟩ => ⟨S4x2176x1024, .f32⟩
  | .hbm, ⟨7, _⟩ => ⟨S8704x1024, .f32⟩
  | .hbm, ⟨8, _⟩ => ⟨S1x1024, .f32⟩
  | .hbm, ⟨9, _⟩ => ⟨S1024x1024, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S8704x1024, .f32⟩
  | .hbm, ⟨14, _⟩ => ⟨S8704x512, .bf16⟩
  | .hbm, ⟨15, _⟩ => ⟨S8704x512, .bf16⟩
  | .hbm, ⟨16, _⟩ => ⟨S8704x512, .bf16⟩
  | .hbm, ⟨17, _⟩ => ⟨S8704x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1088x1024, .f32⟩
  | .local _ .vmem, ⟨8, _⟩ => ⟨S1088x1024, .f32⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | .local _ .vmem, ⟨12, _⟩ => ⟨S1088x512, .bf16⟩
  | .local _ .vmem, ⟨13, _⟩ => ⟨S1088x512, .bf16⟩
  | .local _ .vmem, ⟨14, _⟩ => ⟨S1088x512, .bf16⟩
  | .local _ .vmem, ⟨15, _⟩ => ⟨S1088x1024, .bf16⟩
  | .local _ .vmem, ⟨16, _⟩ => ⟨S1088x1024, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1088x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1088x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojFwdRefIdeal.lean ====
abbrev S4x2064x1024 : Shape := ⟨3, ![4, 2064, 1024]⟩
abbrev S1024 : Shape := ⟨1, ![1024]⟩
abbrev S1024x2560 : Shape := ⟨2, ![1024, 2560]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S4x2064x2560 : Shape := ⟨3, ![4, 2064, 2560]⟩
abbrev S4x2064x512 : Shape := ⟨3, ![4, 2064, 512]⟩
abbrev S4x2176x1024 : Shape := ⟨3, ![4, 2176, 1024]⟩
abbrev S8704x1024 : Shape := ⟨2, ![8704, 1024]⟩
abbrev S4x2176x512 : Shape := ⟨3, ![4, 2176, 512]⟩
abbrev S8704x512 : Shape := ⟨2, ![8704, 512]⟩

abbrev nBuf : Space → Nat
  | .hbm => 48
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S1024, .f32⟩
  | .hbm, ⟨2, _⟩ => ⟨S1024x2560, .f32⟩
  | .hbm, ⟨3, _⟩ => ⟨S4x2064x1024, .f32⟩
  | .hbm, ⟨4, _⟩ => ⟨S_, .f32⟩
  | .hbm, ⟨5, _⟩ => ⟨S4x2064, .f32⟩
  | .hbm, ⟨6, _⟩ => ⟨S4x2064x1, .f32⟩
  | .hbm, ⟨7, _⟩ => ⟨S_, .f32⟩
  | .hbm, ⟨8, _⟩ => ⟨S4x2064x1, .f32⟩
  | .hbm, ⟨9, _⟩ => ⟨S4x2064x1, .f32⟩
  | .hbm, ⟨10, _⟩ => ⟨S_, .f32⟩
  | .hbm, ⟨11, _⟩ => ⟨S4x2064x1, .f32⟩
  | .hbm, ⟨12, _⟩ => ⟨S4x2064x1, .f32⟩
  | .hbm, ⟨13, _⟩ => ⟨S4x2064x1, .f32⟩
  | .hbm, ⟨14, _⟩ => ⟨S4x2064x1024, .f32⟩
  | .hbm, ⟨15, _⟩ => ⟨S4x2064x1024, .f32⟩
  | .hbm, ⟨16, _⟩ => ⟨S1x1x1024, .f32⟩
  | .hbm, ⟨17, _⟩ => ⟨S4x2064x1024, .f32⟩
  | .hbm, ⟨18, _⟩ => ⟨S4x2064x1024, .f32⟩
  | .hbm, ⟨19, _⟩ => ⟨S4x2064x2560, .f32⟩
  | .hbm, ⟨20, _⟩ => ⟨S4x2064x1024, .f32⟩
  | .hbm, ⟨21, _⟩ => ⟨S4x2064x512, .f32⟩
  | .hbm, ⟨22, _⟩ => ⟨S4x2064x512, .f32⟩
  | .hbm, ⟨23, _⟩ => ⟨S4x2064x512, .f32⟩
  | .hbm, ⟨24, _⟩ => ⟨S_, .i32⟩
  | .hbm, ⟨25, _⟩ => ⟨S_, .f32⟩
  | .hbm, ⟨26, _⟩ => ⟨S4x2176x1024, .f32⟩
  | .hbm, ⟨27, _⟩ => ⟨S8704x1024, .f32⟩
  | .hbm, ⟨28, _⟩ => ⟨S_, .i32⟩
  | .hbm, ⟨29, _⟩ => ⟨S_, .f32⟩
  | .hbm, ⟨30, _⟩ => ⟨S4x2176x512, .f32⟩
  | .hbm, ⟨31, _⟩ => ⟨S8704x512, .f32⟩
  | .hbm, ⟨32, _⟩ => ⟨S8704x512, .bf16⟩
  | .hbm, ⟨33, _⟩ => ⟨S_, .i32⟩
  | .hbm, ⟨34, _⟩ => ⟨S_, .f32⟩
  | .hbm, ⟨35, _⟩ => ⟨S4x2176x512, .f32⟩
  | .hbm, ⟨36, _⟩ => ⟨S8704x512, .f32⟩
  | .hbm, ⟨37, _⟩ => ⟨S8704x512, .bf16⟩
  | .hbm, ⟨38, _⟩ => ⟨S_, .i32⟩
  | .hbm, ⟨39, _⟩ => ⟨S_, .f32⟩
  | .hbm, ⟨40, _⟩ => ⟨S4x2176x512, .f32⟩
  | .hbm, ⟨41, _⟩ => ⟨S8704x512, .f32⟩
  | .hbm, ⟨42, _⟩ => ⟨S8704x512, .bf16⟩
  | .hbm, ⟨43, _⟩ => ⟨S_, .i32⟩
  | .hbm, ⟨44, _⟩ => ⟨S_, .f32⟩
  | .hbm, ⟨45, _⟩ => ⟨S4x2176x1024, .f32⟩
  | .hbm, ⟨46, _⟩ => ⟨S8704x1024, .f32⟩
  | .hbm, ⟨47, _⟩ => ⟨S8704x1024, .bf16⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call3_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_call4_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Outproj.lean ====
abbrev S4x2064x1024 : Shape := ⟨3, ![4, 2064, 1024]⟩
abbrev S1024x1024 : Shape := ⟨2, ![1024, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S512x1024 : Shape := ⟨2, ![512, 1024]⟩
abbrev S8704x512 : Shape := ⟨2, ![8704, 512]⟩
abbrev S1088x1024 : Shape := ⟨2, ![1088, 1024]⟩
abbrev S1088x512 : Shape := ⟨2, ![1088, 512]⟩

abbrev nBuf : Space → Nat
  | .hbm => 11
  | .vmem => 8
  | .smem => 0
  | _ => 0

abbrev bufTy : (tb : Table) → Fin (tcTables nBuf tb) → BufTy
  | .hbm, ⟨0, _⟩ => ⟨S4x2064x1024, .f32⟩
  | .hbm, ⟨1, _⟩ => ⟨S1024x1024, .f32⟩
  | .hbm, ⟨2, _⟩ => ⟨S1024x1024, .bf16⟩
  | .hbm, ⟨3, _⟩ => ⟨S_, .f32⟩
  | .hbm, ⟨4, _⟩ => ⟨S4x112x1024, .f32⟩
  | .hbm, ⟨5, _⟩ => ⟨S4x2176x1024, .f32⟩
  | .hbm, ⟨6, _⟩ => ⟨S8704x1024, .f32⟩
  | .hbm, ⟨7, _⟩ => ⟨S512x1024, .bf16⟩
  | .hbm, ⟨8, _⟩ => ⟨S512x1024, .bf16⟩
  | .hbm, ⟨9, _⟩ => ⟨S8704x512, .f32⟩
  | .hbm, ⟨10, _⟩ => ⟨S8704x512, .bf16⟩
  | .local _ .vmem, ⟨0, _⟩ => ⟨S1088x1024, .f32⟩
  | .local _ .vmem, ⟨1, _⟩ => ⟨S1088x1024, .f32⟩
  | .local _ .vmem, ⟨2, _⟩ => ⟨S512x1024, .bf16⟩
  | .local _ .vmem, ⟨3, _⟩ => ⟨S512x1024, .bf16⟩
  | .local _ .vmem, ⟨4, _⟩ => ⟨S1088x512, .f32⟩
  | .local _ .vmem, ⟨5, _⟩ => ⟨S1088x512, .f32⟩
  | .local _ .vmem, ⟨6, _⟩ => ⟨S1088x512, .bf16⟩
  | .local _ .vmem, ⟨7, _⟩ => ⟨S1088x512, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojRefIdeal.lean ====
abbrev S4x2064x1024 : Shape := ⟨3, ![4, 2064, 1024]⟩
abbrev S1024x1024 : Shape := ⟨2, ![1024, 1024]⟩
abbrev S_ : Shape := ⟨0, ![]⟩
abbrev S4x2064x512 : Shape := ⟨3, ![4, 2064, 512]⟩
abbrev S4x2176x512 : Shape := ⟨3, ![4, 2176, 512]⟩
abbrev S8704x512 : Shape := ⟨2, ![8704, 512]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S1024x1024, .f32⟩
  | .hbm, ⟨2, _⟩ => ⟨S_, .f32⟩
  | .hbm, ⟨3, _⟩ => ⟨S4x2064x1024, .f32⟩
  | .hbm, ⟨4, _⟩ => ⟨S4x2064x1024, .f32⟩
  | .hbm, ⟨5, _⟩ => ⟨S4x2064x1024, .f32⟩
  | .hbm, ⟨6, _⟩ => ⟨S4x2064x512, .f32⟩
  | .hbm, ⟨7, _⟩ => ⟨S_, .i32⟩
  | .hbm, ⟨8, _⟩ => ⟨S_, .f32⟩
  | .hbm, ⟨9, _⟩ => ⟨S4x2176x512, .f32⟩
  | .hbm, ⟨10, _⟩ => ⟨S8704x512, .f32⟩
  | .hbm, ⟨11, _⟩ => ⟨S4x2064x512, .f32⟩
  | .hbm, ⟨12, _⟩ => ⟨S_, .i32⟩
  | .hbm, ⟨13, _⟩ => ⟨S_, .f32⟩
  | .hbm, ⟨14, _⟩ => ⟨S4x2176x512, .f32⟩
  | .hbm, ⟨15, _⟩ => ⟨S8704x512, .f32⟩
  | .hbm, ⟨16, _⟩ => ⟨S8704x512, .bf16⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Adamw.lean ====
abbrev S2048x512 : Shape := ⟨2, ![2048, 512]⟩
abbrev S8x2048x512 : Shape := ⟨3, ![8, 2048, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S8x2048x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S2048x512 : Shape := ⟨2, ![2048, 512]⟩
abbrev S8x2048x512 : Shape := ⟨3, ![8, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S8x2048x512, .bf16⟩
  | .hbm, ⟨2, _⟩ => ⟨S2048x512, .f32⟩
  | .hbm, ⟨3, _⟩ => ⟨S2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumMeta.lean ====
abbrev S4x16x1024 : Shape := ⟨3, ![4, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x16x1024, .f32⟩
  | .hbm, ⟨1, _⟩ => ⟨S16x1024, .f32⟩
  | .local _ .vmem, ⟨0, _⟩ => ⟨S4x16x1024, .f32⟩
  | .local _ .vmem, ⟨1, _⟩ => ⟨S16x1024, .f32⟩
  | _, _ => ⟨S4x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMetaRefIdeal.lean ====
abbrev S4x16x1024 : Shape := ⟨3, ![4, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x16x1024, .f32⟩
  | .hbm, ⟨1, _⟩ => ⟨S_, .f32⟩
  | .hbm, ⟨2, _⟩ => ⟨S16x1024, .f32⟩
  | _, _ => ⟨S4x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradW.lean ====
abbrev S4x2064x1024 : Shape := ⟨3, ![4, 2064, 1024]⟩
abbrev S4x2064x4096 : Shape := ⟨3, ![4, 2064, 4096]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S4x112x4096 : Shape := ⟨3, ![4, 112, 4096]⟩
abbrev S4x2176x4096 : Shape := ⟨3, ![4, 2176, 4096]⟩
abbrev S8704x4096 : Shape := ⟨2, ![8704, 4096]⟩
abbrev S1024x4096 : Shape := ⟨2, ![1024, 4096]⟩
abbrev S512x1024 : Shape := ⟨2, ![512, 1024]⟩
abbrev S512x4096 : Shape := ⟨2, ![512, 4096]⟩

abbrev nBuf : Space → Nat
  | .hbm => 13
  | .vmem => 6
  | .smem => 0
  | _ => 0

abbrev bufTy : (tb : Table) → Fin (tcTables nBuf tb) → BufTy
  | .hbm, ⟨0, _⟩ => ⟨S4x2064x1024, .f32⟩
  | .hbm, ⟨1, _⟩ => ⟨S4x2064x4096, .f32⟩
  | .hbm, ⟨2, _⟩ => ⟨S_, .f32⟩
  | .hbm, ⟨3, _⟩ => ⟨S4x112x1024, .f32⟩
  | .hbm, ⟨4, _⟩ => ⟨S4x2176x1024, .f32⟩
  | .hbm, ⟨5, _⟩ => ⟨S8704x1024, .f32⟩
  | .hbm, ⟨6, _⟩ => ⟨S8704x1024, .bf16⟩
  | .hbm, ⟨7, _⟩ => ⟨S_, .f32⟩
  | .hbm, ⟨8, _⟩ => ⟨S4x112x4096, .f32⟩
  | .hbm, ⟨9, _⟩ => ⟨S4x2176x4096, .f32⟩
  | .hbm, ⟨10, _⟩ => ⟨S8704x4096, .f32⟩
  | .hbm, ⟨11, _⟩ => ⟨S8704x4096, .bf16⟩
  | .hbm, ⟨12, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S1024x4096, .bf16⟩
  | .local _ .vmem, ⟨5, _⟩ => ⟨S1024x4096, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 17], ![false, false]⟩

def k0_cond2 (i : grid0.Coords) : BitVec 1 :=
  let arg1 : BitVec 32 := BitVec.ofNat 32 (i 1).val
  let c16_i32 : BitVec 32 := 16#32
  let v13 : BitVec 1 := Scalar.cmpi .eq arg1 c16_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWRefIdeal.lean ====
abbrev S4x2064x1024 : Shape := ⟨3, ![4, 2064, 1024]⟩
abbrev S4x2064x4096 : Shape := ⟨3, ![4, 2064, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x4096, .f32⟩
  | .hbm, ⟨2, _⟩ => ⟨S_, .f32⟩
  | .hbm, ⟨3, _⟩ => ⟨S1024x4096, .f32⟩
  | .hbm, ⟨4, _⟩ => ⟨S4x2064x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpFwd.lean ====
abbrev S4x2064x1024 : Shape := ⟨3, ![4, 2064, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S2x1024x8x512 : Shape := ⟨4, ![2, 1024, 8, 512]⟩
abbrev S8x2x1024x512 : Shape := ⟨4, ![8, 2, 1024, 512]⟩
abbrev S2x8x512x1024 : Shape := ⟨4, ![2, 8, 512, 1024]⟩
abbrev S8x2x512x1024 : Shape := ⟨4, ![8, 2, 512, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S1088x1024 : Shape := ⟨2, ![1088, 1024]⟩
abbrev S1x1x1024x512 : Shape := ⟨4, ![1, 1, 1024, 512]⟩
abbrev S1x1x512x1024 : Shape := ⟨4, ![1, 1, 512, 1024]⟩
abbrev S1088 : Shape := ⟨1, ![1088]⟩
abbrev S1088x1 : Shape := ⟨2, ![1088, 1]⟩
abbrev S1024x512 : Shape := ⟨2, ![1024, 512]⟩
abbrev S1088x512 : Shape := ⟨2, ![1088, 512]⟩
abbrev S512x1024 : Shape := ⟨2, ![512, 1024]⟩

abbrev nBuf : Space → Nat
  | .hbm => 26
  | .vmem => 17
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S1024x1024, .f32⟩
  | .hbm, ⟨3, _⟩ => ⟨S1024, .f32⟩
  | .hbm, ⟨4, _⟩ => ⟨S2x1024x4096, .f32⟩
  | .hbm, ⟨5, _⟩ => ⟨S2x4096x1024, .f32⟩
  | .hbm, ⟨6, _⟩ => ⟨S2x1024x8x512, .f32⟩
  | .hbm, ⟨7, _⟩ => ⟨S8x2x1024x512, .f32⟩
  | .hbm, ⟨8, _⟩ => ⟨S8x2x1024x512, .bf16⟩
  | .hbm, ⟨9, _⟩ => ⟨S2x8x512x1024, .f32⟩
  | .hbm, ⟨10, _⟩ => ⟨S8x2x512x1024, .f32⟩
  | .hbm, ⟨11, _⟩ => ⟨S8x2x512x1024, .bf16⟩
  | .hbm, ⟨12, _⟩ => ⟨S_, .f32⟩
  | .hbm, ⟨13, _⟩ => ⟨S4x112x1024, .f32⟩
  | .hbm, ⟨14, _⟩ => ⟨S4x2176x1024, .f32⟩
  | .hbm, ⟨15, _⟩ => ⟨S8704x1024, .f32⟩
  | .hbm, ⟨16, _⟩ => ⟨S_, .f32⟩
  | .hbm, ⟨17, _⟩ => ⟨S4x112x1024, .f32⟩
  | .hbm, ⟨18, _⟩ => ⟨S4x2176x1024, .f32⟩
  | .hbm, ⟨19, _⟩ => ⟨S8704x1024, .f32⟩
  | .hbm, ⟨20, _⟩ => ⟨S8704x1024, .bf16⟩
  | .hbm, ⟨21, _⟩ => ⟨S1024x1024, .bf16⟩
  | .hbm, ⟨22, _⟩ => ⟨S1x1024, .f32⟩
  | .hbm, ⟨23, _⟩ => ⟨S8704x1024, .f32⟩
  | .hbm, ⟨24, _⟩ => ⟨S8704x1024, .bf16⟩
  | .hbm, ⟨25, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | .local _ .vmem, ⟨15, _⟩ => ⟨S1088x1024, .f32⟩
  | .local _ .vmem, ⟨16, _⟩ => ⟨S1088x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_16 : BitVec 32 := 0#32
  let v22 : BitVec 1 := Scalar.cmpi .ne v21 c0_i32_16
  v22

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1088x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpFwdRefIdeal.lean ====
abbrev S4x2064x1024 : Shape := ⟨3, ![4, 2064, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x2064x4096 : Shape := ⟨3, ![4, 2064, 4096]⟩
abbrev S1x4096x1024 : Shape := ⟨3, ![1, 4096, 1024]⟩
abbrev S4096x1024 : Shape := ⟨2, ![4096, 1024]⟩
abbrev S4x2176x1024 : Shape := ⟨3, ![4, 2176, 1024]⟩
abbrev S8704x1024 : Shape := ⟨2, ![8704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S1024x1024, .f32⟩
  | .hbm, ⟨3, _⟩ => ⟨S1024, .f32⟩
  | .hbm, ⟨4, _⟩ => ⟨S2x1024x4096, .f32⟩
  | .hbm, ⟨5, _⟩ => ⟨S2x4096x1024, .f32⟩
  | .hbm, ⟨6, _⟩ => ⟨S4x2064x1024, .f32⟩
  | .hbm, ⟨7, _⟩ => ⟨S4x2064x1024, .f32⟩
  | .hbm, ⟨8, _⟩ => ⟨S4x2064x1024, .f32⟩
  | .hbm, ⟨9, _⟩ => ⟨S_, .f32⟩
  | .hbm, ⟨10, _⟩ => ⟨S4x2064, .f32⟩
  | .hbm, ⟨11, _⟩ => ⟨S4x2064x1, .f32⟩
  | .hbm, ⟨12, _⟩ => ⟨S_, .f32⟩
  | .hbm, ⟨13, _⟩ => ⟨S4x2064x1, .f32⟩
  | .hbm, ⟨14, _⟩ => ⟨S4x2064x1, .f32⟩
  | .hbm, ⟨15, _⟩ => ⟨S_, .f32⟩
  | .hbm, ⟨16, _⟩ => ⟨S4x2064x1, .f32⟩
  | .hbm, ⟨17, _⟩ => ⟨S4x2064x1, .f32⟩
  | .hbm, ⟨18, _⟩ => ⟨S4x2064x1, .f32⟩
  | .hbm, ⟨19, _⟩ => ⟨S4x2064x1024, .f32⟩
  | .hbm, ⟨20, _⟩ => ⟨S4x2064x1024, .f32⟩
  | .hbm, ⟨21, _⟩ => ⟨S1x1x1024, .f32⟩
  | .hbm, ⟨22, _⟩ => ⟨S4x2064x1024, .f32⟩
  | .hbm, ⟨23, _⟩ => ⟨S4x2064x1024, .f32⟩
  | .hbm, ⟨24, _⟩ => ⟨S1x1024x4096, .f32⟩
  | .hbm, ⟨25, _⟩ => ⟨S1024x4096, .f32⟩
  | .hbm, ⟨26, _⟩ => ⟨S4x2064x4096, .f32⟩
  | .hbm, ⟨27, _⟩ => ⟨S_, .f32⟩
  | .hbm, ⟨28, _⟩ => ⟨S4x2064x4096, .f32⟩
  | .hbm, ⟨29, _⟩ => ⟨S4x2064x4096, .f32⟩
  | .hbm, ⟨30, _⟩ => ⟨S4x2064x4096, .f32⟩
  | .hbm, ⟨31, _⟩ => ⟨S1x4096x1024, .f32⟩
  | .hbm, ⟨32, _⟩ => ⟨S4096x1024, .f32⟩
  | .hbm, ⟨33, _⟩ => ⟨S4x2064x1024, .f32⟩
  | .hbm, ⟨34, _⟩ => ⟨S4x2064x1024, .f32⟩
  | .hbm, ⟨35, _⟩ => ⟨S_, .i32⟩
  | .hbm, ⟨36, _⟩ => ⟨S_, .f32⟩
  | .hbm, ⟨37, _⟩ => ⟨S4x2176x1024, .f32⟩
  | .hbm, ⟨38, _⟩ => ⟨S8704x1024, .f32⟩
  | .hbm, ⟨39, _⟩ => ⟨S_, .i32⟩
  | .hbm, ⟨40, _⟩ => ⟨S_, .f32⟩
  | .hbm, ⟨41, _⟩ => ⟨S4x2176x1024, .f32⟩
  | .hbm, ⟨42, _⟩ => ⟨S8704x1024, .f32⟩
  | .hbm, ⟨43, _⟩ => ⟨S8704x1024, .bf16⟩
  | .hbm, ⟨44, _⟩ => ⟨S_, .i32⟩
  | .hbm, ⟨45, _⟩ => ⟨S_, .f32⟩
  | .hbm, ⟨46, _⟩ => ⟨S4x2176x1024, .f32⟩
  | .hbm, ⟨47, _⟩ => ⟨S8704x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Reals.lean ====
/-
  The extended reals a program computes on finite arguments are real numbers: sums, quotients and reciprocal square roots
  of reals read as reals, the constants of the two programs as real numbers, and the precondition read as "every entry is
  a real number".
-/
module

public import Idealize.ShloMosaic.Lib.Pointwise
public import Idealize.ShloMosaic.Lib.ReduceAll

@[expose] public section

noncomputable section

open Idealize.ShloMosaic

namespace Cert

/-! An index is made of its coordinates. -/

theorem ex2 {a b : ℕ} (i : (⟨2, ![a, b]⟩ : Shape).Idx) : ∃ (r : Fin a) (j : Fin b), i = ix2 r j := ⟨i 0, i 1, by funext a; fin_cases a <;> rfl⟩
theorem ex3 {a b c : ℕ} (i : (⟨3, ![a, b, c]⟩ : Shape).Idx) : ∃ (r : Fin a) (s : Fin b) (t : Fin c), i = ix3 r s t :=
  ⟨i 0, i 1, i 2, by funext a; fin_cases a <;> rfl⟩

/-- Two coordinates that are zero. -/
theorem hz : (![0, 0] : Fin 2 → Nat) = fun _ => 0 := funext fun a => by fin_cases a <;> rfl

/-- The block at the origin starts at the origin. -/
theorem at_origin {p s : Fin 2 → ℕ} (h : p 0 = 0 ∧ p 1 = 0) : (fun a => p a * s a) = fun _ => 0 :=
  funext fun a => by fin_cases a; exacts [mul_eq_zero_of_left h.1 _, mul_eq_zero_of_left h.2 _]

namespace Reals

/-- A finite sum of reals, taken in the extended reals, is the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real is the real quotient. -/
theorem div_real {y : ℝ} (hy : y ≠ 0) (x : ℝ) : Ideal.div (x : EReal) (y : EReal) = ((x / y : ℝ) : EReal) := by
  rw [Ideal.div_coe hy, ← EReal.coe_mul, mul_one_div]

/-- The reciprocal square root of a positive real. -/
theorem rsqrt_real {x : ℝ} (hx : 0 < x) : Ideal.rsqrt (x : EReal) = (((Real.sqrt x)⁻¹ : ℝ) : EReal) := by
  rw [Ideal.rsqrt_coe, if_neg (not_lt.2 hx.le), if_neg hx.ne']

/-- The small number the norms add to the mean square. -/
def eps : ℝ := 8796093 / 8796093022208

theorem eps_pos : 0 < eps := by unfold eps; positivity

theorem ofBits_eps : Ideal.ofBits .f32 0x358637BD#32 = ((eps : ℝ) : EReal) := by
  simp [Ideal.ofBits, Ideal.ieee, eps]; norm_num; norm_cast; norm_num
theorem ofBits_1024 : Ideal.ofBits .f32 0x44800000#32 = ((1024 : ℝ) : EReal) := by
  simp [Ideal.ofBits, Ideal.ieee]; norm_num; norm_cast; norm_num
theorem ofBits_neg_half : Ideal.ofBits .f32 0xBF000000#32 = ((-(1 / 2) : ℝ) : EReal) := by
  simp [Ideal.ofBits, Ideal.ieee]; norm_num; norm_cast; norm_num
theorem ofBits_half : Ideal.ofBits .f32 0x3F000000#32 = ((1 / 2 : ℝ) : EReal) := by
  simp [Ideal.ofBits, Ideal.ieee]; norm_num; norm_cast; norm_num
theorem ofBits_two : Ideal.ofBits .f32 0x40000000#32 = ((2 : ℝ) : EReal) := by
  simp [Ideal.ofBits, Ideal.ieee]; norm_num; norm_cast; norm_num
theorem ofBits_inv_2048 : Ideal.ofBits .f32 0x3A000000#32 = ((1 / 2048 : ℝ) : EReal) := by
  simp [Ideal.ofBits, Ideal.ieee]; norm_num; norm_cast; norm_num
theorem ofBits_inv_1024 : Ideal.ofBits .f32 0x3A800000#32 = ((1 / 1024 : ℝ) : EReal) := by
  simp [Ideal.ofBits, Ideal.ieee]; norm_num; norm_cast; norm_num
theorem ofBits_inf : Ideal.ofBits .f32 0x7F800000#32 = ⊤ := by
  simp [Ideal.ofBits, Ideal.ieee]

/-- Below infinity in absolute value: a real number. -/
theorem real_of_abs_lt (a : EReal) (h : Ideal.cmp .olt (max a (-a)) ⊤ = 1#1) : ∃ r : ℝ, a = (r : EReal) := by
  induction a using EReal.rec with
  | coe r => exact ⟨r, rfl⟩
  | bot => simp [Ideal.cmp] at h
  | top => simp [Ideal.cmp] at h

/-- An array every entry of which is a real number. -/
def IsReal {s : Shape} (x : s.Idx → EReal) : Prop := ∀ i, ∃ r : ℝ, x i = (r : EReal)

/-- The real numbers an array of real entries holds. -/
def re {s : Shape} (x : s.Idx → EReal) (i : s.Idx) : ℝ := (x i).toReal

theorem IsReal.eq {s : Shape} {x : s.Idx → EReal} (h : IsReal x) (i : s.Idx) : x i = (re x i : EReal) := by
  obtain ⟨r, hr⟩ := h i
  rw [re, hr, EReal.toReal_coe]

/-- The predicate "all entries are below infinity in absolute value", as the host prints it, says every entry is real. -/
theorem isReal_of_all {s : Shape} {axes : List (Fin s.rank)} (x : FVec Ideal s .f32)
    (y : FVec Ideal s .f32) (hy : ∀ i, y i = ⊤)
    (c : IVec ⟨0, ![]⟩ 1) (hr : s.ReducesTo axes ⟨0, ![]⟩) (hu : 0 < (⟨0, ![]⟩ : Shape).numel) (j : (⟨0, ![]⟩ : Shape).Idx)
    (h : Host.reduce IntOp.andi (cmpf .olt (Host.absf x) y) c hr hu j = 1#1) : IsReal x := by
  intro i
  have hs : Subsingleton (⟨0, ![]⟩ : Shape).Idx := ⟨fun a b => funext fun k => k.elim0⟩
  have h1 := Host.reduce_andi_all (cmpf .olt (Host.absf x) y) c hr hu j h i
  refine real_of_abs_lt (x i) ?_
  rw [← hy i]
  exact h1

end Reals

end Cert
-- ==== Proof.Padded.lean ====
/-
  The padded rows: every sequence of 2064 rows has 112 rows of zeros in front of it, 8704 rows in all. Sums over the
  padded rows, and sums over the blocks of rows that a grid walks through, are sums over the rows of the sequences.
-/
module

public import proofs.«01_k».proof.Proof.Reals

@[expose] public section

noncomputable section

namespace Cert.Padded

open Idealize.ShloMosaic

variable {ι α : Type*}

/-- The sequence that a padded row is in. -/
def sq (R : ℕ) : Fin 4 := ⟨R / 2176 % 4, Nat.mod_lt _ (by norm_num)⟩

/-- The row of its sequence that a padded row is. -/
def rowOf (R : ℕ) : Fin 2064 := ⟨(R % 2176 - 112) % 2064, Nat.mod_lt _ (by norm_num)⟩

/-- The rows `X` with zeros in front of every sequence. -/
def padR [Zero α] (X : Fin 4 → Fin 2064 → ι → α) (R : ℕ) (j : ι) : α := if 112 ≤ R % 2176 then X (sq R) (rowOf R) j else 0

theorem padR_zero [Zero α] (X : Fin 4 → Fin 2064 → ι → α) {R : ℕ} (h : ¬112 ≤ R % 2176) (j : ι) : padR X R j = 0 := if_neg h

theorem padR_row [Zero α] (X : Fin 4 → Fin 2064 → ι → α) {R : ℕ} (h : 112 ≤ R % 2176) : padR X R = X (sq R) (rowOf R) :=
  funext fun _ => if_pos h

theorem sq_row (s : Fin 4) (q : Fin 2064) : sq (s.val * 2176 + 112 + q.val) = s :=
  Fin.ext (by show (s.val * 2176 + 112 + q.val) / 2176 % 4 = s.val; omega)

theorem rowOf_row (s : Fin 4) (q : Fin 2064) : rowOf (s.val * 2176 + 112 + q.val) = q :=
  Fin.ext (by show ((s.val * 2176 + 112 + q.val) % 2176 - 112) % 2064 = q.val; omega)

theorem padR_at [Zero α] (X : Fin 4 → Fin 2064 → ι → α) (s : Fin 4) (q : Fin 2064) : padR X (s.val * 2176 + 112 + q.val) = X s q := by
  rw [padR_row X (by omega), sq_row, rowOf_row]

/-- Summing over the blocks of a grid and over a block's rows sums over all rows. -/
theorem sum_blocks [AddCommMonoid α] (a b : ℕ) (f : ℕ → α) :
    (∑ p ∈ Finset.range a, ∑ r : Fin b, f (p * b + r.val)) = ∑ R : Fin (a * b), f R.val := by
  rw [Finset.sum_range, ← (finProdFinEquiv (m := a) (n := b)).sum_comp, Fintype.sum_prod_type]
  refine Finset.sum_congr rfl fun p _ => Finset.sum_congr rfl fun r _ => congrArg f ?_
  show p.val * b + r.val = r.val + b * p.val
  rw [Nat.mul_comm, Nat.add_comm]

/-- A sum over one sequence's padded rows, zero on the padding, is a sum over its rows. -/
theorem sum_sequence [AddCommMonoid α] (f : ℕ → α) (h : ∀ r, r < 112 → f r = 0) : (∑ r : Fin 2176, f r.val) = ∑ q : Fin 2064, f (112 + q.val) := by
  rw [show (∑ r : Fin 2176, f r.val) = ∑ r : Fin (112 + 2064), f r.val from rfl, Fin.sum_univ_add,
    Finset.sum_eq_zero (fun r _ => h r.val r.isLt), zero_add]
  rfl

/-- A sum over the padded rows, zero on the padding, is a sum over the sequences and their rows. -/
theorem sum_padded [AddCommMonoid α] (f : ℕ → α) (h : ∀ R, ¬112 ≤ R % 2176 → f R = 0) :
    (∑ R : Fin 8704, f R.val) = ∑ s : Fin 4, ∑ q : Fin 2064, f (s.val * 2176 + 112 + q.val) := by
  rw [← sum_blocks 4 2176 f, Finset.sum_range]
  refine Finset.sum_congr rfl fun s _ => ?_
  rw [sum_sequence (fun r => f (s.val * 2176 + r)) fun r hr => h _ (by omega)]
  exact Finset.sum_congr rfl fun q _ => congrArg f (by rw [Nat.add_assoc])

/-- Where the padded array has a row of a sequence, it has the sequence's row; elsewhere zero. -/
theorem padded {n : ℕ} (a : (⟨3, ![4, 2064, n]⟩ : Shape).Idx → EReal) (A : Fin 4 → Fin 2064 → Fin n → ℝ)
    (ha : ∀ s q j, a (ix3 s q j) = (A s q j : EReal)) (R : ℕ) (hR : R < 8704) (j : Fin n)
    (h : 112 ≤ R % 2176) (s : Fin 4) (q : Fin 2064) (hs : s.val = R / 2176) (hq : q.val = R % 2176 - 112) :
    a (ix3 s q j) = ((padR A R j : ℝ) : EReal) := by
  rw [ha, padR_row A h]
  have e1 : s = Padded.sq R := Fin.ext (by show s.val = R / 2176 % 4; omega)
  have e2 : q = rowOf R := Fin.ext (by show q.val = (R % 2176 - 112) % 2064; omega)
  rw [e1, e2]

/-- A token's place among the padded rows. -/
theorem padR_token [Zero α] (X : Fin 4 → Fin 2064 → ι → α) (R : ℕ) (hR : R < 8704) (h : 112 ≤ R % 2176) :
    padR X R = X ⟨R / 2176, by omega⟩ ⟨R % 2176 - 112, by omega⟩ :=
  (congrArg (padR X) (show R = R / 2176 * 2176 + 112 + (R % 2176 - 112) by omega)).trans (padR_at X ⟨R / 2176, by omega⟩ ⟨R % 2176 - 112, by omega⟩)

/-- The place in the array of a place in a block: the block's number on each axis, and the place in it. -/
theorem place {A B a b : ℕ} (p p' : (⟨2, ![A, B]⟩ : Shape).Idx) (n k : ℕ) (r j : ℕ)
    (h0 : (p 0).val = n * a + 1 * r) (h1 : (p 1).val = k * b + 1 * j)
    (g0 : (p' 0).val = n * a + r) (g1 : (p' 1).val = k * b + j) : p = p' := by
  funext x
  apply Fin.ext
  match x with
  | ⟨0, _⟩ => exact h0.trans (by rw [Nat.one_mul]; exact g0.symm)
  | ⟨1, _⟩ => exact h1.trans (by rw [Nat.one_mul]; exact g1.symm)

/-- The place in the array of a place of the `t`-th block of whole rows. -/
theorem place_row {A B a b : ℕ} (p : (⟨2, ![A, B]⟩ : Shape).Idx) (R : Fin A) (k : Fin B) {n l t r : ℕ} (e : n = t) (e' : l = 0)
    (h0 : (p 0).val = n * a + 1 * r) (h1 : (p 1).val = l * b + 1 * k.val) (g : R.val = t * a + r) : p = ix2 R k :=
  place (a := a) (b := b) p _ t 0 r k.val (e ▸ h0) (e' ▸ h1) g (show k.val = 0 * b + k.val by omega)

/-- A place of an array is in the block of rows that it falls in. -/
theorem in_tile {n w : ℕ} (p : Fin 2 → ℕ) (t : ℕ) (off size : Fin 2 → ℕ) (h0 : off 0 = t * n) (h1 : off 1 = 0 * w) (s0 : size 0 = n) (s1 : size 1 = w)
    (e : t = p 0 / n) (hn : 0 < n) (hp : p 1 < w) (a : Fin 2) : off a ≤ p a ∧ p a < off a + size a := by
  match a with
  | ⟨0, _⟩ =>
    show off 0 ≤ p 0 ∧ p 0 < off 0 + size 0
    rw [h0, s0, e]
    exact ⟨Nat.div_mul_le_self _ _, Nat.lt_div_mul_add hn⟩
  | ⟨1, _⟩ =>
    show off 1 ≤ p 1 ∧ p 1 < off 1 + size 1
    rw [h1, s1, Nat.zero_mul, Nat.zero_add]
    exact ⟨Nat.zero_le _, hp⟩

/-- The same, from the block's number and the size of what is written back. -/
theorem covered {n w a b c d t : ℕ} {off size : Fin 2 → ℕ} (h : a = t ∧ b = 0 ∧ c = n ∧ d = w) (p : Fin 2 → ℕ) (o0 : off 0 = a * n) (o1 : off 1 = b * w)
    (z0 : size 0 = c) (z1 : size 1 = d) (e : t = p 0 / n) (hn : 0 < n) (hp : p 1 < w) (x : Fin 2) : off x ≤ p x ∧ p x < off x + size x := by
  obtain ⟨rfl, rfl, rfl, rfl⟩ := h
  exact in_tile p a off size o0 o1 z0 z1 e hn hp x

end Cert.Padded
-- ==== Proof.RmsNorm.lean ====
/-
  The mathematics of the root-mean-square norm and its gradient, over the real numbers: for one row `x` of 1024 entries
  and the cotangent `c` of the normalised row (already multiplied by the gain).
-/
module

public import proofs.«01_k».proof.Proof.Reals

@[expose] public section

noncomputable section

namespace Cert.RmsNorm

open Cert.Reals Idealize.ShloMosaic

/-- The mean square of a row, plus the small number. -/
def ms (x : Fin 1024 → ℝ) : ℝ := (∑ k, x k * x k) / 1024 + eps

/-- The reciprocal root mean square of a row. -/
def rs (x : Fin 1024 → ℝ) : ℝ := (Real.sqrt (ms x))⁻¹

theorem ms_pos (x : Fin 1024 → ℝ) : 0 < ms x :=
  add_pos_of_nonneg_of_pos (div_nonneg (Finset.sum_nonneg fun k _ => mul_self_nonneg (x k)) (by norm_num)) eps_pos

/-- The reciprocal root mean square, as the programs compute it over the extended reals. -/
theorem rs_coe (x : Fin 1024 → ℝ) :
    Ideal.rsqrt (Ideal.div (∑ k, ((x k * x k : ℝ) : EReal)) (Ideal.ofBits .f32 0x44800000#32) + Ideal.ofBits .f32 0x358637BD#32)
      = (rs x : EReal) := by
  simp only [sum_coe, ofBits_1024, ofBits_eps]
  rw [div_real (by norm_num), ← EReal.coe_add]
  exact rsqrt_real (ms_pos x)

/-- The gradient of the norm, as the kernel writes it: `c` is the cotangent times the gain. -/
def grad (x c : Fin 1024 → ℝ) (j : Fin 1024) : ℝ :=
  rs x * (c j - x j * rs x * ((∑ k, c k * (x k * rs x)) / 1024))

/-- The gradient of the norm, as differentiation writes it, is the same number. -/
theorem grad_eq (x c : Fin 1024 → ℝ) (j : Fin 1024) :
    c j * rs x + x j * ((∑ k, x k * c k) * (-(1 / 2) * (rs x / ms x)) / 1024)
      + (∑ k, x k * c k) * (-(1 / 2) * (rs x / ms x)) / 1024 * x j = grad x c j := by
  have hq := ms_pos x
  have hs : (∑ k, c k * (x k * rs x)) = (∑ k, x k * c k) * rs x := by
    rw [Finset.sum_mul]; exact Finset.sum_congr rfl fun k _ => by ring
  have hr : rs x / ms x = rs x * rs x * rs x := by
    have h2 : rs x * rs x = (ms x)⁻¹ := by
      unfold rs
      rw [← mul_inv, Real.mul_self_sqrt hq.le]
    rw [mul_assoc, h2, div_eq_mul_inv]
  unfold grad
  rw [hs, hr]
  ring

/-- Zero cotangent, zero gradient. -/
theorem grad_zero (x : Fin 1024 → ℝ) (j : Fin 1024) : grad x (fun _ => 0) j = 0 := by simp [grad]

end Cert.RmsNorm
-- ==== Proof.LossBlock.lean ====
/-
  What one grid point of the loss head computes, for a block of 128 rows of real numbers: the error of every row against
  its target, the block's share of the loss, the gradient of the rows and the block's share of the gain's gradient.
-/
module

public import proofs.«01_k».proof.Proof.RmsNorm
public import proofs.«01_k».proof.Proof.Gen.LossIdeal.Skeleton

@[expose] public section

set_option maxRecDepth 16384

noncomputable section

namespace Cert.LossIdeal.Block

open Idealize.ShloMosaic Cert.LossIdeal Cert.LossIdeal.Gen Cert.Reals Cert.RmsNorm

/-- The error of a row at `j`: the normalised row times the gain, minus the target. -/
def err (x g t : Fin 1024 → ℝ) (j : Fin 1024) : ℝ := x j * rs x * g j - t j

variable (x : Vec Ideal S128x1024 .f32) (g : Vec Ideal S1x1024 .f32) (t : Vec Ideal S128x1024 .f32)
variable (X T : Fin 128 → Fin 1024 → ℝ) (G : Fin 1024 → ℝ)
variable (hx : ∀ r j, x (ix2 r j) = (X r j : EReal)) (hg : ∀ j, g (ix2 0 j) = (G j : EReal))
variable (ht : ∀ r j, t (ix2 r j) = (T r j : EReal))

include hx in
theorem pay12 (r : Fin 128) (u : Fin 1) : k0_pay12 x (ix2 r u) = (rs (X r) : EReal) := by
  unfold_payloads
  pointwise
  simp only [hx, ← EReal.coe_mul, rs_coe]

include hx hg ht in
theorem pay9 (r : Fin 128) (j : Fin 1024) : k0_pay9 x g t (ix2 r j) = (err (X r) G (T r) j : EReal) := by
  unfold_payloads
  pointwise
  simp only [hx, hg, ht, rs_coe, ← EReal.coe_mul, ← EReal.coe_sub, err]

include hx hg ht in
/-- The block's share of the loss is added to what the loss's block held. -/
theorem pay10 (a : Vec Ideal S1x128 .f32) (j : S1x128.Idx) :
    k0_pay10 x g t a j = a j + (((∑ r, ∑ k, err (X r) G (T r) k * err (X r) G (T r) k) * (1 / 2048) : ℝ) : EReal) := by
  unfold k0_pay10
  pointwise
  simp only [pay9 x g t X T G hx hg ht, ← EReal.coe_mul, sum_coe, ofBits_inv_2048]

include hx hg ht in
theorem pay11 (r : Fin 128) (j : Fin 1024) :
    k0_pay11 x g t (ix2 r j) = ((err (X r) G (T r) j * (1 / 1024) : ℝ) : EReal) := by
  unfold k0_pay11
  pointwise
  simp only [pay9 x g t X T G hx hg ht, ← EReal.coe_mul, ofBits_inv_1024]

include hx hg ht in
/-- The gradient of the block's rows. -/
theorem pay5 (r : Fin 128) (j : Fin 1024) :
    k0_pay5 (k0_pay7 x) (k0_pay8 g) (k0_pay11 x g t) (k0_pay12 x) (ix2 r j)
      = ((grad (X r) (fun k => err (X r) G (T r) k * (1 / 1024) * G k) j : ℝ) : EReal) := by
  unfold k0_pay5 k0_pay4 k0_pay7 k0_pay8
  pointwise
  simp only [pay11 x g t X T G hx hg ht, pay12 x X hx, hx, hg, ← EReal.coe_mul, sum_coe, ofBits_1024]
  rw [div_real (by norm_num)]
  simp only [← EReal.coe_mul, ← EReal.coe_sub, grad]

include hx hg ht in
/-- The block's share of the gain's gradient is added to what the gain's block held. -/
theorem pay6 (a : Vec Ideal S1x1024 .f32) (j : Fin 1024) :
    k0_pay6 (k0_pay7 x) (k0_pay11 x g t) (k0_pay12 x) a (ix2 0 j)
      = a (ix2 0 j) + ((∑ r, err (X r) G (T r) j * (1 / 1024) * (X r j * rs (X r)) : ℝ) : EReal) := by
  unfold k0_pay6 k0_pay4 k0_pay7
  pointwise
  simp only [pay11 x g t X T G hx hg ht, pay12 x X hx, hx, ← EReal.coe_mul, sum_coe]

end Cert.LossIdeal.Block
-- ==== Proof.LossInputs.lean ====
/-
  What the loss head's windows read: the padded rows of `h`, the gain, and the target's rows, at a grid point.
-/
module

public import proofs.«01_k».proof.Proof.Padded
public import proofs.«01_k».proof.Proof.LossBlock
public import proofs.«01_k».proof.Proof.Gen.LossIdeal.Value

@[expose] public section

set_option maxRecDepth 16384

noncomputable section

namespace Cert.LossIdeal.Inputs

open Idealize.ShloMosaic Cert.LossIdeal Cert.LossIdeal.Gen Idealize.ShloMosaic.TcCoe
open Idealize.ShloMosaic.Pipeline (Dat)

variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val / 17 * 16 + (t.val % 17 - 1) ∧ win0_2.index t 1 = 0 := by decide +kernel

theorem at_block {n k b r : ℕ} (h : n = k) : n * b + 1 * r = k * b + r := by rw [h, Nat.one_mul]

theorem at_zero {n b r : ℕ} (h : n = 0) : n * b + 1 * r = r := by rw [h, Nat.one_mul, Nat.zero_mul, Nat.zero_add]

theorem V_v2 (c : Dev nD) (R : Fin 8704) (j : Fin 1024) (s : Fin 4) (q : Fin 2064) (hR : R.val = s.val * 2176 + 112 + q.val) :
    (V m c main_v2 : S8704x1024.Idx → EReal) (ix2 R j) = (m (c.tc.loc main_arg0) : S4x2064x1024.Idx → EReal) (ix3 s q j) := by
  unfold V
  after_results
  pointwise
  rw [dif_neg (by omega)]
  exact congrArg (m (c.tc.loc main_arg0)) (congrArg₂ (fun a b => ix3 a b j) (Fin.ext (by show R.val / 2176 = s.val; omega)) (Fin.ext (by show R.val % 2176 - 112 = q.val; omega)))

theorem V_v4 (c : Dev nD) (R : Fin 8192) (j : Fin 1024) (s : Fin 4) (q : Fin 2048) (hR : R.val = s.val * 2048 + q.val) :
    (V m c main_v4 : S8192x1024.Idx → EReal) (ix2 R j) = (m (c.tc.loc main_arg2) : S4x2048x1024.Idx → EReal) (ix3 s q j) := by
  unfold V
  after_results
  pointwise
  exact congrArg (m (c.tc.loc main_arg2)) (congrArg₂ (fun a b => ix3 a b j) (Fin.ext (by show R.val / 2048 = s.val; omega)) (Fin.ext (by show R.val % 2048 = q.val; omega)))

theorem V_v3 (c : Dev nD) (j : Fin 1024) :
    (V m c main_v3 : S1x1024.Idx → EReal) (ix2 0 j) = (m (c.tc.loc main_arg1) : S1024.Idx → EReal) (ix1 j) := by
  unfold V
  after_results
  pointwise

/-- A row of the block of `h` at a grid point is a row of the argument, when it is no padding. -/
theorem iblk0 (c : Dev nD) (t : Fin cfg0.N) (r : Fin 128) (j : Fin 1024) (s : Fin 4) (q : Fin 2064)
    (hR : t.val * 128 + r.val = s.val * 2176 + 112 + q.val) :
    (iblk m c 0 t : S128x1024.Idx → EReal) (ix2 r j) = (m (c.tc.loc main_arg0) : S4x2064x1024.Idx → EReal) (ix3 s q j) := by
  have ht : t.val < 68 := lt_of_lt_of_eq t.isLt (show cfg0.N = 68 from N_0)
  rw [← V_v2 m c ⟨t.val * 128 + r.val, by omega⟩ j s q hR]
  exact congrArg (V m c main_v2) (Cert.Padded.place_row (a := 128) (b := 1024) _ _ j (r := r.val) (index0 t).1 (index0 t).2 rfl rfl rfl)

/-- The block of the gain is the gain. -/
theorem iblk1 (c : Dev nD) (t : Fin cfg0.N) (j : Fin 1024) :
    (iblk m c 1 t : S1x1024.Idx → EReal) (ix2 0 j) = (m (c.tc.loc main_arg1) : S1024.Idx → EReal) (ix1 j) := by
  rw [← V_v3 m c j]
  unfold iblk
  rw [View.read_apply]
  show V m c main_v3 _ = V m c main_v3 _
  congr 1
  funext a
  apply Fin.ext
  match a with
  | ⟨0, _⟩ => exact (congrArg (fun n => n * 1 + 1 * 0) (index1 t).1).trans rfl
  | ⟨1, _⟩ => show win0_1.index t 1 * 1024 + 1 * j.val = j.val; exact at_zero (index1 t).2

/-- A row of the block of the target at a grid point is a row of the argument. -/
theorem iblk2 (c : Dev nD) (t : Fin cfg0.N) (r : Fin 128) (j : Fin 1024) (s : Fin 4) (q : Fin 2048)
    (hR : (t.val / 17 * 16 + (t.val % 17 - 1)) * 128 + r.val = s.val * 2048 + q.val) :
    (iblk m c 2 t : S128x1024.Idx → EReal) (ix2 r j) = (m (c.tc.loc main_arg2) : S4x2048x1024.Idx → EReal) (ix3 s q j) := by
  have ht : t.val < 68 := lt_of_lt_of_eq t.isLt (show cfg0.N = 68 from N_0)
  rw [← V_v4 m c ⟨(t.val / 17 * 16 + (t.val % 17 - 1)) * 128 + r.val, by omega⟩ j s q hR]
  unfold iblk
  rw [View.read_apply]
  show V m c main_v4 _ = V m c main_v4 _
  congr 1
  funext a
  apply Fin.ext
  match a with
  | ⟨0, _⟩ => show win0_2.index t 0 * 128 + 1 * r.val = (t.val / 17 * 16 + (t.val % 17 - 1)) * 128 + r.val; exact at_block (index2 t).1
  | ⟨1, _⟩ => show win0_2.index t 1 * 1024 + 1 * j.val = j.val; exact at_zero (index2 t).2

end Cert.LossIdeal.Inputs
-- ==== Proof.LossSum.lean ====
/-
  The rows that the loss head's grid points handle, and the sums over the grid as sums over the rows.
-/
module

public import proofs.«01_k».proof.Proof.RmsNorm

@[expose] public section

noncomputable section

namespace Cert.LossSum

/-- The sequence that point `n` of the grid is in. -/
def sq (n : ℕ) : Fin 4 := ⟨n / 17 % 4, Nat.mod_lt _ (by norm_num)⟩

/-- The row of the target that row `r` of point `n`'s block is, when the point is not its sequence's first. -/
def tr (n : ℕ) (r : Fin 128) : Fin 2048 := ⟨((n % 17 - 1) * 128 + r.val) % 2048, Nat.mod_lt _ (by norm_num)⟩

/-- The row of the sequence that belongs to a row of the target: the first sixteen rows have no target. -/
def hr (q : Fin 2048) : Fin 2064 := ⟨16 + q.val, by omega⟩

/-- Summing over the points that are not first in their sequence, and over a block's rows, sums over all rows. -/
theorem sum_points (f : Fin 4 → Fin 2048 → ℝ) :
    (∑ p ∈ Finset.range 68, if 1 ≤ p % 17 then ∑ r : Fin 128, f (sq p) (tr p r) else 0) = ∑ s, ∑ q, f s q := by
  rw [Finset.sum_range]
  rw [← (finProdFinEquiv (m := 4) (n := 17)).sum_comp, Fintype.sum_prod_type]
  refine Finset.sum_congr rfl fun s _ => ?_
  rw [Fin.sum_univ_succ]
  rw [← (finProdFinEquiv (m := 16) (n := 128)).sum_comp (fun q : Fin 2048 => f s q), Fintype.sum_prod_type]
  have h0 : ¬ 1 ≤ ((finProdFinEquiv (m := 4) (n := 17) (s, 0)).val) % 17 := by
    simp [finProdFinEquiv]
  rw [if_neg h0, zero_add]
  refine Finset.sum_congr rfl fun i _ => ?_
  have hv : (finProdFinEquiv (m := 4) (n := 17) (s, i.succ)).val = (i.val + 1) + 17 * s.val := rfl
  rw [if_pos (by rw [hv]; omega)]
  refine Finset.sum_congr rfl fun r _ => ?_
  refine congrArg₂ f (Fin.ext ?_) (Fin.ext ?_)
  · show (finProdFinEquiv (m := 4) (n := 17) (s, i.succ)).val / 17 % 4 = s.val
    rw [hv]; omega
  · show (((finProdFinEquiv (m := 4) (n := 17) (s, i.succ)).val % 17 - 1) * 128 + r.val) % 2048 = r.val + 128 * i.val
    rw [hv]; omega

end Cert.LossSum
-- ==== Proof.LossArray.lean ====
/-
  What the loss head's three result arrays hold after the run, when the arguments are real numbers.
-/
module

public import Idealize.ShloMosaic.Lib.Pipeline.ValueKit
public import proofs.«01_k».proof.Proof.LossInputs
public import proofs.«01_k».proof.Proof.LossSum

@[expose] public section

set_option maxRecDepth 16384

noncomputable section

namespace Cert.LossIdeal.Array

open Idealize.ShloMosaic Cert.LossIdeal Cert.LossIdeal.Gen Idealize.ShloMosaic.TcCoe Cert.LossIdeal.Value
open Cert.LossIdeal.Block Cert.LossIdeal.Inputs Cert.LossSum Cert.RmsNorm
open Idealize.ShloMosaic.Pipeline (Dat)

variable (m : (ℓ : Loc nD τ sig) → Buf (Elt Ideal) ℓ)
variable (H : Fin 4 → Fin 2064 → Fin 1024 → ℝ) (G : Fin 1024 → ℝ) (T : Fin 4 → Fin 2048 → Fin 1024 → ℝ)

/-- The arguments on device `c` are the real numbers `H`, `G` and `T`. -/
def Holds (c : Dev nD) : Prop :=
  (∀ s q j, (m (c.tc.loc main_arg0) : S4x2064x1024.Idx → EReal) (ix3 s q j) = (H s q j : EReal))
  ∧ (∀ j, (m (c.tc.loc main_arg1) : S1024.Idx → EReal) (ix1 j) = (G j : EReal))
  ∧ (∀ s q j, (m (c.tc.loc main_arg2) : S4x2048x1024.Idx → EReal) (ix3 s q j) = (T s q j : EReal))

/-- The error of a row with a target. -/
def er (s : Fin 4) (q : Fin 2048) (j : Fin 1024) : ℝ := err (H s (hr q)) G (T s q) j

/-- A point's share of the loss. -/
def lossAt (n : ℕ) : ℝ :=
  if 1 ≤ n % 17 then ∑ r : Fin 128, (∑ k, er H G T (LossSum.sq n) (tr n r) k * er H G T (LossSum.sq n) (tr n r) k) * (1 / 2048) else 0

/-- A point's share of the gain's gradient. -/
def gainAt (j : Fin 1024) (n : ℕ) : ℝ :=
  if 1 ≤ n % 17 then ∑ r : Fin 128, er H G T (LossSum.sq n) (tr n r) j * (1 / 1024) * (H (LossSum.sq n) (hr (tr n r)) j * rs (H (LossSum.sq n) (hr (tr n r)))) else 0

/-- The gradient of a row with a target. -/
def rowGrad (s : Fin 4) (q : Fin 2048) (j : Fin 1024) : ℝ :=
  grad (H s (hr q)) (fun k => er H G T s q k * (1 / 1024) * G k) j

variable {m H G T} {c : Dev nD} (hm : Holds m H G T c)

include hm in
theorem block0 (t : Fin cfg0.N) (h : 1 ≤ t.val % 17) (r : Fin 128) (j : Fin 1024) :
    (iblk m c 0 t : S128x1024.Idx → EReal) (ix2 r j) = ((H (LossSum.sq t.val) (hr (tr t.val r)) j : ℝ) : EReal) := by
  have ht : t.val < 68 := lt_of_lt_of_eq t.isLt (show cfg0.N = 68 from N_0)
  rw [iblk0 m c t r j (LossSum.sq t.val) (hr (tr t.val r)) (by
    show t.val * 128 + r.val = t.val / 17 % 4 * 2176 + 112 + (16 + ((t.val % 17 - 1) * 128 + r.val) % 2048); omega), hm.1]

include hm in
theorem block2 (t : Fin cfg0.N) (h : 1 ≤ t.val % 17) (r : Fin 128) (j : Fin 1024) :
    (iblk m c 2 t : S128x1024.Idx → EReal) (ix2 r j) = (T (LossSum.sq t.val) (tr t.val r) j : EReal) := by
  have ht : t.val < 68 := lt_of_lt_of_eq t.isLt (show cfg0.N = 68 from N_0)
  rw [iblk2 m c t r j (LossSum.sq t.val) (tr t.val r) (by
    show (t.val / 17 * 16 + (t.val % 17 - 1)) * 128 + r.val = t.val / 17 % 4 * 2048 + ((t.val % 17 - 1) * 128 + r.val) % 2048; omega), hm.2.2]

include hm in
theorem block1 (t : Fin cfg0.N) (j : Fin 1024) :
    (iblk m c 1 t : S1x1024.Idx → EReal) (ix2 0 j) = (G j : EReal) := by
  rw [iblk1 m c t j, hm.2.1]

theorem zero1 (j : S1x128.Idx) : k0_pay1 (F := Ideal) j = 0 := by unfold k0_pay1; pointwise
theorem zero2 (j : S1x1024.Idx) : k0_pay2 (F := Ideal) j = 0 := by unfold k0_pay2; pointwise
theorem zero3 (j : S128x1024.Idx) : k0_pay3 (F := Ideal) j = 0 := by unfold k0_pay3; pointwise

include hm in
/-- What the two running blocks hold after point `n`: the shares of the points so far. -/
theorem running : ∀ (n : ℕ) (h : n < cfg0.N),
    (∀ j, (outsAt0 m c n h).1 j = ((∑ p ∈ Finset.range (n + 1), lossAt H G T p : ℝ) : EReal))
    ∧ (∀ j, (outsAt0 m c n h).2.2 (ix2 0 j) = ((∑ p ∈ Finset.range (n + 1), gainAt H G T j p : ℝ) : EReal))
  | 0, h => by
    have e := outsAt0_A m c ⟨0, h⟩ rfl rfl (by dsimp only; omega)
    change outsAt0 m c 0 h = _ at e
    rw [e]
    frame_out
    refine ⟨fun j => ?_, fun j => ?_⟩
    · rw [zero1]; simp [lossAt]
    · rw [zero2]; simp [gainAt]
  | n + 1, h => by
    have hN : n + 1 < 68 := lt_of_lt_of_eq h (show cfg0.N = 68 from N_0)
    obtain ⟨ih3, ih5⟩ := running n (Nat.lt_of_succ_lt h)
    by_cases h1 : (n + 1) % 17 = 0
    · have e := outsAt0_C m c ⟨n + 1, h⟩ (by dsimp only; omega) h1 (by dsimp only; omega)
      change outsAt0 m c (n + 1) h = _ at e
      rw [e]
      refine ⟨fun j => ?_, fun j => ?_⟩
      · rw [Finset.sum_range_succ, lossAt, if_neg (by omega), add_zero]
        exact ih3 j
      · rw [Finset.sum_range_succ, gainAt, if_neg (by omega), add_zero]
        exact ih5 j
    · have h2 : 1 ≤ (n + 1) % 17 := by omega
      have e := outsAt0_B m c ⟨n + 1, h⟩ (by dsimp only; omega) h1 h2
      change outsAt0 m c (n + 1) h = _ at e
      rw [e]
      frame_out
      refine ⟨fun j => ?_, fun j => ?_⟩
      · rw [pay10 _ _ _ _ _ _ (block0 hm ⟨n + 1, h⟩ h2) (block1 hm _) (block2 hm ⟨n + 1, h⟩ h2)]
        rw [Finset.sum_range_succ, lossAt, if_pos h2, EReal.coe_add]
        refine congrArg₂ (· + ·) (ih3 j) ?_
        rw [Finset.sum_mul]; rfl
      · rw [pay6 _ _ _ _ _ _ (block0 hm ⟨n + 1, h⟩ h2) (block1 hm _) (block2 hm ⟨n + 1, h⟩ h2)]
        rw [Finset.sum_range_succ, gainAt, if_pos h2, EReal.coe_add]
        exact congrArg₂ (· + ·) (ih5 j) rfl

/-! ## The three arrays -/

variable (H G T)

/-- The loss's array: the loss in every entry. -/
def lossArr : S1x128.Idx → EReal := fun _ => (((∑ s, ∑ q, ∑ k, er H G T s q k * er H G T s q k) * (1 / 2048) : ℝ) : EReal)

/-- The gain's gradient. -/
def gainArr : S1x1024.Idx → EReal := fun j =>
  ((∑ s, ∑ q, er H G T s q (j 1) * (1 / 1024) * (H s (hr q) (j 1) * rs (H s (hr q))) : ℝ) : EReal)

/-- The gradient of the padded rows: zero for the padding and for the sixteen rows without target. -/
def rowsArr : S8704x1024.Idx → EReal := fun j =>
  if h : 128 ≤ (j 0).val % 2176 then ((rowGrad H G T ⟨(j 0).val / 2176, by have : (j 0).val < 8704 := (j 0).isLt; omega⟩ ⟨(j 0).val % 2176 - 128, by omega⟩ (j 1) : ℝ) : EReal) else 0

variable {H G T}

theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem xs4 : ∀ t : Fin cfg0.N, win0_4.xsize (grid0.coords t) 0 = 128 ∧ win0_4.xsize (grid0.coords t) 1 = 1024 := by decide +kernel
theorem xs3 : ∀ t : Fin cfg0.N, win0_3.xsize (grid0.coords t) 0 = 1 ∧ win0_3.xsize (grid0.coords t) 1 = 128 := by decide +kernel
theorem xs5 : ∀ t : Fin cfg0.N, win0_5.xsize (grid0.coords t) 0 = 1 ∧ win0_5.xsize (grid0.coords t) 1 = 1024 := by decide +kernel

/-- The last point. -/
abbrev last : Fin cfg0.N := ⟨67, by rw [show cfg0.N = 68 from N_0]; decide⟩

theorem eq_last (t : Fin cfg0.N) (h : t.val % 68 = 67) : t = last := by
  have ht : t.val < 68 := lt_of_lt_of_eq t.isLt (show cfg0.N = 68 from N_0)
  exact Fin.ext (by show t.val = 67; omega)

theorem total (f : Fin 4 → Fin 2048 → ℝ) (g : ℕ → ℝ)
    (hg : ∀ n, g n = if 1 ≤ n % 17 then ∑ r : Fin 128, f (LossSum.sq n) (tr n r) else 0) :
    ∑ p ∈ Finset.range (67 + 1), g p = ∑ s, ∑ q, f s q := by
  rw [← sum_points f]
  exact Finset.sum_congr rfl fun p _ => hg p

include hm in
theorem flushed3_eq (t : Fin cfg0.N) (hf : (cfg0.win 3).flush t = true) :
    (dats m 0 c).flushed 3 t = ((cfg0.win 3).blk t).view.read (Elt Ideal) (lossArr H G T) := by
  obtain rfl := eq_last t ((flush0_3 t).mp hf)
  rw [flushed3]
  have hz' : (fun a => win0_3.index last a * main_v5_0.ty.shape.size a) = fun _ => 0 := at_origin (index3 last)
  refine Eq.trans ?_ (Memref.read_access_unit_zero (Elt Ideal) main_v5_0 hz' (fun a => by rw [congrFun hz' a]; simp) (lossArr H G T)).symm
  funext j
  refine ((running hm 67 last.isLt).1 j).trans ?_
  rw [total (fun s q => (∑ k, er H G T s q k * er H G T s q k) * (1 / 2048)) (lossAt H G T) fun n => rfl]
  simp only [lossArr, Finset.sum_mul]

include hm in
theorem flushed5_eq (t : Fin cfg0.N) (hf : (cfg0.win 5).flush t = true) :
    (dats m 0 c).flushed 5 t = ((cfg0.win 5).blk t).view.read (Elt Ideal) (gainArr H G T) := by
  obtain rfl := eq_last t ((flush0_5 t).mp hf)
  rw [flushed5]
  have hz' : (fun a => win0_5.index last a * main_v5_2.ty.shape.size a) = fun _ => 0 := at_origin (index5 last)
  refine Eq.trans ?_ (Memref.read_access_unit_zero (Elt Ideal) main_v5_2 hz' (fun a => by rw [congrFun hz' a]; simp) (gainArr H G T)).symm
  funext j
  obtain ⟨j0, j1, rfl⟩ := ex2 j
  obtain rfl : j0 = 0 := Subsingleton.elim _ _
  refine ((running hm 67 last.isLt).2 j1).trans ?_
  rw [total (fun s q => er H G T s q j1 * (1 / 1024) * (H s (hr q) j1 * rs (H s (hr q)))) (gainAt H G T j1) fun n => rfl]
  rfl

include hm in
theorem flushed4_eq (t : Fin cfg0.N) (hf : (cfg0.win 4).flush t = true) :
    (dats m 0 c).flushed 4 t = ((cfg0.win 4).blk t).view.read (Elt Ideal) (rowsArr H G T) := by
  have ht : t.val < 68 := lt_of_lt_of_eq t.isLt (show cfg0.N = 68 from N_0)
  funext j
  obtain ⟨r, k, rfl⟩ := ex2 j
  have hread : ((cfg0.win 4).blk t).view.read (Elt Ideal) (rowsArr H G T) (ix2 r k) = rowsArr H G T (ix2 ⟨t.val * 128 + r.val, by omega⟩ k) := by
    rw [View.read_apply]
    exact congrArg (rowsArr H G T) (Padded.place_row (a := 128) (b := 1024) _ _ _ (index4 t).1 (index4 t).2 rfl rfl rfl)
  rw [hread]
  by_cases h1 : t.val % 17 = 0
  · have hz : rowsArr H G T (ix2 ⟨t.val * 128 + r.val, by omega⟩ k) = 0 :=
      dif_neg (show ¬128 ≤ (t.val * 128 + r.val) % 2176 by omega)
    rw [hz]
    by_cases h0 : t.val % 68 = 0
    · rw [flushed4_A m c t h0 h1 (by omega)]
      frame_out
      exact zero3 (ix2 r k)
    · rw [flushed4_C m c t h0 h1 (by omega)]
      frame_out
      exact zero3 (ix2 r k)
  · have h2 : 1 ≤ t.val % 17 := by omega
    rw [flushed4_B m c t (by omega) h1 h2]
    frame_out
    refine (pay5 _ _ _ _ _ _ (block0 hm t h2) (block1 hm t) (block2 hm t h2) r k).trans ?_
    have hz : rowsArr H G T (ix2 ⟨t.val * 128 + r.val, by omega⟩ k)
        = ((rowGrad H G T ⟨(t.val * 128 + r.val) / 2176, by omega⟩ ⟨(t.val * 128 + r.val) % 2176 - 128, by omega⟩ k : ℝ) : EReal) :=
      dif_pos (show 128 ≤ (t.val * 128 + r.val) % 2176 by omega)
    have hs : (⟨(t.val * 128 + r.val) / 2176, by omega⟩ : Fin 4) = LossSum.sq t.val := Fin.ext (by show (t.val * 128 + r.val) / 2176 = t.val / 17 % 4; omega)
    have hq : (⟨(t.val * 128 + r.val) % 2176 - 128, by omega⟩ : Fin 2048) = tr t.val r :=
      Fin.ext (by show (t.val * 128 + r.val) % 2176 - 128 = ((t.val % 17 - 1) * 128 + r.val) % 2048; omega)
    rw [hz, hs, hq]
    rfl

include hm in
theorem final3 : (dats m 0 c).arrAt 3 cfg0.N = lossArr H G T :=
  (dats m 0 c).arrAt_eq_of_cover 3 (lossArr H G T) (flushed3_eq hm) fun i =>
    ⟨last, (flush0_3 last).mpr rfl, by
      show i ∈ ((View.whole main_v5_0).slice (win0_3.rect last)).set
      rw [View.set_slice_whole, Rect.mem_set_unit]
      exact Padded.covered ⟨(index3 _).1, (index3 _).2, xs3 _⟩ (fun a => (i a).val) rfl rfl rfl rfl (Nat.div_eq_of_lt (i 0).isLt).symm (by norm_num) (i 1).isLt⟩

include hm in
theorem final5 : (dats m 0 c).arrAt 5 cfg0.N = gainArr H G T :=
  (dats m 0 c).arrAt_eq_of_cover 5 (gainArr H G T) (flushed5_eq hm) fun i =>
    ⟨last, (flush0_5 last).mpr rfl, by
      show i ∈ ((View.whole main_v5_2).slice (win0_5.rect last)).set
      rw [View.set_slice_whole, Rect.mem_set_unit]
      exact Padded.covered ⟨(index5 _).1, (index5 _).2, xs5 _⟩ (fun a => (i a).val) rfl rfl rfl rfl (Nat.div_eq_of_lt (i 0).isLt).symm (by norm_num) (i 1).isLt⟩

include hm in
theorem final4 : (dats m 0 c).arrAt 4 cfg0.N = rowsArr H G T :=
  (dats m 0 c).arrAt_eq_of_cover 4 (rowsArr H G T) (flushed4_eq hm) fun i => by
    have h0 : (i 0 : Nat) < 8704 := (i 0).isLt
    have h1 : (i 1 : Nat) < 1024 := (i 1).isLt
    obtain ⟨t, ht⟩ : ∃ t : Fin cfg0.N, t.val = (i 0 : Nat) / 128 := ⟨⟨(i 0 : Nat) / 128, by rw [show cfg0.N = 68 from N_0]; omega⟩, rfl⟩
    refine ⟨t, flush0_4 t, ?_⟩
    show i ∈ ((View.whole main_v5_1).slice (win0_4.rect t)).set
    rw [View.set_slice_whole, Rect.mem_set_unit]
    exact Padded.covered ⟨(index4 _).1, (index4 _).2, xs4 _⟩ (fun a => (i a).val) rfl rfl rfl rfl ht (by norm_num) (i 1).isLt

end Cert.LossIdeal.Array
-- ==== Proof.SumRows.lean ====
/-
  A host's sum of a rank-3 array over its first two axes, read at an index.
-/
module

public import Idealize.ShloMosaic.Lib.Pointwise

@[expose] public section

noncomputable section

namespace Cert.SumRows

open Idealize.ShloMosaic

variable {n0 n1 n2 : ℕ}

/-- The indices that the sum over the first two axes brings to `j` are those with `j` on the last axis. -/
theorem fiber (h : (⟨3, ![n0, n1, n2]⟩ : Shape).ReducesTo [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem sum_rows (h : (⟨3, ![n0, n1, n2]⟩ : Shape).ReducesTo [0, 1] ⟨1, ![n2]⟩) (v : (⟨3, ![n0, n1, n2]⟩ : Shape).Idx → EReal)
    (init : EReal) (j : Fin n2) :
    Ideal.hostReduceAdd h v init (ix1 j) = init + ∑ a : Fin n0, ∑ b : Fin n1, v (ix3 a b j) := by
  refine congrArg (init + ·) ?_
  refine (Finset.sum_filter_eq_sum_of_fiber _ (fun k : Fin n0 × Fin n1 => ix3 k.1 k.2 j)
    (fun _ _ e => Prod.ext (congrFun e 0) (congrFun e 1)) (fiber h j) v).trans ?_
  simp only [Fintype.sum_prod_type]

end Cert.SumRows
-- ==== Proof.LossRefValue.lean ====
/-
  What the loss head's reference computes, when its arguments are real numbers: the loss, the gradient of the rows by
  differentiation, the gain's gradient, each as a real number.
-/
module

public import proofs.«01_k».proof.Proof.LossArray
public import proofs.«01_k».proof.Proof.SumRows
public import proofs.«01_k».proof.Proof.Gen.LossRefIdeal.Read

@[expose] public section

set_option maxRecDepth 16384

noncomputable section

namespace Cert.LossRefIdeal.RefValue

open Idealize.ShloMosaic Cert.LossRefIdeal Cert.LossRefIdeal.Gen Cert.LossRefIdeal.Read Idealize.ShloMosaic.TcCoe
open Cert.Reals Cert.RmsNorm Cert.LossSum Cert.LossIdeal.Array Cert.LossIdeal.Block

variable {x0 : Vec Ideal S4x2064x1024 .f32} {x1 : Vec Ideal S1024 .f32} {x2 : Vec Ideal S4x2048x1024 .f32}
variable {H : Fin 4 → Fin 2064 → Fin 1024 → ℝ} {G : Fin 1024 → ℝ} {T : Fin 4 → Fin 2048 → Fin 1024 → ℝ}
variable (h0 : ∀ s q j, x0 (ix3 s q j) = (H s q j : EReal)) (h1 : ∀ j, x1 (ix1 j) = (G j : EReal))
variable (h2 : ∀ s q j, x2 (ix3 s q j) = (T s q j : EReal))

include h0 in
theorem v6 (s : Fin 4) (q : Fin 2064) (u : Fin 1) : val_main_v6 x0 (ix3 s q u) = (ms (H s q) : EReal) := by
  unfold val_main_v6 val_main_v5 val_main_v4 val_main_v3 val_main_v2 val_main_v1 val_main_v0 val_main_cst val_main_cst_0 val_main_cst_1
  pointwise
  simp only [h0, ← EReal.coe_mul, sum_coe, ofBits_1024, ofBits_eps]
  rw [div_real (by norm_num), ← EReal.coe_add]
  rfl

include h0 in
theorem v7 (s : Fin 4) (q : Fin 2064) (u : Fin 1) : val_main_v7 x0 (ix3 s q u) = (rs (H s q) : EReal) := by
  unfold val_main_v7
  pointwise
  rw [v6 h0, rsqrt_real (ms_pos _)]
  rfl

include h0 in
theorem v10 (s : Fin 4) (q : Fin 2064) (u : Fin 1) :
    val_main_v10 x0 (ix3 s q u) = ((-(1 / 2) * (rs (H s q) / ms (H s q)) : ℝ) : EReal) := by
  unfold val_main_v10 val_main_v9 val_main_v8 val_main_cst_2
  pointwise
  rw [v6 h0, v7 h0, div_real (ms_pos _).ne', ofBits_neg_half, ← EReal.coe_mul]

include h0 in
theorem v12 (s : Fin 4) (q : Fin 2064) (j : Fin 1024) :
    val_main_v12 x0 (ix3 s q j) = ((H s q j * rs (H s q) : ℝ) : EReal) := by
  unfold val_main_v12 val_main_v11
  pointwise
  simp only [h0, v7 h0, ← EReal.coe_mul]

include h0 h1 h2 in
theorem v17 (s : Fin 4) (q : Fin 2048) (j : Fin 1024) :
    val_main_v17 x0 x1 x2 (ix3 s q j) = (er H G T s q j : EReal) := by
  unfold val_main_v17 val_main_v16 val_main_v15 val_main_v14 val_main_v13
  pointwise
  rw [v12 h0, h1, h2, ← EReal.coe_mul, ← EReal.coe_sub]
  rfl

include h0 h1 h2 in
theorem v25 (i : S_.Idx) : val_main_v25 x0 x1 x2 i = (((∑ s, ∑ q, ∑ k, er H G T s q k * er H G T s q k) * (1 / 2048) : ℝ) : EReal) := by
  unfold val_main_v25 val_main_v24 val_main_v23 val_main_v22 val_main_v21 val_main_v18 val_main_cst_7 val_main_cst_6 val_main_cst_5 val_main_cst_4
  pointwise
  simp only [v17 h0 h1 h2, ← EReal.coe_mul, sum_coe, ofBits_1024, ofBits_half, div_real (show (1024 : ℝ) ≠ 0 by norm_num)]
  norm_cast
  refine congrArg _ ?_
  simp only [Finset.mul_sum, Finset.sum_mul, Finset.sum_div]
  refine Finset.sum_congr rfl fun s _ => Finset.sum_congr rfl fun q _ => Finset.sum_congr rfl fun k _ => ?_
  ring

include h0 h1 h2 in
theorem v31 (s : Fin 4) (q : Fin 2048) (j : Fin 1024) :
    val_main_v31 x0 x1 x2 (ix3 s q j) = ((er H G T s q j * (1 / 1024) : ℝ) : EReal) := by
  unfold val_main_v31 val_main_v30 val_main_v29 val_main_v28 val_main_v27 val_main_v26 val_main_v20 val_main_v19 val_main_cst_3 val_main_cst_8 val_main_cst_9 val_main_cst_10
  pointwise
  rw [v17 h0 h1 h2, ofBits_half, ofBits_1024, ofBits_two, div_real (by norm_num), ← EReal.coe_mul, ← EReal.coe_mul]
  congr 1; ring

/-- The cotangent of the normalised rows: zero on the rows without a target. -/
def ct (H : Fin 4 → Fin 2064 → Fin 1024 → ℝ) (G : Fin 1024 → ℝ) (T : Fin 4 → Fin 2048 → Fin 1024 → ℝ) (s : Fin 4) (q : Fin 2064) (j : Fin 1024) : ℝ :=
  if h : q.val < 16 then 0 else er H G T s ⟨q.val - 16, by omega⟩ j * (1 / 1024)

include h0 h1 h2 in
theorem v32 (s : Fin 4) (q : Fin 2064) (j : Fin 1024) :
    val_main_v32 x0 x1 x2 (ix3 s q j) = (ct H G T s q j : EReal) := by
  unfold val_main_v32 val_main_cst_11
  pointwise
  unfold ct
  by_cases hq : q.val < 16
  · rw [dif_neg (by omega), dif_pos hq]; rfl
  · rw [dif_pos (by omega), dif_neg hq]; exact v31 h0 h1 h2 ..

include h0 h1 h2 in
theorem v34 (j : Fin 1024) :
    val_main_v34 x0 x1 x2 (ix1 j) = ((∑ s, ∑ q, H s q j * rs (H s q) * ct H G T s q j : ℝ) : EReal) := by
  unfold val_main_v34 val_main_v33 val_main_cst_12
  pointwise
  rw [SumRows.sum_rows, zero_add]
  pointwise
  simp only [v32 h0 h1 h2, v12 h0, ← EReal.coe_mul, sum_coe]

include h0 h1 h2 in
theorem v38 (j : Fin 1024) :
    val_main_v38 x0 x1 x2 (ix1 j) = ((∑ s, ∑ q, H s q j * rs (H s q) * ct H G T s q j : ℝ) : EReal) := by
  unfold val_main_v38 val_main_v35 val_main_cst_13
  pointwise
  rw [SumRows.sum_rows, zero_add]
  pointwise
  simp only [v34 h0 h1 h2, Finset.univ_unique, Finset.sum_singleton]

include h0 h1 h2 in
theorem v52 (s : Fin 4) (q : Fin 2064) (j : Fin 1024) :
    val_main_v52 x0 x1 x2 (ix3 s q j) = ((grad (H s q) (fun k => ct H G T s q k * G k) j : ℝ) : EReal) := by
  have v37 : ∀ k, val_main_v37 x0 x1 x2 (ix3 s q k) = ((ct H G T s q k * G k : ℝ) : EReal) := fun k => by
    unfold val_main_v37 val_main_v36 val_main_v13
    pointwise
    rw [v32 h0 h1 h2, h1, ← EReal.coe_mul]
  have v48 : ∀ k, val_main_v48 x0 x1 x2 (ix3 s q k)
      = (((∑ k, H s q k * (ct H G T s q k * G k)) * (-(1 / 2) * (rs (H s q) / ms (H s q))) / 1024 : ℝ) : EReal) := fun k => by
    unfold val_main_v48 val_main_v47 val_main_v46 val_main_v45 val_main_v44 val_main_v41 val_main_v40 val_main_v39 val_main_cst_14 val_main_cst_15 val_main_cst_16
    pointwise
    simp only [h0, v37, v10 h0, ← EReal.coe_mul, sum_coe, ofBits_1024, div_real (show (1024 : ℝ) ≠ 0 by norm_num), Finset.univ_unique, Finset.sum_singleton]
  unfold val_main_v52 val_main_v51 val_main_v50 val_main_v49 val_main_v43 val_main_v42
  pointwise
  rw [v37, v48, v7 h0, h0, ← EReal.coe_mul, ← EReal.coe_mul, ← EReal.coe_mul, ← EReal.coe_add, ← EReal.coe_add]
  exact congrArg _ (grad_eq _ (fun k => ct H G T s q k * G k) j)

include h0 h1 h2 in
theorem loss_eq : val_main_v53 x0 x1 x2 = lossArr H G T := by
  funext j
  unfold val_main_v53 lossArr
  pointwise
  exact v25 h0 h1 h2 _

include h0 h1 h2 in
theorem gain_eq : val_main_v56 x0 x1 x2 = gainArr H G T := by
  funext j
  idx_vars j
  unfold val_main_v56 gainArr
  pointwise
  rw [v38 h0 h1 h2]
  refine congrArg _ (Finset.sum_congr rfl fun s _ => ?_)
  rw [show (∑ q : Fin 2064, H s q j1 * rs (H s q) * ct H G T s q j1) = ∑ q : Fin (16 + 2048), H s q j1 * rs (H s q) * ct H G T s q j1 from rfl,
    Fin.sum_univ_add, Finset.sum_eq_zero (fun q _ => ?_), zero_add]
  · refine Finset.sum_congr rfl fun q _ => ?_
    have hc : ct H G T s (Fin.natAdd 16 q) j1 = er H G T s q j1 * (1 / 1024) := by
      unfold ct
      rw [dif_neg (by show ¬(16 + q.val < 16); omega)]
      exact congrArg (fun q => er H G T s q j1 * (1 / 1024)) (Fin.ext (by show 16 + q.val - 16 = q.val; omega))
    rw [hc, mul_comm]
    rfl
  · have hc : ct H G T s (Fin.castAdd 2048 q) j1 = 0 := dif_pos q.isLt
    rw [hc, mul_zero]

include h0 h1 h2 in
theorem rows_eq : val_main_v55 x0 x1 x2 = rowsArr H G T := by
  funext j
  idx_vars j
  unfold val_main_v55 val_main_v54 val_main_call0_v0 val_main_c rowsArr
  pointwise
  have hj : j0.val < 8704 := j0.isLt
  by_cases hp : 112 ≤ j0.val % 2176
  · rw [dif_pos ⟨by omega, hp, by omega⟩, v52 h0 h1 h2]
    by_cases hq : 128 ≤ j0.val % 2176
    · rw [dif_pos hq]
      have hc : ∀ k, ct H G T ⟨j0.val / 2176, by omega⟩ ⟨j0.val % 2176 - 112, by omega⟩ k
          = er H G T ⟨j0.val / 2176, by omega⟩ ⟨j0.val % 2176 - 128, by omega⟩ k * (1 / 1024) := fun k => by
        unfold ct
        rw [dif_neg (by show ¬(j0.val % 2176 - 112 < 16); omega)]
        exact congrArg (fun q => er H G T _ q k * (1 / 1024)) (Fin.ext (by show j0.val % 2176 - 112 - 16 = j0.val % 2176 - 128; omega))
      simp only [hc]
      have hr : hr ⟨j0.val % 2176 - 128, by omega⟩ = ⟨j0.val % 2176 - 112, by omega⟩ := Fin.ext (by show 16 + (j0.val % 2176 - 128) = j0.val % 2176 - 112; omega)
      unfold rowGrad
      rw [hr]
    · rw [dif_neg hq]
      have hc : ∀ k, ct H G T ⟨j0.val / 2176, by omega⟩ ⟨j0.val % 2176 - 112, by omega⟩ k = 0 := fun k =>
        dif_pos (by show j0.val % 2176 - 112 < 16; omega)
      simp only [hc, zero_mul, grad_zero]
      rfl
  · rw [dif_neg (by omega), dif_neg (by omega)]
    show ((((0#32 : BitVec 32).toInt : ℝ)) : EReal) = 0
    simp

end Cert.LossRefIdeal.RefValue
-- ==== Proof.LossClaim.lean ====
/-
  The claims about the loss head: the precondition read, the kernel's run and the reference's run set side by side.
-/
module

public import proofs.«01_k».proof.Defs
public import proofs.«01_k».proof.Proof.LossRefValue
public import proofs.«01_k».proof.Proof.Gen.Pre_finite_loss

@[expose] public section

set_option maxRecDepth 16384

noncomputable section

namespace Cert.LossClaim

open Idealize.ShloMosaic Idealize.SL.Sem Idealize.ShloMosaic.TcCoe Cert.Reals Cert.LossIdeal.Array

/-- The loss head's reference ends with every counter at zero: it has none. -/
theorem frame_ref : Cert.quiescent_LossRefIdeal := fun m g _ =>
  (θ_run Cert.LossRefIdeal.defs _ _).mono (fun r h => ⟨fun c => (h c).2.2.2, sem_eq_zero_of_no_sems rfl r.2⟩) (Cert.LossRefIdeal.Value.run m g)

/-- The precondition says that the arguments are real numbers. -/
theorem holds_of_pre (m : (ℓ : Loc Cert.LossIdeal.nD Cert.LossIdeal.τ Cert.LossIdeal.sig) → Buf (Elt Ideal) ℓ)
    (h : Cert.Pre_LossIdeal_finite_loss m) (c : Dev Cert.LossIdeal.nD) :
    ∃ H G T, Holds m H G T c := by
  have e := congrFun (h c) (fun a => a.elim0)
  unfold Cert.Pre_finite_loss.fn at e
  dsimp only at e
  obtain ⟨e1, e2⟩ := IntOp.andi_eq_one.1 e
  obtain ⟨e3, e4⟩ := IntOp.andi_eq_one.1 e1
  exact ⟨_, _, _, fun s q j => (isReal_of_all _ _ (fun _ => ofBits_inf) _ _ _ _ e3).eq _,
    fun j => (isReal_of_all _ _ (fun _ => ofBits_inf) _ _ _ _ e4).eq _,
    fun s q j => (isReal_of_all _ _ (fun _ => ofBits_inf) _ _ _ _ e2).eq _⟩

/-- On real arguments the kernel and the derivative of the loss give the same loss, rows and gain's gradient. -/
theorem algebraic : Cert.algebraic_LossIdeal_LossRefIdeal_pre_finite_loss := by
  intro m g m' g' hpre hargs
  choose H G T hm using holds_of_pre m hpre
  refine ⟨fun c => lossArr (H c) (G c) (T c), fun c => rowsArr (H c) (G c) (T c), fun c => gainArr (H c) (G c) (T c),
    (θ_run Cert.LossIdeal.defs _ _).mono (fun r h c => ?_) (Cert.LossIdeal.Value.run_blocks m g),
    (θ_run Cert.LossRefIdeal.defs _ _).mono (fun r h c => ?_) (Cert.LossRefIdeal.Value.run m' g')⟩
  · obtain ⟨h0, h1, h2, hk⟩ := h c
    exact ⟨h0.trans (final3 (hm c)), h1.trans (final4 (hm c)), h2.trans (final5 (hm c)), hk⟩
  · obtain ⟨h0, h1, h2, hk⟩ := h c
    obtain ⟨a0, a1, a2⟩ := hargs c
    have b0 := fun s q j => (congrFun a0 (ix3 s q j)).trans ((hm c).1 s q j)
    have b1 := fun j => (congrFun a1 (ix1 j)).trans ((hm c).2.1 j)
    have b2 := fun s q j => (congrFun a2 (ix3 s q j)).trans ((hm c).2.2 s q j)
    exact ⟨h0.trans ((Cert.LossRefIdeal.Read.val_main_v53_eq ..).trans (Cert.LossRefIdeal.RefValue.loss_eq b0 b1 b2)),
      h1.trans ((Cert.LossRefIdeal.Read.val_main_v55_eq ..).trans (Cert.LossRefIdeal.RefValue.rows_eq b0 b1 b2)),
      h2.trans ((Cert.LossRefIdeal.Read.val_main_v56_eq ..).trans (Cert.LossRefIdeal.RefValue.gain_eq b0 b1 b2)), hk⟩

end Cert.LossClaim
-- ==== Proof.AttnOffsets.lean ====
/-
  Where the attention backward's loops read and write: the row and column offsets of each load and store, in closed form.
  Query block `i` walks its key windows from the diagonal leftwards: window `s` starts at key row `128 (i - 1 - 2 s)`, cut
  at zero, and its two saved slabs lie at slot `s`.
-/
module

public import proofs.«01_k».proof.Proof.Gen.AttnIdeal.Skeleton
public import Idealize.ShloMosaic.Lib.Tactic

@[expose] public section

namespace Cert.AttnIdeal.Gen

open Idealize.ShloMosaic

theorem trips1 : k0_t1_loop.trips = 17 := by decide +kernel
theorem trips2 : ∀ i : Fin k0_t1_loop.trips, (k0_t2_loop i).trips = (i.val + 2) / 2 := by decide +kernel
theorem trips4 : ∀ i : Fin k0_t1_loop.trips, (k0_t4_loop i).trips = (i.val + 2) / 2 := by decide +kernel

theorem k0_off5_eq : ∀ i s, k0_off5 i s = ![128 * (i.val - 1 - 2 * s.val), 0] := by decide +kernel
theorem k0_off6_eq : ∀ i s, k0_off6 i s = ![128 * (i.val - 1 - 2 * s.val), 128] := by decide +kernel
theorem k0_off7_eq : ∀ i s, k0_off7 i s = ![128 * (i.val - 1 - 2 * s.val), 256] := by decide +kernel
theorem k0_off8_eq : ∀ i s, k0_off8 i s = ![128 * (i.val - 1 - 2 * s.val), 384] := by decide +kernel

theorem k0_off21_eq : ∀ i s, k0_off21 i s = ![0, i.val / 2 - s.val, 0, 0] := by decide +kernel
theorem k0_off22_eq : ∀ i s, k0_off22 i s = ![1, i.val / 2 - s.val, 0, 0] := by decide +kernel
theorem k0_off23_eq : ∀ i s, k0_off23 i s = ![2, i.val / 2 - s.val, 0, 0] := by decide +kernel
theorem k0_off24_eq : ∀ i s, k0_off24 i s = ![3, i.val / 2 - s.val, 0, 0] := by decide +kernel

theorem k0_off25_eq : ∀ i s, k0_off25 i s = ![128 * (i.val - 1 - 2 * (i.val / 2 - s.val)), 0] := by decide +kernel
theorem k0_off26_eq : ∀ i s, k0_off26 i s = ![128 * (i.val - 1 - 2 * (i.val / 2 - s.val)), 128] := by decide +kernel
theorem k0_off27_eq : ∀ i s, k0_off27 i s = ![128 * (i.val - 1 - 2 * (i.val / 2 - s.val)), 256] := by decide +kernel
theorem k0_off28_eq : ∀ i s, k0_off28 i s = ![128 * (i.val - 1 - 2 * (i.val / 2 - s.val)), 384] := by decide +kernel

instance (i s) : ClosedOff (k0_off5 i s) := ⟨_, k0_off5_eq i s⟩
instance (i s) : ClosedOff (k0_off6 i s) := ⟨_, k0_off6_eq i s⟩
instance (i s) : ClosedOff (k0_off7 i s) := ⟨_, k0_off7_eq i s⟩
instance (i s) : ClosedOff (k0_off8 i s) := ⟨_, k0_off8_eq i s⟩
instance (i s) : ClosedOff (k0_off21 i s) := ⟨_, k0_off21_eq i s⟩
instance (i s) : ClosedOff (k0_off22 i s) := ⟨_, k0_off22_eq i s⟩
instance (i s) : ClosedOff (k0_off23 i s) := ⟨_, k0_off23_eq i s⟩
instance (i s) : ClosedOff (k0_off24 i s) := ⟨_, k0_off24_eq i s⟩
instance (i s) : ClosedOff (k0_off25 i s) := ⟨_, k0_off25_eq i s⟩
instance (i s) : ClosedOff (k0_off26 i s) := ⟨_, k0_off26_eq i s⟩
instance (i s) : ClosedOff (k0_off27 i s) := ⟨_, k0_off27_eq i s⟩
instance (i s) : ClosedOff (k0_off28 i s) := ⟨_, k0_off28_eq i s⟩

end Cert.AttnIdeal.Gen
-- ==== Proof.AttnState.lean ====
/-
  What the attention backward's buffers hold, as plain functions of vectors. A query block walks its key windows twice.
  The downward walk (`downStep`) keeps a carry per column pair, adds into `dv`, and saves two slabs per window; the upward
  walk (`upStep`) reads the slabs back, keeps a sum and a carry per pair, and adds into `dk`. The four column pairs are
  treated alike, so each step is stated once, over the pair.
-/
module

public import proofs.«01_k».proof.Proof.AttnOffsets
public import Idealize.ShloMosaic.Lib.VecWindow
public import Idealize.ShloMosaic.Lib.Pointwise

@[expose] public section

noncomputable section

namespace Cert.AttnIdeal.Gen

open Idealize.ShloMosaic

/-! ## Windows of the buffers -/

section Window

variable {α : Type}

/-- The 256 rows from row `a` on, in the 128 columns of pair `p`. -/
def cutCols (x : S2176x512.Idx → α) (a : ℕ) (p : Fin 4) : S256x128.Idx → α := fun y =>
  x (ix2 ⟨(a + (y 0).val) % 2176, Nat.mod_lt _ (by decide)⟩ ⟨128 * p.val + (y 1).val, by have := (y 1).isLt; have h : S256x128.size 1 = 128 := rfl; omega⟩)

/-- `x` with the 256 rows from row `a` on overwritten, each pair's 128 columns by its own block. -/
def putCols (x : S2176x512.Idx → α) (a : ℕ) (w : Fin 4 → S256x128.Idx → α) : S2176x512.Idx → α := fun y =>
  if h : a ≤ (y 0).val ∧ (y 0).val < a + 256 then
    w ⟨(y 1).val / 128, by have := (y 1).isLt; have h : S2176x512.size 1 = 512 := rfl; omega⟩
      (ix2 ⟨(y 0).val - a, by omega⟩ ⟨(y 1).val % 128, Nat.mod_lt _ (by decide)⟩)
  else x y

/-- Slab `s` of pair `p`. -/
def cutSlab (x : S4x9x256x256.Idx → α) (s : ℕ) (p : Fin 4) : S1x1x256x256.Idx → α := fun y =>
  x (ix4 p ⟨s % 9, Nat.mod_lt _ (by decide)⟩ (y 2) (y 3))

/-- `x` with slab `s` of every pair overwritten. -/
def putSlab (x : S4x9x256x256.Idx → α) (s : ℕ) (w : Fin 4 → S1x1x256x256.Idx → α) : S4x9x256x256.Idx → α := fun y =>
  if (y 1).val = s then w (y 0) (ix4 0 0 (y 2) (y 3)) else x y

/-- The 128 rows from row `a` on, in the 128 columns of pair `p`. -/
def cutRows (x : S2176x512.Idx → α) (a : ℕ) (p : Fin 4) : S128x128.Idx → α := fun y =>
  x (ix2 ⟨(a + (y 0).val) % 2176, Nat.mod_lt _ (by decide)⟩ ⟨128 * p.val + (y 1).val, by have := (y 1).isLt; have h : S128x128.size 1 = 128 := rfl; omega⟩)

/-- The wide output with 128 rows from row `a` on, in its first 512 columns, overwritten. -/
def putRows (x : S2176x1536.Idx → α) (a : ℕ) (w : Fin 4 → S128x128.Idx → α) : S2176x1536.Idx → α := fun y =>
  if h : (a ≤ (y 0).val ∧ (y 0).val < a + 128) ∧ (y 1).val < 512 then
    w ⟨(y 1).val / 128, by omega⟩ (ix2 ⟨(y 0).val - a, by omega⟩ ⟨(y 1).val % 128, Nat.mod_lt _ (by decide)⟩)
  else x y

theorem putCols_eq (x : S2176x512.Idx → α) (a : ℕ) (w : Fin 4 → S256x128.Idx → α) :
    VecWindow.put (s := S2176x512) (VecWindow.put (s := S2176x512) (VecWindow.put (s := S2176x512) (VecWindow.put (s := S2176x512) x ![a, 0] S256x128.size (w 0)) ![a, 128] S256x128.size (w 1)) ![a, 256] S256x128.size (w 2))
      ![a, 384] S256x128.size (w 3) = putCols x a w := by
  funext y
  have h1 := (y 1).isLt
  have e1 : S2176x512.size 1 = 512 := rfl
  have key : ∀ b : ℕ, (∀ c : Fin S2176x512.rank, (![a, b] : Fin 2 → ℕ) c ≤ (y c).val ∧ (y c).val < (![a, b] : Fin 2 → ℕ) c + S256x128.size c)
      ↔ (a ≤ (y 0).val ∧ (y 0).val < a + 256) ∧ b ≤ (y 1).val ∧ (y 1).val < b + 128 := fun b =>
    ⟨fun h => ⟨h 0, h 1⟩, fun h c => match c with | ⟨0, _⟩ => h.1 | ⟨1, _⟩ => h.2⟩
  unfold VecWindow.put putCols
  by_cases h0 : a ≤ (y 0).val ∧ (y 0).val < a + 256
  · rw [dif_pos h0]
    have hq : ∀ (n : ℕ) (hn : n < 4), (y 1).val / 128 = n → (⟨(y 1).val / 128, by omega⟩ : Fin 4) = ⟨n, hn⟩ := fun n hn e => Fin.ext e
    by_cases h3 : 384 ≤ (y 1).val
    · rw [dif_pos ((key 384).mpr ⟨h0, h3, by omega⟩), hq 3 (by decide) (by omega)]
      exact congrArg (w 3) (funext fun c => match c with | ⟨0, _⟩ => rfl | ⟨1, _⟩ => Fin.ext (show (y 1).val - 384 = (y 1).val % 128 by omega))
    rw [dif_neg (fun h => h3 ((key 384).mp h).2.1)]
    by_cases h2 : 256 ≤ (y 1).val
    · rw [dif_pos ((key 256).mpr ⟨h0, h2, by omega⟩), hq 2 (by decide) (by omega)]
      exact congrArg (w 2) (funext fun c => match c with | ⟨0, _⟩ => rfl | ⟨1, _⟩ => Fin.ext (show (y 1).val - 256 = (y 1).val % 128 by omega))
    rw [dif_neg (fun h => h2 ((key 256).mp h).2.1)]
    by_cases h1' : 128 ≤ (y 1).val
    · rw [dif_pos ((key 128).mpr ⟨h0, h1', by omega⟩), hq 1 (by decide) (by omega)]
      exact congrArg (w 1) (funext fun c => match c with | ⟨0, _⟩ => rfl | ⟨1, _⟩ => Fin.ext (show (y 1).val - 128 = (y 1).val % 128 by omega))
    rw [dif_neg (fun h => h1' ((key 128).mp h).2.1), dif_pos ((key 0).mpr ⟨h0, Nat.zero_le _, by omega⟩), hq 0 (by decide) (by omega)]
    exact congrArg (w 0) (funext fun c => match c with | ⟨0, _⟩ => rfl | ⟨1, _⟩ => Fin.ext (show (y 1).val - 0 = (y 1).val % 128 by omega))
  · rw [dif_neg h0, dif_neg (fun h => h0 ((key 384).mp h).1), dif_neg (fun h => h0 ((key 256).mp h).1),
      dif_neg (fun h => h0 ((key 128).mp h).1), dif_neg (fun h => h0 ((key 0).mp h).1)]

theorem putRows_eq (x : S2176x1536.Idx → α) (a : ℕ) (w : Fin 4 → S128x128.Idx → α) :
    VecWindow.put (s := S2176x1536) (VecWindow.put (s := S2176x1536) (VecWindow.put (s := S2176x1536) (VecWindow.put (s := S2176x1536) x ![a, 0] S128x128.size (w 0)) ![a, 128] S128x128.size (w 1)) ![a, 256] S128x128.size (w 2))
      ![a, 384] S128x128.size (w 3) = putRows x a w := by
  funext y
  have key : ∀ b : ℕ, (∀ c : Fin S2176x1536.rank, (![a, b] : Fin 2 → ℕ) c ≤ (y c).val ∧ (y c).val < (![a, b] : Fin 2 → ℕ) c + S128x128.size c)
      ↔ (a ≤ (y 0).val ∧ (y 0).val < a + 128) ∧ b ≤ (y 1).val ∧ (y 1).val < b + 128 := fun b =>
    ⟨fun h => ⟨h 0, h 1⟩, fun h c => match c with | ⟨0, _⟩ => h.1 | ⟨1, _⟩ => h.2⟩
  unfold VecWindow.put putRows
  by_cases h0 : (a ≤ (y 0).val ∧ (y 0).val < a + 128) ∧ (y 1).val < 512
  · rw [dif_pos h0]
    have hq : ∀ (n : ℕ) (hn : n < 4), (y 1).val / 128 = n → (⟨(y 1).val / 128, by omega⟩ : Fin 4) = ⟨n, hn⟩ := fun n hn e => Fin.ext e
    by_cases h3 : 384 ≤ (y 1).val
    · rw [dif_pos ((key 384).mpr ⟨h0.1, h3, by omega⟩), hq 3 (by decide) (by omega)]
      exact congrArg (w 3) (funext fun c => match c with | ⟨0, _⟩ => rfl | ⟨1, _⟩ => Fin.ext (show (y 1).val - 384 = (y 1).val % 128 by omega))
    rw [dif_neg (fun h => h3 ((key 384).mp h).2.1)]
    by_cases h2 : 256 ≤ (y 1).val
    · rw [dif_pos ((key 256).mpr ⟨h0.1, h2, by omega⟩), hq 2 (by decide) (by omega)]
      exact congrArg (w 2) (funext fun c => match c with | ⟨0, _⟩ => rfl | ⟨1, _⟩ => Fin.ext (show (y 1).val - 256 = (y 1).val % 128 by omega))
    rw [dif_neg (fun h => h2 ((key 256).mp h).2.1)]
    by_cases h1' : 128 ≤ (y 1).val
    · rw [dif_pos ((key 128).mpr ⟨h0.1, h1', by omega⟩), hq 1 (by decide) (by omega)]
      exact congrArg (w 1) (funext fun c => match c with | ⟨0, _⟩ => rfl | ⟨1, _⟩ => Fin.ext (show (y 1).val - 128 = (y 1).val % 128 by omega))
    rw [dif_neg (fun h => h1' ((key 128).mp h).2.1), dif_pos ((key 0).mpr ⟨h0.1, Nat.zero_le _, by omega⟩), hq 0 (by decide) (by omega)]
    exact congrArg (w 0) (funext fun c => match c with | ⟨0, _⟩ => rfl | ⟨1, _⟩ => Fin.ext (show (y 1).val - 0 = (y 1).val % 128 by omega))
  · have hk : ∀ b : ℕ, b ≤ 384 → ¬ ∀ c : Fin S2176x1536.rank, (![a, b] : Fin 2 → ℕ) c ≤ (y c).val ∧ (y c).val < (![a, b] : Fin 2 → ℕ) c + S128x128.size c :=
      fun b hb h => h0 ⟨((key b).mp h).1, by have := ((key b).mp h).2; omega⟩
    rw [dif_neg h0, dif_neg (hk 384 (by decide)), dif_neg (hk 256 (by decide)), dif_neg (hk 128 (by decide)), dif_neg (hk 0 (by decide))]

theorem putSlab_eq (x : S4x9x256x256.Idx → α) (s : ℕ) (w : Fin 4 → S1x1x256x256.Idx → α) :
    VecWindow.put (s := S4x9x256x256) (VecWindow.put (s := S4x9x256x256) (VecWindow.put (s := S4x9x256x256) (VecWindow.put (s := S4x9x256x256) x ![0, s, 0, 0] S1x1x256x256.size (w 0)) ![1, s, 0, 0] S1x1x256x256.size (w 1)) ![2, s, 0, 0] S1x1x256x256.size (w 2))
      ![3, s, 0, 0] S1x1x256x256.size (w 3) = putSlab x s w := by
  funext y
  have h0 : (y 0).val < 4 := (y 0).isLt
  have h2 : (y 2).val < 256 := (y 2).isLt
  have h3 : (y 3).val < 256 := (y 3).isLt
  have key : ∀ b : ℕ, (∀ c : Fin S4x9x256x256.rank, (![b, s, 0, 0] : Fin 4 → ℕ) c ≤ (y c).val ∧ (y c).val < (![b, s, 0, 0] : Fin 4 → ℕ) c + S1x1x256x256.size c)
      ↔ (y 1).val = s ∧ (y 0).val = b := fun b =>
    ⟨fun h => ⟨by have := h 1; have e : s ≤ (y 1).val ∧ (y 1).val < s + 1 := this; omega, by have e : b ≤ (y 0).val ∧ (y 0).val < b + 1 := h 0; omega⟩,
      fun h c => match c with
        | ⟨0, _⟩ => (show b ≤ (y 0).val ∧ (y 0).val < b + 1 by omega) | ⟨1, _⟩ => (show s ≤ (y 1).val ∧ (y 1).val < s + 1 by omega)
        | ⟨2, _⟩ => (show 0 ≤ (y 2).val ∧ (y 2).val < 0 + 256 by omega) | ⟨3, _⟩ => (show 0 ≤ (y 3).val ∧ (y 3).val < 0 + 256 by omega)⟩
  have fin : ∀ (b : Fin 4) (e : (y 1).val = s ∧ (y 0).val = b.val) (hb : ∀ c : Fin S4x9x256x256.rank, (![b.val, s, 0, 0] : Fin 4 → ℕ) c ≤ (y c).val ∧ (y c).val < (![b.val, s, 0, 0] : Fin 4 → ℕ) c + S1x1x256x256.size c),
      w b (Rect.unitLocal (s := S4x9x256x256) (off := ![b.val, s, 0, 0]) (size := S1x1x256x256.size) y hb) = w (y 0) (ix4 0 0 (y 2) (y 3)) := fun b e hb => by
    refine congr (congrArg w (show b = y 0 from Fin.ext e.2.symm)) ?_
    exact (funext fun c => match c with
      | ⟨0, _⟩ => Fin.ext (show (y 0).val - b.val = 0 by omega) | ⟨1, _⟩ => Fin.ext (show (y 1).val - s = 0 by omega) | ⟨2, _⟩ => rfl | ⟨3, _⟩ => rfl)
  unfold VecWindow.put putSlab
  by_cases hs : (y 1).val = s
  · rw [if_pos hs]
    by_cases h : (y 0).val = 3
    · rw [dif_pos ((key 3).mpr ⟨hs, h⟩)]; exact fin 3 ⟨hs, h⟩ _
    rw [dif_neg (fun e => h ((key 3).mp e).2)]
    by_cases h : (y 0).val = 2
    · rw [dif_pos ((key 2).mpr ⟨hs, h⟩)]; exact fin 2 ⟨hs, h⟩ _
    rw [dif_neg (fun e => h ((key 2).mp e).2)]
    by_cases h : (y 0).val = 1
    · rw [dif_pos ((key 1).mpr ⟨hs, h⟩)]; exact fin 1 ⟨hs, h⟩ _
    rw [dif_neg (fun e => h ((key 1).mp e).2)]
    have h : (y 0).val = 0 := by omega
    rw [dif_pos ((key 0).mpr ⟨hs, h⟩)]; exact fin 0 ⟨hs, h⟩ _
  · rw [if_neg hs, dif_neg (fun e => hs ((key 3).mp e).1), dif_neg (fun e => hs ((key 2).mp e).1), dif_neg (fun e => hs ((key 1).mp e).1), dif_neg (fun e => hs ((key 0).mp e).1)]

end Window

/-! ## The two walks -/

variable {F : FTy → Type} [FloatOps F]

/-- What the downward walk carries: a value per pair and row, and the buffers `dv`, `g` and `sig`. -/
structure Down (F : FTy → Type) where
  car : Fin 4 → FVec F S256x1 .f32
  dv : FVec F S2176x512 .f32
  g : FVec F S4x9x256x256 .f32
  sig : FVec F S4x9x256x256 .f32

section DownStep

variable (mask : IVec S256x256 1) (tri : FVec F S256x256 .bf16) (q o : Fin 4 → FVec F S256x128 .bf16) (x3 x4 : FVec F S2176x512 .bf16) (a s : ℕ) (σ : Down F)

/-- The scores of a pair against the window's keys. -/
def downZ (p : Fin 4) : FVec F S256x256 .f32 := k0_pay3 (q p) (cutCols x3 a p)
/-- The sums of the logarithms from each key of the window to its end. -/
def downSuf (p : Fin 4) : FVec F S256x256 .f32 := k0_pay13 tri mask (downZ q x3 a p)
/-- What the window adds into `dv`, on top of what is there. -/
def downDv (p : Fin 4) : FVec F S256x128 .f32 := k0_pay26 (o p) (σ.car p) mask (downZ q x3 a p) (downSuf mask tri q x3 a p) (cutCols σ.dv a p)
/-- The slab of products saved for the upward walk. -/
def downG (p : Fin 4) : FVec F S1x1x256x256 .f32 := k0_pay25 (σ.car p) mask (downZ q x3 a p) (k0_pay7 (o p) (cutCols x4 a p)) (downSuf mask tri q x3 a p)
/-- The slab of sigmoids saved for the upward walk. -/
def downSig (p : Fin 4) : FVec F S1x1x256x256 .f32 := k0_pay12 mask (downZ q x3 a p)
/-- A pair's carry after the window. -/
def downCar (p : Fin 4) : FVec F S256x1 .f32 := k0_pay27 (σ.car p) (downSuf mask tri q x3 a p)

/-- One window of the downward walk: keys from row `a` on, saved at slab `s`. -/
def downStep : Down F where
  car := downCar mask tri q x3 a σ
  dv := putCols σ.dv a (downDv mask tri q o x3 a σ)
  g := putSlab σ.g s (downG mask tri q o x3 x4 a σ)
  sig := putSlab σ.sig s (downSig mask q x3 a)

end DownStep

/-- What the upward walk carries: a query gradient and a value per pair, and the buffer `dk`. -/
structure Up (F : FTy → Type) where
  acc : Fin 4 → FVec F S256x128 .f32
  car : Fin 4 → FVec F S256x1 .f32
  dk : FVec F S2176x512 .f32

section UpStep

variable (mask : IVec S256x256 1) (tri : FVec F S256x256 .bf16) (q : Fin 4 → FVec F S256x128 .bf16) (x3 : FVec F S2176x512 .bf16) (g sig : FVec F S4x9x256x256 .f32) (a s : ℕ) (σ : Up F)

/-- The gradient of the window's scores. -/
def upDz (p : Fin 4) : FVec F S256x256 .bf16 :=
  k0_pay84 tri (σ.car p) mask (k0_pay75 (cutSlab g s p)) (k0_pay79 (cutSlab g s p)) (k0_pay80 (cutSlab g s p)) (cutSlab sig s p)
/-- A pair's query gradient after the window. -/
def upAcc (p : Fin 4) : FVec F S256x128 .f32 :=
  k0_pay85 tri (σ.acc p) (σ.car p) mask (k0_pay75 (cutSlab g s p)) (k0_pay79 (cutSlab g s p)) (k0_pay80 (cutSlab g s p)) (cutSlab sig s p) (cutCols x3 a p)
/-- A pair's carry after the window. -/
def upCar (p : Fin 4) : FVec F S256x1 .f32 := k0_pay87 (σ.car p) (k0_pay75 (cutSlab g s p))
/-- What the window adds into `dk`, on top of what is there. -/
def upDk (p : Fin 4) : FVec F S256x128 .f32 := k0_pay86 (q p) (upDz mask tri g sig s σ p) (cutCols σ.dk a p)

/-- One window of the upward walk: keys from row `a` on, saved at slab `s`. -/
def upStep : Up F where
  acc := upAcc mask tri x3 g sig a s σ
  car := upCar g s σ
  dk := putCols σ.dk a (upDk mask tri q g sig a s σ)

end UpStep

/-! ## The four pairs' words are one pair's -/

section Alike

variable (m : IVec S256x256 1) (t : FVec F S256x256 .bf16) (q : FVec F S256x128 .bf16) (kw : Vec F S256x128 .bf16) (z da suf : FVec F S256x256 .f32)
  (c : FVec F S256x1 .f32) (old acc : FVec F S256x128 .f32) (gw sw : Vec F S1x1x256x256 .f32)

theorem pay4 : k0_pay4 q kw = k0_pay3 q kw := rfl
theorem pay5 : k0_pay5 q kw = k0_pay3 q kw := rfl
theorem pay6 : k0_pay6 q kw = k0_pay3 q kw := rfl
theorem pay8 : k0_pay8 q kw = k0_pay7 q kw := rfl
theorem pay9 : k0_pay9 q kw = k0_pay7 q kw := rfl
theorem pay10 : k0_pay10 q kw = k0_pay7 q kw := rfl
theorem pay16 : k0_pay16 m z (k0_pay14 z) (Scalar.ofBits .f32 0x00000000#32) = k0_pay12 m z := rfl
theorem pay17 : k0_pay17 t m (k0_pay14 z) (Scalar.ofBits .f32 0x00000000#32) = k0_pay13 t m z := rfl
theorem pay19 : k0_pay19 m z = k0_pay12 m z := rfl
theorem pay20 : k0_pay20 t m z = k0_pay13 t m z := rfl
theorem pay22 : k0_pay22 z (k0_pay21 m z) = k0_pay12 m z := rfl
theorem pay23 : k0_pay23 t (k0_pay21 m z) = k0_pay13 t m z := rfl
theorem pay29 : k0_pay29 c m z da suf = k0_pay25 c m z da suf := rfl
theorem pay30 : k0_pay30 q (k0_pay28 c m z suf) old = k0_pay26 q c m z suf old := rfl
theorem pay31 : k0_pay31 c suf = k0_pay27 c suf := rfl
theorem pay33 : k0_pay33 c m z da suf = k0_pay25 c m z da suf := rfl
theorem pay34 : k0_pay34 q c m z suf old = k0_pay26 q c m z suf old := rfl
theorem pay35 : k0_pay35 c suf = k0_pay27 c suf := rfl
theorem pay139 : k0_pay139 (k0_pay37 c m z da suf) = k0_pay25 c m z da suf := rfl
theorem pay140 : k0_pay140 q (k0_pay36 c m z suf) old = k0_pay26 q c m z suf old := rfl
theorem pay141 : k0_pay141 c suf = k0_pay27 c suf := rfl
theorem pay76 : k0_pay76 gw = k0_pay75 gw := rfl
theorem pay77 : k0_pay77 gw = k0_pay75 gw := rfl
theorem pay78 : k0_pay78 gw = k0_pay75 gw := rfl
theorem pay89 : k0_pay89 acc c m (k0_pay75 gw) (k0_pay81 t (k0_pay75 gw)) sw kw = k0_pay85 t acc c m (k0_pay75 gw) (k0_pay79 gw) (k0_pay80 gw) sw kw := rfl
theorem pay90 : k0_pay90 q c m (k0_pay75 gw) (k0_pay81 t (k0_pay75 gw)) sw old = k0_pay86 q (k0_pay84 t c m (k0_pay75 gw) (k0_pay79 gw) (k0_pay80 gw) sw) old := rfl
theorem pay91 : k0_pay91 c z = k0_pay87 c z := rfl
theorem pay94 : k0_pay94 acc c m (k0_pay75 gw) (k0_pay82 t (k0_pay75 gw)) (k0_pay92 sw) kw = k0_pay85 t acc c m (k0_pay75 gw) (k0_pay79 gw) (k0_pay80 gw) sw kw := rfl
theorem pay95 : k0_pay95 q c m (k0_pay75 gw) (k0_pay82 t (k0_pay75 gw)) (k0_pay92 sw) old = k0_pay86 q (k0_pay84 t c m (k0_pay75 gw) (k0_pay79 gw) (k0_pay80 gw) sw) old := rfl
theorem pay96 : k0_pay96 c z = k0_pay87 c z := rfl
theorem pay97 : k0_pay97 c m (k0_pay75 gw) (k0_pay83 t (k0_pay75 gw)) sw = k0_pay84 t c m (k0_pay75 gw) (k0_pay79 gw) (k0_pay80 gw) sw := rfl
theorem pay98 : k0_pay98 acc c m (k0_pay75 gw) (k0_pay83 t (k0_pay75 gw)) sw kw = k0_pay85 t acc c m (k0_pay75 gw) (k0_pay79 gw) (k0_pay80 gw) sw kw := rfl
theorem pay153 (dz : FVec F S256x256 .bf16) : k0_pay153 q dz old = k0_pay86 q dz old := rfl
theorem pay154 : k0_pay154 c z = k0_pay87 c z := rfl

end Alike

end Cert.AttnIdeal.Gen
-- ==== Proof.AttnHeld.lean ====
/-
  The attention backward's loads and stores by values: what a load reads of a buffer held at `x`, and what four stores of
  one step leave in it.
-/
module

public import proofs.«01_k».proof.Proof.AttnState
public import proofs.«01_k».proof.Proof.Gen.AttnIdeal.Loops
public import proofs.«01_k».proof.Proof.Gen.AttnIdeal.Frame

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Loads -/

section Loads

variable {e : EltTy} (v : View sig .tc .vmem S2176x512 e)

theorem read_cols (x : S2176x512.Idx → Elt F e) {off : Fin 2 → ℕ} (inb : ∀ a, off a + S256x128.size a ≤ S2176x512.size a) (a : ℕ) (p : Fin 4) (h : off = ![a, 128 * p.val]) :
    v.readAt (Elt F) (Rect.unit (s := S2176x512) off S256x128.size inb).toLoadRect (v.rep x) = cutCols x a p := by
  subst h
  rw [View.readAt_rep_unit v x inb rfl inb]
  funext y
  have h0 : a + 256 ≤ 2176 := inb 0
  have hy : (y 0).val < 256 := (y 0).isLt
  exact congrArg x (funext fun c => match c with
    | ⟨0, _⟩ => Fin.ext (show a + 1 * (y 0).val = (a + (y 0).val) % 2176 by omega)
    | ⟨1, _⟩ => Fin.ext (show 128 * p.val + 1 * (y 1).val = 128 * p.val + (y 1).val by omega))

theorem read_rows (x : S2176x512.Idx → Elt F e) {off : Fin 2 → ℕ} (inb : ∀ a, off a + S128x128.size a ≤ S2176x512.size a) (a : ℕ) (p : Fin 4) (h : off = ![a, 128 * p.val]) :
    v.readAt (Elt F) (Rect.unit (s := S2176x512) off S128x128.size inb).toLoadRect (v.rep x) = cutRows x a p := by
  subst h
  rw [View.readAt_rep_unit v x inb rfl inb]
  funext y
  have h0 : a + 128 ≤ 2176 := inb 0
  have hy : (y 0).val < 128 := (y 0).isLt
  exact congrArg x (funext fun c => match c with
    | ⟨0, _⟩ => Fin.ext (show a + 1 * (y 0).val = (a + (y 0).val) % 2176 by omega)
    | ⟨1, _⟩ => Fin.ext (show 128 * p.val + 1 * (y 1).val = 128 * p.val + (y 1).val by omega))

theorem read_slab (w : View sig .tc .vmem S4x9x256x256 e) (x : S4x9x256x256.Idx → Elt F e) {off : Fin 4 → ℕ} (inb : ∀ a, off a + S1x1x256x256.size a ≤ S4x9x256x256.size a) (s : ℕ) (p : Fin 4) (h : off = ![p.val, s, 0, 0]) :
    w.readAt (Elt F) (Rect.unit (s := S4x9x256x256) off S1x1x256x256.size inb).toLoadRect (w.rep x) = cutSlab x s p := by
  subst h
  rw [View.readAt_rep_unit w x inb rfl inb]
  funext y
  have h1 : s + 1 ≤ 9 := inb 1
  have hy0 : (y 0).val < 1 := (y 0).isLt
  have hy1 : (y 1).val < 1 := (y 1).isLt
  exact congrArg x (funext fun c => match c with
    | ⟨0, _⟩ => Fin.ext (show p.val + 1 * (y 0).val = p.val by omega)
    | ⟨1, _⟩ => Fin.ext (show s + 1 * (y 1).val = s % 9 by omega)
    | ⟨2, _⟩ => Fin.ext (show 0 + 1 * (y 2).val = (y 2).val by omega)
    | ⟨3, _⟩ => Fin.ext (show 0 + 1 * (y 3).val = (y 3).val by omega))

end Loads

/-! ## Stores -/

section Stores

variable {e : EltTy}

theorem left_cols (v : View sig .tc .vmem S2176x512 e) (x : S2176x512.Idx → Elt F e) (a : ℕ) (w : Fin 4 → S256x128.Idx → Elt F e) {o0 o1 o2 o3 : Fin 2 → ℕ}
    (i0 : ∀ a, o0 a + S256x128.size a ≤ S2176x512.size a) (i1 : ∀ a, o1 a + S256x128.size a ≤ S2176x512.size a) (i2 : ∀ a, o2 a + S256x128.size a ≤ S2176x512.size a) (i3 : ∀ a, o3 a + S256x128.size a ≤ S2176x512.size a)
    (h0 : o0 = ![a, 0]) (h1 : o1 = ![a, 128]) (h2 : o2 = ![a, 256]) (h3 : o3 = ![a, 384]) :
    v.read (Elt F) (v.writes (Elt F) (v.rep x) [⟨Rect.unit (s := S2176x512) o3 S256x128.size i3, w 3⟩, ⟨Rect.unit (s := S2176x512) o2 S256x128.size i2, w 2⟩, ⟨Rect.unit (s := S2176x512) o1 S256x128.size i1, w 1⟩, ⟨Rect.unit (s := S2176x512) o0 S256x128.size i0, w 0⟩])
      = putCols x a w := by
  rw [View.read_writes_cons_put v _ i3 (w 3) _ h3, View.read_writes_cons_put v _ i2 (w 2) _ h2, View.read_writes_cons_put v _ i1 (w 1) _ h1, View.read_writes_rep_unit v x i0 (w 0) h0]
  exact putCols_eq x a w

theorem left_slab (v : View sig .tc .vmem S4x9x256x256 e) (x : S4x9x256x256.Idx → Elt F e) (s : ℕ) (w : Fin 4 → S1x1x256x256.Idx → Elt F e) {o0 o1 o2 o3 : Fin 4 → ℕ}
    (i0 : ∀ a, o0 a + S1x1x256x256.size a ≤ S4x9x256x256.size a) (i1 : ∀ a, o1 a + S1x1x256x256.size a ≤ S4x9x256x256.size a) (i2 : ∀ a, o2 a + S1x1x256x256.size a ≤ S4x9x256x256.size a) (i3 : ∀ a, o3 a + S1x1x256x256.size a ≤ S4x9x256x256.size a)
    (h0 : o0 = ![0, s, 0, 0]) (h1 : o1 = ![1, s, 0, 0]) (h2 : o2 = ![2, s, 0, 0]) (h3 : o3 = ![3, s, 0, 0]) :
    v.read (Elt F) (v.writes (Elt F) (v.rep x) [⟨Rect.unit (s := S4x9x256x256) o3 S1x1x256x256.size i3, w 3⟩, ⟨Rect.unit (s := S4x9x256x256) o2 S1x1x256x256.size i2, w 2⟩, ⟨Rect.unit (s := S4x9x256x256) o1 S1x1x256x256.size i1, w 1⟩, ⟨Rect.unit (s := S4x9x256x256) o0 S1x1x256x256.size i0, w 0⟩])
      = putSlab x s w := by
  rw [View.read_writes_cons_put v _ i3 (w 3) _ h3, View.read_writes_cons_put v _ i2 (w 2) _ h2, View.read_writes_cons_put v _ i1 (w 1) _ h1, View.read_writes_rep_unit v x i0 (w 0) h0]
  exact putSlab_eq x s w

theorem left_rows (v : View sig .tc .vmem S2176x1536 e) (x : S2176x1536.Idx → Elt F e) (a : ℕ) (w : Fin 4 → S128x128.Idx → Elt F e) {o0 o1 o2 o3 : Fin 2 → ℕ}
    (i0 : ∀ a, o0 a + S128x128.size a ≤ S2176x1536.size a) (i1 : ∀ a, o1 a + S128x128.size a ≤ S2176x1536.size a) (i2 : ∀ a, o2 a + S128x128.size a ≤ S2176x1536.size a) (i3 : ∀ a, o3 a + S128x128.size a ≤ S2176x1536.size a)
    (h0 : o0 = ![a, 0]) (h1 : o1 = ![a, 128]) (h2 : o2 = ![a, 256]) (h3 : o3 = ![a, 384]) :
    v.read (Elt F) (v.writes (Elt F) (v.rep x) [⟨Rect.unit (s := S2176x1536) o3 S128x128.size i3, w 3⟩, ⟨Rect.unit (s := S2176x1536) o2 S128x128.size i2, w 2⟩, ⟨Rect.unit (s := S2176x1536) o1 S128x128.size i1, w 1⟩, ⟨Rect.unit (s := S2176x1536) o0 S128x128.size i0, w 0⟩])
      = putRows x a w := by
  rw [View.read_writes_cons_put v _ i3 (w 3) _ h3, View.read_writes_cons_put v _ i2 (w 2) _ h2, View.read_writes_cons_put v _ i1 (w 1) _ h1, View.read_writes_rep_unit v x i0 (w 0) h0]
  exact putRows_eq x a w

end Stores

/-- A buffer held by the values it reads. -/
abbrev heldAt (c : Dev nD) {s : Shape} {e : EltTy} (m : Memref sig .tc .vmem s e) (x : s.Idx → Elt F e) : sProp 𝕄 :=
  m.view.loc (c : Thread nD τ) ↦[m.view.set]{fullShare} m.view.rep x

end Cert.AttnIdeal.Gen
-- ==== Proof.AttnDown.lean ====
/-
  The downward walk of one query block, run: a window's trip takes what the buffers hold by `downStep`, and the loop by its
  iterate.
-/
module

public import proofs.«01_k».proof.Proof.AttnHeld

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1536 .bf16) (harg6 : arg6.IsWhole) (arg7 : Memref sig .tc .vmem S2176x512 .f32) (harg7 : arg7.IsWhole)
  (arg8 : Memref sig .tc .vmem S2176x512 .f32) (harg8 : arg8.IsWhole) (arg9 : Memref sig .tc .vmem S4x9x256x256 .f32) (harg9 : arg9.IsWhole)
  (arg10 : Memref sig .tc .vmem S4x9x256x256 .f32) (harg10 : arg10.IsWhole)
  (v1 v4 : IVec S256x256 32) (v9 : IVec S1x128 1) (v16 v21 : FVec F S256x256 .bf16) (t1 : Fin k0_t1_loop.trips) (arg11 : BitVec 32)
  (v51 v66 v81 v96 v109 v122 v135 v148 : FVec F S256x128 .bf16) (v166 : BitVec 32) (v167 v168 v169 v170 : FVec F S256x1 .f32) (c0_i32_51 c1_i32_52 v173 : BitVec 32)

/-- The buffers the downward walk touches, at its state. -/
abbrev heldDown (x3 x4 : FVec F S2176x512 .bf16) (σ : Down F) : sProp 𝕄 :=
  iprop(heldAt c arg3 x3 ∗ heldAt c arg4 x4 ∗ heldAt c arg8 σ.dv ∗ heldAt c arg9 σ.g ∗ heldAt c arg10 σ.sig)

/-- The carries as the loop carries them. -/
abbrev Down.tuple (σ : Down F) : FVec F S256x1 .f32 × FVec F S256x1 .f32 × FVec F S256x1 .f32 × FVec F S256x1 .f32 := (σ.car 0, σ.car 1, σ.car 2, σ.car 3)

/-- The downward walk's state before trip `k`, from its state at the start. -/
def downIter (x3 x4 : FVec F S2176x512 .bf16) (q o : Fin 4 → FVec F S256x128 .bf16) (σ : Down F) : ℕ → Down F
  | 0 => σ
  | k + 1 =>
    if h : k < (k0_t2_loop t1).trips then
      downStep (k0_pay2 v1 v4 t1 arg11 c0_i32_51 1#32 ⟨k, h⟩) v16 q o x3 x4 (128 * (t1.val - 1 - 2 * k)) k (downIter x3 x4 q o σ k)
    else downIter x3 x4 q o σ k

theorem down_run (k : Fin (k0_t2_loop t1).trips) (x3 x4 : FVec F S2176x512 .bf16) (σ : Down F) :
    heldDown c arg3 arg4 arg8 arg9 arg10 x3 x4 σ ⊢ wp frame (wpE (defs₀ (F := F)) Variants.none (c : Thread nD τ) none) Set.univ
      (k0_t2_body (F := F) i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 k σ.tuple)
      (fun st => iprop(heldDown c arg3 arg4 arg8 arg9 arg10 x3 x4 (downStep (k0_pay2 v1 v4 t1 arg11 c0_i32_51 1#32 k) v16 ![v51, v66, v81, v96] ![v109, v122, v135, v148] x3 x4 (128 * (t1.val - 1 - 2 * k.val)) k.val σ)
        ∗ ⌜st = (downStep (k0_pay2 v1 v4 t1 arg11 c0_i32_51 1#32 k) v16 ![v51, v66, v81, v96] ![v109, v122, v135, v148] x3 x4 (128 * (t1.val - 1 - 2 * k.val)) k.val σ).tuple⌝)) := by
  iintro ⟨H3, H4, H8, H9, H10⟩
  sl_unfold [k0_t2_body]
  sl_exec_parts
  sl_step
  have r5 := fun (e : EltTy) (v : View sig .tc .vmem S2176x512 e) x => read_cols (F := F) v x (k0_off5_inb t1 k) _ 0 (k0_off5_eq t1 k)
  have r6 := fun (e : EltTy) (v : View sig .tc .vmem S2176x512 e) x => read_cols (F := F) v x (k0_off6_inb t1 k) _ 1 (k0_off6_eq t1 k)
  have r7 := fun (e : EltTy) (v : View sig .tc .vmem S2176x512 e) x => read_cols (F := F) v x (k0_off7_inb t1 k) _ 2 (k0_off7_eq t1 k)
  have r8 := fun (e : EltTy) (v : View sig .tc .vmem S2176x512 e) x => read_cols (F := F) v x (k0_off8_inb t1 k) _ 3 (k0_off8_eq t1 k)
  unfold k0_off5 at r5; unfold k0_off6 at r6; unfold k0_off7 at r7; unfold k0_off8 at r8
  dsimp only at r5 r6 r7 r8
  sl_unfold_words
  simp only [r5, r6, r7, r8, pay4, pay5, pay6, pay8, pay9, pay10, pay16, pay17, pay19, pay20, pay22, pay23, pay29, pay30, pay31, pay33, pay34, pay35,
    pay139, pay140, pay141]
  isplitl [H3 H4 H8 H9 H10]
  · isplitl [H3]; · iexact H3
    isplitl [H4]; · iexact H4
    isplitl [H8]
    · iapply (pointsTo_rep_of_read (c : Thread nD τ) arg8 _ fullShare _ (left_cols arg8.view σ.dv _ (downDv (k0_pay2 v1 v4 t1 arg11 c0_i32_51 1#32 k) v16 ![v51, v66, v81, v96] ![v109, v122, v135, v148] x3 (128 * (t1.val - 1 - 2 * k.val)) σ) _ _ _ _ (k0_off5_eq t1 k) (k0_off6_eq t1 k) (k0_off7_eq t1 k) (k0_off8_eq t1 k)))
      iexact H8
    isplitl [H9]
    · iapply (pointsTo_rep_of_read (c : Thread nD τ) arg9 _ fullShare _ (left_slab arg9.view σ.g _ (downG (k0_pay2 v1 v4 t1 arg11 c0_i32_51 1#32 k) v16 ![v51, v66, v81, v96] ![v109, v122, v135, v148] x3 x4 (128 * (t1.val - 1 - 2 * k.val)) σ) _ _ _ _ (k0_off9_eq t1 k) (k0_off10_eq t1 k) (k0_off11_eq t1 k) (k0_off12_eq t1 k)))
      iexact H9
    iapply (pointsTo_rep_of_read (c : Thread nD τ) arg10 _ fullShare _ (left_slab arg10.view σ.sig _ (downSig (k0_pay2 v1 v4 t1 arg11 c0_i32_51 1#32 k) ![v51, v66, v81, v96] x3 (128 * (t1.val - 1 - 2 * k.val))) _ _ _ _ (k0_off9_eq t1 k) (k0_off10_eq t1 k) (k0_off11_eq t1 k) (k0_off12_eq t1 k)))
    iexact H10
  ipureintro
  rfl

set_option warn.classDefReducibility false in
/-- The downward loop's invariant: the buffers and the carries at the iterate. -/
@[sl_loop] def downInv (x3 x4 : FVec F S2176x512 .bf16) (c0 c1 c2 c3 : FVec F S256x1 .f32) (dv : FVec F S2176x512 .f32) (g sg : FVec F S4x9x256x256 .f32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 (c0, c1, c2, c3) where
  inv k st := iprop(heldDown c arg3 arg4 arg8 arg9 arg10 x3 x4 (downIter v1 v4 v16 t1 arg11 c0_i32_51 x3 x4 ![v51, v66, v81, v96] ![v109, v122, v135, v148] ⟨![c0, c1, c2, c3], dv, g, sg⟩ k)
    ∗ ⌜st = (downIter v1 v4 v16 t1 arg11 c0_i32_51 x3 x4 ![v51, v66, v81, v96] ![v109, v122, v135, v148] ⟨![c0, c1, c2, c3], dv, g, sg⟩ k).tuple⌝)
  step k st := by
    iintro ⟨H, %hst⟩
    subst hst
    rw [show downIter v1 v4 v16 t1 arg11 c0_i32_51 x3 x4 ![v51, v66, v81, v96] ![v109, v122, v135, v148] ⟨![c0, c1, c2, c3], dv, g, sg⟩ (k.val + 1) = _ from dif_pos k.isLt]
    iapply (down_run c i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 k x3 x4 _)
    iexact H

end Cert.AttnIdeal.Gen
-- ==== Proof.AttnUp.lean ====
/-
  The upward walk of one query block, run: a window's trip takes what the buffers hold by `upStep`, and the loop by its
  iterate.
-/
module

public import proofs.«01_k».proof.Proof.AttnHeld

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1536 .bf16) (harg6 : arg6.IsWhole) (arg7 : Memref sig .tc .vmem S2176x512 .f32) (harg7 : arg7.IsWhole)
  (arg8 : Memref sig .tc .vmem S2176x512 .f32) (harg8 : arg8.IsWhole) (arg9 : Memref sig .tc .vmem S4x9x256x256 .f32) (harg9 : arg9.IsWhole)
  (arg10 : Memref sig .tc .vmem S4x9x256x256 .f32) (harg10 : arg10.IsWhole)
  (v1 v4 : IVec S256x256 32) (v9 : IVec S1x128 1) (v16 v21 : FVec F S256x256 .bf16) (t1 : Fin k0_t1_loop.trips) (arg11 : BitVec 32)
  (v51 v66 v81 v96 v109 v122 v135 v148 : FVec F S256x128 .bf16) (v166 : BitVec 32) (v167 v168 v169 v170 : FVec F S256x1 .f32) (c0_i32_51 c1_i32_52 v173 : BitVec 32)

/-- The buffers the upward walk touches, at its state. -/
abbrev heldUp (x3 : FVec F S2176x512 .bf16) (g sg : FVec F S4x9x256x256 .f32) (σ : Up F) : sProp 𝕄 :=
  iprop(heldAt c arg3 x3 ∗ heldAt c arg9 g ∗ heldAt c arg10 sg ∗ heldAt c arg7 σ.dk)

/-- The sums and carries as the loop carries them. -/
abbrev Up.tuple (σ : Up F) : FVec F S256x128 .f32 × FVec F S256x128 .f32 × FVec F S256x128 .f32 × FVec F S256x128 .f32 × FVec F S256x1 .f32 × FVec F S256x1 .f32 × FVec F S256x1 .f32 × FVec F S256x1 .f32 :=
  (σ.acc 0, σ.acc 1, σ.acc 2, σ.acc 3, σ.car 0, σ.car 1, σ.car 2, σ.car 3)

/-- The upward walk's state before trip `k`, from its state at the start. -/
def upIter (x3 : FVec F S2176x512 .bf16) (q : Fin 4 → FVec F S256x128 .bf16) (g sg : FVec F S4x9x256x256 .f32) (σ : Up F) : ℕ → Up F
  | 0 => σ
  | k + 1 =>
    if h : k < (k0_t4_loop t1).trips then
      upStep (k0_pay74 v1 v4 t1 arg11 v166 0#32 1#32 ⟨k, h⟩) v21 q x3 g sg (128 * (t1.val - 1 - 2 * (t1.val / 2 - k))) (t1.val / 2 - k) (upIter x3 q g sg σ k)
    else upIter x3 q g sg σ k

theorem up_run (k : Fin (k0_t4_loop t1).trips) (x3 : FVec F S2176x512 .bf16) (g sg : FVec F S4x9x256x256 .f32) (σ : Up F) :
    heldUp c arg3 arg7 arg9 arg10 x3 g sg σ ⊢ wp frame (wpE (defs₀ (F := F)) Variants.none (c : Thread nD τ) none) Set.univ
      (k0_t4_body (F := F) i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 k σ.tuple)
      (fun st => iprop(heldUp c arg3 arg7 arg9 arg10 x3 g sg (upStep (k0_pay74 v1 v4 t1 arg11 v166 0#32 1#32 k) v21 ![v51, v66, v81, v96] x3 g sg (128 * (t1.val - 1 - 2 * (t1.val / 2 - k.val))) (t1.val / 2 - k.val) σ)
        ∗ ⌜st = (upStep (k0_pay74 v1 v4 t1 arg11 v166 0#32 1#32 k) v21 ![v51, v66, v81, v96] x3 g sg (128 * (t1.val - 1 - 2 * (t1.val / 2 - k.val))) (t1.val / 2 - k.val) σ).tuple⌝)) := by
  iintro ⟨H3, H9, H10, H7⟩
  sl_unfold [k0_t4_body]
  sl_exec_parts
  sl_step
  have r25 := fun (e : EltTy) (v : View sig .tc .vmem S2176x512 e) x => read_cols (F := F) v x (k0_off25_inb t1 k) _ 0 (k0_off25_eq t1 k)
  have r26 := fun (e : EltTy) (v : View sig .tc .vmem S2176x512 e) x => read_cols (F := F) v x (k0_off26_inb t1 k) _ 1 (k0_off26_eq t1 k)
  have r27 := fun (e : EltTy) (v : View sig .tc .vmem S2176x512 e) x => read_cols (F := F) v x (k0_off27_inb t1 k) _ 2 (k0_off27_eq t1 k)
  have r28 := fun (e : EltTy) (v : View sig .tc .vmem S2176x512 e) x => read_cols (F := F) v x (k0_off28_inb t1 k) _ 3 (k0_off28_eq t1 k)
  have r21 := fun (e : EltTy) (v : View sig .tc .vmem S4x9x256x256 e) x => read_slab (F := F) v x (k0_off21_inb t1 k) _ 0 (k0_off21_eq t1 k)
  have r22 := fun (e : EltTy) (v : View sig .tc .vmem S4x9x256x256 e) x => read_slab (F := F) v x (k0_off22_inb t1 k) _ 1 (k0_off22_eq t1 k)
  have r23 := fun (e : EltTy) (v : View sig .tc .vmem S4x9x256x256 e) x => read_slab (F := F) v x (k0_off23_inb t1 k) _ 2 (k0_off23_eq t1 k)
  have r24 := fun (e : EltTy) (v : View sig .tc .vmem S4x9x256x256 e) x => read_slab (F := F) v x (k0_off24_inb t1 k) _ 3 (k0_off24_eq t1 k)
  unfold k0_off25 at r25; unfold k0_off26 at r26; unfold k0_off27 at r27; unfold k0_off28 at r28
  unfold k0_off21 at r21; unfold k0_off22 at r22; unfold k0_off23 at r23; unfold k0_off24 at r24
  dsimp only at r25 r26 r27 r28 r21 r22 r23 r24
  sl_unfold_words
  simp only [r25, r26, r27, r28, r21, r22, r23, r24, pay76, pay77, pay78, pay89, pay90, pay91, pay94, pay95, pay96, pay97, pay98, pay153, pay154]
  isplitl [H3 H7 H9 H10]
  · isplitl [H3]; · iexact H3
    isplitl [H9]; · iexact H9
    isplitl [H10]; · iexact H10
    iapply (pointsTo_rep_of_read (c : Thread nD τ) arg7 _ fullShare _ (left_cols arg7.view σ.dk _ (upDk (k0_pay74 v1 v4 t1 arg11 v166 0#32 1#32 k) v21 ![v51, v66, v81, v96] g sg (128 * (t1.val - 1 - 2 * (t1.val / 2 - k.val))) (t1.val / 2 - k.val) σ)
      _ _ _ _ (k0_off25_eq t1 k) (k0_off26_eq t1 k) (k0_off27_eq t1 k) (k0_off28_eq t1 k)))
    iexact H7
  ipureintro
  rfl

set_option warn.classDefReducibility false in
/-- The upward loop's invariant: the buffers, the sums and the carries at the iterate. -/
@[sl_loop] def upInv (x3 : FVec F S2176x512 .bf16) (g sg : FVec F S4x9x256x256 .f32) (a0 a1 a2 a3 : FVec F S256x128 .f32) (c0 c1 c2 c3 : FVec F S256x1 .f32) (dk : FVec F S2176x512 .f32) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 (a0, a1, a2, a3, c0, c1, c2, c3) where
  inv k st := iprop(heldUp c arg3 arg7 arg9 arg10 x3 g sg (upIter v1 v4 v21 t1 arg11 v166 x3 ![v51, v66, v81, v96] g sg ⟨![a0, a1, a2, a3], ![c0, c1, c2, c3], dk⟩ k)
    ∗ ⌜st = (upIter v1 v4 v21 t1 arg11 v166 x3 ![v51, v66, v81, v96] g sg ⟨![a0, a1, a2, a3], ![c0, c1, c2, c3], dk⟩ k).tuple⌝)
  step k st := by
    iintro ⟨H, %hst⟩
    subst hst
    rw [show upIter v1 v4 v21 t1 arg11 v166 x3 ![v51, v66, v81, v96] g sg ⟨![a0, a1, a2, a3], ![c0, c1, c2, c3], dk⟩ (k.val + 1) = _ from dif_pos k.isLt]
    iapply (up_run c i arg2 harg2 arg3 harg3 arg4 harg4 arg5 harg5 arg6 harg6 arg7 harg7 arg8 harg8 arg9 harg9 arg10 harg10 v1 v4 v9 v16 v21 t1 arg11 v51 v66 v81 v96 v109 v122 v135 v148 v166 v167 v168 v169 v170 c0_i32_51 c1_i32_52 v173 k x3 g sg _)
    iexact H

end Cert.AttnIdeal.Gen
-- ==== Proof.AttnBlock.lean ====
/-
  One query block of the attention backward, run: it reads its stacked queries and output gradients, walks its key windows
  down and up, and writes its query gradient into the first columns of the output.
-/
module

public import proofs.«01_k».proof.Proof.AttnDown
public import proofs.«01_k».proof.Proof.AttnUp
public import Idealize.ShloMosaic.Lib.LoopRemainder

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a query block changes: the output, the two key gradients, and the two saved slabs. -/
structure Bufs (F : FTy → Type) where
  out : FVec F S2176x1536 .bf16
  dk : FVec F S2176x512 .f32
  dv : FVec F S2176x512 .f32
  g : FVec F S4x9x256x256 .f32
  sig : FVec F S4x9x256x256 .f32

section BlockStep

variable (v1 : IVec S256x256 32) (x2 x3 x4 x5 : FVec F S2176x512 .bf16) (t1 : Fin k0_t1_loop.trips) (β : Bufs F)

/-- The number of key windows of the block, as the program computes it. -/
def blockLen : BitVec 32 :=
  Scalar.select 0#1 (Scalar.subi (Scalar.divsi (Scalar.addi (Scf.iv 0#32 1#32 t1) 2#32) 2#32) 1#32) (Scalar.divsi (Scalar.addi (Scf.iv 0#32 1#32 t1) 2#32) 2#32)

/-- The stacked scaled queries of the block's column pairs. -/
def blockQ : Fin 4 → FVec F S256x128 .bf16 :=
  ![k0_pay124 k0_pay160 k0_pay161 (cutRows x2 (128 * t1.val) 0), k0_pay124 k0_pay160 k0_pay161 (cutRows x2 (128 * t1.val) 1),
    k0_pay124 k0_pay160 k0_pay161 (cutRows x2 (128 * t1.val) 2), k0_pay124 k0_pay160 k0_pay161 (cutRows x2 (128 * t1.val) 3)]
/-- The stacked output gradients of the block's column pairs. -/
def blockO : Fin 4 → FVec F S256x128 .bf16 :=
  ![k0_pay128 k0_pay160 k0_pay161 (cutRows x5 (128 * t1.val) 0), k0_pay128 k0_pay160 k0_pay161 (cutRows x5 (128 * t1.val) 1),
    k0_pay128 k0_pay160 k0_pay161 (cutRows x5 (128 * t1.val) 2), k0_pay128 k0_pay160 k0_pay161 (cutRows x5 (128 * t1.val) 3)]

/-- The block's downward walk, after all its windows. -/
def blockDown : Down F :=
  downIter v1 k0_pay159 k0_pay162 t1 (Scf.iv 0#32 1#32 t1) 0#32 x3 x4 (blockQ x2 t1) (blockO x5 t1)
    ⟨![k0_pay135, k0_pay136, k0_pay137, k0_pay138], β.dv, β.g, β.sig⟩ ((t1.val + 2) / 2)

/-- The block's upward walk, after all its windows. -/
def blockUp : Up F :=
  upIter v1 k0_pay159 k0_pay163 t1 (Scf.iv 0#32 1#32 t1) (blockLen t1) x3 (blockQ x2 t1)
    (blockDown v1 x2 x3 x4 x5 t1 β).g (blockDown v1 x2 x3 x4 x5 t1 β).sig
    ⟨![k0_pay145, k0_pay146, k0_pay147, k0_pay148], ![k0_pay149, k0_pay150, k0_pay151, k0_pay152], β.dk⟩ ((t1.val + 2) / 2)

/-- The block's query gradients, as they are written. -/
def blockDq : Fin 4 → FVec F S128x128 .bf16 := fun p => k0_pay157 k0_pay160 ((blockUp v1 x2 x3 x4 x5 t1 β).acc p)

/-- What one query block makes of the buffers. -/
def blockStep : Bufs F where
  out := putRows β.out (128 * t1.val) (blockDq v1 x2 x3 x4 x5 t1 β)
  dk := (blockUp v1 x2 x3 x4 x5 t1 β).dk
  dv := (blockDown v1 x2 x3 x4 x5 t1 β).dv
  g := (blockDown v1 x2 x3 x4 x5 t1 β).g
  sig := (blockDown v1 x2 x3 x4 x5 t1 β).sig

end BlockStep

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1536 .bf16) (harg6 : arg6.IsWhole) (arg7 : Memref sig .tc .vmem S2176x512 .f32) (harg7 : arg7.IsWhole)
  (arg8 : Memref sig .tc .vmem S2176x512 .f32) (harg8 : arg8.IsWhole) (arg9 : Memref sig .tc .vmem S4x9x256x256 .f32) (harg9 : arg9.IsWhole)
  (arg10 : Memref sig .tc .vmem S4x9x256x256 .f32) (harg10 : arg10.IsWhole) (v1 : IVec S256x256 32)

theorem pay125 (a b : IVec S1x128 1) (x : Vec F S128x128 .bf16) : k0_pay125 a b x = k0_pay124 a b x := rfl
theorem pay126 (a b : IVec S1x128 1) (x : Vec F S128x128 .bf16) : k0_pay126 a b x = k0_pay124 a b x := rfl
theorem pay127 (a b : IVec S1x128 1) (x : Vec F S128x128 .bf16) : k0_pay127 a b x = k0_pay124 a b x := rfl
theorem pay129 (a b : IVec S1x128 1) (x : Vec F S128x128 .bf16) : k0_pay129 a b x = k0_pay128 a b x := rfl
theorem pay133 (a b : IVec S1x128 1) (x : Vec F S128x128 .bf16) : k0_pay133 b (k0_pay130 x) k0_pay131 (k0_pay132 a) = k0_pay128 a b x := rfl
theorem pay134 (a b : IVec S1x128 1) (x : Vec F S128x128 .bf16) : k0_pay134 a b x = k0_pay128 a b x := rfl

theorem pay158 (a : IVec S1x128 1) (x : FVec F S256x128 .f32) : k0_pay158 a x = k0_pay157 a x := rfl
theorem pay166 (x : FVec F S256x128 .f32) : k0_pay166 x = k0_pay157 k0_pay160 x := rfl
theorem pay167 (x : FVec F S256x128 .f32) : k0_pay167 x = k0_pay157 k0_pay160 x := rfl

/-- Everything a query block reads and writes, by values. -/
abbrev heldAll (x2 x3 x4 x5 : FVec F S2176x512 .bf16) (β : Bufs F) : sProp 𝕄 :=
  iprop(heldAt c arg2 x2 ∗ heldAt c arg3 x3 ∗ heldAt c arg4 x4 ∗ heldAt c arg5 x5 ∗ heldAt c arg6 β.out ∗ heldAt c arg7 β.dk ∗ heldAt c arg8 β.dv ∗ heldAt c arg9 β.g ∗ heldAt c arg10 β.sig)

set_option maxHeartbeats 1000000 in
theorem block_run (t1 : Fin k0_t1_loop.trips) (x2 x3 x4 x5 : FVec F S2176x512 .bf16) (β : Bufs F) :
    heldAll c arg2 arg3 arg4 arg5 arg6 arg7 arg8 arg9 arg10 x2 x3 x4 x5 β
    ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 v1 t1 ⟨⟩)
      (fun _ => heldAll c arg2 arg3 arg4 arg5 arg6 arg7 arg8 arg9 arg10 x2 x3 x4 x5 (blockStep v1 x2 x3 x4 x5 t1 β)) := by
  iintro ⟨H2, H3, H4, H5, H6, H7, H8, H9, H10⟩
  sl_unfold [k0_t1_body]
  sl_exec_parts
  sl_step
  have r1 := fun (e : EltTy) (v : View sig .tc .vmem S2176x512 e) x => read_rows (F := F) v x (k0_off1_inb t1) _ 0 (k0_off1_eq t1)
  have r2 := fun (e : EltTy) (v : View sig .tc .vmem S2176x512 e) x => read_rows (F := F) v x (k0_off2_inb t1) _ 1 (k0_off2_eq t1)
  have r3 := fun (e : EltTy) (v : View sig .tc .vmem S2176x512 e) x => read_rows (F := F) v x (k0_off3_inb t1) _ 2 (k0_off3_eq t1)
  have r4 := fun (e : EltTy) (v : View sig .tc .vmem S2176x512 e) x => read_rows (F := F) v x (k0_off4_inb t1) _ 3 (k0_off4_eq t1)
  unfold k0_off1 at r1; unfold k0_off2 at r2; unfold k0_off3 at r3; unfold k0_off4 at r4
  dsimp only at r1 r2 r3 r4
  have n2 := trips2 t1
  have n4 := trips4 t1
  unfold Scf.Loop.trips k0_t2_loop at n2
  unfold Scf.Loop.trips k0_t4_loop at n4
  dsimp only at n2 n4
  have eD : downIter v1 k0_pay159 k0_pay162 t1 (Scf.iv 0#32 1#32 t1) 0#32 x3 x4 _ _ ⟨![k0_pay135, k0_pay136, k0_pay137, k0_pay138], β.dv, β.g, β.sig⟩ ((t1.val + 2) / 2) = blockDown v1 x2 x3 x4 x5 t1 β := rfl
  have eU : upIter v1 k0_pay159 k0_pay163 t1 (Scf.iv 0#32 1#32 t1) (blockLen t1) x3 _ (blockDown v1 x2 x3 x4 x5 t1 β).g (blockDown v1 x2 x3 x4 x5 t1 β).sig
    ⟨![k0_pay145, k0_pay146, k0_pay147, k0_pay148], ![k0_pay149, k0_pay150, k0_pay151, k0_pay152], β.dk⟩ ((t1.val + 2) / 2) = blockUp v1 x2 x3 x4 x5 t1 β := rfl
  unfold blockQ at eD eU
  unfold blockO at eD
  unfold blockLen at eU
  sl_unfold_words
  simp only [n2, n4, eD, eU, r1, r2, r3, r4, pay125, pay126, pay127, pay129, pay133, pay134, pay158, pay166, pay167]
  isplitl [H2]; · iexact H2
  isplitl [H3]; · iexact H3
  isplitl [H4]; · iexact H4
  isplitl [H5]; · iexact H5
  isplitl [H6]
  · iapply (pointsTo_rep_of_read (c : Thread nD τ) arg6 _ fullShare _ (left_rows arg6.view β.out _ (blockDq v1 x2 x3 x4 x5 t1 β) _ _ _ _ (k0_off37_eq t1) (k0_off38_eq t1) (k0_off39_eq t1) (k0_off40_eq t1)))
    iexact H6
  isplitl [H7]; · iexact H7
  isplitl [H8]; · iexact H8
  isplitl [H9]; · iexact H9
  iexact H10

/-- The query blocks' state before block `k`, from the state at the start. -/
def blockIter (v1 : IVec S256x256 32) (x2 x3 x4 x5 : FVec F S2176x512 .bf16) (β : Bufs F) : ℕ → Bufs F
  | 0 => β
  | k + 1 => if h : k < k0_t1_loop.trips then blockStep v1 x2 x3 x4 x5 ⟨k, h⟩ (blockIter v1 x2 x3 x4 x5 β k) else blockIter v1 x2 x3 x4 x5 β k

/-- Before the first block a buffer may be held by its raw contents `f`; from then on it is held by its values. -/
abbrev heldFrom (m : Memref sig .tc .vmem S2176x512 .f32) (f : Buf (Elt F) (m.view.loc (c : Thread nD τ))) (x : FVec F S2176x512 .f32) : ℕ → sProp 𝕄
  | 0 => m.view.loc (c : Thread nD τ) ↦[m.view.set]{fullShare} f
  | _ + 1 => heldAt c m x

theorem heldFrom_held (m : Memref sig .tc .vmem S2176x512 .f32) (f : Buf (Elt F) (m.view.loc (c : Thread nD τ))) (x : FVec F S2176x512 .f32) (k : ℕ)
    (h : k = 0 → m.view.read (Elt F) f = x) : heldFrom c m f x k ⊢ heldAt c m x := by
  cases k with
  | zero => exact pointsTo_rep_of_read (c : Thread nD τ) m f fullShare x (h rfl)
  | succ k => exact BI.Entails.refl _

set_option warn.classDefReducibility false in
/-- The query blocks' loop invariant: the buffers at the iterate. -/
@[sl_loop] def blockInv (x2 x3 x4 x5 : FVec F S2176x512 .bf16) (x6 : FVec F S2176x1536 .bf16)
    (f7 : Buf (Elt F) (arg7.view.loc (c : Thread nD τ))) (f8 : Buf (Elt F) (arg8.view.loc (c : Thread nD τ))) (g sg : FVec F S4x9x256x256 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 v1 where
  inv k _ :=
    iprop(heldAt c arg2 x2 ∗ heldAt c arg3 x3 ∗ heldAt c arg4 x4 ∗ heldAt c arg5 x5
      ∗ heldAt c arg6 (blockIter v1 x2 x3 x4 x5 ⟨x6, arg7.view.read (Elt F) f7, arg8.view.read (Elt F) f8, g, sg⟩ k).out
      ∗ heldFrom c arg7 f7 (blockIter v1 x2 x3 x4 x5 ⟨x6, arg7.view.read (Elt F) f7, arg8.view.read (Elt F) f8, g, sg⟩ k).dk k
      ∗ heldFrom c arg8 f8 (blockIter v1 x2 x3 x4 x5 ⟨x6, arg7.view.read (Elt F) f7, arg8.view.read (Elt F) f8, g, sg⟩ k).dv k
      ∗ heldAt c arg9 (blockIter v1 x2 x3 x4 x5 ⟨x6, arg7.view.read (Elt F) f7, arg8.view.read (Elt F) f8, g, sg⟩ k).g
      ∗ heldAt c arg10 (blockIter v1 x2 x3 x4 x5 ⟨x6, arg7.view.read (Elt F) f7, arg8.view.read (Elt F) f8, g, sg⟩ k).sig)
  step k st := by
    rw [show blockIter v1 x2 x3 x4 x5 ⟨x6, arg7.view.read (Elt F) f7, arg8.view.read (Elt F) f8, g, sg⟩ (k.val + 1) = _ from dif_pos k.isLt]
    iintro ⟨H2, H3, H4, H5, H6, H7, H8, H9, H10⟩
    iapply (block_run c i arg2 harg2 arg3 harg3 arg4 harg4 arg5 harg5 arg6 harg6 arg7 harg7 arg8 harg8 arg9 harg9 arg10 harg10 v1 k x2 x3 x4 x5 _)
    isplitl [H2]; · iexact H2
    isplitl [H3]; · iexact H3
    isplitl [H4]; · iexact H4
    isplitl [H5]; · iexact H5
    isplitl [H6]; · iexact H6
    isplitl [H7]
    · iapply (heldFrom_held c arg7 f7 _ k.val (fun h => by rw [h]; rfl))
      iexact H7
    isplitl [H8]
    · iapply (heldFrom_held c arg8 f8 _ k.val (fun h => by rw [h]; rfl))
      iexact H8
    isplitl [H9]; · iexact H9
    iexact H10

end Cert.AttnIdeal.Gen
-- ==== Proof.AttnBody.lean ====
/-
  The attention backward's body, run: the key gradients zeroed, the query blocks in order, the key gradients written out.
-/
module

public import proofs.«01_k».proof.Proof.AttnBlock

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The key positions of a window, lane by lane. -/
abbrev lanes : IVec S256x256 32 := iota .tc S256x256 32 [1] iota_S256x256_d1_w32

/-- The buffers after all 17 query blocks, from zero key gradients. -/
def bodyEnd (x2 x3 x4 x5 : FVec F S2176x512 .bf16) (x6 : FVec F S2176x1536 .bf16) (x9 x10 : FVec F S4x9x256x256 .f32) : Bufs F :=
  blockIter lanes x2 x3 x4 x5 ⟨x6, k0_pay164, k0_pay165, x9, x10⟩ 17

/-- The output after the body: the query gradients the blocks wrote, and the key gradients beside them. -/
def bodyOut (x2 x3 x4 x5 : FVec F S2176x512 .bf16) (x6 : FVec F S2176x1536 .bf16) (x9 x10 : FVec F S4x9x256x256 .f32) : FVec F S2176x1536 .bf16 :=
  VecWindow.put (s := S2176x1536) (VecWindow.put (s := S2176x1536) (bodyEnd x2 x3 x4 x5 x6 x9 x10).out ![0, 512] S2176x512.size (k0_pay168 (bodyEnd x2 x3 x4 x5 x6 x9 x10).dk))
    ![0, 1024] S2176x512.size (k0_pay1 (bodyEnd x2 x3 x4 x5 x6 x9 x10).dv)

theorem left_keys {e : EltTy} (v : View sig .tc .vmem S2176x1536 e) (x : S2176x1536.Idx → Elt F e) (w w' : S2176x512.Idx → Elt F e) :
    v.read (Elt F) (v.writes (Elt F) (v.rep x)
      [⟨Rect.unit (s := S2176x1536) ![0, 1024] S2176x512.size inb_S2176x1536_S2176x512_0_1024, w'⟩,
        ⟨Rect.unit (s := S2176x1536) ![0, 512] S2176x512.size inb_S2176x1536_S2176x512_0_512, w⟩])
      = VecWindow.put (s := S2176x1536) (VecWindow.put (s := S2176x1536) x ![0, 512] S2176x512.size w) ![0, 1024] S2176x512.size w' := by
  rw [View.read_writes_cons_put v _ inb_S2176x1536_S2176x512_0_1024 w' _ rfl, View.read_writes_rep_unit v x inb_S2176x1536_S2176x512_0_512 w rfl]

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1536 .bf16) (harg6 : arg6.IsWhole) (arg7 : Memref sig .tc .vmem S2176x512 .f32) (harg7 : arg7.IsWhole)
  (arg8 : Memref sig .tc .vmem S2176x512 .f32) (harg8 : arg8.IsWhole) (arg9 : Memref sig .tc .vmem S4x9x256x256 .f32) (harg9 : arg9.IsWhole)
  (arg10 : Memref sig .tc .vmem S4x9x256x256 .f32) (harg10 : arg10.IsWhole)

set_option maxHeartbeats 1000000 in
theorem body_run (x2 x3 x4 x5 : FVec F S2176x512 .bf16) (x6 : FVec F S2176x1536 .bf16) (x7 x8 : FVec F S2176x512 .f32) (x9 x10 : FVec F S4x9x256x256 .f32) :
    heldAll c arg2 arg3 arg4 arg5 arg6 arg7 arg8 arg9 arg10 x2 x3 x4 x5 ⟨x6, x7, x8, x9, x10⟩
    ⊢ wp frame (wpE (defs₀ (F := F)) Variants.none (c : Thread nD τ) none) Set.univ
      (cc0_attn_bwd (F := F) i arg2 harg2 arg3 harg3 arg4 harg4 arg5 harg5 arg6 harg6 arg7 harg7 arg8 harg8 arg9 harg9 arg10 harg10)
      (fun _ => iprop(heldAt c arg2 x2 ∗ heldAt c arg3 x3 ∗ heldAt c arg4 x4 ∗ heldAt c arg5 x5 ∗ heldAt c arg6 (bodyOut x2 x3 x4 x5 x6 x9 x10)
        ∗ heldAt c arg7 (bodyEnd x2 x3 x4 x5 x6 x9 x10).dk ∗ heldAt c arg8 (bodyEnd x2 x3 x4 x5 x6 x9 x10).dv
        ∗ heldAt c arg9 (bodyEnd x2 x3 x4 x5 x6 x9 x10).g ∗ heldAt c arg10 (bodyEnd x2 x3 x4 x5 x6 x9 x10).sig)) := by
  iintro ⟨H2, H3, H4, H5, H6, H7, H8, H9, H10⟩
  unfold cc0_attn_bwd
  sl_exec_parts
  sl_step
  have n1 := trips1
  unfold Scf.Loop.trips at n1
  have eE : blockIter lanes x2 x3 x4 x5 ⟨x6, k0_pay164, k0_pay165, x9, x10⟩ 17 = bodyEnd x2 x3 x4 x5 x6 x9 x10 := rfl
  unfold lanes at eE
  sl_unfold_words
  have z7 : View.read (Elt F) arg7.view (arg7.view.writes (Elt F) arg7.view.junk [⟨Rect.unit (s := S2176x512) ![0, 0] ![2176, 512] inb_S2176x512_S2176x512_0_0, k0_pay164⟩]) = k0_pay164 :=
    View.read_writes_full arg7.view _ inb_S2176x512_S2176x512_0_0 _ _
  have z8 : View.read (Elt F) arg8.view (arg8.view.writes (Elt F) arg8.view.junk [⟨Rect.unit (s := S2176x512) ![0, 0] ![2176, 512] inb_S2176x512_S2176x512_0_0, k0_pay165⟩]) = k0_pay165 :=
    View.read_writes_full arg8.view _ inb_S2176x512_S2176x512_0_0 _ _
  have l7 := fun x => View.readAt_rep_full (Val := Elt F) arg7.view x inb_S2176x512_S2176x512_0_0
  have l8 := fun x => View.readAt_rep_full (Val := Elt F) arg8.view x inb_S2176x512_S2176x512_0_0
  dsimp only [S2176x512] at l7 l8
  simp only [z7, z8, n1, eE, l7, l8]
  isplitl [H2]; · iexact H2
  isplitl [H3]; · iexact H3
  isplitl [H4]; · iexact H4
  isplitl [H5]; · iexact H5
  isplitl [H6]
  · iapply (pointsTo_rep_of_read (c : Thread nD τ) arg6 _ fullShare _
      (left_keys arg6.view (bodyEnd x2 x3 x4 x5 x6 x9 x10).out (k0_pay168 (bodyEnd x2 x3 x4 x5 x6 x9 x10).dk) (k0_pay1 (bodyEnd x2 x3 x4 x5 x6 x9 x10).dv)))
    iexact H6
  isplitl [H7]; · iexact H7
  isplitl [H8]; · iexact H8
  isplitl [H9]; · iexact H9
  iexact H10

end Cert.AttnIdeal.Gen
-- ==== Proof.AttnAgree.lean ====
/-
  What the attention backward's body leaves in its output does not depend on what the output and the saved slabs held
  before: a block reads only slabs it has written itself, and the blocks and the last two stores write every position.
-/
module

public import proofs.«01_k».proof.Proof.AttnBody

@[expose] public section

noncomputable section

namespace Cert.AttnIdeal.Gen

open Idealize.ShloMosaic

variable {F : FTy → Type} [FloatOps F]

section Slab

variable {α : Type} (x : S4x9x256x256.Idx → α) (w : Fin 4 → S1x1x256x256.Idx → α) (s s' : ℕ) (p : Fin 4)

theorem cutSlab_putSlab_same (h : s < 9) : cutSlab (putSlab x s w) s p = fun y => w p (ix4 0 0 (y 2) (y 3)) := by
  funext y
  unfold cutSlab putSlab
  exact if_pos (Nat.mod_eq_of_lt h)

theorem cutSlab_putSlab_ne (h : s' < 9) (hne : s' ≠ s) : cutSlab (putSlab x s w) s' p = cutSlab x s' p := by
  funext y
  unfold cutSlab putSlab
  exact if_neg (show ¬ s' % 9 = s by omega)

end Slab

section Walks

variable (v1 v4 : IVec S256x256 32) (v16 : FVec F S256x256 .bf16) (t1 : Fin k0_t1_loop.trips) (arg11 c0 : BitVec 32)
  (x3 x4 : FVec F S2176x512 .bf16) (q o : Fin 4 → FVec F S256x128 .bf16)

theorem downIter_agree (σ σ' : Down F) (hc : σ.car = σ'.car) (hd : σ.dv = σ'.dv) : ∀ k : ℕ, k ≤ (t1.val + 2) / 2 →
    (downIter v1 v4 v16 t1 arg11 c0 x3 x4 q o σ k).car = (downIter v1 v4 v16 t1 arg11 c0 x3 x4 q o σ' k).car
    ∧ (downIter v1 v4 v16 t1 arg11 c0 x3 x4 q o σ k).dv = (downIter v1 v4 v16 t1 arg11 c0 x3 x4 q o σ' k).dv
    ∧ ∀ s < k, ∀ p, cutSlab (downIter v1 v4 v16 t1 arg11 c0 x3 x4 q o σ k).g s p = cutSlab (downIter v1 v4 v16 t1 arg11 c0 x3 x4 q o σ' k).g s p
      ∧ cutSlab (downIter v1 v4 v16 t1 arg11 c0 x3 x4 q o σ k).sig s p = cutSlab (downIter v1 v4 v16 t1 arg11 c0 x3 x4 q o σ' k).sig s p
  | 0, _ => ⟨hc, hd, fun s hs => absurd hs (Nat.not_lt_zero s)⟩
  | k + 1, hk => by
    have ht : t1.val < 17 := lt_of_lt_of_eq t1.isLt trips1
    have hkt : k < (k0_t2_loop t1).trips := by rw [trips2]; omega
    obtain ⟨ec, ed, eg⟩ := downIter_agree σ σ' hc hd k (by omega)
    rw [show downIter v1 v4 v16 t1 arg11 c0 x3 x4 q o σ (k + 1) = _ from dif_pos hkt,
      show downIter v1 v4 v16 t1 arg11 c0 x3 x4 q o σ' (k + 1) = _ from dif_pos hkt]
    generalize downIter v1 v4 v16 t1 arg11 c0 x3 x4 q o σ k = τ at ec ed eg ⊢
    generalize downIter v1 v4 v16 t1 arg11 c0 x3 x4 q o σ' k = τ' at ec ed eg ⊢
    unfold downStep downCar downDv downG
    refine ⟨by simp only [ec], by simp only [ec, ed], fun s hs p => ?_⟩
    by_cases e : s = k
    · subst e
      simp only [cutSlab_putSlab_same _ _ _ _ (show s < 9 by omega), ec, and_self]
    · simp only [cutSlab_putSlab_ne _ _ _ _ _ (show s < 9 by omega) e]
      exact eg s (by omega) p

theorem upIter_agree (v21 : FVec F S256x256 .bf16) (v166 : BitVec 32) (g sg g' sg' : FVec F S4x9x256x256 .f32) (σ : Up F)
    (h : ∀ s < (t1.val + 2) / 2, ∀ p, cutSlab g s p = cutSlab g' s p ∧ cutSlab sg s p = cutSlab sg' s p) : ∀ k : ℕ,
    upIter v1 v4 v21 t1 arg11 v166 x3 q g sg σ k = upIter v1 v4 v21 t1 arg11 v166 x3 q g' sg' σ k
  | 0 => rfl
  | k + 1 => by
    unfold upIter
    by_cases hk : k < (k0_t4_loop t1).trips
    · rw [dif_pos hk, dif_pos hk, upIter_agree v21 v166 g sg g' sg' σ h k]
      have e := fun p => h (t1.val / 2 - k) (by omega) p
      unfold upStep upAcc upCar upDk upDz
      simp only [fun p => (e p).1, fun p => (e p).2]
    · rw [dif_neg hk, dif_neg hk, upIter_agree v21 v166 g sg g' sg' σ h k]

end Walks

section Blocks

variable (v1 : IVec S256x256 32) (x2 x3 x4 x5 : FVec F S2176x512 .bf16)

theorem blockStep_agree (t1 : Fin k0_t1_loop.trips) (β β' : Bufs F) (hk : β.dk = β'.dk) (hv : β.dv = β'.dv) :
    (blockStep v1 x2 x3 x4 x5 t1 β).dk = (blockStep v1 x2 x3 x4 x5 t1 β').dk
    ∧ (blockStep v1 x2 x3 x4 x5 t1 β).dv = (blockStep v1 x2 x3 x4 x5 t1 β').dv
    ∧ blockDq v1 x2 x3 x4 x5 t1 β = blockDq v1 x2 x3 x4 x5 t1 β' := by
  have hd : (blockDown v1 x2 x3 x4 x5 t1 β).car = (blockDown v1 x2 x3 x4 x5 t1 β').car ∧ (blockDown v1 x2 x3 x4 x5 t1 β).dv = (blockDown v1 x2 x3 x4 x5 t1 β').dv
      ∧ ∀ s < (t1.val + 2) / 2, ∀ p, cutSlab (blockDown v1 x2 x3 x4 x5 t1 β).g s p = cutSlab (blockDown v1 x2 x3 x4 x5 t1 β').g s p
        ∧ cutSlab (blockDown v1 x2 x3 x4 x5 t1 β).sig s p = cutSlab (blockDown v1 x2 x3 x4 x5 t1 β').sig s p :=
    downIter_agree v1 k0_pay159 k0_pay162 t1 _ _ x3 x4 (blockQ x2 t1) (blockO x5 t1) ⟨![k0_pay135, k0_pay136, k0_pay137, k0_pay138], β.dv, β.g, β.sig⟩
      ⟨![k0_pay135, k0_pay136, k0_pay137, k0_pay138], β'.dv, β'.g, β'.sig⟩ rfl hv _ (le_refl _)
  have hu : blockUp v1 x2 x3 x4 x5 t1 β = blockUp v1 x2 x3 x4 x5 t1 β' := by
    unfold blockUp
    rw [hk]
    exact upIter_agree v1 k0_pay159 t1 _ x3 _ k0_pay163 _ _ _ _ _ _ hd.2.2 _
  refine ⟨congrArg Up.dk hu, hd.2.1, ?_⟩
  unfold blockDq
  rw [hu]

theorem blockIter_agree (β β' : Bufs F) (hk : β.dk = β'.dk) (hv : β.dv = β'.dv) : ∀ k : ℕ, k ≤ 17 →
    (blockIter v1 x2 x3 x4 x5 β k).dk = (blockIter v1 x2 x3 x4 x5 β' k).dk
    ∧ (blockIter v1 x2 x3 x4 x5 β k).dv = (blockIter v1 x2 x3 x4 x5 β' k).dv
    ∧ ∀ y : S2176x1536.Idx, (y 0).val < 128 * k → (y 1).val < 512 →
      (blockIter v1 x2 x3 x4 x5 β k).out y = (blockIter v1 x2 x3 x4 x5 β' k).out y
  | 0, _ => ⟨hk, hv, fun y h => absurd h (Nat.not_lt_zero _)⟩
  | k + 1, hk17 => by
    have hkt : k < k0_t1_loop.trips := by rw [trips1]; omega
    obtain ⟨ek, ev, eo⟩ := blockIter_agree β β' hk hv k (by omega)
    rw [show blockIter v1 x2 x3 x4 x5 β (k + 1) = _ from dif_pos hkt, show blockIter v1 x2 x3 x4 x5 β' (k + 1) = _ from dif_pos hkt]
    obtain ⟨sk, sv, sq⟩ := blockStep_agree v1 x2 x3 x4 x5 ⟨k, hkt⟩ _ _ ek ev
    refine ⟨sk, sv, fun y h0 h1 => ?_⟩
    show putRows _ _ _ y = putRows _ _ _ y
    rw [sq]
    unfold putRows
    by_cases h : (128 * k ≤ (y 0).val ∧ (y 0).val < 128 * k + 128) ∧ (y 1).val < 512
    · rw [dif_pos h, dif_pos h]
    · rw [dif_neg h, dif_neg h]
      exact eo y (by omega) h1

/-- The output is the same whatever the output and the slabs held before the body. -/
theorem bodyOut_agree (x6 x6' : FVec F S2176x1536 .bf16) (x9 x10 x9' x10' : FVec F S4x9x256x256 .f32) :
    bodyOut x2 x3 x4 x5 x6 x9 x10 = bodyOut x2 x3 x4 x5 x6' x9' x10' := by
  obtain ⟨ek, ev, eo⟩ := blockIter_agree lanes x2 x3 x4 x5 ⟨x6, k0_pay164, k0_pay165, x9, x10⟩ ⟨x6', k0_pay164, k0_pay165, x9', x10'⟩ rfl rfl 17 (le_refl _)
  funext y
  have h0 : (y 0).val < 2176 := (y 0).isLt
  have h1 : (y 1).val < 1536 := (y 1).isLt
  have key : ∀ b : ℕ, (∀ c : Fin S2176x1536.rank, (![0, b] : Fin 2 → ℕ) c ≤ (y c).val ∧ (y c).val < (![0, b] : Fin 2 → ℕ) c + S2176x512.size c)
      ↔ b ≤ (y 1).val ∧ (y 1).val < b + 512 := fun b =>
    ⟨fun h => h 1, fun h c => match c with | ⟨0, _⟩ => (show 0 ≤ (y 0).val ∧ (y 0).val < 0 + 2176 by omega) | ⟨1, _⟩ => h⟩
  unfold bodyOut bodyEnd
  rw [ek, ev]
  unfold VecWindow.put
  by_cases c2 : 1024 ≤ (y 1).val
  · rw [dif_pos ((key 1024).mpr ⟨c2, by omega⟩), dif_pos ((key 1024).mpr ⟨c2, by omega⟩)]
  · rw [dif_neg (fun h => c2 ((key 1024).mp h).1), dif_neg (fun h => c2 ((key 1024).mp h).1)]
    by_cases c1 : 512 ≤ (y 1).val
    · rw [dif_pos ((key 512).mpr ⟨c1, by omega⟩), dif_pos ((key 512).mpr ⟨c1, by omega⟩)]
    · rw [dif_neg (fun h => c1 ((key 512).mp h).1), dif_neg (fun h => c1 ((key 512).mp h).1)]
      exact eo y (by omega) (by omega)

end Blocks

end Cert.AttnIdeal.Gen
-- ==== Proof.AttnRun.lean ====
/-
  The attention backward's run: the body at each of its four sequences takes the sequence's four blocks to its gradients, so
  the region ends with the output array assembled from them.
-/
module

public import proofs.«01_k».proof.Proof.AttnAgree
public import Idealize.ShloMosaic.Lib.Pipeline.TableIdle
public import Idealize.ShloMosaic.Lib.Claim

@[expose] public section

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gradients of one sequence, from its blocks of queries, keys, values and output gradients. -/
def seqOut (x2 x3 x4 x5 : FVec F S2176x512 .bf16) : FVec F S2176x1536 .bf16 :=
  bodyOut x2 x3 x4 x5 (fun _ => Scalar.ofBits .bf16 0#16) (fun _ => Scalar.ofBits .f32 0#32) (fun _ => Scalar.ofBits .f32 0#32)

/-- A buffer whole at some contents, as the memref of the whole buffer owned at them. -/
theorem some_owned (c : Dev nD) (b : Ref sig .tc) :
    iprop(∃ f : Buf (Elt F) (c.tc.loc b), (c.tc.loc b ↦{fullShare} f : sProp 𝕄))
      = iprop(∃ f : b.ty.Contents (Elt F), owns (c : Thread nD τ) (Memref.whole b) fullShare f) := by
  simp only [owns_whole]

/-- The body's run with its buffers owned at their contents, the scratch buffers' final contents forgotten. -/
theorem body_owns (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1536 .bf16) (harg6 : arg6.IsWhole) (arg7 : Memref sig .tc .vmem S2176x512 .f32) (harg7 : arg7.IsWhole)
  (arg8 : Memref sig .tc .vmem S2176x512 .f32) (harg8 : arg8.IsWhole) (arg9 : Memref sig .tc .vmem S4x9x256x256 .f32) (harg9 : arg9.IsWhole)
  (arg10 : Memref sig .tc .vmem S4x9x256x256 .f32) (harg10 : arg10.IsWhole) (x2 x3 x4 x5 : FVec F S2176x512 .bf16) (x6 : FVec F S2176x1536 .bf16) (x7 x8 : FVec F S2176x512 .f32) (x9 x10 : FVec F S4x9x256x256 .f32) :
    (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare x8 ∗ owns (c : Thread nD τ) arg9 fullShare x9 ∗ owns (c : Thread nD τ) arg10 fullShare x10) : sProp 𝕄)
      ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10)
        (fun _ => iprop((owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare (seqOut x2 x3 x4 x5))
          ∗ ((∃ f, owns (c : Thread nD τ) arg7 fullShare f) ∗ (∃ f, owns (c : Thread nD τ) arg8 fullShare f)
            ∗ (∃ f, owns (c : Thread nD τ) arg9 fullShare f) ∗ (∃ f, owns (c : Thread nD τ) arg10 fullShare f)))) := by
  have given : iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare x8 ∗ owns (c : Thread nD τ) arg9 fullShare x9 ∗ owns (c : Thread nD τ) arg10 fullShare x10)
      = (heldAll c arg2 arg3 arg4 arg5 arg6 arg7 arg8 arg9 arg10 x2 x3 x4 x5 ⟨x6, x7, x8, x9, x10⟩ : sProp 𝕄) := by
    unfold heldAll heldAt
    simp only [owns_eq_rep]
  rw [given]
  have run := body_run c i arg2 harg2 arg3 harg3 arg4 harg4 arg5 harg5 arg6 harg6 arg7 harg7 arg8 harg8 arg9 harg9 arg10 harg10 x2 x3 x4 x5 x6 x7 x8 x9 x10
  refine BI.BIBase.Entails.trans run (wp_mono _ _ _ fun _ => ?_)
  unfold heldAt
  rw [show bodyOut x2 x3 x4 x5 x6 x9 x10 = seqOut x2 x3 x4 x5 from bodyOut_agree ..]
  simp only [owns_eq_rep]
  iintro ⟨H2, H3, H4, H5, H6, H7, H8, H9, H10⟩
  isplitl [H2 H3 H4 H5 H6]
  · isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  iexists _; iexact H10

/-- The region's proof data: the inputs stay at their blocks, the output's block is the sequence's gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => seqOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = seqOut (iblk m c 0 t) (iblk m c 1 t) (iblk m c 2 t) (iblk m c 3 t) := by
  dsimp only [dats]

/-- What the body is called with at a sequence, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- A window is never idle: the body leaves it at `after`. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [show cfg0.idle w (grid0.coords t) = false from rfl]

set_option maxHeartbeats 1000000 in
/-- The body's triple at a sequence. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  rw [show (dats m 0 c).Φ t.succ = (dats m 0 c).Φ t.castSucc from rfl,
    show (dats m 0 c).owesAt () t.succ = (dats m 0 c).owesAt () t.castSucc from rfl]
  rw [leaves, leaves, leaves, leaves, leaves, after0_0, after0_1, after0_2, after0_3, after0_4]
  rw [show (dats m 0 c).Φ t.castSucc = Pipeline.ΦA spec0 c from rfl]
  unfold Pipeline.ΦA
  rw [scopedRest0_eq, some_owned, some_owned, some_owned, some_owned]
  iintro ⟨⟨⟨⟨%f7, H7⟩, ⟨%f8, H8⟩, ⟨%f9, H9⟩, ⟨%f10, H10⟩⟩, Hr⟩, Ho, ⟨%d0, H2⟩, ⟨%d1, H3⟩, ⟨%d2, H4⟩, ⟨%d3, H5⟩, ⟨%d4, H6⟩⟩
  iapply (wp_wand_r _ _ _)
  isplitl [H2 H3 H4 H5 H6 H7 H8 H9 H10]
  · iapply (body_owns c (grid0.coords t) _ _ _ _ _ _ _ _ _ _ _ _ _ _ _ _ _ _ (iblk m c 0 t) (iblk m c 1 t) (iblk m c 2 t) (iblk m c 3 t) ((dats m 0 c).before 4 t d4) f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨⟨H2, H3, H4, H5, H6⟩, Hs⟩
  isplitl [Hs Hr]
  · isplitl [Hs]; · iexact Hs
    iexact Hr
  isplitl [Ho]; · iexact Ho
  isplitl [H2]; · iexact H2
  isplitl [H3]; · iexact H3
  isplitl [H4]; · iexact H4
  isplitl [H5]; · iexact H5
  iexact H6

/-- The body table's row at a sequence's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body keeps the pipeline's obligation at every sequence. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every fair execution ends with the arrays at what the proof data computes and the host lines after the
    region make of them, and with every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the run ends, the argument arrays are unchanged and no counter is left raised. -/
theorem frame_attn : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) (run_main m ρ)) ((θ_run defs _ _).mono (fun _ h => h.2) (run_main_quiescent m ρ))

end Cert.AttnIdeal.Gen
-- ==== Proof.AttnFrames.lean ====
/-
  The attention backward's frames: the machine's program and the ideal one run alike, and the reference has no counters.
-/
module

public import proofs.«01_k».proof.Defs
public import proofs.«01_k».proof.Proof.AttnRun
public import proofs.«01_k».proof.Proof.Gen.Attn
public import proofs.«01_k».proof.Proof.Gen.AttnRefIdeal.Run

@[expose] public section

noncomputable section

namespace Cert.AttnClaim

open Idealize.ShloMosaic Idealize.SL.Sem Idealize.ShloMosaic.TcCoe

instance : Cert.Attn.Facts := Cert.Attn.Gen.facts
instance : Cert.AttnIdeal.Facts := Cert.AttnIdeal.Gen.facts
instance : Cert.AttnRefIdeal.Facts := Cert.AttnRefIdeal.Gen.facts

/-- The machine's program ends with its arguments unchanged: its run is the ideal program's, over the machine's values. -/
theorem frame_kernel : Cert.quiescent_Attn := fun m ρ _ => by
  have h := Cert.AttnIdeal.Gen.frame_attn (F := Bits) m ρ
  exact Eq.mp (by sl_kernel_rfl) h

/-- The reference ends with every counter at zero: it has none. -/
theorem frame_ref : Cert.quiescent_AttnRefIdeal := fun m g _ =>
  (θ_run Cert.AttnRefIdeal.defs _ _).mono (fun r h => ⟨fun c => (h c).2, sem_eq_zero_of_no_sems rfl r.2⟩) (Cert.AttnRefIdeal.Value.run m g)

end Cert.AttnClaim
-- ==== Proof.InprojBlock.lean ====
/-
  What one grid point of the projections' backward computes, for a block of 512 rows of real numbers: the cotangent of
  the normalised rows, the gradient of the rows and the block's share of the gain's gradient.
-/
module

public import proofs.«01_k».proof.Proof.RmsNorm
public import proofs.«01_k».proof.Proof.Gen.InprojIdeal.Skeleton

@[expose] public section

set_option maxRecDepth 16384

noncomputable section

namespace Cert.InprojIdeal.Block

open Idealize.ShloMosaic Cert.InprojIdeal Cert.InprojIdeal.Gen Cert.Reals Cert.RmsNorm

/-- The cotangent of a normalised row: the projections' cotangents of the row, sent back through the weights. -/
def back (u : Fin 1024 → ℝ) (w : Fin 1536 → ℝ) (wa : Fin 1024 → Fin 1024 → ℝ) (wb : Fin 1024 → Fin 1536 → ℝ) (j : Fin 1024) : ℝ :=
  (∑ n, u n * wa j n) + ∑ n, w n * wb j n

variable (u : Vec Ideal S512x1024 .bf16) (wa : Vec Ideal S1024x1024 .bf16) (w : Vec Ideal S512x1536 .bf16) (wb : Vec Ideal S1024x1536 .bf16)
variable (x : Vec Ideal S512x1024 .f32) (g : Vec Ideal S1x1024 .f32)
variable (U : Fin 512 → Fin 1024 → ℝ) (WA : Fin 1024 → Fin 1024 → ℝ) (W : Fin 512 → Fin 1536 → ℝ) (WB : Fin 1024 → Fin 1536 → ℝ)
variable (X : Fin 512 → Fin 1024 → ℝ) (G : Fin 1024 → ℝ)
variable (hu : ∀ r j, u (ix2 r j) = (U r j : EReal)) (hwa : ∀ r j, wa (ix2 r j) = (WA r j : EReal))
variable (hw : ∀ r j, w (ix2 r j) = (W r j : EReal)) (hwb : ∀ r j, wb (ix2 r j) = (WB r j : EReal))
variable (hx : ∀ r j, x (ix2 r j) = (X r j : EReal)) (hg : ∀ j, g (ix2 0 j) = (G j : EReal))

include hu hwa hw hwb in
theorem pay4 (r : Fin 512) (j : Fin 1024) : k0_pay4 u wa w wb (ix2 r j) = (back (U r) (W r) WA WB j : EReal) := by
  unfold k0_pay4
  pointwise
  simp only [hu, hwa, hw, hwb, ← EReal.coe_mul, sum_coe, ← EReal.coe_add, zero_add, back]

include hx in
theorem pay6 (r : Fin 512) (z : Fin 1) : k0_pay6 x (ix2 r z) = (rs (X r) : EReal) := by
  unfold k0_pay6 k0_pay5
  pointwise
  simp only [hx, ← EReal.coe_mul, rs_coe]

include hx in
theorem pay7 (r : Fin 512) (j : Fin 1024) : k0_pay7 x (ix2 r j) = ((X r j * rs (X r) : ℝ) : EReal) := by
  unfold k0_pay7 k0_pay5
  pointwise
  simp only [hx, pay6 x X hx, ← EReal.coe_mul]

include hu hwa hw hwb hg in
theorem pay8 (r : Fin 512) (j : Fin 1024) : k0_pay8 u wa w wb g (ix2 r j) = ((back (U r) (W r) WA WB j * G j : ℝ) : EReal) := by
  unfold k0_pay8
  pointwise
  simp only [hg, pay4 u wa w wb U WA W WB hu hwa hw hwb, ← EReal.coe_mul]

include hu hwa hw hwb hx hg in
/-- The gradient of the block's rows, added to the cotangent that goes past the norm. -/
theorem pay1 (d : Vec Ideal S512x1024 .f32) (D : Fin 512 → Fin 1024 → ℝ) (hd : ∀ r j, d (ix2 r j) = (D r j : EReal))
    (r : Fin 512) (j : Fin 1024) :
    k0_pay1 (k0_pay6 x) (k0_pay8 u wa w wb g) (k0_pay9 u wa w wb x g) d (ix2 r j)
      = ((D r j + grad (X r) (fun k => back (U r) (W r) WA WB k * G k) j : ℝ) : EReal) := by
  unfold k0_pay1 k0_pay9
  pointwise
  simp only [hd, pay6 x X hx, pay7 x X hx, pay8 u wa w wb g U WA W WB G hu hwa hw hwb hg, ← EReal.coe_mul, sum_coe, ofBits_1024]
  rw [div_real (by norm_num)]
  simp only [← EReal.coe_mul, ← EReal.coe_sub, ← EReal.coe_add, grad]

include hu hwa hw hwb hx in
/-- The block's share of the gain's gradient is added to what the gain's block held. -/
theorem pay2 (a : Vec Ideal S1x1024 .f32) (j : Fin 1024) :
    k0_pay2 (k0_pay4 u wa w wb) (k0_pay7 x) a (ix2 0 j)
      = a (ix2 0 j) + ((∑ r, back (U r) (W r) WA WB j * (X r j * rs (X r)) : ℝ) : EReal) := by
  unfold k0_pay2
  pointwise
  simp only [pay4 u wa w wb U WA W WB hu hwa hw hwb, pay7 x X hx, ← EReal.coe_mul, sum_coe]

theorem pay3 (j : S1x1024.Idx) : k0_pay3 (F := Ideal) j = 0 := by unfold k0_pay3; pointwise

end Cert.InprojIdeal.Block
-- ==== Proof.InprojInputs.lean ====
/-
  What the windows of the projections' backward read, when the arguments are real numbers: the padded rows, the gain and
  the two parts of the projections' weights, at a grid point.
-/
module

public import proofs.«01_k».proof.Proof.Padded
public import proofs.«01_k».proof.Proof.InprojBlock
public import proofs.«01_k».proof.Proof.Gen.InprojIdeal.Value

@[expose] public section

set_option maxRecDepth 16384

noncomputable section

namespace Cert.InprojIdeal.Inputs

open Idealize.ShloMosaic Cert.InprojIdeal Cert.InprojIdeal.Gen Idealize.ShloMosaic.TcCoe Cert.Padded
open Idealize.ShloMosaic.Pipeline (Dat)

/-- The arguments, as real numbers: the cotangent of the rows, the rows, the gain, the projections' cotangent, the weights. -/
structure Args where
  d : Fin 4 → Fin 2064 → Fin 1024 → ℝ
  h : Fin 4 → Fin 2064 → Fin 1024 → ℝ
  g : Fin 1024 → ℝ
  u : Fin 4 → Fin 2064 → Fin 2560 → ℝ
  w : Fin 1024 → Fin 2560 → ℝ

variable (m : (ℓ : Loc nD τ sig) → Buf (Elt Ideal) ℓ)

/-- The arguments on device `c` are the real numbers `X`. -/
def Holds (X : Args) (c : Dev nD) : Prop :=
  (∀ s q j, (m (c.tc.loc main_arg0) : S4x2064x1024.Idx → EReal) (ix3 s q j) = (X.d s q j : EReal))
  ∧ (∀ s q j, (m (c.tc.loc main_arg1) : S4x2064x1024.Idx → EReal) (ix3 s q j) = (X.h s q j : EReal))
  ∧ (∀ j, (m (c.tc.loc main_arg2) : S1024.Idx → EReal) (ix1 j) = (X.g j : EReal))
  ∧ (∀ s q j, (m (c.tc.loc main_arg3) : S4x2064x2560.Idx → EReal) (ix3 s q j) = (X.u s q j : EReal))
  ∧ (∀ k j, (m (c.tc.loc main_arg4) : S1024x2560.Idx → EReal) (ix2 k j) = (X.w k j : EReal))

/-- The first 1024 columns. -/
def lo (j : Fin 1024) : Fin 2560 := ⟨j.val, by omega⟩

/-- The last 1536 columns. -/
def hi (j : Fin 1536) : Fin 2560 := ⟨1024 + j.val, by omega⟩

variable {m} {X : Args} {c : Dev nD} (hm : Holds m X c)

include hm in
theorem V_v7 (R : Fin 8704) (j : Fin 1024) : (V m c main_v7 : S8704x1024.Idx → EReal) (ix2 R j) = ((padR X.d R.val j : ℝ) : EReal) := by
  unfold V
  after_results
  pointwise
  by_cases h : 112 ≤ R.val % 2176
  · rw [dif_neg (by omega)]
    exact padded (n := 1024) _ X.d hm.1 R.val R.isLt j h _ _ rfl rfl
  · rw [dif_pos (by omega), padR_zero _ h]; rfl

include hm in
theorem V_v10 (R : Fin 8704) (j : Fin 1024) : (V m c main_v10 : S8704x1024.Idx → EReal) (ix2 R j) = ((padR X.h R.val j : ℝ) : EReal) := by
  unfold V
  after_results
  pointwise
  by_cases h : 112 ≤ R.val % 2176
  · rw [dif_neg (by omega)]
    exact padded (n := 1024) _ X.h hm.2.1 R.val R.isLt j h _ _ rfl rfl
  · rw [dif_pos (by omega), padR_zero _ h]; rfl

include hm in
theorem V_v11 (j : Fin 1024) : (V m c main_v11 : S1x1024.Idx → EReal) (ix2 0 j) = (X.g j : EReal) := by
  unfold V
  after_results
  pointwise
  exact hm.2.2.1 j

include hm in
theorem V_v12 (R : Fin 8704) (j : Fin 1024) : (V m c main_v12 : S8704x1024.Idx → EReal) (ix2 R j) = ((padR X.u R.val (lo j) : ℝ) : EReal) := by
  unfold V
  after_results
  pointwise
  by_cases h : 112 ≤ R.val % 2176
  · rw [dif_neg (by omega)]
    exact padded (n := 2560) _ X.u hm.2.2.2.1 R.val R.isLt (lo j) h _ _ rfl rfl
  · rw [dif_pos (by omega), padR_zero _ h]; rfl

include hm in
theorem V_v13 (R : Fin 8704) (j : Fin 1536) : (V m c main_v13 : S8704x1536.Idx → EReal) (ix2 R j) = ((padR X.u R.val (hi j) : ℝ) : EReal) := by
  unfold V
  after_results
  pointwise
  by_cases h : 112 ≤ R.val % 2176
  · rw [dif_neg (by omega)]
    exact padded (n := 2560) _ X.u hm.2.2.2.1 R.val R.isLt (hi j) h _ _ rfl rfl
  · rw [dif_pos (by omega), padR_zero _ h]; rfl

include hm in
theorem V_v14 (k : Fin 1024) (j : Fin 1024) : (V m c main_v14 : S1024x1024.Idx → EReal) (ix2 k j) = (X.w k (lo j) : EReal) := by
  unfold V
  after_results
  pointwise
  exact hm.2.2.2.2 k (lo j)

include hm in
theorem V_v15 (k : Fin 1024) (j : Fin 1536) : (V m c main_v15 : S1024x1536.Idx → EReal) (ix2 k j) = (X.w k (hi j) : EReal) := by
  unfold V
  after_results
  pointwise
  exact hm.2.2.2.2 k (hi j)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel

theorem lt17 (t : Fin cfg0.N) : t.val < 17 := lt_of_lt_of_eq t.isLt (show cfg0.N = 17 from N_0)

include hm in
theorem block0 (t : Fin cfg0.N) (r : Fin 512) (j : Fin 1024) :
    (iblk m c 0 t : S512x1024.Idx → EReal) (ix2 r j) = ((padR X.d (t.val * 512 + r.val) j : ℝ) : EReal) := by
  have ht := lt17 t
  rw [← V_v7 hm ⟨t.val * 512 + r.val, by omega⟩ j]
  exact congrArg (V m c main_v7) (place_row (a := 512) (b := 1024) _ _ j (r := r.val) (index0 t).1 (index0 t).2 rfl rfl rfl)

include hm in
theorem block1 (t : Fin cfg0.N) (r : Fin 512) (j : Fin 1024) :
    (iblk m c 1 t : S512x1024.Idx → EReal) (ix2 r j) = ((padR X.h (t.val * 512 + r.val) j : ℝ) : EReal) := by
  have ht := lt17 t
  rw [← V_v10 hm ⟨t.val * 512 + r.val, by omega⟩ j]
  exact congrArg (V m c main_v10) (place_row (a := 512) (b := 1024) _ _ j (r := r.val) (index1 t).1 (index1 t).2 rfl rfl rfl)

include hm in
theorem block3 (t : Fin cfg0.N) (r : Fin 512) (j : Fin 1024) :
    (iblk m c 3 t : S512x1024.Idx → EReal) (ix2 r j) = ((padR X.u (t.val * 512 + r.val) (lo j) : ℝ) : EReal) := by
  have ht := lt17 t
  rw [← V_v12 hm ⟨t.val * 512 + r.val, by omega⟩ j]
  exact congrArg (V m c main_v12) (place_row (a := 512) (b := 1024) _ _ j (r := r.val) (index3 t).1 (index3 t).2 rfl rfl rfl)

include hm in
theorem block4 (t : Fin cfg0.N) (r : Fin 512) (j : Fin 1536) :
    (iblk m c 4 t : S512x1536.Idx → EReal) (ix2 r j) = ((padR X.u (t.val * 512 + r.val) (hi j) : ℝ) : EReal) := by
  have ht := lt17 t
  rw [← V_v13 hm ⟨t.val * 512 + r.val, by omega⟩ j]
  exact congrArg (V m c main_v13) (place_row (a := 512) (b := 1536) _ _ j (r := r.val) (index4 t).1 (index4 t).2 rfl rfl rfl)

include hm in
theorem block2 (t : Fin cfg0.N) (j : Fin 1024) :
    (iblk m c 2 t : S1x1024.Idx → EReal) (ix2 0 j) = (X.g j : EReal) := by
  rw [← V_v11 hm j]
  exact congrArg (V m c main_v11) (place_row (a := 1) (b := 1024) _ _ j (r := 0) (index2 t).1 (index2 t).2 rfl rfl rfl)

include hm in
theorem block5 (t : Fin cfg0.N) (k : Fin 1024) (j : Fin 1024) :
    (iblk m c 5 t : S1024x1024.Idx → EReal) (ix2 k j) = (X.w k (lo j) : EReal) := by
  rw [← V_v14 hm k j]
  exact congrArg (V m c main_v14) (place (A := 1024) (B := 1024) (a := 1024) (b := 1024) _ _ _ _ k.val j.val rfl rfl
    (by rw [(index5 t).1, Nat.zero_mul, Nat.zero_add]; rfl) (by rw [(index5 t).2, Nat.zero_mul, Nat.zero_add]; rfl))

include hm in
theorem block6 (t : Fin cfg0.N) (k : Fin 1024) (j : Fin 1536) :
    (iblk m c 6 t : S1024x1536.Idx → EReal) (ix2 k j) = (X.w k (hi j) : EReal) := by
  rw [← V_v15 hm k j]
  exact congrArg (V m c main_v15) (place (A := 1024) (B := 1536) (a := 1024) (b := 1536) _ _ _ _ k.val j.val rfl rfl
    (by rw [(index6 t).1, Nat.zero_mul, Nat.zero_add]; rfl) (by rw [(index6 t).2, Nat.zero_mul, Nat.zero_add]; rfl))

end Cert.InprojIdeal.Inputs
-- ==== Proof.InprojArray.lean ====
/-
  What the two result arrays of the projections' backward hold after the run, when the arguments are real numbers.
-/
module

public import Idealize.ShloMosaic.Lib.Pipeline.ValueKit
public import proofs.«01_k».proof.Proof.InprojInputs

@[expose] public section

set_option maxRecDepth 16384

noncomputable section

namespace Cert.InprojIdeal.Array

open Idealize.ShloMosaic Cert.InprojIdeal Cert.InprojIdeal.Gen Idealize.ShloMosaic.TcCoe Cert.InprojIdeal.Value Cert.Padded
open Cert.InprojIdeal.Block Cert.InprojIdeal.Inputs Cert.RmsNorm
open Idealize.ShloMosaic.Pipeline (Dat)

variable {m : (ℓ : Loc nD τ sig) → Buf (Elt Ideal) ℓ}

/-- The cotangent of a normalised row. -/
def dhn (X : Args) (u : Fin 2560 → ℝ) (j : Fin 1024) : ℝ := ∑ n, u n * X.w j n

/-- The two parts of the weights together. -/
theorem back_eq (X : Args) (u : Fin 2560 → ℝ) (j : Fin 1024) :
    back (fun n => u (lo n)) (fun n => u (hi n)) (fun k n => X.w k (lo n)) (fun k n => X.w k (hi n)) j = dhn X u j :=
  (Fin.sum_univ_add (a := 1024) (b := 1536) fun n : Fin 2560 => u n * X.w j n).symm

/-- The gradient of a padded row. -/
def rowAt (X : Args) (R : ℕ) (j : Fin 1024) : ℝ :=
  padR X.d R j + grad (padR X.h R) (fun k => dhn X (padR X.u R) k * X.g k) j

/-- A padded row's share of the gain's gradient. -/
def gainAt (X : Args) (j : Fin 1024) (R : ℕ) : ℝ := dhn X (padR X.u R) j * (padR X.h R j * rs (padR X.h R))

/-- A grid point's share of the gain's gradient. -/
def gainPoint (X : Args) (j : Fin 1024) (p : ℕ) : ℝ := ∑ r : Fin 512, gainAt X j (p * 512 + r.val)

variable {X : Args} {c : Dev nD} (hm : Holds m X c)

include hm in
/-- The rows a grid point computes. -/
theorem rows_point (t : Fin cfg0.N) (r : Fin 512) (j : Fin 1024) :
    k0_pay1 (F := Ideal) (k0_pay6 (iblk m c 1 t)) (k0_pay8 (iblk m c 3 t) (iblk m c 5 t) (iblk m c 4 t) (iblk m c 6 t) (iblk m c 2 t))
        (k0_pay9 (iblk m c 3 t) (iblk m c 5 t) (iblk m c 4 t) (iblk m c 6 t) (iblk m c 1 t) (iblk m c 2 t)) (iblk m c 0 t) (ix2 r j)
      = (rowAt X (t.val * 512 + r.val) j : EReal) := by
  refine (pay1 _ _ _ _ _ _ _ _ _ _ _ _ (block3 hm t) (block5 hm t) (block4 hm t) (block6 hm t) (block1 hm t) (block2 hm t) _ _ (block0 hm t) r j).trans ?_
  simp only [back_eq]
  rfl

include hm in
/-- A grid point adds its share of the gain's gradient. -/
theorem gain_point (t : Fin cfg0.N) (a : Vec Ideal S1x1024 .f32) (j : Fin 1024) :
    k0_pay2 (F := Ideal) (k0_pay4 (iblk m c 3 t) (iblk m c 5 t) (iblk m c 4 t) (iblk m c 6 t)) (k0_pay7 (iblk m c 1 t)) a (ix2 0 j)
      = a (ix2 0 j) + (gainPoint X j t.val : EReal) := by
  refine (pay2 _ _ _ _ _ _ _ _ _ _ (block3 hm t) (block5 hm t) (block4 hm t) (block6 hm t) (block1 hm t) a j).trans ?_
  simp only [back_eq]
  rfl

include hm in
/-- What the gain's block holds after point `n`: the shares of the points so far. -/
theorem running : ∀ (n : ℕ) (h : n < cfg0.N) (j : Fin 1024),
    (outsAt0 m c n h).2 (ix2 0 j) = ((∑ p ∈ Finset.range (n + 1), gainPoint X j p : ℝ) : EReal)
  | 0, h, j => by
    have e := outsAt0_A m c ⟨0, h⟩ rfl
    change outsAt0 m c 0 h = _ at e
    rw [e]
    frame_out
    refine (gain_point hm ⟨0, h⟩ _ j).trans ?_
    rw [pay3, zero_add]
    simp
  | n + 1, h, j => by
    have hN : n + 1 < 17 := lt_of_lt_of_eq h (show cfg0.N = 17 from N_0)
    have e := outsAt0_B m c ⟨n + 1, h⟩ (by dsimp only; omega)
    change outsAt0 m c (n + 1) h = _ at e
    rw [e]
    frame_out
    refine (gain_point hm ⟨n + 1, h⟩ _ j).trans ?_
    rw [Finset.sum_range_succ, EReal.coe_add]
    exact congrArg₂ (· + ·) (running n (Nat.lt_of_succ_lt h) j) rfl

/-- The gradient of the padded rows. -/
def rowsArr (X : Args) : S8704x1024.Idx → EReal := fun i => ((rowAt X (i 0).val (i 1) : ℝ) : EReal)

/-- The gain's gradient. -/
def gainArr (X : Args) : S1x1024.Idx → EReal := fun i => ((∑ R : Fin 8704, gainAt X (i 1) R.val : ℝ) : EReal)

theorem index7 : ∀ t : Fin cfg0.N, win0_7.index t 0 = t.val ∧ win0_7.index t 1 = 0 := by decide +kernel
theorem index8 : ∀ t : Fin cfg0.N, win0_8.index t 0 = 0 ∧ win0_8.index t 1 = 0 := by decide +kernel
theorem xs7 : ∀ t : Fin cfg0.N, win0_7.xsize (grid0.coords t) 0 = 512 ∧ win0_7.xsize (grid0.coords t) 1 = 1024 := by decide +kernel
theorem xs8 : ∀ t : Fin cfg0.N, win0_8.xsize (grid0.coords t) 0 = 1 ∧ win0_8.xsize (grid0.coords t) 1 = 1024 := by decide +kernel

/-- The last point. -/
abbrev last : Fin cfg0.N := ⟨16, by rw [show cfg0.N = 17 from N_0]; decide⟩

theorem eq_last (t : Fin cfg0.N) (h : t.val % 17 = 16) : t = last := by
  have ht := lt17 t
  exact Fin.ext (by show t.val = 16; omega)

include hm in
theorem flushed8_eq (t : Fin cfg0.N) (hf : (cfg0.win 8).flush t = true) :
    (dats m 0 c).flushed 8 t = ((cfg0.win 8).blk t).view.read (Elt Ideal) (gainArr X) := by
  obtain rfl := eq_last t ((flush0_8 t).mp hf)
  rw [flushed8]
  have hz' : (fun a => win0_8.index last a * main_v16_1.ty.shape.size a) = fun _ => 0 := at_origin (index8 last)
  refine Eq.trans ?_ (Memref.read_access_unit_zero (Elt Ideal) main_v16_1 hz' (fun a => by rw [congrFun hz' a]; simp) (gainArr X)).symm
  funext j
  obtain ⟨j0, j1, rfl⟩ := ex2 j
  obtain rfl : j0 = 0 := Subsingleton.elim _ _
  refine (running hm 16 last.isLt j1).trans (congrArg _ ?_)
  exact sum_blocks 17 512 (gainAt X j1)

include hm in
theorem flushed7_eq (t : Fin cfg0.N) (hf : (cfg0.win 7).flush t = true) :
    (dats m 0 c).flushed 7 t = ((cfg0.win 7).blk t).view.read (Elt Ideal) (rowsArr X) := by
  have ht := lt17 t
  funext j
  obtain ⟨r, k, rfl⟩ := ex2 j
  have hread : ((cfg0.win 7).blk t).view.read (Elt Ideal) (rowsArr X) (ix2 r k) = rowsArr X (ix2 ⟨t.val * 512 + r.val, by omega⟩ k) := by
    rw [View.read_apply]
    exact congrArg (rowsArr X) (place_row (a := 512) (b := 1024) _ _ _ (index7 t).1 (index7 t).2 rfl rfl rfl)
  rw [hread]
  by_cases h0 : t.val % 17 = 0
  · rw [flushed7_A m c t h0]
    frame_out
    exact rows_point hm t r k
  · rw [flushed7_B m c t h0]
    frame_out
    exact rows_point hm t r k

include hm in
theorem final8 : (dats m 0 c).arrAt 8 cfg0.N = gainArr X :=
  (dats m 0 c).arrAt_eq_of_cover 8 (gainArr X) (flushed8_eq hm) fun i =>
    ⟨last, (flush0_8 last).mpr rfl, by
      show i ∈ ((View.whole main_v16_1).slice (win0_8.rect last)).set
      rw [View.set_slice_whole, Rect.mem_set_unit]
      exact covered ⟨(index8 _).1, (index8 _).2, xs8 _⟩ (fun a => (i a).val) rfl rfl rfl rfl (Nat.div_eq_of_lt (i 0).isLt).symm (by norm_num) (i 1).isLt⟩

include hm in
theorem final7 : (dats m 0 c).arrAt 7 cfg0.N = rowsArr X :=
  (dats m 0 c).arrAt_eq_of_cover 7 (rowsArr X) (flushed7_eq hm) fun i => by
    have h0 : (i 0 : Nat) < 8704 := (i 0).isLt
    have h1 : (i 1 : Nat) < 1024 := (i 1).isLt
    obtain ⟨t, ht⟩ : ∃ t : Fin cfg0.N, t.val = (i 0 : Nat) / 512 := ⟨⟨(i 0 : Nat) / 512, by rw [show cfg0.N = 17 from N_0]; omega⟩, rfl⟩
    refine ⟨t, flush0_7 t, ?_⟩
    show i ∈ ((View.whole main_v16_0).slice (win0_7.rect t)).set
    rw [View.set_slice_whole, Rect.mem_set_unit]
    exact covered ⟨(index7 _).1, (index7 _).2, xs7 _⟩ (fun a => (i a).val) rfl rfl rfl rfl ht (by norm_num) (i 1).isLt

end Cert.InprojIdeal.Array
-- ==== Proof.InprojRefValue.lean ====
/-
  What the reference of the projections' backward computes, when its arguments are real numbers.
-/
module

public import proofs.«01_k».proof.Proof.InprojArray
public import proofs.«01_k».proof.Proof.SumRows
public import proofs.«01_k».proof.Proof.Gen.InprojRefIdeal.Read

@[expose] public section

set_option maxRecDepth 16384

noncomputable section

namespace Cert.InprojRefIdeal.RefValue

open Idealize.ShloMosaic Cert.InprojRefIdeal Cert.InprojRefIdeal.Gen Cert.InprojRefIdeal.Read Idealize.ShloMosaic.TcCoe
open Cert.Reals Cert.RmsNorm Cert.Padded Cert.InprojIdeal.Inputs Cert.InprojIdeal.Array

variable {x0 x1 : Vec Ideal S4x2064x1024 .f32} {x2 : Vec Ideal S1024 .f32} {x3 : Vec Ideal S4x2064x2560 .f32} {x4 : Vec Ideal S1024x2560 .f32}
variable {X : Args}
variable (h0 : ∀ s q j, x0 (ix3 s q j) = (X.d s q j : EReal)) (h1 : ∀ s q j, x1 (ix3 s q j) = (X.h s q j : EReal))
variable (h2 : ∀ j, x2 (ix1 j) = (X.g j : EReal)) (h3 : ∀ s q n, x3 (ix3 s q n) = (X.u s q n : EReal))
variable (h4 : ∀ j n, x4 (ix2 j n) = (X.w j n : EReal))

include h1 in
theorem v6 (s : Fin 4) (q : Fin 2064) (u : Fin 1) : val_main_v6 x1 (ix3 s q u) = (ms (X.h s q) : EReal) := by
  unfold val_main_v6 val_main_v5 val_main_v4 val_main_v3 val_main_v2 val_main_v1 val_main_v0 val_main_cst val_main_cst_0 val_main_cst_1
  pointwise
  simp only [h1, ← EReal.coe_mul, sum_coe, ofBits_1024, ofBits_eps]
  rw [div_real (by norm_num), ← EReal.coe_add]
  rfl

include h1 in
theorem v7 (s : Fin 4) (q : Fin 2064) (u : Fin 1) : val_main_v7 x1 (ix3 s q u) = (rs (X.h s q) : EReal) := by
  unfold val_main_v7
  pointwise
  rw [v6 h1, rsqrt_real (ms_pos _)]
  rfl

include h1 in
theorem v10 (s : Fin 4) (q : Fin 2064) (u : Fin 1) :
    val_main_v10 x1 (ix3 s q u) = ((-(1 / 2) * (rs (X.h s q) / ms (X.h s q)) : ℝ) : EReal) := by
  unfold val_main_v10 val_main_v9 val_main_v8 val_main_cst_2
  pointwise
  rw [v6 h1, v7 h1, div_real (ms_pos _).ne', ofBits_neg_half, ← EReal.coe_mul]

include h1 in
theorem v12 (s : Fin 4) (q : Fin 2064) (j : Fin 1024) :
    val_main_v12 x1 (ix3 s q j) = ((X.h s q j * rs (X.h s q) : ℝ) : EReal) := by
  unfold val_main_v12 val_main_v11
  pointwise
  simp only [h1, v7 h1, ← EReal.coe_mul]

include h3 h4 in
theorem v17 (s : Fin 4) (q : Fin 2064) (j : Fin 1024) :
    val_main_v17 x3 x4 (ix3 s q j) = (dhn X (X.u s q) j : EReal) := by
  unfold val_main_v17
  pointwise
  simp only [h3, h4, ← EReal.coe_mul, sum_coe]
  rfl

include h2 h3 h4 in
theorem v22 (s : Fin 4) (q : Fin 2064) (j : Fin 1024) :
    val_main_v22 x2 x3 x4 (ix3 s q j) = ((dhn X (X.u s q) j * X.g j : ℝ) : EReal) := by
  unfold val_main_v22 val_main_v21 val_main_v13
  pointwise
  rw [v17 h3 h4, h2, ← EReal.coe_mul]

/-- The gradient of a row. -/
def rowGrad (X : Args) (s : Fin 4) (q : Fin 2064) (j : Fin 1024) : ℝ :=
  X.d s q j + grad (X.h s q) (fun k => dhn X (X.u s q) k * X.g k) j

include h0 h1 h2 h3 h4 in
theorem v38 (s : Fin 4) (q : Fin 2064) (j : Fin 1024) :
    val_main_v38 x0 x1 x2 x3 x4 (ix3 s q j) = (rowGrad X s q j : EReal) := by
  have v34 : ∀ k, val_main_v34 x1 x2 x3 x4 (ix3 s q k)
      = (((∑ k, X.h s q k * (dhn X (X.u s q) k * X.g k)) * (-(1 / 2) * (rs (X.h s q) / ms (X.h s q))) / 1024 : ℝ) : EReal) := fun k => by
    unfold val_main_v34 val_main_v33 val_main_v32 val_main_v31 val_main_v30 val_main_v26 val_main_v25 val_main_v24 val_main_cst_5 val_main_cst_6 val_main_cst_7
    pointwise
    simp only [h1, v22 h2 h3 h4, v10 h1, ← EReal.coe_mul, sum_coe, ofBits_1024, div_real (show (1024 : ℝ) ≠ 0 by norm_num), Finset.univ_unique, Finset.sum_singleton]
  unfold val_main_v38 val_main_v37 val_main_v36 val_main_v35 val_main_v29 val_main_v28 val_main_v27
  pointwise
  rw [v22 h2 h3 h4, v34, v7 h1, h1, h0, ← EReal.coe_mul, ← EReal.coe_mul, ← EReal.coe_mul, ← EReal.coe_add, ← EReal.coe_add, ← EReal.coe_add]
  refine congrArg _ ?_
  rw [add_assoc, add_assoc, ← add_assoc (_ * _) _ (_ * X.h s q j)]
  exact congrArg (X.d s q j + ·) (grad_eq _ (fun k => dhn X (X.u s q) k * X.g k) j)

include h1 h3 h4 in
theorem v23 (j : Fin 1024) :
    val_main_v23 x1 x3 x4 (ix1 j) = ((∑ s, ∑ q, X.h s q j * rs (X.h s q) * dhn X (X.u s q) j : ℝ) : EReal) := by
  have v19 : val_main_v19 x1 x3 x4 (ix1 j) = ((∑ s, ∑ q, X.h s q j * rs (X.h s q) * dhn X (X.u s q) j : ℝ) : EReal) := by
    unfold val_main_v19 val_main_v18 val_main_cst_3
    pointwise
    rw [SumRows.sum_rows, zero_add]
    pointwise
    simp only [v17 h3 h4, v12 h1, ← EReal.coe_mul, sum_coe]
  unfold val_main_v23 val_main_v20 val_main_cst_4
  pointwise
  rw [SumRows.sum_rows, zero_add]
  pointwise
  simp only [v19, Finset.univ_unique, Finset.sum_singleton]

theorem dhn_zero (j : Fin 1024) : dhn X (fun _ => 0) j = 0 := by simp [dhn]

/-- A padded row has no gradient. -/
theorem rowAt_zero (R : ℕ) (hR : ¬112 ≤ R % 2176) (j : Fin 1024) : rowAt X R j = 0 := by
  have z : ∀ {n : ℕ} (A : Fin 4 → Fin 2064 → Fin n → ℝ), padR A R = fun _ => 0 := fun A => funext fun k => padR_zero A hR k
  unfold rowAt
  simp only [z, dhn_zero, zero_mul, grad_zero, add_zero]

theorem rowAt_at (s : Fin 4) (q : Fin 2064) (j : Fin 1024) : rowAt X (s.val * 2176 + 112 + q.val) j = rowGrad X s q j := by
  unfold rowAt rowGrad
  simp only [padR_at]

include h0 h1 h2 h3 h4 in
theorem rows_eq : val_main_v40 x0 x1 x2 x3 x4 = rowsArr X := by
  funext j
  idx_vars j
  unfold val_main_v40 val_main_v39 val_main_call0_v0 val_main_c rowsArr
  pointwise
  have hj : j0.val < 8704 := j0.isLt
  by_cases hp : 112 ≤ j0.val % 2176
  · rw [dif_pos ⟨by omega, hp, by omega⟩, v38 h0 h1 h2 h3 h4]
    refine congrArg _ ((rowAt_at _ _ _).symm.trans (congrArg (fun R => rowAt X R j1) ?_))
    show j0.val / 2176 * 2176 + 112 + (j0.val % 2176 - 112) = j0.val
    omega
  · rw [dif_neg (by omega)]
    refine Eq.trans ?_ (congrArg _ (rowAt_zero j0.val hp j1).symm)
    show ((((0#32 : BitVec 32).toInt : ℝ)) : EReal) = ((0 : ℝ) : EReal)
    simp

include h1 h3 h4 in
theorem gain_eq : val_main_v41 x1 x3 x4 = gainArr X := by
  funext j
  idx_vars j
  unfold val_main_v41 gainArr
  pointwise
  rw [v23 h1 h3 h4]
  refine congrArg _ (Eq.symm ((sum_padded (gainAt X j1) fun R hR => ?_).trans ?_))
  · have z : padR X.u R = fun _ => 0 := funext fun k => padR_zero X.u hR k
    unfold gainAt
    rw [z, dhn_zero, zero_mul]
  · refine Finset.sum_congr rfl fun s _ => Finset.sum_congr rfl fun q _ => ?_
    unfold gainAt
    rw [padR_at, padR_at, mul_comm]

end Cert.InprojRefIdeal.RefValue
-- ==== Proof.InprojClaim.lean ====
/-
  The claims about the projections' backward: the precondition read, the kernel's run and the reference's run set side by side.
-/
module

public import proofs.«01_k».proof.Defs
public import proofs.«01_k».proof.Proof.InprojRefValue
public import proofs.«01_k».proof.Proof.Gen.Pre_finite_inproj

@[expose] public section

set_option maxRecDepth 16384

noncomputable section

namespace Cert.InprojClaim

open Idealize.ShloMosaic Idealize.SL.Sem Idealize.ShloMosaic.TcCoe Cert.Reals Cert.InprojIdeal.Array Cert.InprojIdeal.Inputs

/-- The reference of the projections' backward ends with every counter at zero: it has none. -/
theorem frame_ref : Cert.quiescent_InprojRefIdeal := fun m g _ =>
  (θ_run Cert.InprojRefIdeal.defs _ _).mono (fun r h => ⟨fun c => (h c).2.2, sem_eq_zero_of_no_sems rfl r.2⟩) (Cert.InprojRefIdeal.Value.run m g)

/-- The precondition says that the arguments are real numbers. -/
theorem holds_of_pre (m : (ℓ : Loc Cert.InprojIdeal.nD Cert.InprojIdeal.τ Cert.InprojIdeal.sig) → Buf (Elt Ideal) ℓ)
    (h : Cert.Pre_InprojIdeal_finite_inproj m) (c : Dev Cert.InprojIdeal.nD) :
    ∃ X, Holds m X c := by
  have e := congrFun (h c) (fun a => a.elim0)
  unfold Cert.Pre_finite_inproj.fn at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _, _, _, _⟩, fun s q j => (isReal_of_all _ _ (fun _ => ofBits_inf) _ _ _ _ e0).eq _,
    fun s q j => (isReal_of_all _ _ (fun _ => ofBits_inf) _ _ _ _ e1).eq _,
    fun j => (isReal_of_all _ _ (fun _ => ofBits_inf) _ _ _ _ e2).eq _,
    fun s q j => (isReal_of_all _ _ (fun _ => ofBits_inf) _ _ _ _ e3).eq _,
    fun k j => (isReal_of_all _ _ (fun _ => ofBits_inf) _ _ _ _ e4).eq _⟩

/-- On real arguments the kernel and the derivative of the projections give the same rows and the same gain's gradient. -/
theorem algebraic : Cert.algebraic_InprojIdeal_InprojRefIdeal_pre_finite_inproj := by
  intro m g m' g' hpre hargs
  choose X hm using holds_of_pre m hpre
  refine ⟨fun c => rowsArr (X c), fun c => gainArr (X c),
    (θ_run Cert.InprojIdeal.defs _ _).mono (fun r h c => ?_) (Cert.InprojIdeal.Value.run_blocks m g),
    (θ_run Cert.InprojRefIdeal.defs _ _).mono (fun r h c => ?_) (Cert.InprojRefIdeal.Value.run m' g')⟩
  · obtain ⟨h0, h1, hk⟩ := h c
    exact ⟨h0.trans (final7 (hm c)), h1.trans (final8 (hm c)), hk⟩
  · obtain ⟨h0, h1, hk⟩ := h c
    obtain ⟨a0, a1, a2, a3, a4⟩ := hargs c
    have b0 := fun s q j => (congrFun a0 (ix3 s q j)).trans ((hm c).1 s q j)
    have b1 := fun s q j => (congrFun a1 (ix3 s q j)).trans ((hm c).2.1 s q j)
    have b2 := fun j => (congrFun a2 (ix1 j)).trans ((hm c).2.2.1 j)
    have b3 := fun s q j => (congrFun a3 (ix3 s q j)).trans ((hm c).2.2.2.1 s q j)
    have b4 := fun k j => (congrFun a4 (ix2 k j)).trans ((hm c).2.2.2.2 k j)
    exact ⟨h0.trans ((Cert.InprojRefIdeal.Read.val_main_v40_eq ..).trans (Cert.InprojRefIdeal.RefValue.rows_eq b0 b1 b2 b3 b4)),
      h1.trans ((Cert.InprojRefIdeal.Read.val_main_v41_eq ..).trans (Cert.InprojRefIdeal.RefValue.gain_eq b1 b3 b4)), hk⟩

end Cert.InprojClaim
-- ==== Proof.MlpBlock.lean ====
/-
  What one grid point of the MLP's backward computes, for a block of 1088 rows and 512 hidden columns of real numbers.
-/
module

public import proofs.«01_k».proof.Proof.RmsNorm
public import proofs.«01_k».proof.Proof.Gen.MlpIdeal.Skeleton

@[expose] public section

set_option maxRecDepth 16384

noncomputable section

namespace Cert.MlpIdeal.Block

open Idealize.ShloMosaic Cert.MlpIdeal Cert.MlpIdeal.Gen Cert.Reals Cert.RmsNorm

/-- The rectified hidden value of a row `x` with the column `w`. -/
def up (x w : Fin 1024 → ℝ) : ℝ := max (∑ k, x k * w k) 0

/-- The cotangent of the hidden value: of the row's cotangent `d`, with the column's weights up and down. -/
def dm (x d w v : Fin 1024 → ℝ) : ℝ := (∑ j, d j * v j) * (2 * up x w)

variable (x : Vec Ideal S1088x1024 .bf16) (w : Vec Ideal S1x1x1024x512 .bf16) (d : Vec Ideal S1088x1024 .bf16) (v : Vec Ideal S1x1x512x1024 .bf16)
variable (X : Fin 1088 → Fin 1024 → ℝ) (W : Fin 512 → Fin 1024 → ℝ) (D : Fin 1088 → Fin 1024 → ℝ) (Y : Fin 512 → Fin 1024 → ℝ)
variable (hx : ∀ r j, x (ix2 r j) = (X r j : EReal)) (hw : ∀ k n, w (ix4 0 0 k n) = (W n k : EReal))
variable (hd : ∀ r j, d (ix2 r j) = (D r j : EReal)) (hv : ∀ n j, v (ix4 0 0 n j) = (Y n j : EReal))

include hx hw in
theorem pay10 (r : Fin 1088) (n : Fin 512) : k0_pay10 x w (ix2 r n) = (up (X r) (W n) : EReal) := by
  unfold k0_pay10
  pointwise
  simp only [hx, hw, ← EReal.coe_mul, sum_coe, zero_add, ← EReal.coe_zero]
  exact (EReal.coe_strictMono.monotone.map_max).symm

include hx hw in
theorem pay11 (r : Fin 1088) (n : Fin 512) : k0_pay11 x w (ix2 r n) = ((up (X r) (W n) * up (X r) (W n) : ℝ) : EReal) := by
  unfold k0_pay11
  pointwise
  simp only [pay10 x w X W hx hw, ← EReal.coe_mul]

include hx hw hd hv in
theorem pay12 (r : Fin 1088) (n : Fin 512) : k0_pay12 x w d v (ix2 r n) = (dm (X r) (D r) (W n) (Y n) : EReal) := by
  unfold k0_pay12
  pointwise
  simp only [pay10 x w X W hx hw, hd, hv, ofBits_two, ← EReal.coe_mul, sum_coe, zero_add]
  rfl

include hw in
/-- The block's share of the cotangent of the normalised rows is added to the sum so far. -/
theorem pay1 (u : Vec Ideal S1088x512 .bf16) (U : Fin 1088 → Fin 512 → ℝ) (hu : ∀ r n, u (ix2 r n) = (U r n : EReal))
    (a : Vec Ideal S1088x1024 .f32) (r : Fin 1088) (k : Fin 1024) :
    k0_pay1 u a w (ix2 r k) = a (ix2 r k) + ((∑ n, U r n * W n k : ℝ) : EReal) := by
  unfold k0_pay1
  pointwise
  simp only [hu, hw, ← EReal.coe_mul, sum_coe, zero_add]

theorem pay7 (j : S1x1024.Idx) : k0_pay7 (F := Ideal) j = 0 := by unfold k0_pay7; pointwise

theorem pay9 (j : S1088x1024.Idx) : k0_pay9 (F := Ideal) j = 0 := by unfold k0_pay9; pointwise

theorem pay8 (c : Vec Ideal S1088x1024 .f32) (r : Fin 1088) (j : Fin 1024) : k0_pay8 c (ix2 r j) = c (ix2 r j) := by
  unfold k0_pay8; pointwise

variable (h : Vec Ideal S1088x1024 .f32) (H : Fin 1088 → Fin 1024 → ℝ) (hh : ∀ r j, h (ix2 r j) = (H r j : EReal))
variable (s : Vec Ideal S1088x1024 .f32) (S : Fin 1088 → Fin 1024 → ℝ) (hs : ∀ r j, s (ix2 r j) = (S r j : EReal))

include hh in
theorem pay3 (r : Fin 1088) (z : Fin 1) : k0_pay3 h (ix2 r z) = (rs (H r) : EReal) := by
  unfold k0_pay3 k0_pay2
  pointwise
  simp only [hh, ← EReal.coe_mul, rs_coe]

include hh in
theorem pay4 (r : Fin 1088) (j : Fin 1024) : k0_pay4 h (ix2 r j) = ((H r j * rs (H r) : ℝ) : EReal) := by
  unfold k0_pay4 k0_pay2
  pointwise
  simp only [hh, pay3 h H hh, ← EReal.coe_mul]

include hh hs in
/-- The gradient of the block's rows, added to the cotangent that goes past the norm. -/
theorem pay5 (g : Vec Ideal S1x1024 .f32) (G : Fin 1024 → ℝ) (hg : ∀ j, g (ix2 0 j) = (G j : EReal))
    (c : Vec Ideal S1088x1024 .f32) (C : Fin 1088 → Fin 1024 → ℝ) (hc : ∀ r j, c (ix2 r j) = (C r j : EReal))
    (r : Fin 1088) (j : Fin 1024) :
    k0_pay5 s h g c (ix2 r j) = ((C r j + grad (H r) (fun k => S r k * G k) j : ℝ) : EReal) := by
  unfold k0_pay5
  pointwise
  simp only [hc, hs, hg, pay3 h H hh, pay4 h H hh, ← EReal.coe_mul, sum_coe, ofBits_1024]
  rw [div_real (by norm_num)]
  simp only [← EReal.coe_mul, ← EReal.coe_sub, ← EReal.coe_add, grad]

include hh hs in
/-- The block's share of the gain's gradient is added to what the gain's block held. -/
theorem pay6 (a : Vec Ideal S1x1024 .f32) (j : Fin 1024) :
    k0_pay6 s h a (ix2 0 j) = a (ix2 0 j) + ((∑ r, S r j * (H r j * rs (H r)) : ℝ) : EReal) := by
  unfold k0_pay6
  pointwise
  simp only [hs, pay4 h H hh, ← EReal.coe_mul, sum_coe]

end Cert.MlpIdeal.Block
-- ==== Proof.MlpInputs.lean ====
/-
  What the windows of the MLP's backward read, when the arguments are real numbers: the padded rows and their norm, the
  gain, and one block of columns of the second layer's weights, at a grid point.
-/
module

public import proofs.«01_k».proof.Proof.Padded
public import proofs.«01_k».proof.Proof.MlpBlock
public import proofs.«01_k».proof.Proof.Gen.MlpIdeal.Value

@[expose] public section

set_option maxRecDepth 16384

noncomputable section

namespace Cert.MlpIdeal.Inputs

open Idealize.ShloMosaic Cert.MlpIdeal Cert.MlpIdeal.Gen Idealize.ShloMosaic.TcCoe Cert.Padded Cert.RmsNorm
open Idealize.ShloMosaic.Pipeline (Dat)

/-- The arguments, as real numbers: the rows, the gain, the second layer's weights up and down, the rows' cotangent. -/
structure Args where
  h : Fin 4 → Fin 2064 → Fin 1024 → ℝ
  g : Fin 1024 → ℝ
  wu : Fin 1024 → Fin 4096 → ℝ
  wd : Fin 4096 → Fin 1024 → ℝ
  d : Fin 4 → Fin 2064 → Fin 1024 → ℝ

/-- The normalised rows, with the gain. -/
def Args.hn (X : Args) (s : Fin 4) (q : Fin 2064) (k : Fin 1024) : ℝ := X.h s q k * rs (X.h s q) * X.g k

/-- The hidden column `f`. -/
def col (f : ℕ) : Fin 4096 := ⟨f % 4096, Nat.mod_lt _ (by norm_num)⟩

theorem col_eq (f : ℕ) (h : f < 4096) : (⟨f, h⟩ : Fin 4096) = col f := Fin.ext (Nat.mod_eq_of_lt h).symm

variable (m : (ℓ : Loc nD τ sig) → Buf (Elt Ideal) ℓ)

/-- The arguments on device `c` are the real numbers `X`. -/
def Holds (X : Args) (c : Dev nD) : Prop :=
  (∀ s q j, (m (c.tc.loc main_arg0) : S4x2064x1024.Idx → EReal) (ix3 s q j) = (X.h s q j : EReal))
  ∧ (∀ j, (m (c.tc.loc main_arg1) : S1024.Idx → EReal) (ix1 j) = (X.g j : EReal))
  ∧ (∀ k f, (m (c.tc.loc main_arg2) : S2x1024x4096.Idx → EReal) (ix3 1 k f) = (X.wu k f : EReal))
  ∧ (∀ f j, (m (c.tc.loc main_arg3) : S2x4096x1024.Idx → EReal) (ix3 1 f j) = (X.wd f j : EReal))
  ∧ (∀ s q j, (m (c.tc.loc main_arg4) : S4x2064x1024.Idx → EReal) (ix3 s q j) = (X.d s q j : EReal))

variable {m} {X : Args} {c : Dev nD} (hm : Holds m X c)

include hm in
theorem V_v8 (R : Fin 8704) (j : Fin 1024) : (V m c main_v8 : S8704x1024.Idx → EReal) (ix2 R j) = ((padR X.d R.val j : ℝ) : EReal) := by
  unfold V
  after_results
  pointwise
  by_cases h : 112 ≤ R.val % 2176
  · rw [dif_neg (by omega)]
    exact padded (n := 1024) _ X.d hm.2.2.2.2 R.val R.isLt j h _ _ rfl rfl
  · rw [dif_pos (by omega), padR_zero _ h]; rfl

include hm in
theorem V_v11 (R : Fin 8704) (j : Fin 1024) : (V m c main_v11 : S8704x1024.Idx → EReal) (ix2 R j) = ((padR X.h R.val j : ℝ) : EReal) := by
  unfold V
  after_results
  pointwise
  by_cases h : 112 ≤ R.val % 2176
  · rw [dif_neg (by omega)]
    exact padded (n := 1024) _ X.h hm.1 R.val R.isLt j h _ _ rfl rfl
  · rw [dif_pos (by omega), padR_zero _ h]; rfl

include hm in
theorem V_v28 (R : Fin 8704) (j : Fin 1024) : (V m c main_v28 : S8704x1024.Idx → EReal) (ix2 R j) = ((padR X.hn R.val j : ℝ) : EReal) := by
  unfold V
  after_results
  pointwise
  by_cases h : 112 ≤ R.val % 2176
  · rw [dif_neg (by omega)]
    simp only [hm.1, hm.2.1, ← EReal.coe_mul, Ideal.ofBits_zero, zero_add, rs_coe]
    exact padded (n := 1024) (fun i => (X.hn (i 0) (i 1) (i 2) : EReal)) X.hn (fun _ _ _ => rfl) R.val R.isLt j h _ _ rfl rfl
  · rw [dif_pos (by omega), padR_zero _ h]; rfl

include hm in
theorem V_v29 (j : Fin 1024) : (V m c main_v29 : S1x1024.Idx → EReal) (ix2 0 j) = (X.g j : EReal) := by
  unfold V
  after_results
  pointwise
  exact hm.2.1 j

include hm in
theorem V_v2 (b : Fin 8) (k : Fin 1024) (n : Fin 512) :
    (V m c main_v2 : S8x2x1024x512.Idx → EReal) (ix4 b 1 k n) = ((X.wu k (col (b.val * 512 + n.val)) : ℝ) : EReal) := by
  unfold V
  after_results
  pointwise
  rw [hm.2.2.1 k _, col_eq]

include hm in
theorem V_v5 (b : Fin 8) (n : Fin 512) (j : Fin 1024) :
    (V m c main_v5 : S8x2x512x1024.Idx → EReal) (ix4 b 1 n j) = ((X.wd (col (b.val * 512 + n.val)) j : ℝ) : EReal) := by
  unfold V
  after_results
  pointwise
  rw [hm.2.2.2.1 _ j, col_eq]

theorem index0 : ∀ t : Fin cfg0.N, win0_0.index t 0 = t.val / 8 ∧ win0_0.index t 1 = 0 := by decide +kernel
theorem index1 : ∀ t : Fin cfg0.N, win0_1.index t 0 = t.val / 8 ∧ win0_1.index t 1 = 0 := by decide +kernel
theorem index2 : ∀ t : Fin cfg0.N, win0_2.index t 0 = t.val / 8 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val % 8 ∧ win0_4.index t 1 = 1 ∧ win0_4.index t 2 = 0 ∧ win0_4.index t 3 = 0 := by
  decide +kernel
theorem index5 : ∀ t : Fin cfg0.N, win0_5.index t 0 = t.val % 8 ∧ win0_5.index t 1 = 1 ∧ win0_5.index t 2 = 0 ∧ win0_5.index t 3 = 0 := by
  decide +kernel

theorem lt64 (t : Fin cfg0.N) : t.val < 64 := lt_of_lt_of_eq t.isLt (show cfg0.N = 64 from N_0)

/-- The place in a four-dimensional array of a place in a block. -/
theorem place4 {A B C D b d : ℕ} (p p' : (⟨4, ![A, B, C, D]⟩ : Shape).Idx) (n l u v x y : ℕ)
    (h0 : (p 0).val = n * 1 + 1 * 0) (h1 : (p 1).val = l * 1 + 1 * 0) (h2 : (p 2).val = u * b + 1 * x) (h3 : (p 3).val = v * d + 1 * y)
    (g0 : (p' 0).val = n) (g1 : (p' 1).val = l) (g2 : (p' 2).val = u * b + x) (g3 : (p' 3).val = v * d + y) : p = p' := by
  funext a
  apply Fin.ext
  match a with
  | ⟨0, _⟩ => exact h0.trans (Eq.trans (by omega) g0.symm)
  | ⟨1, _⟩ => exact h1.trans (Eq.trans (by omega) g1.symm)
  | ⟨2, _⟩ => exact h2.trans (Eq.trans (by omega) g2.symm)
  | ⟨3, _⟩ => exact h3.trans (Eq.trans (by omega) g3.symm)

include hm in
theorem block0 (t : Fin cfg0.N) (r : Fin 1088) (j : Fin 1024) :
    (iblk m c 0 t : S1088x1024.Idx → EReal) (ix2 r j) = ((padR X.d (t.val / 8 * 1088 + r.val) j : ℝ) : EReal) := by
  have ht := lt64 t
  rw [← V_v8 hm ⟨t.val / 8 * 1088 + r.val, by omega⟩ j]
  exact congrArg (V m c main_v8) (place_row (a := 1088) (b := 1024) _ _ j (r := r.val) (index0 t).1 (index0 t).2 rfl rfl rfl)

include hm in
theorem block1 (t : Fin cfg0.N) (r : Fin 1088) (j : Fin 1024) :
    (iblk m c 1 t : S1088x1024.Idx → EReal) (ix2 r j) = ((padR X.h (t.val / 8 * 1088 + r.val) j : ℝ) : EReal) := by
  have ht := lt64 t
  rw [← V_v11 hm ⟨t.val / 8 * 1088 + r.val, by omega⟩ j]
  exact congrArg (V m c main_v11) (place_row (a := 1088) (b := 1024) _ _ j (r := r.val) (index1 t).1 (index1 t).2 rfl rfl rfl)

include hm in
theorem block2 (t : Fin cfg0.N) (r : Fin 1088) (j : Fin 1024) :
    (iblk m c 2 t : S1088x1024.Idx → EReal) (ix2 r j) = ((padR X.hn (t.val / 8 * 1088 + r.val) j : ℝ) : EReal) := by
  have ht := lt64 t
  rw [← V_v28 hm ⟨t.val / 8 * 1088 + r.val, by omega⟩ j]
  exact congrArg (V m c main_v28) (place_row (a := 1088) (b := 1024) _ _ j (r := r.val) (index2 t).1 (index2 t).2 rfl rfl rfl)

include hm in
theorem block3 (t : Fin cfg0.N) (j : Fin 1024) : (iblk m c 3 t : S1x1024.Idx → EReal) (ix2 0 j) = (X.g j : EReal) := by
  rw [← V_v29 hm j]
  exact congrArg (V m c main_v29) (place_row (a := 1) (b := 1024) _ _ j (r := 0) (index3 t).1 (index3 t).2 rfl rfl rfl)

include hm in
theorem block4 (t : Fin cfg0.N) (k : Fin 1024) (n : Fin 512) :
    (iblk m c 4 t : S1x1x1024x512.Idx → EReal) (ix4 0 0 k n) = ((X.wu k (col (t.val % 8 * 512 + n.val)) : ℝ) : EReal) := by
  rw [← V_v2 hm ⟨t.val % 8, by omega⟩ k n]
  obtain ⟨e0, e1, e2, e3⟩ := index4 t
  exact congrArg (V m c main_v2) (place4 (A := 8) (B := 2) (C := 1024) (D := 512) (b := 1024) (d := 512) _ _ _ _ _ _ k.val n.val rfl rfl rfl rfl
    e0.symm e1.symm (by rw [e2, Nat.zero_mul, Nat.zero_add]; rfl) (by rw [e3, Nat.zero_mul, Nat.zero_add]; rfl))

include hm in
theorem block5 (t : Fin cfg0.N) (n : Fin 512) (j : Fin 1024) :
    (iblk m c 5 t : S1x1x512x1024.Idx → EReal) (ix4 0 0 n j) = ((X.wd (col (t.val % 8 * 512 + n.val)) j : ℝ) : EReal) := by
  rw [← V_v5 hm ⟨t.val % 8, by omega⟩ n j]
  obtain ⟨e0, e1, e2, e3⟩ := index5 t
  exact congrArg (V m c main_v5) (place4 (A := 8) (B := 2) (C := 512) (D := 1024) (b := 512) (d := 1024) _ _ _ _ _ _ n.val j.val rfl rfl rfl rfl
    e0.symm e1.symm (by rw [e2, Nat.zero_mul, Nat.zero_add]; rfl) (by rw [e3, Nat.zero_mul, Nat.zero_add]; rfl))

end Cert.MlpIdeal.Inputs
-- ==== Proof.MlpArray.lean ====
/-
  What the four result arrays of the MLP's backward hold after the run, when the arguments are real numbers.
-/
module

public import Idealize.ShloMosaic.Lib.Pipeline.ValueKit
public import Idealize.ShloMosaic.Lib.Pipeline.ReadBack
public import proofs.«01_k».proof.Proof.MlpInputs

@[expose] public section

set_option maxRecDepth 16384

noncomputable section

namespace Cert.MlpIdeal.Array

open Idealize.ShloMosaic Cert.MlpIdeal Cert.MlpIdeal.Gen Idealize.ShloMosaic.TcCoe Cert.MlpIdeal.Value Cert.Padded
open Cert.MlpIdeal.Block Cert.MlpIdeal.Inputs Cert.RmsNorm
open Idealize.ShloMosaic.Pipeline (Dat)

variable {m : (ℓ : Loc nD τ sig) → Buf (Elt Ideal) ℓ}

/-- The hidden value of a padded row, squared: what the hidden layer gives on. -/
def actAt (X : Args) (R f : ℕ) : ℝ :=
  up (padR X.hn R) (fun k => X.wu k (col f)) * up (padR X.hn R) (fun k => X.wu k (col f))

/-- The cotangent of a padded row's hidden value. -/
def dmAt (X : Args) (R f : ℕ) : ℝ := dm (padR X.hn R) (padR X.d R) (fun k => X.wu k (col f)) (X.wd (col f))

/-- What block `p` of hidden columns gives to the cotangent of a normalised row. -/
def part (X : Args) (R : ℕ) (k : Fin 1024) (p : ℕ) : ℝ := ∑ n : Fin 512, dmAt X R (p * 512 + n.val) * X.wu k (col (p * 512 + n.val))

/-- The cotangent of a normalised row. -/
def dhn (X : Args) (R : ℕ) (k : Fin 1024) : ℝ := ∑ p ∈ Finset.range 8, part X R k p

/-- The gradient of a padded row. -/
def rowAt (X : Args) (R : ℕ) (j : Fin 1024) : ℝ := padR X.d R j + grad (padR X.h R) (fun k => dhn X R k * X.g k) j

/-- A padded row's share of the gain's gradient. -/
def gainAt (X : Args) (j : Fin 1024) (R : ℕ) : ℝ := dhn X R j * (padR X.h R j * rs (padR X.h R))

/-- A block of rows' share of the gain's gradient. -/
def gainTile (X : Args) (j : Fin 1024) (p : ℕ) : ℝ := ∑ r : Fin 1088, gainAt X j (p * 1088 + r.val)

variable {X : Args} {c : Dev nD} (hm : Holds m X c)

include hm in
theorem act_point (t : Fin cfg0.N) (r : Fin 1088) (n : Fin 512) :
    k0_pay11 (F := Ideal) (iblk m c 2 t) (iblk m c 4 t) (ix2 r n) = ((actAt X (t.val / 8 * 1088 + r.val) (t.val % 8 * 512 + n.val) : ℝ) : EReal) :=
  pay11 _ _ (fun r => padR X.hn (t.val / 8 * 1088 + r.val)) (fun n k => X.wu k (col (t.val % 8 * 512 + n.val))) (block2 hm t) (block4 hm t) r n

include hm in
theorem dm_point (t : Fin cfg0.N) (e : Vec Ideal S1088x1024 .bf16)
    (he : ∀ r j, e (ix2 r j) = ((padR X.d (t.val / 8 * 1088 + r.val) j : ℝ) : EReal)) (r : Fin 1088) (n : Fin 512) :
    k0_pay12 (F := Ideal) (iblk m c 2 t) (iblk m c 4 t) e (iblk m c 5 t) (ix2 r n)
      = ((dmAt X (t.val / 8 * 1088 + r.val) (t.val % 8 * 512 + n.val) : ℝ) : EReal) :=
  pay12 _ _ _ _ (fun r => padR X.hn (t.val / 8 * 1088 + r.val)) (fun n k => X.wu k (col (t.val % 8 * 512 + n.val)))
    (fun r => padR X.d (t.val / 8 * 1088 + r.val)) (fun n => X.wd (col (t.val % 8 * 512 + n.val)))
    (block2 hm t) (block4 hm t) he (block5 hm t) r n

include hm in
theorem sum_point (t : Fin cfg0.N) (e : Vec Ideal S1088x1024 .bf16)
    (he : ∀ r j, e (ix2 r j) = ((padR X.d (t.val / 8 * 1088 + r.val) j : ℝ) : EReal)) (a : Vec Ideal S1088x1024 .f32) (r : Fin 1088) (k : Fin 1024) :
    k0_pay1 (F := Ideal) (k0_pay12 (iblk m c 2 t) (iblk m c 4 t) e (iblk m c 5 t)) a (iblk m c 4 t) (ix2 r k)
      = a (ix2 r k) + ((part X (t.val / 8 * 1088 + r.val) k (t.val % 8) : ℝ) : EReal) :=
  pay1 _ (fun n k => X.wu k (col (t.val % 8 * 512 + n.val))) (block4 hm t) _
    (fun r n => dmAt X (t.val / 8 * 1088 + r.val) (t.val % 8 * 512 + n.val)) (dm_point hm t e he) a r k

/-- What the run holds after point `n`: the blocks of the two hidden results, the sum so far for the block's rows, the rows'
    cotangents, the gain's gradient over the blocks of rows that are done, and the rows' gradient at a block's last point. -/
structure Inv (m : (ℓ : Loc nD τ sig) → Buf (Elt Ideal) ℓ) (X : Args) (c : Dev nD) (n : ℕ) (h : n < cfg0.N) : Prop where
  rows : n % 8 = 7 → ∀ r j, (outsAt0 m c n h).1 (ix2 r j) = ((rowAt X (n / 8 * 1088 + r.val) j : ℝ) : EReal)
  act : ∀ r f, (outsAt0 m c n h).2.1 (ix2 r f) = ((actAt X (n / 8 * 1088 + r.val) (n % 8 * 512 + f.val) : ℝ) : EReal)
  hid : ∀ r f, (outsAt0 m c n h).2.2.1 (ix2 r f) = ((dmAt X (n / 8 * 1088 + r.val) (n % 8 * 512 + f.val) : ℝ) : EReal)
  gain : ∀ j, (outsAt0 m c n h).2.2.2.1 (ix2 0 j) = ((∑ p ∈ Finset.range ((n + 1) / 8), gainTile X j p : ℝ) : EReal)
  sum : ∀ r k, (outsAt0 m c n h).2.2.2.2.1 (ix2 r k)
    = ((∑ p ∈ Finset.range (n % 8 + 1), part X (n / 8 * 1088 + r.val) k p : ℝ) : EReal)
  cot : ∀ r j, (outsAt0 m c n h).2.2.2.2.2 (ix2 r j) = ((padR X.d (n / 8 * 1088 + r.val) j : ℝ) : EReal)

include hm in
theorem cot_start (t : Fin cfg0.N) (r : Fin 1088) (j : Fin 1024) :
    k0_pay8 (F := Ideal) (iblk m c 0 t) (ix2 r j) = ((padR X.d (t.val / 8 * 1088 + r.val) j : ℝ) : EReal) :=
  (pay8 _ r j).trans (block0 hm t r j)

include hm in
theorem sum_start (t : Fin cfg0.N) (h1 : t.val % 8 = 0) (r : Fin 1088) (k : Fin 1024) :
    k0_pay1 (F := Ideal) (k0_pay12 (iblk m c 2 t) (iblk m c 4 t) (k0_pay8 (iblk m c 0 t)) (iblk m c 5 t)) (k0_pay9 (F := Ideal)) (iblk m c 4 t) (ix2 r k)
      = ((∑ p ∈ Finset.range (t.val % 8 + 1), part X (t.val / 8 * 1088 + r.val) k p : ℝ) : EReal) := by
  refine (sum_point hm t _ (cot_start hm t) _ r k).trans ?_
  rw [pay9, zero_add, h1, Finset.sum_range_one]

include hm in
theorem inv_first (t : Fin cfg0.N) (h0 : t.val % 64 = 0) : Inv m X c t.val t.isLt := by
  have ht := lt64 t
  have e := outsAt0_A m c t h0 (by omega) (by omega)
  constructor
  · intro h; omega
  · intro r f; rw [e]; frame_out; exact act_point hm t r f
  · intro r f; rw [e]; frame_out; exact dm_point hm t _ (cot_start hm t) r f
  · intro j; rw [e]; frame_out; rw [pay7, show (t.val + 1) / 8 = 0 by omega]; simp
  · intro r k; rw [e]; frame_out; exact sum_start hm t (by omega) r k
  · intro r j; rw [e]; frame_out; exact cot_start hm t r j

include hm in
theorem inv_start (t : Fin cfg0.N) (h0 : ¬t.val % 64 = 0) (h1 : t.val % 8 = 0) (p : Inv m X c (t.val - 1) (by omega)) :
    Inv m X c t.val t.isLt := by
  have ht := lt64 t
  have e := outsAt0_D m c t h0 h1 (by omega)
  constructor
  · intro h; omega
  · intro r f; rw [e]; frame_out; exact act_point hm t r f
  · intro r f; rw [e]; frame_out; exact dm_point hm t _ (cot_start hm t) r f
  · intro j; rw [e, show (t.val + 1) / 8 = (t.val - 1 + 1) / 8 by omega]; exact p.gain j
  · intro r k; rw [e]; frame_out; exact sum_start hm t (by omega) r k
  · intro r j; rw [e]; frame_out; exact cot_start hm t r j

section Inside
variable (t : Fin cfg0.N) (h1 : ¬t.val % 8 = 0) (p : Inv m X c (t.val - 1) (by omega))

include h1 p in
theorem cot_kept (r : Fin 1088) (j : Fin 1024) :
    (outsAt0 m c (t.val - 1) (by omega)).2.2.2.2.2 (ix2 r j) = ((padR X.d (t.val / 8 * 1088 + r.val) j : ℝ) : EReal) := by
  have e := p.cot r j
  rwa [show (t.val - 1) / 8 = t.val / 8 by omega] at e

include hm h1 p in
theorem sum_kept (r : Fin 1088) (k : Fin 1024) :
    k0_pay1 (F := Ideal) (k0_pay12 (iblk m c 2 t) (iblk m c 4 t) (outsAt0 m c (t.val - 1) (by omega)).2.2.2.2.2 (iblk m c 5 t))
        (outsAt0 m c (t.val - 1) (by omega)).2.2.2.2.1 (iblk m c 4 t) (ix2 r k)
      = ((∑ p ∈ Finset.range (t.val % 8 + 1), part X (t.val / 8 * 1088 + r.val) k p : ℝ) : EReal) := by
  refine (sum_point hm t _ (cot_kept t h1 p) _ r k).trans ?_
  have e := p.sum r k
  rw [show (t.val - 1) / 8 = t.val / 8 by omega, show (t.val - 1) % 8 + 1 = t.val % 8 by omega] at e
  rw [e, Finset.sum_range_succ, EReal.coe_add]

include hm h1 p in
theorem sum_done (h2 : t.val % 8 = 7) (r : Fin 1088) (k : Fin 1024) :
    k0_pay1 (F := Ideal) (k0_pay12 (iblk m c 2 t) (iblk m c 4 t) (outsAt0 m c (t.val - 1) (by omega)).2.2.2.2.2 (iblk m c 5 t))
        (outsAt0 m c (t.val - 1) (by omega)).2.2.2.2.1 (iblk m c 4 t) (ix2 r k)
      = ((dhn X (t.val / 8 * 1088 + r.val) k : ℝ) : EReal) :=
  (sum_kept hm t h1 p r k).trans (by rw [h2]; rfl)

include hm h1 p in
theorem inv_inner (h2 : ¬t.val % 8 = 7) : Inv m X c t.val t.isLt := by
  have ht := lt64 t
  have e := outsAt0_B m c t (by omega) h1 h2
  constructor
  · intro h; omega
  · intro r f; rw [e]; frame_out; exact act_point hm t r f
  · intro r f; rw [e]; frame_out; simp only [read_unread_whole]; exact dm_point hm t _ (cot_kept t h1 p) r f
  · intro j; rw [e, show (t.val + 1) / 8 = (t.val - 1 + 1) / 8 by omega]; exact p.gain j
  · intro r k; rw [e]; frame_out; simp only [read_unread_whole]; exact sum_kept hm t h1 p r k
  · intro r j; rw [e]; exact cot_kept t h1 p r j

include hm h1 p in
theorem inv_stop (h2 : t.val % 8 = 7) : Inv m X c t.val t.isLt := by
  have ht := lt64 t
  have e := outsAt0_C m c t (by omega) h1 h2
  have hs := sum_done hm t h1 p h2
  constructor
  · intro _ r j
    rw [e]; frame_out; simp only [read_unread_whole]
    exact pay5 _ (fun r => padR X.h (t.val / 8 * 1088 + r.val)) (block1 hm t) _ (fun r => dhn X (t.val / 8 * 1088 + r.val)) hs _ X.g (block3 hm t) _
      (fun r => padR X.d (t.val / 8 * 1088 + r.val)) (block0 hm t) r j
  · intro r f; rw [e]; frame_out; exact act_point hm t r f
  · intro r f; rw [e]; frame_out; simp only [read_unread_whole]; exact dm_point hm t _ (cot_kept t h1 p) r f
  · intro j
    rw [e]; frame_out; simp only [read_unread_whole]
    refine (pay6 _ (fun r => padR X.h (t.val / 8 * 1088 + r.val)) (block1 hm t) _ (fun r => dhn X (t.val / 8 * 1088 + r.val)) hs _ j).trans ?_
    have g := p.gain j
    rw [show (t.val - 1 + 1) / 8 = t.val / 8 by omega] at g
    rw [g, show (t.val + 1) / 8 = t.val / 8 + 1 by omega, Finset.sum_range_succ, EReal.coe_add]
    rfl
  · intro r k; rw [e]; frame_out; simp only [read_unread_whole]; exact sum_kept hm t h1 p r k
  · intro r j; rw [e]; exact cot_kept t h1 p r j

end Inside

include hm in
theorem inv : ∀ (n : ℕ) (h : n < cfg0.N), Inv m X c n h
  | 0, h => inv_first hm ⟨0, h⟩ rfl
  | n + 1, h => by
    have hN : n + 1 < 64 := lt_of_lt_of_eq h (show cfg0.N = 64 from N_0)
    have p := inv n (Nat.lt_of_succ_lt h)
    by_cases h1 : (n + 1) % 8 = 0
    · exact inv_start hm ⟨n + 1, h⟩ (by dsimp only; omega) h1 p
    · by_cases h2 : (n + 1) % 8 = 7
      · exact inv_stop hm ⟨n + 1, h⟩ h1 p h2
      · exact inv_inner hm ⟨n + 1, h⟩ h1 p h2

/-- The gradient of the padded rows. -/
def rowsArr (X : Args) : S8704x1024.Idx → EReal := fun i => ((rowAt X (i 0).val (i 1) : ℝ) : EReal)

/-- The hidden layer's output, on the padded rows. -/
def actArr (X : Args) : S8704x4096.Idx → EReal := fun i => ((actAt X (i 0).val (i 1).val : ℝ) : EReal)

/-- The cotangent of the hidden layer, on the padded rows. -/
def hidArr (X : Args) : S8704x4096.Idx → EReal := fun i => ((dmAt X (i 0).val (i 1).val : ℝ) : EReal)

/-- The gain's gradient. -/
def gainArr (X : Args) : S1x1024.Idx → EReal := fun i => ((∑ R : Fin 8704, gainAt X (i 1) R.val : ℝ) : EReal)

theorem index6 : ∀ t : Fin cfg0.N, win0_6.index t 0 = t.val / 8 ∧ win0_6.index t 1 = 0 := by decide +kernel
theorem index7 : ∀ t : Fin cfg0.N, win0_7.index t 0 = t.val / 8 ∧ win0_7.index t 1 = t.val % 8 := by decide +kernel
theorem index8 : ∀ t : Fin cfg0.N, win0_8.index t 0 = t.val / 8 ∧ win0_8.index t 1 = t.val % 8 := by decide +kernel
theorem index9 : ∀ t : Fin cfg0.N, win0_9.index t 0 = 0 ∧ win0_9.index t 1 = 0 := by decide +kernel

/-- The last point. -/
abbrev last : Fin cfg0.N := ⟨63, by rw [show cfg0.N = 64 from N_0]; decide⟩

theorem eq_last (t : Fin cfg0.N) (h : t.val % 64 = 63) : t = last := by
  have ht := lt64 t
  exact Fin.ext (by show t.val = 63; omega)

include hm in
theorem flushed9_real (t : Fin cfg0.N) (hf : (cfg0.win 9).flush t = true) :
    (dats m 0 c).flushed 9 t = ((cfg0.win 9).blk t).view.read (Elt Ideal) (gainArr X) := by
  obtain rfl := eq_last t ((flush0_9 t).mp hf)
  rw [flushed9]
  have hz' : (fun a => win0_9.index last a * main_v30_3.ty.shape.size a) = fun _ => 0 := at_origin (index9 last)
  refine Eq.trans ?_ (Memref.read_access_unit_zero (Elt Ideal) main_v30_3 hz' (fun a => by rw [congrFun hz' a]; simp) (gainArr X)).symm
  funext j
  obtain ⟨j0, j1, rfl⟩ := ex2 j
  obtain rfl : j0 = 0 := Subsingleton.elim _ _
  refine ((inv hm 63 last.isLt).gain j1).trans (congrArg _ ?_)
  exact sum_blocks 8 1088 (gainAt X j1)

include hm in
theorem flushed6_real (t : Fin cfg0.N) (hf : (cfg0.win 6).flush t = true) :
    (dats m 0 c).flushed 6 t = ((cfg0.win 6).blk t).view.read (Elt Ideal) (rowsArr X) := by
  have ht := lt64 t
  funext j
  obtain ⟨r, k, rfl⟩ := ex2 j
  have hread : ((cfg0.win 6).blk t).view.read (Elt Ideal) (rowsArr X) (ix2 r k) = rowsArr X (ix2 ⟨t.val / 8 * 1088 + r.val, by omega⟩ k) := by
    rw [View.read_apply]
    exact congrArg (rowsArr X) (place_row (a := 1088) (b := 1024) _ _ _ (index6 t).1 (index6 t).2 rfl rfl rfl)
  rw [hread, flushed6]
  exact (inv hm t.val t.isLt).rows ((flush0_6 t).mp hf) r k

include hm in
theorem flushed7_real (t : Fin cfg0.N) (_ : (cfg0.win 7).flush t = true) :
    (dats m 0 c).flushed 7 t = ((cfg0.win 7).blk t).view.read (Elt Ideal) (actArr X) := by
  have ht := lt64 t
  funext j
  obtain ⟨r, k, rfl⟩ := ex2 j
  have hread : ((cfg0.win 7).blk t).view.read (Elt Ideal) (actArr X) (ix2 r k)
      = actArr X (ix2 ⟨t.val / 8 * 1088 + r.val, by omega⟩ ⟨t.val % 8 * 512 + k.val, by omega⟩) := by
    rw [View.read_apply]
    show actArr X _ = actArr X _
    exact congrArg _ (place (A := 8704) (B := 4096) (a := 1088) (b := 512) _ _ _ _ r.val k.val rfl rfl
      (by rw [(index7 t).1]; rfl) (by rw [(index7 t).2]; rfl))
  rw [hread, flushed7]
  exact (inv hm t.val t.isLt).act r k

include hm in
theorem flushed8_real (t : Fin cfg0.N) (_ : (cfg0.win 8).flush t = true) :
    (dats m 0 c).flushed 8 t = ((cfg0.win 8).blk t).view.read (Elt Ideal) (hidArr X) := by
  have ht := lt64 t
  funext j
  obtain ⟨r, k, rfl⟩ := ex2 j
  have hread : ((cfg0.win 8).blk t).view.read (Elt Ideal) (hidArr X) (ix2 r k)
      = hidArr X (ix2 ⟨t.val / 8 * 1088 + r.val, by omega⟩ ⟨t.val % 8 * 512 + k.val, by omega⟩) := by
    rw [View.read_apply]
    show hidArr X _ = hidArr X _
    exact congrArg _ (place (A := 8704) (B := 4096) (a := 1088) (b := 512) _ _ _ _ r.val k.val rfl rfl
      (by rw [(index8 t).1]; rfl) (by rw [(index8 t).2]; rfl))
  rw [hread, flushed8]
  exact (inv hm t.val t.isLt).hid r k

include hm in
theorem arr6 : (dats m 0 c).arrAt 6 cfg0.N = rowsArr X :=
  (dats m 0 c).arrAt_eq_of_cover 6 (rowsArr X) (flushed6_real hm) fun i =>
    (covered_iff6 i).mpr ⟨Nat.zero_le _, (i 0).isLt, Nat.zero_le _, (i 1).isLt⟩

include hm in
theorem arr7 : (dats m 0 c).arrAt 7 cfg0.N = actArr X :=
  (dats m 0 c).arrAt_eq_of_cover 7 (actArr X) (flushed7_real hm) fun i =>
    (covered_iff7 i).mpr ⟨Nat.zero_le _, (i 0).isLt, Nat.zero_le _, (i 1).isLt⟩

include hm in
theorem arr8 : (dats m 0 c).arrAt 8 cfg0.N = hidArr X :=
  (dats m 0 c).arrAt_eq_of_cover 8 (hidArr X) (flushed8_real hm) fun i =>
    (covered_iff8 i).mpr ⟨Nat.zero_le _, (i 0).isLt, Nat.zero_le _, (i 1).isLt⟩

include hm in
theorem arr9 : (dats m 0 c).arrAt 9 cfg0.N = gainArr X :=
  (dats m 0 c).arrAt_eq_of_cover 9 (gainArr X) (flushed9_real hm) fun i =>
    (covered_iff9 i).mpr ⟨Nat.zero_le _, (i 0).isLt, Nat.zero_le _, (i 1).isLt⟩

end Cert.MlpIdeal.Array
-- ==== Proof.MlpRefValue.lean ====
/-
  What the reference of the MLP's backward computes, when its arguments are real numbers.
-/
module

public import proofs.«01_k».proof.Proof.MlpArray
public import proofs.«01_k».proof.Proof.SumRows
public import proofs.«01_k».proof.Proof.Gen.MlpRefIdeal.Read

@[expose] public section

set_option maxRecDepth 16384

noncomputable section

namespace Cert.MlpRefIdeal.RefValue

open Idealize.ShloMosaic Cert.MlpRefIdeal Cert.MlpRefIdeal.Gen Cert.MlpRefIdeal.Read Idealize.ShloMosaic.TcCoe
open Cert.Reals Cert.RmsNorm Cert.Padded Cert.MlpIdeal.Inputs Cert.MlpIdeal.Array Cert.MlpIdeal.Block

variable {x0 x4 : Vec Ideal S4x2064x1024 .f32} {x1 : Vec Ideal S1024 .f32} {x2 : Vec Ideal S2x1024x4096 .f32} {x3 : Vec Ideal S2x4096x1024 .f32}
variable {X : Args}
variable (h0 : ∀ s q j, x0 (ix3 s q j) = (X.h s q j : EReal)) (h1 : ∀ j, x1 (ix1 j) = (X.g j : EReal))
variable (h2 : ∀ k f, x2 (ix3 1 k f) = (X.wu k f : EReal)) (h3 : ∀ f j, x3 (ix3 1 f j) = (X.wd f j : EReal))
variable (h4 : ∀ s q j, x4 (ix3 s q j) = (X.d s q j : EReal))

include h0 in
theorem v6 (s : Fin 4) (q : Fin 2064) (u : Fin 1) : val_main_v6 x0 (ix3 s q u) = (ms (X.h s q) : EReal) := by
  unfold val_main_v6 val_main_v5 val_main_v4 val_main_v3 val_main_v2 val_main_v1 val_main_v0 val_main_cst val_main_cst_0 val_main_cst_1
  pointwise
  simp only [h0, ← EReal.coe_mul, sum_coe, ofBits_1024, ofBits_eps]
  rw [div_real (by norm_num), ← EReal.coe_add]
  rfl

include h0 in
theorem v7 (s : Fin 4) (q : Fin 2064) (u : Fin 1) : val_main_v7 x0 (ix3 s q u) = (rs (X.h s q) : EReal) := by
  unfold val_main_v7
  pointwise
  rw [v6 h0, rsqrt_real (ms_pos _)]
  rfl

include h0 in
theorem v10 (s : Fin 4) (q : Fin 2064) (u : Fin 1) :
    val_main_v10 x0 (ix3 s q u) = ((-(1 / 2) * (rs (X.h s q) / ms (X.h s q)) : ℝ) : EReal) := by
  unfold val_main_v10 val_main_v9 val_main_v8 val_main_cst_2
  pointwise
  rw [v6 h0, v7 h0, div_real (ms_pos _).ne', ofBits_neg_half, ← EReal.coe_mul]

include h0 in
theorem v12 (s : Fin 4) (q : Fin 2064) (j : Fin 1024) :
    val_main_v12 x0 (ix3 s q j) = ((X.h s q j * rs (X.h s q) : ℝ) : EReal) := by
  unfold val_main_v12 val_main_v11
  pointwise
  simp only [h0, v7 h0, ← EReal.coe_mul]

include h0 h1 in
theorem v15 (s : Fin 4) (q : Fin 2064) (j : Fin 1024) : val_main_v15 x0 x1 (ix3 s q j) = (X.hn s q j : EReal) := by
  unfold val_main_v15 val_main_v14 val_main_v13
  pointwise
  rw [v12 h0, h1, ← EReal.coe_mul]
  rfl

include h2 in
theorem v17 (k : Fin 1024) (f : Fin 4096) : val_main_v17 x2 (ix2 k f) = (X.wu k f : EReal) := by
  unfold val_main_v17 val_main_v16
  pointwise
  exact h2 k f

include h3 in
theorem v27 (f : Fin 4096) (j : Fin 1024) : val_main_v27 x3 (ix2 f j) = (X.wd f j : EReal) := by
  unfold val_main_v27 val_main_v26
  pointwise
  exact h3 f j

include h0 h1 h2 in
theorem v18 (s : Fin 4) (q : Fin 2064) (f : Fin 4096) :
    val_main_v18 x0 x1 x2 (ix3 s q f) = ((∑ k, X.hn s q k * X.wu k f : ℝ) : EReal) := by
  unfold val_main_v18
  pointwise
  simp only [v15 h0 h1, v17 h2, ← EReal.coe_mul, sum_coe]

include h0 h1 h2 in
theorem v19 (s : Fin 4) (q : Fin 2064) (f : Fin 4096) :
    val_main_v19 x0 x1 x2 (ix3 s q f) = ((up (X.hn s q) (fun k => X.wu k f) : ℝ) : EReal) := by
  unfold val_main_v19 val_main_call0_v0 val_main_call0_cst
  pointwise
  rw [v18 h0 h1 h2, ← EReal.coe_zero]
  exact (EReal.coe_strictMono.monotone.map_max).symm

include h0 h1 h2 in
theorem v23 (s : Fin 4) (q : Fin 2064) (f : Fin 4096) :
    val_main_v23 x0 x1 x2 (ix3 s q f) = ((up (X.hn s q) (fun k => X.wu k f) * up (X.hn s q) (fun k => X.wu k f) : ℝ) : EReal) := by
  unfold val_main_v23
  pointwise
  rw [v19 h0 h1 h2, ← EReal.coe_mul]

include h0 h1 h2 h3 h4 in
theorem v32 (s : Fin 4) (q : Fin 2064) (f : Fin 4096) :
    val_main_v32 x0 x1 x2 x3 x4 (ix3 s q f) = ((dm (X.hn s q) (X.d s q) (fun k => X.wu k f) (X.wd f) : ℝ) : EReal) := by
  unfold val_main_v32 val_main_v31 val_main_v30 val_main_v29 val_main_v25 val_main_v24 val_main_v21 val_main_v20 val_main_cst_3 val_main_cst_5 val_main_cst_6
  pointwise
  simp only [v18 h0 h1 h2, v19 h0 h1 h2, v27 h3, h4, ofBits_two, ← EReal.coe_mul, sum_coe]
  split_ifs with hp
  · rfl
  · have hz : up (X.hn s q) (fun k => X.wu k f) = 0 := max_eq_right (not_lt.mp fun h => hp (EReal.coe_pos.mpr h))
    unfold dm
    rw [hz]
    simp

/-- The cotangent of a normalised row. -/
def dhnRow (X : Args) (s : Fin 4) (q : Fin 2064) (k : Fin 1024) : ℝ :=
  ∑ f, dm (X.hn s q) (X.d s q) (fun k => X.wu k f) (X.wd f) * X.wu k f

include h0 h1 h2 h3 h4 in
theorem v33 (s : Fin 4) (q : Fin 2064) (k : Fin 1024) :
    val_main_v33 x0 x1 x2 x3 x4 (ix3 s q k) = (dhnRow X s q k : EReal) := by
  unfold val_main_v33
  pointwise
  simp only [v32 h0 h1 h2 h3 h4, v17 h2, ← EReal.coe_mul, sum_coe]
  rfl

include h0 h1 h2 h3 h4 in
theorem v38 (s : Fin 4) (q : Fin 2064) (j : Fin 1024) :
    val_main_v38 x0 x1 x2 x3 x4 (ix3 s q j) = ((dhnRow X s q j * X.g j : ℝ) : EReal) := by
  unfold val_main_v38 val_main_v37 val_main_v13
  pointwise
  rw [v33 h0 h1 h2 h3 h4, h1, ← EReal.coe_mul]

/-- The gradient of a row. -/
def rowGrad (X : Args) (s : Fin 4) (q : Fin 2064) (j : Fin 1024) : ℝ :=
  X.d s q j + grad (X.h s q) (fun k => dhnRow X s q k * X.g k) j

include h0 h1 h2 h3 h4 in
theorem v54 (s : Fin 4) (q : Fin 2064) (j : Fin 1024) :
    val_main_v54 x0 x1 x2 x3 x4 (ix3 s q j) = (rowGrad X s q j : EReal) := by
  have v49 : ∀ k, val_main_v49 x0 x1 x2 x3 x4 (ix3 s q k)
      = (((∑ k, X.h s q k * (dhnRow X s q k * X.g k)) * (-(1 / 2) * (rs (X.h s q) / ms (X.h s q))) / 1024 : ℝ) : EReal) := fun k => by
    unfold val_main_v49 val_main_v48 val_main_v47 val_main_v46 val_main_v45 val_main_v42 val_main_v41 val_main_v40 val_main_cst_9 val_main_cst_10 val_main_cst_11
    pointwise
    simp only [h0, v38 h0 h1 h2 h3 h4, v10 h0, ← EReal.coe_mul, sum_coe, ofBits_1024, div_real (show (1024 : ℝ) ≠ 0 by norm_num), Finset.univ_unique, Finset.sum_singleton]
  unfold val_main_v54 val_main_v53 val_main_v52 val_main_v51 val_main_v50 val_main_v44 val_main_v43
  pointwise
  rw [v38 h0 h1 h2 h3 h4, v49, v7 h0, h0, h4, ← EReal.coe_mul, ← EReal.coe_mul, ← EReal.coe_mul, ← EReal.coe_add, ← EReal.coe_add, ← EReal.coe_add]
  exact congrArg _ (congrArg (X.d s q j + ·) (grad_eq _ (fun k => dhnRow X s q k * X.g k) j))

include h0 h1 h2 h3 h4 in
theorem v39 (j : Fin 1024) :
    val_main_v39 x0 x1 x2 x3 x4 (ix1 j) = ((∑ s, ∑ q, X.h s q j * rs (X.h s q) * dhnRow X s q j : ℝ) : EReal) := by
  have v35 : val_main_v35 x0 x1 x2 x3 x4 (ix1 j) = ((∑ s, ∑ q, X.h s q j * rs (X.h s q) * dhnRow X s q j : ℝ) : EReal) := by
    unfold val_main_v35 val_main_v34 val_main_cst_7
    pointwise
    rw [SumRows.sum_rows, zero_add]
    pointwise
    simp only [v33 h0 h1 h2 h3 h4, v12 h0, ← EReal.coe_mul, sum_coe]
  unfold val_main_v39 val_main_v36 val_main_cst_8
  pointwise
  rw [SumRows.sum_rows, zero_add]
  pointwise
  simp only [v35, Finset.univ_unique, Finset.sum_singleton]

theorem dmAt_zero (R f : ℕ) (hR : ¬112 ≤ R % 2176) : dmAt X R f = 0 := by
  have z : padR X.d R = fun _ => 0 := funext fun k => padR_zero X.d hR k
  unfold dmAt dm
  rw [z]
  simp

theorem dhn_zero (R : ℕ) (hR : ¬112 ≤ R % 2176) (k : Fin 1024) : dhn X R k = 0 := by
  simp [dhn, part, dmAt_zero R _ hR]

theorem actAt_zero (R f : ℕ) (hR : ¬112 ≤ R % 2176) : actAt X R f = 0 := by
  have z : padR X.hn R = fun _ => 0 := funext fun k => padR_zero X.hn hR k
  unfold actAt up
  rw [z]
  simp

/-- A padded row has no gradient. -/
theorem rowAt_zero (R : ℕ) (hR : ¬112 ≤ R % 2176) (j : Fin 1024) : rowAt X R j = 0 := by
  unfold rowAt
  simp only [dhn_zero R hR, padR_zero X.d hR, zero_mul, grad_zero, add_zero]

theorem actAt_at (s : Fin 4) (q : Fin 2064) (f : Fin 4096) : actAt X (s.val * 2176 + 112 + q.val) f.val
    = up (X.hn s q) (fun k => X.wu k f) * up (X.hn s q) (fun k => X.wu k f) := by
  unfold actAt
  rw [padR_at, ← col_eq f.val f.isLt]

theorem dmAt_at (s : Fin 4) (q : Fin 2064) (f : Fin 4096) : dmAt X (s.val * 2176 + 112 + q.val) f.val
    = dm (X.hn s q) (X.d s q) (fun k => X.wu k f) (X.wd f) := by
  unfold dmAt
  rw [padR_at, padR_at, ← col_eq f.val f.isLt]

theorem dhn_at (s : Fin 4) (q : Fin 2064) : dhn X (s.val * 2176 + 112 + q.val) = dhnRow X s q := funext fun k => by
  refine (sum_blocks 8 512 fun f => dmAt X (s.val * 2176 + 112 + q.val) f * X.wu k (col f)).trans ?_
  refine Finset.sum_congr rfl fun (f : Fin 4096) _ => ?_
  rw [dmAt_at, ← col_eq f.val f.isLt]

theorem rowAt_at (s : Fin 4) (q : Fin 2064) (j : Fin 1024) : rowAt X (s.val * 2176 + 112 + q.val) j = rowGrad X s q j := by
  unfold rowAt rowGrad
  rw [padR_at, padR_at, dhn_at]

/-- The padding's integer zero, as a number. -/
theorem zero_real : ((((0#32 : BitVec 32).toInt : ℝ)) : EReal) = ((0 : ℝ) : EReal) := by simp

theorem row_number (R : ℕ) (h : 112 ≤ R % 2176) : R / 2176 * 2176 + 112 + (R % 2176 - 112) = R := by omega

include h0 h1 h2 h3 h4 in
theorem rows_eq : val_main_v56 x0 x1 x2 x3 x4 = rowsArr X := by
  funext j
  idx_vars j
  unfold val_main_v56 val_main_v55 val_main_call1_v0 val_main_c rowsArr
  pointwise
  have hj : j0.val < 8704 := j0.isLt
  by_cases hp : 112 ≤ j0.val % 2176
  · rw [dif_pos ⟨by omega, hp, by omega⟩, v54 h0 h1 h2 h3 h4]
    exact congrArg _ ((rowAt_at _ _ _).symm.trans (congrArg (fun R => rowAt X R j1) (row_number j0.val hp)))
  · rw [dif_neg (by omega)]
    exact zero_real.trans (congrArg _ (rowAt_zero j0.val hp j1).symm)

include h0 h1 h2 in
theorem act_eq : val_main_v59 x0 x1 x2 = actArr X := by
  funext j
  idx_vars j
  unfold val_main_v59 val_main_v58 val_main_v57 val_main_call2_v0 val_main_c_12 actArr
  pointwise
  have hj : j0.val < 8704 := j0.isLt
  by_cases hp : 112 ≤ j0.val % 2176
  · rw [dif_pos ⟨by omega, hp, by omega⟩, v23 h0 h1 h2]
    exact congrArg _ ((actAt_at _ _ _).symm.trans (congrArg (fun R => actAt X R j1.val) (row_number j0.val hp)))
  · rw [dif_neg (by omega)]
    exact zero_real.trans (congrArg _ (actAt_zero j0.val j1.val hp).symm)

include h0 h1 h2 h3 h4 in
theorem hid_eq : val_main_v62 x0 x1 x2 x3 x4 = hidArr X := by
  funext j
  idx_vars j
  unfold val_main_v62 val_main_v61 val_main_v60 val_main_call3_v0 val_main_c_13 hidArr
  pointwise
  have hj : j0.val < 8704 := j0.isLt
  by_cases hp : 112 ≤ j0.val % 2176
  · rw [dif_pos ⟨by omega, hp, by omega⟩, v32 h0 h1 h2 h3 h4]
    exact congrArg _ ((dmAt_at _ _ _).symm.trans (congrArg (fun R => dmAt X R j1.val) (row_number j0.val hp)))
  · rw [dif_neg (by omega)]
    exact zero_real.trans (congrArg _ (dmAt_zero j0.val j1.val hp).symm)

include h0 h1 h2 h3 h4 in
theorem gain_eq : val_main_v63 x0 x1 x2 x3 x4 = gainArr X := by
  funext j
  idx_vars j
  unfold val_main_v63 gainArr
  pointwise
  rw [v39 h0 h1 h2 h3 h4]
  refine congrArg _ (Eq.symm ((sum_padded (gainAt X j1) fun R hR => ?_).trans ?_))
  · unfold gainAt
    rw [dhn_zero R hR, zero_mul]
  · refine Finset.sum_congr rfl fun s _ => Finset.sum_congr rfl fun q _ => ?_
    unfold gainAt
    rw [padR_at, dhn_at, mul_comm]

end Cert.MlpRefIdeal.RefValue
-- ==== Proof.MlpClaim.lean ====
/-
  The claims about the MLP's backward: the precondition read, the kernel's run and the reference's run set side by side.
-/
module

public import proofs.«01_k».proof.Defs
public import proofs.«01_k».proof.Proof.MlpRefValue
public import proofs.«01_k».proof.Proof.Gen.Pre_finite_mlp

@[expose] public section

set_option maxRecDepth 16384

noncomputable section

namespace Cert.MlpClaim

open Idealize.ShloMosaic Idealize.SL.Sem Idealize.ShloMosaic.TcCoe Cert.Reals Cert.MlpIdeal.Array Cert.MlpIdeal.Inputs

/-- The reference of the MLP's backward ends with every counter at zero: it has none. -/
theorem frame_ref : Cert.quiescent_MlpRefIdeal := fun m g _ =>
  (θ_run Cert.MlpRefIdeal.defs _ _).mono (fun r h => ⟨fun c => (h c).2.2.2.2, sem_eq_zero_of_no_sems rfl r.2⟩) (Cert.MlpRefIdeal.Value.run m g)

/-- The precondition says that the arguments are real numbers. -/
theorem holds_of_pre (m : (ℓ : Loc Cert.MlpIdeal.nD Cert.MlpIdeal.τ Cert.MlpIdeal.sig) → Buf (Elt Ideal) ℓ)
    (h : Cert.Pre_MlpIdeal_finite_mlp m) (c : Dev Cert.MlpIdeal.nD) :
    ∃ X, Holds m X c := by
  have e := congrFun (h c) (fun a => a.elim0)
  unfold Cert.Pre_finite_mlp.fn at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _, fun k f => _, fun f j => _, _⟩, fun s q j => (isReal_of_all _ _ (fun _ => ofBits_inf) _ _ _ _ e0).eq _,
    fun j => (isReal_of_all _ _ (fun _ => ofBits_inf) _ _ _ _ e1).eq _,
    fun k f => (isReal_of_all _ _ (fun _ => ofBits_inf) _ _ _ _ e2).eq _,
    fun f j => (isReal_of_all _ _ (fun _ => ofBits_inf) _ _ _ _ e3).eq _,
    fun s q j => (isReal_of_all _ _ (fun _ => ofBits_inf) _ _ _ _ e4).eq _⟩

/-- On real arguments the kernel and the derivative of the MLP give the same rows, hidden arrays and gain's gradient. -/
theorem algebraic : Cert.algebraic_MlpIdeal_MlpRefIdeal_pre_finite_mlp := by
  intro m g m' g' hpre hargs
  choose X hm using holds_of_pre m hpre
  refine ⟨fun c => rowsArr (X c), fun c => actArr (X c), fun c => hidArr (X c), fun c => gainArr (X c),
    (θ_run Cert.MlpIdeal.defs _ _).mono (fun r h c => ?_) (Cert.MlpIdeal.Value.run_blocks m g),
    (θ_run Cert.MlpRefIdeal.defs _ _).mono (fun r h c => ?_) (Cert.MlpRefIdeal.Value.run m' g')⟩
  · obtain ⟨h0, h1, h2, h3, hk⟩ := h c
    exact ⟨h0.trans (arr6 (hm c)), h1.trans (arr7 (hm c)), h2.trans (arr8 (hm c)), h3.trans (arr9 (hm c)), hk⟩
  · obtain ⟨h0, h1, h2, h3, hk⟩ := h c
    obtain ⟨a0, a1, a2, a3, a4⟩ := hargs c
    have b0 := fun s q j => (congrFun a0 (ix3 s q j)).trans ((hm c).1 s q j)
    have b1 := fun j => (congrFun a1 (ix1 j)).trans ((hm c).2.1 j)
    have b2 := fun k f => (congrFun a2 (ix3 1 k f)).trans ((hm c).2.2.1 k f)
    have b3 := fun f j => (congrFun a3 (ix3 1 f j)).trans ((hm c).2.2.2.1 f j)
    have b4 := fun s q j => (congrFun a4 (ix3 s q j)).trans ((hm c).2.2.2.2 s q j)
    exact ⟨h0.trans ((Cert.MlpRefIdeal.Read.val_main_v56_eq ..).trans (Cert.MlpRefIdeal.RefValue.rows_eq b0 b1 b2 b3 b4)),
      h1.trans ((Cert.MlpRefIdeal.Read.val_main_v59_eq ..).trans (Cert.MlpRefIdeal.RefValue.act_eq b0 b1 b2)),
      h2.trans ((Cert.MlpRefIdeal.Read.val_main_v62_eq ..).trans (Cert.MlpRefIdeal.RefValue.hid_eq b0 b1 b2 b3 b4)),
      h3.trans ((Cert.MlpRefIdeal.Read.val_main_v63_eq ..).trans (Cert.MlpRefIdeal.RefValue.gain_eq b0 b1 b2 b3 b4)), hk⟩

end Cert.MlpClaim
-- ==== Proof.MixerSums.lean ====
/-
  Sums over the rows of a window, made by doubling: a rotation by as many rows as the sum is long adds the sum before it.
-/
module

public import proofs.«01_k».proof.Proof.Padded

@[expose] public section

noncomputable section

namespace Cert.Mixer

/-- The rows of a sequence's block added to those `k` rows before, around the end. -/
def dbl (k : ℕ) (V : ℕ → ℝ) (r : ℕ) : ℝ := V r + V ((r + 2176 - k) % 2176)

/-- The sum of `w` rows that ends at row `r`. -/
def back (P : ℕ → ℝ) (w r : ℕ) : ℝ := ∑ i ∈ Finset.range w, P (r - i)

/-- The sum of `w` rows that begins at row `r`. -/
def ahead (P : ℕ → ℝ) (w r : ℕ) : ℝ := ∑ i ∈ Finset.range w, P (r + i)

theorem dbl_back (P V : ℕ → ℝ) (w : ℕ) (hw : 0 < w) (h : ∀ r, w ≤ r + 1 → r < 2176 → V r = back P w r) (r : ℕ) (h0 : w + w ≤ r + 1) (h1 : r < 2176) :
    dbl w V r = back P (w + w) r := by
  unfold dbl
  rw [show (r + 2176 - w) % 2176 = r - w from by omega, h r (by omega) h1, h (r - w) (by omega) (by omega)]
  unfold back
  rw [Finset.sum_range_add]
  exact congrArg _ (Finset.sum_congr rfl fun i _ => congrArg P (by omega))

theorem dbl_ahead (P V : ℕ → ℝ) (w : ℕ) (hw : w ≤ 16) (hlow : ∀ r, r < 112 → P r = 0) (hhigh : ∀ r, 2176 ≤ r → P r = 0)
    (h : ∀ r, r < 2176 → V r = ahead P w r) (r : ℕ) (h1 : r < 2176) : dbl (2176 - w) V r = ahead P (w + w) r := by
  unfold dbl
  rw [h r h1, h _ (Nat.mod_lt _ (by norm_num))]
  unfold ahead
  rw [Finset.sum_range_add]
  refine congrArg _ ?_
  by_cases hr : r + w < 2176
  · rw [show (r + 2176 - (2176 - w)) % 2176 = r + w from by omega]
    exact Finset.sum_congr rfl fun i _ => congrArg P (by omega)
  · rw [show (r + 2176 - (2176 - w)) % 2176 = r + w - 2176 from by omega]
    refine Finset.sum_congr rfl fun i hi => ?_
    have := Finset.mem_range.1 hi
    rw [hlow _ (by omega), hhigh _ (by omega)]

/-- The window of a column: two rows, four, eight or sixteen, by groups of 64 columns. -/
def win (j : ℕ) : ℕ := if j < 64 then 2 else if j < 128 then 4 else if j < 192 then 8 else 16

/-- How many rows a row's window has: those before the sequence's first row aren't there. -/
def cnt (r j : ℕ) : ℕ := min (win j) (max 1 (r - 111))

theorem cnt_pos (r j : ℕ) : 0 < cnt r j := by unfold cnt win; split_ifs <;> omega

theorem back_win (P : ℕ → ℝ) (r j : ℕ) (h0 : 112 ≤ r) (h1 : r < 2176) :
    (if j < 64 then dbl 1 P r else if j < 128 then dbl 2 (dbl 1 P) r else if j < 192 then dbl 4 (dbl 2 (dbl 1 P)) r
      else dbl 8 (dbl 4 (dbl 2 (dbl 1 P))) r) = back P (win j) r := by
  have e1 : ∀ r, 1 ≤ r + 1 → r < 2176 → P r = back P 1 r := fun r _ _ => by unfold back; rw [Finset.sum_range_one]; rfl
  have e2 := dbl_back P _ 1 (by norm_num) e1
  have e4 := dbl_back P _ 2 (by norm_num) e2
  have e8 := dbl_back P _ 4 (by norm_num) e4
  have e16 := dbl_back P _ 8 (by norm_num) e8
  unfold win
  split_ifs
  · exact e2 r (by omega) h1
  · exact e4 r (by omega) h1
  · exact e8 r (by omega) h1
  · exact e16 r (by omega) h1

theorem ahead_win (P : ℕ → ℝ) (hlow : ∀ r, r < 112 → P r = 0) (hhigh : ∀ r, 2176 ≤ r → P r = 0) (r j : ℕ) (h1 : r < 2176) :
    (if j < 64 then dbl 2175 P r else if j < 128 then dbl 2174 (dbl 2175 P) r else if j < 192 then dbl 2172 (dbl 2174 (dbl 2175 P)) r
      else dbl 2168 (dbl 2172 (dbl 2174 (dbl 2175 P))) r) = ahead P (win j) r := by
  have e1 : ∀ r, r < 2176 → P r = ahead P 1 r := fun r _ => by unfold ahead; rw [Finset.sum_range_one]; rfl
  have e2 := dbl_ahead P _ 1 (by norm_num) hlow hhigh e1
  have e4 := dbl_ahead P _ 2 (by norm_num) hlow hhigh e2
  have e8 := dbl_ahead P _ 4 (by norm_num) hlow hhigh e4
  have e16 := dbl_ahead P _ 8 (by norm_num) hlow hhigh e8
  unfold win
  split_ifs
  · exact e2 r h1
  · exact e4 r h1
  · exact e8 r h1
  · exact e16 r h1

end Cert.Mixer
-- ==== Proof.MixerBlock.lean ====
/-
  What one grid point of the mixer's backward computes, for a sequence's block of rows of real numbers that are zero on
  the padding.
-/
module

public import proofs.«01_k».proof.Proof.MixerSums
public import proofs.«01_k».proof.Proof.Gen.MixerIdeal.Skeleton

@[expose] public section

set_option maxRecDepth 16384

noncomputable section

namespace Cert.MixerIdeal.Block

open Idealize.ShloMosaic Cert.MixerIdeal Cert.MixerIdeal.Gen Cert.Reals Cert.Mixer

/-- The block's rows are the real rows `X`, which are zero on the padding and after the end. -/
structure Rows (x : S2176x256.Idx → EReal) (X : ℕ → Fin 256 → ℝ) : Prop where
  at_ : ∀ (r : Fin 2176) j, x (ix2 r j) = (X r.val j : EReal)
  low : ∀ r j, r < 112 → X r j = 0
  high : ∀ r j, 2176 ≤ r → X r j = 0

theorem mask0 : ∀ j : Fin 256, IntOp.andi (IntOp.cmpi CmpIPredicate.sge (BitVec.ofNat 32 j.val) 0#32)
    (IntOp.cmpi CmpIPredicate.slt (BitVec.ofNat 32 j.val) 64#32) = if j.val < 64 then 1#1 else 0#1 := by decide +kernel
theorem mask1 : ∀ j : Fin 256, IntOp.andi (IntOp.cmpi CmpIPredicate.sge (BitVec.ofNat 32 j.val) 64#32)
    (IntOp.cmpi CmpIPredicate.slt (BitVec.ofNat 32 j.val) 128#32) = if j.val < 64 then 0#1 else if j.val < 128 then 1#1 else 0#1 := by decide +kernel
theorem mask2 : ∀ j : Fin 256, IntOp.andi (IntOp.cmpi CmpIPredicate.sge (BitVec.ofNat 32 j.val) 128#32)
    (IntOp.cmpi CmpIPredicate.slt (BitVec.ofNat 32 j.val) 192#32) = if j.val < 128 then 0#1 else if j.val < 192 then 1#1 else 0#1 := by decide +kernel
theorem mask3 : ∀ r : Fin 2176, IntOp.cmpi CmpIPredicate.sge (BitVec.ofNat 32 r.val) 112#32 = if 112 ≤ r.val then 1#1 else 0#1 := by
  decide +kernel

/-- A choice by the three group masks is a choice by the column. -/
theorem choose {α : Type} (r : Fin 2176) (j : Fin 256) (a b c d : α) :
    Scalar.select (k0_pay20 (ix2 r j)) a (Scalar.select (k0_pay21 (ix2 r j)) b (Scalar.select (k0_pay22 (ix2 r j)) c d))
      = if j.val < 64 then a else if j.val < 128 then b else if j.val < 192 then c else d := by
  have e0 : k0_pay20 (ix2 r j) = if j.val < 64 then 1#1 else 0#1 := by unfold k0_pay20; pointwise; exact mask0 j
  have e1 : k0_pay21 (ix2 r j) = if j.val < 64 then 0#1 else if j.val < 128 then 1#1 else 0#1 := by unfold k0_pay21; pointwise; exact mask1 j
  have e2 : k0_pay22 (ix2 r j) = if j.val < 128 then 0#1 else if j.val < 192 then 1#1 else 0#1 := by unfold k0_pay22; pointwise; exact mask2 j
  rw [e0, e1, e2]
  split_ifs <;> first | rfl | omega

theorem real {α : Type} (r : Fin 2176) (j : Fin 256) (a b : α) :
    Scalar.select (k0_pay24 (ix2 r j)) a b = if 112 ≤ r.val then a else b := by
  have e : k0_pay24 (ix2 r j) = if 112 ≤ r.val then 1#1 else 0#1 := by unfold k0_pay24; pointwise; exact mask3 r
  rw [e]
  split_ifs <;> rfl

theorem count : ∀ r : Fin 2176, ∀ w ∈ [2, 4, 8, 16],
    (IntOp.minsi (BitVec.ofNat 32 w) (IntOp.maxsi (1#32) (IntOp.subi (BitVec.ofNat 32 r.val) 111#32))).toInt
      = ((min w (max 1 (r.val - 111)) : ℕ) : ℤ) := by decide +kernel

theorem pay23 (r : Fin 2176) (j : Fin 256) : k0_pay23 (F := Ideal) (ix2 r j) = (((cnt r.val j.val : ℕ) : ℝ) : EReal) := by
  unfold k0_pay23
  pointwise
  rw [choose, show (if j.val < 64 then 2#32 else if j.val < 128 then 4#32 else if j.val < 192 then 8#32 else 16#32) = BitVec.ofNat 32 (win j.val) from by
    unfold win; split_ifs <;> rfl]
  have h := count r (win j.val) (by unfold win; split_ifs <;> simp)
  show (((IntOp.minsi _ _).toInt : ℝ) : EReal) = _
  rw [h]
  rfl

variable (b c x p g e : Vec Ideal S2176x256 .f32) (B C X P G E : ℕ → Fin 256 → ℝ)
variable (hb : Rows b B) (hc : Rows c C) (hx : Rows x X) (hp : Rows p P) (hg : Rows g G) (he : Rows e E)
variable (w0 w1 w2 : Vec Ideal S1x256 .f32) (W0 W1 W2 : Fin 256 → ℝ)
variable (h0 : ∀ j, w0 (ix2 0 j) = (W0 j : EReal)) (h1 : ∀ j, w1 (ix2 0 j) = (W1 j : EReal)) (h2 : ∀ j, w2 (ix2 0 j) = (W2 j : EReal))

/-- The convolution's weighted sum of a row and the two before it. -/
def conv (U : ℕ → Fin 256 → ℝ) (r : ℕ) (j : Fin 256) : ℝ := W2 j * U r j + W1 j * U (r - 1) j + W0 j * U (r - 2) j

/-- The weighted sum of a row and the two after it. -/
def vnoc (V : ℕ → Fin 256 → ℝ) (r : ℕ) (j : Fin 256) : ℝ := W2 j * V r j + W1 j * V (r + 1) j + W0 j * V (r + 2) j

include hc hx in
theorem pay7 : Rows (k0_pay7 c x) (fun r j => C r j * X r j) where
  at_ r j := by
    unfold k0_pay7 k0_pay6 k0_pay5
    pointwise
    rw [hc.at_, hx.at_, ← EReal.coe_mul]
  low r j h := by rw [hc.low r j h, zero_mul]
  high r j h := by rw [hc.high r j h, zero_mul]

include hb hg in
theorem pay10 : Rows (k0_pay10 b g) (fun r j => G r j * B r j) where
  at_ r j := by
    unfold k0_pay10 k0_pay8
    pointwise
    rw [hb.at_, hg.at_, ← EReal.coe_mul]
  low r j h := by rw [hg.low r j h, zero_mul]
  high r j h := by rw [hg.high r j h, zero_mul]

include hc hx hg h0 h1 h2 in
theorem pay9 (r : Fin 2176) (j : Fin 256) :
    k0_pay9 c x g w2 w1 w0 (ix2 r j) = ((G r.val j * conv W0 W1 W2 (fun r j => C r j * X r j) r.val j : ℝ) : EReal) := by
  have hu := pay7 c x C X hc hx
  unfold k0_pay9 k0_pay8
  pointwise
  simp only [hu.at_, hg.at_, h0, h1, h2, ← EReal.coe_mul, ← EReal.coe_add]
  by_cases h : 112 ≤ r.val
  · unfold conv
    rw [show (r.val + 2176 - 1) % 2176 = r.val - 1 from by omega, show (r.val + 2176 - 2) % 2176 = r.val - 2 from by omega]
  · rw [hg.low r.val j (by omega), zero_mul, zero_mul]

variable (v : FVec Ideal S2176x256 .f32) (V : ℕ → Fin 256 → ℝ) (hv : Rows v V) (u : FVec Ideal S2176x256 .f32) (U : ℕ → Fin 256 → ℝ) (hu : Rows u U)

include hb hg h0 h1 h2 in
theorem pay12 (r : Fin 2176) (j : Fin 256) :
    k0_pay12 (k0_pay10 b g) (k0_pay11 b g w2) w1 w0 (ix2 r j) = ((vnoc W0 W1 W2 (fun r j => G r j * B r j) r.val j : ℝ) : EReal) := by
  have hv := pay10 b g B G hb hg
  unfold k0_pay12 k0_pay11
  pointwise
  simp only [hv.at_, h0, h1, h2, ← EReal.coe_mul, ← EReal.coe_add]
  unfold vnoc
  have e : ∀ n, 0 < n → n ≤ 2 → (fun r j => G r j * B r j) ((r.val + 2176 - (2176 - n)) % 2176) j = (fun r j => G r j * B r j) (r.val + n) j := by
    intro n hn hn'
    by_cases h : r.val + n < 2176
    · rw [show (r.val + 2176 - (2176 - n)) % 2176 = r.val + n from by omega]
    · exact (hv.low _ j (by omega)).trans (hv.high _ j (by omega)).symm
  have e1 := e 1 (by norm_num) (by norm_num)
  have e2 := e 2 (by norm_num) (by norm_num)
  norm_num at e1 e2
  rw [e1, e2]

include hb hg hx h0 h1 h2 in
theorem pay13 (r : Fin 2176) (j : Fin 256) :
    k0_pay13 (k0_pay6 x) (k0_pay10 b g) (k0_pay11 b g w2) w1 w0 (ix2 r j)
      = ((vnoc W0 W1 W2 (fun r j => G r j * B r j) r.val j * X r.val j : ℝ) : EReal) := by
  unfold k0_pay13 k0_pay6
  pointwise
  rw [pay12 b g B G hb hg w0 w1 w2 W0 W1 W2 h0 h1 h2, hx.at_, ← EReal.coe_mul]

include hb hg hc h0 h1 h2 in
theorem pay14 (r : Fin 2176) (j : Fin 256) :
    k0_pay14 (k0_pay5 c) (k0_pay10 b g) (k0_pay11 b g w2) w1 w0 (ix2 r j)
      = ((vnoc W0 W1 W2 (fun r j => G r j * B r j) r.val j * C r.val j : ℝ) : EReal) := by
  unfold k0_pay14 k0_pay5
  pointwise
  rw [pay12 b g B G hb hg w0 w1 w2 W0 W1 W2 h0 h1 h2, hc.at_, ← EReal.coe_mul]

include hu hv in
/-- The products of one array's rows with another's `n` rows before. -/
theorem shifted (n : ℕ) (hn : n ≤ 2) (j : Fin 256) :
    (∑ r : Fin 2176, (V r.val j : EReal) * ((U ((r.val + 2176 - n) % 2176) j : ℝ) : EReal))
      = ((∑ r : Fin 2176, V r.val j * U (r.val - n) j : ℝ) : EReal) := by
  simp only [← EReal.coe_mul, sum_coe]
  refine congrArg _ (Finset.sum_congr rfl fun r _ => ?_)
  by_cases h : 112 ≤ r.val
  · rw [show (r.val + 2176 - n) % 2176 = r.val - n from by omega]
  · rw [hv.low r.val j (by omega), zero_mul, zero_mul]

include hu hv in
theorem pay15 (a : Vec Ideal S1x256 .f32) (j : Fin 256) :
    k0_pay15 u v a (ix2 0 j) = a (ix2 0 j) + ((∑ r : Fin 2176, V r.val j * U (r.val - 2) j : ℝ) : EReal) := by
  unfold k0_pay15
  pointwise
  rw [← shifted v V hv u U hu 2 (by norm_num) j]
  exact congrArg _ (Finset.sum_congr rfl fun r _ => by rw [hv.at_, hu.at_])

include hu hv in
theorem pay16 (a : Vec Ideal S1x256 .f32) (j : Fin 256) :
    k0_pay16 u v a (ix2 0 j) = a (ix2 0 j) + ((∑ r : Fin 2176, V r.val j * U (r.val - 1) j : ℝ) : EReal) := by
  unfold k0_pay16
  pointwise
  rw [← shifted v V hv u U hu 1 (by norm_num) j]
  exact congrArg _ (Finset.sum_congr rfl fun r _ => by rw [hv.at_, hu.at_])

include hu hv in
theorem pay19 (a : Vec Ideal S1x256 .f32) (j : Fin 256) :
    k0_pay19 (k0_pay17 a) (k0_pay18 u v) (ix2 0 j) = a (ix2 0 j) + ((∑ r : Fin 2176, V r.val j * U r.val j : ℝ) : EReal) := by
  unfold k0_pay19 k0_pay18 k0_pay17
  pointwise
  simp only [hv.at_, hu.at_, ← EReal.coe_mul, sum_coe]

/-- A row of the means of the windows, the row itself taken off; nothing on the padding. -/
def pooled (P : ℕ → Fin 256 → ℝ) (r : ℕ) (j : Fin 256) : ℝ :=
  if 112 ≤ r then back (fun r => P r j) (win j.val) r / (cnt r j.val : ℝ) - P r j else 0

/-- Adding a rotation. -/
theorem level (y : FVec Ideal S2176x256 .f32) (Y : ℕ → Fin 256 → ℝ) (hy : ∀ (r : Fin 2176) j, y (ix2 r j) = (Y r.val j : EReal))
    (n : BitVec 32) (k : ℕ) (hk : n.toNat = k) (hk' : k < 2176) (h : S2176x256.Rotates 0 none) (r : Fin 2176) (j : Fin 256) :
    addf y (dynamicRotate 0 n none y h) (ix2 r j) = ((dbl k (fun r => Y r j) r.val : ℝ) : EReal) := by
  pointwise
  rw [hy]
  unfold dbl
  rw [EReal.coe_add, ← hy ⟨(r.val + 2176 - k) % 2176, Nat.mod_lt _ (by norm_num)⟩ j]
  refine congrArg _ (congrArg y ?_)
  funext a
  fin_cases a
  · apply Fin.ext
    subst hk
    simp [ix2, Nat.mod_eq_of_lt hk']
  · rfl

theorem cnt_ne (r j : ℕ) : (cnt r j : ℝ) ≠ 0 := Nat.cast_ne_zero.2 (cnt_pos r j).ne'

include hp in
theorem pay27 (r : Fin 2176) (j : Fin 256) :
    k0_pay27 k0_pay20 k0_pay21 k0_pay22 (k0_pay23 (F := Ideal)) k0_pay24 (k0_pay25 p) (k0_pay26 p) (ix2 r j) = (pooled P r.val j : EReal) := by
  have e0 : ∀ (r : Fin 2176) j, k0_pay25 p (ix2 r j) = (P r.val j : EReal) := fun r j => by
    unfold k0_pay25; pointwise; exact hp.at_ r j
  have e1 : ∀ (r : Fin 2176) j, k0_pay26 p (ix2 r j) = ((dbl 1 (fun r => P r j) r.val : ℝ) : EReal) :=
    fun r j => level (k0_pay25 p) P e0 1#32 1 rfl (by norm_num) _ r j
  unfold k0_pay27
  dsimp only
  generalize hA : addf (k0_pay26 p) _ = A
  have e2 : ∀ (r : Fin 2176) j, A (ix2 r j) = ((dbl 2 (dbl 1 (fun r => P r j)) r.val : ℝ) : EReal) := by
    intro r j; rw [← hA]; exact level _ (fun r j => dbl 1 (fun r => P r j) r) e1 2#32 2 rfl (by norm_num) _ r j
  generalize hB : addf A _ = B'
  have e3 : ∀ (r : Fin 2176) j, B' (ix2 r j) = ((dbl 4 (dbl 2 (dbl 1 (fun r => P r j))) r.val : ℝ) : EReal) := by
    intro r j; rw [← hB]; exact level _ (fun r j => dbl 2 (dbl 1 (fun r => P r j)) r) e2 4#32 4 rfl (by norm_num) _ r j
  generalize hC : addf B' _ = C'
  have e4 : ∀ (r : Fin 2176) j, C' (ix2 r j) = ((dbl 8 (dbl 4 (dbl 2 (dbl 1 (fun r => P r j)))) r.val : ℝ) : EReal) := by
    intro r j; rw [← hC]; exact level _ (fun r j => dbl 4 (dbl 2 (dbl 1 (fun r => P r j))) r) e3 8#32 8 rfl (by norm_num) _ r j
  pointwise
  rw [choose, real, pay23, e0, e1, e2, e3, e4]
  unfold pooled
  by_cases h : 112 ≤ r.val
  · rw [if_pos h, if_pos h, ← back_win (fun r => P r j) r.val j.val h r.isLt]
    split_ifs <;> rw [div_real (cnt_ne _ _), ← EReal.coe_sub]
  · rw [if_neg h, if_neg h]
    rfl

variable (q : Vec Ideal S2176x256 .f32) (Q : ℕ → Fin 256 → ℝ) (hq : Rows q Q)
variable (m : Vec Ideal S256x256 .bf16) (M : Fin 256 → Fin 256 → ℝ) (hm : ∀ i j, m (ix2 i j) = (M i j : EReal))
variable (s : Vec Ideal S1x256 .f32) (T : Fin 256 → ℝ) (hs : ∀ j, s (ix2 0 j) = (T j : EReal))

include hp hq hm in
theorem pay29 (a : Vec Ideal S1x256 .f32) (j : Fin 256) :
    k0_pay29 k0_pay20 k0_pay21 k0_pay22 (k0_pay23 (F := Ideal)) k0_pay24 (k0_pay25 p) (k0_pay26 p) q a m (ix2 0 j)
      = a (ix2 0 j) + ((∑ r : Fin 2176, Q r.val j * ∑ k : Fin 256, pooled P r.val k * M k j : ℝ) : EReal) := by
  unfold k0_pay29 k0_pay28
  pointwise
  simp only [pay27 p P hp, hq.at_, hm, Ideal.ofBits_zero, zero_add, ← EReal.coe_mul, sum_coe]

include hq hs in
theorem pay30 (r : Fin 2176) (j : Fin 256) : k0_pay30 q s (ix2 r j) = ((Q r.val j * T j : ℝ) : EReal) := by
  unfold k0_pay30 k0_pay28
  pointwise
  rw [hq.at_, hs, ← EReal.coe_mul]

include hp hq hs in
theorem pay31 (a : Vec Ideal S256x256 .f32) (i j : Fin 256) :
    k0_pay31 k0_pay20 k0_pay21 k0_pay22 (k0_pay23 (F := Ideal)) k0_pay24 (k0_pay25 p) (k0_pay26 p) q s a (ix2 i j)
      = a (ix2 i j) + ((∑ r : Fin 2176, pooled P r.val i * (Q r.val j * T j) : ℝ) : EReal) := by
  unfold k0_pay31
  pointwise
  simp only [pay27 p P hp, pay30 q Q hq s T hs, Ideal.ofBits_zero, zero_add, ← EReal.coe_mul, sum_coe]

/-- The cotangent of a row's mean. -/
def dmean (r : ℕ) (j : Fin 256) : ℝ := if 112 ≤ r ∧ r < 2176 then ∑ k : Fin 256, Q r k * T k * M j k else 0

include hq hm hs in
theorem pay1 (r : Fin 2176) (j : Fin 256) :
    k0_pay1 k0_pay20 k0_pay21 k0_pay22 (k0_pay23 (F := Ideal)) k0_pay24 (k0_pay30 q s) m (ix2 r j)
      = (((if 112 ≤ r.val then ahead (fun r => dmean Q M T r j / (cnt r j.val : ℝ)) (win j.val) r.val - dmean Q M T r.val j else 0 : ℝ)) : EReal) := by
  unfold k0_pay1
  dsimp only
  generalize hD : (select k0_pay24 (matmul (F := Ideal) _ _ (k0_pay30 q s) _ _) _ : FVec Ideal S2176x256 .f32) = D
  have d (r : Fin 2176) (j : Fin 256) : D (ix2 r j) = (dmean Q M T r.val j : EReal) := by
    rw [← hD]
    pointwise
    simp only [real, pay30 q Q hq s T hs, hm, Ideal.ofBits_zero, zero_add, ← EReal.coe_mul, sum_coe]
    unfold dmean
    by_cases h : 112 ≤ r.val
    · rw [if_pos h, if_pos ⟨h, r.isLt⟩]
    · rw [if_neg h, if_neg (by omega), EReal.coe_zero]
  generalize hY : (divf D _ : FVec Ideal S2176x256 .f32) = Y
  have e1 (r : Fin 2176) (j : Fin 256) : Y (ix2 r j) = ((dmean Q M T r.val j / (cnt r.val j.val : ℝ) : ℝ) : EReal) := by
    rw [← hY]
    pointwise
    rw [d, pay23, div_real (cnt_ne _ _)]
  generalize hA : addf Y _ = A
  have e2 (r : Fin 2176) (j : Fin 256) : A (ix2 r j) = ((dbl 2175 (fun r => dmean Q M T r j / (cnt r j.val : ℝ)) r.val : ℝ) : EReal) := by
    rw [← hA]; exact level _ (fun r j => dmean Q M T r j / (cnt r j.val : ℝ)) e1 2175#32 2175 rfl (by norm_num) _ r j
  generalize hB : addf A _ = B
  have e3 (r : Fin 2176) (j : Fin 256) : B (ix2 r j) = ((dbl 2174 (dbl 2175 (fun r => dmean Q M T r j / (cnt r j.val : ℝ))) r.val : ℝ) : EReal) := by
    rw [← hB]; exact level _ (fun r j => dbl 2175 (fun r => dmean Q M T r j / (cnt r j.val : ℝ)) r) e2 2174#32 2174 rfl (by norm_num) _ r j
  generalize hC : addf B _ = C
  have e4 (r : Fin 2176) (j : Fin 256) : C (ix2 r j) = ((dbl 2172 (dbl 2174 (dbl 2175 (fun r => dmean Q M T r j / (cnt r j.val : ℝ)))) r.val : ℝ) : EReal) := by
    rw [← hC]; exact level _ (fun r j => dbl 2174 (dbl 2175 (fun r => dmean Q M T r j / (cnt r j.val : ℝ))) r) e3 2172#32 2172 rfl (by norm_num) _ r j
  generalize hE : addf C _ = E
  have e5 (r : Fin 2176) (j : Fin 256) :
      E (ix2 r j) = ((dbl 2168 (dbl 2172 (dbl 2174 (dbl 2175 (fun r => dmean Q M T r j / (cnt r j.val : ℝ))))) r.val : ℝ) : EReal) := by
    rw [← hE]
    exact level _ (fun r j => dbl 2172 (dbl 2174 (dbl 2175 (fun r => dmean Q M T r j / (cnt r j.val : ℝ)))) r) e4 2168#32 2168 rfl (by norm_num) _ r j
  pointwise
  rw [choose, real, e2, e3, e4, e5, d]
  by_cases h : 112 ≤ r.val
  · rw [if_pos h, if_pos h, ← ahead_win (fun r => dmean Q M T r j / (cnt r j.val : ℝ)) (fun r h => by unfold dmean; rw [if_neg (by omega), zero_div])
      (fun r h => by unfold dmean; rw [if_neg (by omega), zero_div]) r.val j.val r.isLt]
    split_ifs <;> rfl
  · rw [if_neg h, if_neg h]
    rfl

theorem pay2 (i : Fin 3) (j : Fin 256) : k0_pay2 (F := Ideal) (ix2 i j) = 0 := by unfold k0_pay2; pointwise
theorem pay3 (j : Fin 256) : k0_pay3 (F := Ideal) (ix2 0 j) = 0 := by unfold k0_pay3; pointwise
theorem pay4 (i j : Fin 256) : k0_pay4 (F := Ideal) (ix2 i j) = 0 := by unfold k0_pay4; pointwise

end Cert.MixerIdeal.Block
-- ==== Proof.MixerPoint.lean ====
/-
  What each case of the body of the mixer's backward leaves in its result blocks, at a grid point.
-/
module

public import proofs.«01_k».proof.Proof.MixerBlock
public import proofs.«01_k».proof.Proof.Gen.MixerIdeal.Frame
public import Idealize.ShloMosaic.Lib.Pipeline.ValueKit

@[expose] public section

set_option maxRecDepth 16384

noncomputable section

namespace Cert.MixerIdeal.Point

open Idealize.ShloMosaic Cert.MixerIdeal Cert.MixerIdeal.Gen Cert.MixerIdeal.Block Cert.Reals Cert.Mixer Idealize.ShloMosaic.TcCoe

variable (c : Dev nD) (i : grid0.Coords) (a1 : Memref sig .tc .vmem S2176x1024 .f32) (h1 : a1.IsWhole) (a2 : Memref sig .tc .vmem S2176x512 .f32) (h2 : a2.IsWhole)
  (a3 : Memref sig .tc .vmem S3x256 .f32) (h3 : a3.IsWhole) (a4 : Memref sig .tc .vmem S256x256 .bf16) (h4 : a4.IsWhole)
  (a5 : Memref sig .tc .vmem S1x256 .f32) (h5 : a5.IsWhole) (a6 : Memref sig .tc .vmem S2176x1024 .bf16) (h6 : a6.IsWhole)
  (a7 : Memref sig .tc .vmem S3x256 .f32) (h7 : a7.IsWhole) (a8 : Memref sig .tc .vmem S1x256 .f32) (h8 : a8.IsWhole)
  (a9 : Memref sig .tc .vmem S256x256 .f32) (h9 : a9.IsWhole)
  (x : Vec Ideal S2176x1024 .f32) (d : Vec Ideal S2176x512 .f32) (w : Vec Ideal S3x256 .f32) (m : Vec Ideal S256x256 .bf16) (s : Vec Ideal S1x256 .f32)
  (o6 : Vec Ideal S3x256 .f32) (o7 : Vec Ideal S1x256 .f32) (o8 : Vec Ideal S256x256 .f32)

section Parts

/-- The columns `k` on of rows of real numbers. -/
def part (U : ℕ → ℕ → ℝ) (k r : ℕ) (j : Fin 256) : ℝ := U r (k + j.val)

/-- The real rows behind the blocks, zero on the padding and after the end. -/
structure Reads (U D : ℕ → ℕ → ℝ) (W : Fin 3 → Fin 256 → ℝ) (M : Fin 256 → Fin 256 → ℝ) (T : Fin 256 → ℝ) : Prop where
  x : ∀ (r : Fin 2176) (j : Fin 1024), x (ix2 r j) = (U r.val j.val : EReal)
  d : ∀ (r : Fin 2176) (j : Fin 512), d (ix2 r j) = (D r.val j.val : EReal)
  w : ∀ k j, w (ix2 k j) = (W k j : EReal)
  m : ∀ k j, m (ix2 k j) = (M k j : EReal)
  s : ∀ j, s (ix2 0 j) = (T j : EReal)
  xlow : ∀ r j, r < 112 → U r j = 0
  xhigh : ∀ r j, 2176 ≤ r → U r j = 0
  dlow : ∀ r j, r < 112 → D r j = 0
  dhigh : ∀ r j, 2176 ≤ r → D r j = 0

variable {x d w m s} {U D : ℕ → ℕ → ℝ} {W : Fin 3 → Fin 256 → ℝ} {M : Fin 256 → Fin 256 → ℝ} {T : Fin 256 → ℝ} (h : Reads x d w m s U D W M T)
include h

theorem rows (k : ℕ) (hk : k + 256 ≤ 1024) (inb) : Rows (View.ld x (Rect.unit ![0, k] ![2176, 256] inb)) (part U k) where
  at_ r j := (View.ld_unit_apply_of x _ _ inb (ix2 r j) (ix2 r ⟨k + j.val, by omega⟩) fun a => by
    fin_cases a
    · show r.val = 0 + r.val; omega
    · rfl).trans (h.x r ⟨k + j.val, by omega⟩)
  low r j hr := h.xlow r _ hr
  high r j hr := h.xhigh r _ hr

theorem drows (k : ℕ) (hk : k + 256 ≤ 512) (inb) : Rows (View.ld d (Rect.unit ![0, k] ![2176, 256] inb)) (part D k) where
  at_ r j := (View.ld_unit_apply_of d _ _ inb (ix2 r j) (ix2 r ⟨k + j.val, by omega⟩) fun a => by
    fin_cases a
    · show r.val = 0 + r.val; omega
    · rfl).trans (h.d r ⟨k + j.val, by omega⟩)
  low r j hr := h.dlow r _ hr
  high r j hr := h.dhigh r _ hr

theorem wrow (k : Fin 3) (inb) (j : Fin 256) : View.ld w (Rect.unit ![k.val, 0] ![1, 256] inb) (ix2 0 j) = (W k j : EReal) :=
  (View.ld_unit_apply_of w _ _ inb (ix2 0 j) (ix2 k j) fun a => by
    fin_cases a
    · rfl
    · show j.val = 0 + j.val; omega).trans (h.w k j)

end Parts

/-- A block of 256 columns at its own place. -/
theorem hit {N : ℕ} (r : Fin 2176) (k : ℕ) (j : Fin 256) (hk : k + j.val < N) (w : S2176x256.Idx → EReal) (v : EReal) (e : w (ix2 r j) = v) :
    View.TileAt (Val := Elt Ideal) (e := .bf16) (S := ⟨2, ![2176, N]⟩) (ix2 r ⟨k + j.val, hk⟩) ![0, k] ![2176, 256] w v := by
  intro y hy
  rw [← e]
  refine congrArg w (funext fun a => Fin.ext ?_)
  have := hy a
  fin_cases a
  · exact ((this.trans (Nat.zero_add _)).symm : _)
  · exact (Nat.add_left_cancel this).symm

/-- A block of 256 columns isn't at another's place. -/
theorem miss {N : ℕ} (r : Fin 2176) (k l : ℕ) (j : Fin 256) (hk : k + j.val < N) (w : S2176x256.Idx → EReal) (v : EReal) (e : k + 256 ≤ l ∨ l + 256 ≤ k) :
    View.TileAt (Val := Elt Ideal) (e := .bf16) (S := ⟨2, ![2176, N]⟩) (ix2 r ⟨k + j.val, hk⟩) ![0, l] ![2176, 256] w v := by
  intro y hy
  have h1 : k + j.val = l + (y 1).val := hy 1
  have h2 : (y 1).val < 256 := (y 1).isLt
  omega

/-- A row of three at its own place. -/
theorem hit3 (k : Fin 3) (j : Fin 256) (w : S1x256.Idx → EReal) (v : EReal) (e : w (ix2 0 j) = v) :
    View.TileAt (Val := Elt Ideal) (e := .f32) (S := S3x256) (ix2 k j) ![k.val, 0] ![1, 256] w v := by
  intro y hy
  rw [← e]
  refine congrArg w (funext fun a => Fin.ext ?_)
  have := hy a
  fin_cases a
  · exact (Nat.add_left_cancel (this.symm : k.val + _ = k.val + 0))
  · exact ((this.trans (Nat.zero_add _)).symm : _)

theorem miss3 (k l : Fin 3) (j : Fin 256) (w : S1x256.Idx → EReal) (v : EReal) (e : k ≠ l) :
    View.TileAt (Val := Elt Ideal) (e := .f32) (S := S3x256) (ix2 k j) ![l.val, 0] ![1, 256] w v := by
  intro y hy
  have h1 : k.val = l.val + (y 0).val := hy 0
  have h2 : (y 0).val < 1 := (y 0).isLt
  exact absurd (Fin.ext (by omega)) e

/-- What a list of stores into three rows leaves in a row: the last store of that row. -/
theorem row_own (k : Fin 3) (j : Fin 256) (inb) (w : S1x256.Idx → EReal) (L : List (View.Piece (Elt Ideal) S3x256 .f32)) :
    View.canon ((⟨Rect.unit ![k.val, 0] ![1, 256] inb, w⟩ : View.Piece (Elt Ideal) S3x256 .f32) :: L) (ix2 k j) = w (ix2 0 j) := by
  have e : (Rect.unit (s := S3x256) ![k.val, 0] ![1, 256] inb).emb (ix2 0 j) = ix2 k j := funext fun a => Fin.ext (by
    rw [Rect.emb_apply]
    fin_cases a
    · rfl
    · show 0 + 1 * j.val = j.val; omega)
  rw [← e]
  exact View.canon_cons_emb (Rect.unit (s := S3x256) ![k.val, 0] ![1, 256] inb) w L (ix2 0 j)

theorem row_other (k l : Fin 3) (hkl : k ≠ l) (j : Fin 256) (inb) (w : S1x256.Idx → EReal) (L : List (View.Piece (Elt Ideal) S3x256 .f32)) :
    View.canon ((⟨Rect.unit ![l.val, 0] ![1, 256] inb, w⟩ : View.Piece (Elt Ideal) S3x256 .f32) :: L) (ix2 k j) = View.canon L (ix2 k j) := by
  refine View.canon_cons_of_not_mem _ L fun hm => ?_
  obtain ⟨y, hy⟩ := LoadRect.exists_idx_of_mem _ hm
  have h1 : l.val + 1 * (y 0).val = k.val := congrArg (fun z : S3x256.Idx => (z 0).val) hy
  have h2 : (y 0).val < 1 := (y 0).isLt
  exact hkl (Fin.ext (by omega))

theorem row_read (v : View sig .tc .vmem S3x256 .f32) (k : Fin 3) (j : Fin 256) (inb) (L : List (View.Piece (Elt Ideal) S3x256 .f32)) :
    v.readCov L (Rect.unit (s := S3x256) ![k.val, 0] ![1, 256] inb).toLoadRect (ix2 0 j) = View.canon L (ix2 k j) := by
  rw [View.readCov_eq_canon']
  refine congrArg (View.canon L) (funext fun a => Fin.ext ?_)
  fin_cases a
  · rfl
  · show 0 + 1 * j.val = j.val; omega

theorem row_fill (k : Fin 3) (j : Fin 256) (inb) :
    View.canon [(⟨Rect.unit ![0, 0] ![3, 256] inb, k0_pay2 (F := Ideal)⟩ : View.Piece (Elt Ideal) S3x256 .f32)] (ix2 k j) = 0 := by
  rw [View.canon_unit_zero (S := S3x256) hz]
  exact pay2 k j

section Rowwise
variable (U D : ℕ → ℕ → ℝ) (W : Fin 3 → Fin 256 → ℝ) (M : Fin 256 → Fin 256 → ℝ) (T : Fin 256 → ℝ)

/-- The gated input of the convolution, and the cotangent of its result. -/
def gated (r : ℕ) (j : Fin 256) : ℝ := part U 256 r j * part U 512 r j
def dconv (r : ℕ) (j : Fin 256) : ℝ := part D 0 r j * part U 0 r j

/-- The gradient of a row, by groups of 256 columns: the gate's, its two factors', the pool's. -/
def du (k : Fin 4) (r : ℕ) (j : Fin 256) : ℝ :=
  match k with
  | 0 => part D 0 r j * conv (W 0) (W 1) (W 2) (gated U) r j
  | 1 => vnoc (W 0) (W 1) (W 2) (dconv U D) r j * part U 512 r j
  | 2 => vnoc (W 0) (W 1) (W 2) (dconv U D) r j * part U 256 r j
  | 3 => if 112 ≤ r then ahead (fun r => dmean (part D 256) M T r j / (cnt r j.val : ℝ)) (win j.val) r - dmean (part D 256) M T r j else 0

/-- What a sequence adds to the gradients of the convolution's weights, of the pool's scale and of its matrix. -/
def dtap (k : Fin 3) (j : Fin 256) : ℝ := ∑ r : Fin 2176, dconv U D r.val j * gated U (r.val - (2 - k.val)) j
def dscale (j : Fin 256) : ℝ := ∑ r : Fin 2176, part D 256 r.val j * ∑ k : Fin 256, pooled (part U 768) r.val k * M k j
def dmat (i j : Fin 256) : ℝ := ∑ r : Fin 2176, pooled (part U 768) r.val i * (part D 256 r.val j * T j)
end Rowwise

section Values
variable {x d w m s} {U D : ℕ → ℕ → ℝ} {W : Fin 3 → Fin 256 → ℝ} {M : Fin 256 → Fin 256 → ℝ} {T : Fin 256 → ℝ} (h : Reads x d w m s U D W M T)
include h

/-- Stores of the four groups of columns, each of its own gradient. -/
theorem rows_eq (k : Fin 4) (r : Fin 2176) (j : Fin 256) :
    (∀ hc : cond0_0 i, out0_A_5 c i a1 h1 a2 h2 a3 h3 a4 h4 a5 h5 a6 h6 a7 h7 a8 h8 a9 h9 hc x d w m s (ix2 r ⟨256 * k.val + j.val, by omega⟩)
      = (du U D W M T k r.val j : EReal))
    ∧ ∀ hc : ¬cond0_0 i, out0_B_5 c i a1 h1 a2 h2 a3 h3 a4 h4 a5 h5 a6 h6 a7 h7 a8 h8 a9 h9 hc x d w m s o6 o7 o8 (ix2 r ⟨256 * k.val + j.val, by omega⟩)
      = (du U D W M T k r.val j : EReal) := by
  refine ⟨fun hc => ?_, fun hc => ?_⟩
  on_goal 1 =>
    unfold out0_A_5
    rw [View.read_writes_eq_canon _ _ _ fun _ => cover0_A_5 ..]
    refine View.canon_eq_of_allAt _ _ _ (cover0_A_5 ..) ?_
    unfold kernelRun0_A
  on_goal 2 =>
    unfold out0_B_5
    rw [View.read_writes_eq_canon _ _ _ fun _ => cover0_B_5 ..]
    refine View.canon_eq_of_allAt _ _ _ (cover0_B_5 ..) ?_
    unfold kernelRun0_B
  all_goals
    dsimp only
    sl_unfold_words
    simp only [View.readAt_eq_ld, h1.read_unread, h2.read_unread, h3.read_unread, h4.read_unread, h5.read_unread, View.ld_unit_zero (S := S256x256) hz, View.ld_unit_zero (S := S1x256) hz]
    refine View.allAt_cons_unit _ _ _ _ _ ?_ (View.allAt_cons_unit _ _ _ _ _ ?_ (View.allAt_cons_unit _ _ _ _ _ ?_ (View.allAt_cons_unit _ _ _ _ _ ?_ (View.allAt_nil _ _)))) <;>
    fin_cases k <;> first
    | exact miss r _ _ j _ _ _ (by decide)
    | exact hit r 768 j _ _ _ (pay1 _ _ (drows h 256 (by norm_num) _) m M h.m s T h.s r j)
    | exact hit r 512 j _ _ _ (pay14 _ _ _ _ _ _ (rows h 0 (by norm_num) _) (rows h 256 (by norm_num) _) (drows h 0 (by norm_num) _) _ _ _ (W 0) (W 1) (W 2) (wrow h 0 _) (wrow h 1 _) (wrow h 2 _) r j)
    | exact hit r 256 j _ _ _ (pay13 _ _ _ _ _ _ (rows h 0 (by norm_num) _) (rows h 512 (by norm_num) _) (drows h 0 (by norm_num) _) _ _ _ (W 0) (W 1) (W 2) (wrow h 0 _) (wrow h 1 _) (wrow h 2 _) r j)
    | exact hit r 0 j _ _ _ (pay9 _ _ _ _ _ _ (rows h 256 (by norm_num) _) (rows h 512 (by norm_num) _) (drows h 0 (by norm_num) _) _ _ _ (W 0) (W 1) (W 2) (wrow h 0 _) (wrow h 1 _) (wrow h 2 _) r j)

omit h in
/-- A row of a block of three, loaded. -/
theorem row3 (o : Vec Ideal S3x256 .f32) (k : Fin 3) (inb) (j : Fin 256) : View.ld o (Rect.unit ![k.val, 0] ![1, 256] inb) (ix2 0 j) = o (ix2 k j) :=
  View.ld_unit_apply_of o _ _ inb (ix2 0 j) (ix2 k j) fun a => by
    fin_cases a
    · rfl
    · show j.val = 0 + j.val; omega

theorem taps (o : S1x256.Idx → EReal) (j : Fin 256) (inb0 inb1 inb2 inb3) :
    (k0_pay15 (k0_pay7 (View.ld x (Rect.unit ![0, 256] ![2176, 256] inb0)) (View.ld x (Rect.unit ![0, 512] ![2176, 256] inb1)))
        (k0_pay10 (View.ld x (Rect.unit ![0, 0] ![2176, 256] inb2)) (View.ld d (Rect.unit ![0, 0] ![2176, 256] inb3))) o (ix2 0 j)
        = o (ix2 0 j) + (dtap U D 0 j : EReal))
    ∧ (k0_pay16 (k0_pay7 (View.ld x (Rect.unit ![0, 256] ![2176, 256] inb0)) (View.ld x (Rect.unit ![0, 512] ![2176, 256] inb1)))
        (k0_pay10 (View.ld x (Rect.unit ![0, 0] ![2176, 256] inb2)) (View.ld d (Rect.unit ![0, 0] ![2176, 256] inb3))) o (ix2 0 j)
        = o (ix2 0 j) + (dtap U D 1 j : EReal))
    ∧ (k0_pay19 (k0_pay17 o) (k0_pay18 (k0_pay7 (View.ld x (Rect.unit ![0, 256] ![2176, 256] inb0)) (View.ld x (Rect.unit ![0, 512] ![2176, 256] inb1)))
        (k0_pay10 (View.ld x (Rect.unit ![0, 0] ![2176, 256] inb2)) (View.ld d (Rect.unit ![0, 0] ![2176, 256] inb3)))) (ix2 0 j)
        = o (ix2 0 j) + (dtap U D 2 j : EReal)) := by
  have hu := pay7 _ _ _ _ (rows h 256 (by norm_num) inb0) (rows h 512 (by norm_num) inb1)
  have hv := pay10 _ _ _ _ (rows h 0 (by norm_num) inb2) (drows h 0 (by norm_num) inb3)
  exact ⟨pay15 _ _ hv _ _ hu o j, pay16 _ _ hv _ _ hu o j, pay19 _ _ hv _ _ hu o j⟩

theorem first (hc : cond0_0 i) (j : Fin 256) :
    (∀ k : Fin 3, out0_A_6 c i a1 h1 a2 h2 a3 h3 a4 h4 a5 h5 a6 h6 a7 h7 a8 h8 a9 h9 hc x d w m s (ix2 k j) = 0 + (dtap U D k j : EReal))
    ∧ out0_A_7 c i a1 h1 a2 h2 a3 h3 a4 h4 a5 h5 a6 h6 a7 h7 a8 h8 a9 h9 hc x d w m s (ix2 0 j) = 0 + (dscale U D M j : EReal)
    ∧ ∀ k : Fin 256, out0_A_8 c i a1 h1 a2 h2 a3 h3 a4 h4 a5 h5 a6 h6 a7 h7 a8 h8 a9 h9 hc x d w m s (ix2 k j) = 0 + (dmat U D T k j : EReal) := by
  refine ⟨fun k => ?_, ?_, fun k => ?_⟩
  on_goal 1 =>
    unfold out0_A_6
    rw [View.read_writes_eq_canon _ _ _ fun _ => cover0_A_6 ..]
  on_goal 2 =>
    unfold out0_A_7
    rw [View.read_writes_eq_canon _ _ _ fun _ => cover0_A_7 ..]
  on_goal 3 =>
    unfold out0_A_8
    rw [View.read_writes_eq_canon _ _ _ fun _ => cover0_A_8 ..]
  all_goals
    unfold kernelRun0_A; dsimp only
    sl_unfold_words
    simp only [View.readAt_eq_ld, h1.read_unread, h2.read_unread, h3.read_unread, h4.read_unread, h5.read_unread, h7.read_unread, h8.read_unread, h9.read_unread, View.ld_unit_zero (S := S256x256) hz, View.ld_unit_zero (S := S1x256) hz,
      View.canon_unit_zero (S := S1x256) hz, View.canon_unit_zero (S := S256x256) hz, View.canon_cons_unit_zero (S := S1x256) hz, View.canon_cons_unit_zero (S := S256x256) hz,
      View.readCov_unit_zero (S := S1x256) _ hz, View.readCov_unit_zero (S := S256x256) _ hz]
  · have t := fun o => taps h o j
    fin_cases k
    · refine (row_other 0 2 (by decide) j _ _ _).trans ((row_other 0 1 (by decide) j _ _ _).trans ((row_own 0 j _ _ _).trans (((t _ _ _ _ _).1).trans (congrArg (· + _) ?_))))
      exact (row_read _ 0 j _ _).trans (row_fill 0 j _)
    · refine (row_other 1 2 (by decide) j _ _ _).trans ((row_own 1 j _ _ _).trans (((t _ _ _ _ _).2.1).trans (congrArg (· + _) ?_)))
      exact (row_read _ 1 j _ _).trans ((row_other 1 0 (by decide) j _ _ _).trans (row_fill 1 j _))
    · refine (row_own 2 j _ _ _).trans (((t _ _ _ _ _).2.2).trans (congrArg (· + _) ?_))
      exact (row_read _ 2 j _ _).trans ((row_other 2 1 (by decide) j _ _ _).trans ((row_other 2 0 (by decide) j _ _ _).trans (row_fill 2 j _)))
  · exact (pay29 _ _ (rows h 768 (by norm_num) _) _ _ (drows h 256 (by norm_num) _) m M h.m _ j).trans (congrArg (· + _) (pay3 j))
  · exact (pay31 _ _ (rows h 768 (by norm_num) _) _ _ (drows h 256 (by norm_num) _) s T h.s _ k j).trans (congrArg (· + _) (pay4 k j))

theorem later (hc : ¬cond0_0 i) (j : Fin 256) :
    (∀ k : Fin 3, out0_B_6 c i a1 h1 a2 h2 a3 h3 a4 h4 a5 h5 a6 h6 a7 h7 a8 h8 a9 h9 hc x d w m s o6 o7 o8 (ix2 k j) = o6 (ix2 k j) + (dtap U D k j : EReal))
    ∧ out0_B_7 c i a1 h1 a2 h2 a3 h3 a4 h4 a5 h5 a6 h6 a7 h7 a8 h8 a9 h9 hc x d w m s o6 o7 o8 (ix2 0 j) = o7 (ix2 0 j) + (dscale U D M j : EReal)
    ∧ ∀ k : Fin 256, out0_B_8 c i a1 h1 a2 h2 a3 h3 a4 h4 a5 h5 a6 h6 a7 h7 a8 h8 a9 h9 hc x d w m s o6 o7 o8 (ix2 k j) = o8 (ix2 k j) + (dmat U D T k j : EReal) := by
  refine ⟨fun k => ?_, ?_, fun k => ?_⟩
  on_goal 1 =>
    unfold out0_B_6
    rw [View.read_writes_eq_canon _ _ _ fun _ => cover0_B_6 ..]
    refine View.canon_eq_of_allAt _ _ _ (cover0_B_6 ..) ?_
  on_goal 2 =>
    unfold out0_B_7
    rw [View.read_writes_eq_canon _ _ _ fun _ => cover0_B_7 ..]
  on_goal 3 =>
    unfold out0_B_8
    rw [View.read_writes_eq_canon _ _ _ fun _ => cover0_B_8 ..]
  all_goals
    unfold kernelRun0_B; dsimp only
    sl_unfold_words
    simp only [View.readAt_eq_ld, h1.read_unread, h2.read_unread, h3.read_unread, h4.read_unread, h5.read_unread, h7.read_unread, h8.read_unread, h9.read_unread, View.ld_unit_zero (S := S256x256) hz, View.ld_unit_zero (S := S1x256) hz,
      View.canon_unit_zero (S := S1x256) hz, View.canon_unit_zero (S := S256x256) hz, View.canon_cons_unit_zero (S := S1x256) hz, View.canon_cons_unit_zero (S := S256x256) hz,
      View.readCov_unit_zero (S := S1x256) _ hz, View.readCov_unit_zero (S := S256x256) _ hz]
  · refine View.allAt_cons_unit _ _ _ _ _ ?_ (View.allAt_cons_unit _ _ _ _ _ ?_ (View.allAt_cons_unit _ _ _ _ _ ?_ (View.allAt_nil _ _))) <;>
    fin_cases k <;> first
    | exact miss3 _ 0 j _ _ (by decide)
    | exact miss3 _ 1 j _ _ (by decide)
    | exact miss3 _ 2 j _ _ (by decide)
    | exact hit3 0 j _ _ ((taps h _ j _ _ _ _).1.trans (congrArg (· + _) (row3 o6 0 _ j)))
    | exact hit3 1 j _ _ ((taps h _ j _ _ _ _).2.1.trans (congrArg (· + _) (row3 o6 1 _ j)))
    | exact hit3 2 j _ _ ((taps h _ j _ _ _ _).2.2.trans (congrArg (· + _) (row3 o6 2 _ j)))
  · exact (pay29 _ _ (rows h 768 (by norm_num) _) _ _ (drows h 256 (by norm_num) _) m M h.m _ j)
  · exact (pay31 _ _ (rows h 768 (by norm_num) _) _ _ (drows h 256 (by norm_num) _) s T h.s _ k j)

end Values

end Cert.MixerIdeal.Point
-- ==== Proof.MixerInputs.lean ====
/-
  What the windows of the mixer's backward read, when the arguments are real numbers: a sequence's padded rows and their
  cotangent, the convolution's weights, the pool's matrices set on the diagonal of one, and its scale.
-/
module

public import proofs.«01_k».proof.Proof.MixerPoint
public import Idealize.ShloMosaic.Lib.Routing.OpsOne

@[expose] public section

set_option maxRecDepth 16384

noncomputable section

namespace Cert.MixerIdeal.Inputs

open Idealize.ShloMosaic Cert.MixerIdeal Cert.MixerIdeal.Gen Idealize.ShloMosaic.TcCoe Cert.Padded Cert.MixerIdeal.Point
open Idealize.ShloMosaic.Routing

/-- The arguments, as real numbers: the rows, the cotangent, the convolution's weights, the pool's matrices and scale. -/
structure Args where
  u : Fin 4 → Fin 2064 → Fin 1024 → ℝ
  dy : Fin 4 → Fin 2064 → Fin 512 → ℝ
  w : Fin 3 → Fin 256 → ℝ
  p : Fin 4 → Fin 64 → Fin 64 → ℝ
  s : Fin 256 → ℝ

variable (m : (ℓ : Loc nD τ sig) → Buf (Elt Ideal) ℓ)

/-- The arguments on device `c` are the real numbers `X`. -/
def Holds (X : Args) (c : Dev nD) : Prop :=
  (∀ s q j, (m (c.tc.loc main_arg0) : S4x2064x1024.Idx → EReal) (ix3 s q j) = (X.u s q j : EReal))
  ∧ (∀ s q j, (m (c.tc.loc main_arg1) : S4x2064x512.Idx → EReal) (ix3 s q j) = (X.dy s q j : EReal))
  ∧ (∀ k j, (m (c.tc.loc main_arg2) : S3x256.Idx → EReal) (ix2 k j) = (X.w k j : EReal))
  ∧ (∀ g i j, (m (c.tc.loc main_arg3) : S4x64x64.Idx → EReal) (ix3 g i j) = (X.p g i j : EReal))
  ∧ (∀ j, (m (c.tc.loc main_arg4) : S256.Idx → EReal) (ix1 j) = (X.s j : EReal))

/-- A sequence's rows behind 112 rows of zeros, zero also past its end and past the last column. -/
def lift {n : ℕ} (A : Fin 4 → Fin 2064 → Fin n → ℝ) (s : Fin 4) (r j : ℕ) : ℝ :=
  if h : 112 ≤ r ∧ r < 2176 ∧ j < n then A s ⟨r - 112, by omega⟩ ⟨j, h.2.2⟩ else 0

/-- The group and the place in it of a column. -/
def grp (j : Fin 256) : Fin 4 := ⟨j.val / 64, by omega⟩
def pos (j : Fin 256) : Fin 64 := ⟨j.val % 64, by omega⟩

/-- The matrices on the diagonal. -/
def diag (p : Fin 4 → Fin 64 → Fin 64 → ℝ) (i j : Fin 256) : ℝ := if grp i = grp j then p (grp i) (pos i) (pos j) else 0

/-- Where an element of a 64 × 64 block lands when it is set at `(k, k)`. -/
theorem lands (k : ℕ) (idx : IVec S2 32) (h : ∀ a : Fin 2, (idx (ix1 a)).toInt = k) (p q : Fin 64) (i j : Fin 256) :
    scatter_S256x256_S2_S64x64_01_n_01_0.resultIdx? (ix2 p q) idx = some (ix2 i j) ↔ k + p.val = i.val ∧ k + q.val = j.val := by
  refine (resultIdx?_ix2 (R := 256) (C := 256) scatter_S256x256_S2_S64x64_01_n_01_0 (ix2 p q) idx i j).trans ?_
  have s (a : Fin 2) : scatter_S256x256_S2_S64x64_01_n_01_0.start (ix2 p q) idx a = k :=
    (start_pair (R := 256) (C := 256) scatter_S256x256_S2_S64x64_01_n_01_0 rfl rfl idx (ix2 p q) a).trans (h a)
  have e0 : scatter_S256x256_S2_S64x64_01_n_01_0.window (ix2 p q) 0 = p.val := rfl
  have e1 : scatter_S256x256_S2_S64x64_01_n_01_0.window (ix2 p q) 1 = q.val := rfl
  rw [s 0, s 1, e0, e1]
  omega

/-- A 64 × 64 block set at `(64 g, 64 g)`. -/
theorem set_block (g : Fin 4) (idx : IVec S2 32) (h : ∀ a : Fin 2, (idx (ix1 a)).toInt = (64 * g.val : ℕ)) (x : S256x256.Idx → EReal) (b : S64x64.Idx → EReal)
    (i j : Fin 256) :
    Host.scatter scatter_S256x256_S2_S64x64_01_n_01_0 (fun _ b => b) x idx b (ix2 i j)
      = if grp i = g ∧ grp j = g then b (ix2 (pos i) (pos j)) else x (ix2 i j) := by
  have hg : (grp i = g ∧ grp j = g) ↔ i.val / 64 = g.val ∧ j.val / 64 = g.val := by simp only [grp, Fin.ext_iff]
  by_cases e : grp i = g ∧ grp j = g
  · rw [if_pos e]
    rw [hg] at e
    refine scatter_set_hit _ _ _ _ _ _ (fun k hk => ?_) (ix2 (pos i) (pos j)) ((lands _ idx h _ _ _ _).2 (by simp only [pos]; omega))
    rw [eq_ix2 k] at hk ⊢
    have := (lands _ idx h _ _ _ _).1 hk
    refine congrArg b (congrArg₂ ix2 (Fin.ext ?_) (Fin.ext ?_)) <;> simp only [pos] <;> omega
  · rw [if_neg e]
    rw [hg] at e
    refine scatter_set_miss _ _ _ _ _ fun k hk => ?_
    rw [eq_ix2 k] at hk
    have := (lands _ idx h _ _ _ _).1 hk
    have h0 : (k 0).val < 64 := (k 0).isLt
    have h1 : (k 1).val < 64 := (k 1).isLt
    omega

/-- The corner `(k, k)`, as the host's indices hold it. -/
abbrev corner (k : BitVec 32) : IVec S2 32 :=
  concatenate S2 0 [⟨S1, broadcastInDim S1 ![] bcast_S_S1 (constantI S_ 32 k)⟩, ⟨S1, broadcastInDim S1 ![] bcast_S_S1 (constantI S_ 32 k)⟩] concatenates_S1_S1_S2_d0

/-- Four blocks set on the diagonal of zeros. -/
theorem diag_set (p : Fin 4 → Fin 64 → Fin 64 → ℝ) (b0 b1 b2 b3 : S64x64.Idx → EReal) (h0 : ∀ a c, b0 (ix2 a c) = (p 0 a c : EReal))
    (h1 : ∀ a c, b1 (ix2 a c) = (p 1 a c : EReal)) (h2 : ∀ a c, b2 (ix2 a c) = (p 2 a c : EReal)) (h3 : ∀ a c, b3 (ix2 a c) = (p 3 a c : EReal))
    (z : S256x256.Idx → EReal) (i j : Fin 256) (hz : z (ix2 i j) = 0) :
    Host.scatter scatter_S256x256_S2_S64x64_01_n_01_0 (fun _ b => b)
      (Host.scatter scatter_S256x256_S2_S64x64_01_n_01_0 (fun _ b => b)
        (Host.scatter scatter_S256x256_S2_S64x64_01_n_01_0 (fun _ b => b)
          (Host.scatter scatter_S256x256_S2_S64x64_01_n_01_0 (fun _ b => b) z (corner 0#32) b0) (corner 64#32) b1) (corner 128#32) b2) (corner 192#32) b3 (ix2 i j)
      = (diag p i j : EReal) := by
  have e (k : BitVec 32) (n : ℕ) (hk : k.toInt = n) (a : Fin 2) : (corner k (ix1 a)).toInt = n := by
    rw [← hk]
    fin_cases a <;> rfl
  rw [set_block 3 _ (e 192#32 _ rfl), set_block 2 _ (e 128#32 _ rfl), set_block 1 _ (e 64#32 _ rfl), set_block 0 _ (e 0#32 _ rfl), h0, h1, h2, h3, hz]
  unfold diag
  by_cases h : grp i = grp j
  · rw [if_pos h, ← h]
    simp only [and_self]
    generalize grp i = g
    fin_cases g <;> rfl
  · rw [if_neg h, if_neg (fun k => h (k.1.trans k.2.symm)), if_neg (fun k => h (k.1.trans k.2.symm)), if_neg (fun k => h (k.1.trans k.2.symm)),
      if_neg (fun k => h (k.1.trans k.2.symm))]
    rfl

variable {m} {X : Args} {c : Dev nD} (hm : Holds m X c)

include hm in
theorem V_v27 (R : Fin 8704) (j : Fin 1024) : (V m c main_v27 : S8704x1024.Idx → EReal) (ix2 R j) = ((padR X.u R.val j : ℝ) : EReal) := by
  unfold V V0
  simp only [List.flatten_cons, List.flatten_nil, List.append_nil]
  after_results
  pointwise
  by_cases h : 112 ≤ R.val % 2176
  · rw [dif_neg (by omega)]
    exact padded (n := 1024) _ X.u hm.1 R.val R.isLt j h _ _ rfl rfl
  · rw [dif_pos (by omega), padR_zero _ h]; rfl

include hm in
theorem V_v30 (R : Fin 8704) (j : Fin 512) : (V m c main_v30 : S8704x512.Idx → EReal) (ix2 R j) = ((padR X.dy R.val j : ℝ) : EReal) := by
  unfold V V0
  simp only [List.flatten_cons, List.flatten_nil, List.append_nil]
  after_results
  pointwise
  by_cases h : 112 ≤ R.val % 2176
  · rw [dif_neg (by omega)]
    exact padded (n := 512) _ X.dy hm.2.1 R.val R.isLt j h _ _ rfl rfl
  · rw [dif_pos (by omega), padR_zero _ h]; rfl

include hm in
theorem V_v32 (j : Fin 256) : (V m c main_v32 : S1x256.Idx → EReal) (ix2 0 j) = (X.s j : EReal) := by
  unfold V V0
  simp only [List.flatten_cons, List.flatten_nil, List.append_nil]
  after_results
  pointwise
  exact hm.2.2.2.2 j

include hm in
theorem V_arg2 (k : Fin 3) (j : Fin 256) : (V m c main_arg2 : S3x256.Idx → EReal) (ix2 k j) = (X.w k j : EReal) := by
  unfold V V0
  simp only [List.flatten_cons, List.flatten_nil, List.append_nil]
  after_results
  exact hm.2.2.1 k j

include hm in
theorem V_v31 (i j : Fin 256) : (V m c main_v31 : S256x256.Idx → EReal) (ix2 i j) = (diag X.p i j : EReal) := by
  unfold V V0
  simp only [List.flatten_cons, List.flatten_nil, List.append_nil]
  after_results
  pointwise
  exact diag_set X.p _ _ _ _ (hm.2.2.2.1 0) (hm.2.2.2.1 1) (hm.2.2.2.1 2) (hm.2.2.2.1 3) _ i j (Ideal.ofBits_zero .f32)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel

theorem lt4 (t : Fin cfg0.N) : t.val < 4 := lt_of_lt_of_eq t.isLt (show cfg0.N = 4 from N_0)

/-- The padded rows of all sequences, a sequence's at a time. -/
theorem lift_row {n : ℕ} (A : Fin 4 → Fin 2064 → Fin n → ℝ) (s : Fin 4) (r : Fin 2176) (j : Fin n) :
    padR A (s.val * 2176 + r.val) j = lift A s r.val j.val := by
  unfold padR lift
  by_cases h : 112 ≤ r.val
  · rw [if_pos (by omega), dif_pos ⟨h, r.isLt, j.isLt⟩]
    refine congrFun (congrArg₂ A (Fin.ext ?_) (Fin.ext ?_)) j
    · show (s.val * 2176 + r.val) / 2176 % 4 = s.val; omega
    · show ((s.val * 2176 + r.val) % 2176 - 112) % 2064 = r.val - 112; omega
  · rw [if_neg (by omega), dif_neg (by omega)]

include hm in
/-- What a grid point reads. -/
theorem reads (t : Fin cfg0.N) :
    Reads (iblk m c 0 t) (iblk m c 1 t) (iblk m c 2 t) (iblk m c 3 t) (iblk m c 4 t) (lift X.u ⟨t.val, lt4 t⟩) (lift X.dy ⟨t.val, lt4 t⟩) X.w (diag X.p) X.s where
  x r j := by
    have ht := lt4 t
    rw [← lift_row X.u ⟨t.val, ht⟩ r j, ← V_v27 hm ⟨t.val * 2176 + r.val, by omega⟩ j]
    unfold iblk
    rw [View.read_apply]
    show V m c main_v27 _ = V m c main_v27 _
    exact congrArg _ (place_row (a := 2176) (b := 1024) _ _ _ (index0 t).1 (index0 t).2 rfl rfl rfl)
  d r j := by
    have ht := lt4 t
    rw [← lift_row X.dy ⟨t.val, ht⟩ r j, ← V_v30 hm ⟨t.val * 2176 + r.val, by omega⟩ j]
    unfold iblk
    rw [View.read_apply]
    show V m c main_v30 _ = V m c main_v30 _
    exact congrArg _ (place_row (a := 2176) (b := 512) _ _ _ (index1 t).1 (index1 t).2 rfl rfl rfl)
  w k j := by
    rw [← V_arg2 hm k j]
    unfold iblk
    rw [View.read_apply]
    show V m c main_arg2 _ = V m c main_arg2 _
    exact congrArg _ (place (A := 3) (B := 256) (a := 3) (b := 256) _ _ _ _ k.val j.val rfl rfl
      (by rw [(index2 t).1, Nat.zero_mul, Nat.zero_add]; rfl) (by rw [(index2 t).2, Nat.zero_mul, Nat.zero_add]; rfl))
  m k j := by
    rw [← V_v31 hm k j]
    unfold iblk
    rw [View.read_apply]
    show V m c main_v31 _ = V m c main_v31 _
    exact congrArg _ (place (A := 256) (B := 256) (a := 256) (b := 256) _ _ _ _ k.val j.val rfl rfl
      (by rw [(index3 t).1, Nat.zero_mul, Nat.zero_add]; rfl) (by rw [(index3 t).2, Nat.zero_mul, Nat.zero_add]; rfl))
  s j := by
    rw [← V_v32 hm j]
    unfold iblk
    rw [View.read_apply]
    show V m c main_v32 _ = V m c main_v32 _
    exact congrArg _ (place (A := 1) (B := 256) (a := 1) (b := 256) _ _ _ _ 0 j.val rfl rfl
      (by rw [(index4 t).1, Nat.zero_mul, Nat.zero_add]; rfl) (by rw [(index4 t).2, Nat.zero_mul, Nat.zero_add]; rfl))
  xlow r j h := dif_neg (by omega)
  xhigh r j h := dif_neg (by omega)
  dlow r j h := dif_neg (by omega)
  dhigh r j h := dif_neg (by omega)

end Cert.MixerIdeal.Inputs
-- ==== Proof.MixerArray.lean ====
/-
  What the results of the mixer's backward hold after the run: the rows' gradients, and the sums over the sequences of
  the gradients of the convolution's weights, the pool's scale and its matrices.
-/
module

public import proofs.«01_k».proof.Proof.MixerInputs

@[expose] public section

set_option maxRecDepth 16384

noncomputable section

namespace Cert.MixerIdeal.Array

open Idealize.ShloMosaic Cert.MixerIdeal Cert.MixerIdeal.Gen Idealize.ShloMosaic.TcCoe Cert.Padded Cert.MixerIdeal.Point Cert.MixerIdeal.Inputs Cert.Reals
open Idealize.ShloMosaic.Pipeline (Dat)

variable {m : (ℓ : Loc nD τ sig) → Buf (Elt Ideal) ℓ} {X : Args} {c : Dev nD} (hm : Holds m X c)

/-- The sequence of a number. -/
def sqn (n : ℕ) : Fin 4 := ⟨n % 4, Nat.mod_lt _ (by norm_num)⟩

/-- The gradient of a row of a sequence, by groups of columns. -/
def row (X : Args) (s : Fin 4) (k : Fin 4) (r : ℕ) (j : Fin 256) : ℝ := du (lift X.u s) (lift X.dy s) X.w (diag X.p) X.s k r j
def tap (X : Args) (k : Fin 3) (j : Fin 256) (n : ℕ) : ℝ := dtap (lift X.u (sqn n)) (lift X.dy (sqn n)) k j
def scale (X : Args) (j : Fin 256) (n : ℕ) : ℝ := dscale (lift X.u (sqn n)) (lift X.dy (sqn n)) (diag X.p) j
def mat (X : Args) (i j : Fin 256) (n : ℕ) : ℝ := dmat (lift X.u (sqn n)) (lift X.dy (sqn n)) X.s i j

/-- What the result blocks hold after a point: the rows of its sequence, and the sums up to it. -/
structure Inv (m : (ℓ : Loc nD τ sig) → Buf (Elt Ideal) ℓ) (X : Args) (c : Dev nD) (n : ℕ) (h : n < cfg0.N) : Prop where
  rows : ∀ (k : Fin 4) (r : Fin 2176) (j : Fin 256), (outsAt0 m c n h).1 (ix2 r ⟨256 * k.val + j.val, by omega⟩) = (row X (sqn n) k r.val j : EReal)
  taps : ∀ k j, (outsAt0 m c n h).2.1 (ix2 k j) = ((∑ p ∈ Finset.range (n + 1), tap X k j p : ℝ) : EReal)
  scales : ∀ j, (outsAt0 m c n h).2.2.1 (ix2 0 j) = ((∑ p ∈ Finset.range (n + 1), scale X j p : ℝ) : EReal)
  mats : ∀ i j, (outsAt0 m c n h).2.2.2 (ix2 i j) = ((∑ p ∈ Finset.range (n + 1), mat X i j p : ℝ) : EReal)

theorem sqn_val (t : Fin cfg0.N) : (⟨t.val, lt4 t⟩ : Fin 4) = sqn t.val := Fin.ext (Nat.mod_eq_of_lt (lt4 t)).symm

include hm in
theorem reads' (t : Fin cfg0.N) : Reads (iblk m c 0 t) (iblk m c 1 t) (iblk m c 2 t) (iblk m c 3 t) (iblk m c 4 t) (lift X.u (sqn t.val)) (lift X.dy (sqn t.val)) X.w (diag X.p) X.s := by
  have h := reads hm t
  rwa [sqn_val] at h

include hm in
theorem inv_first (t : Fin cfg0.N) (h0 : t.val % 4 = 0) : Inv m X c t.val t.isLt := by
  have ht := lt4 t
  have z : t.val = 0 := by omega
  have e := outsAt0_A m c t h0
  have hr := reads' hm t
  have one : ∀ f : ℕ → ℝ, ∑ p ∈ Finset.range (t.val + 1), f p = f t.val := fun f => by rw [z, zero_add, Finset.sum_range_one]
  constructor
  · intro k r j; rw [e]; dsimp only
    exact (rows_eq (o6 := k0_pay2 (F := Ideal)) (o7 := k0_pay3 (F := Ideal)) (o8 := k0_pay4 (F := Ideal)) (h := hr) ..).1 _
  · intro k j; rw [e, one]; dsimp only
    exact ((first (h := hr) ..).1 k).trans (zero_add _)
  · intro j; rw [e, one]; dsimp only
    exact (first (h := hr) ..).2.1.trans (zero_add _)
  · intro i j; rw [e, one]; dsimp only
    exact ((first (h := hr) ..).2.2 i).trans (zero_add _)

include hm in
theorem inv_later (t : Fin cfg0.N) (h0 : ¬t.val % 4 = 0) (p : Inv m X c (t.val - 1) (by omega)) : Inv m X c t.val t.isLt := by
  have e := outsAt0_B m c t h0
  have hr := reads' hm t
  have more : ∀ f : ℕ → ℝ, ∑ p ∈ Finset.range (t.val + 1), f p = ∑ p ∈ Finset.range (t.val - 1 + 1), f p + f t.val := fun f => by
    rw [Finset.sum_range_succ, show t.val - 1 + 1 = t.val by omega]
  constructor
  · intro k r j; rw [e]; dsimp only
    exact (rows_eq (h := hr) ..).2 _
  · intro k j; rw [e, more, EReal.coe_add, ← p.taps k j]; dsimp only
    exact (later (h := hr) ..).1 k
  · intro j; rw [e, more, EReal.coe_add, ← p.scales j]; dsimp only
    exact (later (h := hr) ..).2.1
  · intro i j; rw [e, more, EReal.coe_add, ← p.mats i j]; dsimp only
    exact (later (h := hr) ..).2.2 i

include hm in
theorem inv : ∀ (n : ℕ) (h : n < cfg0.N), Inv m X c n h
  | 0, h => inv_first hm ⟨0, h⟩ rfl
  | n + 1, h => by
    have hN : n + 1 < 4 := lt4 ⟨n + 1, h⟩
    exact inv_later hm ⟨n + 1, h⟩ (by dsimp only; omega) (inv n (Nat.lt_of_succ_lt h))

/-- The arrays. -/
def rowArr (X : Args) : S8704x1024.Idx → EReal := fun i =>
  ((row X (sqn ((i 0).val / 2176)) ⟨(i 1).val / 256 % 4, Nat.mod_lt _ (by norm_num)⟩ ((i 0).val % 2176) ⟨(i 1).val % 256, Nat.mod_lt _ (by norm_num)⟩ : ℝ) : EReal)
def tapArr (X : Args) : S3x256.Idx → EReal := fun i => ((∑ p ∈ Finset.range 4, tap X (i 0) (i 1) p : ℝ) : EReal)
def scaleArr (X : Args) : S1x256.Idx → EReal := fun i => ((∑ p ∈ Finset.range 4, scale X (i 1) p : ℝ) : EReal)
def matArr (X : Args) : S256x256.Idx → EReal := fun i => ((∑ p ∈ Finset.range 4, mat X (i 0) (i 1) p : ℝ) : EReal)

theorem index5 : ∀ t : Fin cfg0.N, win0_5.index t 0 = t.val ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem xs5 : ∀ t : Fin cfg0.N, win0_5.xsize (grid0.coords t) 0 = 2176 ∧ win0_5.xsize (grid0.coords t) 1 = 1024 := by decide +kernel
theorem xs6 : ∀ t : Fin cfg0.N, win0_6.xsize (grid0.coords t) 0 = 3 ∧ win0_6.xsize (grid0.coords t) 1 = 256 := by decide +kernel
theorem xs7 : ∀ t : Fin cfg0.N, win0_7.xsize (grid0.coords t) 0 = 1 ∧ win0_7.xsize (grid0.coords t) 1 = 256 := by decide +kernel
theorem xs8 : ∀ t : Fin cfg0.N, win0_8.xsize (grid0.coords t) 0 = 256 ∧ win0_8.xsize (grid0.coords t) 1 = 256 := by decide +kernel

/-- The last point of the grid. -/
def last : Fin cfg0.N := ⟨3, by rw [show cfg0.N = 4 from N_0]; norm_num⟩
theorem eq_last (t : Fin cfg0.N) (h : t.val % 4 = 3) : t = last := Fin.ext (by have := lt4 t; show t.val = 3; omega)

include hm in
theorem flushed5_real (t : Fin cfg0.N) : (dats m 0 c).flushed 5 t = ((cfg0.win 5).blk t).view.read (Elt Ideal) (rowArr X) := by
  have ht := lt4 t
  funext i
  obtain ⟨r, j, rfl⟩ := ex2 i
  have hread : ((cfg0.win 5).blk t).view.read (Elt Ideal) (rowArr X) (ix2 r j) = rowArr X (ix2 ⟨t.val * 2176 + r.val, by omega⟩ j) := by
    rw [View.read_apply]
    exact congrArg (rowArr X) (place_row (a := 2176) (b := 1024) _ _ _ (index5 t).1 (index5 t).2 rfl rfl rfl)
  rw [hread]
  show (dats m 0 c).after 5 t (ix2 r j) = _
  rw [after0_5]
  have hj : j = ⟨256 * (⟨j.val / 256, by omega⟩ : Fin 4).val + (⟨j.val % 256, by omega⟩ : Fin 256).val, by show 256 * (j.val / 256) + j.val % 256 < 1024; omega⟩ :=
    Fin.ext (by show j.val = 256 * (j.val / 256) + j.val % 256; omega)
  have e1 : (⟨j.val / 256, by omega⟩ : Fin 4) = ⟨j.val / 256 % 4, Nat.mod_lt _ (by norm_num)⟩ := Fin.ext (by show j.val / 256 = j.val / 256 % 4; omega)
  have e2 : (t.val * 2176 + r.val) / 2176 = t.val := by omega
  have e3 : (t.val * 2176 + r.val) % 2176 = r.val := by omega
  refine ((congrArg (fun j => (outsAt0 m c t.val t.isLt).1 (ix2 r j)) hj).trans ((inv hm t.val t.isLt).rows _ r _)).trans ?_
  rw [e1]
  show _ = ((row X (sqn ((t.val * 2176 + r.val) / 2176)) _ ((t.val * 2176 + r.val) % 2176) _ : ℝ) : EReal)
  rw [e2, e3]
  rfl

include hm in
theorem arr5 : (dats m 0 c).arrAt 5 cfg0.N = rowArr X :=
  (dats m 0 c).arrAt_eq_of_cover 5 (rowArr X) (fun t _ => flushed5_real hm t) fun i => by
    have h0 : (i 0 : Nat) < 8704 := (i 0).isLt
    have hN : (i 0 : Nat) / 2176 < cfg0.N := by rw [show cfg0.N = 4 from N_0]; omega
    refine ⟨⟨(i 0 : Nat) / 2176, hN⟩, flush0_5 _, ?_⟩
    show i ∈ ((View.whole main_v33_0).slice (win0_5.rect ⟨(i 0 : Nat) / 2176, hN⟩)).set
    rw [View.set_slice_whole, Rect.mem_set_unit]
    exact covered ⟨(index5 _).1, (index5 _).2, xs5 _⟩ (fun a => (i a).val) rfl rfl rfl rfl rfl (by norm_num) (i 1).isLt

include hm in
theorem flushed6_real (t : Fin cfg0.N) (hf : (cfg0.win 6).flush t = true) : (dats m 0 c).flushed 6 t = ((cfg0.win 6).blk t).view.read (Elt Ideal) (tapArr X) := by
  obtain rfl := eq_last t ((flush0_6 t).mp hf)
  have hz' : (fun a => win0_6.index last a * main_v33_1.ty.shape.size a) = fun _ => 0 := at_origin (index6 last)
  refine Eq.trans ?_ (Memref.read_access_unit_zero (Elt Ideal) main_v33_1 hz' (fun a => by rw [congrFun hz' a]; simp) (tapArr X)).symm
  funext i
  obtain ⟨j0, j1, rfl⟩ := ex2 i
  show (dats m 0 c).after 6 last (ix2 _ j1) = _
  rw [after0_6]
  exact (inv hm 3 last.isLt).taps j0 j1

include hm in
theorem flushed7_real (t : Fin cfg0.N) (hf : (cfg0.win 7).flush t = true) : (dats m 0 c).flushed 7 t = ((cfg0.win 7).blk t).view.read (Elt Ideal) (scaleArr X) := by
  obtain rfl := eq_last t ((flush0_7 t).mp hf)
  have hz' : (fun a => win0_7.index last a * main_v33_2.ty.shape.size a) = fun _ => 0 := at_origin (index7 last)
  refine Eq.trans ?_ (Memref.read_access_unit_zero (Elt Ideal) main_v33_2 hz' (fun a => by rw [congrFun hz' a]; simp) (scaleArr X)).symm
  funext i
  obtain ⟨j0, j1, rfl⟩ := ex2 i
  obtain rfl : j0 = 0 := Subsingleton.elim _ _
  show (dats m 0 c).after 7 last (ix2 _ j1) = _
  rw [after0_7]
  exact (inv hm 3 last.isLt).scales j1

include hm in
theorem flushed8_real (t : Fin cfg0.N) (hf : (cfg0.win 8).flush t = true) : (dats m 0 c).flushed 8 t = ((cfg0.win 8).blk t).view.read (Elt Ideal) (matArr X) := by
  obtain rfl := eq_last t ((flush0_8 t).mp hf)
  have hz' : (fun a => win0_8.index last a * main_v33_3.ty.shape.size a) = fun _ => 0 := at_origin (index8 last)
  refine Eq.trans ?_ (Memref.read_access_unit_zero (Elt Ideal) main_v33_3 hz' (fun a => by rw [congrFun hz' a]; simp) (matArr X)).symm
  funext i
  obtain ⟨j0, j1, rfl⟩ := ex2 i
  show (dats m 0 c).after 8 last (ix2 _ j1) = _
  rw [after0_8]
  exact (inv hm 3 last.isLt).mats j0 j1

include hm in
theorem arrs : (dats m 0 c).arrAt 6 cfg0.N = tapArr X ∧ (dats m 0 c).arrAt 7 cfg0.N = scaleArr X ∧ (dats m 0 c).arrAt 8 cfg0.N = matArr X := by
  refine ⟨(dats m 0 c).arrAt_eq_of_cover 6 _ (flushed6_real hm) fun i => ⟨last, (flush0_6 _).2 rfl, ?_⟩,
    (dats m 0 c).arrAt_eq_of_cover 7 _ (flushed7_real hm) fun i => ⟨last, (flush0_7 _).2 rfl, ?_⟩,
    (dats m 0 c).arrAt_eq_of_cover 8 _ (flushed8_real hm) fun i => ⟨last, (flush0_8 _).2 rfl, ?_⟩⟩
  · show i ∈ ((View.whole main_v33_1).slice (win0_6.rect last)).set
    rw [View.set_slice_whole, Rect.mem_set_unit]
    exact covered ⟨(index6 _).1, (index6 _).2, xs6 _⟩ (fun a => (i a).val) rfl rfl rfl rfl (Nat.div_eq_of_lt (i 0).isLt).symm (by norm_num) (i 1).isLt
  · show i ∈ ((View.whole main_v33_2).slice (win0_7.rect last)).set
    rw [View.set_slice_whole, Rect.mem_set_unit]
    exact covered ⟨(index7 _).1, (index7 _).2, xs7 _⟩ (fun a => (i a).val) rfl rfl rfl rfl (Nat.div_eq_of_lt (i 0).isLt).symm (by norm_num) (i 1).isLt
  · show i ∈ ((View.whole main_v33_3).slice (win0_8.rect last)).set
    rw [View.set_slice_whole, Rect.mem_set_unit]
    exact covered ⟨(index8 _).1, (index8 _).2, xs8 _⟩ (fun a => (i a).val) rfl rfl rfl rfl (Nat.div_eq_of_lt (i 0).isLt).symm (by norm_num) (i 1).isLt

theorem arr_inj : Function.Injective (Pipeline.arrRef spec0) := by decide

/-- A place in the four diagonal blocks. -/
def grpIdx (g : Fin 4) (a : Fin 64) : Fin 256 := ⟨64 * g.val + a.val, by omega⟩

/-- The four matrices' gradients. -/
def matsArr (X : Args) : S4x64x64.Idx → EReal := fun i => ((∑ p ∈ Finset.range 4, mat X (grpIdx (i 0) (i 1)) (grpIdx (i 0) (i 2)) p : ℝ) : EReal)

set_option maxHeartbeats 1000000 in
include hm in
theorem tail : (Pipeline.afterTail₀ cfgs (dats m) 0 (V0 m) [hostOps1] c main_v42 : S4x64x64.Idx → EReal) = matsArr X := by
  unfold Pipeline.afterTail₀
  simp only [List.flatten_cons, List.flatten_nil, List.append_nil]
  after_results
  have e : (Pipeline.withArrays spec0 c (V0 m c) (fun w => (dats m 0 c).arrAt w cfg0.N) (Proc.devRef .tc main_v33_3) : S256x256.Idx → EReal) = matArr X :=
    (Pipeline.withArrays_arr spec0 arr_inj c (V0 m c) (fun w => (dats m 0 c).arrAt w cfg0.N) 8).trans (arrs hm).2.2
  funext i
  obtain ⟨g, a, b, rfl⟩ := ex3 i
  have fin : ∀ (g : Fin 4) (x y : Fin 256), x = grpIdx g a → y = grpIdx g b →
      (Pipeline.withArrays spec0 c (V0 m c) (fun w => (dats m 0 c).arrAt w cfg0.N) (Proc.devRef .tc main_v33_3) : S256x256.Idx → EReal) (ix2 x y) = matsArr X (ix3 g a b) := by
    rintro g x y rfl rfl
    rw [e]
    rfl
  pointwise
  fin_cases g
  · rw [dif_pos (by decide)]
    after_results
    pointwise
    exact fin 0 _ _ (Fin.ext (by show a.val = 64 * 0 + a.val; omega)) (Fin.ext (by show b.val = 64 * 0 + b.val; omega))
  · rw [dif_neg (by decide), dif_pos (by decide)]
    after_results
    pointwise
    exact fin 1 _ _ (Fin.ext rfl) (Fin.ext rfl)
  · rw [dif_neg (by decide), dif_neg (by decide), dif_pos (by decide)]
    after_results
    pointwise
    exact fin 2 _ _ (Fin.ext rfl) (Fin.ext rfl)
  · rw [dif_neg (by decide), dif_neg (by decide), dif_neg (by decide)]
    after_results
    pointwise
    exact fin 3 _ _ (Fin.ext rfl) (Fin.ext rfl)

/-- After a run the four results hold these arrays and the arguments are unchanged. -/
theorem run_result (m : (ℓ : Loc nD τ sig) → Buf (Elt Ideal) ℓ) (X : Dev nD → Args) (hm : ∀ c, Holds m (X c) c) (ρ : Dev nD → PrngReg) :
    θ_run defs (onTc (τ := τ) (main (F := Ideal))) ⟨m, fun _ => 0, ρ⟩ (fun r => ∀ c : Dev nD,
      r.2.mem (c.tc.loc main_v33_0) = rowArr (X c)
      ∧ r.2.mem (c.tc.loc main_v33_1) = tapArr (X c)
      ∧ r.2.mem (c.tc.loc main_v33_2) = scaleArr (X c)
      ∧ r.2.mem (c.tc.loc main_v42) = matsArr (X c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨((h c).1 5).trans (arr5 (hm c)), ((h c).1 6).trans ((arrs (hm c)).1), ((h c).1 7).trans ((arrs (hm c)).2.1),
    ((h c).2 main_v42 (Pipeline.mem_restRefs_of main_v42 (by decide) (by decide))).trans (tail (hm c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.MixerIdeal.Array
-- ==== Proof.MixerRefConv.lean ====
/-
  What the reference of the mixer's backward computes on the convolution's side, when its arguments are real numbers.
-/
module

public import proofs.«01_k».proof.Proof.MixerArray
public import proofs.«01_k».proof.Proof.SumRows
public import proofs.«01_k».proof.Proof.Gen.MixerRefIdeal.Read

@[expose] public section

set_option maxRecDepth 16384

noncomputable section

namespace Cert.MixerRefIdeal.RefValue

open Idealize.ShloMosaic Cert.MixerRefIdeal Cert.MixerRefIdeal.Gen Cert.MixerRefIdeal.Read Idealize.ShloMosaic.TcCoe
open Cert.Reals Cert.Padded Cert.MixerIdeal.Inputs Cert.MixerIdeal.Point Cert.MixerIdeal.Block

variable {x0 : Vec Ideal S4x2064x1024 .f32} {x1 : Vec Ideal S4x2064x512 .f32} {x2 : Vec Ideal S3x256 .f32}
variable {X : Args}
variable (h0 : ∀ s q j, x0 (ix3 s q j) = (X.u s q j : EReal)) (h1 : ∀ s q j, x1 (ix3 s q j) = (X.dy s q j : EReal))
variable (h2 : ∀ k j, x2 (ix2 k j) = (X.w k j : EReal))

/-- A row of the padded block that is a row of the sequence. -/
theorem lift_row {n : ℕ} (A : Fin 4 → Fin 2064 → Fin n → ℝ) (s : Fin 4) (q : Fin 2064) (j : Fin n) (r c : ℕ) (hr : r = 112 + q.val) (hc : c = j.val) :
    lift A s r c = A s q j := by
  subst hr hc
  unfold lift
  rw [dif_pos ⟨by omega, by omega, j.isLt⟩]
  exact congrArg₂ (A s) (Fin.ext (by show 112 + q.val - 112 = q.val; omega)) rfl

theorem lift_low {n : ℕ} (A : Fin 4 → Fin 2064 → Fin n → ℝ) (s : Fin 4) (r c : ℕ) (hr : r < 112) : lift A s r c = 0 := dif_neg (by omega)
theorem lift_high {n : ℕ} (A : Fin 4 → Fin 2064 → Fin n → ℝ) (s : Fin 4) (r c : ℕ) (hr : 2176 ≤ r) : lift A s r c = 0 := dif_neg (by omega)

/-- The convolution's gated input and the cotangent of its result, of a sequence. -/
abbrev G (X : Args) (s : Fin 4) : ℕ → Fin 256 → ℝ := gated (lift X.u s)
abbrev C (X : Args) (s : Fin 4) : ℕ → Fin 256 → ℝ := dconv (lift X.u s) (lift X.dy s)

theorem G_low (s : Fin 4) (r : ℕ) (j : Fin 256) (h : r < 112) : G X s r j = 0 := by
  show lift X.u s r _ * _ = 0
  rw [lift_low _ _ _ _ h, zero_mul]
theorem C_low (s : Fin 4) (r : ℕ) (j : Fin 256) (h : r < 112) : C X s r j = 0 := by
  show lift X.dy s r _ * _ = 0
  rw [lift_low _ _ _ _ h, zero_mul]
theorem C_high (s : Fin 4) (r : ℕ) (j : Fin 256) (h : 2176 ≤ r) : C X s r j = 0 := by
  show lift X.dy s r _ * _ = 0
  rw [lift_high _ _ _ _ h, zero_mul]

include h0 in
theorem v0 (s : Fin 4) (q : Fin 2064) (j : Fin 256) : val_main_v0 x0 (ix3 s q j) = (part (lift X.u s) 0 (112 + q.val) j : EReal) := by
  unfold val_main_v0
  pointwise
  rw [h0]
  exact congrArg _ (lift_row _ _ _ _ _ _ rfl (by simp)).symm

include h0 in
theorem v1 (s : Fin 4) (q : Fin 2064) (j : Fin 256) : val_main_v1 x0 (ix3 s q j) = (part (lift X.u s) 256 (112 + q.val) j : EReal) := by
  unfold val_main_v1
  pointwise
  rw [h0]
  exact congrArg _ (lift_row _ _ _ _ _ _ rfl rfl).symm

include h0 in
theorem v2 (s : Fin 4) (q : Fin 2064) (j : Fin 256) : val_main_v2 x0 (ix3 s q j) = (part (lift X.u s) 512 (112 + q.val) j : EReal) := by
  unfold val_main_v2
  pointwise
  rw [h0]
  exact congrArg _ (lift_row _ _ _ _ _ _ rfl rfl).symm

include h1 in
theorem v156 (s : Fin 4) (q : Fin 2064) (j : Fin 256) : val_main_v156 x1 (ix3 s q j) = (part (lift X.dy s) 0 (112 + q.val) j : EReal) := by
  unfold val_main_v156
  pointwise
  rw [h1]
  exact congrArg _ (lift_row _ _ _ _ _ _ rfl (by simp)).symm

include h0 in
theorem v4 (s : Fin 4) (q : Fin 2064) (j : Fin 256) : val_main_v4 x0 (ix3 s q j) = (G X s (112 + q.val) j : EReal) := by
  unfold val_main_v4
  pointwise
  rw [v1 h0, v2 h0, ← EReal.coe_mul]
  rfl

include h0 in
theorem v6 (s : Fin 4) (a : Fin 2066) (j : Fin 256) : val_main_v6 x0 (ix3 s a j) = (G X s (110 + a.val) j : EReal) := by
  unfold val_main_v6 val_main_v5 val_main_cst
  pointwise
  split_ifs with h
  · rw [G_low _ _ _ (by omega)]; rfl
  all_goals
    rw [v4 h0]
    refine congrArg (fun n => (G X s n j : EReal)) ?_
    show 112 + (a.val - 2) = 110 + a.val
    omega

include h0 in
theorem v10 (s : Fin 4) (q : Fin 2064) (j : Fin 256) : val_main_v10 x0 (ix3 s q j) = (G X s (110 + q.val) j : EReal) := by
  unfold val_main_v10
  pointwise
  rw [v6 h0]

include h0 in
theorem v16 (s : Fin 4) (q : Fin 2064) (j : Fin 256) : val_main_v16 x0 (ix3 s q j) = (G X s (111 + q.val) j : EReal) := by
  unfold val_main_v16
  pointwise
  rw [v6 h0]
  exact congrArg (fun n => (G X s n j : EReal)) (by show 110 + (1 + q.val) = 111 + q.val; omega)

include h0 in
theorem v23 (s : Fin 4) (q : Fin 2064) (j : Fin 256) : val_main_v23 x0 (ix3 s q j) = (G X s (112 + q.val) j : EReal) := by
  unfold val_main_v23
  pointwise
  rw [v6 h0]
  exact congrArg (fun n => (G X s n j : EReal)) (by show 110 + (2 + q.val) = 112 + q.val; omega)

include h2 in
theorem w0 (a b : Fin 1) (j : Fin 256) : val_main_v11 x2 (ix3 a b j) = (X.w 0 j : EReal) := by
  unfold val_main_v11 val_main_v9 val_main_v8
  pointwise
  exact h2 0 j
include h2 in
theorem w1 (a b : Fin 1) (j : Fin 256) : val_main_v17 x2 (ix3 a b j) = (X.w 1 j : EReal) := by
  unfold val_main_v17 val_main_v15 val_main_v14
  pointwise
  exact h2 1 j
include h2 in
theorem w2 (a b : Fin 1) (j : Fin 256) : val_main_v24 x2 (ix3 a b j) = (X.w 2 j : EReal) := by
  unfold val_main_v24 val_main_v22 val_main_v21
  pointwise
  exact h2 2 j

include h0 h2 in
theorem v27 (s : Fin 4) (q : Fin 2064) (j : Fin 256) :
    val_main_v27 x0 x2 (ix3 s q j) = (conv (X.w 0) (X.w 1) (X.w 2) (G X s) (112 + q.val) j : EReal) := by
  unfold val_main_v27 val_main_v26 val_main_v25 val_main_v20 val_main_v19 val_main_v18 val_main_v13 val_main_v12
  pointwise
  rw [w0 h2, w1 h2, w2 h2, v10 h0, v16 h0, v23 h0, ← EReal.coe_mul, ← EReal.coe_mul, ← EReal.coe_mul, ← EReal.coe_add, ← EReal.coe_add]
  refine congrArg _ ?_
  unfold conv
  rw [show 112 + q.val - 1 = 111 + q.val by omega, show 112 + q.val - 2 = 110 + q.val by omega]
  ring

include h0 h1 in
theorem v219 (s : Fin 4) (q : Fin 2064) (j : Fin 256) : val_main_v219 x0 x1 (ix3 s q j) = (C X s (112 + q.val) j : EReal) := by
  unfold val_main_v219
  pointwise
  rw [v0 h0, v156 h1, ← EReal.coe_mul, mul_comm]
  rfl

include h0 h1 h2 in
theorem v220 (s : Fin 4) (q : Fin 2064) (j : Fin 256) : val_main_v220 x0 x1 x2 (ix3 s q j)
    = ((part (lift X.dy s) 0 (112 + q.val) j * conv (X.w 0) (X.w 1) (X.w 2) (G X s) (112 + q.val) j : ℝ) : EReal) := by
  unfold val_main_v220
  pointwise
  rw [v27 h0 h2, v156 h1, ← EReal.coe_mul]

include h0 h1 h2 in
theorem v227 (s : Fin 4) (a : Fin 2066) (j : Fin 256) : val_main_v227 x0 x1 x2 (ix3 s a j) = ((X.w 2 j * C X s (110 + a.val) j : ℝ) : EReal) := by
  unfold val_main_v227 val_main_v222 val_main_v221 val_main_cst_42
  pointwise
  split_ifs with h
  · rw [w2 h2, v219 h0 h1, ← EReal.coe_mul]
    exact congrArg (fun n => ((X.w 2 j * C X s n j : ℝ) : EReal)) (by dsimp only; omega)
  · have z : C X s (110 + a.val) j = 0 := by
      by_cases e : 110 + a.val < 112
      · exact C_low _ _ _ e
      · exact C_high _ _ _ (by omega)
    rw [z, mul_zero]; rfl

include h0 h1 h2 in
theorem v236 (s : Fin 4) (a : Fin 2066) (j : Fin 256) : val_main_v236 x0 x1 x2 (ix3 s a j) = ((X.w 1 j * C X s (111 + a.val) j : ℝ) : EReal) := by
  unfold val_main_v236 val_main_v231 val_main_v230 val_main_cst_46
  pointwise
  split_ifs with h
  · rw [w1 h2, v219 h0 h1, ← EReal.coe_mul]
    exact congrArg (fun n => ((X.w 1 j * C X s n j : ℝ) : EReal)) (by dsimp only; omega)
  · have z : C X s (111 + a.val) j = 0 := by
      by_cases e : 111 + a.val < 112
      · exact C_low _ _ _ e
      · exact C_high _ _ _ (by omega)
    rw [z, mul_zero]; rfl

include h0 h1 h2 in
theorem v247 (s : Fin 4) (a : Fin 2066) (j : Fin 256) : val_main_v247 x0 x1 x2 (ix3 s a j) = ((X.w 0 j * C X s (112 + a.val) j : ℝ) : EReal) := by
  unfold val_main_v247 val_main_v242 val_main_v241 val_main_cst_50
  pointwise
  split_ifs with h
  · rw [w0 h2, v219 h0 h1, ← EReal.coe_mul]
  · have z : C X s (112 + a.val) j = 0 := by
      by_cases e : 112 + a.val < 112
      · exact C_low _ _ _ e
      · exact C_high _ _ _ (by omega)
    rw [z, mul_zero]; rfl

include h0 h1 h2 in
theorem v253 (s : Fin 4) (q : Fin 2064) (j : Fin 256) : val_main_v253 x0 x1 x2 (ix3 s q j)
    = (vnoc (X.w 0) (X.w 1) (X.w 2) (C X s) (112 + q.val) j : EReal) := by
  unfold val_main_v253 val_main_v248 val_main_v237
  pointwise
  rw [v227 h0 h1 h2, v236 h0 h1 h2, v247 h0 h1 h2, ← EReal.coe_add, ← EReal.coe_add]
  refine congrArg _ ?_
  unfold vnoc
  dsimp only
  rw [show 110 + (2 + q.val) = 112 + q.val by omega, show 111 + (2 + q.val) = 112 + q.val + 1 by omega, show 112 + (2 + q.val) = 112 + q.val + 2 by omega]

include h0 h1 h2 in
theorem v254 (s : Fin 4) (q : Fin 2064) (j : Fin 256) : val_main_v254 x0 x1 x2 (ix3 s q j)
    = ((vnoc (X.w 0) (X.w 1) (X.w 2) (C X s) (112 + q.val) j * part (lift X.u s) 256 (112 + q.val) j : ℝ) : EReal) := by
  unfold val_main_v254
  pointwise
  rw [v253 h0 h1 h2, v1 h0, ← EReal.coe_mul, mul_comm]

include h0 h1 h2 in
theorem v255 (s : Fin 4) (q : Fin 2064) (j : Fin 256) : val_main_v255 x0 x1 x2 (ix3 s q j)
    = ((vnoc (X.w 0) (X.w 1) (X.w 2) (C X s) (112 + q.val) j * part (lift X.u s) 512 (112 + q.val) j : ℝ) : EReal) := by
  unfold val_main_v255
  pointwise
  rw [v253 h0 h1 h2, v2 h0, ← EReal.coe_mul]

include h0 h1 in
theorem v226 (j : Fin 256) : val_main_v226 x0 x1 (ix1 j) = ((∑ s : Fin 4, ∑ q : Fin 2064, C X s (112 + q.val) j * G X s (112 + q.val) j : ℝ) : EReal) := by
  have e : val_main_v224 x0 x1 (ix1 j) = ((∑ s : Fin 4, ∑ q : Fin 2064, C X s (112 + q.val) j * G X s (112 + q.val) j : ℝ) : EReal) := by
    unfold val_main_v224 val_main_v223 val_main_cst_40
    pointwise
    rw [Cert.SumRows.sum_rows, zero_add]
    pointwise
    simp only [v219 h0 h1, v23 h0, ← EReal.coe_mul, sum_coe]
  unfold val_main_v226 val_main_v225 val_main_cst_41
  pointwise
  rw [Cert.SumRows.sum_rows, zero_add, Fin.sum_univ_one, Fin.sum_univ_one]
  pointwise
  exact e

include h0 h1 in
theorem v235 (j : Fin 256) : val_main_v235 x0 x1 (ix1 j) = ((∑ s : Fin 4, ∑ q : Fin 2064, C X s (112 + q.val) j * G X s (111 + q.val) j : ℝ) : EReal) := by
  have e : val_main_v233 x0 x1 (ix1 j) = ((∑ s : Fin 4, ∑ q : Fin 2064, C X s (112 + q.val) j * G X s (111 + q.val) j : ℝ) : EReal) := by
    unfold val_main_v233 val_main_v232 val_main_cst_44
    pointwise
    rw [Cert.SumRows.sum_rows, zero_add]
    pointwise
    simp only [v219 h0 h1, v16 h0, ← EReal.coe_mul, sum_coe]
  unfold val_main_v235 val_main_v234 val_main_cst_45
  pointwise
  rw [Cert.SumRows.sum_rows, zero_add, Fin.sum_univ_one, Fin.sum_univ_one]
  pointwise
  exact e

include h0 h1 in
theorem v246 (j : Fin 256) : val_main_v246 x0 x1 (ix1 j) = ((∑ s : Fin 4, ∑ q : Fin 2064, C X s (112 + q.val) j * G X s (110 + q.val) j : ℝ) : EReal) := by
  have e : val_main_v244 x0 x1 (ix1 j) = ((∑ s : Fin 4, ∑ q : Fin 2064, C X s (112 + q.val) j * G X s (110 + q.val) j : ℝ) : EReal) := by
    unfold val_main_v244 val_main_v243 val_main_cst_48
    pointwise
    rw [Cert.SumRows.sum_rows, zero_add]
    pointwise
    simp only [v219 h0 h1, v10 h0, ← EReal.coe_mul, sum_coe]
  unfold val_main_v246 val_main_v245 val_main_cst_49
  pointwise
  rw [Cert.SumRows.sum_rows, zero_add, Fin.sum_univ_one, Fin.sum_univ_one]
  pointwise
  exact e

include h0 h1 in
/-- The gradient of the convolution's weights. -/
theorem v251 (k : Fin 3) (j : Fin 256) : val_main_v251 x0 x1 (ix2 k j) = Cert.MixerIdeal.Array.tapArr X (ix2 k j) := by
  have e : Cert.MixerIdeal.Array.tapArr X (ix2 k j) = ((∑ s : Fin 4, ∑ q : Fin 2064, C X s (112 + q.val) j * G X s (112 + q.val - (2 - k.val)) j : ℝ) : EReal) := by
    show ((∑ p ∈ Finset.range 4, Cert.MixerIdeal.Array.tap X k j p : ℝ) : EReal) = _
    rw [Finset.sum_range]
    refine congrArg _ (Finset.sum_congr rfl fun s _ => ?_)
    show dtap (lift X.u _) (lift X.dy _) k j = _
    rw [show Cert.MixerIdeal.Array.sqn s.val = s from Fin.ext (Nat.mod_eq_of_lt s.isLt)]
    exact sum_sequence (fun r => C X s r j * G X s (r - (2 - k.val)) j) fun r h => by rw [C_low _ _ _ h, zero_mul]
  rw [e]
  unfold val_main_v251 val_main_v250 val_main_v249 val_main_v240 val_main_v239 val_main_v238 val_main_v229 val_main_v228 val_main_cst_43 val_main_cst_47 val_main_cst_51
  pointwise
  have fin (t : ℕ) (b : ℕ) (hb : 112 - t = b) (ht : t ≤ 112) : (∑ s : Fin 4, ∑ q : Fin 2064, C X s (112 + q.val) j * G X s (b + q.val) j)
      = ∑ s : Fin 4, ∑ q : Fin 2064, C X s (112 + q.val) j * G X s (112 + q.val - t) j :=
    Finset.sum_congr rfl fun s _ => Finset.sum_congr rfl fun q _ => congrArg (fun n => C X s (112 + q.val) j * G X s n j) (by omega)
  fin_cases k
  · rw [dif_neg (by decide), dif_neg (by decide), dif_pos (by decide), v246 h0 h1, zero_add, zero_add]
    exact congrArg _ (fin 2 110 rfl (by norm_num))
  · rw [dif_neg (by decide), dif_pos (by decide), dif_neg (by decide), v235 h0 h1, zero_add, add_zero]
    exact congrArg _ (fin 1 111 rfl (by norm_num))
  · rw [dif_pos (by decide), dif_neg (by decide), dif_neg (by decide), v226 h0 h1, add_zero, add_zero]
    exact congrArg _ (fin 0 112 rfl (by norm_num))

end Cert.MixerRefIdeal.RefValue
-- ==== Proof.MixerRefSums.lean ====
/-
  Sums over a window of rows, made from running sums, and the transposed sums, made from rows added at the windows' ends.
-/
module

public import proofs.«01_k».proof.Proof.MixerSums

@[expose] public section

noncomputable section

namespace Cert.Mixer

/-- A running sum. -/
theorem running (f : ℕ → ℝ) (t : ℕ) (ht : t < 2064) :
    (∑ n ∈ Finset.range 2064, if 2063 ≤ t + n ∧ t + n - 2063 < 2064 then f (t + n - 2063) else 0) = ∑ i ∈ Finset.range (t + 1), f i := by
  rw [← Finset.sum_filter]
  refine Finset.sum_nbij' (fun n => t + n - 2063) (fun i => i + 2063 - t) (fun n hn => ?_) (fun i hi => ?_) (fun n hn => ?_) (fun i hi => ?_) (fun n hn => rfl)
  · have := Finset.mem_range.1 (Finset.mem_filter.1 hn).1
    exact Finset.mem_range.2 (by omega)
  · have := Finset.mem_range.1 hi
    exact Finset.mem_filter.2 ⟨Finset.mem_range.2 (by omega), by omega, by omega⟩
  · have := (Finset.mem_filter.1 hn).2
    omega
  · have := Finset.mem_range.1 hi
    omega

/-- A running sum from the end. -/
theorem running_back (f : ℕ → ℝ) (t : ℕ) (ht : t < 2064) :
    (∑ n ∈ Finset.range 2064, if 0 ≤ t + n ∧ t + n - 0 < 2064 then f (t + n - 0) else 0) = ∑ i ∈ Finset.Ico t 2064, f i := by
  rw [← Finset.sum_filter]
  refine Finset.sum_nbij' (fun n => t + n) (fun i => i - t) (fun n hn => ?_) (fun i hi => ?_) (fun n hn => ?_) (fun i hi => ?_) (fun n hn => rfl)
  · have := (Finset.mem_filter.1 hn).2
    exact Finset.mem_Ico.2 ⟨by omega, by omega⟩
  · have := Finset.mem_Ico.1 hi
    exact Finset.mem_filter.2 ⟨Finset.mem_range.2 (by omega), by omega, by omega⟩
  · omega
  · have := Finset.mem_Ico.1 hi
    omega

/-- The sum over a window is the difference of two running sums. -/
theorem back_eq (P : ℕ → ℝ) (hP : ∀ r, r < 112 → P r = 0) (w : ℕ) (hw : w ≤ 16) (t : ℕ) :
    (∑ i ∈ Finset.range (t + 1), P (112 + i)) - ∑ i ∈ Finset.range (t + 1 - w), P (112 + i) = back P w (112 + t) := by
  have e1 : ∑ i ∈ Finset.Ico (t + 1 - w) (t + 1), P (112 + i) = ∑ r ∈ Finset.Ico (112 + (t + 1 - w)) (113 + t), P r := by
    rw [Finset.sum_Ico_add (fun r => P r) (t + 1 - w) (t + 1) 112]
    exact Finset.sum_congr (by congr 1 <;> omega) fun _ _ => rfl
  have e2 : back P w (112 + t) = ∑ r ∈ Finset.Ico (113 + t - w) (113 + t), P r := by
    unfold back
    refine Finset.sum_nbij' (fun i => 112 + t - i) (fun r => 112 + t - r) (fun i hi => ?_) (fun r hr => ?_) (fun i hi => ?_) (fun r hr => ?_) (fun i _ => rfl)
    · have := Finset.mem_range.1 hi
      exact Finset.mem_Ico.2 ⟨by omega, by omega⟩
    · have := Finset.mem_Ico.1 hr
      exact Finset.mem_range.2 (by omega)
    · have := Finset.mem_range.1 hi
      omega
    · have := Finset.mem_Ico.1 hr
      omega
  rw [e2, ← Finset.sum_range_add_sum_Ico (fun i => P (112 + i)) (show t + 1 - w ≤ t + 1 by omega), add_sub_cancel_left, e1]
  refine Finset.sum_subset (fun r hr => ?_) fun r hr hn => hP r ?_
  · have := Finset.mem_Ico.1 hr
    exact Finset.mem_Ico.2 ⟨by omega, by omega⟩
  · have h1 := Finset.mem_Ico.1 hr
    have h2 := fun h => hn (Finset.mem_Ico.2 h)
    by_contra h
    exact h2 ⟨by omega, h1.2⟩

/-- Adding every row at its own place and taking it off where its window begins, summed from the end, sums the rows of a window. -/
theorem ahead_eq (x : ℕ → ℝ) (hx : ∀ r, 2064 ≤ r → x r = 0) (w : ℕ) (h1 : 1 ≤ w) (q : ℕ) (hq : q < 2064) :
    (∑ i ∈ Finset.Ico q 2064, (x i - ∑ t : Fin 2064, if t.val + 1 - w = i + 1 then x t.val else 0)) = ∑ i ∈ Finset.range w, x (q + i) := by
  have e (i : ℕ) : (∑ t : Fin 2064, if t.val + 1 - w = i + 1 then x t.val else 0) = x (i + w) := by
    rw [← Finset.sum_range (fun t => if t + 1 - w = i + 1 then x t else 0), Finset.sum_eq_single (i + w)]
    · rw [if_pos (by omega)]
    · intro t _ h
      exact if_neg (by omega)
    · intro h
      rw [if_pos (by omega)]
      exact hx _ (by simpa using h)
  simp only [e]
  rw [Finset.sum_sub_distrib, Finset.sum_Ico_add' (fun i => x i) q 2064 w]
  have e2 : ∑ i ∈ Finset.Ico q 2064, x i = ∑ i ∈ Finset.Ico q (2064 + w), x i := by
    rw [← Finset.sum_Ico_consecutive x (show q ≤ 2064 by omega) (show 2064 ≤ 2064 + w by omega)]
    rw [Finset.sum_eq_zero (s := Finset.Ico 2064 (2064 + w)) (fun r hr => hx r (Finset.mem_Ico.1 hr).1), add_zero]
  rw [e2, ← Finset.sum_Ico_consecutive x (show q ≤ q + w by omega) (show q + w ≤ 2064 + w by omega), add_sub_cancel_right,
    Finset.sum_Ico_eq_sum_range, Nat.add_sub_cancel_left]

end Cert.Mixer
-- ==== Proof.MixerHost.lean ====
/-
  The host's operations on the pool's sums read at an index: running sums over the rows, rows picked by number, and rows
  added at a number.
-/
module

public import proofs.«01_k».proof.Proof.Gen.MixerRefIdeal.Run
public import proofs.«01_k».proof.Proof.Reals
public import Idealize.ShloMosaic.Lib.Routing.OpsOne

@[expose] public section

set_option maxRecDepth 16384

noncomputable section

namespace Cert.MixerRefIdeal.Host4

open Idealize.ShloMosaic Cert.MixerRefIdeal Cert.MixerRefIdeal.Gen Idealize.ShloMosaic.TcCoe Cert.Reals

theorem start_row (idx : IVec S2064x2 32) (s : Fin 4) (t : Fin 2064) (b : Fin 64) :
    gather_S4x2065x4x64_S2064x2_S4x2064x64_02_12_n_n_12_1_41164.start (ix3 s t b) idx 1 = min (idx (ix2 t 0)).toInt.toNat 2064
      ∧ gather_S4x2065x4x64_S2064x2_S4x2064x64_02_12_n_n_12_1_41164.start (ix3 s t b) idx 2 = min (idx (ix2 t 1)).toInt.toNat 3 := by
  have e0 : gather_S4x2065x4x64_S2064x2_S4x2064x64_02_12_n_n_12_1_41164.siIdx (ix3 s t b) ⟨0, by decide⟩ = ix2 t 0 := by
    funext a; fin_cases a <;> rfl
  have e1 : gather_S4x2065x4x64_S2064x2_S4x2064x64_02_12_n_n_12_1_41164.siIdx (ix3 s t b) ⟨1, by decide⟩ = ix2 t 1 := by
    funext a; fin_cases a <;> rfl
  rw [← e0, ← e1]
  exact ⟨rfl, rfl⟩

/-- The rows a gather picks. -/
theorem gather_at (x : S4x2065x4x64.Idx → EReal) (idx : IVec S2064x2 32) (s : Fin 4) (t : Fin 2064) (b : Fin 64) (n : Fin 2065) (k : Fin 4)
    (hn : (idx (ix2 t 0)).toInt = n.val) (hk : (idx (ix2 t 1)).toInt = k.val) :
    Host.gather gather_S4x2065x4x64_S2064x2_S4x2064x64_02_12_n_n_12_1_41164 x idx (ix3 s t b) = x (ix4 s n k b) := by
  unfold Host.gather
  refine congrArg x (funext fun a => Fin.ext ?_)
  obtain ⟨h1, h2⟩ := start_row idx s t b
  have e0 : gather_S4x2065x4x64_S2064x2_S4x2064x64_02_12_n_n_12_1_41164.offCoord (ix3 s t b) 0 = s.val := rfl
  have e1 : gather_S4x2065x4x64_S2064x2_S4x2064x64_02_12_n_n_12_1_41164.offCoord (ix3 s t b) 1 = 0 := rfl
  have e2 : gather_S4x2065x4x64_S2064x2_S4x2064x64_02_12_n_n_12_1_41164.offCoord (ix3 s t b) 2 = 0 := rfl
  have e3 : gather_S4x2065x4x64_S2064x2_S4x2064x64_02_12_n_n_12_1_41164.offCoord (ix3 s t b) 3 = b.val := rfl
  have bc : ∀ a, gather_S4x2065x4x64_S2064x2_S4x2064x64_02_12_n_n_12_1_41164.batchCoord (ix3 s t b) a = 0 := fun a => rfl
  have s0 : gather_S4x2065x4x64_S2064x2_S4x2064x64_02_12_n_n_12_1_41164.start (ix3 s t b) idx 0 = 0 := rfl
  have s3 : gather_S4x2065x4x64_S2064x2_S4x2064x64_02_12_n_n_12_1_41164.start (ix3 s t b) idx 3 = 0 := rfl
  unfold GatherDims.operandIdx
  dsimp only
  rw [bc]
  match a with
  | ⟨0, _⟩ => exact (congrArg₂ (· + 0 + ·) s0 e0).trans (by simp)
  | ⟨1, _⟩ => exact (congrArg₂ (· + 0 + ·) h1 e1).trans (by show _ = n.val; omega)
  | ⟨2, _⟩ => exact (congrArg₂ (· + 0 + ·) h2 e2).trans (by show _ = k.val; omega)
  | ⟨3, _⟩ => exact (congrArg₂ (· + 0 + ·) s3 e3).trans (by simp)

open Idealize.ShloMosaic.Routing in
/-- Where a scattered row lands. -/
theorem lands (idx : IVec S2064x2 32) (s : Fin 4) (t : Fin 2064) (b : Fin 64) (s' : Fin 4) (n : Fin 2065) (k : Fin 4) (b' : Fin 64) :
    scatter_S4x2065x4x64_S2064x2_S4x2064x64_02_12_12_1.resultIdx? (ix3 s t b) idx = some (ix4 s' n k b')
      ↔ s = s' ∧ (idx (ix2 t 0)).toInt = n.val ∧ (idx (ix2 t 1)).toInt = k.val ∧ b = b' := by
  rw [resultIdx?_eq_some]
  have e0 : scatter_S4x2065x4x64_S2064x2_S4x2064x64_02_12_12_1.siIdx (ix3 s t b) ⟨0, by decide⟩ = ix2 t 0 := by
    funext a; fin_cases a <;> rfl
  have e1 : scatter_S4x2065x4x64_S2064x2_S4x2064x64_02_12_12_1.siIdx (ix3 s t b) ⟨1, by decide⟩ = ix2 t 1 := by
    funext a; fin_cases a <;> rfl
  have h0 : scatter_S4x2065x4x64_S2064x2_S4x2064x64_02_12_12_1.start (ix3 s t b) idx 0 + (scatter_S4x2065x4x64_S2064x2_S4x2064x64_02_12_12_1.window (ix3 s t b) 0 : Int) = s.val := zero_add _
  have h1 : scatter_S4x2065x4x64_S2064x2_S4x2064x64_02_12_12_1.start (ix3 s t b) idx 1 + (scatter_S4x2065x4x64_S2064x2_S4x2064x64_02_12_12_1.window (ix3 s t b) 1 : Int) = (idx (ix2 t 0)).toInt := by
    rw [← e0]; exact add_zero _
  have h2 : scatter_S4x2065x4x64_S2064x2_S4x2064x64_02_12_12_1.start (ix3 s t b) idx 2 + (scatter_S4x2065x4x64_S2064x2_S4x2064x64_02_12_12_1.window (ix3 s t b) 2 : Int) = (idx (ix2 t 1)).toInt := by
    rw [← e1]; exact add_zero _
  have h3 : scatter_S4x2065x4x64_S2064x2_S4x2064x64_02_12_12_1.start (ix3 s t b) idx 3 + (scatter_S4x2065x4x64_S2064x2_S4x2064x64_02_12_12_1.window (ix3 s t b) 3 : Int) = b.val := zero_add _
  constructor
  · intro h
    have g0 := h0.symm.trans (h 0)
    have g1 := h1.symm.trans (h 1)
    have g2 := h2.symm.trans (h 2)
    have g3 := h3.symm.trans (h 3)
    exact ⟨Fin.ext (by exact_mod_cast g0), g1, g2, Fin.ext (by exact_mod_cast g3)⟩
  · rintro ⟨rfl, g1, g2, rfl⟩ a
    match a with
    | ⟨0, _⟩ => exact h0
    | ⟨1, _⟩ => exact h1.trans g1
    | ⟨2, _⟩ => exact h2.trans g2
    | ⟨3, _⟩ => exact h3

/-- The rows of group `g`, added at the row numbers `lo`, into zeros. -/
theorem scatter_at (x : S4x2065x4x64.Idx → EReal) (idx : IVec S2064x2 32) (u : S4x2064x64.Idx → EReal) (U : Fin 4 → Fin 2064 → Fin 64 → ℝ) (lo : ℕ → ℕ) (g : Fin 4)
    (hx : ∀ i, x i = 0) (h0 : ∀ t : Fin 2064, (idx (ix2 t 0)).toInt = lo t.val) (h1 : ∀ t : Fin 2064, (idx (ix2 t 1)).toInt = g.val)
    (hu : ∀ s t b, u (ix3 s t b) = (U s t b : EReal)) (s : Fin 4) (n : Fin 2065) (k : Fin 4) (b : Fin 64) :
    Host.scatterAdd (F := Ideal) scatter_S4x2065x4x64_S2064x2_S4x2064x64_02_12_12_1 (φ := .f32) x idx u (ix4 s n k b)
      = ((if k = g then ∑ t : Fin 2064, if lo t.val = n.val then U s t b else 0 else 0 : ℝ) : EReal) := by
  show x _ + _ = _
  rw [hx, zero_add]
  split_ifs with hk
  · subst hk
    rw [← Finset.sum_filter, ← sum_coe]
    symm
    refine Finset.sum_nbij (fun t => ix3 s t b) (fun t ht => ?_) (fun t _ t' _ e => ?_) (fun i hi => ?_) (fun t _ => (hu s t b).symm)
    · refine Finset.mem_filter.2 ⟨Finset.mem_univ _, (lands idx s t b s n k b).2 ⟨rfl, ?_, h1 t, rfl⟩⟩
      rw [h0, (Finset.mem_filter.1 ht).2]
    · exact congrFun e 1
    · obtain ⟨s', t, b', rfl⟩ := ex3 i
      obtain ⟨rfl, e, _, rfl⟩ := (lands idx s' t b' s n k b).1 (Finset.mem_filter.1 hi).2
      refine ⟨t, Finset.mem_filter.2 ⟨Finset.mem_univ _, ?_⟩, rfl⟩
      rw [h0] at e
      exact_mod_cast e
  · refine Finset.sum_eq_zero fun i hi => ?_
    obtain ⟨s', t, b', rfl⟩ := ex3 i
    obtain ⟨_, _, e, _⟩ := (lands idx s' t b' s n k b).1 (Finset.mem_filter.1 hi).2
    rw [h1] at e
    exact absurd (Fin.ext (by exact_mod_cast e.symm)) hk

/-! ## The running sums -/

variable {A N G B : ℕ}

theorem numel_rows : (⟨4, ![1, N, 1, 1]⟩ : Shape).numel = N := by
  simp [Shape.numel, Fin.prod_univ_four]

/-- The position of a row in a window of one column. -/
theorem symm_rows (n : Fin (⟨4, ![1, N, 1, 1]⟩ : Shape).numel) :
    (⟨4, ![1, N, 1, 1]⟩ : Shape).rowMajor.symm n = ix4 (0 : Fin 1) (n.cast numel_rows) (0 : Fin 1) (0 : Fin 1) := by
  rw [Equiv.symm_apply_eq]
  refine Fin.ext ?_
  rw [Shape.rowMajor_val_four]
  show n.val = ((0 * N + n.val) * 1 + 0) * 1 + 0
  omega

theorem foldl_add {ι : Type} (l : List ι) (f : ι → ℝ) (g : EReal → ι → EReal) (hg : ∀ r i, g r i = r + (f i : EReal)) (z : ℝ) :
    l.foldl g ((z : ℝ) : EReal) = ((z + (l.map f).sum : ℝ) : EReal) := by
  induction l generalizing z with
  | nil => simp
  | cons i l ih => rw [List.foldl_cons, hg, ← EReal.coe_add, ih, List.map_cons, List.sum_cons, add_assoc]

/-- A window sum over the rows, whose window begins `L` rows before a row. -/
theorem rows_at (L H : ℕ) (h : (⟨4, ![A, N, G, B]⟩ : Shape).ReduceWindows (![1, N, 1, 1] : Fin 4 → Nat) ![1, 1, 1, 1] ![0, L, 0, 0] ![0, H, 0, 0] (⟨4, ![A, N, G, B]⟩ : Shape))
    (x : (⟨4, ![A, N, G, B]⟩ : Shape).Idx → EReal) (init : S_.Idx → EReal) (hu : 0 < S_.numel) (hi : ∀ i, init i = 0) (f : ℕ → ℝ) (s : Fin A) (g : Fin G) (b : Fin B)
    (hx : ∀ t : Fin N, x (ix4 s t g b) = (f t.val : EReal)) (t : Fin N) :
    Host.reduceWindowAdd (F := Ideal) (φ := .f32) ![1, N, 1, 1] ![1, 1, 1, 1] ![0, L, 0, 0] ![0, H, 0, 0] x init h hu (ix4 s t g b)
      = ((∑ n ∈ Finset.range N, if L ≤ t.val + n ∧ t.val + n - L < N then f (t.val + n - L) else 0 : ℝ) : EReal) := by
  show Host.reduceWindow (· + ·) _ _ _ _ x (fun _ : (⟨0, ![]⟩ : Shape).Idx => init (Shape.Idx.first hu)) h (by decide) (ix4 s t g b) = _
  unfold Host.reduceWindow
  rw [hi]
  refine (foldl_add _ (fun n => if L ≤ t.val + n.val ∧ t.val + n.val - L < N then f (t.val + n.val - L) else 0) _ (fun r n => ?_) 0).trans ?_
  · refine congrArg (r + ·) ?_
    have w0 : ((⟨4, ![1, N, 1, 1]⟩ : Shape).rowMajor.symm n 0).val = 0 := by rw [symm_rows]; rfl
    have w1 : ((⟨4, ![1, N, 1, 1]⟩ : Shape).rowMajor.symm n 1).val = n.val := by rw [symm_rows]; rfl
    have w2 : ((⟨4, ![1, N, 1, 1]⟩ : Shape).rowMajor.symm n 2).val = 0 := by rw [symm_rows]; rfl
    have w3 : ((⟨4, ![1, N, 1, 1]⟩ : Shape).rowMajor.symm n 3).val = 0 := by rw [symm_rows]; rfl
    have hs := s.isLt
    have hg := g.isLt
    have hb := b.isLt
    dsimp only
    split
    · next hin =>
      have h1 := hin 1
      change L ≤ t.val * 1 + ((⟨4, ![1, N, 1, 1]⟩ : Shape).rowMajor.symm n 1).val
        ∧ t.val * 1 + ((⟨4, ![1, N, 1, 1]⟩ : Shape).rowMajor.symm n 1).val - L < N at h1
      rw [w1] at h1
      rw [if_pos (by omega)]
      refine (congrArg x (funext fun a => Fin.ext ?_)).trans (hx ⟨t.val + n.val - L, by omega⟩)
      match a with
      | ⟨0, _⟩ => show s.val * 1 + ((⟨4, ![1, N, 1, 1]⟩ : Shape).rowMajor.symm n 0).val - 0 = s.val; omega
      | ⟨1, _⟩ => show t.val * 1 + ((⟨4, ![1, N, 1, 1]⟩ : Shape).rowMajor.symm n 1).val - L = t.val + n.val - L; omega
      | ⟨2, _⟩ => show g.val * 1 + ((⟨4, ![1, N, 1, 1]⟩ : Shape).rowMajor.symm n 2).val - 0 = g.val; omega
      | ⟨3, _⟩ => show b.val * 1 + ((⟨4, ![1, N, 1, 1]⟩ : Shape).rowMajor.symm n 3).val - 0 = b.val; omega
    · next hin =>
      rw [if_neg fun hle => hin fun a => by
        match a with
        | ⟨0, _⟩ => show 0 ≤ s.val * 1 + ((⟨4, ![1, N, 1, 1]⟩ : Shape).rowMajor.symm n 0).val ∧ s.val * 1 + ((⟨4, ![1, N, 1, 1]⟩ : Shape).rowMajor.symm n 0).val - 0 < A; omega
        | ⟨1, _⟩ => show L ≤ t.val * 1 + ((⟨4, ![1, N, 1, 1]⟩ : Shape).rowMajor.symm n 1).val ∧ t.val * 1 + ((⟨4, ![1, N, 1, 1]⟩ : Shape).rowMajor.symm n 1).val - L < N; omega
        | ⟨2, _⟩ => show 0 ≤ g.val * 1 + ((⟨4, ![1, N, 1, 1]⟩ : Shape).rowMajor.symm n 2).val ∧ g.val * 1 + ((⟨4, ![1, N, 1, 1]⟩ : Shape).rowMajor.symm n 2).val - 0 < G; omega
        | ⟨3, _⟩ => show 0 ≤ b.val * 1 + ((⟨4, ![1, N, 1, 1]⟩ : Shape).rowMajor.symm n 3).val ∧ b.val * 1 + ((⟨4, ![1, N, 1, 1]⟩ : Shape).rowMajor.symm n 3).val - 0 < B; omega]
      rfl
  · rw [zero_add, Finset.sum_range, ← List.sum_ofFn, List.ofFn_eq_map]
    refine congrArg (fun l : List ℝ => ((l.sum : ℝ) : EReal)) ?_
    refine List.ext_getElem (by simp [numel_rows]) fun i h0 h1 => ?_
    simp

end Cert.MixerRefIdeal.Host4
-- ==== Proof.MixerRefPool.lean ====
/-
  What the reference of the mixer's backward computes on the pool's side, when its arguments are real numbers.
-/
module

public import proofs.«01_k».proof.Proof.MixerRefConv
public import proofs.«01_k».proof.Proof.MixerRefSums
public import proofs.«01_k».proof.Proof.MixerHost

@[expose] public section

set_option maxRecDepth 16384

noncomputable section

namespace Cert.MixerRefIdeal.RefValue

open Idealize.ShloMosaic Cert.MixerRefIdeal Cert.MixerRefIdeal.Gen Cert.MixerRefIdeal.Read Idealize.ShloMosaic.TcCoe
open Cert.Reals Cert.Padded Cert.MixerIdeal.Inputs Cert.MixerIdeal.Point Cert.MixerIdeal.Block Cert.MixerIdeal.Array Cert.Mixer Host4

variable {x0 : Vec Ideal S4x2064x1024 .f32} {x1 : Vec Ideal S4x2064x512 .f32} {x3 : Vec Ideal S4x64x64 .f32} {x4 : Vec Ideal S256 .f32}
variable {X : Args}
variable (h0 : ∀ s q j, x0 (ix3 s q j) = (X.u s q j : EReal)) (h1 : ∀ s q j, x1 (ix3 s q j) = (X.dy s q j : EReal))
variable (h3 : ∀ g i j, x3 (ix3 g i j) = (X.p g i j : EReal)) (h4 : ∀ j, x4 (ix1 j) = (X.s j : EReal))

/-- The pool's rows. -/
abbrev P (X : Args) (s : Fin 4) : ℕ → Fin 256 → ℝ := part (lift X.u s) 768

theorem P_low (s : Fin 4) (r : ℕ) (j : Fin 256) (h : r < 112) : P X s r j = 0 := lift_low _ _ _ _ h

/-- Where the window of `w` rows that ends at row `t` begins, as the host's words say it. -/
abbrev loWord (w : BitVec 32) (t : ℕ) : BitVec 32 := IntOp.maxsi (IntOp.subi (IntOp.addi (BitVec.ofNat 32 t) 1#32) w) 0#32

/-- The words say it, and how many rows the window has, for the four windows. -/
theorem words : ∀ (g : Fin 4) (t : Fin 2064),
    (if IntOp.cmpi .slt (loWord (BitVec.ofNat 32 (2 * 2 ^ g.val)) t.val) 0#32 = 1#1 then IntOp.addi (loWord (BitVec.ofNat 32 (2 * 2 ^ g.val)) t.val) 2065#32
        else loWord (BitVec.ofNat 32 (2 * 2 ^ g.val)) t.val).toInt = ((t.val + 1 - 2 * 2 ^ g.val : ℕ) : Int)
      ∧ (IntOp.subi (IntOp.addi (BitVec.ofNat 32 t.val) 1#32) (loWord (BitVec.ofNat 32 (2 * 2 ^ g.val)) t.val)).toInt
        = ((min (2 * 2 ^ g.val) (t.val + 1) : ℕ) : Int) := by decide +kernel

theorem count {w : BitVec 32} {n : ℕ} (h : w.toInt = (n : Int)) : FloatOps.sitofp (F := Ideal) .f32 w = (((n : ℕ) : ℝ) : EReal) := by
  show ((w.toInt : ℝ) : EReal) = _
  rw [h, Int.cast_natCast]

theorem lo52 (t : Fin 2064) : (val_main_v52 (F := Ideal) (ix2 t 0)).toInt = ((t.val + 1 - 2 : ℕ) : Int) ∧ (val_main_v52 (F := Ideal) (ix2 t 1)).toInt = (0 : Fin 4).val := by
  have e0 : val_main_v52 (F := Ideal) (ix2 t 0) = val_main_v47 (ix1 t) := by
    unfold val_main_v52 val_main_v50; pointwise
  have e1 : val_main_v52 (F := Ideal) (ix2 t 1) = 0#32 := by
    unfold val_main_v52 val_main_v51 val_main_v49 val_main_v48 val_main_c_7; pointwise; rfl
  rw [e0, e1]
  refine ⟨?_, rfl⟩
  unfold val_main_v47 val_main_v46 val_main_v45 val_main_v44 val_main_v43 val_main_v40 val_main_v39 val_main_v38 val_main_v37 val_main_v36 val_main_v35 val_main_v34 val_main_c val_main_c_3 val_main_c_4 val_main_c_5 val_main_c_6
  pointwise
  exact (words 0 t).1

theorem cnt58 (t : Fin 2064) : val_main_v58 (F := Ideal) (ix1 t) = (((min 2 (t.val + 1) : ℕ) : ℝ) : EReal) := by
  unfold val_main_v58 val_main_v57 val_main_v56 val_main_v55 val_main_v40 val_main_v39 val_main_v38 val_main_v37 val_main_v36 val_main_v35 val_main_v34 val_main_c val_main_c_3 val_main_c_4 val_main_c_8
  pointwise
  exact count (words 0 t).2

theorem lo79 (t : Fin 2064) : (val_main_v79 (F := Ideal) (ix2 t 0)).toInt = ((t.val + 1 - 4 : ℕ) : Int) ∧ (val_main_v79 (F := Ideal) (ix2 t 1)).toInt = (1 : Fin 4).val := by
  have e0 : val_main_v79 (F := Ideal) (ix2 t 0) = val_main_v74 (ix1 t) := by
    unfold val_main_v79 val_main_v77; pointwise
  have e1 : val_main_v79 (F := Ideal) (ix2 t 1) = 1#32 := by
    unfold val_main_v79 val_main_v78 val_main_v76 val_main_v75 val_main_c_14; pointwise; rfl
  rw [e0, e1]
  refine ⟨?_, rfl⟩
  unfold val_main_v74 val_main_v73 val_main_v72 val_main_v71 val_main_v70 val_main_v67 val_main_v66 val_main_v65 val_main_v64 val_main_v63 val_main_v62 val_main_v34 val_main_c_9 val_main_c_10 val_main_c_11 val_main_c_12 val_main_c_13
  pointwise
  exact (words 1 t).1

theorem cnt85 (t : Fin 2064) : val_main_v85 (F := Ideal) (ix1 t) = (((min 4 (t.val + 1) : ℕ) : ℝ) : EReal) := by
  unfold val_main_v85 val_main_v84 val_main_v83 val_main_v82 val_main_v67 val_main_v66 val_main_v65 val_main_v64 val_main_v63 val_main_v62 val_main_v34 val_main_c_9 val_main_c_10 val_main_c_11 val_main_c_15
  pointwise
  exact count (words 1 t).2

theorem lo106 (t : Fin 2064) : (val_main_v106 (F := Ideal) (ix2 t 0)).toInt = ((t.val + 1 - 8 : ℕ) : Int) ∧ (val_main_v106 (F := Ideal) (ix2 t 1)).toInt = (2 : Fin 4).val := by
  have e0 : val_main_v106 (F := Ideal) (ix2 t 0) = val_main_v101 (ix1 t) := by
    unfold val_main_v106 val_main_v104; pointwise
  have e1 : val_main_v106 (F := Ideal) (ix2 t 1) = 2#32 := by
    unfold val_main_v106 val_main_v105 val_main_v103 val_main_v102 val_main_c_21; pointwise; rfl
  rw [e0, e1]
  refine ⟨?_, rfl⟩
  unfold val_main_v101 val_main_v100 val_main_v99 val_main_v98 val_main_v97 val_main_v94 val_main_v93 val_main_v92 val_main_v91 val_main_v90 val_main_v89 val_main_v34 val_main_c_16 val_main_c_17 val_main_c_18 val_main_c_19 val_main_c_20
  pointwise
  exact (words 2 t).1

theorem cnt112 (t : Fin 2064) : val_main_v112 (F := Ideal) (ix1 t) = (((min 8 (t.val + 1) : ℕ) : ℝ) : EReal) := by
  unfold val_main_v112 val_main_v111 val_main_v110 val_main_v109 val_main_v94 val_main_v93 val_main_v92 val_main_v91 val_main_v90 val_main_v89 val_main_v34 val_main_c_16 val_main_c_17 val_main_c_18 val_main_c_22
  pointwise
  exact count (words 2 t).2

theorem lo133 (t : Fin 2064) : (val_main_v133 (F := Ideal) (ix2 t 0)).toInt = ((t.val + 1 - 16 : ℕ) : Int) ∧ (val_main_v133 (F := Ideal) (ix2 t 1)).toInt = (3 : Fin 4).val := by
  have e0 : val_main_v133 (F := Ideal) (ix2 t 0) = val_main_v128 (ix1 t) := by
    unfold val_main_v133 val_main_v131; pointwise
  have e1 : val_main_v133 (F := Ideal) (ix2 t 1) = 3#32 := by
    unfold val_main_v133 val_main_v132 val_main_v130 val_main_v129 val_main_c_28; pointwise; rfl
  rw [e0, e1]
  refine ⟨?_, rfl⟩
  unfold val_main_v128 val_main_v127 val_main_v126 val_main_v125 val_main_v124 val_main_v121 val_main_v120 val_main_v119 val_main_v118 val_main_v117 val_main_v116 val_main_v34 val_main_c_23 val_main_c_24 val_main_c_25 val_main_c_26 val_main_c_27
  pointwise
  exact (words 3 t).1

theorem cnt139 (t : Fin 2064) : val_main_v139 (F := Ideal) (ix1 t) = (((min 16 (t.val + 1) : ℕ) : ℝ) : EReal) := by
  unfold val_main_v139 val_main_v138 val_main_v137 val_main_v136 val_main_v121 val_main_v120 val_main_v119 val_main_v118 val_main_v117 val_main_v116 val_main_v34 val_main_c_23 val_main_c_24 val_main_c_25 val_main_c_29
  pointwise
  exact count (words 3 t).2

include h0 in
theorem v29 (s : Fin 4) (q : Fin 2064) (g : Fin 4) (b : Fin 64) : val_main_v29 x0 (ix4 s q g b) = (P X s (112 + q.val) (grpIdx g b) : EReal) := by
  unfold val_main_v29 val_main_v3
  pointwise
  rw [h0]
  exact congrArg _ (lift_row _ _ _ _ _ _ rfl (by show 768 + (64 * g.val + b.val) = 768 + (g.val * 64 + b.val); omega)).symm

include h0 in
/-- The running sums behind a row of zeros. -/
theorem v32 (s : Fin 4) (a : Fin 2065) (g : Fin 4) (b : Fin 64) :
    val_main_v32 x0 (ix4 s a g b) = ((∑ i ∈ Finset.range a.val, P X s (112 + i) (grpIdx g b) : ℝ) : EReal) := by
  unfold val_main_v32 val_main_v30 val_main_cst_1
  pointwise
  split_ifs with h
  · rw [show a.val = 0 by omega]; rfl
  all_goals
    unfold val_main_v31
    rw [rows_at 2063 0 _ _ _ _ (fun i => by unfold val_main_call0_v0 val_main_call0_cst; pointwise) (fun i => P X s (112 + i) (grpIdx g b)) s g b (fun q => v29 h0 s q g b)]
    refine (congrArg (fun r : ℝ => (r : EReal)) (running (fun i => P X s (112 + i) (grpIdx g b)) (a.val - 1) (by omega))).trans ?_
    exact congrArg (fun n => ((∑ i ∈ Finset.range n, P X s (112 + i) (grpIdx g b) : ℝ) : EReal)) (by show a.val - 1 + 1 = a.val; omega)

/-- The mean of a row's window. -/
def mean (X : Args) (s : Fin 4) (q : Fin 2064) (g : Fin 4) (b : Fin 64) : ℝ :=
  back (fun r => P X s r (grpIdx g b)) (win (grpIdx g b).val) (112 + q.val) / (cnt (112 + q.val) (grpIdx g b).val : ℝ)

theorem win_grp (g : Fin 4) (b : Fin 64) : win (grpIdx g b).val = 2 * 2 ^ g.val := by
  show win (64 * g.val + b.val) = _
  have hb := b.isLt
  unfold win
  fin_cases g <;> split_ifs <;> simp at * <;> omega

theorem cnt_grp (q : Fin 2064) (g : Fin 4) (b : Fin 64) : cnt (112 + q.val) (grpIdx g b).val = min (2 * 2 ^ g.val) (q.val + 1) := by
  unfold cnt
  rw [win_grp, show max 1 (112 + q.val - 111) = q.val + 1 by omega]

theorem win_le (g : Fin 4) : 2 * 2 ^ g.val ≤ 16 ∧ 1 ≤ 2 * 2 ^ g.val := by fin_cases g <;> decide

theorem mean_eq (s : Fin 4) (q : Fin 2064) (g : Fin 4) (b : Fin 64) (w : ℕ) (hw : w = 2 * 2 ^ g.val) (n : ℕ) (hn : n = q.val + 1) :
    Ideal.div (((∑ i ∈ Finset.range n, P X s (112 + i) (grpIdx g b) : ℝ) : EReal) - ((∑ i ∈ Finset.range (q.val + 1 - w), P X s (112 + i) (grpIdx g b) : ℝ) : EReal))
      (((min w (q.val + 1) : ℕ) : ℝ) : EReal) = (mean X s q g b : EReal) := by
  subst hw hn
  rw [← EReal.coe_sub, back_eq (fun r => P X s r (grpIdx g b)) (fun r h => P_low s r _ h) _ (win_le g).1, ← cnt_grp q g b, div_real (cnt_ne _ _)]
  unfold mean
  rw [win_grp]

include h0 in
theorem v61 (s : Fin 4) (q : Fin 2064) (b : Fin 64) : val_main_v61 x0 (ix3 s q b) = (mean X s q 0 b : EReal) := by
  unfold val_main_v61 val_main_v60 val_main_v59 val_main_v54 val_main_v53 val_main_v42 val_main_v41
  pointwise
  rw [cnt58, v32 h0, gather_at _ _ s q b ⟨q.val + 1 - 2, by omega⟩ 0 (lo52 q).1 (lo52 q).2, v32 h0]
  exact mean_eq s q 0 b _ rfl _ (Nat.add_comm _ _)

include h0 in
theorem v88 (s : Fin 4) (q : Fin 2064) (b : Fin 64) : val_main_v88 x0 (ix3 s q b) = (mean X s q 1 b : EReal) := by
  unfold val_main_v88 val_main_v87 val_main_v86 val_main_v81 val_main_v80 val_main_v69 val_main_v68
  pointwise
  rw [cnt85, v32 h0, gather_at _ _ s q b ⟨q.val + 1 - 4, by omega⟩ 1 (lo79 q).1 (lo79 q).2, v32 h0]
  exact mean_eq s q 1 b _ rfl _ (Nat.add_comm _ _)

include h0 in
theorem v115 (s : Fin 4) (q : Fin 2064) (b : Fin 64) : val_main_v115 x0 (ix3 s q b) = (mean X s q 2 b : EReal) := by
  unfold val_main_v115 val_main_v114 val_main_v113 val_main_v108 val_main_v107 val_main_v96 val_main_v95
  pointwise
  rw [cnt112, v32 h0, gather_at _ _ s q b ⟨q.val + 1 - 8, by omega⟩ 2 (lo106 q).1 (lo106 q).2, v32 h0]
  exact mean_eq s q 2 b _ rfl _ (Nat.add_comm _ _)

include h0 in
theorem v142 (s : Fin 4) (q : Fin 2064) (b : Fin 64) : val_main_v142 x0 (ix3 s q b) = (mean X s q 3 b : EReal) := by
  unfold val_main_v142 val_main_v141 val_main_v140 val_main_v135 val_main_v134 val_main_v123 val_main_v122
  pointwise
  rw [cnt139, v32 h0, gather_at _ _ s q b ⟨q.val + 1 - 16, by omega⟩ 3 (lo133 q).1 (lo133 q).2, v32 h0]
  exact mean_eq s q 3 b _ rfl _ (Nat.add_comm _ _)

include h0 in
/-- The pooled rows. -/
theorem v148 (s : Fin 4) (q : Fin 2064) (g : Fin 4) (b : Fin 64) :
    val_main_v148 x0 (ix4 s q g b) = (pooled (P X s) (112 + q.val) (grpIdx g b) : EReal) := by
  have e : val_main_v147 x0 (ix4 s q g b) = (mean X s q g b : EReal) := by
    unfold val_main_v147 val_main_v143 val_main_v144 val_main_v145 val_main_v146
    pointwise
    split_ifs with e1 e2 e3
    · rw [v61 h0, show g = 0 from Fin.ext (by show g.val = 0; omega)]
    · rw [v88 h0, show g = 1 from Fin.ext (by show g.val = 1; omega)]
    · rw [v115 h0, show g = 2 from Fin.ext (by show g.val = 2; omega)]
    · rw [v142 h0, show g = 3 from Fin.ext (by show g.val = 3; omega)]
  unfold val_main_v148
  pointwise
  rw [e, v29 h0, ← EReal.coe_sub]
  exact congrArg _ (if_pos (by omega)).symm

end Cert.MixerRefIdeal.RefValue
-- ==== Proof.MixerRefMats.lean ====
/-
  What the reference of the mixer's backward computes after the pool, when its arguments are real numbers: the products
  with the pool's matrices, and the gradients of its scale, its matrices and its rows.
-/
module

public import proofs.«01_k».proof.Proof.MixerRefPool

@[expose] public section

set_option maxRecDepth 16384

noncomputable section

namespace Cert.MixerRefIdeal.RefValue

open Idealize.ShloMosaic Cert.MixerRefIdeal Cert.MixerRefIdeal.Gen Cert.MixerRefIdeal.Read Idealize.ShloMosaic.TcCoe
open Cert.Reals Cert.Padded Cert.MixerIdeal.Inputs Cert.MixerIdeal.Point Cert.MixerIdeal.Block Cert.MixerIdeal.Array Cert.Mixer Host4

variable {x0 : Vec Ideal S4x2064x1024 .f32} {x1 : Vec Ideal S4x2064x512 .f32} {x2 : Vec Ideal S3x256 .f32} {x3 : Vec Ideal S4x64x64 .f32} {x4 : Vec Ideal S256 .f32}
variable {X : Args}
variable (h0 : ∀ s q j, x0 (ix3 s q j) = (X.u s q j : EReal)) (h1 : ∀ s q j, x1 (ix3 s q j) = (X.dy s q j : EReal))
variable (h2 : ∀ k j, x2 (ix2 k j) = (X.w k j : EReal))
variable (h3 : ∀ g i j, x3 (ix3 g i j) = (X.p g i j : EReal)) (h4 : ∀ j, x4 (ix1 j) = (X.s j : EReal))

/-- The pool's part of the cotangent. -/
abbrev Q (X : Args) (s : Fin 4) : ℕ → Fin 256 → ℝ := part (lift X.dy s) 256

theorem grp_idx (g : Fin 4) (b : Fin 64) : grp (grpIdx g b) = g := Fin.ext (by show (64 * g.val + b.val) / 64 = g.val; omega)
theorem pos_idx (g : Fin 4) (b : Fin 64) : pos (grpIdx g b) = b := Fin.ext (by show (64 * g.val + b.val) % 64 = b.val; omega)
theorem idx_grp (j : Fin 256) : grpIdx (grp j) (pos j) = j := Fin.ext (by show 64 * (j.val / 64) + j.val % 64 = j.val; omega)

/-- A sum over the columns, of a function that is zero outside a group. -/
theorem sum_group (f : Fin 256 → ℝ) (g : Fin 4) (h : ∀ j, grp j ≠ g → f j = 0) : ∑ j, f j = ∑ b : Fin 64, f (grpIdx g b) := by
  rw [← Finset.sum_subset (Finset.subset_univ (Finset.univ.filter fun j => grp j = g)) fun j _ hj => h j fun e => hj (Finset.mem_filter.2 ⟨Finset.mem_univ _, e⟩)]
  refine (Finset.sum_nbij' (fun b => grpIdx g b) pos (fun b _ => Finset.mem_filter.2 ⟨Finset.mem_univ _, grp_idx g b⟩) (fun j _ => Finset.mem_univ _)
    (fun b _ => pos_idx g b) (fun j hj => ?_) fun b _ => rfl).symm
  rw [← (Finset.mem_filter.1 hj).2]
  exact idx_grp j

theorem diag_in (p : Fin 4 → Fin 64 → Fin 64 → ℝ) (g : Fin 4) (a b : Fin 64) : diag p (grpIdx g a) (grpIdx g b) = p g a b := by
  unfold diag
  rw [grp_idx, grp_idx, if_pos rfl, pos_idx, pos_idx]

theorem diag_out (p : Fin 4 → Fin 64 → Fin 64 → ℝ) (i j : Fin 256) (h : grp i ≠ grp j) : diag p i j = 0 := if_neg h

include h0 h3 in
theorem v149 (s : Fin 4) (q : Fin 2064) (g : Fin 4) (b : Fin 64) : val_main_v149 x0 x3 (ix4 g b s q)
    = ((∑ k : Fin 256, pooled (P X s) (112 + q.val) k * diag X.p k (grpIdx g b) : ℝ) : EReal) := by
  unfold val_main_v149
  pointwise
  rw [sum_group _ g fun j hj => by rw [diag_out _ _ _ (by rwa [grp_idx]), mul_zero]]
  simp only [h3, v148 h0, diag_in, ← EReal.coe_mul, sum_coe, mul_comm]

include h0 h3 in
theorem v151 (s : Fin 4) (q : Fin 2064) (j : Fin 256) : val_main_v151 x0 x3 (ix3 s q j)
    = ((∑ k : Fin 256, pooled (P X s) (112 + q.val) k * diag X.p k j : ℝ) : EReal) := by
  unfold val_main_v151 val_main_v150
  pointwise
  have e := v149 h0 h3 s q (grp j) (pos j)
  rw [idx_grp] at e
  exact e

include h1 h4 in
theorem v162 (s : Fin 4) (q : Fin 2064) (j : Fin 256) : val_main_v162 x1 x4 (ix3 s q j) = ((Q X s (112 + q.val) j * X.s j : ℝ) : EReal) := by
  unfold val_main_v162 val_main_v161 val_main_v157 val_main_v152
  pointwise
  rw [h1, h4, ← EReal.coe_mul]
  refine congrArg (fun r : ℝ => ((r * X.s j : ℝ) : EReal)) (lift_row _ _ _ _ _ _ rfl rfl).symm

include h1 h4 in
theorem v165 (s : Fin 4) (q : Fin 2064) (g : Fin 4) (b : Fin 64) : val_main_v165 x1 x4 (ix4 g b s q)
    = ((Q X s (112 + q.val) (grpIdx g b) * X.s (grpIdx g b) : ℝ) : EReal) := by
  unfold val_main_v165 val_main_v164
  pointwise
  refine (congrArg (fun j => val_main_v162 x1 x4 (ix3 s q j)) (Fin.ext ?_)).trans (v162 h1 h4 s q (grpIdx g b))
  show g.val * 64 + b.val = 64 * g.val + b.val
  omega

include h1 h3 h4 in
theorem v167 (s : Fin 4) (q : Fin 2064) (g : Fin 4) (a : Fin 64) : val_main_v167 x1 x3 x4 (ix4 s q g a)
    = (dmean (Q X s) (diag X.p) X.s (112 + q.val) (grpIdx g a) : EReal) := by
  unfold val_main_v167 val_main_v166
  pointwise
  unfold dmean
  rw [if_pos ⟨by omega, by omega⟩, sum_group _ g fun j hj => by rw [diag_out _ _ _ (by rw [grp_idx]; exact hj.symm), mul_zero]]
  simp only [h3, v165 h1 h4, diag_in, ← EReal.coe_mul, sum_coe]

include h0 h1 h4 in
theorem v169 (g : Fin 4) (a b : Fin 64) : val_main_v169 x0 x1 x4 (ix3 g a b) = matsArr X (ix3 g a b) := by
  have e : matsArr X (ix3 g a b) = ((∑ s : Fin 4, ∑ q : Fin 2064, pooled (P X s) (112 + q.val) (grpIdx g a) * (Q X s (112 + q.val) (grpIdx g b) * X.s (grpIdx g b)) : ℝ) : EReal) := by
    show ((∑ p ∈ Finset.range 4, mat X (grpIdx g a) (grpIdx g b) p : ℝ) : EReal) = _
    rw [Finset.sum_range]
    refine congrArg _ (Finset.sum_congr rfl fun s _ => ?_)
    show dmat (lift X.u _) (lift X.dy _) X.s (grpIdx g a) (grpIdx g b) = _
    rw [show sqn s.val = s from Fin.ext (Nat.mod_eq_of_lt s.isLt)]
    exact sum_sequence (fun r => pooled (P X s) r (grpIdx g a) * (Q X s r (grpIdx g b) * X.s (grpIdx g b))) fun r h => by
      rw [show pooled (P X s) r (grpIdx g a) = 0 from if_neg (by omega), zero_mul]
  rw [e]
  unfold val_main_v169 val_main_v168
  pointwise
  simp only [v165 h1 h4, v148 h0, ← EReal.coe_mul, sum_coe, mul_comm]

include h0 h1 h3 in
/-- The gradient of the pool's scale. -/
theorem v260 (j : Fin 256) : val_main_v260 x0 x1 x3 (ix2 0 j) = scaleArr X (ix2 0 j) := by
  have e : scaleArr X (ix2 0 j) = ((∑ s : Fin 4, ∑ q : Fin 2064, Q X s (112 + q.val) j * ∑ k : Fin 256, pooled (P X s) (112 + q.val) k * diag X.p k j : ℝ) : EReal) := by
    show ((∑ p ∈ Finset.range 4, scale X j p : ℝ) : EReal) = _
    rw [Finset.sum_range]
    refine congrArg _ (Finset.sum_congr rfl fun s _ => ?_)
    show dscale (lift X.u _) (lift X.dy _) (diag X.p) j = _
    rw [show sqn s.val = s from Fin.ext (Nat.mod_eq_of_lt s.isLt)]
    exact sum_sequence (fun r => Q X s r j * ∑ k : Fin 256, pooled (P X s) r k * diag X.p k j) fun r h => by
      rw [show Q X s r j = 0 from lift_low _ _ _ _ h, zero_mul]
  have e1 : val_main_v159 x0 x1 x3 (ix1 j) = scaleArr X (ix2 0 j) := by
    rw [e]
    unfold val_main_v159 val_main_v158 val_main_v157 val_main_cst_30
    pointwise
    rw [Cert.SumRows.sum_rows, zero_add]
    pointwise
    have d (s : Fin 4) (q : Fin 2064) (h) : X.dy s q ⟨256 + j.val, h⟩ = Q X s (112 + q.val) j := (lift_row _ _ _ _ _ _ rfl rfl).symm
    simp only [v151 h0 h3, h1, d, ← EReal.coe_mul, sum_coe, mul_comm]
  unfold val_main_v260 val_main_v163 val_main_v160 val_main_cst_31
  pointwise
  rw [Cert.SumRows.sum_rows, zero_add, Fin.sum_univ_one, Fin.sum_univ_one]
  pointwise
  exact e1

/-! ## The pool's rows -/

/-- What a row of the pool's mean receives. -/
def x (X : Args) (s : Fin 4) (g : Fin 4) (b : Fin 64) (i : ℕ) : ℝ :=
  dmean (Q X s) (diag X.p) X.s (112 + i) (grpIdx g b) / (cnt (112 + i) (grpIdx g b).val : ℝ)

/-- The mean's gradient, from the pooled rows' and the number of rows met. -/
theorem mean_back (s : Fin 4) (q : Fin 2064) (g : Fin 4) (b : Fin 64) (w : ℕ) (hw : w = 2 * 2 ^ g.val) :
    Ideal.div (dmean (Q X s) (diag X.p) X.s (112 + q.val) (grpIdx g b) : EReal) (((min w (q.val + 1) : ℕ) : ℝ) : EReal) = (x X s g b q.val : EReal) := by
  subst hw
  rw [← cnt_grp q g b, div_real (cnt_ne _ _)]
  rfl

include h1 h3 h4 in
theorem v206 (s : Fin 4) (q : Fin 2064) (b : Fin 64) : val_main_v206 x1 x3 x4 (ix3 s q b) = (x X s 0 b q.val : EReal) := by
  unfold val_main_v206 val_main_v205 val_main_v59 val_main_v172 val_main_v171
  pointwise
  rw [cnt58, v167 h1 h3 h4]
  exact mean_back s q 0 b _ rfl

include h1 h3 h4 in
theorem v197 (s : Fin 4) (q : Fin 2064) (b : Fin 64) : val_main_v197 x1 x3 x4 (ix3 s q b) = (x X s 1 b q.val : EReal) := by
  unfold val_main_v197 val_main_v196 val_main_v86 val_main_v174 val_main_v173
  pointwise
  rw [cnt85, v167 h1 h3 h4]
  exact mean_back s q 1 b _ rfl

include h1 h3 h4 in
theorem v188 (s : Fin 4) (q : Fin 2064) (b : Fin 64) : val_main_v188 x1 x3 x4 (ix3 s q b) = (x X s 2 b q.val : EReal) := by
  unfold val_main_v188 val_main_v187 val_main_v113 val_main_v176 val_main_v175
  pointwise
  rw [cnt112, v167 h1 h3 h4]
  exact mean_back s q 2 b _ rfl

include h1 h3 h4 in
theorem v180 (s : Fin 4) (q : Fin 2064) (b : Fin 64) : val_main_v180 x1 x3 x4 (ix3 s q b) = (x X s 3 b q.val : EReal) := by
  unfold val_main_v180 val_main_v179 val_main_v140 val_main_v178 val_main_v177
  pointwise
  rw [cnt139, v167 h1 h3 h4]
  exact mean_back s q 3 b _ rfl

/-- What the rows of the running sums lose: row `n` of group `g`, for the rows whose window starts there. -/
def lost (X : Args) (s : Fin 4) (g : Fin 4) (n : ℕ) (b : Fin 64) : ℝ := ∑ t : Fin 2064, if t.val + 1 - 2 * 2 ^ g.val = n then -x X s g b t.val else 0

include h1 h3 h4 in
theorem v209 (s : Fin 4) (n : Fin 2065) (g : Fin 4) (b : Fin 64) : val_main_v209 x1 x3 x4 (ix4 s n g b) = ((if g = 0 then lost X s 0 n.val b else 0 : ℝ) : EReal) := by
  unfold val_main_v209 val_main_v208 val_main_cst_38
  exact scatter_at _ _ _ (fun s t b => -x X s 0 b t.val) (fun t => t + 1 - 2) 0 (fun i => by pointwise) (fun t => (lo52 t).1) (fun t => (lo52 t).2)
    (fun s t b => by unfold val_main_v207; pointwise; rw [v206 h1 h3 h4]; rfl) s n g b

include h1 h3 h4 in
theorem v200 (s : Fin 4) (n : Fin 2065) (g : Fin 4) (b : Fin 64) : val_main_v200 x1 x3 x4 (ix4 s n g b) = ((if g = 1 then lost X s 1 n.val b else 0 : ℝ) : EReal) := by
  unfold val_main_v200 val_main_v199 val_main_cst_36
  exact scatter_at _ _ _ (fun s t b => -x X s 1 b t.val) (fun t => t + 1 - 4) 1 (fun i => by pointwise) (fun t => (lo79 t).1) (fun t => (lo79 t).2)
    (fun s t b => by unfold val_main_v198; pointwise; rw [v197 h1 h3 h4]; rfl) s n g b

include h1 h3 h4 in
theorem v191 (s : Fin 4) (n : Fin 2065) (g : Fin 4) (b : Fin 64) : val_main_v191 x1 x3 x4 (ix4 s n g b) = ((if g = 2 then lost X s 2 n.val b else 0 : ℝ) : EReal) := by
  unfold val_main_v191 val_main_v190 val_main_cst_34
  exact scatter_at _ _ _ (fun s t b => -x X s 2 b t.val) (fun t => t + 1 - 8) 2 (fun i => by pointwise) (fun t => (lo106 t).1) (fun t => (lo106 t).2)
    (fun s t b => by unfold val_main_v189; pointwise; rw [v188 h1 h3 h4]; rfl) s n g b

include h1 h3 h4 in
theorem v183 (s : Fin 4) (n : Fin 2065) (g : Fin 4) (b : Fin 64) : val_main_v183 x1 x3 x4 (ix4 s n g b) = ((if g = 3 then lost X s 3 n.val b else 0 : ℝ) : EReal) := by
  unfold val_main_v183 val_main_v182 val_main_cst_32
  exact scatter_at _ _ _ (fun s t b => -x X s 3 b t.val) (fun t => t + 1 - 16) 3 (fun i => by pointwise) (fun t => (lo133 t).1) (fun t => (lo133 t).2)
    (fun s t b => by unfold val_main_v181; pointwise; rw [v180 h1 h3 h4]; rfl) s n g b

include h1 h3 h4 in
/-- What a row of the running sums receives: from the window that ends there, less what it gives where windows start. -/
theorem v213 (s : Fin 4) (q : Fin 2064) (g : Fin 4) (b : Fin 64) : val_main_v213 x1 x3 x4 (ix4 s ⟨q.val + 1, by omega⟩ g b)
     = ((x X s g b q.val + lost X s g (q.val + 1) b : ℝ) : EReal) := by
  unfold val_main_v213 val_main_v212 val_main_v211 val_main_v210 val_main_v204 val_main_v203 val_main_v202 val_main_v201 val_main_v195 val_main_v194 val_main_v193 val_main_v192 val_main_v186 val_main_v185 val_main_v184
   val_main_cst_39 val_main_cst_37 val_main_cst_35 val_main_cst_33
  pointwise
  simp only [v209 h1 h3 h4, v200 h1 h3 h4, v191 h1 h3 h4, v183 h1 h3 h4, v206 h1 h3 h4, v197 h1 h3 h4, v188 h1 h3 h4, v180 h1 h3 h4]
  have hq := q.isLt
  fin_cases g
  · rw [dif_neg (by simp), dif_neg (by simp), dif_neg (by simp), dif_pos (by simp)]
    simp [← EReal.coe_add, add_comm]
  · rw [dif_neg (by simp), dif_neg (by simp), dif_pos (by simp), dif_neg (by simp)]
    simp [← EReal.coe_add, add_comm]
  · rw [dif_neg (by simp), dif_pos (by simp), dif_neg (by simp), dif_neg (by simp)]
    simp [← EReal.coe_add, add_comm]
  · rw [dif_pos (by simp), dif_neg (by simp), dif_neg (by simp), dif_neg (by simp)]
    simp [← EReal.coe_add, add_comm]

theorem x_high (s g : Fin 4) (b : Fin 64) (r : ℕ) (h : 2064 ≤ r) : x X s g b r = 0 := by
  unfold x dmean
  rw [if_neg (by omega), zero_div]

include h1 h3 h4 in
theorem v215 (s : Fin 4) (q : Fin 2064) (g : Fin 4) (b : Fin 64) : val_main_v215 x1 x3 x4 (ix4 s q g b)
     = ((x X s g b q.val - ∑ t : Fin 2064, if t.val + 1 - 2 * 2 ^ g.val = q.val + 1 then x X s g b t.val else 0 : ℝ) : EReal) := by
  have e : lost X s g (q.val + 1) b = -∑ t : Fin 2064, if t.val + 1 - 2 * 2 ^ g.val = q.val + 1 then x X s g b t.val else 0 := by
    unfold lost
    rw [← Finset.sum_neg_distrib]
    refine Finset.sum_congr rfl fun i _ => ?_
    split_ifs
    · rfl
    · exact neg_zero.symm
  have e1 : val_main_v215 x1 x3 x4 (ix4 s q g b) = val_main_v213 x1 x3 x4 (ix4 s ⟨q.val + 1, by omega⟩ g b) := by
    unfold val_main_v215
    pointwise
    refine congrArg (fun n => val_main_v213 x1 x3 x4 (ix4 s n g b)) (Fin.ext ?_)
    exact Nat.add_comm _ _
  rw [e1, v213 h1 h3 h4, e, sub_eq_add_neg]

include h1 h3 h4 in
theorem v216 (s : Fin 4) (q : Fin 2064) (g : Fin 4) (b : Fin 64) : val_main_v216 x1 x3 x4 (ix4 s q g b)
     = ((∑ i ∈ Finset.range (2 * 2 ^ g.val), x X s g b (q.val + i) : ℝ) : EReal) := by
  unfold val_main_v216
  refine (rows_at 0 2063 _ _ _ _ (fun i => by unfold val_main_call1_v0 val_main_call1_cst; pointwise)
    (fun i => x X s g b i - ∑ t : Fin 2064, if t.val + 1 - 2 * 2 ^ g.val = i + 1 then x X s g b t.val else 0) s g b (fun t => v215 h1 h3 h4 s t g b) q).trans (congrArg _ ?_)
  exact (running_back (fun i => x X s g b i - ∑ t : Fin 2064, if t.val + 1 - 2 * 2 ^ g.val = i + 1 then x X s g b t.val else 0) _ q.isLt).trans
    (ahead_eq _ (fun r h => x_high s g b r h) _ (win_le g).2 _ q.isLt)

include h1 h3 h4 in
/-- The gradient of the pool's rows. -/
theorem v217 (s : Fin 4) (q : Fin 2064) (g : Fin 4) (b : Fin 64) : val_main_v217 x1 x3 x4 (ix4 s q g b)
     = (row X s 3 (112 + q.val) (grpIdx g b) : EReal) := by
  unfold val_main_v217 val_main_v170
  pointwise
  rw [v167 h1 h3 h4, v216 h1 h3 h4]
  rw [← EReal.coe_neg, ← EReal.coe_add]
  refine congrArg _ ?_
  unfold row du
  rw [if_pos (by omega), win_grp, neg_add_eq_sub]
  refine congrArg (· - _) ?_
  unfold ahead
  refine Finset.sum_congr rfl fun i _ => ?_
  show x X s g b (q.val + i) = _
  unfold x
  rw [show 112 + (q.val + i) = 112 + q.val + i by omega]

include h1 h3 h4 in
theorem v218 (s : Fin 4) (q : Fin 2064) (j : Fin 256) : val_main_v218 x1 x3 x4 (ix3 s q j)
     = (row X s 3 (112 + q.val) j : EReal) := by
  unfold val_main_v218
  pointwise
  have e := v217 h1 h3 h4 s q (grp j) (pos j)
  rw [idx_grp] at e
  exact e

/-! ## The rows together -/

theorem row_low (s k : Fin 4) (r : ℕ) (j : Fin 256) (h : r < 112) : row X s k r j = 0 := by
  unfold row
  fin_cases k <;> unfold du part <;> dsimp only
  · rw [lift_low _ _ _ _ h, zero_mul]
  · rw [lift_low _ _ _ _ h, mul_zero]
  · rw [lift_low _ _ _ _ h, mul_zero]
  · rw [if_neg (by omega)]

include h0 h1 h2 h3 h4 in
theorem v256 (s : Fin 4) (q : Fin 2064) (j : Fin 1024) : val_main_v256 x0 x1 x2 x3 x4 (ix3 s q j)
     = ((row X s ⟨j.val / 256 % 4, Nat.mod_lt _ (by norm_num)⟩ (112 + q.val) ⟨j.val % 256, Nat.mod_lt _ (by norm_num)⟩ : ℝ) : EReal) := by
  have hj := j.isLt
  have key (k : Fin 4) (n : Fin 256) (e : j.val = 256 * k.val + n.val) :
      (row X s k (112 + q.val) n : EReal) = ((row X s ⟨j.val / 256 % 4, Nat.mod_lt _ (by norm_num)⟩ (112 + q.val) ⟨j.val % 256, Nat.mod_lt _ (by norm_num)⟩ : ℝ) : EReal) := by
    rw [show (⟨j.val / 256 % 4, Nat.mod_lt _ (by norm_num)⟩ : Fin 4) = k from Fin.ext (by show j.val / 256 % 4 = k.val; omega),
      show (⟨j.val % 256, Nat.mod_lt _ (by norm_num)⟩ : Fin 256) = n from Fin.ext (by show j.val % 256 = n.val; omega)]
  unfold val_main_v256
  pointwise
  split_ifs
  all_goals
    first
    | exact (v220 h0 h1 h2 s q _).trans (key 0 _ (by show j.val = 256 * 0 + _; simp))
    | exact (v255 h0 h1 h2 s q _).trans (key 1 _ (by show j.val = 256 * 1 + (j.val - 256); omega))
    | exact (v254 h0 h1 h2 s q _).trans (key 2 _ (by show j.val = 256 * 2 + (j.val - 256 - 256); omega))
    | exact (v218 h1 h3 h4 s q _).trans (key 3 _ (by show j.val = 256 * 3 + (j.val - 256 - 256 - 256); omega))
    | exact absurd rfl ‹_›

include h0 h1 h2 h3 h4 in
/-- The gradient of the rows. -/
theorem v259 : val_main_v259 x0 x1 x2 x3 x4 = rowArr X := by
  funext i
  obtain ⟨r, j, rfl⟩ := ex2 i
  have hs : sqn (r.val / 2176) = ⟨r.val / 2176, by omega⟩ := Fin.ext (Nat.mod_eq_of_lt (by omega))
  have e : rowArr X (ix2 r j) = ((row X ⟨r.val / 2176, by omega⟩ ⟨j.val / 256 % 4, Nat.mod_lt _ (by norm_num)⟩ (r.val % 2176) ⟨j.val % 256, Nat.mod_lt _ (by norm_num)⟩ : ℝ) : EReal) := by
    rw [← hs]; rfl
  rw [e]
  unfold val_main_v259 val_main_v258 val_main_v257
  pointwise
  split_ifs with h
  · rw [v256 h0 h1 h2 h3 h4]
    have e1 : 112 + (r.val % 2176 - 112) = r.val % 2176 := by omega
    exact congrArg (fun n => ((row X ⟨r.val / 2176, by omega⟩ ⟨j.val / 256 % 4, Nat.mod_lt _ (by norm_num)⟩ n ⟨j.val % 256, Nat.mod_lt _ (by norm_num)⟩ : ℝ) : EReal)) e1
  · rw [row_low _ _ _ _ (by omega)]
    unfold val_main_call2_v0 val_main_c_52
    pointwise
    show (((0#32 : BitVec 32).toInt : ℝ) : EReal) = _
    rw [show (0#32 : BitVec 32).toInt = 0 from rfl, Int.cast_zero]

/-! ## The gradients of the weights, as arrays -/

include h0 h1 in
theorem taps_eq : val_main_v251 x0 x1 = tapArr X := by
  funext i
  obtain ⟨k, j, rfl⟩ := ex2 i
  exact v251 h0 h1 k j

include h0 h1 h3 in
theorem scale_eq : val_main_v260 x0 x1 x3 = scaleArr X := by
  funext i
  obtain ⟨k, j, rfl⟩ := ex2 i
  rw [show k = 0 from Subsingleton.elim _ _]
  exact v260 h0 h1 h3 j

include h0 h1 h4 in
theorem mats_eq : val_main_v169 x0 x1 x4 = matsArr X := by
  funext i
  obtain ⟨g, a, b, rfl⟩ := ex3 i
  exact v169 h0 h1 h4 g a b

end Cert.MixerRefIdeal.RefValue
-- ==== Proof.MixerClaim.lean ====
/-
  The claims about the mixer's backward: the precondition read, the kernel's run and the reference's run set side by side.
-/
module

public import proofs.«01_k».proof.Defs
public import proofs.«01_k».proof.Proof.MixerRefMats
public import proofs.«01_k».proof.Proof.Gen.Pre_finite_mixer

@[expose] public section

set_option maxRecDepth 16384

noncomputable section

namespace Cert.MixerClaim

open Idealize.ShloMosaic Idealize.SL.Sem Idealize.ShloMosaic.TcCoe Cert.Reals Cert.MixerIdeal.Array Cert.MixerIdeal.Inputs

/-- The reference of the mixer's backward ends with every counter at zero: it has none. -/
theorem frame_ref : Cert.quiescent_MixerRefIdeal := fun m g _ =>
  (θ_run Cert.MixerRefIdeal.defs _ _).mono (fun r h => ⟨fun c => (h c).2.2.2.2, sem_eq_zero_of_no_sems rfl r.2⟩) (Cert.MixerRefIdeal.Value.run m g)

/-- The precondition says that the arguments are real numbers. -/
theorem holds_of_pre (m : (ℓ : Loc Cert.MixerIdeal.nD Cert.MixerIdeal.τ Cert.MixerIdeal.sig) → Buf (Elt Ideal) ℓ)
    (h : Cert.Pre_MixerIdeal_finite_mixer m) (c : Dev Cert.MixerIdeal.nD) : ∃ X, Holds m X c := by
  have e := congrFun (h c) (fun a => a.elim0)
  unfold Cert.Pre_finite_mixer.fn at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _, _, _, _⟩, fun s q j => (isReal_of_all _ _ (fun _ => ofBits_inf) _ _ _ _ e0).eq _,
    fun s q j => (isReal_of_all _ _ (fun _ => ofBits_inf) _ _ _ _ e1).eq _,
    fun k j => (isReal_of_all _ _ (fun _ => ofBits_inf) _ _ _ _ e2).eq _,
    fun g i j => (isReal_of_all _ _ (fun _ => ofBits_inf) _ _ _ _ e3).eq _,
    fun j => (isReal_of_all _ _ (fun _ => ofBits_inf) _ _ _ _ e4).eq _⟩

/-- On real arguments the kernel and the derivative of the mixer give the same rows and the same three gradients of weights. -/
theorem algebraic : Cert.algebraic_MixerIdeal_MixerRefIdeal_pre_finite_mixer := by
  intro m g m' g' hpre hargs
  choose X hm using holds_of_pre m hpre
  refine ⟨fun c => rowArr (X c), fun c => tapArr (X c), fun c => scaleArr (X c), fun c => matsArr (X c), run_result m X hm g,
    (θ_run Cert.MixerRefIdeal.defs _ _).mono (fun r h c => ?_) (Cert.MixerRefIdeal.Value.run m' g')⟩
  obtain ⟨h0, h1, h2, h3, hk⟩ := h c
  obtain ⟨a0, a1, a2, a3, a4⟩ := hargs c
  have b0 := fun s q j => (congrFun a0 (ix3 s q j)).trans ((hm c).1 s q j)
  have b1 := fun s q j => (congrFun a1 (ix3 s q j)).trans ((hm c).2.1 s q j)
  have b2 := fun k j => (congrFun a2 (ix2 k j)).trans ((hm c).2.2.1 k j)
  have b3 := fun g i j => (congrFun a3 (ix3 g i j)).trans ((hm c).2.2.2.1 g i j)
  have b4 := fun j => (congrFun a4 (ix1 j)).trans ((hm c).2.2.2.2 j)
  exact ⟨h0.trans ((Cert.MixerRefIdeal.Read.val_main_v259_eq ..).trans (Cert.MixerRefIdeal.RefValue.v259 b0 b1 b2 b3 b4)),
    h1.trans ((Cert.MixerRefIdeal.Read.val_main_v251_eq ..).trans (Cert.MixerRefIdeal.RefValue.taps_eq b0 b1)),
    h2.trans ((Cert.MixerRefIdeal.Read.val_main_v260_eq ..).trans (Cert.MixerRefIdeal.RefValue.scale_eq b0 b1 b3)),
    h3.trans ((Cert.MixerRefIdeal.Read.val_main_v169_eq ..).trans (Cert.MixerRefIdeal.RefValue.mats_eq b0 b1 b4)), hk⟩

end Cert.MixerClaim
-- ==== Proof.AttnSpec.lean ====
/-
  The gradient of stick-breaking attention on real numbers, for one sequence of `n` rows: what the kernel and the
  reference are both shown to compute. A query at row `t` weighs the keys at rows `s < t` by `exp (z t s + w t s)`, where
  `w t s` sums the logarithms of what the keys from `s` on keep.
-/
module

public import proofs.«01_k».proof.Proof.Reals

@[expose] public section

noncomputable section

namespace Cert.AttnSpec

open Finset

/-- The softplus of a real, as the step spells it. -/
def sp (z : ℝ) : ℝ := max z 0 + Real.log (1 + Real.exp (-|z|))

/-- One sequence: the queries, keys, values and output gradients at a row and a column. -/
structure Seq where
  n : ℕ
  q : ℕ → ℕ → ℝ
  k : ℕ → ℕ → ℝ
  v : ℕ → ℕ → ℝ
  o : ℕ → ℕ → ℝ

namespace Seq

variable (x : Seq) (h t s : ℕ)

/-- The score of head `h`. -/
def z : ℝ := ∑ e ∈ range 64, x.q t (64 * h + e) * (1 / 8) * x.k s (64 * h + e)
/-- The logarithm of what a key keeps. -/
def lk : ℝ := if s < t then -sp (x.z h t s) else 0
/-- The logarithms' sum from a key on. -/
def w : ℝ := ∑ j ∈ Ico s x.n, x.lk h t j
/-- The attention weight. -/
def a : ℝ := if s < t then Real.exp (x.z h t s + x.w h t s) else 0
/-- The weight's gradient. -/
def da : ℝ := ∑ e ∈ range 64, x.o t (64 * h + e) * x.v s (64 * h + e)
/-- The gradient that reaches the exponent. -/
def g : ℝ := x.da h t s * x.a h t s
/-- What the earlier keys' exponents hand on. -/
def b : ℝ := ∑ j ∈ range s, x.g h t j
/-- The sigmoid of the score. -/
def sg : ℝ := Real.exp (x.z h t s - sp (x.z h t s))
/-- The score's gradient. -/
def dz : ℝ := if s < t then x.g h t s * (1 - x.sg h t s) - x.b h t s * x.sg h t s else 0

/-- The gradients of the queries, keys and values at a row and a column. -/
def dq (t y : ℕ) : ℝ := (∑ s ∈ range x.n, x.dz (y / 64) t s * x.k s y) * (1 / 8)
def dk (s y : ℕ) : ℝ := ∑ t ∈ range x.n, x.dz (y / 64) t s * (x.q t y * (1 / 8))
def dv (s y : ℕ) : ℝ := ∑ t ∈ range x.n, x.a (y / 64) t s * x.o t y

variable {x h t s}

theorem lk_zero (e : t ≤ s) : x.lk h t s = 0 := if_neg (not_lt.2 e)
theorem a_zero (e : t ≤ s) : x.a h t s = 0 := if_neg (not_lt.2 e)
theorem g_zero (e : t ≤ s) : x.g h t s = 0 := by rw [g, a_zero e, mul_zero]
theorem dz_zero (e : t ≤ s) : x.dz h t s = 0 := if_neg (not_lt.2 e)
theorem w_zero (e : t ≤ s) : x.w h t s = 0 :=
  sum_eq_zero fun j hj => lk_zero (e.trans (mem_Ico.1 hj).1)

end Seq

/-! ## Sums over windows, halves and stacked rows -/

/-- Half the lanes. -/
theorem half_sum (f : ℕ → ℝ) (h : ℕ) (hh : h < 2) :
    ∑ j : Fin 128, (if j.val / 64 = h then f j.val else 0) = ∑ e ∈ range 64, f (64 * h + e) := by
  rw [Fin.sum_univ_eq_sum_range (fun j => if j / 64 = h then f j else 0) 128, show 128 = 64 + 64 from rfl, sum_range_add]
  have h1 : ∀ e ∈ range 64, (if e / 64 = h then f e else 0) = if h = 0 then f e else 0 := fun e he => by
    rw [Nat.div_eq_of_lt (mem_range.1 he)]; exact if_congr eq_comm rfl rfl
  have h2 : ∀ e ∈ range 64, (if (64 + e) / 64 = h then f (64 + e) else 0) = if h = 1 then f (64 + e) else 0 := fun e he => by
    have := mem_range.1 he
    rw [show (64 + e) / 64 = 1 by omega]; exact if_congr eq_comm rfl rfl
  rw [sum_congr rfl h1, sum_congr rfl h2]
  interval_cases h <;> simp

/-- Half the stacked rows. -/
theorem stack_sum (f : ℕ → ℝ) (h : ℕ) (hh : h < 2) :
    ∑ r : Fin 256, (if h = r.val / 128 then f (r.val % 128) else 0) = ∑ r ∈ range 128, f r := by
  rw [Fin.sum_univ_eq_sum_range (fun r => if h = r / 128 then f (r % 128) else 0) 256, show 256 = 128 + 128 from rfl, sum_range_add]
  have h1 : ∀ e ∈ range 128, (if h = e / 128 then f (e % 128) else 0) = if h = 0 then f e else 0 := fun e he => by
    rw [Nat.div_eq_of_lt (mem_range.1 he), Nat.mod_eq_of_lt (mem_range.1 he)]
  have h2 : ∀ e ∈ range 128, (if h = (128 + e) / 128 then f ((128 + e) % 128) else 0) = if h = 1 then f e else 0 := fun e he => by
    have := mem_range.1 he
    rw [show (128 + e) / 128 = 1 by omega, show (128 + e) % 128 = e by omega]
  rw [sum_congr rfl h1, sum_congr rfl h2]
  interval_cases h <;> simp

/-- A window's lanes that satisfy a bound on their row are a range of rows. -/
theorem win_sum (f : ℕ → ℝ) (lo a b : ℕ) (ha : lo ≤ a) (hb : b ≤ lo + 256) :
    ∑ c : Fin 256, (if a ≤ lo + c.val ∧ lo + c.val < b then f (lo + c.val) else 0) = ∑ s ∈ Ico a b, f s := by
  rw [Fin.sum_univ_eq_sum_range (fun c => if a ≤ lo + c ∧ lo + c < b then f (lo + c) else 0) 256, ← sum_filter]
  refine sum_bij (fun c _ => lo + c) (fun c hc => ?_) (fun c _ d _ e => by omega) (fun s hs => ?_) (fun _ _ => rfl)
  · exact mem_Ico.2 (mem_filter.1 hc).2
  · have := mem_Ico.1 hs
    exact ⟨s - lo, mem_filter.2 ⟨mem_range.2 (by omega), by omega⟩, by omega⟩

end Cert.AttnSpec
-- ==== Proof.AttnShift.lean ====
/-
  Rows of zeros before a sequence change nothing: a key of zero value passes no gradient on, and a query of zero rows
  and zero output gradient adds nothing to a key's or a value's gradient.
-/
module

public import proofs.«01_k».proof.Proof.AttnSpec

@[expose] public section

noncomputable section

namespace Cert.AttnSpec

open Finset

/-- An array with 112 rows of zeros before it. -/
def shift (X : ℕ → ℕ → ℝ) (t y : ℕ) : ℝ := if 112 ≤ t then X (t - 112) y else 0

theorem shift_add (X : ℕ → ℕ → ℝ) (t y : ℕ) : shift X (t + 112) y = X t y := by
  rw [shift, if_pos (Nat.le_add_left _ _), Nat.add_sub_cancel]

theorem shift_lt (X : ℕ → ℕ → ℝ) {t : ℕ} (h : t < 112) (y : ℕ) : shift X t y = 0 := if_neg (not_le.2 h)

/-- A sum over the padded rows whose first terms are zero. -/
theorem sum_pad (f : ℕ → ℝ) (n : ℕ) (h : ∀ j < 112, f j = 0) : ∑ j ∈ range (n + 112), f j = ∑ j ∈ range n, f (j + 112) := by
  rw [Nat.add_comm, sum_range_add, sum_eq_zero fun j hj => h j (mem_range.1 hj), zero_add]
  exact sum_congr rfl fun j _ => by rw [Nat.add_comm]

namespace Seq

/-- The padded sequence. -/
def pad (x : Seq) : Seq := ⟨x.n + 112, shift x.q, shift x.k, shift x.v, shift x.o⟩

variable (x : Seq) (h t s y : ℕ)

theorem pad_z : x.pad.z h (t + 112) (s + 112) = x.z h t s := by
  simp only [z, pad, shift_add]

theorem pad_lk : x.pad.lk h (t + 112) (s + 112) = x.lk h t s := by
  simp only [lk, pad_z, Nat.add_lt_add_iff_right]

theorem pad_w : x.pad.w h (t + 112) (s + 112) = x.w h t s := by
  rw [w, w, show x.pad.n = x.n + 112 from rfl, ← sum_Ico_add']
  exact sum_congr rfl fun j _ => pad_lk ..

theorem pad_a : x.pad.a h (t + 112) (s + 112) = x.a h t s := by
  simp only [a, pad_z, pad_w, Nat.add_lt_add_iff_right]

theorem pad_da : x.pad.da h (t + 112) (s + 112) = x.da h t s := by
  simp only [da, pad, shift_add]

theorem pad_g : x.pad.g h (t + 112) (s + 112) = x.g h t s := by
  rw [g, g, pad_da, pad_a]

theorem pad_b : x.pad.b h (t + 112) (s + 112) = x.b h t s := by
  rw [b, b, sum_pad _ _ fun j hj => ?_]
  · exact sum_congr rfl fun j _ => pad_g ..
  · rw [g, da, sum_eq_zero fun e _ => ?_, zero_mul]
    show _ * shift x.v j _ = 0
    rw [shift_lt _ hj, mul_zero]

theorem pad_dz : x.pad.dz h (t + 112) (s + 112) = x.dz h t s := by
  simp only [dz, pad_g, pad_b, sg, pad_z, Nat.add_lt_add_iff_right]

theorem pad_dq : x.pad.dq (t + 112) y = x.dq t y := by
  rw [dq, dq, show x.pad.n = x.n + 112 from rfl, sum_pad _ _ fun j hj => ?_]
  · exact congrArg (· * _) (sum_congr rfl fun j _ => congrArg₂ (· * ·) (pad_dz ..) (shift_add ..))
  · show _ * shift x.k j _ = 0
    rw [shift_lt _ hj, mul_zero]

theorem pad_dk : x.pad.dk (s + 112) y = x.dk s y := by
  rw [dk, dk, show x.pad.n = x.n + 112 from rfl, sum_pad _ _ fun j hj => ?_]
  · exact sum_congr rfl fun j _ => congrArg₂ (· * ·) (pad_dz ..) (congrArg (· * _) (shift_add ..))
  · show _ * (shift x.q j _ * _) = 0
    rw [shift_lt _ hj, zero_mul, mul_zero]

theorem pad_dv : x.pad.dv (s + 112) y = x.dv s y := by
  rw [dv, dv, show x.pad.n = x.n + 112 from rfl, sum_pad _ _ fun j hj => ?_]
  · exact sum_congr rfl fun j _ => congrArg₂ (· * ·) (pad_a ..) (shift_add ..)
  · show _ * shift x.o j _ = 0
    rw [shift_lt _ hj, mul_zero]

end Seq

end Cert.AttnSpec
-- ==== Proof.AttnPay.lean ====
/-
  What the attention backward computes on one window, on real numbers: the scores, the logarithms of what is kept, the
  attention weights and their gradients, and the block products that add into the keys', values' and queries' gradients.
-/
module

public import proofs.«01_k».proof.Proof.AttnSpec
public import proofs.«01_k».proof.Proof.AttnState

@[expose] public section

set_option maxRecDepth 16384

noncomputable section

namespace Cert.AttnIdeal.Pay

open Idealize.ShloMosaic Cert.AttnIdeal Cert.AttnIdeal.Gen Cert.Reals
open Cert.AttnSpec (sp)

theorem kept_eq (z : ℝ) : min (-z) 0 - Real.log (1 + Real.exp (min z (-z))) = -sp z := by
  have h1 : min (-z) 0 = -max z 0 := by rw [← neg_zero, min_neg_neg, neg_zero]
  have h2 : min z (-z) = -|z| := by rw [abs_eq_max_neg, ← min_neg_neg, neg_neg, min_comm]
  rw [h1, h2, sp]; ring

/-- The logarithm of what a valid key keeps, on the extended reals. -/
theorem kept_coe (z : ℝ) :
    min (0 - (z : EReal)) 0 - Ideal.log (1 + Ideal.exp (min (z : EReal) (0 - (z : EReal)))) = ((-sp z : ℝ) : EReal) := by
  have hpos : (0 : ℝ) < 1 + Real.exp (min z (-z)) := by positivity
  rw [← kept_eq, ← EReal.coe_zero, ← EReal.coe_one, ← EReal.coe_sub, zero_sub, ← EReal.coe_strictMono.monotone.map_min, ← EReal.coe_strictMono.monotone.map_min,
    Ideal.exp_coe, ← EReal.coe_add, Ideal.log_coe, if_neg (not_le.2 hpos), ← EReal.coe_sub]

theorem select_one {α : Type} (a b : α) : Scalar.select 1#1 a b = a := rfl
theorem select_zero {α : Type} (a b : α) : Scalar.select 0#1 a b = b := rfl

section Scores

variable (q k : FVec Ideal S256x128 .bf16) (Q K : Fin 256 → Fin 128 → ℝ)
variable (hq : ∀ r j, q (ix2 r j) = (Q r j : EReal)) (hk : ∀ r j, k (ix2 r j) = (K r j : EReal))

include hq hk in
theorem pay3 (r c : Fin 256) : k0_pay3 q k (ix2 r c) = ((∑ j, Q r j * K c j : ℝ) : EReal) := by
  unfold k0_pay3
  pointwise
  simp only [hq, hk, ← EReal.coe_mul, sum_coe]

include hq hk in
theorem pay7 (r c : Fin 256) : k0_pay7 q k (ix2 r c) = ((∑ j, Q r j * K c j : ℝ) : EReal) := by
  unfold k0_pay7
  pointwise
  simp only [hq, hk, ← EReal.coe_mul, sum_coe]

end Scores

section Window

variable (m : IVec S256x256 1) (z : FVec Ideal S256x256 .f32) (M : Fin 256 → Fin 256 → Prop) [∀ r c, Decidable (M r c)]
variable (Z : Fin 256 → Fin 256 → ℝ)
variable (hm : ∀ r c, m (ix2 r c) = if M r c then 1#1 else 0#1) (hz : ∀ r c, z (ix2 r c) = (Z r c : EReal))

/-- The logarithm of what a key keeps; zero outside the window's valid part. -/
def lkW (r c : Fin 256) : ℝ := if M r c then -sp (Z r c) else 0

include hm hz in
theorem pay11 (r c : Fin 256) : k0_pay11 m z (ix2 r c) = (lkW M Z r c : EReal) := by
  unfold k0_pay11
  pointwise
  simp only [hz, hm, kept_coe, lkW]
  by_cases h : M r c <;> simp [h, select_one, select_zero]

include hm hz in
theorem pay12 (r c : Fin 256) : k0_pay12 m z (ix4 0 0 r c) = ((Real.exp (Z r c + lkW M Z r c) : ℝ) : EReal) := by
  unfold k0_pay12
  pointwise
  simp only [hz, pay11 m z M Z hm hz, ← EReal.coe_add, Ideal.exp_coe]

variable (tri : FVec Ideal S256x256 .bf16)

include hm hz in
theorem pay13 (ht : ∀ r c : Fin 256, tri (ix2 r c) = (((if c ≤ r then 1 else 0 : ℝ)) : EReal)) (r c : Fin 256) :
    k0_pay13 tri m z (ix2 r c) = ((∑ b, lkW M Z r b * (if c ≤ b then 1 else 0) : ℝ) : EReal) := by
  unfold k0_pay13
  pointwise
  simp only [pay11 m z M Z hm hz, ht, ← EReal.coe_mul, sum_coe]

variable (car : FVec Ideal S256x1 .f32) (suf : FVec Ideal S256x256 .f32) (C : Fin 256 → ℝ) (S : Fin 256 → Fin 256 → ℝ)
variable (hc : ∀ r u, car (ix2 r u) = (C r : EReal)) (hs : ∀ r c, suf (ix2 r c) = (S r c : EReal))

/-- A key's attention weight; zero outside the window's valid part. -/
def aW (r c : Fin 256) : ℝ := if M r c then Real.exp (Z r c + S r c + C r) else 0

include hm hz hc hs in
theorem pay24 (r c : Fin 256) : k0_pay24 car m z suf (ix2 r c) = (aW M Z C S r c : EReal) := by
  unfold k0_pay24
  pointwise
  simp only [hz, hm, hc, hs, ← EReal.coe_add, Ideal.exp_coe, aW]
  by_cases h : M r c <;> simp [h, select_one, select_zero]

include hm hz hc hs in
theorem pay25 (da : FVec Ideal S256x256 .f32) (D : Fin 256 → Fin 256 → ℝ) (hd : ∀ r c, da (ix2 r c) = (D r c : EReal)) (r c : Fin 256) :
    k0_pay25 car m z da suf (ix4 0 0 r c) = ((D r c * aW M Z C S r c : ℝ) : EReal) := by
  unfold k0_pay25
  pointwise
  simp only [pay24 m z M Z hm hz car suf C S hc hs, hd, ← EReal.coe_mul]

include hm hz hc hs in
theorem pay26 (o : FVec Ideal S256x128 .bf16) (d : Vec Ideal S256x128 .f32) (O : Fin 256 → Fin 128 → ℝ) (D : Fin 256 → Fin 128 → ℝ)
    (ho : ∀ r j, o (ix2 r j) = (O r j : EReal)) (hd : ∀ r j, d (ix2 r j) = (D r j : EReal)) (c : Fin 256) (j : Fin 128) :
    k0_pay26 o car m z suf d (ix2 c j) = ((D c j + ∑ r, aW M Z C S r c * O r j : ℝ) : EReal) := by
  unfold k0_pay26
  pointwise
  simp only [pay24 m z M Z hm hz car suf C S hc hs, ho, hd, ← EReal.coe_mul, sum_coe, ← EReal.coe_add]

include hc hs in
theorem pay27 (r : Fin 256) (u : Fin 1) : k0_pay27 car suf (ix2 r u) = ((C r + S r 0 : ℝ) : EReal) := by
  unfold k0_pay27
  pointwise
  simp only [hc, hs, ← EReal.coe_add]

end Window

section Upward

variable (m : IVec S256x256 1) (g s : Vec Ideal S1x1x256x256 .f32) (tri : FVec Ideal S256x256 .bf16) (car : FVec Ideal S256x1 .f32)
variable (M : Fin 256 → Fin 256 → Prop) [∀ r c, Decidable (M r c)] (G S : Fin 256 → Fin 256 → ℝ) (C : Fin 256 → ℝ)
variable (hm : ∀ r c, m (ix2 r c) = if M r c then 1#1 else 0#1)
variable (hg : ∀ r c, g (ix4 0 0 r c) = (G r c : EReal)) (hs : ∀ r c, s (ix4 0 0 r c) = (S r c : EReal))
variable (ht : ∀ r c : Fin 256, tri (ix2 r c) = (((if r < c then 1 else 0 : ℝ)) : EReal))
variable (hc : ∀ r u, car (ix2 r u) = (C r : EReal))

/-- A score's gradient; zero outside the window's valid part. -/
def dzW (r c : Fin 256) : ℝ :=
  if M r c then G r c * (1 - S r c) - ((∑ b, G r b * (if b < c then 1 else 0)) + C r) * S r c else 0

include hg in
theorem pay75 (r c : Fin 256) : k0_pay75 g (ix2 r c) = (G r c : EReal) := by
  unfold k0_pay75
  pointwise
  simp only [hg]

include hg in
theorem pay79 (r c : Fin 256) : k0_pay79 g (ix2 r c) = (G r c : EReal) := by
  unfold k0_pay79
  pointwise
  simp only [pay75 g G hg]

include hg in
/-- What rounding lost is zero on reals. -/
theorem pay80 (r c : Fin 256) : k0_pay80 g (ix2 r c) = ((0 : ℝ) : EReal) := by
  unfold k0_pay80
  pointwise
  simp only [pay75 g G hg, pay79 g G hg, ← EReal.coe_sub, sub_self]

include hm hg hs ht hc in
theorem pay84 (r c : Fin 256) :
    k0_pay84 tri car m (k0_pay75 g) (k0_pay79 g) (k0_pay80 g) s (ix2 r c) = (dzW M G S C r c : EReal) := by
  unfold k0_pay84
  pointwise
  simp only [pay75 g G hg, pay79 g G hg, pay80 g G hg, hm, hs, ht, hc, ← EReal.coe_mul, ← EReal.coe_add, sum_coe, zero_mul, Finset.sum_const_zero, add_zero]
  rw [show (1 : EReal) = ((1 : ℝ) : EReal) from rfl]
  simp only [← EReal.coe_mul, ← EReal.coe_add, ← EReal.coe_sub, dzW]
  by_cases h : M r c <;> simp [h, select_one, select_zero]

include hm hg hs ht hc in
theorem pay85 (acc : FVec Ideal S256x128 .f32) (k : Vec Ideal S256x128 .bf16) (A K : Fin 256 → Fin 128 → ℝ)
    (ha : ∀ r j, acc (ix2 r j) = (A r j : EReal)) (hk : ∀ r j, k (ix2 r j) = (K r j : EReal)) (r : Fin 256) (j : Fin 128) :
    k0_pay85 tri acc car m (k0_pay75 g) (k0_pay79 g) (k0_pay80 g) s k (ix2 r j) = ((A r j + ∑ c, dzW M G S C r c * K c j : ℝ) : EReal) := by
  unfold k0_pay85
  pointwise
  simp only [pay84 m g s tri car M G S C hm hg hs ht hc, ha, hk, ← EReal.coe_mul, sum_coe, ← EReal.coe_add]

theorem pay86 (q : FVec Ideal S256x128 .bf16) (dz : FVec Ideal S256x256 .bf16) (d : Vec Ideal S256x128 .f32)
    (Q : Fin 256 → Fin 128 → ℝ) (Z : Fin 256 → Fin 256 → ℝ) (D : Fin 256 → Fin 128 → ℝ)
    (hq : ∀ r j, q (ix2 r j) = (Q r j : EReal)) (hz : ∀ r c, dz (ix2 r c) = (Z r c : EReal))
    (hd : ∀ r j, d (ix2 r j) = (D r j : EReal)) (c : Fin 256) (j : Fin 128) :
    k0_pay86 q dz d (ix2 c j) = ((D c j + ∑ r, Z r c * Q r j : ℝ) : EReal) := by
  unfold k0_pay86
  pointwise
  simp only [hq, hz, hd, ← EReal.coe_mul, sum_coe, ← EReal.coe_add]

include hg hc in
theorem pay87 (r : Fin 256) (u : Fin 1) : k0_pay87 car (k0_pay75 g) (ix2 r u) = ((C r + ∑ c, G r c : ℝ) : EReal) := by
  unfold k0_pay87
  pointwise
  simp only [pay75 g G hg, hc, sum_coe, ← EReal.coe_add]

end Upward

end Cert.AttnIdeal.Pay
-- ==== Proof.AttnMask.lean ====
/-
  Which keys of a window count: the masks of both walks, the two triangular matrices, and the lanes of a head, as plain
  comparisons of row numbers.
-/
module

public import proofs.«01_k».proof.Proof.AttnPay
public import proofs.«01_k».proof.Proof.AttnBody

@[expose] public section

set_option maxRecDepth 16384

noncomputable section

namespace Cert.AttnIdeal.Pay

open Idealize.ShloMosaic Cert.AttnIdeal Cert.AttnIdeal.Gen Cert.Reals

theorem toInt_small (n : ℕ) (h : n < 2 ^ 30) : (BitVec.ofNat 32 n).toInt = (n : ℤ) := by
  rw [BitVec.toInt_eq_toNat_cond, BitVec.toNat_ofNat]; omega

theorem slt_word (a b : BitVec 32) : IntOp.cmpi .slt a b = if a.toInt < b.toInt then 1#1 else 0#1 := by
  show BitVec.ofBool (decide (a.toInt < b.toInt)) = _
  by_cases h : a.toInt < b.toInt <;> simp [h]

theorem sge_word (a b : BitVec 32) : IntOp.cmpi .sge a b = if b.toInt ≤ a.toInt then 1#1 else 0#1 := by
  show BitVec.ofBool (decide (b.toInt ≤ a.toInt)) = _
  by_cases h : b.toInt ≤ a.toInt <;> simp [h]

theorem and_word (P Q : Prop) [Decidable P] [Decidable Q] :
    IntOp.andi (if P then 1#1 else 0#1) (if Q then 1#1 else 0#1) = if P ∧ Q then 1#1 else 0#1 := by
  by_cases hp : P <;> by_cases hq : Q <;> simp [hp, hq, IntOp.andi]

/-! ## The masks -/

/-- The first key row past the block's window `k`, counting from the diagonal leftwards. -/
def hi (i k : ℕ) : ℕ := 128 * (i + 1 - 2 * k)

/-- The keys of a window that count: those before the query's own row, and before the window's end. -/
def Valid (i k : ℕ) (r c : Fin 256) : Prop :=
  hi i (k + 1) + c.val < 128 * i + r.val % 128 ∧ hi i (k + 1) + c.val < hi i k

instance (i k : ℕ) (r c : Fin 256) : Decidable (Valid i k r c) := by unfold Valid; infer_instance

theorem diag (r c : Fin 256) : (k0_pay159 (ix2 r c)).toInt = (c.val : ℤ) - (r.val % 128 : ℕ) := by
  have e : k0_pay159 (ix2 r c) = BitVec.ofNat 32 c.val - BitVec.ofNat 32 (r.val % 128) := by
    have h : ∀ r : Fin 256, BitVec.ofNat 32 r.val &&& 127#32 = BitVec.ofNat 32 (r.val % 128) := by decide +kernel
    rw [← h]
    unfold k0_pay159
    pointwise
    rfl
  rw [e, BitVec.toInt_eq_toNat_cond, BitVec.toNat_sub, BitVec.toNat_ofNat, BitVec.toNat_ofNat]
  have := r.isLt; have := c.isLt
  omega

theorem words2 : ∀ (i : Fin k0_t1_loop.trips) (k : Fin (k0_t2_loop i).trips),
    (let arg11 : BitVec 32 := Scf.iv 0#32 1#32 i
     let arg12 : BitVec 32 := Scf.iv 0#32 1#32 k
     let s := Scalar.muli (Scalar.maxsi (Scalar.subi (Scalar.addi arg11 1#32) (Scalar.muli 2#32 (Scalar.addi arg12 1#32))) 0#32) 128#32
     let e := Scalar.muli (Scalar.subi (Scalar.addi arg11 1#32) (Scalar.muli 2#32 arg12)) 128#32
     (Scalar.subi (Scalar.muli arg11 128#32) s).toInt = (128 * i.val : ℤ) - hi i.val (k.val + 1) ∧ (Scalar.subi e s).toInt = (hi i.val k.val : ℤ) - hi i.val (k.val + 1)) := by
  decide +kernel

theorem words74 : ∀ (i : Fin k0_t1_loop.trips) (k : Fin (k0_t4_loop i).trips),
    (let arg11 : BitVec 32 := Scf.iv 0#32 1#32 i
     let w := Scalar.subi (Scalar.subi (blockLen i) 1#32) (Scf.iv 0#32 1#32 k)
     let s := Scalar.muli (Scalar.maxsi (Scalar.subi (Scalar.addi arg11 1#32) (Scalar.muli 2#32 (Scalar.addi w 1#32))) 0#32) 128#32
     let e := Scalar.muli (Scalar.subi (Scalar.addi arg11 1#32) (Scalar.muli 2#32 w)) 128#32
     (Scalar.subi (Scalar.muli arg11 128#32) s).toInt = (128 * i.val : ℤ) - hi i.val (i.val / 2 - k.val + 1)
       ∧ (Scalar.subi e s).toInt = (hi i.val (i.val / 2 - k.val) : ℤ) - hi i.val (i.val / 2 - k.val + 1)) := by
  decide +kernel

theorem mask2 (i : Fin k0_t1_loop.trips) (k : Fin (k0_t2_loop i).trips) (r c : Fin 256) :
    k0_pay2 lanes k0_pay159 i (Scf.iv 0#32 1#32 i) 0#32 1#32 k (ix2 r c) = if Valid i.val k.val r c then 1#1 else 0#1 := by
  have h := words2 i k
  unfold k0_pay2
  pointwise
  rw [slt_word, slt_word, and_word, diag, toInt_small c.val (by have := c.isLt; omega)]
  refine if_congr ?_ rfl rfl
  rw [Valid]
  dsimp only at h
  rw [h.1, h.2]
  omega

theorem mask74 (i : Fin k0_t1_loop.trips) (k : Fin (k0_t4_loop i).trips) (r c : Fin 256) :
    k0_pay74 lanes k0_pay159 i (Scf.iv 0#32 1#32 i) (blockLen i) 0#32 1#32 k (ix2 r c) = if Valid i.val (i.val / 2 - k.val) r c then 1#1 else 0#1 := by
  have h := words74 i k
  unfold k0_pay74
  pointwise
  rw [slt_word, slt_word, and_word, diag, toInt_small c.val (by have := c.isLt; omega)]
  refine if_congr ?_ rfl rfl
  rw [Valid]
  dsimp only at h
  rw [h.1, h.2]
  omega

/-! ## The triangular matrices and the heads' lanes -/

theorem lower (r c : Fin 256) : (k0_pay162 (F := Ideal)) (ix2 r c) = (((if c ≤ r then 1 else 0 : ℝ)) : EReal) := by
  unfold k0_pay162
  pointwise
  have := r.isLt; have := c.isLt
  rw [sge_word, toInt_small _ (by omega), toInt_small _ (by omega)]
  by_cases h : c ≤ r
  · rw [if_pos (by exact_mod_cast h), if_pos h]; rfl
  · rw [if_neg (by exact_mod_cast h), if_neg h]; rfl

theorem upper (r c : Fin 256) : (k0_pay163 (F := Ideal)) (ix2 r c) = (((if r < c then 1 else 0 : ℝ)) : EReal) := by
  unfold k0_pay163
  pointwise
  have := r.isLt; have := c.isLt
  rw [slt_word, toInt_small _ (by omega), toInt_small _ (by omega)]
  by_cases h : r < c
  · rw [if_pos (by exact_mod_cast h), if_pos h]; rfl
  · rw [if_neg (by exact_mod_cast h), if_neg h]; rfl

theorem half0 : ∀ j : Fin 128, k0_pay160 (ix2 0 j) = if j.val / 64 = 0 then 1#1 else 0#1 := by
  intro j
  unfold k0_pay160
  pointwise
  have := j.isLt
  rw [slt_word, toInt_small j.val (by omega)]
  exact if_congr (by rw [show (64#32).toInt = 64 from rfl]; omega) rfl rfl

theorem half1 : ∀ j : Fin 128, k0_pay161 (ix2 0 j) = if j.val / 64 = 1 then 1#1 else 0#1 := by
  intro j
  unfold k0_pay161
  pointwise
  have := j.isLt
  rw [sge_word, toInt_small j.val (by omega)]
  exact if_congr (by rw [show (64#32).toInt = 64 from rfl]; omega) rfl rfl

theorem eighth : Ideal.ofBits .bf16 15872#16 = (((1 / 8 : ℝ)) : EReal) := by
  simp [Ideal.ofBits, Ideal.ieee]; norm_num; norm_cast; norm_num

theorem eighth32 : Ideal.ofBits .f32 1040187392#32 = (((1 / 8 : ℝ)) : EReal) := by
  simp [Ideal.ofBits, Ideal.ieee]; norm_num; norm_cast; norm_num

section Stack

variable (x : Vec Ideal S128x128 .bf16) (X : Fin 128 → Fin 128 → ℝ) (hx : ∀ r j, x (ix2 r j) = (X r j : EReal))

include hx in
/-- The queries of a block stacked twice, each half keeping the lanes of its own head, scaled. -/
theorem pay124 (r : Fin 256) (j : Fin 128) : k0_pay124 k0_pay160 k0_pay161 x (ix2 r j)
    = (((if j.val / 64 = r.val / 128 then X ⟨r.val % 128, Nat.mod_lt _ (by decide)⟩ j * (1 / 8) else 0 : ℝ)) : EReal) := by
  unfold k0_pay124
  pointwise
  rw [half0, half1]
  simp only [hx, eighth, ← EReal.coe_mul]
  by_cases h : r.val < 128
  · rw [dif_pos h]
    have e : r.val / 128 = 0 := by omega
    have f : (⟨r.val % 128, Nat.mod_lt _ (by decide)⟩ : Fin 128) = ⟨r.val, h⟩ := Fin.ext (Nat.mod_eq_of_lt h)
    rw [e, f]
    by_cases g : j.val / 64 = 0
    · rw [if_pos g, if_pos g]; rfl
    · rw [if_neg g, if_neg g]; rfl
  · rw [dif_neg h]
    have e : r.val / 128 = 1 := by omega
    have f : (⟨r.val % 128, Nat.mod_lt _ (by decide)⟩ : Fin 128) = ⟨r.val - 128, by omega⟩ := Fin.ext (by show r.val % 128 = r.val - 128; omega)
    rw [e, f]
    by_cases g : j.val / 64 = 1
    · rw [if_pos g, if_pos g]; rfl
    · rw [if_neg g, if_neg g]; rfl

include hx in
theorem pay128 (r : Fin 256) (j : Fin 128) : k0_pay128 k0_pay160 k0_pay161 x (ix2 r j)
    = (((if j.val / 64 = r.val / 128 then X ⟨r.val % 128, Nat.mod_lt _ (by decide)⟩ j else 0 : ℝ)) : EReal) := by
  unfold k0_pay128
  pointwise
  rw [half0, half1]
  simp only [hx]
  by_cases h : r.val < 128
  · rw [dif_pos h]
    have e : r.val / 128 = 0 := by omega
    have f : (⟨r.val % 128, Nat.mod_lt _ (by decide)⟩ : Fin 128) = ⟨r.val, h⟩ := Fin.ext (Nat.mod_eq_of_lt h)
    rw [e, f]
    by_cases g : j.val / 64 = 0
    · rw [if_pos g, if_pos g]; rfl
    · rw [if_neg g, if_neg g]; rfl
  · rw [dif_neg h]
    have e : r.val / 128 = 1 := by omega
    have f : (⟨r.val % 128, Nat.mod_lt _ (by decide)⟩ : Fin 128) = ⟨r.val - 128, by omega⟩ := Fin.ext (by show r.val % 128 = r.val - 128; omega)
    rw [e, f]
    by_cases g : j.val / 64 = 1
    · rw [if_pos g, if_pos g]; rfl
    · rw [if_neg g, if_neg g]; rfl

/-- Each lane takes its own head's half, scaled. -/
theorem pay157 (a : FVec Ideal S256x128 .f32) (A : Fin 256 → Fin 128 → ℝ) (ha : ∀ r j, a (ix2 r j) = (A r j : EReal)) (r j : Fin 128) :
    k0_pay157 k0_pay160 a (ix2 r j) = ((A ⟨128 * (j.val / 64) + r.val, by omega⟩ j * (1 / 8) : ℝ) : EReal) := by
  unfold k0_pay157
  pointwise
  rw [half0]
  simp only [ha, eighth32]
  by_cases h : j.val / 64 = 0
  · rw [if_pos h, select_one, ← EReal.coe_mul]
    have f : (⟨128 * (j.val / 64) + r.val, by omega⟩ : Fin 256) = ⟨r.val, by omega⟩ := Fin.ext (by show 128 * (j.val / 64) + r.val = r.val; omega)
    rw [f]
  · rw [if_neg h, select_zero, ← EReal.coe_mul]
    have f : (⟨128 * (j.val / 64) + r.val, by omega⟩ : Fin 256) = ⟨128 + r.val, by omega⟩ := Fin.ext (by show 128 * (j.val / 64) + r.val = 128 + r.val; omega)
    rw [f]

end Stack

end Cert.AttnIdeal.Pay
-- ==== Proof.AttnDownValue.lean ====
/-
  The downward walk on real numbers. After `k` windows of query block `i`, the carry is the logarithms' sum from the last
  window's first row on, `dv` has gained the block's part in the rows walked, and each slab holds its window's gradients and
  sigmoids.
-/
module

public import proofs.«01_k».proof.Proof.AttnMask

@[expose] public section

set_option maxRecDepth 16384

noncomputable section

namespace Cert.AttnIdeal.Pay

open Idealize.ShloMosaic Cert.AttnIdeal Cert.AttnIdeal.Gen Cert.Reals Cert.AttnSpec Finset

/-! ## A buffer's entries -/

/-- The buffer holds the real function `X` of its row and column. -/
def Holds (v : S2176x512.Idx → EReal) (X : ℕ → ℕ → ℝ) : Prop := ∀ (a : Fin 2176) (b : Fin 512), v (ix2 a b) = (X a.val b.val : EReal)

theorem Holds.cut {v : S2176x512.Idx → EReal} {X : ℕ → ℕ → ℝ} (h : Holds v X) (a : ℕ) (ha : a + 256 ≤ 2176) (p : Fin 4) (r : Fin 256) (j : Fin 128) :
    cutCols v a p (ix2 r j) = (X (a + r.val) (128 * p.val + j.val) : EReal) := by
  have e := h ⟨(a + r.val) % 2176, Nat.mod_lt _ (by decide)⟩ ⟨128 * p.val + j.val, by have := p.isLt; have := j.isLt; omega⟩
  have f : (a + r.val) % 2176 = a + r.val := Nat.mod_eq_of_lt (by have := r.isLt; omega)
  exact e.trans (congrArg (fun n => (X n _ : EReal)) f)

theorem Holds.rows {v : S2176x512.Idx → EReal} {X : ℕ → ℕ → ℝ} (h : Holds v X) (a : ℕ) (ha : a + 128 ≤ 2176) (p : Fin 4) (r j : Fin 128) :
    cutRows v a p (ix2 r j) = (X (a + r.val) (128 * p.val + j.val) : EReal) := by
  have e := h ⟨(a + r.val) % 2176, Nat.mod_lt _ (by decide)⟩ ⟨128 * p.val + j.val, by have := p.isLt; have := j.isLt; omega⟩
  have f : (a + r.val) % 2176 = a + r.val := Nat.mod_eq_of_lt (by have := r.isLt; omega)
  exact e.trans (congrArg (fun n => (X n _ : EReal)) f)

theorem Holds.put {v : S2176x512.Idx → EReal} {X W : ℕ → ℕ → ℝ} (h : Holds v X) (a : ℕ) (w : Fin 4 → S256x128.Idx → EReal)
    (hw : ∀ (p : Fin 4) (c : Fin 256) (j : Fin 128), w p (ix2 c j) = (W (a + c.val) (128 * p.val + j.val) : EReal)) :
    Holds (putCols v a w) (fun s y => if a ≤ s ∧ s < a + 256 then W s y else X s y) := by
  intro s y
  unfold putCols
  by_cases e : a ≤ s.val ∧ s.val < a + 256
  · refine (dif_pos e).trans ?_
    dsimp only
    rw [if_pos e]
    have hs : a + (s.val - a) = s.val := by omega
    have hy : 128 * (y.val / 128) + y.val % 128 = y.val := by omega
    have k := hw ⟨y.val / 128, by have := y.isLt; omega⟩ ⟨s.val - a, by omega⟩ ⟨y.val % 128, Nat.mod_lt _ (by decide)⟩
    dsimp only at k
    rw [hs, hy] at k
    exact k
  · refine (dif_neg e).trans ?_
    dsimp only
    rw [if_neg e]
    exact h s y

theorem Holds.congr {v : S2176x512.Idx → EReal} {X Y : ℕ → ℕ → ℝ} (h : Holds v X) (e : ∀ s y, s < 2176 → y < 512 → X s y = Y s y) : Holds v Y :=
  fun a b => by rw [h a b, e _ _ a.isLt b.isLt]

theorem slab_hit (v : S4x9x256x256.Idx → EReal) (s : ℕ) (hs : s < 9) (w : Fin 4 → S1x1x256x256.Idx → EReal) (p : Fin 4) (r c : Fin 256) :
    putSlab v s w (ix4 p ⟨s % 9, Nat.mod_lt _ (by decide)⟩ r c) = w p (ix4 0 0 r c) := by
  unfold putSlab
  exact if_pos (Nat.mod_eq_of_lt hs)

theorem slab_miss (v : S4x9x256x256.Idx → EReal) (s u : ℕ) (hs : u < 9) (e : u ≠ s) (w : Fin 4 → S1x1x256x256.Idx → EReal) (p : Fin 4) (r c : Fin 256) :
    putSlab v s w (ix4 p ⟨u % 9, Nat.mod_lt _ (by decide)⟩ r c) = v (ix4 p ⟨u % 9, Nat.mod_lt _ (by decide)⟩ r c) := by
  unfold putSlab
  exact if_neg (fun h => e ((Nat.mod_eq_of_lt hs).symm.trans h))

/-! ## The window -/

/-- The head and the row of a stacked query. -/
def hd (p : Fin 4) (r : Fin 256) : ℕ := 2 * p.val + r.val / 128
def qrow (i : ℕ) (r : Fin 256) : ℕ := 128 * i + r.val % 128

theorem hi_zero (i : ℕ) : hi i 0 = 128 * i + 128 := by unfold hi; omega
theorem hi_last (i : ℕ) : hi i ((i + 2) / 2) = 0 := by unfold hi; omega
theorem hi_step (i k : ℕ) : hi i (k + 1) ≤ hi i k ∧ hi i k ≤ hi i (k + 1) + 256 := by unfold hi; omega
theorem hi_room (i k : ℕ) (hi' : i < 17) : hi i (k + 1) + 256 ≤ 2176 := by unfold hi; omega
theorem hi_le (i k : ℕ) (hi' : i < 17) : hi i k ≤ 2176 := by unfold hi; omega
theorem start_eq (i k : ℕ) : 128 * (i - 1 - 2 * k) = hi i (k + 1) := by unfold hi; omega

theorem lt17 (i : Fin k0_t1_loop.trips) : i.val < 17 := lt_of_lt_of_eq i.isLt trips1

/-- Both heads of a pair: a stacked product over the 128 lanes is a product over the head's 64. -/
theorem head_sum (A B : ℕ → ℝ) (p : Fin 4) (r : Fin 256) :
    ∑ j : Fin 128, (if j.val / 64 = r.val / 128 then A (128 * p.val + j.val) else 0) * B (128 * p.val + j.val)
      = ∑ e ∈ range 64, A (64 * hd p r + e) * B (64 * hd p r + e) := by
  simp only [ite_mul, zero_mul]
  rw [half_sum (fun j => A (128 * p.val + j) * B (128 * p.val + j)) (r.val / 128) (by have := r.isLt; omega)]
  refine sum_congr rfl fun e _ => ?_
  rw [show 128 * p.val + (64 * (r.val / 128) + e) = 64 * hd p r + e by unfold hd; omega]

/-- The stacked rows of a pair that hold a lane's own head are the block's rows. -/
theorem row_sum (A B : ℕ → ℕ → ℝ) (i : ℕ) (p : Fin 4) (j : Fin 128) :
    ∑ r : Fin 256, A (hd p r) (qrow i r) * (if j.val / 64 = r.val / 128 then B (qrow i r) (128 * p.val + j.val) else 0)
      = ∑ r ∈ range 128, A ((128 * p.val + j.val) / 64) (128 * i + r) * B (128 * i + r) (128 * p.val + j.val) := by
  have hj := j.isLt
  rw [← stack_sum _ (j.val / 64) (by omega)]
  refine sum_congr rfl fun r _ => ?_
  by_cases h : j.val / 64 = r.val / 128
  · rw [if_pos h, if_pos h, show hd p r = (128 * p.val + j.val) / 64 by unfold hd; omega, qrow]
  · rw [if_neg h, if_neg h, mul_zero]

section Walk

variable (x : Seq) (hn : x.n = 2176) (x3 x4 : FVec Ideal S2176x512 .bf16) (hk : Holds x3 x.k) (hv : Holds x4 x.v)
variable (i : Fin k0_t1_loop.trips) (q o : Fin 4 → FVec Ideal S256x128 .bf16)
variable (hq : ∀ (p : Fin 4) (r : Fin 256) (j : Fin 128), q p (ix2 r j)
  = (((if j.val / 64 = r.val / 128 then x.q (qrow i.val r) (128 * p.val + j.val) * (1 / 8) else 0 : ℝ)) : EReal))
variable (ho : ∀ (p : Fin 4) (r : Fin 256) (j : Fin 128), o p (ix2 r j)
  = (((if j.val / 64 = r.val / 128 then x.o (qrow i.val r) (128 * p.val + j.val) else 0 : ℝ)) : EReal))

include hk hq in
theorem z_eq (k : ℕ) (p : Fin 4) (r c : Fin 256) :
    downZ q x3 (hi i.val (k + 1)) p (ix2 r c) = ((x.z (hd p r) (qrow i.val r) (hi i.val (k + 1) + c.val) : ℝ) : EReal) := by
  rw [downZ, pay3 _ _ _ _ (hq p) (hk.cut _ (hi_room _ k (lt17 i)) p)]
  exact congrArg _ (head_sum (fun y => x.q (qrow i.val r) y * (1 / 8)) (fun y => x.k (hi i.val (k + 1) + c.val) y) p r)

include hv ho in
theorem da_eq (k : ℕ) (p : Fin 4) (r c : Fin 256) :
    k0_pay7 (o p) (cutCols x4 (hi i.val (k + 1)) p) (ix2 r c) = ((x.da (hd p r) (qrow i.val r) (hi i.val (k + 1) + c.val) : ℝ) : EReal) := by
  rw [pay7 _ _ _ _ (ho p) (hv.cut _ (hi_room _ k (lt17 i)) p)]
  exact congrArg _ (head_sum (fun y => x.o (qrow i.val r) y) (fun y => x.v (hi i.val (k + 1) + c.val) y) p r)

/-- The scores of a window, over the pair's stacked rows. -/
def zW (k : ℕ) (p : Fin 4) (r c : Fin 256) : ℝ := x.z (hd p r) (qrow i.val r) (hi i.val (k + 1) + c.val)

/-- The suffix sums of a window's logarithms. -/
def sW (k : ℕ) (p : Fin 4) (r c : Fin 256) : ℝ := ∑ s ∈ Ico (hi i.val (k + 1) + c.val) (hi i.val k), x.lk (hd p r) (qrow i.val r) s

theorem suffix (k : ℕ) (p : Fin 4) (r c : Fin 256) :
    ∑ b, lkW (Valid i.val k) (zW x i k p) r b * (if c ≤ b then 1 else 0) = sW x i k p r c := by
  rw [sW, ← win_sum _ (hi i.val (k + 1)) _ _ (Nat.le_add_right _ _) (hi_step i.val k).2]
  refine sum_congr rfl fun b _ => ?_
  unfold lkW Valid zW Seq.lk qrow
  by_cases h1 : hi i.val (k + 1) + b.val < 128 * i.val + r.val % 128 <;> by_cases h2 : hi i.val (k + 1) + b.val < hi i.val k <;>
    by_cases h3 : c ≤ b
  all_goals
    have h4 : (hi i.val (k + 1) + c.val ≤ hi i.val (k + 1) + b.val) = (c ≤ b) := propext (by rw [Fin.le_def]; omega)
    simp [h1, h2, h3]

include hk hq in
theorem suf_eq (k : Fin (k0_t2_loop i).trips) (p : Fin 4) (r c : Fin 256) :
    downSuf (k0_pay2 lanes k0_pay159 i (Scf.iv 0#32 1#32 i) 0#32 1#32 k) k0_pay162 q x3 (hi i.val (k.val + 1)) p (ix2 r c) = (sW x i k.val p r c : EReal) := by
  rw [downSuf, pay13 _ _ (Valid i.val k.val) (zW x i k.val p) (mask2 i k) (z_eq x x3 hk i q hq k.val p) _ lower, suffix]

/-- The attention weights of a window. -/
theorem aW_eq (k : ℕ) (p : Fin 4) (r c : Fin 256) (hn : x.n = 2176) :
    aW (Valid i.val k) (zW x i k p) (fun r => x.w (hd p r) (qrow i.val r) (hi i.val k)) (sW x i k p) r c
      = if hi i.val (k + 1) + c.val < hi i.val k then x.a (hd p r) (qrow i.val r) (hi i.val (k + 1) + c.val) else 0 := by
  unfold aW
  by_cases h2 : hi i.val (k + 1) + c.val < hi i.val k
  · rw [if_pos h2, Seq.a]
    refine if_congr (by unfold Valid qrow; exact and_iff_left h2) ?_ rfl
    simp only [zW, sW, Seq.w]
    rw [add_assoc, sum_Ico_consecutive _ h2.le (by rw [hn]; exact hi_le _ _ (lt17 i))]
  · rw [if_neg h2, if_neg (fun h => h2 h.2)]

/-- The state of the downward walk after `k` windows, over `D` in `dv` at the start. -/
structure DownAt (D : ℕ → ℕ → ℝ) (k : ℕ) (σ : Down Ideal) : Prop where
  car : ∀ (p : Fin 4) (r : Fin 256) (u : Fin 1), σ.car p (ix2 r u) = (x.w (hd p r) (qrow i.val r) (hi i.val k) : EReal)
  dv : Holds σ.dv (fun s y => D s y + ∑ r ∈ range 128, (if hi i.val k ≤ s then x.a (y / 64) (128 * i.val + r) s else 0) * x.o (128 * i.val + r) y)
  g : ∀ k' < k, ∀ (p : Fin 4) (r c : Fin 256), σ.g (ix4 p ⟨k' % 9, Nat.mod_lt _ (by decide)⟩ r c)
    = (((if hi i.val (k' + 1) + c.val < hi i.val k' then x.g (hd p r) (qrow i.val r) (hi i.val (k' + 1) + c.val) else 0 : ℝ)) : EReal)
  sig : ∀ k' < k, ∀ (p : Fin 4) (r c : Fin 256), σ.sig (ix4 p ⟨k' % 9, Nat.mod_lt _ (by decide)⟩ r c)
    = ((Real.exp (zW x i k' p r c + lkW (Valid i.val k') (zW x i k' p) r c) : ℝ) : EReal)

include hn hk hv hq ho in
theorem down_step (D : ℕ → ℕ → ℝ) (k : Fin (k0_t2_loop i).trips) (σ : Down Ideal) (H : DownAt x i D k.val σ) :
    DownAt x i D (k.val + 1)
      (downStep (k0_pay2 lanes k0_pay159 i (Scf.iv 0#32 1#32 i) 0#32 1#32 k) k0_pay162 q o x3 x4 (hi i.val (k.val + 1)) k.val σ) := by
  have k9 : k.val < 9 := by have := k.isLt; have := trips2 i; have := lt17 i; omega
  have hz := fun p => z_eq x x3 hk i q hq k.val p
  have hs := fun p => suf_eq x x3 hk i q hq k p
  constructor
  · intro p r u
    show downCar _ _ q x3 _ σ p (ix2 r u) = _
    rw [downCar, pay27 _ _ _ _ (H.car p) (hs p)]
    refine congrArg _ ?_
    rw [sW, Seq.w, Seq.w, add_comm]
    exact sum_Ico_consecutive _ (hi_step i.val k.val).1 (by rw [hn]; exact hi_le _ _ (lt17 i))
  · refine (H.dv.put _ (W := fun s y => D s y + ∑ r ∈ range 128, (if hi i.val (k.val + 1) ≤ s then x.a (y / 64) (128 * i.val + r) s else 0) * x.o (128 * i.val + r) y)
      (downDv _ _ q o x3 _ σ) fun p c j => ?_).congr fun s y hs' hy => ?_
    · rw [downDv, pay26 _ _ (Valid i.val k.val) (zW x i k.val p) (mask2 i k) (hz p) _ _ _ _ (H.car p) (hs p) _ _ _ _ (ho p)
        (H.dv.cut _ (hi_room _ k.val (lt17 i)) p)]
      simp only [aW_eq x i k.val p _ c hn]
      rw [row_sum (fun h t => if hi i.val (k.val + 1) + c.val < hi i.val k.val then x.a h t (hi i.val (k.val + 1) + c.val) else 0) x.o, add_assoc, ← sum_add_distrib]
      refine congrArg _ (congrArg _ (sum_congr rfl fun r _ => ?_))
      rw [← add_mul, if_pos (Nat.le_add_right _ _)]
      by_cases h : hi i.val (k.val + 1) + c.val < hi i.val k.val
      · rw [if_neg (not_le.2 h), if_pos h, zero_add]
      · rw [if_pos (not_lt.1 h), if_neg h, add_zero]
    · have := hi_step i.val k.val
      by_cases h : hi i.val (k.val + 1) ≤ s ∧ s < hi i.val (k.val + 1) + 256
      · rw [if_pos h]
      · rw [if_neg h]
        refine congrArg _ (sum_congr rfl fun r _ => congrArg (· * _) ?_)
        by_cases h' : hi i.val (k.val + 1) ≤ s
        · rw [if_pos h', if_pos (by omega)]
        · rw [if_neg h', if_neg (by omega)]
  · intro k' hk' p r c
    show putSlab σ.g k.val _ _ = _
    by_cases e : k' = k.val
    · subst e
      rw [slab_hit _ _ k9, downG, pay25 _ _ (Valid i.val k.val) (zW x i k.val p) (mask2 i k) (hz p) _ _ _ _ (H.car p) (hs p) _ _
        (da_eq x x4 hv i o ho k.val p), aW_eq x i k.val p _ c hn, mul_ite, mul_zero]
      rfl
    · rw [slab_miss _ _ _ (by omega) e]
      exact H.g k' (by omega) p r c
  · intro k' hk' p r c
    show putSlab σ.sig k.val _ _ = _
    by_cases e : k' = k.val
    · subst e
      rw [slab_hit _ _ k9, downSig, pay12 _ _ (Valid i.val k.val) (zW x i k.val p) (mask2 i k) (hz p)]
    · rw [slab_miss _ _ _ (by omega) e]
      exact H.sig k' (by omega) p r c

include hn hk hv hq ho in
theorem down_iter (D : ℕ → ℕ → ℝ) (σ : Down Ideal) (H : DownAt x i D 0 σ) : ∀ k ≤ (i.val + 2) / 2,
    DownAt x i D k (downIter lanes k0_pay159 k0_pay162 i (Scf.iv 0#32 1#32 i) 0#32 x3 x4 q o σ k)
  | 0, _ => H
  | k + 1, e => by
    have h : k < (k0_t2_loop i).trips := by rw [trips2 i]; omega
    rw [downIter, dif_pos h, start_eq]
    exact down_step x hn x3 x4 hk hv i q o hq ho D ⟨k, h⟩ _ (down_iter D σ H k (by omega))

end Walk

end Cert.AttnIdeal.Pay
-- ==== Proof.AttnUpValue.lean ====
/-
  The upward walk on real numbers. The windows are walked from the first key on; before window `m`, the carry and the query
  gradient are sums over the keys below it, and `dk` has gained the block's part in those rows.
-/
module

public import proofs.«01_k».proof.Proof.AttnDownValue

@[expose] public section

set_option maxRecDepth 16384

noncomputable section

namespace Cert.AttnIdeal.Pay

open Idealize.ShloMosaic Cert.AttnIdeal Cert.AttnIdeal.Gen Cert.Reals Cert.AttnSpec Finset

variable (x : Seq) (x3 : FVec Ideal S2176x512 .bf16) (hk : Holds x3 x.k)
variable (i : Fin k0_t1_loop.trips) (q : Fin 4 → FVec Ideal S256x128 .bf16)
variable (hq : ∀ (p : Fin 4) (r : Fin 256) (j : Fin 128), q p (ix2 r j)
  = (((if j.val / 64 = r.val / 128 then x.q (qrow i.val r) (128 * p.val + j.val) * (1 / 8) else 0 : ℝ)) : EReal))

/-- The slab of window `m`: the gradients that reach the exponents. -/
def gW (m : ℕ) (p : Fin 4) (r c : Fin 256) : ℝ := if hi i.val (m + 1) + c.val < hi i.val m then x.g (hd p r) (qrow i.val r) (hi i.val (m + 1) + c.val) else 0

/-- The slab of window `m`: the sigmoids, where a key counts. -/
def sgW (m : ℕ) (p : Fin 4) (r c : Fin 256) : ℝ := Real.exp (zW x i m p r c + lkW (Valid i.val m) (zW x i m p) r c)

theorem below (m : ℕ) (p : Fin 4) (r c : Fin 256) (h : hi i.val (m + 1) + c.val < hi i.val m) :
    ∑ b, gW x i m p r b * (if b < c then 1 else 0) = ∑ s ∈ Ico (hi i.val (m + 1)) (hi i.val (m + 1) + c.val), x.g (hd p r) (qrow i.val r) s := by
  rw [← win_sum _ (hi i.val (m + 1)) _ _ le_rfl (by have := c.isLt; omega)]
  refine sum_congr rfl fun b _ => ?_
  unfold gW
  by_cases e : b < c
  · have e' : b.val < c.val := e
    rw [if_pos e, mul_one, if_pos (by omega), if_pos (by omega)]
  · have e' : ¬b.val < c.val := e
    rw [if_neg e, mul_zero, if_neg (by omega)]

theorem dzW_eq (m : ℕ) (p : Fin 4) (r c : Fin 256) :
    dzW (Valid i.val m) (gW x i m p) (sgW x i m p) (fun r => ∑ s ∈ range (hi i.val (m + 1)), x.g (hd p r) (qrow i.val r) s) r c
      = if hi i.val (m + 1) + c.val < hi i.val m then x.dz (hd p r) (qrow i.val r) (hi i.val (m + 1) + c.val) else 0 := by
  unfold dzW
  by_cases h2 : hi i.val (m + 1) + c.val < hi i.val m
  · rw [if_pos h2, Seq.dz]
    by_cases h1 : hi i.val (m + 1) + c.val < 128 * i.val + r.val % 128
    · have hV : Valid i.val m r c := ⟨h1, h2⟩
      rw [if_pos hV, if_pos (by unfold qrow; exact h1), below x i m p r c h2, sgW, lkW, if_pos hV, gW, if_pos h2, ← sub_eq_add_neg, add_comm (∑ s ∈ Ico _ _, _),
        sum_range_add_sum_Ico _ (Nat.le_add_right _ _)]
      rfl
    · rw [if_neg (fun h => h1 h.1), if_neg (by unfold qrow; exact h1)]
  · rw [if_neg h2, if_neg (fun h => h2 h.2)]

/-- A window's sum over its rows. -/
theorem rows_sum (f : ℕ → ℝ) (m : ℕ) :
    ∑ c : Fin 256, (if hi i.val (m + 1) + c.val < hi i.val m then f (hi i.val (m + 1) + c.val) else 0) = ∑ s ∈ Ico (hi i.val (m + 1)) (hi i.val m), f s := by
  rw [← win_sum f (hi i.val (m + 1)) _ _ le_rfl (hi_step i.val m).2]
  refine sum_congr rfl fun c _ => if_congr ?_ rfl rfl
  exact (and_iff_right (Nat.le_add_right _ _)).symm

/-- The state of the upward walk before window `m - 1`, over `D` in `dk` at the start. -/
structure UpAt (D : ℕ → ℕ → ℝ) (m : ℕ) (σ : Up Ideal) : Prop where
  acc : ∀ (p : Fin 4) (r : Fin 256) (j : Fin 128), σ.acc p (ix2 r j)
    = ((∑ s ∈ range (hi i.val m), x.dz (hd p r) (qrow i.val r) s * x.k s (128 * p.val + j.val) : ℝ) : EReal)
  car : ∀ (p : Fin 4) (r : Fin 256) (u : Fin 1), σ.car p (ix2 r u) = ((∑ s ∈ range (hi i.val m), x.g (hd p r) (qrow i.val r) s : ℝ) : EReal)
  dk : Holds σ.dk (fun s y => D s y + ∑ r ∈ range 128, (if s < hi i.val m then x.dz (y / 64) (128 * i.val + r) s else 0) * (x.q (128 * i.val + r) y * (1 / 8)))

section Step

variable (g sg : FVec Ideal S4x9x256x256 .f32) (m : ℕ)
variable (hg : ∀ (p : Fin 4) (r c : Fin 256), g (ix4 p ⟨m % 9, Nat.mod_lt _ (by decide)⟩ r c) = (gW x i m p r c : EReal))
variable (hs : ∀ (p : Fin 4) (r c : Fin 256), sg (ix4 p ⟨m % 9, Nat.mod_lt _ (by decide)⟩ r c) = (sgW x i m p r c : EReal))
variable (mask : IVec S256x256 1) (hm : ∀ r c, mask (ix2 r c) = if Valid i.val m r c then 1#1 else 0#1)

include hk hq hg hs hm in
theorem up_step (D : ℕ → ℕ → ℝ) (σ : Up Ideal) (H : UpAt x i D (m + 1) σ) :
    UpAt x i D m (upStep mask k0_pay163 q x3 g sg (hi i.val (m + 1)) m σ) := by
  have hg' : ∀ p r c, cutSlab g m p (ix4 0 0 r c) = (gW x i m p r c : EReal) := fun p r c => hg p r c
  have hs' : ∀ p r c, cutSlab sg m p (ix4 0 0 r c) = (sgW x i m p r c : EReal) := fun p r c => hs p r c
  constructor
  · intro p r j
    show upAcc _ _ x3 g sg _ m σ p (ix2 r j) = _
    rw [upAcc, pay85 _ _ _ _ _ (Valid i.val m) _ _ _ hm (hg' p) (hs' p) upper (H.car p) _ _ _ _ (H.acc p) (hk.cut _ (hi_room _ m (lt17 i)) p)]
    simp only [dzW_eq x i m p, ite_mul, zero_mul]
    rw [rows_sum i (fun s => x.dz (hd p r) (qrow i.val r) s * x.k s (128 * p.val + j.val)) m, sum_range_add_sum_Ico _ (hi_step i.val m).1]
  · intro p r u
    show upCar g m σ p (ix2 r u) = _
    rw [upCar, pay87 _ _ _ _ (hg' p) (H.car p)]
    unfold gW
    rw [rows_sum i (fun s => x.g (hd p r) (qrow i.val r) s) m, sum_range_add_sum_Ico _ (hi_step i.val m).1]
  · refine (H.dk.put _ (W := fun s y => D s y + ∑ r ∈ range 128, (if s < hi i.val m then x.dz (y / 64) (128 * i.val + r) s else 0) * (x.q (128 * i.val + r) y * (1 / 8)))
      (upDk _ _ q g sg _ m σ) fun p c j => ?_).congr fun s y _ _ => ?_
    · have hz : ∀ r c, upDz mask k0_pay163 g sg m σ p (ix2 r c) = ((_ : ℝ) : EReal) := fun r c =>
        (pay84 _ _ _ _ _ (Valid i.val m) _ _ _ hm (hg' p) (hs' p) upper (H.car p) r c).trans (congrArg _ (dzW_eq x i m p r c))
      rw [upDk, pay86 _ _ _ _ _ _ (hq p) hz (H.dk.cut _ (hi_room _ m (lt17 i)) p)]
      rw [row_sum (fun h t => if hi i.val (m + 1) + c.val < hi i.val m then x.dz h t (hi i.val (m + 1) + c.val) else 0) (fun t y => x.q t y * (1 / 8)), add_assoc, ← sum_add_distrib]
      refine congrArg _ (congrArg _ (sum_congr rfl fun r _ => ?_))
      rw [← add_mul, if_neg (not_lt.2 (Nat.le_add_right _ _)), zero_add]
    · have := hi_step i.val m
      by_cases h : hi i.val (m + 1) ≤ s ∧ s < hi i.val (m + 1) + 256
      · rw [if_pos h]
      · rw [if_neg h]
        refine congrArg _ (sum_congr rfl fun r _ => congrArg (· * _) ?_)
        by_cases h' : s < hi i.val (m + 1)
        · rw [if_pos h', if_pos (by omega)]
        · rw [if_neg h', if_neg (by omega)]

end Step

include hk hq in
theorem up_iter (g sg : FVec Ideal S4x9x256x256 .f32)
    (hg : ∀ m < (i.val + 2) / 2, ∀ (p : Fin 4) (r c : Fin 256), g (ix4 p ⟨m % 9, Nat.mod_lt _ (by decide)⟩ r c) = (gW x i m p r c : EReal))
    (hs : ∀ m < (i.val + 2) / 2, ∀ (p : Fin 4) (r c : Fin 256), sg (ix4 p ⟨m % 9, Nat.mod_lt _ (by decide)⟩ r c) = (sgW x i m p r c : EReal))
    (D : ℕ → ℕ → ℝ) (σ : Up Ideal) (H : UpAt x i D ((i.val + 2) / 2) σ) : ∀ k ≤ (i.val + 2) / 2,
    UpAt x i D ((i.val + 2) / 2 - k) (upIter lanes k0_pay159 k0_pay163 i (Scf.iv 0#32 1#32 i) (blockLen i) x3 q g sg σ k)
  | 0, _ => H
  | k + 1, e => by
    have h : k < (k0_t4_loop i).trips := by rw [trips4 i]; omega
    have e1 : (i.val + 2) / 2 - (k + 1) = i.val / 2 - k := by omega
    have e2 : (i.val + 2) / 2 - k = i.val / 2 - k + 1 := by omega
    have ih := up_iter g sg hg hs D σ H k (by omega)
    rw [e2] at ih
    rw [upIter, dif_pos h, start_eq, e1]
    exact up_step x x3 hk i q hq g sg (i.val / 2 - k) (hg _ (by omega)) (hs _ (by omega)) _ (mask74 i ⟨k, h⟩) D _ ih

end Cert.AttnIdeal.Pay
-- ==== Proof.AttnSeqValue.lean ====
/-
  The kernel's sequence on real numbers: its seventeen query blocks, one after the other, leave the gradients of the
  queries, keys and values of the specification.
-/
module

public import proofs.«01_k».proof.Proof.AttnUpValue
public import proofs.«01_k».proof.Proof.AttnRun

@[expose] public section

set_option maxRecDepth 16384

noncomputable section

namespace Cert.AttnIdeal.Pay

open Idealize.ShloMosaic Cert.AttnIdeal Cert.AttnIdeal.Gen Cert.Reals Cert.AttnSpec Finset

/-! ## Zeros at the start -/

theorem zero_cars (p : Fin 4) (r : Fin 256) (u : Fin 1) :
    (![k0_pay135, k0_pay136, k0_pay137, k0_pay138] : Fin 4 → FVec Ideal S256x1 .f32) p (ix2 r u) = 0 := by
  match p with
  | 0 => show k0_pay135 (F := Ideal) (ix2 r u) = 0; unfold k0_pay135; pointwise
  | 1 => show k0_pay136 (F := Ideal) (ix2 r u) = 0; unfold k0_pay136; pointwise
  | 2 => show k0_pay137 (F := Ideal) (ix2 r u) = 0; unfold k0_pay137; pointwise
  | 3 => show k0_pay138 (F := Ideal) (ix2 r u) = 0; unfold k0_pay138; pointwise

theorem zero_accs (p : Fin 4) (r : Fin 256) (j : Fin 128) :
    (![k0_pay145, k0_pay146, k0_pay147, k0_pay148] : Fin 4 → FVec Ideal S256x128 .f32) p (ix2 r j) = 0 := by
  match p with
  | 0 => show k0_pay145 (F := Ideal) (ix2 r j) = 0; unfold k0_pay145; pointwise
  | 1 => show k0_pay146 (F := Ideal) (ix2 r j) = 0; unfold k0_pay146; pointwise
  | 2 => show k0_pay147 (F := Ideal) (ix2 r j) = 0; unfold k0_pay147; pointwise
  | 3 => show k0_pay148 (F := Ideal) (ix2 r j) = 0; unfold k0_pay148; pointwise

theorem zero_sums (p : Fin 4) (r : Fin 256) (u : Fin 1) :
    (![k0_pay149, k0_pay150, k0_pay151, k0_pay152] : Fin 4 → FVec Ideal S256x1 .f32) p (ix2 r u) = 0 := by
  match p with
  | 0 => show k0_pay149 (F := Ideal) (ix2 r u) = 0; unfold k0_pay149; pointwise
  | 1 => show k0_pay150 (F := Ideal) (ix2 r u) = 0; unfold k0_pay150; pointwise
  | 2 => show k0_pay151 (F := Ideal) (ix2 r u) = 0; unfold k0_pay151; pointwise
  | 3 => show k0_pay152 (F := Ideal) (ix2 r u) = 0; unfold k0_pay152; pointwise

theorem zero_dk (a : Fin 2176) (b : Fin 512) : (k0_pay164 (F := Ideal)) (ix2 a b) = 0 := by unfold k0_pay164; pointwise
theorem zero_dv (a : Fin 2176) (b : Fin 512) : (k0_pay165 (F := Ideal)) (ix2 a b) = 0 := by unfold k0_pay165; pointwise

section Sequence

variable (x : Seq) (hn : x.n = 2176) (x2 x3 x4 x5 : FVec Ideal S2176x512 .bf16)
variable (hq : Holds x2 x.q) (hk : Holds x3 x.k) (hv : Holds x4 x.v) (ho : Holds x5 x.o)

/-! ## One block -/

section Block

variable (i : Fin k0_t1_loop.trips)

include hq in
theorem blockQ_eq (p : Fin 4) (r : Fin 256) (j : Fin 128) : blockQ x2 i p (ix2 r j)
    = (((if j.val / 64 = r.val / 128 then x.q (qrow i.val r) (128 * p.val + j.val) * (1 / 8) else 0 : ℝ)) : EReal) := by
  have e : blockQ x2 i p = k0_pay124 k0_pay160 k0_pay161 (cutRows x2 (128 * i.val) p) := by
    match p with
    | 0 => rfl
    | 1 => rfl
    | 2 => rfl
    | 3 => rfl
  rw [e]
  exact pay124 _ (fun r j => x.q (128 * i.val + r.val) (128 * p.val + j.val)) (hq.rows _ (by have := lt17 i; omega) p) r j

include ho in
theorem blockO_eq (p : Fin 4) (r : Fin 256) (j : Fin 128) : blockO x5 i p (ix2 r j)
    = (((if j.val / 64 = r.val / 128 then x.o (qrow i.val r) (128 * p.val + j.val) else 0 : ℝ)) : EReal) := by
  have e : blockO x5 i p = k0_pay128 k0_pay160 k0_pay161 (cutRows x5 (128 * i.val) p) := by
    match p with
    | 0 => rfl
    | 1 => rfl
    | 2 => rfl
    | 3 => rfl
  rw [e]
  exact pay128 _ (fun r j => x.o (128 * i.val + r.val) (128 * p.val + j.val)) (ho.rows _ (by have := lt17 i; omega) p) r j

theorem qrow_lt (r : Fin 256) : qrow i.val r < hi i.val 0 := by rw [hi_zero, qrow]; omega

variable (β : Bufs Ideal) (DK DV : ℕ → ℕ → ℝ) (hdk : Holds β.dk DK) (hdv : Holds β.dv DV)

include hn hq hk hv ho hdv in
theorem down_end : DownAt x i DV ((i.val + 2) / 2) (blockDown lanes x2 x3 x4 x5 i β) := by
  refine down_iter x hn x3 x4 hk hv i _ _ (blockQ_eq x x2 hq i) (blockO_eq x x5 ho i) DV _ ⟨?_, ?_, ?_, ?_⟩ _ le_rfl
  · intro p r u
    rw [Seq.w_zero (qrow_lt i r).le]
    exact zero_cars p r u
  · refine hdv.congr fun s y hs hy => ?_
    rw [left_eq_add]
    refine sum_eq_zero fun r hr => ?_
    by_cases h : hi i.val 0 ≤ s
    · rw [if_pos h, Seq.a_zero (by have := mem_range.1 hr; rw [hi_zero] at h; omega), zero_mul]
    · rw [if_neg h, zero_mul]
  · intro k' hk'; exact absurd hk' (Nat.not_lt_zero _)
  · intro k' hk'; exact absurd hk' (Nat.not_lt_zero _)

include hn hq hk hv ho hdk hdv in
theorem up_end : UpAt x i DK 0 (blockUp lanes x2 x3 x4 x5 i β) := by
  have D := down_end x hn x2 x3 x4 x5 hq hk hv ho i β DV hdv
  have U := up_iter x x3 hk i _ (blockQ_eq x x2 hq i) (blockDown lanes x2 x3 x4 x5 i β).g (blockDown lanes x2 x3 x4 x5 i β).sig D.g D.sig DK
    ⟨![k0_pay145, k0_pay146, k0_pay147, k0_pay148], ![k0_pay149, k0_pay150, k0_pay151, k0_pay152], β.dk⟩ ⟨?_, ?_, ?_⟩ _ le_rfl
  · rw [Nat.sub_self] at U; exact U
  · intro p r j
    rw [hi_last, range_zero, sum_empty]
    exact zero_accs p r j
  · intro p r u
    rw [hi_last, range_zero, sum_empty]
    exact zero_sums p r u
  · refine hdk.congr fun s y hs hy => ?_
    rw [hi_last, left_eq_add]
    exact sum_eq_zero fun r hr => by rw [if_neg (Nat.not_lt_zero _), zero_mul]

include hn hq hk hv ho hdk hdv in
theorem blockDq_eq (p : Fin 4) (r j : Fin 128) :
    blockDq lanes x2 x3 x4 x5 i β p (ix2 r j) = (x.dq (128 * i.val + r.val) (128 * p.val + j.val) : EReal) := by
  have U := up_end x hn x2 x3 x4 x5 hq hk hv ho i β DK DV hdk hdv
  have hr := r.isLt
  have hj := j.isLt
  have e1 : hd p ⟨128 * (j.val / 64) + r.val, by omega⟩ = (128 * p.val + j.val) / 64 := by unfold hd; dsimp only; omega
  have e2 : qrow i.val ⟨128 * (j.val / 64) + r.val, by omega⟩ = 128 * i.val + r.val := by unfold qrow; dsimp only; omega
  rw [blockDq, pay157 _ _ (U.acc p), e1, e2, Seq.dq]
  refine congrArg _ (congrArg (· * _) (sum_subset ?_ ?_))
  · rw [hn]; exact range_subset_range.2 (hi_le _ _ (lt17 i))
  · intro s _ hs
    rw [mem_range, hi_zero] at hs
    rw [Seq.dz_zero (by omega), zero_mul]

end Block

/-! ## All blocks -/

/-- What the buffers hold after the first `n` query blocks. -/
structure BlockAt (n : ℕ) (β : Bufs Ideal) : Prop where
  out : ∀ (a : Fin 2176) (b : Fin 512), a.val < 128 * n → β.out (ix2 a ⟨b.val, by have := b.isLt; omega⟩) = (x.dq a.val b.val : EReal)
  dk : Holds β.dk (fun s y => ∑ t ∈ range (128 * n), x.dz (y / 64) t s * (x.q t y * (1 / 8)))
  dv : Holds β.dv (fun s y => ∑ t ∈ range (128 * n), x.a (y / 64) t s * x.o t y)

include hn hq hk hv ho in
theorem block_step (i : Fin k0_t1_loop.trips) (β : Bufs Ideal) (H : BlockAt x i.val β) : BlockAt x (i.val + 1) (blockStep lanes x2 x3 x4 x5 i β) := by
  have D := down_end x hn x2 x3 x4 x5 hq hk hv ho i β _ H.dv
  have U := up_end x hn x2 x3 x4 x5 hq hk hv ho i β _ _ H.dk H.dv
  refine ⟨fun a b h => ?_, U.dk.congr fun s y _ _ => ?_, D.dv.congr fun s y _ _ => ?_⟩
  · show putRows β.out (128 * i.val) (blockDq lanes x2 x3 x4 x5 i β) _ = _
    have hb := b.isLt
    unfold putRows
    by_cases e : 128 * i.val ≤ a.val
    · refine (dif_pos ⟨⟨e, by show a.val < _; omega⟩, by show b.val < 512; omega⟩).trans ?_
      have k := blockDq_eq x hn x2 x3 x4 x5 hq hk hv ho i β _ _ H.dk H.dv ⟨b.val / 128, by omega⟩ ⟨a.val - 128 * i.val, by omega⟩ ⟨b.val % 128, Nat.mod_lt _ (by decide)⟩
      have ea : 128 * i.val + (a.val - 128 * i.val) = a.val := by omega
      have eb : 128 * (b.val / 128) + b.val % 128 = b.val := by omega
      dsimp only at k
      rw [ea, eb] at k
      exact k
    · refine (dif_neg (fun h => e h.1.1)).trans ?_
      exact H.out a b (by omega)
  · rw [Nat.mul_succ, sum_range_add]
    refine congrArg _ (sum_congr rfl fun r hr => ?_)
    have := mem_range.1 hr
    by_cases h : s < hi i.val 0
    · rw [if_pos h]
    · rw [if_neg h, Seq.dz_zero (by rw [hi_zero] at h; omega)]
  · rw [Nat.mul_succ, sum_range_add]
    refine congrArg _ (sum_congr rfl fun r hr => ?_)
    rw [hi_last, if_pos (Nat.zero_le _)]

include hn hq hk hv ho in
theorem block_iter (β : Bufs Ideal) (H : BlockAt x 0 β) : ∀ n ≤ 17, BlockAt x n (blockIter lanes x2 x3 x4 x5 β n)
  | 0, _ => H
  | n + 1, e => by
    have h : n < k0_t1_loop.trips := by rw [trips1]; omega
    rw [blockIter, dif_pos h]
    exact block_step x hn x2 x3 x4 x5 hq hk hv ho ⟨n, h⟩ _ (block_iter β H n (by omega))

include hn hq hk hv ho in
theorem body_end (x6 : FVec Ideal S2176x1536 .bf16) (x9 x10 : FVec Ideal S4x9x256x256 .f32) : BlockAt x 17 (bodyEnd x2 x3 x4 x5 x6 x9 x10) := by
  refine block_iter x hn x2 x3 x4 x5 hq hk hv ho _ ⟨fun a b h => absurd h (by omega), fun a b => ?_, fun a b => ?_⟩ 17 le_rfl
  · simp only [Nat.mul_zero, range_zero, sum_empty]; exact zero_dk a b
  · simp only [Nat.mul_zero, range_zero, sum_empty]; exact zero_dv a b

/-! ## The output of a sequence -/

theorem keep_dk (v : FVec Ideal S2176x512 .f32) (a : Fin 2176) (b : Fin 512) : (k0_pay168 (F := Ideal) v : S2176x512.Idx → EReal) (ix2 a b) = v (ix2 a b) := by
  unfold k0_pay168
  pointwise

theorem keep_dv (v : FVec Ideal S2176x512 .f32) (a : Fin 2176) (b : Fin 512) : (k0_pay1 (F := Ideal) v : S2176x512.Idx → EReal) (ix2 a b) = v (ix2 a b) := by
  unfold k0_pay1
  pointwise

theorem in_key (a : Fin 2176) (y : Fin 1536) (b : ℕ) : (∀ c : Fin S2176x1536.rank, (![0, b] : Fin 2 → ℕ) c ≤ ((ix2 a y : S2176x1536.Idx) c).val
    ∧ ((ix2 a y : S2176x1536.Idx) c).val < (![0, b] : Fin 2 → ℕ) c + S2176x512.size c) ↔ b ≤ y.val ∧ y.val < b + 512 :=
  ⟨fun h => h 1, fun h c => match c with | ⟨0, _⟩ => ⟨Nat.zero_le _, by show a.val < 0 + 2176; have := a.isLt; omega⟩ | ⟨1, _⟩ => h⟩

include hn hq hk hv ho in
theorem seq_dq (a : Fin 2176) (b : Fin 512) :
    seqOut x2 x3 x4 x5 (ix2 a ⟨b.val, by have := b.isLt; omega⟩) = (x.dq a.val b.val : EReal) := by
  have hb := b.isLt
  unfold seqOut bodyOut VecWindow.put
  refine (dif_neg fun h => by have := (in_key a _ 1024).1 h; dsimp only at this; omega).trans ?_
  refine (dif_neg fun h => by have := (in_key a _ 512).1 h; dsimp only at this; omega).trans ?_
  exact (body_end x hn x2 x3 x4 x5 hq hk hv ho _ _ _).out a b (by have := a.isLt; omega)

include hn hq hk hv ho in
theorem seq_dk (a : Fin 2176) (b : Fin 512) :
    seqOut x2 x3 x4 x5 (ix2 a ⟨512 + b.val, by have := b.isLt; omega⟩) = (x.dk a.val b.val : EReal) := by
  have hb := b.isLt
  unfold seqOut bodyOut VecWindow.put
  refine (dif_neg fun h => by have := (in_key a _ 1024).1 h; dsimp only at this; omega).trans ?_
  refine (dif_pos ((in_key a _ 512).2 ⟨by dsimp only; omega, by dsimp only; omega⟩)).trans ?_
  have e := (body_end x hn x2 x3 x4 x5 hq hk hv ho (fun _ => FloatOps.ofBits .bf16 0) (fun _ => FloatOps.ofBits .f32 0) (fun _ => FloatOps.ofBits .f32 0)).dk a b
  rw [Seq.dk, hn]
  refine Eq.trans (Eq.trans (congrArg _ (funext fun c => ?_)) (keep_dk _ a b)) e
  match c with
  | ⟨0, _⟩ => exact Fin.ext (Nat.sub_zero _)
  | ⟨1, _⟩ => exact Fin.ext (Nat.add_sub_cancel_left 512 b.val)

include hn hq hk hv ho in
theorem seq_dv (a : Fin 2176) (b : Fin 512) :
    seqOut x2 x3 x4 x5 (ix2 a ⟨1024 + b.val, by have := b.isLt; omega⟩) = (x.dv a.val b.val : EReal) := by
  have hb := b.isLt
  unfold seqOut bodyOut VecWindow.put
  refine (dif_pos ((in_key a _ 1024).2 ⟨by dsimp only; omega, by dsimp only; omega⟩)).trans ?_
  have e := (body_end x hn x2 x3 x4 x5 hq hk hv ho (fun _ => FloatOps.ofBits .bf16 0) (fun _ => FloatOps.ofBits .f32 0) (fun _ => FloatOps.ofBits .f32 0)).dv a b
  rw [Seq.dv, hn]
  refine Eq.trans (Eq.trans (congrArg _ (funext fun c => ?_)) (keep_dv _ a b)) e
  match c with
  | ⟨0, _⟩ => exact Fin.ext (Nat.sub_zero _)
  | ⟨1, _⟩ => exact Fin.ext (Nat.add_sub_cancel_left 1024 b.val)

end Sequence

end Cert.AttnIdeal.Pay
-- ==== Proof.AttnInputs.lean ====
/-
  What the attention gradient's windows read: at a grid point one sequence of the argument, behind 112 rows of zeros.
-/
module

public import proofs.«01_k».proof.Proof.Padded
public import proofs.«01_k».proof.Proof.AttnShift
public import proofs.«01_k».proof.Proof.AttnSeqValue

@[expose] public section

set_option maxRecDepth 16384

noncomputable section

namespace Cert.AttnIdeal.Pay

open Idealize.ShloMosaic Cert.AttnIdeal Cert.AttnIdeal.Gen Idealize.ShloMosaic.TcCoe Cert.AttnSpec
open Idealize.ShloMosaic.Pipeline (Dat)

variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel

theorem at_block {n k b r : ℕ} (h : n = k) : n * b + 1 * r = k * b + r := by rw [h, Nat.one_mul]

theorem at_zero {n b r : ℕ} (h : n = 0) : n * b + 1 * r = r := by rw [h, Nat.one_mul, Nat.zero_mul, Nat.zero_add]

/-- The sequences of an argument, one after the other, each behind 112 rows of zeros. -/
def padded (A : S4x2064x512.Idx → EReal) (R : Fin 8704) (j : Fin 512) : EReal :=
  if h : R.val % 2176 < 112 then 0 else A (ix3 ⟨R.val / 2176, by omega⟩ ⟨R.val % 2176 - 112, by omega⟩ j)

theorem V_v3 (c : Dev nD) (R : Fin 8704) (j : Fin 512) :
    (V m c main_v3 : S8704x512.Idx → EReal) (ix2 R j) = padded (m (c.tc.loc main_arg0)) R j := by
  unfold V V0
  simp only [List.flatten_cons, List.flatten_nil, List.append_nil]
  after_results
  pointwise
  rfl

theorem V_v7 (c : Dev nD) (R : Fin 8704) (j : Fin 512) :
    (V m c main_v7 : S8704x512.Idx → EReal) (ix2 R j) = padded (m (c.tc.loc main_arg1)) R j := by
  unfold V V0
  simp only [List.flatten_cons, List.flatten_nil, List.append_nil]
  after_results
  pointwise
  rfl

theorem V_v11 (c : Dev nD) (R : Fin 8704) (j : Fin 512) :
    (V m c main_v11 : S8704x512.Idx → EReal) (ix2 R j) = padded (m (c.tc.loc main_arg2)) R j := by
  unfold V V0
  simp only [List.flatten_cons, List.flatten_nil, List.append_nil]
  after_results
  pointwise
  rfl

theorem V_v15 (c : Dev nD) (R : Fin 8704) (j : Fin 512) :
    (V m c main_v15 : S8704x512.Idx → EReal) (ix2 R j) = padded (m (c.tc.loc main_arg3)) R j := by
  unfold V V0
  simp only [List.flatten_cons, List.flatten_nil, List.append_nil]
  after_results
  pointwise
  rfl

/-- A padded sequence of real numbers. -/
theorem padded_real {A : S4x2064x512.Idx → EReal} {X : ℕ → ℕ → ℝ} (s : Fin 4)
    (h : ∀ (a : Fin 2064) (b : Fin 512), A (ix3 s a b) = (X a.val b.val : EReal)) (R : Fin 8704) (r : ℕ) (hr : r < 2176)
    (hR : R.val = s.val * 2176 + r) (j : Fin 512) : padded A R j = ((shift X r j.val : ℝ) : EReal) := by
  unfold padded
  have e1 : R.val % 2176 = r := by omega
  have e2 : R.val / 2176 = s.val := by omega
  by_cases hl : r < 112
  · rw [dif_pos (by omega), shift_lt _ hl, EReal.coe_zero]
  · rw [dif_neg (by omega), shift, if_pos (by omega)]
    exact (congrArg A (congrArg₂ (fun a b => ix3 a b j) (Fin.ext e2 : _ = s)
      (Fin.ext (by show R.val % 2176 - 112 = r - 112; omega) : _ = (⟨r - 112, by omega⟩ : Fin 2064)))).trans (h _ _)

/-- The block of the queries at a grid point is that sequence, padded. -/
theorem iblk0 (c : Dev nD) (t : Fin cfg0.N) (s : Fin 4) (hs : s.val = t.val) {X : ℕ → ℕ → ℝ}
    (h : ∀ (a : Fin 2064) (b : Fin 512), (m (c.tc.loc main_arg0) : S4x2064x512.Idx → EReal) (ix3 s a b) = (X a.val b.val : EReal)) :
    Holds (iblk m c 0 t) (shift X) := fun r j => by
  rw [← padded_real s h ⟨t.val * 2176 + r.val, by omega⟩ r.val r.isLt (by rw [hs]) j, ← V_v3 m c]
  exact congrArg (V m c main_v3) (Cert.Padded.place_row (a := 2176) (b := 512) _ _ j (r := r.val) (index0 t).1 (index0 t).2 rfl rfl rfl)

/-- The block of the keys at a grid point is that sequence, padded. -/
theorem iblk1 (c : Dev nD) (t : Fin cfg0.N) (s : Fin 4) (hs : s.val = t.val) {X : ℕ → ℕ → ℝ}
    (h : ∀ (a : Fin 2064) (b : Fin 512), (m (c.tc.loc main_arg1) : S4x2064x512.Idx → EReal) (ix3 s a b) = (X a.val b.val : EReal)) :
    Holds (iblk m c 1 t) (shift X) := fun r j => by
  rw [← padded_real s h ⟨t.val * 2176 + r.val, by omega⟩ r.val r.isLt (by rw [hs]) j, ← V_v7 m c]
  exact congrArg (V m c main_v7) (Cert.Padded.place_row (a := 2176) (b := 512) _ _ j (r := r.val) (index1 t).1 (index1 t).2 rfl rfl rfl)

/-- The block of the values at a grid point is that sequence, padded. -/
theorem iblk2 (c : Dev nD) (t : Fin cfg0.N) (s : Fin 4) (hs : s.val = t.val) {X : ℕ → ℕ → ℝ}
    (h : ∀ (a : Fin 2064) (b : Fin 512), (m (c.tc.loc main_arg2) : S4x2064x512.Idx → EReal) (ix3 s a b) = (X a.val b.val : EReal)) :
    Holds (iblk m c 2 t) (shift X) := fun r j => by
  rw [← padded_real s h ⟨t.val * 2176 + r.val, by omega⟩ r.val r.isLt (by rw [hs]) j, ← V_v11 m c]
  exact congrArg (V m c main_v11) (Cert.Padded.place_row (a := 2176) (b := 512) _ _ j (r := r.val) (index2 t).1 (index2 t).2 rfl rfl rfl)

/-- The block of the output gradients at a grid point is that sequence, padded. -/
theorem iblk3 (c : Dev nD) (t : Fin cfg0.N) (s : Fin 4) (hs : s.val = t.val) {X : ℕ → ℕ → ℝ}
    (h : ∀ (a : Fin 2064) (b : Fin 512), (m (c.tc.loc main_arg3) : S4x2064x512.Idx → EReal) (ix3 s a b) = (X a.val b.val : EReal)) :
    Holds (iblk m c 3 t) (shift X) := fun r j => by
  rw [← padded_real s h ⟨t.val * 2176 + r.val, by omega⟩ r.val r.isLt (by rw [hs]) j, ← V_v15 m c]
  exact congrArg (V m c main_v15) (Cert.Padded.place_row (a := 2176) (b := 512) _ _ j (r := r.val) (index3 t).1 (index3 t).2 rfl rfl rfl)

end Cert.AttnIdeal.Pay
-- ==== Proof.AttnArray.lean ====
/-
  What the attention gradient's result holds after the run: the queries', keys' and values' gradients side by side.
-/
module

public import proofs.«01_k».proof.Proof.AttnInputs

@[expose] public section

set_option maxRecDepth 16384

noncomputable section

namespace Cert.AttnIdeal.Pay

open Idealize.ShloMosaic Cert.AttnIdeal Cert.AttnIdeal.Gen Idealize.ShloMosaic.TcCoe Cert.AttnSpec
open Idealize.ShloMosaic.Pipeline (Dat)

variable (m : (ℓ : Loc nD τ sig) → Buf (Elt Ideal) ℓ)

theorem index4 : ∀ t : Fin cfg0.N, win0_4.index t 0 = t.val ∧ win0_4.index t 1 = 0 := by decide +kernel
theorem xs4 : ∀ t : Fin cfg0.N, win0_4.xsize (grid0.coords t) 0 = 2176 ∧ win0_4.xsize (grid0.coords t) 1 = 1536 := by decide +kernel

/-- A row's grid point. -/
def point (R : Fin 8704) : Fin cfg0.N := ⟨R.val / 2176, by rw [show cfg0.N = 4 from N_0]; omega⟩

/-- A grid point's block of the result. -/
def block (c : Dev nD) (t : Fin cfg0.N) : S2176x1536.Idx → EReal :=
  seqOut (F := Ideal) (iblk m c 0 t) (iblk m c 1 t) (iblk m c 2 t) (iblk m c 3 t)

/-- The region's result: each sequence's gradients, one after the other. -/
def region (c : Dev nD) : S8704x1536.Idx → EReal := fun i =>
  block m c (point (i 0)) (ix2 ⟨(i 0 : Fin 8704).val % 2176, Nat.mod_lt _ (by decide)⟩ (i 1))

theorem region_row (c : Dev nD) (t : Fin cfg0.N) (r : Fin 2176) (k : Fin 1536) (R : Fin 8704) (hR : R.val = t.val * 2176 + r.val) :
    region m c (ix2 R k) = block m c t (ix2 r k) := by
  have e1 : point R = t := Fin.ext (by show R.val / 2176 = t.val; omega)
  have e2 : (⟨R.val % 2176, Nat.mod_lt _ (by decide)⟩ : Fin 2176) = r := Fin.ext (by show R.val % 2176 = r.val; omega)
  show block m c (point R) (ix2 ⟨R.val % 2176, _⟩ k) = _
  rw [e1, e2]

theorem flushed4_eq (c : Dev nD) (t : Fin cfg0.N) :
    (dats m 0 c).flushed 4 t = ((cfg0.win 4).blk t).view.read (Elt Ideal) (region m c) := by
  have ht : t.val < 4 := lt_of_lt_of_eq t.isLt (show cfg0.N = 4 from N_0)
  funext i
  obtain ⟨r, k, rfl⟩ := ex2 i
  have hread : ((cfg0.win 4).blk t).view.read (Elt Ideal) (region m c) (ix2 r k) = region m c (ix2 ⟨t.val * 2176 + r.val, by omega⟩ k) := by
    rw [View.read_apply]
    exact congrArg (region m c) (Padded.place_row (a := 2176) (b := 1536) _ _ _ (index4 t).1 (index4 t).2 rfl rfl rfl)
  rw [hread, region_row m c t r k _ rfl]
  show (dats m 0 c).after 4 t (ix2 r k) = _
  rw [after0_4]
  rfl

theorem final4 (c : Dev nD) : (dats m 0 c).arrAt 4 cfg0.N = region m c :=
  (dats m 0 c).arrAt_eq_of_cover 4 (region m c) (fun t _ => flushed4_eq m c t) fun i =>
    ⟨point (i 0), flush0_4 _, by
      have h0 : (i 0 : Nat) < 8704 := (i 0).isLt
      have h1 : (i 1 : Nat) < 1536 := (i 1).isLt
      show i ∈ ((View.whole main_v16).slice (win0_4.rect (point (i 0)))).set
      rw [View.set_slice_whole, Rect.mem_set_unit]
      exact Padded.covered ⟨(index4 _).1, (index4 _).2, xs4 _⟩ (fun a => (i a).val) rfl rfl rfl rfl rfl (by norm_num) (i 1).isLt⟩

/-- The grid point of a sequence, and a sequence's row behind its padding. -/
def seqPoint (s : Fin 4) : Fin cfg0.N := ⟨s.val, by rw [show cfg0.N = 4 from N_0]; exact s.isLt⟩
def seqRow (q : Fin 2064) : Fin 2176 := ⟨q.val + 112, by omega⟩

/-- The result after the host's last lines. -/
def result (c : Dev nD) : S4x2064x1536.Idx → EReal := fun i => block m c (seqPoint (i 0)) (ix2 (seqRow (i 1)) (i 2))

theorem arr_inj : Function.Injective (Pipeline.arrRef spec0) := by decide

theorem tail (c : Dev nD) :
    (Pipeline.afterTail₀ cfgs (dats m) 0 (V0 m) [hostOps1] c main_v19 : S4x2064x1536.Idx → EReal) = result m c := by
  unfold Pipeline.afterTail₀
  simp only [List.flatten_cons, List.flatten_nil, List.append_nil]
  after_results
  have e : (Pipeline.withArrays spec0 c (V0 m c) (fun w => (dats m 0 c).arrAt w cfg0.N) (Proc.devRef .tc main_v16) : S8704x1536.Idx → EReal) = region m c :=
    (Pipeline.withArrays_arr spec0 arr_inj c (V0 m c) (fun w => (dats m 0 c).arrAt w cfg0.N) 4).trans (final4 m c)
  funext i
  obtain ⟨s, q, k, rfl⟩ := ex3 i
  pointwise
  exact (congrFun e _).trans (region_row m c (seqPoint s) (seqRow q) k _
    (by show s.val * 2176 + (112 + q.val) = s.val * 2176 + (q.val + 112); omega))

/-- The run: the result, and the arguments unchanged. -/
theorem run_result (ρ : Dev nD → PrngReg) : θ_run defs (onTc (τ := τ) (main (F := Ideal))) ⟨m, fun _ => 0, ρ⟩ (fun r => ∀ c : Dev nD,
    r.2.mem (c.tc.loc main_v19) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨((h c).2 main_v19 (Pipeline.mem_restRefs_of main_v19 (by decide) (by decide))).trans (tail m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- The arguments hold the real sequences `X`: queries, keys, values and output gradients. -/
def Args (q k v o : S4x2064x512.Idx → EReal) (X : Fin 4 → Seq) : Prop := ∀ s, (X s).n = 2064 ∧ ∀ (a : Fin 2064) (b : Fin 512),
  q (ix3 s a b) = (((X s).q a.val b.val : ℝ) : EReal) ∧ k (ix3 s a b) = (((X s).k a.val b.val : ℝ) : EReal)
  ∧ v (ix3 s a b) = (((X s).v a.val b.val : ℝ) : EReal) ∧ o (ix3 s a b) = (((X s).o a.val b.val : ℝ) : EReal)

/-- The gradients of the queries, keys and values, side by side. -/
def grads (X : Fin 4 → Seq) : S4x2064x1536.Idx → EReal := fun i =>
  if (i 2 : Fin 1536).val < 512 then (((X (i 0)).dq (i 1 : Fin 2064).val (i 2 : Fin 1536).val : ℝ) : EReal)
  else if (i 2 : Fin 1536).val < 1024 then (((X (i 0)).dk (i 1 : Fin 2064).val ((i 2 : Fin 1536).val - 512) : ℝ) : EReal)
  else (((X (i 0)).dv (i 1 : Fin 2064).val ((i 2 : Fin 1536).val - 1024) : ℝ) : EReal)

theorem result_eq {X : Fin 4 → Seq} (c : Dev nD)
    (h : Args (m (c.tc.loc main_arg0)) (m (c.tc.loc main_arg1)) (m (c.tc.loc main_arg2)) (m (c.tc.loc main_arg3)) X) :
    result m c = grads X := by
  funext i
  obtain ⟨s, q, k, rfl⟩ := ex3 i
  have hn : (X s).pad.n = 2176 := by show (X s).n + 112 = 2176; rw [(h s).1]
  have h0 := iblk0 m c (seqPoint s) s rfl fun a b => ((h s).2 a b).1
  have h1 := iblk1 m c (seqPoint s) s rfl fun a b => ((h s).2 a b).2.1
  have h2 := iblk2 m c (seqPoint s) s rfl fun a b => ((h s).2 a b).2.2.1
  have h3 := iblk3 m c (seqPoint s) s rfl fun a b => ((h s).2 a b).2.2.2
  have hk := k.isLt
  show block m c (seqPoint s) (ix2 (seqRow q) k) = if k.val < 512 then _ else if k.val < 1024 then _ else _
  unfold block
  by_cases e1 : k.val < 512
  · rw [if_pos e1]
    exact (seq_dq (X s).pad hn _ _ _ _ h0 h1 h2 h3 (seqRow q) ⟨k.val, e1⟩).trans (congrArg _ ((X s).pad_dq q.val k.val))
  · rw [if_neg e1]
    by_cases e2 : k.val < 1024
    · rw [if_pos e2]
      refine Eq.trans (congrArg _ (congrArg _ (Fin.ext (by show k.val = 512 + (k.val - 512); omega))))
        ((seq_dk (X s).pad hn _ _ _ _ h0 h1 h2 h3 (seqRow q) ⟨k.val - 512, by omega⟩).trans (congrArg _ ((X s).pad_dk q.val (k.val - 512))))
    · rw [if_neg e2]
      refine Eq.trans (congrArg _ (congrArg _ (Fin.ext (by show k.val = 1024 + (k.val - 1024); omega))))
        ((seq_dv (X s).pad hn _ _ _ _ h0 h1 h2 h3 (seqRow q) ⟨k.val - 1024, by omega⟩).trans (congrArg _ ((X s).pad_dv q.val (k.val - 1024))))

end Cert.AttnIdeal.Pay
-- ==== Proof.AttnRefSums.lean ====
/-
  The reference's running sums along the last axis, from the end and from the start, read at an index.
-/
module

public import proofs.«01_k».proof.Proof.AttnSpec

@[expose] public section

noncomputable section

namespace Cert.AttnRefSums

open Idealize.ShloMosaic Finset

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

variable {A B T N lo hi : ℕ}

/-- What a window's position holds: an element, or a zero off the array. -/
def place (lo : ℕ) (x : (⟨4, ![A, B, T, N]⟩ : Shape).Idx → EReal) (j : (⟨4, ![A, B, T, N]⟩ : Shape).Idx) (i : (⟨4, ![1, 1, 1, N]⟩ : Shape).Idx) : EReal :=
  if e : ∀ c : Fin 4, (![0, 0, 0, lo] : Fin 4 → ℕ) c ≤ (j c).val * (![1, 1, 1, 1] : Fin 4 → ℕ) c + (i c).val
      ∧ (j c).val * (![1, 1, 1, 1] : Fin 4 → ℕ) c + (i c).val - (![0, 0, 0, lo] : Fin 4 → ℕ) c < (![A, B, T, N] : Fin 4 → ℕ) c
  then x fun c => ⟨_, (e c).2⟩ else 0

/-- A window sum along the last axis. -/
theorem window_last (h : (⟨4, ![A, B, T, N]⟩ : Shape).ReduceWindows ![1, 1, 1, N] ![1, 1, 1, 1] ![0, 0, 0, lo] ![0, 0, 0, hi] ⟨4, ![A, B, T, N]⟩)
    (x : (⟨4, ![A, B, T, N]⟩ : Shape).Idx → EReal) (a : Fin A) (b : Fin B) (t : Fin T) (s : Fin N) :
    Ideal.hostReduceWindowAdd ![1, 1, 1, N] ![1, 1, 1, 1] ![0, 0, 0, lo] ![0, 0, 0, hi] h x 0 (ix4 a b t s)
      = ∑ k : Fin N, if e : lo ≤ s.val + k.val ∧ s.val + k.val - lo < N then x (ix4 a b t ⟨s.val + k.val - lo, e.2⟩) else 0 := by
  unfold Ideal.hostReduceWindowAdd Host.reduceWindow
  dsimp only
  rw [foldl_sum, ← Fin.sum_univ_def, zero_add]
  refine (sum_congr rfl fun n _ => (dite_congr rfl (fun _ => rfl) fun _ => rfl : _ = place lo x (ix4 a b t s) ((⟨4, ![1, 1, 1, N]⟩ : Shape).rowMajor.symm n))).trans ?_
  change ∑ n, place lo x (ix4 a b t s) ((⟨4, ![1, 1, 1, N]⟩ : Shape).rowMajor.symm n) = _
  rw [Equiv.sum_comp (⟨4, ![1, 1, 1, N]⟩ : Shape).rowMajor.symm (place lo x (ix4 a b t s))]
  refine (Fintype.sum_bijective (fun k : Fin N => (ix4 0 0 0 k : (⟨4, ![1, 1, 1, N]⟩ : Shape).Idx)) ⟨fun k l e => congrFun e 3, fun i => ⟨i 3, ?_⟩⟩ _ _ fun k => ?_).symm
  · funext c
    match c with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  · by_cases e : lo ≤ s.val + k.val ∧ s.val + k.val - lo < N
    · rw [dif_pos e]
      refine Eq.symm ((dif_pos fun c => ?_).trans ?_)
      · match c with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨Nat.zero_le _, by show t.val * 1 + 0 - 0 < T; omega⟩
        | ⟨3, _⟩ => exact ⟨by show lo ≤ s.val * 1 + k.val; omega, by show s.val * 1 + k.val - lo < N; omega⟩
      · refine congrArg x (funext fun c => Fin.ext ?_)
        match c with
        | ⟨0, _⟩ => show a.val * 1 + 0 - 0 = a.val; omega
        | ⟨1, _⟩ => show b.val * 1 + 0 - 0 = b.val; omega
        | ⟨2, _⟩ => show t.val * 1 + 0 - 0 = t.val; omega
        | ⟨3, _⟩ => show s.val * 1 + k.val - lo = s.val + k.val - lo; omega
    · rw [dif_neg e]
      unfold place
      rw [dif_neg]
      intro hc
      have h1 : lo ≤ s.val * 1 + k.val := (hc 3).1
      have h2 : s.val * 1 + k.val - lo < N := (hc 3).2
      exact e ⟨by omega, by omega⟩

variable (f : ℕ → ℝ) (x : (⟨4, ![A, B, T, N]⟩ : Shape).Idx → EReal) (a : Fin A) (b : Fin B) (t : Fin T)
    (hx : ∀ j : Fin N, x (ix4 a b t j) = (f j.val : EReal))

include hx in
theorem window_real (h : (⟨4, ![A, B, T, N]⟩ : Shape).ReduceWindows ![1, 1, 1, N] ![1, 1, 1, 1] ![0, 0, 0, lo] ![0, 0, 0, hi] ⟨4, ![A, B, T, N]⟩) (s : Fin N) :
    Ideal.hostReduceWindowAdd ![1, 1, 1, N] ![1, 1, 1, 1] ![0, 0, 0, lo] ![0, 0, 0, hi] h x 0 (ix4 a b t s)
      = ((∑ k ∈ range N, if lo ≤ s.val + k ∧ s.val + k - lo < N then f (s.val + k - lo) else 0 : ℝ) : EReal) := by
  rw [window_last, ← Fin.sum_univ_eq_sum_range (fun k => if lo ≤ s.val + k ∧ s.val + k - lo < N then f (s.val + k - lo) else 0), ← Cert.Reals.sum_coe]
  refine sum_congr rfl fun k _ => ?_
  by_cases e : lo ≤ s.val + k.val ∧ s.val + k.val - lo < N
  · rw [dif_pos e, if_pos e, hx]
  · rw [dif_neg e, if_neg e, EReal.coe_zero]

include hx in
/-- The sum from an index to the end. -/
theorem from_end (h : (⟨4, ![A, B, T, N]⟩ : Shape).ReduceWindows ![1, 1, 1, N] ![1, 1, 1, 1] ![0, 0, 0, 0] ![0, 0, 0, hi] ⟨4, ![A, B, T, N]⟩) (s : Fin N) :
    Ideal.hostReduceWindowAdd ![1, 1, 1, N] ![1, 1, 1, 1] ![0, 0, 0, 0] ![0, 0, 0, hi] h x 0 (ix4 a b t s) = ((∑ j ∈ Ico s.val N, f j : ℝ) : EReal) := by
  rw [window_real f x a b t hx, ← sum_filter]
  refine congrArg _ (sum_bij (fun k _ => s.val + k) (fun k hk => ?_) (fun _ _ _ _ e => by omega) (fun j hj => ?_) fun _ _ => rfl)
  · have := mem_filter.1 hk
    exact mem_Ico.2 ⟨by omega, by omega⟩
  · have := mem_Ico.1 hj
    exact ⟨j - s.val, mem_filter.2 ⟨mem_range.2 (by omega), by omega, by omega⟩, by omega⟩

include hx in
/-- The sum from the start to an index. -/
theorem from_start (h : (⟨4, ![A, B, T, N]⟩ : Shape).ReduceWindows ![1, 1, 1, N] ![1, 1, 1, 1] ![0, 0, 0, lo] ![0, 0, 0, hi] ⟨4, ![A, B, T, N]⟩) (hlo : lo + 1 = N) (s : Fin N) :
    Ideal.hostReduceWindowAdd ![1, 1, 1, N] ![1, 1, 1, 1] ![0, 0, 0, lo] ![0, 0, 0, hi] h x 0 (ix4 a b t s) = ((∑ j ∈ range (s.val + 1), f j : ℝ) : EReal) := by
  rw [window_real f x a b t hx, ← sum_filter]
  have hs := s.isLt
  refine congrArg _ (sum_bij (fun k _ => s.val + k - lo) (fun k hk => ?_) (fun k hk l hl e => ?_) (fun j hj => ?_) fun _ _ => rfl)
  · have := mem_range.1 (mem_filter.1 hk).1
    exact mem_range.2 (by omega)
  · have := (mem_filter.1 hk).2
    have := (mem_filter.1 hl).2
    omega
  · have := mem_range.1 hj
    exact ⟨j + lo - s.val, mem_filter.2 ⟨mem_range.2 (by omega), by omega, by omega⟩, by omega⟩

end Cert.AttnRefSums
-- ==== Proof.AttnRefValue.lean ====
/-
  What the attention gradient's reference computes on real arguments, line by line.
-/
module

public import proofs.«01_k».proof.Proof.AttnArray
public import proofs.«01_k».proof.Proof.AttnRefSums
public import proofs.«01_k».proof.Proof.Gen.AttnRefIdeal.Read

@[expose] public section

set_option maxRecDepth 16384

noncomputable section

namespace Cert.AttnRefIdeal.RefValue

open Idealize.ShloMosaic Cert.AttnRefIdeal Cert.AttnRefIdeal.Read Cert.AttnSpec Cert.Reals
open Cert.AttnIdeal.Pay (Args grads eighth32 slt_word toInt_small)

/-! ## The softplus and the sigmoid -/

theorem sp_neg (z : ℝ) : sp (-z) = sp z - z := by
  unfold sp
  rw [abs_neg]
  rcases le_total z 0 with e | e
  · rw [max_eq_left (by linarith), max_eq_right e]; ring
  · rw [max_eq_right (by linarith), max_eq_left e]; ring

theorem exp_sp (z : ℝ) : Real.exp (sp z) = 1 + Real.exp z := by
  unfold sp
  have hp : 0 < 1 + Real.exp (-|z|) := by positivity
  rw [Real.exp_add, Real.exp_log hp]
  rcases le_total z 0 with e | e
  · rw [max_eq_right e, abs_of_nonpos e, neg_neg, Real.exp_zero, one_mul]
  · rw [max_eq_left e, abs_of_nonneg e, mul_add, mul_one, ← Real.exp_add, add_neg_cancel, Real.exp_zero, add_comm]

/-- The two sigmoids add up to one. -/
theorem exp_neg_sp (z : ℝ) : Real.exp (-z - sp (-z)) = 1 - Real.exp (z - sp z) := by
  have h := exp_sp z
  have hp := Real.exp_pos (sp z)
  rw [sp_neg, show -z - (sp z - z) = -sp z by ring, Real.exp_neg, Real.exp_sub]
  field_simp
  linarith

theorem softplus_real (z : ℝ) :
    (if ((z : ℝ) : EReal) ≠ ((z : ℝ) : EReal) then ((z : ℝ) : EReal)
      else max ((z : ℝ) : EReal) 0 + Ideal.log1p (Ideal.exp (-FloatOps.absf (F := Ideal) (φ := .f32) ((z : ℝ) : EReal)))) = (sp z : EReal) := by
  rw [if_neg (by simp)]
  have hp : 0 < 1 + Real.exp (-|z|) := by positivity
  have ha : FloatOps.absf (F := Ideal) (φ := .f32) ((z : ℝ) : EReal) = ((|z| : ℝ) : EReal) := by
    show max ((z : ℝ) : EReal) (-((z : ℝ) : EReal)) = _
    rw [← EReal.coe_neg, ← EReal.coe_strictMono.monotone.map_max]; rfl
  rw [ha, ← EReal.coe_neg, Ideal.exp_coe, Ideal.log1p, ← EReal.coe_one, ← EReal.coe_add, Ideal.log_coe, if_neg (not_le.2 hp),
    ← EReal.coe_zero, ← EReal.coe_strictMono.monotone.map_max, ← EReal.coe_add]
  rfl

theorem sigmoid_real (z y : ℝ) :
    Ideal.exp ((if ((z : ℝ) : EReal) = Ideal.ofBits .f32 2139095040#32 then 0 else ((z : ℝ) : EReal))
      - if ((y : ℝ) : EReal) = Ideal.ofBits .f32 2139095040#32 then 0 else ((y : ℝ) : EReal)) = ((Real.exp (z - y) : ℝ) : EReal) := by
  rw [ofBits_inf, if_neg (EReal.coe_ne_top _), if_neg (EReal.coe_ne_top _), ← EReal.coe_sub, Ideal.exp_coe]

/-- A choice by the mask. -/
theorem masked (p : Prop) [Decidable p] (a : EReal) (x : ℝ) (ha : p → a = ((x : ℝ) : EReal)) :
    Scalar.select (if p then 1#1 else 0#1) a 0 = ((if p then x else 0 : ℝ) : EReal) := by
  by_cases hp : p
  · rw [if_pos hp, if_pos hp]; exact ha hp
  · rw [if_neg hp, if_neg hp]; rfl

variable {x0 x1 x2 x3 : Vec Ideal S4x2064x512 .f32} {X : Fin 4 → Seq} (hx : Args x0 x1 x2 x3 X)
variable (s : Fin 4) (h : Fin 8) (t j : Fin 2064) (e : Fin 64)

/-- The column of a head's lane. -/
def lane (h : Fin 8) (e : Fin 64) : Fin 512 := ⟨64 * h.val + e.val, by omega⟩

theorem lane_eq {n : ℕ} (h : Fin 8) (e : Fin 64) (p : n < 512) (q : n = h.val * 64 + e.val) : (⟨n, p⟩ : Fin 512) = lane h e :=
  Fin.ext (by show n = 64 * h.val + e.val; omega)

section
include hx

theorem q1 : (val_main_v1 x0 : S4x8x2064x64.Idx → EReal) (ix4 s h t e) = (((X s).q t.val (64 * h.val + e.val) : ℝ) : EReal) := by
  unfold val_main_v1 val_main_v0
  pointwise
  rw [lane_eq h e _ rfl]
  exact ((hx s).2 t (lane h e)).1

theorem k3 : (val_main_v3 x1 : S4x8x2064x64.Idx → EReal) (ix4 s h t e) = (((X s).k t.val (64 * h.val + e.val) : ℝ) : EReal) := by
  unfold val_main_v3 val_main_v2
  pointwise
  rw [lane_eq h e _ rfl]
  exact ((hx s).2 t (lane h e)).2.1

theorem v5 : (val_main_v5 x2 : S4x8x2064x64.Idx → EReal) (ix4 s h t e) = (((X s).v t.val (64 * h.val + e.val) : ℝ) : EReal) := by
  unfold val_main_v5 val_main_v4
  pointwise
  rw [lane_eq h e _ rfl]
  exact ((hx s).2 t (lane h e)).2.2.1

theorem o29 : (val_main_v29 x3 : S4x8x2064x64.Idx → EReal) (ix4 s h t e) = (((X s).o t.val (64 * h.val + e.val) : ℝ) : EReal) := by
  unfold val_main_v29 val_main_v28
  pointwise
  rw [lane_eq h e _ rfl]
  exact ((hx s).2 t (lane h e)).2.2.2

/-- The score. -/
theorem z8 : (val_main_v8 x0 x1 : S4x8x2064x2064.Idx → EReal) (ix4 s h t j) = (((X s).z h.val t.val j.val : ℝ) : EReal) := by
  unfold val_main_v8 val_main_v7 val_main_cst val_main_v6
  pointwise
  simp only [q1 hx, k3 hx, ← EReal.coe_mul, sum_coe, eighth32]
  rw [Seq.z, Fin.sum_univ_eq_sum_range (fun e => (X s).q t.val (64 * h.val + e) * (X s).k j.val (64 * h.val + e)) 64, Finset.sum_mul]
  exact congrArg _ (Finset.sum_congr rfl fun e _ => by ring)

end

/-- The mask: the keys before the query. -/
theorem m15 : (val_main_v15 (F := Ideal)) (ix2 t j) = if j.val < t.val then 1#1 else 0#1 := by
  unfold val_main_v15 val_main_v14 val_main_v13 val_main_v12 val_main_v11 val_main_v10 val_main_v9
  pointwise
  rw [slt_word, toInt_small j.val (by omega), toInt_small t.val (by omega)]
  exact if_congr Nat.cast_lt rfl rfl

section
include hx

theorem z0 : (val_main_call0_v0 x0 x1 : S4x8x2064x2064.Idx → EReal) (ix4 s h t j) = (((X s).z h.val t.val j.val : ℝ) : EReal) := by
  unfold val_main_call0_v0 val_main_v16
  pointwise
  rw [z8 hx, neg_neg]

theorem z3 : (val_main_call3_v0 x0 x1 : S4x8x2064x2064.Idx → EReal) (ix4 s h t j) = ((-(X s).z h.val t.val j.val : ℝ) : EReal) := by
  unfold val_main_call3_v0
  pointwise
  rw [z8 hx, EReal.coe_neg]

theorem sp0 : (val_main_call0_v1_0 x0 x1 : S4x8x2064x2064.Idx → EReal) (ix4 s h t j) = ((sp ((X s).z h.val t.val j.val) : ℝ) : EReal) := by
  unfold val_main_call0_v1_0 val_main_call0_call0_v4 val_main_call0_call0_v6 val_main_call0_call0_v11 val_main_call0_call0_v10 val_main_call0_call0_v9 val_main_call0_call0_v8 val_main_call0_call0_v7 val_main_call0_call0_v1 val_main_call0_call0_v3 val_main_call0_call0_v2 val_main_call0_call0_v5 val_main_call0_call0_v0 val_main_call0_call0_cst
  pointwise
  rw [z0 hx]
  exact softplus_real _

theorem sp3 : (val_main_call3_v1_0 x0 x1 : S4x8x2064x2064.Idx → EReal) (ix4 s h t j) = ((sp (-(X s).z h.val t.val j.val) : ℝ) : EReal) := by
  unfold val_main_call3_v1_0 val_main_call3_call0_v4 val_main_call3_call0_v6 val_main_call3_call0_v11 val_main_call3_call0_v10 val_main_call3_call0_v9 val_main_call3_call0_v8 val_main_call3_call0_v7 val_main_call3_call0_v1 val_main_call3_call0_v3 val_main_call3_call0_v2 val_main_call3_call0_v5 val_main_call3_call0_v0 val_main_call3_call0_cst
  pointwise
  rw [z3 hx]
  exact softplus_real _

theorem sg17 : (val_main_v17_1 x0 x1 : S4x8x2064x2064.Idx → EReal) (ix4 s h t j) = (((X s).sg h.val t.val j.val : ℝ) : EReal) := by
  unfold val_main_v17_1 val_main_call0_call0_v21 val_main_call0_call0_v20 val_main_call0_call0_v19 val_main_call0_call0_cst_3 val_main_call0_call0_v18 val_main_call0_call0_v17 val_main_call0_call0_cst_2 val_main_call0_call0_v16 val_main_call0_call0_v15 val_main_call0_call0_cst_1 val_main_call0_call0_v14 val_main_call0_call0_v13 val_main_call0_call0_cst_0
  pointwise
  rw [z0 hx, sp0 hx]
  exact sigmoid_real _ _

theorem sg21 : (val_main_v21_1 x0 x1 : S4x8x2064x2064.Idx → EReal) (ix4 s h t j) = ((1 - (X s).sg h.val t.val j.val : ℝ) : EReal) := by
  unfold val_main_v21_1 val_main_call3_call0_v21 val_main_call3_call0_v20 val_main_call3_call0_v19 val_main_call3_call0_cst_3 val_main_call3_call0_v18 val_main_call3_call0_v17 val_main_call3_call0_cst_2 val_main_call3_call0_v16 val_main_call3_call0_v15 val_main_call3_call0_cst_1 val_main_call3_call0_v14 val_main_call3_call0_v13 val_main_call3_call0_cst_0
  pointwise
  rw [z3 hx, sp3 hx]
  exact (sigmoid_real _ _).trans (congrArg _ (exp_neg_sp _))

theorem lk18 : (val_main_v18_0 x0 x1 : S4x8x2064x2064.Idx → EReal) (ix4 s h t j) = (((X s).lk h.val t.val j.val : ℝ) : EReal) := by
  unfold val_main_v18_0 val_main_v18_1 val_main_v17_0 val_main_call1_v2 val_main_call1_v0 val_main_cst_0
  dsimp only [id]
  pointwise
  rw [sp0 hx, m15]
  exact masked _ _ _ fun _ => (EReal.coe_neg _).symm

theorem w19 : (val_main_v19 x0 x1 : S4x8x2064x2064.Idx → EReal) (ix4 s h t j) = (((X s).w h.val t.val j.val : ℝ) : EReal) := by
  unfold val_main_v19 Host.reduceWindowAdd
  rw [Ideal.hostReduceWindowAdd_def, show (val_main_call2_v0) _ = (0 : EReal) by
    unfold val_main_call2_v0 val_main_call2_cst; pointwise]
  refine (Cert.AttnRefSums.from_end (fun j => (X s).lk h.val t.val j) _ s h t (fun j => lk18 hx s h t j) _ j).trans ?_
  rw [Seq.w, (hx s).1]

theorem ex23 (ht : j.val < t.val) : (val_main_v23 x0 x1 : S4x8x2064x2064.Idx → EReal) (ix4 s h t j) = (((X s).a h.val t.val j.val : ℝ) : EReal) := by
  unfold val_main_v23 val_main_v22 val_main_v21_0 val_main_v20
  pointwise
  rw [sp3 hx, w19 hx, lk18 hx, ← EReal.coe_neg, ← EReal.coe_sub, ← EReal.coe_add, Ideal.exp_coe, Seq.a, if_pos ht, Seq.lk, if_pos ht, sp_neg]
  exact congrArg _ (congrArg _ (by ring))

theorem a24 : (val_main_v24_0 x0 x1 : S4x8x2064x2064.Idx → EReal) (ix4 s h t j) = (((X s).a h.val t.val j.val : ℝ) : EReal) := by
  unfold val_main_v24_0 val_main_v24_1 val_main_call4_v2 val_main_call4_v0 val_main_cst_1
  dsimp only [id]
  pointwise
  rw [m15]
  refine (masked _ _ _ fun p => ex23 hx s h t j p).trans (congrArg _ ?_)
  by_cases p : j.val < t.val
  · rw [if_pos p]
  · rw [if_neg p, Seq.a_zero (not_lt.1 p)]

theorem da32 : (val_main_v32 x2 x3 : S4x8x2064x2064.Idx → EReal) (ix4 s h t j) = (((X s).da h.val t.val j.val : ℝ) : EReal) := by
  unfold val_main_v32
  pointwise
  simp only [o29 hx, v5 hx, ← EReal.coe_mul, sum_coe]
  rw [Seq.da, Fin.sum_univ_eq_sum_range (fun e => (X s).o t.val (64 * h.val + e) * (X s).v j.val (64 * h.val + e)) 64]

theorem g34 : (val_main_v34 x0 x1 x2 x3 : S4x8x2064x2064.Idx → EReal) (ix4 s h t j) = (((X s).g h.val t.val j.val : ℝ) : EReal) := by
  unfold val_main_v34 val_main_v33 val_main_v24_1 val_main_call5_v0 val_main_call5_cst
  pointwise
  rw [m15]
  refine (masked _ _ ((X s).g h.val t.val j.val) fun p => by rw [da32 hx, ex23 hx s h t j p, ← EReal.coe_mul, Seq.g]).trans (congrArg _ ?_)
  by_cases p : j.val < t.val
  · rw [if_pos p]
  · rw [if_neg p, Seq.g_zero (not_lt.1 p)]

theorem b38 : (val_main_v38 x0 x1 x2 x3 : S4x8x2064x2064.Idx → EReal) (ix4 s h t j) = (((X s).b h.val t.val j.val : ℝ) : EReal) := by
  have e37 : (val_main_v37 x0 x1 x2 x3 : S4x8x2064x2064.Idx → EReal) (ix4 s h t j) = ((∑ k ∈ Finset.range (j.val + 1), (X s).g h.val t.val k : ℝ) : EReal) := by
    unfold val_main_v37 Host.reduceWindowAdd
    rw [Ideal.hostReduceWindowAdd_def, show (val_main_call7_v0) _ = (0 : EReal) by
      unfold val_main_call7_v0 val_main_call7_cst; pointwise]
    exact Cert.AttnRefSums.from_start (fun j => (X s).g h.val t.val j) _ s h t (fun j => g34 hx s h t j) _ rfl j
  unfold val_main_v38 val_main_v36
  pointwise
  rw [g34 hx, e37, ← EReal.coe_neg, ← EReal.coe_add, Finset.sum_range_succ, Seq.b]
  exact congrArg _ (by ring)

theorem dz44 : (val_main_v44 x0 x1 x2 x3 : S4x8x2064x2064.Idx → EReal) (ix4 s h t j) = (((X s).dz h.val t.val j.val * (1 / 8) : ℝ) : EReal) := by
  unfold val_main_v44 val_main_v43 val_main_cst_2 val_main_v42 val_main_v41 val_main_v40 val_main_call9_v1 val_main_call9_v0 val_main_v39 val_main_v18_1 val_main_call8_v0 val_main_call8_cst val_main_v35 val_main_call6_v1 val_main_call6_v0
  pointwise
  rw [m15, masked _ _ _ fun _ => b38 hx s h t j, g34 hx, sg21 hx, sg17 hx, eighth32]
  simp only [← EReal.coe_neg, ← EReal.coe_mul, ← EReal.coe_add]
  refine congrArg _ ?_
  rw [Seq.dz]
  by_cases p : j.val < t.val
  · rw [if_pos p, if_pos p]; ring
  · rw [if_neg p, if_neg p, Seq.g_zero (not_lt.1 p)]; ring

/-- The queries' gradient at a head's lane. -/
theorem dq46 : (val_main_v46 x0 x1 x2 x3 : S4x8x2064x64.Idx → EReal) (ix4 s h t e) = (((X s).dq t.val (64 * h.val + e.val) : ℝ) : EReal) := by
  unfold val_main_v46
  pointwise
  simp only [dz44 hx, k3 hx, ← EReal.coe_mul, sum_coe]
  rw [Seq.dq, (hx s).1, show (64 * h.val + e.val) / 64 = h.val by omega, Fin.sum_univ_eq_sum_range (fun j => (X s).dz h.val t.val j * (1 / 8) * (X s).k j (64 * h.val + e.val)) 2064, Finset.sum_mul]
  exact congrArg _ (Finset.sum_congr rfl fun j _ => by ring)

/-- The keys' gradient at a head's lane. -/
theorem dk45 : (val_main_v45 x0 x1 x2 x3 : S4x8x2064x64.Idx → EReal) (ix4 s h j e) = (((X s).dk j.val (64 * h.val + e.val) : ℝ) : EReal) := by
  unfold val_main_v45
  pointwise
  simp only [dz44 hx, q1 hx, ← EReal.coe_mul, sum_coe]
  rw [Seq.dk, (hx s).1, show (64 * h.val + e.val) / 64 = h.val by omega, Fin.sum_univ_eq_sum_range (fun t => (X s).dz h.val t j.val * (1 / 8) * (X s).q t (64 * h.val + e.val)) 2064]
  exact congrArg _ (Finset.sum_congr rfl fun j _ => by ring)

/-- The values' gradient at a head's lane. -/
theorem dv31 : (val_main_v31 x0 x1 x3 : S4x8x2064x64.Idx → EReal) (ix4 s h j e) = (((X s).dv j.val (64 * h.val + e.val) : ℝ) : EReal) := by
  unfold val_main_v31 val_main_v30
  pointwise
  simp only [a24 hx, o29 hx, ← EReal.coe_mul, sum_coe]
  rw [Seq.dv, (hx s).1, show (64 * h.val + e.val) / 64 = h.val by omega, Fin.sum_univ_eq_sum_range (fun t => (X s).o t (64 * h.val + e.val) * (X s).a h.val t j.val) 2064]
  exact congrArg _ (Finset.sum_congr rfl fun j _ => by ring)

/-- The reference's result: the three gradients side by side. -/
theorem result : (val_main_v53 x0 x1 x2 x3 : S4x2064x1536.Idx → EReal) = grads X := by
  funext i
  obtain ⟨s, q, y, rfl⟩ := ex3 i
  unfold val_main_v53 val_main_v52 val_main_v51 val_main_v50 val_main_v49 val_main_v48 val_main_v47
  pointwise
  have hy := y.isLt
  show _ = if y.val < 512 then _ else if y.val < 1024 then _ else _
  by_cases e1 : y.val < 512
  · rw [dif_pos e1, if_pos e1, dq46 hx]
    exact congrArg _ (congrArg _ (by show 64 * (y.val / 64) + y.val % 64 = y.val; omega))
  · rw [dif_neg e1, if_neg e1]
    by_cases e2 : y.val < 1024
    · rw [dif_pos (by omega), if_pos e2, dk45 hx]
      exact congrArg _ (congrArg _ (by show 64 * ((y.val - 512) / 64) + (y.val - 512) % 64 = y.val - 512; omega))
    · rw [dif_neg (by omega), if_neg e2, dv31 hx]
      exact congrArg _ (congrArg _ (by show 64 * ((y.val - 512 - 512) / 64) + (y.val - 512 - 512) % 64 = y.val - 1024; omega))
end

end Cert.AttnRefIdeal.RefValue
-- ==== Proof.AttnClaim.lean ====
/-
  The value claim about the attention's gradient: the precondition read, the kernel's run and the reference's run set
  side by side.
-/
module

public import proofs.«01_k».proof.Defs
public import proofs.«01_k».proof.Proof.AttnRefValue
public import proofs.«01_k».proof.Proof.Gen.Pre_finite_attn

@[expose] public section

set_option maxRecDepth 16384

noncomputable section

namespace Cert.AttnClaim

open Idealize.ShloMosaic Idealize.SL.Sem Idealize.ShloMosaic.TcCoe Cert.Reals Cert.AttnSpec Cert.AttnIdeal.Pay

/-- The sequences that real arguments hold. -/
def seqs (q k v o : Cert.AttnIdeal.S4x2064x512.Idx → EReal) (s : Fin 4) : Seq where
  n := 2064
  q a b := re q (ix3 s ⟨a % 2064, Nat.mod_lt _ (by decide)⟩ ⟨b % 512, Nat.mod_lt _ (by decide)⟩)
  k a b := re k (ix3 s ⟨a % 2064, Nat.mod_lt _ (by decide)⟩ ⟨b % 512, Nat.mod_lt _ (by decide)⟩)
  v a b := re v (ix3 s ⟨a % 2064, Nat.mod_lt _ (by decide)⟩ ⟨b % 512, Nat.mod_lt _ (by decide)⟩)
  o a b := re o (ix3 s ⟨a % 2064, Nat.mod_lt _ (by decide)⟩ ⟨b % 512, Nat.mod_lt _ (by decide)⟩)

theorem at_mod (x : Cert.AttnIdeal.S4x2064x512.Idx → EReal) (hx : ∀ i, x i = (re x i : EReal)) (s : Fin 4) (a : Fin 2064) (b : Fin 512) :
    x (ix3 s a b) = ((re x (ix3 s ⟨a.val % 2064, Nat.mod_lt _ (by decide)⟩ ⟨b.val % 512, Nat.mod_lt _ (by decide)⟩) : ℝ) : EReal) := by
  have e1 : (⟨a.val % 2064, Nat.mod_lt _ (by decide)⟩ : Fin 2064) = a := Fin.ext (Nat.mod_eq_of_lt a.isLt)
  have e2 : (⟨b.val % 512, Nat.mod_lt _ (by decide)⟩ : Fin 512) = b := Fin.ext (Nat.mod_eq_of_lt b.isLt)
  rw [e1, e2]
  exact hx _

/-- The precondition says that the arguments are real numbers. -/
theorem args_of_pre (m : (ℓ : Loc Cert.AttnIdeal.nD Cert.AttnIdeal.τ Cert.AttnIdeal.sig) → Buf (Elt Ideal) ℓ)
    (h : Cert.Pre_AttnIdeal_finite_attn m) (c : Dev Cert.AttnIdeal.nD) :
    ∃ X, Args (m ((c : Thread Cert.AttnIdeal.nD Cert.AttnIdeal.τ).loc Cert.AttnIdeal.main_arg0)) (m ((c : Thread Cert.AttnIdeal.nD Cert.AttnIdeal.τ).loc Cert.AttnIdeal.main_arg1))
      (m ((c : Thread Cert.AttnIdeal.nD Cert.AttnIdeal.τ).loc Cert.AttnIdeal.main_arg2)) (m ((c : Thread Cert.AttnIdeal.nD Cert.AttnIdeal.τ).loc Cert.AttnIdeal.main_arg3)) X := by
  have e := congrFun (h c) (fun a => a.elim0)
  unfold Cert.Pre_finite_attn.fn Cert.Pre_finite_attn.fn_part1 at e
  dsimp only at e
  obtain ⟨e1, e2⟩ := IntOp.andi_eq_one.1 e
  obtain ⟨e3, e4⟩ := IntOp.andi_eq_one.1 e1
  obtain ⟨e5, e6⟩ := IntOp.andi_eq_one.1 e3
  exact ⟨seqs _ _ _ _, fun s => ⟨rfl, fun a b =>
    ⟨at_mod _ (fun i => (isReal_of_all _ _ (fun _ => ofBits_inf) _ _ _ _ e5).eq i) s a b,
     at_mod _ (fun i => (isReal_of_all _ _ (fun _ => ofBits_inf) _ _ _ _ e6).eq i) s a b,
     at_mod _ (fun i => (isReal_of_all _ _ (fun _ => ofBits_inf) _ _ _ _ e4).eq i) s a b,
     at_mod _ (fun i => (isReal_of_all _ _ (fun _ => ofBits_inf) _ _ _ _ e2).eq i) s a b⟩⟩⟩

/-- On real arguments the kernel and the derivative of the attention give the same gradients. -/
theorem algebraic : Cert.algebraic_AttnIdeal_AttnRefIdeal_pre_finite_attn := by
  intro m g m' g' hpre hargs
  choose X hX using args_of_pre m hpre
  refine ⟨fun c => grads (X c),
    (θ_run Cert.AttnIdeal.defs _ _).mono (fun r h c => ?_) (run_result m g),
    (θ_run Cert.AttnRefIdeal.defs _ _).mono (fun r h c => ?_) (Cert.AttnRefIdeal.Value.run m' g')⟩
  · obtain ⟨h0, hk⟩ := h c
    exact ⟨h0.trans (result_eq m c (hX c)), hk⟩
  · obtain ⟨h0, hk⟩ := h c
    obtain ⟨a0, a1, a2, a3⟩ := hargs c
    refine ⟨h0.trans ((Cert.AttnRefIdeal.Read.val_main_v53_eq ..).trans (Cert.AttnRefIdeal.RefValue.result fun s => ⟨(hX c s).1, fun a b => ?_⟩)), hk⟩
    obtain ⟨b0, b1, b2, b3⟩ := (hX c s).2 a b
    exact ⟨(congrFun a0 _).trans b0, (congrFun a1 _).trans b1, (congrFun a2 _).trans b2, (congrFun a3 _).trans b3⟩

end Cert.AttnClaim
-- ==== Proof.FwdState.lean ====
/-
  What the attention forward's loops read, carry and write, as plain functions of vectors. Query block `i` walks its key
  windows from the diagonal leftwards: window `s` starts at key row `128 (i - 1 - 2 s)`, cut at zero. A window adds into a
  sum per column pair and into a carry per pair.
-/
module

public import proofs.«01_k».proof.Proof.AttnState
public import proofs.«01_k».proof.Proof.Gen.AttnFwdIdeal.Skeleton
public import proofs.«01_k».proof.Proof.Gen.AttnFwdIdeal.Frame

@[expose] public section

noncomputable section

namespace Cert.AttnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen (cutCols cutRows)

theorem trips1 : k0_t1_loop.trips = 17 := by decide +kernel
theorem trips2 : ∀ i : Fin k0_t1_loop.trips, (k0_t2_loop i).trips = (i.val + 2) / 2 := by decide +kernel

theorem k0_off5_eq : ∀ i s, k0_off5 i s = ![128 * (i.val - 1 - 2 * s.val), 0] := by decide +kernel
theorem k0_off6_eq : ∀ i s, k0_off6 i s = ![128 * (i.val - 1 - 2 * s.val), 128] := by decide +kernel
theorem k0_off7_eq : ∀ i s, k0_off7 i s = ![128 * (i.val - 1 - 2 * s.val), 256] := by decide +kernel
theorem k0_off8_eq : ∀ i s, k0_off8 i s = ![128 * (i.val - 1 - 2 * s.val), 384] := by decide +kernel

instance (i s) : ClosedOff (k0_off5 i s) := ⟨_, k0_off5_eq i s⟩
instance (i s) : ClosedOff (k0_off6 i s) := ⟨_, k0_off6_eq i s⟩
instance (i s) : ClosedOff (k0_off7 i s) := ⟨_, k0_off7_eq i s⟩
instance (i s) : ClosedOff (k0_off8 i s) := ⟨_, k0_off8_eq i s⟩

variable {F : FTy → Type} [FloatOps F]

local notation "𝕄" => MT nD τ sig Unit (Elt F) ℕ (UR sig nD τ) ℕ

/-- A buffer held by the values it reads. -/
abbrev heldAt (c : Dev nD) {s : Shape} {e : EltTy} (m : Memref sig .tc .vmem s e) (x : s.Idx → Elt F e) : sProp 𝕄 :=
  m.view.loc (c : Thread nD τ) ↦[m.view.set]{fullShare} m.view.rep x

/-! ## Loads -/

section Loads

variable {e : EltTy} (v : View sig .tc .vmem S2176x512 e) (x : S2176x512.Idx → Elt F e)

theorem read_cols {off : Fin 2 → ℕ} (inb : ∀ a, off a + S256x128.size a ≤ S2176x512.size a) (a : ℕ) (p : Fin 4) (h : off = ![a, 128 * p.val]) :
    v.readAt (Elt F) (Rect.unit (s := S2176x512) off S256x128.size inb).toLoadRect (v.rep x) = cutCols x a p := by
  subst h
  rw [View.readAt_rep_unit v x inb rfl inb]
  funext y
  have h0 : a + 256 ≤ 2176 := inb 0
  have hy : (y 0).val < 256 := (y 0).isLt
  refine congrArg x (funext fun c => ?_)
  match c with
  | ⟨0, _⟩ => exact Fin.ext (show a + 1 * (y 0).val = (a + (y 0).val) % 2176 by omega)
  | ⟨1, _⟩ => exact Fin.ext (show 128 * p.val + 1 * (y 1).val = 128 * p.val + (y 1).val by omega)

theorem read_rows {off : Fin 2 → ℕ} (inb : ∀ a, off a + S128x128.size a ≤ S2176x512.size a) (a : ℕ) (p : Fin 4) (h : off = ![a, 128 * p.val]) :
    v.readAt (Elt F) (Rect.unit (s := S2176x512) off S128x128.size inb).toLoadRect (v.rep x) = cutRows x a p := by
  subst h
  rw [View.readAt_rep_unit v x inb rfl inb]
  funext y
  have h0 : a + 128 ≤ 2176 := inb 0
  have hy : (y 0).val < 128 := (y 0).isLt
  refine congrArg x (funext fun c => ?_)
  match c with
  | ⟨0, _⟩ => exact Fin.ext (show a + 1 * (y 0).val = (a + (y 0).val) % 2176 by omega)
  | ⟨1, _⟩ => exact Fin.ext (show 128 * p.val + 1 * (y 1).val = 128 * p.val + (y 1).val by omega)

end Loads

/-! ## Stores -/

section Stores

variable {α : Type}

/-- The output with 128 rows from row `a` on, in its last 512 columns, overwritten. -/
def putRows (x : S2176x1024.Idx → α) (a : ℕ) (w : Fin 4 → S128x128.Idx → α) : S2176x1024.Idx → α := fun y =>
  if h : (a ≤ (y 0).val ∧ (y 0).val < a + 128) ∧ 512 ≤ (y 1).val then
    w ⟨((y 1).val - 512) / 128, by have := (y 1).isLt; have e : S2176x1024.size 1 = 1024 := rfl; omega⟩
      (ix2 ⟨(y 0).val - a, by omega⟩ ⟨(y 1).val % 128, Nat.mod_lt _ (by decide)⟩)
  else x y

theorem put_at (x : S2176x1024.Idx → α) (a : ℕ) (p : Fin 4) (b : ℕ) (hb : b = 512 + 128 * p.val) (w : S128x128.Idx → α) (y : S2176x1024.Idx) :
    VecWindow.put (s := S2176x1024) x ![a, b] S128x128.size w y
      = if h : (a ≤ (y 0).val ∧ (y 0).val < a + 128) ∧ 512 ≤ (y 1).val ∧ ((y 1).val - 512) / 128 = p.val then
          w (ix2 ⟨(y 0).val - a, by omega⟩ ⟨(y 1).val % 128, Nat.mod_lt _ (by decide)⟩) else x y := by
  have h1 : (y 1).val < 1024 := (y 1).isLt
  have hp := p.isLt
  have key : (∀ c : Fin S2176x1024.rank, (![a, b] : Fin 2 → ℕ) c ≤ (y c).val ∧ (y c).val < (![a, b] : Fin 2 → ℕ) c + S128x128.size c)
      ↔ (a ≤ (y 0).val ∧ (y 0).val < a + 128) ∧ b ≤ (y 1).val ∧ (y 1).val < b + 128 :=
    ⟨fun h => ⟨h 0, h 1⟩, fun h c => match c with | ⟨0, _⟩ => h.1 | ⟨1, _⟩ => h.2⟩
  unfold VecWindow.put
  by_cases h : (a ≤ (y 0).val ∧ (y 0).val < a + 128) ∧ 512 ≤ (y 1).val ∧ ((y 1).val - 512) / 128 = p.val
  · rw [dif_pos h, dif_pos (key.mpr ⟨h.1, by omega, by omega⟩)]
    refine congrArg w (funext fun c => ?_)
    match c with
    | ⟨0, _⟩ => rfl
    | ⟨1, _⟩ => exact Fin.ext (show (y 1).val - b = (y 1).val % 128 by omega)
  · rw [dif_neg h, dif_neg fun k => h (by have := key.mp k; exact ⟨this.1, by omega, by omega⟩)]

theorem putRows_eq (x : S2176x1024.Idx → α) (a : ℕ) (w : Fin 4 → S128x128.Idx → α) :
    VecWindow.put (s := S2176x1024) (VecWindow.put (s := S2176x1024) (VecWindow.put (s := S2176x1024) (VecWindow.put (s := S2176x1024) x ![a, 512] S128x128.size (w 0)) ![a, 640] S128x128.size (w 1)) ![a, 768] S128x128.size (w 2))
      ![a, 896] S128x128.size (w 3) = putRows x a w := by
  funext y
  have h1 : (y 1).val < 1024 := (y 1).isLt
  rw [put_at _ a 3 896 rfl, put_at _ a 2 768 rfl, put_at _ a 1 640 rfl, put_at _ a 0 512 rfl]
  unfold putRows
  by_cases h0 : (a ≤ (y 0).val ∧ (y 0).val < a + 128) ∧ 512 ≤ (y 1).val
  · have hq : ∀ p : Fin 4, ((y 1).val - 512) / 128 = p.val → (⟨((y 1).val - 512) / 128, by omega⟩ : Fin 4) = p := fun p e => Fin.ext e
    rw [dif_pos h0]
    by_cases h3 : ((y 1).val - 512) / 128 = 3
    · rw [dif_pos ⟨h0.1, h0.2, h3⟩, hq 3 h3]
    rw [dif_neg fun h => h3 h.2.2]
    by_cases h2 : ((y 1).val - 512) / 128 = 2
    · rw [dif_pos ⟨h0.1, h0.2, h2⟩, hq 2 h2]
    rw [dif_neg fun h => h2 h.2.2]
    by_cases h1' : ((y 1).val - 512) / 128 = 1
    · rw [dif_pos ⟨h0.1, h0.2, h1'⟩, hq 1 h1']
    rw [dif_neg fun h => h1' h.2.2]
    have h' : ((y 1).val - 512) / 128 = 0 := by omega
    rw [dif_pos ⟨h0.1, h0.2, h'⟩, hq 0 h']
  · rw [dif_neg h0, dif_neg fun h => h0 ⟨h.1, h.2.1⟩, dif_neg fun h => h0 ⟨h.1, h.2.1⟩, dif_neg fun h => h0 ⟨h.1, h.2.1⟩, dif_neg fun h => h0 ⟨h.1, h.2.1⟩]

theorem left_rows {e : EltTy} (v : View sig .tc .vmem S2176x1024 e) (x : S2176x1024.Idx → Elt F e) (a : ℕ) (w : Fin 4 → S128x128.Idx → Elt F e) {o0 o1 o2 o3 : Fin 2 → ℕ}
    (i0 : ∀ a, o0 a + S128x128.size a ≤ S2176x1024.size a) (i1 : ∀ a, o1 a + S128x128.size a ≤ S2176x1024.size a) (i2 : ∀ a, o2 a + S128x128.size a ≤ S2176x1024.size a) (i3 : ∀ a, o3 a + S128x128.size a ≤ S2176x1024.size a)
    (h0 : o0 = ![a, 512]) (h1 : o1 = ![a, 640]) (h2 : o2 = ![a, 768]) (h3 : o3 = ![a, 896]) :
    v.read (Elt F) (v.writes (Elt F) (v.rep x) [⟨Rect.unit (s := S2176x1024) o3 S128x128.size i3, w 3⟩, ⟨Rect.unit (s := S2176x1024) o2 S128x128.size i2, w 2⟩, ⟨Rect.unit (s := S2176x1024) o1 S128x128.size i1, w 1⟩, ⟨Rect.unit (s := S2176x1024) o0 S128x128.size i0, w 0⟩])
      = putRows x a w := by
  rw [View.read_writes_cons_put v _ i3 (w 3) _ h3, View.read_writes_cons_put v _ i2 (w 2) _ h2, View.read_writes_cons_put v _ i1 (w 1) _ h1, View.read_writes_rep_unit v x i0 (w 0) h0]
  exact putRows_eq x a w

end Stores

/-! ## The walk -/

/-- What the walk carries: a weighted sum of values and the logarithms' sum, per pair and stacked row. -/
structure Walk (F : FTy → Type) where
  acc : Fin 4 → FVec F S256x128 .f32
  car : Fin 4 → FVec F S256x1 .f32

/-- The state as the loop carries it. -/
abbrev Walk.tuple (σ : Walk F) : FVec F S256x128 .f32 × FVec F S256x128 .f32 × FVec F S256x128 .f32 × FVec F S256x128 .f32
    × FVec F S256x1 .f32 × FVec F S256x1 .f32 × FVec F S256x1 .f32 × FVec F S256x1 .f32 :=
  (σ.acc 0, σ.acc 1, σ.acc 2, σ.acc 3, σ.car 0, σ.car 1, σ.car 2, σ.car 3)

section Step

variable (mask : IVec S256x256 1) (tri : FVec F S256x256 .bf16) (q : Fin 4 → FVec F S256x128 .bf16) (x3 x4 : FVec F S2176x512 .bf16) (a : ℕ) (σ : Walk F)

/-- The scores of a pair against the window's keys. -/
def walkZ (p : Fin 4) : FVec F S256x256 .f32 := k0_pay7 (q p) (cutCols x3 a p)
/-- The sums of the logarithms from each key of the window to its end. -/
def walkSuf (p : Fin 4) : FVec F S256x256 .f32 := k0_pay15 tri mask (walkZ q x3 a p)

/-- One window: keys and values from row `a` on. -/
def walkStep : Walk F where
  acc p := k0_pay22 (σ.acc p) (σ.car p) mask (walkZ q x3 a p) (walkSuf mask tri q x3 a p) (cutCols x4 a p)
  car p := k0_pay23 (σ.car p) (walkSuf mask tri q x3 a p)

end Step

section Alike

variable (m : IVec S256x256 1) (t : FVec F S256x256 .bf16) (q : FVec F S256x128 .bf16) (kw : Vec F S256x128 .bf16) (z suf : FVec F S256x256 .f32)
  (c : FVec F S256x1 .f32) (acc : FVec F S256x128 .f32) (u v : IVec S1x128 1) (x : Vec F S128x128 .bf16)

theorem pay8 : k0_pay8 q kw = k0_pay7 q kw := rfl
theorem pay9 : k0_pay9 q kw = k0_pay7 q kw := rfl
theorem pay10 : k0_pay10 q kw = k0_pay7 q kw := rfl
theorem pay14 : k0_pay14 t m (k0_pay12 q kw) (k0_pay13 q kw) = k0_pay15 t m (k0_pay7 q kw) := rfl
theorem pay16 : k0_pay16 t m z = k0_pay15 t m z := rfl
theorem pay21 : k0_pay21 t m (k0_pay18 z) (k0_pay19 z) k0_pay20 = k0_pay15 t m z := rfl
theorem pay24 : k0_pay24 acc c m z suf kw = k0_pay22 acc c m z suf kw := rfl
theorem pay25 : k0_pay25 c suf = k0_pay23 c suf := rfl
theorem pay26 : k0_pay26 acc c m z suf kw = k0_pay22 acc c m z suf kw := rfl
theorem pay27 : k0_pay27 c suf = k0_pay23 c suf := rfl
theorem pay62 : k0_pay62 acc c m z suf kw = k0_pay22 acc c m z suf kw := rfl
theorem pay63 : k0_pay63 c suf = k0_pay23 c suf := rfl
theorem pay51 : k0_pay51 u v x = k0_pay50 u v x := rfl
theorem pay52 : k0_pay52 u v x = k0_pay50 u v x := rfl
theorem pay53 : k0_pay53 u v x = k0_pay50 u v x := rfl
theorem pay67 : k0_pay67 u acc = k0_pay66 u acc := rfl
theorem pay68 : k0_pay68 u acc = k0_pay66 u acc := rfl
theorem pay69 : k0_pay69 u acc = k0_pay66 u acc := rfl

end Alike

end Cert.AttnFwdIdeal.Gen
-- ==== Proof.FwdWalk.lean ====
/-
  The forward's walk of one query block, run: a window's trip takes what is carried by `walkStep`, the loop by its iterate;
  the block then writes its four pairs' outputs beside each other.
-/
module

public import proofs.«01_k».proof.Proof.FwdState
public import Idealize.ShloMosaic.Lib.LoopRemainder

@[expose] public section

noncomputable section

namespace Cert.AttnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen (cutCols cutRows)

variable {F : FTy → Type} [FloatOps F]

local notation "𝕄" => MT nD τ sig Unit (Elt F) ℕ (UR sig nD τ) ℕ

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1024 .bf16) (harg6 : arg6.IsWhole)

section Inner

variable (v1 v4 : IVec S256x256 32) (v9 : IVec S1x128 1) (v16 : FVec F S256x256 .bf16) (t1 : Fin k0_t1_loop.trips) (arg7 : BitVec 32)
  (v35 v50 v65 v80 : FVec F S256x128 .bf16) (v81 v82 v83 v84 : FVec F S256x128 .f32) (v85 v86 v87 v88 : FVec F S256x1 .f32) (v106 c0_i32_33 : BitVec 32)

/-- The walk's state before window `k`, from its state at the start. -/
def walkIter (x3 x4 : FVec F S2176x512 .bf16) (q : Fin 4 → FVec F S256x128 .bf16) (σ : Walk F) : ℕ → Walk F
  | 0 => σ
  | k + 1 =>
    if h : k < (k0_t2_loop t1).trips then
      walkStep (k0_pay6 v1 v4 t1 arg7 c0_i32_33 1#32 ⟨k, h⟩) v16 q x3 x4 (128 * (t1.val - 1 - 2 * k)) (walkIter x3 x4 q σ k)
    else walkIter x3 x4 q σ k

theorem walk_run (k : Fin (k0_t2_loop t1).trips) (x3 x4 : FVec F S2176x512 .bf16) (σ : Walk F) :
    iprop(heldAt c arg3 x3 ∗ heldAt c arg4 x4) ⊢ wp frame (wpE (defs₀ (F := F)) Variants.none (c : Thread nD τ) none) Set.univ
      (k0_t2_body (F := F) i arg2 harg2 arg3 harg3 arg4 harg4 arg5 harg5 arg6 harg6 v1 v4 v9 v16 t1 arg7 v35 v50 v65 v80 v81 v82 v83 v84 v85 v86 v87 v88 v106 c0_i32_33 k σ.tuple)
      (fun st => iprop((heldAt c arg3 x3 ∗ heldAt c arg4 x4)
        ∗ ⌜st = (walkStep (k0_pay6 v1 v4 t1 arg7 c0_i32_33 1#32 k) v16 ![v35, v50, v65, v80] x3 x4 (128 * (t1.val - 1 - 2 * k.val)) σ).tuple⌝)) := by
  iintro ⟨H3, H4⟩
  sl_unfold [k0_t2_body]
  sl_exec_parts
  sl_step
  have r5 := fun (e : EltTy) (v : View sig .tc .vmem S2176x512 e) x => read_cols (F := F) v x (k0_off5_inb t1 k) _ 0 (k0_off5_eq t1 k)
  have r6 := fun (e : EltTy) (v : View sig .tc .vmem S2176x512 e) x => read_cols (F := F) v x (k0_off6_inb t1 k) _ 1 (k0_off6_eq t1 k)
  have r7 := fun (e : EltTy) (v : View sig .tc .vmem S2176x512 e) x => read_cols (F := F) v x (k0_off7_inb t1 k) _ 2 (k0_off7_eq t1 k)
  have r8 := fun (e : EltTy) (v : View sig .tc .vmem S2176x512 e) x => read_cols (F := F) v x (k0_off8_inb t1 k) _ 3 (k0_off8_eq t1 k)
  unfold k0_off5 at r5; unfold k0_off6 at r6; unfold k0_off7 at r7; unfold k0_off8 at r8
  dsimp only at r5 r6 r7 r8
  sl_unfold_words
  simp only [r5, r6, r7, r8, pay8, pay9, pay10, pay14, pay16, pay21, pay24, pay25, pay26, pay27, pay62, pay63]
  isplitl [H3 H4]
  · isplitl [H3]; · iexact H3
    iexact H4
  ipureintro
  rfl

set_option warn.classDefReducibility false in
/-- The walk's invariant: the keys and values held, the carried state at the iterate. -/
@[sl_loop] def walkInv (x3 x4 : FVec F S2176x512 .bf16) (a0 a1 a2 a3 : FVec F S256x128 .f32) (c0 c1 c2 c3 : FVec F S256x1 .f32) :
    LoopInv (M := 𝕄) Idealize.ShloMosaic.frame (wpE (defs₀ (F := F)) Variants.none (c : Thread nD τ) none) Set.univ
      (k0_t2_loop t1).lb (k0_t2_loop t1).ub (k0_t2_loop t1).st (k0_t2_ok t1) (a0, a1, a2, a3, c0, c1, c2, c3)
      (k0_t2_body (F := F) i arg2 harg2 arg3 harg3 arg4 harg4 arg5 harg5 arg6 harg6 v1 v4 v9 v16 t1 arg7 v35 v50 v65 v80 v81 v82 v83 v84 v85 v86 v87 v88 v106 c0_i32_33) where
  inv k st := iprop((heldAt c arg3 x3 ∗ heldAt c arg4 x4)
    ∗ ⌜st = (walkIter v1 v4 v16 t1 arg7 c0_i32_33 x3 x4 ![v35, v50, v65, v80] ⟨![a0, a1, a2, a3], ![c0, c1, c2, c3]⟩ k).tuple⌝)
  step k st := by
    iintro ⟨H, %hst⟩
    subst hst
    rw [show walkIter v1 v4 v16 t1 arg7 c0_i32_33 x3 x4 ![v35, v50, v65, v80] ⟨![a0, a1, a2, a3], ![c0, c1, c2, c3]⟩ (k.val + 1) = _ from dif_pos k.isLt]
    iapply (walk_run c i arg2 harg2 arg3 harg3 arg4 harg4 arg5 harg5 arg6 harg6 v1 v4 v9 v16 t1 arg7 v35 v50 v65 v80 v81 v82 v83 v84 v85 v86 v87 v88 v106 c0_i32_33 k x3 x4 _)
    iexact H

end Inner

/-! ## A query block -/

section Block

variable (v1 : IVec S256x256 32) (x2 x3 x4 : FVec F S2176x512 .bf16) (t1 : Fin k0_t1_loop.trips)

/-- The stacked scaled queries of the block's column pairs. -/
def blockQ : Fin 4 → FVec F S256x128 .bf16 :=
  ![k0_pay50 k0_pay2 k0_pay3 (cutRows x2 (128 * t1.val) 0), k0_pay50 k0_pay2 k0_pay3 (cutRows x2 (128 * t1.val) 1),
    k0_pay50 k0_pay2 k0_pay3 (cutRows x2 (128 * t1.val) 2), k0_pay50 k0_pay2 k0_pay3 (cutRows x2 (128 * t1.val) 3)]

/-- The block's walk, after all its windows. -/
def blockWalk : Walk F :=
  walkIter v1 k0_pay1 k0_pay4 t1 (Scf.iv 0#32 1#32 t1) 0#32 x3 x4 (blockQ x2 t1)
    ⟨![k0_pay54, k0_pay55, k0_pay56, k0_pay57], ![k0_pay58, k0_pay59, k0_pay60, k0_pay61]⟩ ((t1.val + 2) / 2)

/-- The block's outputs, as they are written. -/
def blockY : Fin 4 → FVec F S128x128 .bf16 := fun p => k0_pay66 k0_pay2 ((blockWalk v1 x2 x3 x4 t1).acc p)

/-- Everything a query block reads and writes, by values. -/
abbrev heldAll (x2 x3 x4 : FVec F S2176x512 .bf16) (y : FVec F S2176x1024 .bf16) : sProp 𝕄 :=
  iprop(heldAt c arg2 x2 ∗ heldAt c arg3 x3 ∗ heldAt c arg4 x4 ∗ heldAt c arg6 y)

set_option maxHeartbeats 1000000 in
theorem block_run (y : FVec F S2176x1024 .bf16) :
    heldAll c arg2 arg3 arg4 arg6 x2 x3 x4 y
    ⊢ wp frame (wpE (defs₀ (F := F)) Variants.none (c : Thread nD τ) none) Set.univ
      (k0_t1_body (F := F) i arg2 harg2 arg3 harg3 arg4 harg4 arg5 harg5 arg6 harg6 v1 t1 ⟨⟩)
      (fun _ => heldAll c arg2 arg3 arg4 arg6 x2 x3 x4 (putRows y (128 * t1.val) (blockY v1 x2 x3 x4 t1))) := by
  iintro ⟨H2, H3, H4, H6⟩
  sl_unfold [k0_t1_body]
  sl_exec_parts
  sl_step
  have r1 := fun (e : EltTy) (v : View sig .tc .vmem S2176x512 e) x => read_rows (F := F) v x (k0_off1_inb t1) _ 0 (k0_off1_eq t1)
  have r2 := fun (e : EltTy) (v : View sig .tc .vmem S2176x512 e) x => read_rows (F := F) v x (k0_off2_inb t1) _ 1 (k0_off2_eq t1)
  have r3 := fun (e : EltTy) (v : View sig .tc .vmem S2176x512 e) x => read_rows (F := F) v x (k0_off3_inb t1) _ 2 (k0_off3_eq t1)
  have r4 := fun (e : EltTy) (v : View sig .tc .vmem S2176x512 e) x => read_rows (F := F) v x (k0_off4_inb t1) _ 3 (k0_off4_eq t1)
  unfold k0_off1 at r1; unfold k0_off2 at r2; unfold k0_off3 at r3; unfold k0_off4 at r4
  dsimp only at r1 r2 r3 r4
  have n2 := trips2 t1
  unfold Scf.Loop.trips k0_t2_loop at n2
  dsimp only at n2
  have eW : walkIter v1 k0_pay1 k0_pay4 t1 (Scf.iv 0#32 1#32 t1) 0#32 x3 x4 _
    ⟨![k0_pay54, k0_pay55, k0_pay56, k0_pay57], ![k0_pay58, k0_pay59, k0_pay60, k0_pay61]⟩ ((t1.val + 2) / 2) = blockWalk v1 x2 x3 x4 t1 := rfl
  unfold blockQ at eW
  sl_unfold_words
  simp only [n2, eW, r1, r2, r3, r4, pay51, pay52, pay53, pay67, pay68, pay69]
  isplitl [H2]; · iexact H2
  isplitl [H3]; · iexact H3
  isplitl [H4]; · iexact H4
  iapply (pointsTo_rep_of_read (c : Thread nD τ) arg6 _ fullShare _ (left_rows arg6.view y _ (blockY v1 x2 x3 x4 t1) _ _ _ _ (k0_off13_eq t1) (k0_off14_eq t1) (k0_off15_eq t1) (k0_off16_eq t1)))
  iexact H6

end Block

end Cert.AttnFwdIdeal.Gen
-- ==== Proof.FwdRun.lean ====
/-
  The attention forward's run: the body copies the given columns, then its query blocks write theirs, so each of the four
  sequences ends with `seqOut` of its blocks, whatever the output held before.
-/
module

public import proofs.«01_k».proof.Proof.FwdWalk
public import Idealize.ShloMosaic.Lib.Pipeline.TableIdle
public import Idealize.ShloMosaic.Lib.Claim

@[expose] public section

noncomputable section

namespace Cert.AttnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The query blocks -/

/-- The key positions of a window, lane by lane. -/
abbrev lanes : IVec S256x256 32 := iota .tc S256x256 32 [1] iota_S256x256_d1_w32

section Blocks

variable (v1 : IVec S256x256 32) (x2 x3 x4 x5 : FVec F S2176x512 .bf16)

/-- The output before block `k`, from the output at the start. -/
def blockIter (y : FVec F S2176x1024 .bf16) : ℕ → FVec F S2176x1024 .bf16
  | 0 => y
  | k + 1 => if h : k < k0_t1_loop.trips then putRows (blockIter y k) (128 * k) (blockY v1 x2 x3 x4 ⟨k, h⟩) else blockIter y k

/-- The outputs of one sequence: the given columns, then the attention's. -/
def seqOut : FVec F S2176x1024 .bf16 := fun y =>
  if h : (y 1).val < 512 then k0_pay5 x5 (ix2 (y 0) ⟨(y 1).val, h⟩)
  else blockY lanes x2 x3 x4 ⟨(y 0).val / 128, by have : (y 0).val < 2176 := (y 0).isLt; rw [trips1]; omega⟩
    ⟨((y 1).val - 512) / 128, by have : (y 1).val < 1024 := (y 1).isLt; omega⟩
    (ix2 ⟨(y 0).val % 128, Nat.mod_lt _ (by decide)⟩ ⟨(y 1).val % 128, Nat.mod_lt _ (by decide)⟩)

theorem blockIter_low (y : FVec F S2176x1024 .bf16) (u : S2176x1024.Idx) (hu : (u 1).val < 512) : ∀ k, blockIter v1 x2 x3 x4 y k u = y u
  | 0 => rfl
  | k + 1 => by
    unfold blockIter
    split_ifs with h
    · refine (dif_neg fun e => ?_).trans (blockIter_low y u hu k)
      omega
    · exact blockIter_low y u hu k

theorem blockIter_high (y : FVec F S2176x1024 .bf16) (u : S2176x1024.Idx) (hu : ¬(u 1).val < 512) : ∀ k, k ≤ 17 → (u 0).val < 128 * k →
    blockIter lanes x2 x3 x4 y k u = seqOut x2 x3 x4 x5 u
  | 0, _, e => absurd e (Nat.not_lt_zero _)
  | k + 1, hk, e => by
    have hkt : k < k0_t1_loop.trips := by rw [trips1]; omega
    rw [show blockIter lanes x2 x3 x4 y (k + 1) = _ from dif_pos hkt]
    unfold putRows
    by_cases h : 128 * k ≤ (u 0).val
    · rw [dif_pos ⟨⟨h, by omega⟩, by omega⟩]
      unfold seqOut
      rw [dif_neg hu]
      have e1 : (⟨k, hkt⟩ : Fin k0_t1_loop.trips) = ⟨(u 0).val / 128, by rw [trips1]; omega⟩ := Fin.ext (show k = (u 0).val / 128 by omega)
      have e2 : (u 0).val - 128 * k = (u 0).val % 128 := by omega
      simp only [e1, e2]
    · rw [dif_neg fun x => h x.1.1]
      exact blockIter_high y u hu k (by omega) (by omega)

/-- After all blocks the output is the sequence's, whatever it held before. -/
theorem blockIter_end (x6 : FVec F S2176x1024 .bf16) :
    blockIter lanes x2 x3 x4 (VecWindow.put (s := S2176x1024) x6 ![0, 0] S2176x512.size (k0_pay5 x5)) 17 = seqOut x2 x3 x4 x5 := by
  funext u
  have h0 : (u 0).val < 2176 := (u 0).isLt
  by_cases h : (u 1).val < 512
  · rw [blockIter_low lanes x2 x3 x4 _ u h]
    unfold seqOut VecWindow.put
    rw [dif_pos h, dif_pos fun c => match c with
      | ⟨0, _⟩ => (show 0 ≤ (u 0).val ∧ (u 0).val < 0 + 2176 by omega) | ⟨1, _⟩ => (show 0 ≤ (u 1).val ∧ (u 1).val < 0 + 512 by omega)]
    exact congrArg _ (funext fun c => match c with | ⟨0, _⟩ => rfl | ⟨1, _⟩ => rfl)
  · exact blockIter_high x2 x3 x4 x5 _ u h 17 le_rfl (by omega)

end Blocks

theorem left_given {e : EltTy} (v : View sig .tc .vmem S2176x1024 e) (x : S2176x1024.Idx → Elt F e) (w : S2176x512.Idx → Elt F e) :
    v.read (Elt F) (v.writes (Elt F) (v.rep x) [⟨Rect.unit (s := S2176x1024) ![0, 0] S2176x512.size inb_S2176x1024_S2176x512_0_0, w⟩])
      = VecWindow.put (s := S2176x1024) x ![0, 0] S2176x512.size w := by
  rw [View.read_writes_rep_unit v x inb_S2176x1024_S2176x512_0_0 w rfl]

section Body

variable (c : Dev nD) (i : grid0.Coords)
  (arg2 : Memref sig .tc .vmem S2176x512 .bf16) (harg2 : arg2.IsWhole) (arg3 : Memref sig .tc .vmem S2176x512 .bf16) (harg3 : arg3.IsWhole)
  (arg4 : Memref sig .tc .vmem S2176x512 .bf16) (harg4 : arg4.IsWhole) (arg5 : Memref sig .tc .vmem S2176x512 .bf16) (harg5 : arg5.IsWhole)
  (arg6 : Memref sig .tc .vmem S2176x1024 .bf16) (harg6 : arg6.IsWhole)

/-- Before the first block the output may be held by its raw contents `f`; from then on it is held by its values. -/
abbrev heldFrom (m : Memref sig .tc .vmem S2176x1024 .bf16) (f : Buf (Elt F) (m.view.loc (c : Thread nD τ))) (x : FVec F S2176x1024 .bf16) : ℕ → sProp 𝕄
  | 0 => m.view.loc (c : Thread nD τ) ↦[m.view.set]{fullShare} f
  | _ + 1 => heldAt c m x

theorem heldFrom_held (m : Memref sig .tc .vmem S2176x1024 .bf16) (f : Buf (Elt F) (m.view.loc (c : Thread nD τ))) (x : FVec F S2176x1024 .bf16) (k : ℕ)
    (h : k = 0 → m.view.read (Elt F) f = x) : heldFrom c m f x k ⊢ heldAt c m x := by
  cases k with
  | zero => exact pointsTo_rep_of_read (c : Thread nD τ) m f fullShare x (h rfl)
  | succ k => exact BI.Entails.refl _

set_option warn.classDefReducibility false in
/-- The query blocks' loop invariant: the output at the iterate. -/
@[sl_loop] def blockInv (v1 : IVec S256x256 32) (x2 x3 x4 : FVec F S2176x512 .bf16) (f6 : Buf (Elt F) (arg6.view.loc (c : Thread nD τ))) :
    LoopInv (M := 𝕄) Idealize.ShloMosaic.frame (wpE (defs₀ (F := F)) Variants.none (c : Thread nD τ) none) Set.univ
      k0_t1_loop.lb k0_t1_loop.ub k0_t1_loop.st k0_t1_ok () (k0_t1_body (F := F) i arg2 harg2 arg3 harg3 arg4 harg4 arg5 harg5 arg6 harg6 v1) where
  inv k _ := iprop(heldAt c arg2 x2 ∗ heldAt c arg3 x3 ∗ heldAt c arg4 x4 ∗ heldFrom c arg6 f6 (blockIter v1 x2 x3 x4 (arg6.view.read (Elt F) f6) k) k)
  step k st := by
    rw [show blockIter v1 x2 x3 x4 (arg6.view.read (Elt F) f6) (k.val + 1) = _ from dif_pos k.isLt]
    iintro ⟨H2, H3, H4, H6⟩
    iapply (block_run c i arg2 harg2 arg3 harg3 arg4 harg4 arg5 harg5 arg6 harg6 v1 x2 x3 x4 k _)
    isplitl [H2]; · iexact H2
    isplitl [H3]; · iexact H3
    isplitl [H4]; · iexact H4
    iapply (heldFrom_held c arg6 f6 _ k.val (fun h => by rw [h]; rfl))
    iexact H6

set_option maxHeartbeats 1000000 in
theorem body_run (x2 x3 x4 x5 : FVec F S2176x512 .bf16) (x6 : FVec F S2176x1024 .bf16) :
    (iprop(heldAt c arg2 x2 ∗ heldAt c arg3 x3 ∗ heldAt c arg4 x4 ∗ heldAt c arg5 x5 ∗ heldAt c arg6 x6) : sProp 𝕄)
    ⊢ wp frame (wpE (defs₀ (F := F)) Variants.none (c : Thread nD τ) none) Set.univ
      (cc0_attn_fwd (F := F) i arg2 harg2 arg3 harg3 arg4 harg4 arg5 harg5 arg6 harg6)
      (fun _ => iprop(heldAt c arg2 x2 ∗ heldAt c arg3 x3 ∗ heldAt c arg4 x4 ∗ heldAt c arg5 x5 ∗ heldAt c arg6 (seqOut x2 x3 x4 x5))) := by
  iintro ⟨H2, H3, H4, H5, H6⟩
  unfold cc0_attn_fwd
  sl_exec_parts
  sl_step
  have n1 := trips1
  unfold Scf.Loop.trips at n1
  have eE := blockIter_end x2 x3 x4 x5 x6
  unfold lanes at eE
  have l5 := View.readAt_rep_full (Val := Elt F) arg5.view x5 inb_S2176x512_S2176x512_0_0
  have z6 := left_given arg6.view x6 (k0_pay5 x5)
  unfold k0_pay5 at z6 eE
  dsimp only [S2176x512] at l5 z6 eE
  sl_unfold_words
  simp only [l5, z6, n1, eE]
  isplitl [H2]; · iexact H2
  isplitl [H3]; · iexact H3
  isplitl [H4]; · iexact H4
  isplitl [H5]; · iexact H5
  iexact H6

/-- The body's run with its buffers owned at their contents. -/
theorem body_owns (x2 x3 x4 x5 : FVec F S2176x512 .bf16) (x6 : FVec F S2176x1024 .bf16) :
    (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6) : sProp 𝕄)
      ⊢ wp frame (wpE (defs₀ (F := F)) Variants.none (c : Thread nD τ) none) Set.univ
        (cc0_attn_fwd (F := F) i arg2 harg2 arg3 harg3 arg4 harg4 arg5 harg5 arg6 harg6)
        (fun _ => iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare (seqOut x2 x3 x4 x5))) := by
  have run := body_run c i arg2 harg2 arg3 harg3 arg4 harg4 arg5 harg5 arg6 harg6 x2 x3 x4 x5 x6
  unfold heldAt at run
  simp only [owns_eq_rep]
  exact run

end Body

/-! ## The launch -/

variable (m : (ℓ : Loc nD τ sig) → Buf (Elt F) ℓ) (ρ : Dev nD → PrngReg)

/-- The region's proof data: the inputs stay at their blocks, the output's block is the sequence's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => seqOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = seqOut (iblk m c 0 t) (iblk m c 1 t) (iblk m c 2 t) (iblk m c 3 t) := by
  dsimp only [dats]

/-- What the body is called with at a sequence, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window is never idle: the body leaves it at `after`. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [show cfg0.idle w (grid0.coords t) = false from rfl]

set_option maxHeartbeats 1000000 in
/-- The body's triple at a sequence. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  rw [show (dats m 0 c).Φ t.succ = (dats m 0 c).Φ t.castSucc from rfl,
    show (dats m 0 c).owesAt () t.succ = (dats m 0 c).owesAt () t.castSucc from rfl]
  rw [leaves, leaves, leaves, leaves, leaves, after0_0, after0_1, after0_2, after0_3, after0_4]
  iintro ⟨Hp, Ho, ⟨%d0, H2⟩, ⟨%d1, H3⟩, ⟨%d2, H4⟩, ⟨%d3, H5⟩, ⟨%d4, H6⟩⟩
  iapply (wp_wand_r _ _ _)
  isplitl [H2 H3 H4 H5 H6]
  · iapply (body_owns c (grid0.coords t) _ _ _ _ _ _ _ _ _ _ _ _ _ _ _)
    isplitl [H2]; · iexact H2
    isplitl [H3]; · iexact H3
    isplitl [H4]; · iexact H4
    isplitl [H5]; · iexact H5
    iexact H6
  iintro %a ⟨H2, H3, H4, H5, H6⟩
  isplitl [Hp]; · iexact Hp
  isplitl [Ho]; · iexact Ho
  isplitl [H2]; · iexact H2
  isplitl [H3]; · iexact H3
  isplitl [H4]; · iexact H4
  isplitl [H5]; · iexact H5
  iexact H6

/-- The body table's row at a sequence's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body keeps the pipeline's obligation at every sequence. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every fair execution ends with the arrays at what the proof data computes and the host lines after the
    region make of them, and with every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the run ends, the argument arrays are unchanged and no counter is left raised. -/
theorem frame_fwd : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) (run_main m ρ)) ((θ_run defs _ _).mono (fun _ h => h.2) (run_main_quiescent m ρ))

end Cert.AttnFwdIdeal.Gen
-- ==== Proof.FwdFrames.lean ====
/-
  The attention forward's frames: the machine's program and the ideal one run alike, and the reference has no counters.
-/
module

public import proofs.«01_k».proof.Defs
public import proofs.«01_k».proof.Proof.FwdRun
public import proofs.«01_k».proof.Proof.Gen.AttnFwd
public import proofs.«01_k».proof.Proof.Gen.AttnFwdRefIdeal.Run

@[expose] public section

noncomputable section

namespace Cert.FwdClaim

open Idealize.ShloMosaic Idealize.SL.Sem Idealize.ShloMosaic.TcCoe

instance : Cert.AttnFwd.Facts := Cert.AttnFwd.Gen.facts
instance : Cert.AttnFwdIdeal.Facts := Cert.AttnFwdIdeal.Gen.facts
instance : Cert.AttnFwdRefIdeal.Facts := Cert.AttnFwdRefIdeal.Gen.facts

/-- The machine's program ends with its arguments unchanged: its run is the ideal program's, over the machine's values. -/
theorem frame_kernel : Cert.quiescent_AttnFwd := fun m ρ _ => by
  have h := Cert.AttnFwdIdeal.Gen.frame_fwd (F := Bits) m ρ
  exact Eq.mp (by sl_kernel_rfl) h

/-- The reference ends with every counter at zero: it has none. -/
theorem frame_ref : Cert.quiescent_AttnFwdRefIdeal := fun m g _ =>
  (θ_run Cert.AttnFwdRefIdeal.defs _ _).mono (fun r h => ⟨fun c => (h c).2, sem_eq_zero_of_no_sems rfl r.2⟩) (Cert.AttnFwdRefIdeal.Value.run m g)

end Cert.FwdClaim
-- ==== Proof.FwdValue.lean ====
/-
  The attention forward's sequence on real numbers: a query block's walk sums the weighted values from the last window's
  first row on, and carries the logarithms' sum, so the block's outputs are the specification's.
-/
module

public import proofs.«01_k».proof.Proof.AttnSeqValue
public import proofs.«01_k».proof.Proof.AttnShift
public import proofs.«01_k».proof.Proof.FwdRun

@[expose] public section

set_option maxRecDepth 16384

noncomputable section

namespace Cert.AttnSpec.Seq

open Finset

variable (x : Seq) (t c : ℕ)

/-- The attention's output at a row and a column. -/
def y : ℝ := ∑ s ∈ range x.n, x.a (c / 64) t s * x.v s c

theorem pad_y : x.pad.y (t + 112) c = x.y t c := by
  rw [y, y, show x.pad.n = x.n + 112 from rfl, sum_pad _ _ fun j hj => ?_]
  · exact sum_congr rfl fun j _ => congrArg₂ (· * ·) (pad_a ..) (shift_add ..)
  · show _ * shift x.v j _ = 0
    rw [shift_lt _ hj, mul_zero]

end Cert.AttnSpec.Seq

namespace Cert.AttnFwdIdeal.Pay

open Idealize.ShloMosaic Cert.AttnFwdIdeal Cert.AttnFwdIdeal.Gen Cert.Reals Cert.AttnSpec Finset
open Cert.AttnIdeal.Pay (Holds Valid hi hd qrow zW sW aW hi_zero hi_last hi_step hi_room hi_le start_eq)
open Cert.AttnIdeal.Gen (cutCols cutRows)

theorem choice (p : Prop) [Decidable p] (a : ℝ) :
    Scalar.select (if p then 1#1 else 0#1) ((a : ℝ) : EReal) 0 = ((if p then a else 0 : ℝ) : EReal) := by
  by_cases hp : p
  · rw [if_pos hp, if_pos hp]; rfl
  · rw [if_neg hp, if_neg hp]; rfl

section Window

variable (m : IVec S256x256 1) (z : FVec Ideal S256x256 .f32) (M : Fin 256 → Fin 256 → Prop) [∀ r c, Decidable (M r c)]
variable (Z : Fin 256 → Fin 256 → ℝ)
variable (hm : ∀ r c, m (ix2 r c) = if M r c then 1#1 else 0#1) (hz : ∀ r c, z (ix2 r c) = (Z r c : EReal))
variable (car : FVec Ideal S256x1 .f32) (suf : FVec Ideal S256x256 .f32) (C : Fin 256 → ℝ) (S : Fin 256 → Fin 256 → ℝ)
variable (hc : ∀ r u, car (ix2 r u) = (C r : EReal)) (hs : ∀ r c, suf (ix2 r c) = (S r c : EReal))

include hm hz hc hs in
theorem pay22 (acc : FVec Ideal S256x128 .f32) (v : Vec Ideal S256x128 .bf16) (A V : Fin 256 → Fin 128 → ℝ)
    (ha : ∀ r j, acc (ix2 r j) = (A r j : EReal)) (hv : ∀ r j, v (ix2 r j) = (V r j : EReal)) (r : Fin 256) (j : Fin 128) :
    k0_pay22 acc car m z suf v (ix2 r j) = ((A r j + ∑ c, aW M Z C S r c * V c j : ℝ) : EReal) := by
  unfold k0_pay22
  pointwise
  simp only [hz, hm, hc, hs, ha, hv, ← EReal.coe_add, Ideal.exp_coe, choice, ← EReal.coe_mul, sum_coe, aW, ite_mul, zero_mul]

/-- Each lane takes its own head's half. -/
theorem pay66 (a : FVec Ideal S256x128 .f32) (r j : Fin 128) :
    k0_pay66 k0_pay2 a (ix2 r j) = a (ix2 ⟨128 * (j.val / 64) + r.val, by omega⟩ j) := by
  unfold k0_pay66
  pointwise
  rw [show k0_pay2 (ix2 0 j) = _ from Cert.AttnIdeal.Pay.half0 j]
  have hj := j.isLt
  by_cases h : j.val / 64 = 0
  · rw [if_pos h]
    exact congrArg a (congrArg (fun u => ix2 u j) (Fin.ext (by show r.val = 128 * (j.val / 64) + r.val; omega)))
  · rw [if_neg h]
    exact congrArg a (congrArg (fun u => ix2 u j) (Fin.ext (by show 128 + r.val = 128 * (j.val / 64) + r.val; omega)))

end Window

theorem zero_accs (p : Fin 4) (r : Fin 256) (j : Fin 128) :
    (![k0_pay54, k0_pay55, k0_pay56, k0_pay57] : Fin 4 → FVec Ideal S256x128 .f32) p (ix2 r j) = 0 :=
  Cert.AttnIdeal.Pay.zero_accs p r j

theorem zero_cars (p : Fin 4) (r : Fin 256) (u : Fin 1) :
    (![k0_pay58, k0_pay59, k0_pay60, k0_pay61] : Fin 4 → FVec Ideal S256x1 .f32) p (ix2 r u) = 0 :=
  Cert.AttnIdeal.Pay.zero_cars p r u

theorem lt17 (i : Fin k0_t1_loop.trips) : i.val < 17 := lt_of_lt_of_eq i.isLt trips1

section Walk

variable (x : Seq) (hn : x.n = 2176) (x2 x3 x4 : FVec Ideal S2176x512 .bf16) (hq : Holds x2 x.q) (hk : Holds x3 x.k) (hv : Holds x4 x.v)
variable (i : Fin k0_t1_loop.trips)

include hq in
theorem blockQ_eq (p : Fin 4) (r : Fin 256) (j : Fin 128) : blockQ x2 i p (ix2 r j)
    = (((if j.val / 64 = r.val / 128 then x.q (qrow i.val r) (128 * p.val + j.val) * (1 / 8) else 0 : ℝ)) : EReal) :=
  Cert.AttnIdeal.Pay.blockQ_eq x x2 hq i p r j

variable (q : Fin 4 → FVec Ideal S256x128 .bf16)
variable (hs : ∀ (p : Fin 4) (r : Fin 256) (j : Fin 128), q p (ix2 r j)
  = (((if j.val / 64 = r.val / 128 then x.q (qrow i.val r) (128 * p.val + j.val) * (1 / 8) else 0 : ℝ)) : EReal))

theorem mask_eq (k : Fin (k0_t2_loop i).trips) (r c : Fin 256) :
    k0_pay6 lanes k0_pay1 i (Scf.iv 0#32 1#32 i) 0#32 1#32 k (ix2 r c) = if Valid i.val k.val r c then 1#1 else 0#1 :=
  Cert.AttnIdeal.Pay.mask2 i k r c

include hk hs in
theorem z_eq (k : ℕ) (p : Fin 4) (r c : Fin 256) : walkZ q x3 (hi i.val (k + 1)) p (ix2 r c) = (zW x i k p r c : EReal) :=
  Cert.AttnIdeal.Pay.z_eq x x3 hk i q hs k p r c

include hk hs in
theorem suf_eq (k : Fin (k0_t2_loop i).trips) (p : Fin 4) (r c : Fin 256) :
    walkSuf (k0_pay6 lanes k0_pay1 i (Scf.iv 0#32 1#32 i) 0#32 1#32 k) k0_pay4 q x3 (hi i.val (k.val + 1)) p (ix2 r c) = (sW x i k.val p r c : EReal) :=
  Cert.AttnIdeal.Pay.suf_eq x x3 hk i q hs k p r c

/-- The state of the walk after `k` windows. -/
structure WalkAt (k : ℕ) (σ : Walk Ideal) : Prop where
  car : ∀ (p : Fin 4) (r : Fin 256) (u : Fin 1), σ.car p (ix2 r u) = (x.w (hd p r) (qrow i.val r) (hi i.val k) : EReal)
  acc : ∀ (p : Fin 4) (r : Fin 256) (j : Fin 128), σ.acc p (ix2 r j)
    = ((∑ s ∈ Ico (hi i.val k) x.n, x.a (hd p r) (qrow i.val r) s * x.v s (128 * p.val + j.val) : ℝ) : EReal)

include hn hk hv hs in
theorem walk_step (k : Fin (k0_t2_loop i).trips) (σ : Walk Ideal) (H : WalkAt x i k.val σ) :
    WalkAt x i (k.val + 1) (walkStep (k0_pay6 lanes k0_pay1 i (Scf.iv 0#32 1#32 i) 0#32 1#32 k) k0_pay4 q x3 x4 (hi i.val (k.val + 1)) σ) := by
  have hz := fun p => z_eq x x3 hk i q hs k.val p
  have hu := fun p => suf_eq x x3 hk i q hs k p
  have hle : hi i.val k.val ≤ x.n := by rw [hn]; exact hi_le _ _ (lt17 i)
  constructor
  · intro p r u
    show k0_pay23 (σ.car p) _ (ix2 r u) = _
    refine (Cert.AttnIdeal.Pay.pay27 _ _ _ _ (H.car p) (hu p) r u).trans (congrArg _ ?_)
    rw [sW, Seq.w, Seq.w, add_comm]
    exact sum_Ico_consecutive _ (hi_step i.val k.val).1 hle
  · intro p r j
    show k0_pay22 (σ.acc p) (σ.car p) _ _ _ _ (ix2 r j) = _
    rw [pay22 _ _ (Valid i.val k.val) (zW x i k.val p) (mask_eq i k) (hz p) _ _ _ _ (H.car p) (hu p) _ _ _ _ (H.acc p)
      (hv.cut _ (hi_room _ k.val (lt17 i)) p)]
    have e : ∀ c, aW (Valid i.val k.val) (zW x i k.val p) (fun r => x.w (hd p r) (qrow i.val r) (hi i.val k.val)) (sW x i k.val p) r c
        = if hi i.val (k.val + 1) + c.val < hi i.val k.val then x.a (hd p r) (qrow i.val r) (hi i.val (k.val + 1) + c.val) else 0 :=
      fun c => Cert.AttnIdeal.Pay.aW_eq x i k.val p r c hn
    simp only [e]
    have w := win_sum (fun s => x.a (hd p r) (qrow i.val r) s * x.v s (128 * p.val + j.val)) (hi i.val (k.val + 1)) _ _ le_rfl (hi_step i.val k.val).2
    rw [← sum_Ico_consecutive _ (hi_step i.val k.val).1 hle, add_comm, ← w]
    refine congrArg _ (congrArg (· + _) (sum_congr rfl fun c _ => ?_))
    by_cases h : hi i.val (k.val + 1) + c.val < hi i.val k.val
    · rw [if_pos h, if_pos ⟨Nat.le_add_right _ _, h⟩]
    · rw [if_neg h, if_neg fun h' => h h'.2, zero_mul]

include hn hk hv hs in
theorem walk_iter (σ : Walk Ideal) (H : WalkAt x i 0 σ) : ∀ k ≤ (i.val + 2) / 2,
    WalkAt x i k (walkIter lanes k0_pay1 k0_pay4 i (Scf.iv 0#32 1#32 i) 0#32 x3 x4 q σ k)
  | 0, _ => H
  | k + 1, e => by
    have h : k < (k0_t2_loop i).trips := by rw [trips2 i]; omega
    rw [walkIter, dif_pos h, start_eq]
    exact walk_step x hn x3 x4 hk hv i q hs ⟨k, h⟩ _ (walk_iter σ H k (by omega))

include hn hq hk hv in
theorem blockY_eq (p : Fin 4) (r j : Fin 128) :
    blockY lanes x2 x3 x4 i p (ix2 r j) = (x.y (128 * i.val + r.val) (128 * p.val + j.val) : EReal) := by
  have W : WalkAt x i ((i.val + 2) / 2) (blockWalk lanes x2 x3 x4 i) := by
    refine walk_iter x hn x3 x4 hk hv i _ (blockQ_eq x x2 hq i) _ ⟨fun p r u => ?_, fun p r j => ?_⟩ _ le_rfl
    · rw [Seq.w_zero (by rw [hi_zero, qrow]; omega)]
      exact zero_cars p r u
    · rw [sum_eq_zero fun s hs => ?_]
      · exact zero_accs p r j
      · rw [Seq.a_zero (by have := (mem_Ico.1 hs).1; rw [hi_zero] at this; unfold qrow; omega), zero_mul]
  have hr := r.isLt
  have hj := j.isLt
  have e1 : hd p ⟨128 * (j.val / 64) + r.val, by omega⟩ = (128 * p.val + j.val) / 64 := by unfold hd; dsimp only; omega
  have e2 : qrow i.val ⟨128 * (j.val / 64) + r.val, by omega⟩ = 128 * i.val + r.val := by unfold qrow; dsimp only; omega
  rw [blockY, pay66, W.acc, e1, e2, hi_last, Seq.y, range_eq_Ico]

end Walk

/-- The columns given are handed on. -/
theorem seq_given (x2 x3 x4 x5 : FVec Ideal S2176x512 .bf16) (a : Fin 2176) (b : Fin 512) : seqOut x2 x3 x4 x5 (ix2 a ⟨b.val, by omega⟩) = x5 (ix2 a b) := by
  refine (dif_pos (show b.val < 512 from b.isLt)).trans ?_
  unfold k0_pay5
  pointwise

section Sequence

variable (x : Seq) (hn : x.n = 2176) (x2 x3 x4 x5 : FVec Ideal S2176x512 .bf16) (hq : Holds x2 x.q) (hk : Holds x3 x.k) (hv : Holds x4 x.v)

include hn hq hk hv in
/-- The columns beside them are the attention's output. -/
theorem seq_y (a : Fin 2176) (b : Fin 512) : seqOut x2 x3 x4 x5 (ix2 a ⟨512 + b.val, by omega⟩) = (x.y a.val b.val : EReal) := by
  refine (dif_neg (show ¬512 + b.val < 512 by omega)).trans ((blockY_eq x hn x2 x3 x4 hq hk hv _ _ _ _).trans ?_)
  have e1 : 128 * (a.val / 128) + a.val % 128 = a.val := by omega
  have e2 : 128 * ((512 + b.val - 512) / 128) + (512 + b.val) % 128 = b.val := by omega
  exact congrArg _ (congrArg₂ x.y e1 (e2 : 128 * ((512 + b.val - 512) / 128) + (512 + b.val) % 128 = b.val))

end Sequence

end Cert.AttnFwdIdeal.Pay
-- ==== Proof.FwdArray.lean ====
/-
  What the attention forward's windows read and what its result holds after the run: the columns given, and the attention's
  output beside them.
-/
module

public import proofs.«01_k».proof.Proof.AttnArray
public import proofs.«01_k».proof.Proof.FwdValue

@[expose] public section

set_option maxRecDepth 16384

noncomputable section

namespace Cert.AttnFwdIdeal.Pay

open Idealize.ShloMosaic Cert.AttnFwdIdeal Cert.AttnFwdIdeal.Gen Idealize.ShloMosaic.TcCoe Cert.AttnSpec
open Idealize.ShloMosaic.Pipeline (Dat)
open Cert.AttnIdeal.Pay (Holds Args padded padded_real at_block at_zero seqRow)

variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem xs4 : ∀ t : Fin cfg0.N, win0_4.xsize (grid0.coords t) 0 = 2176 ∧ win0_4.xsize (grid0.coords t) 1 = 1024 := by decide +kernel

/-! ## The inputs -/

theorem V_args (c : Dev nD) (R : Fin 8704) (j : Fin 512) :
    (V m c main_v3 : S8704x512.Idx → EReal) (ix2 R j) = padded (m (c.tc.loc main_arg0)) R j
    ∧ (V m c main_v7 : S8704x512.Idx → EReal) (ix2 R j) = padded (m (c.tc.loc main_arg1)) R j
    ∧ (V m c main_v11 : S8704x512.Idx → EReal) (ix2 R j) = padded (m (c.tc.loc main_arg2)) R j
    ∧ (V m c main_v15 : S8704x512.Idx → EReal) (ix2 R j) = padded (m (c.tc.loc main_arg3)) R j := by
  unfold V V0
  simp only [List.flatten_cons, List.flatten_nil, List.append_nil]
  refine ⟨?_, ?_, ?_, ?_⟩ <;> (after_results; pointwise; rfl)

/-- A grid point's row of the padded sequences. -/
def row (t : Fin cfg0.N) (r : Fin 2176) : Fin 8704 := ⟨t.val * 2176 + r.val, by have := lt_of_lt_of_eq t.isLt (show cfg0.N = 4 from N_0); omega⟩

theorem iblk0 (c : Dev nD) (t : Fin cfg0.N) (r : Fin 2176) (j : Fin 512) :
    (iblk m c 0 t : S2176x512.Idx → EReal) (ix2 r j) = padded (m (c.tc.loc main_arg0)) (row t r) j := by
  rw [← (V_args m c _ j).1]
  exact congrArg (V m c main_v3) (Cert.Padded.place_row (a := 2176) (b := 512) _ _ j (r := r.val) (index0 t).1 (index0 t).2 rfl rfl rfl)

theorem iblk1 (c : Dev nD) (t : Fin cfg0.N) (r : Fin 2176) (j : Fin 512) :
    (iblk m c 1 t : S2176x512.Idx → EReal) (ix2 r j) = padded (m (c.tc.loc main_arg1)) (row t r) j := by
  rw [← (V_args m c _ j).2.1]
  exact congrArg (V m c main_v7) (Cert.Padded.place_row (a := 2176) (b := 512) _ _ j (r := r.val) (index1 t).1 (index1 t).2 rfl rfl rfl)

theorem iblk2 (c : Dev nD) (t : Fin cfg0.N) (r : Fin 2176) (j : Fin 512) :
    (iblk m c 2 t : S2176x512.Idx → EReal) (ix2 r j) = padded (m (c.tc.loc main_arg2)) (row t r) j := by
  rw [← (V_args m c _ j).2.2.1]
  exact congrArg (V m c main_v11) (Cert.Padded.place_row (a := 2176) (b := 512) _ _ j (r := r.val) (index2 t).1 (index2 t).2 rfl rfl rfl)

theorem iblk3 (c : Dev nD) (t : Fin cfg0.N) (r : Fin 2176) (j : Fin 512) :
    (iblk m c 3 t : S2176x512.Idx → EReal) (ix2 r j) = padded (m (c.tc.loc main_arg3)) (row t r) j := by
  rw [← (V_args m c _ j).2.2.2]
  exact congrArg (V m c main_v15) (Cert.Padded.place_row (a := 2176) (b := 512) _ _ j (r := r.val) (index3 t).1 (index3 t).2 rfl rfl rfl)

/-! ## The result -/

/-- A row's grid point. -/
def point (R : Fin 8704) : Fin cfg0.N := ⟨R.val / 2176, by rw [show cfg0.N = 4 from N_0]; omega⟩

/-- A grid point's block of the result. -/
def block (c : Dev nD) (t : Fin cfg0.N) : S2176x1024.Idx → EReal :=
  seqOut (F := Ideal) (iblk m c 0 t) (iblk m c 1 t) (iblk m c 2 t) (iblk m c 3 t)

/-- The region's result: each sequence's outputs, one after the other. -/
def region (c : Dev nD) : S8704x1024.Idx → EReal := fun i =>
  block m c (point (i 0)) (ix2 ⟨(i 0 : Fin 8704).val % 2176, Nat.mod_lt _ (by decide)⟩ (i 1))

theorem region_row (c : Dev nD) (t : Fin cfg0.N) (r : Fin 2176) (k : Fin 1024) (R : Fin 8704) (hR : R.val = t.val * 2176 + r.val) :
    region m c (ix2 R k) = block m c t (ix2 r k) := by
  have e1 : point R = t := Fin.ext (by show R.val / 2176 = t.val; omega)
  have e2 : (⟨R.val % 2176, Nat.mod_lt _ (by decide)⟩ : Fin 2176) = r := Fin.ext (by show R.val % 2176 = r.val; omega)
  show block m c (point R) (ix2 ⟨R.val % 2176, _⟩ k) = _
  rw [e1, e2]

theorem flushed4_eq (c : Dev nD) (t : Fin cfg0.N) :
    (dats m 0 c).flushed 4 t = ((cfg0.win 4).blk t).view.read (Elt Ideal) (region m c) := by
  funext i
  obtain ⟨r, k, rfl⟩ := ex2 i
  have hread : ((cfg0.win 4).blk t).view.read (Elt Ideal) (region m c) (ix2 r k) = region m c (ix2 (row t r) k) := by
    rw [View.read_apply]
    exact congrArg (region m c) (Padded.place_row (a := 2176) (b := 1024) _ _ _ (index4 t).1 (index4 t).2 rfl rfl rfl)
  rw [hread, region_row m c t r k _ rfl]
  show (dats m 0 c).after 4 t (ix2 r k) = _
  rw [after0_4]
  rfl

theorem final4 (c : Dev nD) : (dats m 0 c).arrAt 4 cfg0.N = region m c :=
  (dats m 0 c).arrAt_eq_of_cover 4 (region m c) (fun t _ => flushed4_eq m c t) fun i =>
    ⟨point (i 0), flush0_4 _, by
      have h0 : (i 0 : Nat) < 8704 := (i 0).isLt
      have h1 : (i 1 : Nat) < 1024 := (i 1).isLt
      show i ∈ ((View.whole main_v16).slice (win0_4.rect (point (i 0)))).set
      rw [View.set_slice_whole, Rect.mem_set_unit]
      exact Padded.covered ⟨(index4 _).1, (index4 _).2, xs4 _⟩ (fun a => (i a).val) rfl rfl rfl rfl rfl (by norm_num) (i 1).isLt⟩

/-- The grid point of a sequence. -/
def seqPoint (s : Fin 4) : Fin cfg0.N := ⟨s.val, by rw [show cfg0.N = 4 from N_0]; exact s.isLt⟩

/-- The result after the host's last lines. -/
def result (c : Dev nD) : S4x2064x1024.Idx → EReal := fun i => block m c (seqPoint (i 0)) (ix2 (seqRow (i 1)) (i 2))

theorem arr_inj : Function.Injective (Pipeline.arrRef spec0) := by decide

theorem tail (c : Dev nD) :
    (Pipeline.afterTail₀ cfgs (dats m) 0 (V0 m) [hostOps1] c main_v19 : S4x2064x1024.Idx → EReal) = result m c := by
  unfold Pipeline.afterTail₀
  simp only [List.flatten_cons, List.flatten_nil, List.append_nil]
  after_results
  have e : (Pipeline.withArrays spec0 c (V0 m c) (fun w => (dats m 0 c).arrAt w cfg0.N) (Proc.devRef .tc main_v16) : S8704x1024.Idx → EReal) = region m c :=
    (Pipeline.withArrays_arr spec0 arr_inj c (V0 m c) (fun w => (dats m 0 c).arrAt w cfg0.N) 4).trans (final4 m c)
  funext i
  obtain ⟨s, q, k, rfl⟩ := ex3 i
  pointwise
  exact (congrFun e _).trans (region_row m c (seqPoint s) (seqRow q) k _
    (by show s.val * 2176 + (112 + q.val) = s.val * 2176 + (q.val + 112); omega))

/-- The run: the result, and the arguments unchanged. -/
theorem run_result (ρ : Dev nD → PrngReg) : θ_run defs (onTc (τ := τ) (main (F := Ideal))) ⟨m, fun _ => 0, ρ⟩ (fun r => ∀ c : Dev nD,
    r.2.mem (c.tc.loc main_v19) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨((h c).2 main_v19 (Pipeline.mem_restRefs_of main_v19 (by decide) (by decide))).trans (tail m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- The columns given, and the attention's outputs beside them. -/
def outs (g : S4x2064x512.Idx → EReal) (X : Fin 4 → Seq) : S4x2064x1024.Idx → EReal := fun i =>
  if h : (i 2 : Fin 1024).val < 512 then g (ix3 (i 0) (i 1) ⟨(i 2 : Fin 1024).val, h⟩)
  else (((X (i 0)).y (i 1 : Fin 2064).val ((i 2 : Fin 1024).val - 512) : ℝ) : EReal)

theorem outs_low (g : S4x2064x512.Idx → EReal) (X : Fin 4 → Seq) (s : Fin 4) (q : Fin 2064) (k : Fin 1024) (h : k.val < 512) :
    outs g X (ix3 s q k) = g (ix3 s q ⟨k.val, h⟩) := dif_pos h

theorem outs_high (g : S4x2064x512.Idx → EReal) (X : Fin 4 → Seq) (s : Fin 4) (q : Fin 2064) (k : Fin 1024) (h : ¬k.val < 512) :
    outs g X (ix3 s q k) = (((X s).y q.val (k.val - 512) : ℝ) : EReal) := dif_neg h

theorem result_eq {X : Fin 4 → Seq} {o : S4x2064x512.Idx → EReal} (c : Dev nD)
    (h : Args (m (c.tc.loc main_arg0)) (m (c.tc.loc main_arg1)) (m (c.tc.loc main_arg2)) o X) :
    result m c = outs (m (c.tc.loc main_arg3)) X := by
  funext i
  obtain ⟨s, q, k, rfl⟩ := ex3 i
  have hn : (X s).pad.n = 2176 := by show (X s).n + 112 = 2176; rw [(h s).1]
  have h0 : Holds (iblk m c 0 (seqPoint s)) (X s).pad.q := fun r j =>
    (iblk0 m c _ r j).trans (padded_real s (fun a b => ((h s).2 a b).1) (row (seqPoint s) r) r.val r.isLt rfl j)
  have h1 : Holds (iblk m c 1 (seqPoint s)) (X s).pad.k := fun r j =>
    (iblk1 m c _ r j).trans (padded_real s (fun a b => ((h s).2 a b).2.1) (row (seqPoint s) r) r.val r.isLt rfl j)
  have h2 : Holds (iblk m c 2 (seqPoint s)) (X s).pad.v := fun r j =>
    (iblk2 m c _ r j).trans (padded_real s (fun a b => ((h s).2 a b).2.2.1) (row (seqPoint s) r) r.val r.isLt rfl j)
  have hk := k.isLt
  have hq := q.isLt
  show block m c (seqPoint s) (ix2 (seqRow q) k) = _
  unfold block
  by_cases e1 : k.val < 512
  · rw [outs_low _ _ _ _ _ e1]
    refine (seq_given _ _ _ _ (seqRow q) ⟨k.val, e1⟩).trans ((iblk3 m c _ _ _).trans ?_)
    have u1 : (s.val * 2176 + (q.val + 112)) % 2176 = q.val + 112 := by omega
    have u2 : (s.val * 2176 + (q.val + 112)) / 2176 = s.val := by omega
    refine (dif_neg (show ¬(s.val * 2176 + (q.val + 112)) % 2176 < 112 by omega)).trans ?_
    exact congrArg (m (c.tc.loc main_arg3) : S4x2064x512.Idx → EReal) (congrArg₂ (fun a b => ix3 a b ⟨k.val, e1⟩)
      (Fin.ext u2 : _ = s) (Fin.ext (by show (s.val * 2176 + (q.val + 112)) % 2176 - 112 = q.val; omega) : _ = q))
  · rw [outs_high _ _ _ _ _ e1]
    refine Eq.trans (congrArg _ (congrArg _ (Fin.ext (by show k.val = 512 + (k.val - 512); omega))))
      ((seq_y (X s).pad hn _ _ _ _ h0 h1 h2 (seqRow q) ⟨k.val - 512, by omega⟩).trans (congrArg _ ((X s).pad_y q.val (k.val - 512))))

end Cert.AttnFwdIdeal.Pay
-- ==== Proof.FwdRefValue.lean ====
/-
  What the attention forward's reference computes on real arguments: its weights are those of the gradient's reference,
  and its result puts the output beside the columns given.
-/
module

public import proofs.«01_k».proof.Proof.AttnRefValue
public import proofs.«01_k».proof.Proof.FwdArray
public import proofs.«01_k».proof.Proof.Gen.AttnFwdRefIdeal.Read

@[expose] public section

set_option maxRecDepth 16384

noncomputable section

namespace Cert.AttnFwdRefIdeal.RefValue

open Idealize.ShloMosaic Cert.AttnFwdRefIdeal Cert.AttnFwdRefIdeal.Read Cert.AttnSpec Cert.Reals
open Cert.AttnIdeal.Pay (Args)
open Cert.AttnFwdIdeal.Pay (outs outs_low outs_high)

variable {x0 x1 x2 x3 : Vec Ideal S4x2064x512 .f32} {X : Fin 4 → Seq} (hx : Args x0 x1 x2 x3 X)
variable (s : Fin 4) (h : Fin 8) (t j : Fin 2064) (e : Fin 64)

theorem same24 : val_main_v24 x0 x1 = Cert.AttnRefIdeal.Read.val_main_v24_0 x0 x1 := rfl

section
include hx

theorem a24 : (val_main_v24 x0 x1 : S4x8x2064x2064.Idx → EReal) (ix4 s h t j) = (((X s).a h.val t.val j.val : ℝ) : EReal) := by
  rw [same24]
  exact Cert.AttnRefIdeal.RefValue.a24 hx s h t j

theorem v5 : (val_main_v5 x2 : S4x8x2064x64.Idx → EReal) (ix4 s h t e) = (((X s).v t.val (64 * h.val + e.val) : ℝ) : EReal) :=
  Cert.AttnRefIdeal.RefValue.v5 hx s h t e

/-- The output at a head's lane. -/
theorem y25 : (val_main_v25 x0 x1 x2 : S4x8x2064x64.Idx → EReal) (ix4 s h t e) = (((X s).y t.val (64 * h.val + e.val) : ℝ) : EReal) := by
  unfold val_main_v25
  pointwise
  simp only [a24 hx, v5 hx, ← EReal.coe_mul, sum_coe]
  rw [Seq.y, (hx s).1, show (64 * h.val + e.val) / 64 = h.val by omega, Fin.sum_univ_eq_sum_range (fun j => (X s).a h.val t.val j * (X s).v j (64 * h.val + e.val)) 2064]

/-- The reference's result: the columns given, and the output beside them. -/
theorem result (g : Vec Ideal S4x2064x512 .f32) : (val_main_v28 x0 x1 x2 g : S4x2064x1024.Idx → EReal) = outs g X := by
  funext i
  obtain ⟨s, q, y, rfl⟩ := ex3 i
  have hy := y.isLt
  by_cases e1 : y.val < 512
  · rw [outs_low _ _ _ _ _ e1]
    unfold val_main_v28
    pointwise
    rw [dif_pos e1]
  · rw [outs_high _ _ _ _ _ e1]
    unfold val_main_v28 val_main_v27 val_main_v26
    pointwise
    rw [dif_neg e1, y25 hx]
    exact congrArg _ (congrArg _ (by show 64 * ((y.val - 512) / 64) + (y.val - 512) % 64 = y.val - 512; omega))
end

end Cert.AttnFwdRefIdeal.RefValue
-- ==== Proof.FwdClaim.lean ====
/-
  The value claim about the attention's forward: the precondition read, the kernel's run and the reference's run set side
  by side.
-/
module

public import proofs.«01_k».proof.Proof.AttnClaim
public import proofs.«01_k».proof.Proof.FwdFrames
public import proofs.«01_k».proof.Proof.FwdRefValue
public import proofs.«01_k».proof.Proof.Gen.Pre_finite_attn_fwd

@[expose] public section

set_option maxRecDepth 16384

noncomputable section

namespace Cert.FwdClaim

open Idealize.ShloMosaic Idealize.SL.Sem Idealize.ShloMosaic.TcCoe Cert.Reals Cert.AttnSpec Cert.AttnIdeal.Pay
open Cert.AttnClaim (seqs at_mod)

/-- The precondition says that the queries, keys and values are real numbers. -/
theorem args_of_pre (m : (ℓ : Loc Cert.AttnFwdIdeal.nD Cert.AttnFwdIdeal.τ Cert.AttnFwdIdeal.sig) → Buf (Elt Ideal) ℓ)
    (h : Cert.Pre_AttnFwdIdeal_finite_attn_fwd m) (c : Dev Cert.AttnFwdIdeal.nD) :
    ∃ X, Args (m ((c : Thread Cert.AttnFwdIdeal.nD Cert.AttnFwdIdeal.τ).loc Cert.AttnFwdIdeal.main_arg0)) (m ((c : Thread Cert.AttnFwdIdeal.nD Cert.AttnFwdIdeal.τ).loc Cert.AttnFwdIdeal.main_arg1))
      (m ((c : Thread Cert.AttnFwdIdeal.nD Cert.AttnFwdIdeal.τ).loc Cert.AttnFwdIdeal.main_arg2)) (fun _ => 0) X := by
  have e := congrFun (h c) (fun a => a.elim0)
  unfold Cert.Pre_finite_attn_fwd.fn at e
  dsimp only at e
  obtain ⟨e1, e2⟩ := IntOp.andi_eq_one.1 e
  obtain ⟨e3, e4⟩ := IntOp.andi_eq_one.1 e1
  exact ⟨seqs _ _ _ (fun _ => 0), fun s => ⟨rfl, fun a b =>
    ⟨at_mod _ (fun i => (isReal_of_all _ _ (fun _ => ofBits_inf) _ _ _ _ e3).eq i) s a b,
     at_mod _ (fun i => (isReal_of_all _ _ (fun _ => ofBits_inf) _ _ _ _ e4).eq i) s a b,
     at_mod _ (fun i => (isReal_of_all _ _ (fun _ => ofBits_inf) _ _ _ _ e2).eq i) s a b,
     at_mod (fun _ => 0) (fun _ => rfl) s a b⟩⟩⟩

/-- On real queries, keys and values the kernel and the reference give the same outputs. -/
theorem algebraic : Cert.algebraic_AttnFwdIdeal_AttnFwdRefIdeal_pre_finite_attn_fwd := by
  intro m g m' g' hpre hargs
  choose X hX using args_of_pre m hpre
  refine ⟨fun c => Cert.AttnFwdIdeal.Pay.outs (m ((c : Thread Cert.AttnFwdIdeal.nD Cert.AttnFwdIdeal.τ).loc Cert.AttnFwdIdeal.main_arg3)) (X c),
    (θ_run Cert.AttnFwdIdeal.defs _ _).mono (fun r h c => ?_) (Cert.AttnFwdIdeal.Pay.run_result m g),
    (θ_run Cert.AttnFwdRefIdeal.defs _ _).mono (fun r h c => ?_) (Cert.AttnFwdRefIdeal.Value.run m' g')⟩
  · obtain ⟨h0, hk⟩ := h c
    exact ⟨h0.trans (Cert.AttnFwdIdeal.Pay.result_eq m c (hX c)), hk⟩
  · obtain ⟨h0, hk⟩ := h c
    obtain ⟨a0, a1, a2, a3⟩ := hargs c
    refine ⟨h0.trans ((Cert.AttnFwdRefIdeal.Read.val_main_v28_eq ..).trans ((Cert.AttnFwdRefIdeal.RefValue.result (x3 := fun _ => 0) (X := X c)
      (fun s => ⟨(hX c s).1, fun a b => ?_⟩) _).trans (congrArg (fun g => Cert.AttnFwdIdeal.Pay.outs g (X c)) a3))), hk⟩
    obtain ⟨b0, b1, b2, b3⟩ := (hX c s).2 a b
    exact ⟨(congrFun a0 _).trans b0, (congrFun a1 _).trans b1, (congrFun a2 _).trans b2, b3⟩

end Cert.FwdClaim
-- ==== Proof.MixerFwdArray.lean ====
/-
  What the mixer's forward leaves in its result, when its arguments are real numbers: every sequence's gated convolution
  beside its pooled rows, zero on the padding. The blocks' values are those of the mixer's backward.
-/
module

public import proofs.«01_k».proof.Proof.MixerInputs
public import proofs.«01_k».proof.Proof.Gen.MixerFwdIdeal.Value

@[expose] public section

set_option maxRecDepth 16384

noncomputable section

namespace Cert.MixerFwdIdeal.Array

open Idealize.ShloMosaic Cert.MixerFwdIdeal Cert.MixerFwdIdeal.Gen Cert.MixerFwdIdeal.Value Idealize.ShloMosaic.TcCoe Cert.Padded Cert.Reals
open Cert.MixerIdeal.Inputs (Args lift diag lift_row)
open Cert.MixerIdeal.Point (part gated Reads rows wrow hit miss)
open Cert.MixerIdeal.Block (Rows conv pooled)
open Idealize.ShloMosaic.Pipeline (Dat)

/-! ## A grid point -/

/-- The pooled rows times the matrices. -/
theorem pay6 (p : Vec Ideal S2176x256 .f32) (P : ℕ → Fin 256 → ℝ) (hp : Rows p P) (m : Vec Ideal S256x256 .bf16) (M : Fin 256 → Fin 256 → ℝ)
    (hm : ∀ i j, m (ix2 i j) = (M i j : EReal)) (r : Fin 2176) (j : Fin 256) :
    k0_pay6 (F := Ideal) (iota .tc S2176x256 32 [0] iota_S2176x256_d0_w32) (iota .tc S2176x256 32 [1] iota_S2176x256_d1_w32) k0_pay3 k0_pay4 k0_pay5 p m (ix2 r j)
      = ((∑ k : Fin 256, pooled P r.val k * M k j : ℝ) : EReal) := by
  have e : k0_pay6 (F := Ideal) (iota .tc S2176x256 32 [0] iota_S2176x256_d0_w32) (iota .tc S2176x256 32 [1] iota_S2176x256_d1_w32) k0_pay3 k0_pay4 k0_pay5 p m
      = matmul (F := Ideal) (φ₁ := .bf16) (φ₂ := .bf16) dot_S2176x256_S256x256_S2176x256_1_0_0_1_n_n none (Cert.MixerIdeal.Gen.k0_pay27 Cert.MixerIdeal.Gen.k0_pay20 Cert.MixerIdeal.Gen.k0_pay21 Cert.MixerIdeal.Gen.k0_pay22
        (Cert.MixerIdeal.Gen.k0_pay23 (F := Ideal)) Cert.MixerIdeal.Gen.k0_pay24 (Cert.MixerIdeal.Gen.k0_pay25 p) (Cert.MixerIdeal.Gen.k0_pay26 p)) (shapeCast S256x256 m shapeCasts_S256x256_S256x256)
        (constant S2176x256 .f32 0x00000000#32) := by
    rfl
  rw [e]
  pointwise
  simp only [Cert.MixerIdeal.Block.pay27 p P hp, hm, Ideal.ofBits_zero, zero_add, ← EReal.coe_mul, sum_coe]

/-- A row of the result, by groups of columns. -/
def row (U : ℕ → ℕ → ℝ) (W : Fin 3 → Fin 256 → ℝ) (M : Fin 256 → Fin 256 → ℝ) (T : Fin 256 → ℝ) (k : Fin 2) (r : ℕ) (j : Fin 256) : ℝ :=
  if k = 0 then part U 0 r j * conv (W 0) (W 1) (W 2) (gated U) r j else (∑ i : Fin 256, pooled (part U 768) r i * M i j) * T j

/-- What a grid point leaves in its block. -/
theorem out4 (x : Vec Ideal S2176x1024 .f32) (w : Vec Ideal S3x256 .f32) (m : Vec Ideal S256x256 .bf16) (s : Vec Ideal S1x256 .f32) (d : Vec Ideal S2176x512 .f32)
    {U D : ℕ → ℕ → ℝ} {W : Fin 3 → Fin 256 → ℝ} {M : Fin 256 → Fin 256 → ℝ} {T : Fin 256 → ℝ} (h : Reads x d w m s U D W M T)
    (k : Fin 2) (r : Fin 2176) (j : Fin 256) : out0_4 x w m s (ix2 r ⟨256 * k.val + j.val, by omega⟩) = (row U W M T k r.val j : EReal) := by
  unfold out0_4
  refine View.canon_eq_of_allAt _ _ _ (cover0_4 _ _ _) ?_
  simp only [View.ld_unit_zero (S := S256x256) hz, View.ld_unit_zero (S := S1x256) hz]
  refine View.allAt_cons_unit _ _ _ _ _ ?_ (View.allAt_cons_unit _ _ _ _ _ ?_ (View.allAt_nil _ _)) <;> fin_cases k
  · exact miss r _ _ j _ _ _ (by decide)
  · refine hit r 256 j _ _ _ ?_
    unfold k0_pay1
    pointwise
    rw [pay6 _ _ (rows h 768 (by norm_num) _) m M h.m, h.s, ← EReal.coe_mul]
    rfl
  · exact hit r 0 j _ _ _ (Cert.MixerIdeal.Block.pay9 _ _ _ _ _ _ (rows h 256 (by norm_num) _) (rows h 512 (by norm_num) _) (rows h 0 (by norm_num) _) _ _ _ (W 0) (W 1) (W 2)
      (wrow h 0 _) (wrow h 1 _) (wrow h 2 _) r j)
  · exact miss r _ _ j _ _ _ (by decide)

/-! ## What the windows read -/

variable (m : (ℓ : Loc nD τ sig) → Buf (Elt Ideal) ℓ)

/-- The arguments on device `c` are the real numbers `X`. -/
def Holds (X : Args) (c : Dev nD) : Prop :=
  (∀ s q j, (m (c.tc.loc main_arg0) : S4x2064x1024.Idx → EReal) (ix3 s q j) = (X.u s q j : EReal))
  ∧ (∀ k j, (m (c.tc.loc main_arg1) : S3x256.Idx → EReal) (ix2 k j) = (X.w k j : EReal))
  ∧ (∀ g i j, (m (c.tc.loc main_arg2) : S4x64x64.Idx → EReal) (ix3 g i j) = (X.p g i j : EReal))
  ∧ (∀ j, (m (c.tc.loc main_arg3) : S256.Idx → EReal) (ix1 j) = (X.s j : EReal))

variable {m} {X : Args} {c : Dev nD} (hm : Holds m X c)

include hm in
theorem V_v27 (R : Fin 8704) (j : Fin 1024) : (V m c main_v27 : S8704x1024.Idx → EReal) (ix2 R j) = ((padR X.u R.val j : ℝ) : EReal) := by
  unfold V
  after_results
  pointwise
  by_cases h : 112 ≤ R.val % 2176
  · rw [dif_neg (by omega)]
    exact padded (n := 1024) _ X.u hm.1 R.val R.isLt j h _ _ rfl rfl
  · rw [dif_pos (by omega), padR_zero _ h]; rfl

include hm in
theorem V_v29 (j : Fin 256) : (V m c main_v29 : S1x256.Idx → EReal) (ix2 0 j) = (X.s j : EReal) := by
  unfold V
  after_results
  pointwise
  exact hm.2.2.2 j

include hm in
theorem V_v28 (i j : Fin 256) : (V m c main_v28 : S256x256.Idx → EReal) (ix2 i j) = (diag X.p i j : EReal) := by
  unfold V
  after_results
  pointwise
  exact Cert.MixerIdeal.Inputs.diag_set X.p _ _ _ _ (hm.2.2.1 0) (hm.2.2.1 1) (hm.2.2.1 2) (hm.2.2.1 3) _ i j (Ideal.ofBits_zero .f32)

theorem index : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ win0_4.xsize (grid0.coords t) 0 = 2176 ∧ win0_4.xsize (grid0.coords t) 1 = 512 := by decide +kernel

theorem lt4 (t : Fin cfg0.N) : t.val < 4 := lt_of_lt_of_eq t.isLt (show cfg0.N = 4 from N_0)

include hm in
/-- What a grid point reads. -/
theorem reads (t : Fin cfg0.N) :
    Reads (iblk m c 0 t) (fun _ => ((0 : ℝ) : EReal)) (iblk m c 1 t) (iblk m c 2 t) (iblk m c 3 t) (lift X.u ⟨t.val, lt4 t⟩) (fun _ _ => 0) X.w (diag X.p) X.s where
  x r j := by
    have ht := lt4 t
    rw [← lift_row X.u ⟨t.val, ht⟩ r j, ← V_v27 hm ⟨t.val * 2176 + r.val, by omega⟩ j]
    unfold iblk
    rw [View.read_apply]
    exact congrArg (V m c main_v27) (place_row (a := 2176) (b := 1024) _ _ _ (index t).1.1 (index t).1.2 rfl rfl rfl)
  d r j := rfl
  w k j := by
    rw [← hm.2.1 k j, ← V_main_arg1 m c]
    unfold iblk
    rw [View.read_apply]
    show V m c main_arg1 _ = V m c main_arg1 _
    exact congrArg _ (place (A := 3) (B := 256) (a := 3) (b := 256) _ _ _ _ k.val j.val rfl rfl
      (by rw [(index t).2.1.1, Nat.zero_mul, Nat.zero_add]; rfl) (by rw [(index t).2.1.2, Nat.zero_mul, Nat.zero_add]; rfl))
  m k j := by
    rw [← V_v28 hm k j]
    unfold iblk
    rw [View.read_apply]
    show V m c main_v28 _ = V m c main_v28 _
    exact congrArg _ (place (A := 256) (B := 256) (a := 256) (b := 256) _ _ _ _ k.val j.val rfl rfl
      (by rw [(index t).2.2.1.1, Nat.zero_mul, Nat.zero_add]; rfl) (by rw [(index t).2.2.1.2, Nat.zero_mul, Nat.zero_add]; rfl))
  s j := by
    rw [← V_v29 hm j]
    unfold iblk
    rw [View.read_apply]
    show V m c main_v29 _ = V m c main_v29 _
    exact congrArg _ (place (A := 1) (B := 256) (a := 1) (b := 256) _ _ _ _ 0 j.val rfl rfl
      (by rw [(index t).2.2.2.1.1, Nat.zero_mul, Nat.zero_add]; rfl) (by rw [(index t).2.2.2.1.2, Nat.zero_mul, Nat.zero_add]; rfl))
  xlow r j h := dif_neg (by omega)
  xhigh r j h := dif_neg (by omega)
  dlow r j h := rfl
  dhigh r j h := rfl

/-! ## The result -/

/-- The result's element of a sequence, a padded row and a column. -/
def elt (X : Args) (s : Fin 4) (r : ℕ) (j : Fin 512) : ℝ :=
  row (lift X.u s) X.w (diag X.p) X.s ⟨j.val / 256, by omega⟩ r ⟨j.val % 256, Nat.mod_lt _ (by norm_num)⟩

def arr (X : Args) : S8704x512.Idx → EReal := fun i => ((elt X ⟨(i 0).val / 2176 % 4, Nat.mod_lt _ (by norm_num)⟩ ((i 0).val % 2176) (i 1) : ℝ) : EReal)

include hm in
theorem flushed (t : Fin cfg0.N) : (dats m 0 c).flushed 4 t = ((cfg0.win 4).blk t).view.read (Elt Ideal) (arr X) := by
  have ht := lt4 t
  funext i
  obtain ⟨r, j, rfl⟩ := ex2 i
  have hread : ((cfg0.win 4).blk t).view.read (Elt Ideal) (arr X) (ix2 r j) = arr X (ix2 ⟨t.val * 2176 + r.val, by omega⟩ j) := by
    rw [View.read_apply]
    exact congrArg (arr X) (place_row (a := 2176) (b := 512) _ _ _ (index t).2.2.2.2.1.1 (index t).2.2.2.2.1.2 rfl rfl rfl)
  rw [hread]
  show (dats m 0 c).after 4 t (ix2 r j) = ((elt X ⟨(t.val * 2176 + r.val) / 2176 % 4, _⟩ ((t.val * 2176 + r.val) % 2176) j : ℝ) : EReal)
  rw [after0_4]
  have hj : j = ⟨256 * (⟨j.val / 256, by omega⟩ : Fin 2).val + (⟨j.val % 256, by omega⟩ : Fin 256).val, by show 256 * (j.val / 256) + j.val % 256 < 512; omega⟩ :=
    Fin.ext (by show j.val = 256 * (j.val / 256) + j.val % 256; omega)
  have e : (⟨(t.val * 2176 + r.val) / 2176 % 4, Nat.mod_lt _ (by norm_num)⟩ : Fin 4) = ⟨t.val, ht⟩ := Fin.ext (by show (t.val * 2176 + r.val) / 2176 % 4 = t.val; omega)
  rw [e, show (t.val * 2176 + r.val) % 2176 = r.val by omega]
  exact (congrArg (fun j => out0_4 _ _ _ _ (ix2 r j)) hj).trans (out4 _ _ _ _ _ (reads hm t) _ r _)

include hm in
theorem result : (dats m 0 c).arrAt 4 cfg0.N = arr X :=
  (dats m 0 c).arrAt_eq_of_cover 4 (arr X) (fun t _ => flushed hm t) fun i => by
    have h0 : (i 0 : Nat) < 8704 := (i 0).isLt
    have h1 : (i 1 : Nat) < 512 := (i 1).isLt
    obtain ⟨t, ht⟩ : ∃ t : Fin cfg0.N, t.val = (i 0 : Nat) / 2176 := ⟨⟨(i 0 : Nat) / 2176, by rw [show cfg0.N = 4 from N_0]; omega⟩, rfl⟩
    obtain ⟨-, -, -, -, ⟨i0, i1⟩, s0, s1⟩ := index t
    refine ⟨t, flush0_4 t, ?_⟩
    show i ∈ ((View.whole main_v30).slice (win0_4.rect t)).set
    rw [View.set_slice_whole, Rect.mem_set_unit]
    exact Padded.in_tile (n := 2176) (w := 512) (fun a => (i a).val) _ _ _ (congrArg (· * 2176) i0) (congrArg (· * 512) i1)
      s0 s1 ht (by norm_num) (i 1).isLt

end Cert.MixerFwdIdeal.Array
-- ==== Proof.MixerFwdClaim.lean ====
/-
  The claims about the mixer's forward: its reference's lines are those of the backward's reference, and the two runs are
  set side by side.
-/
module

public import proofs.«01_k».proof.Defs
public import proofs.«01_k».proof.Proof.MixerRefMats
public import proofs.«01_k».proof.Proof.MixerFwdArray
public import proofs.«01_k».proof.Proof.Gen.MixerFwdRefIdeal.Read
public import proofs.«01_k».proof.Proof.Gen.Pre_finite_mixer_fwd

@[expose] public section

set_option maxRecDepth 16384

noncomputable section

namespace Cert.MixerFwdClaim

open Idealize.ShloMosaic Idealize.SL.Sem Idealize.ShloMosaic.TcCoe Cert.Reals Cert.Padded
open Cert.MixerFwdRefIdeal Cert.MixerFwdRefIdeal.Gen Cert.MixerFwdRefIdeal.Read
open Cert.MixerIdeal.Inputs (Args lift diag)
open Cert.MixerIdeal.Point (part gated)
open Cert.MixerIdeal.Block (conv pooled)
open Cert.MixerFwdIdeal.Array (elt arr Holds result)

variable {x0 : Vec Ideal S4x2064x1024 .f32} {x1 : S3x256.Idx → EReal} {x2 : S4x64x64.Idx → EReal} {x3 : S256.Idx → EReal} {X : Args}
variable (h0 : ∀ s q j, x0 (ix3 s q j) = (X.u s q j : EReal)) (h1 : ∀ k j, x1 (ix2 k j) = (X.w k j : EReal))
variable (h2 : ∀ g i j, x2 (ix3 g i j) = (X.p g i j : EReal)) (h3 : ∀ j, x3 (ix1 j) = (X.s j : EReal))

include h0 h1 in
theorem v27 (s : Fin 4) (q : Fin 2064) (j : Fin 256) : val_main_v27 x0 x1 (ix3 s q j)
    = ((part (lift X.u s) 0 (112 + q.val) j * conv (X.w 0) (X.w 1) (X.w 2) (gated (lift X.u s)) (112 + q.val) j : ℝ) : EReal) := by
  have a : val_main_v0 x0 = Cert.MixerRefIdeal.Read.val_main_v0 x0 := rfl
  have b : val_main_v26 x0 x1 = Cert.MixerRefIdeal.Read.val_main_v27 x0 x1 := rfl
  unfold val_main_v27
  pointwise
  rw [a, b, Cert.MixerRefIdeal.RefValue.v0 h0, Cert.MixerRefIdeal.RefValue.v27 h0 h1, ← EReal.coe_mul]

include h0 h2 h3 in
theorem v152 (s : Fin 4) (q : Fin 2064) (j : Fin 256) : val_main_v152 x0 x2 x3 (ix3 s q j)
    = (((∑ k : Fin 256, pooled (part (lift X.u s) 768) (112 + q.val) k * diag X.p k j) * X.s j : ℝ) : EReal) := by
  have a : val_main_v149 x0 x2 = Cert.MixerRefIdeal.Read.val_main_v151 x0 x2 := rfl
  unfold val_main_v152 val_main_v151 val_main_v150
  pointwise
  rw [a, Cert.MixerRefIdeal.RefValue.v151 h0 h2, h3, ← EReal.coe_mul]

theorem elt_conv (s : Fin 4) (r : ℕ) (j : Fin 512) (n : Fin 256) (h : j.val = n.val) :
    elt X s r j = part (lift X.u s) 0 r n * conv (X.w 0) (X.w 1) (X.w 2) (gated (lift X.u s)) r n := by
  unfold elt
  rw [show (⟨j.val / 256, by omega⟩ : Fin 2) = 0 from Fin.ext (by show j.val / 256 = 0; omega),
    show (⟨j.val % 256, Nat.mod_lt _ (by norm_num)⟩ : Fin 256) = n from Fin.ext (by show j.val % 256 = n.val; omega)]
  exact if_pos rfl

theorem elt_pool (s : Fin 4) (r : ℕ) (j : Fin 512) (n : Fin 256) (h : j.val = 256 + n.val) :
    elt X s r j = (∑ k : Fin 256, pooled (part (lift X.u s) 768) r k * diag X.p k n) * X.s n := by
  unfold elt
  rw [show (⟨j.val / 256, by omega⟩ : Fin 2) = 1 from Fin.ext (by show j.val / 256 = 1; omega),
    show (⟨j.val % 256, Nat.mod_lt _ (by norm_num)⟩ : Fin 256) = n from Fin.ext (by show j.val % 256 = n.val; omega)]
  exact if_neg (by decide)

include h0 h1 h2 h3 in
theorem v153 (s : Fin 4) (q : Fin 2064) (j : Fin 512) : val_main_v153 x0 x1 x2 x3 (ix3 s q j) = (elt X s (112 + q.val) j : EReal) := by
  unfold val_main_v153
  pointwise
  split_ifs with h
  · exact (v27 h0 h1 s q _).trans (congrArg _ (elt_conv s _ j _ rfl).symm)
  · exact (v152 h0 h2 h3 s q _).trans (congrArg _ (elt_pool s _ j _ (by show j.val = 256 + (j.val - 256); omega)).symm)
  · exact absurd rfl ‹_›

theorem elt_low (X : Args) (s : Fin 4) (r : ℕ) (j : Fin 512) (h : r < 112) : elt X s r j = 0 := by
  unfold elt Cert.MixerFwdIdeal.Array.row
  split_ifs
  · rw [show part (lift X.u s) 0 r _ = 0 from dif_neg (by omega), zero_mul]
  · rw [Finset.sum_eq_zero fun k _ => by rw [show pooled (part (lift X.u s) 768) r k = 0 from if_neg (by omega), zero_mul], zero_mul]

include h0 h1 h2 h3 in
/-- The reference's result. -/
theorem ref_result : val_main_v156 x0 x1 x2 x3 = arr X := by
  funext i
  obtain ⟨r, j, rfl⟩ := ex2 i
  have e : arr X (ix2 r j) = ((elt X ⟨r.val / 2176, by omega⟩ (r.val % 2176) j : ℝ) : EReal) :=
    congrArg (fun s => ((elt X s (r.val % 2176) j : ℝ) : EReal)) (Fin.ext (by show r.val / 2176 % 4 = r.val / 2176; omega))
  rw [e]
  unfold val_main_v156 val_main_v155 val_main_v154
  pointwise
  split_ifs with h
  · rw [v153 h0 h1 h2 h3]
    exact congrArg (fun n => ((elt X ⟨r.val / 2176, by omega⟩ n j : ℝ) : EReal)) (by show 112 + (r.val % 2176 - 112) = r.val % 2176; omega)
  · rw [elt_low _ _ _ _ (by omega)]
    unfold val_main_call1_v0 val_main_c_28
    pointwise
    show (((0#32 : BitVec 32).toInt : ℝ) : EReal) = _
    rw [show (0#32 : BitVec 32).toInt = 0 from rfl, Int.cast_zero]

instance : Cert.MixerFwdRefIdeal.Facts := Cert.MixerFwdRefIdeal.Gen.facts
instance : Cert.MixerFwdIdeal.Facts := Cert.MixerFwdIdeal.Gen.facts

/-- The reference ends with every counter at zero: it has none. -/
theorem frame_ref : Cert.quiescent_MixerFwdRefIdeal := fun m g _ =>
  (θ_run Cert.MixerFwdRefIdeal.defs _ _).mono (fun r h => ⟨fun c => (h c).2, sem_eq_zero_of_no_sems rfl r.2⟩) (Cert.MixerFwdRefIdeal.Value.run m g)

/-- The precondition says that the arguments are real numbers. -/
theorem holds_of_pre (m : (ℓ : Loc Cert.MixerFwdIdeal.nD Cert.MixerFwdIdeal.τ Cert.MixerFwdIdeal.sig) → Buf (Elt Ideal) ℓ)
    (h : Cert.Pre_MixerFwdIdeal_finite_mixer_fwd m) (c : Dev Cert.MixerFwdIdeal.nD) : ∃ X, Holds m X c := by
  have e := congrFun (h c) (fun a => a.elim0)
  unfold Cert.Pre_finite_mixer_fwd.fn at e
  dsimp only at e
  obtain ⟨e, e3⟩ := IntOp.andi_eq_one.1 e
  obtain ⟨e, e2⟩ := IntOp.andi_eq_one.1 e
  obtain ⟨e0, e1⟩ := IntOp.andi_eq_one.1 e
  exact ⟨⟨_, fun _ _ _ => 0, _, _, _⟩, fun s q j => (isReal_of_all _ _ (fun _ => ofBits_inf) _ _ _ _ e0).eq _,
    fun k j => (isReal_of_all _ _ (fun _ => ofBits_inf) _ _ _ _ e1).eq _,
    fun g i j => (isReal_of_all _ _ (fun _ => ofBits_inf) _ _ _ _ e2).eq _,
    fun j => (isReal_of_all _ _ (fun _ => ofBits_inf) _ _ _ _ e3).eq _⟩

/-- On real arguments the kernel and the mixer's lines give the same rows. -/
theorem algebraic : Cert.algebraic_MixerFwdIdeal_MixerFwdRefIdeal_pre_finite_mixer_fwd := by
  intro m g m' g' hpre hargs
  choose X hm using holds_of_pre m hpre
  refine ⟨fun c => arr (X c), (θ_run Cert.MixerFwdIdeal.defs _ _).mono (fun r h c => ⟨(h c).1.trans (result (hm c)), (h c).2⟩) (Cert.MixerFwdIdeal.Value.run_blocks m g),
    (θ_run Cert.MixerFwdRefIdeal.defs _ _).mono (fun r h c => ?_) (Cert.MixerFwdRefIdeal.Value.run m' g')⟩
  obtain ⟨a0, a1, a2, a3⟩ := hargs c
  exact ⟨(h c).1.trans ((val_main_v156_eq ..).trans (ref_result (fun s q j => (congrFun a0 (ix3 s q j)).trans ((hm c).1 s q j))
    (fun k j => (congrFun a1 (ix2 k j)).trans ((hm c).2.1 k j)) (fun g i j => (congrFun a2 (ix3 g i j)).trans ((hm c).2.2.1 g i j))
    (fun j => (congrFun a3 (ix1 j)).trans ((hm c).2.2.2 j)))), (h c).2⟩

end Cert.MixerFwdClaim
-- ==== Proof.InprojFwdArray.lean ====
/-
  What the projections' forward leaves in its results, whatever its arguments: every normalised padded row,
  and its products with the columns of the weights.
-/
module

public import proofs.«01_k».proof.Proof.Padded
public import proofs.«01_k».proof.Proof.Gen.InprojFwdIdeal.Value

@[expose] public section

set_option maxRecDepth 16384

noncomputable section

namespace Cert.InprojFwdIdeal.Array

open Idealize.ShloMosaic Cert.InprojFwdIdeal Cert.InprojFwdIdeal.Gen Cert.InprojFwdIdeal.Value Idealize.ShloMosaic.TcCoe Cert.Padded

/-! ## A grid point -/

/-- A row normalised, and its product with a column. -/
def normed (x g : Fin 1024 → EReal) (j : Fin 1024) : EReal :=
  x j * Ideal.rsqrt (Ideal.div (∑ k, x k * x k) (Ideal.ofBits .f32 0x44800000#32) + Ideal.ofBits .f32 0x358637BD#32) * g j
def proj (x g w : Fin 1024 → EReal) : EReal := ∑ k, normed x g k * w k

section Point

variable (x : Vec Ideal S1088x1024 .f32) (g : Vec Ideal S1x1024 .f32) (X : Fin 1088 → Fin 1024 → EReal) (G : Fin 1024 → EReal)
variable (hx : ∀ r j, x (ix2 r j) = X r j) (hg : ∀ j, g (ix2 0 j) = G j)
include hx hg

theorem pay2 (r : Fin 1088) (j : Fin 1024) : k0_pay2 x g (ix2 r j) = normed (X r) G j := by
  unfold k0_pay2
  pointwise
  simp only [hx, hg, normed]

theorem pay3 (w : Vec Ideal S1024x1024 .bf16) (W : Fin 1024 → Fin 1024 → EReal) (hw : ∀ k j, w (ix2 k j) = W k j) (r : Fin 1088) (j : Fin 1024) :
    k0_pay3 x g w (ix2 r j) = proj (X r) G fun k => W k j := by
  unfold k0_pay3
  pointwise
  simp only [pay2 x g X G hx hg, hw, zero_add, proj]

theorem pay1 (w : Vec Ideal S1024x512 .bf16) (W : Fin 1024 → Fin 512 → EReal) (hw : ∀ k j, w (ix2 k j) = W k j) (r : Fin 1088) (j : Fin 512) :
    k0_pay1 (k0_pay2 x g) w (ix2 r j) = proj (X r) G fun k => W k j := by
  unfold k0_pay1
  pointwise
  simp only [pay2 x g X G hx hg, hw, zero_add, proj]

end Point

/-! ## What the windows read -/

/-- The padded rows; the columns `o` on of the weights. -/
def rows (h : S4x2064x1024.Idx → EReal) : ℕ → Fin 1024 → EReal := padR fun s q j => h (ix3 s q j)
def cols {n : ℕ} (w : S1024x2560.Idx → EReal) (o : ℕ) (ho : o + n ≤ 2560) (k : Fin 1024) (j : Fin n) : EReal := w (ix2 k ⟨o + j.val, by omega⟩)

variable (m : (ℓ : Loc nD τ sig) → Buf (Elt Ideal) ℓ) (c : Dev nD)

abbrev hh : S4x2064x1024.Idx → EReal := m (c.tc.loc main_arg0)
abbrev gg : Fin 1024 → EReal := fun j => (m (c.tc.loc main_arg1) : S1024.Idx → EReal) (ix1 j)
abbrev ww : S1024x2560.Idx → EReal := m (c.tc.loc main_arg2)

theorem index : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) := by decide +kernel

theorem lt8 (t : Fin cfg0.N) : t.val < 8 := lt_of_lt_of_eq t.isLt (show cfg0.N = 8 from N_0)

theorem int_zero : (((0#32 : BitVec 32).toInt : ℝ) : EReal) = 0 := by
  rw [show (0#32 : BitVec 32).toInt = 0 from rfl, Int.cast_zero, EReal.coe_zero]

theorem V_v3 (R : Fin 8704) (j : Fin 1024) : (V m c main_v3 : S8704x1024.Idx → EReal) (ix2 R j) = rows (hh m c) R.val j := by
  unfold V
  after_results
  pointwise
  by_cases h : 112 ≤ R.val % 2176
  · rw [dif_neg (by omega), rows, padR_token _ R.val R.isLt h]
  · rw [dif_pos (by omega), rows, padR_zero _ h]

theorem block0 (t : Fin cfg0.N) (r : Fin 1088) (j : Fin 1024) : (iblk m c 0 t : S1088x1024.Idx → EReal) (ix2 r j) = rows (hh m c) (t.val * 1088 + r.val) j := by
  have ht := lt8 t
  rw [← V_v3 m c ⟨t.val * 1088 + r.val, by omega⟩]
  exact congrArg (V m c main_v3) (place_row (a := 1088) (b := 1024) _ ⟨t.val * 1088 + r.val, by omega⟩ j (r := r.val) (index t).1.1 (index t).1.2 rfl rfl rfl)

theorem block1 (t : Fin cfg0.N) (j : Fin 1024) : (iblk m c 1 t : S1x1024.Idx → EReal) (ix2 0 j) = gg m c j := by
  have e : (V m c main_v4 : S1x1024.Idx → EReal) (ix2 0 j) = gg m c j := by
    unfold V
    after_results
    pointwise
  rw [← e]
  exact congrArg (V m c main_v4) (place_row (a := 1) (b := 1024) _ 0 j (r := 0) (index t).2.1.1 (index t).2.1.2 rfl rfl rfl)

/-- The columns of the weights, as they are read. -/
theorem V_cols (k : Fin 1024) : (∀ j : Fin 1024, (V m c main_v5 : S1024x1024.Idx → EReal) (ix2 k j) = cols (ww m c) 0 (by norm_num) k j) ∧
    ∀ j : Fin 512, (V m c main_v6 : S1024x512.Idx → EReal) (ix2 k j) = cols (ww m c) 1024 (by norm_num) k j
      ∧ (V m c main_v7 : S1024x512.Idx → EReal) (ix2 k j) = cols (ww m c) 1536 (by norm_num) k j
      ∧ (V m c main_v8 : S1024x512.Idx → EReal) (ix2 k j) = cols (ww m c) 2048 (by norm_num) k j := by
  refine ⟨fun j => ?_, fun j => ⟨?_, ?_, ?_⟩⟩ <;> unfold V <;> after_results <;> pointwise
  all_goals exact congrArg (fun l => ww m c (ix2 k l)) (Fin.ext (by first | rfl | exact (Nat.zero_add _).symm))

theorem block2 (t : Fin cfg0.N) (k : Fin 1024) (j : Fin 1024) : (iblk m c 2 t : S1024x1024.Idx → EReal) (ix2 k j) = cols (ww m c) 0 (by norm_num) k j := by
  rw [← (V_cols m c k).1 j]
  exact congrArg (V m c main_v5) (place_row (a := 1024) (b := 1024) _ k j (r := k.val) (index t).2.2.1.1 (index t).2.2.1.2 rfl rfl (by omega))

theorem block3 (t : Fin cfg0.N) (k : Fin 1024) (j : Fin 512) : (iblk m c 3 t : S1024x512.Idx → EReal) (ix2 k j) = cols (ww m c) 1024 (by norm_num) k j := by
  rw [← ((V_cols m c k).2 j).1]
  exact congrArg (V m c main_v6) (place_row (a := 1024) (b := 512) _ k j (r := k.val) (index t).2.2.2.1.1 (index t).2.2.2.1.2 rfl rfl (by omega))

theorem block4 (t : Fin cfg0.N) (k : Fin 1024) (j : Fin 512) : (iblk m c 4 t : S1024x512.Idx → EReal) (ix2 k j) = cols (ww m c) 1536 (by norm_num) k j := by
  rw [← ((V_cols m c k).2 j).2.1]
  exact congrArg (V m c main_v7) (place_row (a := 1024) (b := 512) _ k j (r := k.val) (index t).2.2.2.2.1.1 (index t).2.2.2.2.1.2 rfl rfl (by omega))

theorem block5 (t : Fin cfg0.N) (k : Fin 1024) (j : Fin 512) : (iblk m c 5 t : S1024x512.Idx → EReal) (ix2 k j) = cols (ww m c) 2048 (by norm_num) k j := by
  rw [← ((V_cols m c k).2 j).2.2]
  exact congrArg (V m c main_v8) (place_row (a := 1024) (b := 512) _ k j (r := k.val) (index t).2.2.2.2.2.1 (index t).2.2.2.2.2.2 rfl rfl (by omega))

/-! ## The results -/

def projArr {n : ℕ} (h : S4x2064x1024.Idx → EReal) (g : Fin 1024 → EReal) (w : S1024x2560.Idx → EReal) (o : ℕ) (ho : o + n ≤ 2560) :
    (⟨2, ![8704, n]⟩ : Shape).Idx → EReal := fun i => proj (rows h (i 0).val) g fun k => cols w o ho k (i 1)
def normArr (h : S4x2064x1024.Idx → EReal) (g : Fin 1024 → EReal) : S8704x1024.Idx → EReal := fun i => normed (rows h (i 0).val) g (i 1)

theorem outs : ∀ t : Fin cfg0.N, (win0_6.index t 0 = t.val ∧ win0_6.index t 1 = 0 ∧ win0_6.xsize (grid0.coords t) 0 = 1088 ∧ win0_6.xsize (grid0.coords t) 1 = 1024)
    ∧ (win0_7.index t 0 = t.val ∧ win0_7.index t 1 = 0 ∧ win0_7.xsize (grid0.coords t) 0 = 1088 ∧ win0_7.xsize (grid0.coords t) 1 = 512)
    ∧ (win0_8.index t 0 = t.val ∧ win0_8.index t 1 = 0 ∧ win0_8.xsize (grid0.coords t) 0 = 1088 ∧ win0_8.xsize (grid0.coords t) 1 = 512)
    ∧ (win0_9.index t 0 = t.val ∧ win0_9.index t 1 = 0 ∧ win0_9.xsize (grid0.coords t) 0 = 1088 ∧ win0_9.xsize (grid0.coords t) 1 = 512)
    ∧ (win0_10.index t 0 = t.val ∧ win0_10.index t 1 = 0 ∧ win0_10.xsize (grid0.coords t) 0 = 1088 ∧ win0_10.xsize (grid0.coords t) 1 = 1024) := by
  decide +kernel

/-- The five results. -/
theorem arrs : (dats m 0 c).arrAt 6 cfg0.N = (projArr (hh m c) (gg m c) (ww m c) 0 (by norm_num) : S8704x1024.Idx → EReal)
    ∧ (dats m 0 c).arrAt 7 cfg0.N = (projArr (hh m c) (gg m c) (ww m c) 1024 (by norm_num) : S8704x512.Idx → EReal)
    ∧ (dats m 0 c).arrAt 8 cfg0.N = (projArr (hh m c) (gg m c) (ww m c) 1536 (by norm_num) : S8704x512.Idx → EReal)
    ∧ (dats m 0 c).arrAt 9 cfg0.N = (projArr (hh m c) (gg m c) (ww m c) 2048 (by norm_num) : S8704x512.Idx → EReal)
    ∧ (dats m 0 c).arrAt 10 cfg0.N = (normArr (hh m c) (gg m c) : S8704x1024.Idx → EReal) := by
  refine ⟨(dats m 0 c).arrAt_eq_of_cover 6 (projArr (hh m c) (gg m c) (ww m c) 0 (by norm_num)) (fun t _ => funext fun i => ?_) fun i => ?_,
    (dats m 0 c).arrAt_eq_of_cover 7 (projArr (hh m c) (gg m c) (ww m c) 1024 (by norm_num)) (fun t _ => funext fun i => ?_) fun i => ?_,
    (dats m 0 c).arrAt_eq_of_cover 8 (projArr (hh m c) (gg m c) (ww m c) 1536 (by norm_num)) (fun t _ => funext fun i => ?_) fun i => ?_,
    (dats m 0 c).arrAt_eq_of_cover 9 (projArr (hh m c) (gg m c) (ww m c) 2048 (by norm_num)) (fun t _ => funext fun i => ?_) fun i => ?_,
    (dats m 0 c).arrAt_eq_of_cover 10 (normArr (hh m c) (gg m c)) (fun t _ => funext fun i => ?_) fun i => ?_⟩
  all_goals try
    have h0 : (i 0 : Nat) < 8704 := (i 0).isLt
    have e : (i 0 : Nat) / 1088 < cfg0.N := by rw [show cfg0.N = 8 from N_0]; omega
  all_goals try
    have ht := lt8 t
    rw [View.read_apply]
  · obtain ⟨r, j, rfl⟩ := ex2 i
    rw [show ((cfg0.win 6).blk t).view.emb (ix2 r j) = (ix2 ⟨t.val * 1088 + r.val, by omega⟩ j : S8704x1024.Idx) from
      place_row (a := 1088) (b := 1024) _ _ j (r := r.val) (outs t).1.1 (outs t).1.2.1 rfl rfl rfl]
    show (dats m 0 c).after 6 t (ix2 r j) = _
    rw [after0_6]
    unfold out0_6
    rw [View.canon_unit_zero (S := S1088x1024) hz]
    repeat rw [View.ld_unit_zero hz]
    exact pay3 _ _ _ _ (block0 m c t) (block1 m c t) _ _ (block2 m c t) r j
  · refine ⟨⟨_, e⟩, flush0_6 _, ?_⟩
    show i ∈ ((View.whole main_v9_0).slice (win0_6.rect ⟨_, e⟩)).set
    rw [View.set_slice_whole, Rect.mem_set_unit]
    exact covered (outs ⟨_, e⟩).1 (fun a => (i a).val) rfl rfl rfl rfl rfl (by norm_num) (i 1).isLt
  · obtain ⟨r, j, rfl⟩ := ex2 i
    rw [show ((cfg0.win 7).blk t).view.emb (ix2 r j) = (ix2 ⟨t.val * 1088 + r.val, by omega⟩ j : S8704x512.Idx) from
      place_row (a := 1088) (b := 512) _ _ j (r := r.val) (outs t).2.1.1 (outs t).2.1.2.1 rfl rfl rfl]
    show (dats m 0 c).after 7 t (ix2 r j) = _
    rw [after0_7]
    unfold out0_7
    rw [View.canon_unit_zero (S := S1088x512) hz]
    repeat rw [View.ld_unit_zero hz]
    exact pay1 _ _ _ _ (block0 m c t) (block1 m c t) _ _ (block3 m c t) r j
  · refine ⟨⟨_, e⟩, flush0_7 _, ?_⟩
    show i ∈ ((View.whole main_v9_1).slice (win0_7.rect ⟨_, e⟩)).set
    rw [View.set_slice_whole, Rect.mem_set_unit]
    exact covered (outs ⟨_, e⟩).2.1 (fun a => (i a).val) rfl rfl rfl rfl rfl (by norm_num) (i 1).isLt
  · obtain ⟨r, j, rfl⟩ := ex2 i
    rw [show ((cfg0.win 8).blk t).view.emb (ix2 r j) = (ix2 ⟨t.val * 1088 + r.val, by omega⟩ j : S8704x512.Idx) from
      place_row (a := 1088) (b := 512) _ _ j (r := r.val) (outs t).2.2.1.1 (outs t).2.2.1.2.1 rfl rfl rfl]
    show (dats m 0 c).after 8 t (ix2 r j) = _
    rw [after0_8]
    unfold out0_8
    rw [View.canon_unit_zero (S := S1088x512) hz]
    repeat rw [View.ld_unit_zero hz]
    exact pay1 _ _ _ _ (block0 m c t) (block1 m c t) _ _ (block4 m c t) r j
  · refine ⟨⟨_, e⟩, flush0_8 _, ?_⟩
    show i ∈ ((View.whole main_v9_2).slice (win0_8.rect ⟨_, e⟩)).set
    rw [View.set_slice_whole, Rect.mem_set_unit]
    exact covered (outs ⟨_, e⟩).2.2.1 (fun a => (i a).val) rfl rfl rfl rfl rfl (by norm_num) (i 1).isLt
  · obtain ⟨r, j, rfl⟩ := ex2 i
    rw [show ((cfg0.win 9).blk t).view.emb (ix2 r j) = (ix2 ⟨t.val * 1088 + r.val, by omega⟩ j : S8704x512.Idx) from
      place_row (a := 1088) (b := 512) _ _ j (r := r.val) (outs t).2.2.2.1.1 (outs t).2.2.2.1.2.1 rfl rfl rfl]
    show (dats m 0 c).after 9 t (ix2 r j) = _
    rw [after0_9]
    unfold out0_9
    rw [View.canon_unit_zero (S := S1088x512) hz]
    repeat rw [View.ld_unit_zero hz]
    exact pay1 _ _ _ _ (block0 m c t) (block1 m c t) _ _ (block5 m c t) r j
  · refine ⟨⟨_, e⟩, flush0_9 _, ?_⟩
    show i ∈ ((View.whole main_v9_3).slice (win0_9.rect ⟨_, e⟩)).set
    rw [View.set_slice_whole, Rect.mem_set_unit]
    exact covered (outs ⟨_, e⟩).2.2.2.1 (fun a => (i a).val) rfl rfl rfl rfl rfl (by norm_num) (i 1).isLt
  · obtain ⟨r, j, rfl⟩ := ex2 i
    rw [show ((cfg0.win 10).blk t).view.emb (ix2 r j) = (ix2 ⟨t.val * 1088 + r.val, by omega⟩ j : S8704x1024.Idx) from
      place_row (a := 1088) (b := 1024) _ _ j (r := r.val) (outs t).2.2.2.2.1 (outs t).2.2.2.2.2.1 rfl rfl rfl]
    show (dats m 0 c).after 10 t (ix2 r j) = _
    rw [after0_10]
    unfold out0_10
    rw [View.canon_unit_zero (S := S1088x1024) hz]
    repeat rw [View.ld_unit_zero hz]
    exact pay2 _ _ _ _ (block0 m c t) (block1 m c t) r j
  · refine ⟨⟨_, e⟩, flush0_10 _, ?_⟩
    show i ∈ ((View.whole main_v9_4).slice (win0_10.rect ⟨_, e⟩)).set
    rw [View.set_slice_whole, Rect.mem_set_unit]
    exact covered (outs ⟨_, e⟩).2.2.2.2 (fun a => (i a).val) rfl rfl rfl rfl rfl (by norm_num) (i 1).isLt

end Cert.InprojFwdIdeal.Array
-- ==== Proof.InprojFwdClaim.lean ====
/-
  The claims about the projections' forward: what its reference's lines compute, and the two runs set side by side.
-/
module

public import proofs.«01_k».proof.Defs
public import proofs.«01_k».proof.Proof.InprojFwdArray
public import proofs.«01_k».proof.Proof.Gen.InprojFwdRefIdeal.Read

@[expose] public section

set_option maxRecDepth 16384

noncomputable section

namespace Cert.InprojFwdClaim

open Idealize.ShloMosaic Idealize.SL.Sem Idealize.ShloMosaic.TcCoe Cert.Padded
open Cert.InprojFwdRefIdeal Cert.InprojFwdRefIdeal.Gen Cert.InprojFwdRefIdeal.Read
open Cert.InprojFwdIdeal.Array (normed proj rows cols projArr normArr int_zero hh gg ww)

variable (x0 : Vec Ideal S4x2064x1024 .f32) (x1 : Vec Ideal S1024 .f32) (x2 : Vec Ideal S1024x2560 .f32)

theorem v12 (s : Fin 4) (q : Fin 2064) (j : Fin 1024) :
    val_main_v12 x0 x1 (ix3 s q j) = normed (fun j => x0 (ix3 s q j)) (fun j => x1 (ix1 j)) j := by
  unfold val_main_v12 val_main_v11 val_main_v10 val_main_v9 val_main_v8 val_main_v7 val_main_v6 val_main_v5 val_main_v4 val_main_v3 val_main_v2 val_main_v1 val_main_v0
    val_main_cst val_main_cst_0 val_main_cst_1 normed
  pointwise

theorem v13 (s : Fin 4) (q : Fin 2064) (n : Fin 2560) :
    val_main_v13 x0 x1 x2 (ix3 s q n) = proj (fun j => x0 (ix3 s q j)) (fun j => x1 (ix1 j)) fun k => x2 (ix2 k n) := by
  unfold val_main_v13
  pointwise
  simp only [v12, zero_add, proj]

theorem normed_zero {R : ℕ} (h : ¬112 ≤ R % 2176) (g : Fin 1024 → EReal) (j : Fin 1024) : normed (rows x0 R) g j = 0 := by
  rw [normed, rows, padR_zero _ h, zero_mul, zero_mul]

theorem proj_zero {R : ℕ} (h : ¬112 ≤ R % 2176) (g w : Fin 1024 → EReal) : proj (rows x0 R) g w = 0 :=
  Finset.sum_eq_zero fun k _ => by rw [normed_zero x0 h, zero_mul]

/-- The reference's four products. -/
theorem products : val_main_v19 x0 x1 x2 = projArr x0 (fun j => x1 (ix1 j)) x2 0 (by norm_num)
    ∧ val_main_v22 x0 x1 x2 = projArr x0 (fun j => x1 (ix1 j)) x2 1024 (by norm_num)
    ∧ val_main_v25 x0 x1 x2 = projArr x0 (fun j => x1 (ix1 j)) x2 1536 (by norm_num)
    ∧ val_main_v28 x0 x1 x2 = projArr x0 (fun j => x1 (ix1 j)) x2 2048 (by norm_num) := by
  refine ⟨?_, ?_, ?_, ?_⟩ <;> funext i <;> idx_vars i
  on_goal 1 => unfold val_main_v19 val_main_v18 val_main_v14 val_main_call0_v0 val_main_c projArr cols
  on_goal 2 => unfold val_main_v22 val_main_v21 val_main_v20 val_main_v15 val_main_call1_v0 val_main_c_2 projArr cols
  on_goal 3 => unfold val_main_v25 val_main_v24 val_main_v23 val_main_v16 val_main_call2_v0 val_main_c_3 projArr cols
  on_goal 4 => unfold val_main_v28 val_main_v27 val_main_v26 val_main_v17 val_main_call3_v0 val_main_c_4 projArr cols
  all_goals
    pointwise
    have hi : i0.val < 8704 := i0.isLt
    by_cases h : 112 ≤ i0.val % 2176
    · rw [dif_pos ⟨by omega, h, by omega⟩]
      refine (v13 x0 x1 x2 _ _ _).trans ?_
      exact congrArg (fun x : Fin 1024 → EReal => proj x _ _) (padR_token (fun s q j => x0 (ix3 s q j)) i0.val hi h).symm
    · rw [dif_neg (by omega)]
      exact int_zero.trans (proj_zero x0 h _ _).symm

theorem r31 : val_main_v31 x0 x1 = normArr x0 (fun j => x1 (ix1 j)) := by
  funext i
  idx_vars i
  unfold val_main_v31 val_main_v30 val_main_v29 val_main_call4_v0 val_main_c_5 normArr
  pointwise
  have hi : i0.val < 8704 := i0.isLt
  by_cases h : 112 ≤ i0.val % 2176
  · rw [dif_pos ⟨by omega, h, by omega⟩, v12]
    exact congrArg (fun x : Fin 1024 → EReal => normed x _ i1) (padR_token (fun s q j => x0 (ix3 s q j)) i0.val hi h).symm
  · rw [dif_neg (by omega)]
    exact int_zero.trans (normed_zero x0 h _ _).symm

instance : Cert.InprojFwdRefIdeal.Facts := Cert.InprojFwdRefIdeal.Gen.facts
instance : Cert.InprojFwdIdeal.Facts := Cert.InprojFwdIdeal.Gen.facts

/-- The reference ends with every counter at zero: it has none. -/
theorem frame_ref : Cert.quiescent_InprojFwdRefIdeal := fun m g _ =>
  (θ_run Cert.InprojFwdRefIdeal.defs _ _).mono (fun r h => ⟨fun c => (h c).2.2.2.2.2, sem_eq_zero_of_no_sems rfl r.2⟩) (Cert.InprojFwdRefIdeal.Value.run m g)

/-- The kernel and the projections' lines give the same five arrays. -/
theorem algebraic : Cert.algebraic_InprojFwdIdeal_InprojFwdRefIdeal := by
  intro m g m' g' _ hargs
  refine ⟨fun c => projArr (hh m c) (gg m c) (ww m c) 0 (by norm_num), fun c => projArr (hh m c) (gg m c) (ww m c) 1024 (by norm_num),
    fun c => projArr (hh m c) (gg m c) (ww m c) 1536 (by norm_num), fun c => projArr (hh m c) (gg m c) (ww m c) 2048 (by norm_num), fun c => normArr (hh m c) (gg m c), (θ_run Cert.InprojFwdIdeal.defs _ _).mono (fun r h c => ?_) (Cert.InprojFwdIdeal.Value.run_blocks m g),
    (θ_run Cert.InprojFwdRefIdeal.defs _ _).mono (fun r h c => ?_) (Cert.InprojFwdRefIdeal.Value.run m' g')⟩
  · obtain ⟨a, b, d, e, f, k⟩ := h c
    obtain ⟨a', b', d', e', f'⟩ := Cert.InprojFwdIdeal.Array.arrs m c
    exact ⟨a.trans a', b.trans b', d.trans d', e.trans e', f.trans f', k⟩
  · obtain ⟨a0, a1, a2⟩ := hargs c
    obtain ⟨a, b, d, e, f, k⟩ := h c
    refine ⟨a.trans ((val_main_v19_eq ..).trans ((products _ _ _).1.trans ?_)), b.trans ((val_main_v22_eq ..).trans ((products _ _ _).2.1.trans ?_)),
      d.trans ((val_main_v25_eq ..).trans ((products _ _ _).2.2.1.trans ?_)), e.trans ((val_main_v28_eq ..).trans ((products _ _ _).2.2.2.trans ?_)),
      f.trans ((val_main_v31_eq ..).trans ((r31 _ _).trans ?_)), k⟩ <;> first | rw [a0, a1, a2] | rw [a0, a1]

end Cert.InprojFwdClaim
-- ==== Proof.OutprojClaim.lean ====
/-
  The claims about the products of the cotangents with the output projection's weights: what the kernel and its
  reference compute, whatever their arguments, and the two runs set side by side.
-/
module

public import proofs.«01_k».proof.Defs
public import proofs.«01_k».proof.Proof.Padded
public import proofs.«01_k».proof.Proof.Gen.OutprojIdeal.Value
public import proofs.«01_k».proof.Proof.Gen.OutprojRefIdeal.Read

@[expose] public section

set_option maxRecDepth 16384

noncomputable section

namespace Cert.OutprojIdeal.Array

open Idealize.ShloMosaic Cert.OutprojIdeal Cert.OutprojIdeal.Gen Cert.OutprojIdeal.Value Idealize.ShloMosaic.TcCoe Cert.Padded

/-- A padded row, and its product with a row of the weights: the array with the rows `o` on. -/
def rows (h : S4x2064x1024.Idx → EReal) : ℕ → Fin 1024 → EReal := padR fun s q j => h (ix3 s q j)
def prod (h : S4x2064x1024.Idx → EReal) (w : S1024x1024.Idx → EReal) (o : ℕ) (ho : o + 512 ≤ 1024) : S8704x512.Idx → EReal :=
  fun i => ∑ k, rows h (i 0).val k * w (ix2 ⟨o + (i 1).val, by have : (i 1).val < 512 := (i 1).isLt; omega⟩ k)

theorem pays (x : Vec Ideal S1088x1024 .f32) (w : Vec Ideal S512x1024 .bf16) (r : Fin 1088) (j : Fin 512) :
    k0_pay2 x w (ix2 r j) = (∑ k : Fin 1024, x (ix2 r k) * w (ix2 j k) : EReal) ∧ k0_pay3 x w (ix2 r j) = (∑ k : Fin 1024, x (ix2 r k) * w (ix2 j k) : EReal) := by
  constructor
  on_goal 1 => unfold k0_pay2 k0_pay1
  on_goal 2 => unfold k0_pay3 k0_pay1
  all_goals pointwise

variable (m : (ℓ : Loc nD τ sig) → Buf (Elt Ideal) ℓ) (c : Dev nD)

abbrev hh : S4x2064x1024.Idx → EReal := m (c.tc.loc main_arg0)
abbrev ww : S1024x1024.Idx → EReal := m (c.tc.loc main_arg1)

theorem index : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0)
    ∧ (win0_3.index t 0 = t.val ∧ win0_3.index t 1 = 0 ∧ win0_3.xsize (grid0.coords t) 0 = 1088 ∧ win0_3.xsize (grid0.coords t) 1 = 512)
    ∧ (win0_4.index t 0 = t.val ∧ win0_4.index t 1 = 0 ∧ win0_4.xsize (grid0.coords t) 0 = 1088 ∧ win0_4.xsize (grid0.coords t) 1 = 512) := by decide +kernel

theorem lt8 (t : Fin cfg0.N) : t.val < 8 := lt_of_lt_of_eq t.isLt (show cfg0.N = 8 from N_0)

theorem V_v3 (R : Fin 8704) (j : Fin 1024) : (V m c main_v3 : S8704x1024.Idx → EReal) (ix2 R j) = rows (hh m c) R.val j := by
  unfold V
  after_results
  pointwise
  by_cases h : 112 ≤ R.val % 2176
  · rw [dif_neg (by omega), rows, padR_token _ R.val R.isLt h]
  · rw [dif_pos (by omega), rows, padR_zero _ h]

theorem block0 (t : Fin cfg0.N) (r : Fin 1088) (j : Fin 1024) : (iblk m c 0 t : S1088x1024.Idx → EReal) (ix2 r j) = rows (hh m c) (t.val * 1088 + r.val) j := by
  have ht := lt8 t
  rw [← V_v3 m c ⟨t.val * 1088 + r.val, by omega⟩]
  exact congrArg (V m c main_v3) (place_row (a := 1088) (b := 1024) _ ⟨t.val * 1088 + r.val, by omega⟩ j (r := r.val) (index t).1.1 (index t).1.2 rfl rfl rfl)

theorem weights (t : Fin cfg0.N) (k : Fin 512) (j : Fin 1024) :
    (iblk m c 1 t : S512x1024.Idx → EReal) (ix2 k j) = ww m c (ix2 ⟨0 + k.val, by omega⟩ j)
    ∧ (iblk m c 2 t : S512x1024.Idx → EReal) (ix2 k j) = ww m c (ix2 ⟨512 + k.val, by omega⟩ j) := by
  have e : (V m c main_v4 : S512x1024.Idx → EReal) (ix2 k j) = ww m c (ix2 ⟨0 + k.val, by omega⟩ j)
      ∧ (V m c main_v5 : S512x1024.Idx → EReal) (ix2 k j) = ww m c (ix2 ⟨512 + k.val, by omega⟩ j) := by
    constructor <;> unfold V <;> after_results <;> pointwise
    all_goals exact congrArg (fun l => ww m c (ix2 l j)) (Fin.ext (by first | rfl | exact (Nat.zero_add _).symm))
  rw [← e.1, ← e.2]
  constructor <;> unfold iblk <;> rw [View.read_apply]
  · show V m c main_v4 _ = V m c main_v4 _
    exact congrArg _ (place_row (a := 512) (b := 1024) _ k j (r := k.val) (index t).2.1.1 (index t).2.1.2 rfl rfl (by omega))
  · show V m c main_v5 _ = V m c main_v5 _
    exact congrArg _ (place_row (a := 512) (b := 1024) _ k j (r := k.val) (index t).2.2.1.1 (index t).2.2.1.2 rfl rfl (by omega))

/-- The two results. -/
theorem arrs : (dats m 0 c).arrAt 3 cfg0.N = prod (hh m c) (ww m c) 0 (by norm_num) ∧ (dats m 0 c).arrAt 4 cfg0.N = prod (hh m c) (ww m c) 512 (by norm_num) := by
  refine ⟨(dats m 0 c).arrAt_eq_of_cover 3 (prod (hh m c) (ww m c) 0 (by norm_num)) (fun t _ => funext fun i => ?_) fun i => ?_,
    (dats m 0 c).arrAt_eq_of_cover 4 (prod (hh m c) (ww m c) 512 (by norm_num)) (fun t _ => funext fun i => ?_) fun i => ?_⟩
  all_goals try
    have ht := lt8 t
    obtain ⟨r, j, rfl⟩ := ex2 i
    rw [View.read_apply]
  all_goals try
    have h0 : (i 0 : Nat) < 8704 := (i 0).isLt
    have e : (i 0 : Nat) / 1088 < cfg0.N := by rw [show cfg0.N = 8 from N_0]; omega
  · rw [show ((cfg0.win 3).blk t).view.emb (ix2 r j) = (ix2 ⟨t.val * 1088 + r.val, by omega⟩ j : S8704x512.Idx) from
      place_row (a := 1088) (b := 512) _ _ j (r := r.val) (index t).2.2.2.1.1 (index t).2.2.2.1.2.1 rfl rfl rfl]
    show (dats m 0 c).after 3 t (ix2 r j) = _
    rw [after0_3]
    unfold out0_3
    rw [View.canon_unit_zero (S := S1088x512) hz]
    repeat rw [View.ld_unit_zero hz]
    exact (pays _ _ r j).1.trans (Finset.sum_congr rfl fun k _ => congrArg₂ (fun a b : EReal => a * b) (block0 m c t r k) (weights m c t j k).1)
  · refine ⟨⟨_, e⟩, flush0_3 _, ?_⟩
    show i ∈ ((View.whole main_v6_0).slice (win0_3.rect ⟨_, e⟩)).set
    rw [View.set_slice_whole, Rect.mem_set_unit]
    exact covered (index ⟨_, e⟩).2.2.2.1 (fun a => (i a).val) rfl rfl rfl rfl rfl (by norm_num) (i 1).isLt
  · rw [show ((cfg0.win 4).blk t).view.emb (ix2 r j) = (ix2 ⟨t.val * 1088 + r.val, by omega⟩ j : S8704x512.Idx) from
      place_row (a := 1088) (b := 512) _ _ j (r := r.val) (index t).2.2.2.2.1 (index t).2.2.2.2.2.1 rfl rfl rfl]
    show (dats m 0 c).after 4 t (ix2 r j) = _
    rw [after0_4]
    unfold out0_4
    rw [View.canon_unit_zero (S := S1088x512) hz]
    repeat rw [View.ld_unit_zero hz]
    exact (pays _ _ r j).2.trans (Finset.sum_congr rfl fun k _ => congrArg₂ (fun a b : EReal => a * b) (block0 m c t r k) (weights m c t j k).2)
  · refine ⟨⟨_, e⟩, flush0_4 _, ?_⟩
    show i ∈ ((View.whole main_v6_1).slice (win0_4.rect ⟨_, e⟩)).set
    rw [View.set_slice_whole, Rect.mem_set_unit]
    exact covered (index ⟨_, e⟩).2.2.2.2 (fun a => (i a).val) rfl rfl rfl rfl rfl (by norm_num) (i 1).isLt

theorem int_zero : (((0#32 : BitVec 32).toInt : ℝ) : EReal) = 0 := by
  rw [show (0#32 : BitVec 32).toInt = 0 from rfl, Int.cast_zero, EReal.coe_zero]

end Cert.OutprojIdeal.Array

namespace Cert.OutprojClaim

open Idealize.ShloMosaic Idealize.SL.Sem Idealize.ShloMosaic.TcCoe Cert.Padded
open Cert.OutprojRefIdeal Cert.OutprojRefIdeal.Gen Cert.OutprojRefIdeal.Read
open Cert.OutprojIdeal.Array (rows prod int_zero hh ww)

variable (x0 : Vec Ideal S4x2064x1024 .f32) (x1 : Vec Ideal S1024x1024 .f32)

theorem v2 (s : Fin 4) (q : Fin 2064) (n : Fin 1024) : val_main_v2 x0 x1 (ix3 s q n) = (∑ k : Fin 1024, x0 (ix3 s q k) * x1 (ix2 n k) : EReal) := by
  unfold val_main_v2
  pointwise

/-- The reference's two results. -/
theorem results : val_main_v5 x0 x1 = prod x0 x1 0 (by norm_num) ∧ val_main_v9 x0 x1 = prod x0 x1 512 (by norm_num) := by
  constructor <;> funext i <;> idx_vars i
  on_goal 1 => unfold val_main_v5 val_main_v4 val_main_v3 val_main_call0_v0 val_main_c prod
  on_goal 2 => unfold val_main_v9 val_main_v8 val_main_v7 val_main_v6 val_main_call1_v0 val_main_c_0 prod
  all_goals
    pointwise
    have hi : i0.val < 8704 := i0.isLt
    by_cases h : 112 ≤ i0.val % 2176
    · rw [dif_pos ⟨by omega, h, by omega⟩]
      refine (v2 x0 x1 _ _ _).trans ?_
      exact Finset.sum_congr rfl fun k _ => congrArg (fun a : EReal => a * _) (congrFun (padR_token (fun s q j => x0 (ix3 s q j)) i0.val hi h) k).symm
    · rw [dif_neg (by omega)]
      exact int_zero.trans (Finset.sum_eq_zero fun k _ => by rw [rows, padR_zero _ h, zero_mul]).symm

instance : Cert.OutprojRefIdeal.Facts := Cert.OutprojRefIdeal.Gen.facts
instance : Cert.OutprojIdeal.Facts := Cert.OutprojIdeal.Gen.facts

/-- The reference ends with every counter at zero: it has none. -/
theorem frame_ref : Cert.quiescent_OutprojRefIdeal := fun m g _ =>
  (θ_run Cert.OutprojRefIdeal.defs _ _).mono (fun r h => ⟨fun c => (h c).2.2, sem_eq_zero_of_no_sems rfl r.2⟩) (Cert.OutprojRefIdeal.Value.run m g)

/-- The kernel and the plain product give the same two arrays. -/
theorem algebraic : Cert.algebraic_OutprojIdeal_OutprojRefIdeal := by
  intro m g m' g' _ hargs
  refine ⟨fun c => prod (hh m c) (ww m c) 0 (by norm_num), fun c => prod (hh m c) (ww m c) 512 (by norm_num),
    (θ_run Cert.OutprojIdeal.defs _ _).mono (fun r h c => ?_) (Cert.OutprojIdeal.Value.run_blocks m g),
    (θ_run Cert.OutprojRefIdeal.defs _ _).mono (fun r h c => ?_) (Cert.OutprojRefIdeal.Value.run m' g')⟩
  · obtain ⟨a, b, k⟩ := h c
    exact ⟨a.trans (Cert.OutprojIdeal.Array.arrs m c).1, b.trans (Cert.OutprojIdeal.Array.arrs m c).2, k⟩
  · obtain ⟨a0, a1⟩ := hargs c
    obtain ⟨a, b, k⟩ := h c
    refine ⟨a.trans ((val_main_v5_eq ..).trans ((results _ _).1.trans ?_)), b.trans ((val_main_v9_eq ..).trans ((results _ _).2.trans ?_)), k⟩ <;> rw [a0, a1]

end Cert.OutprojClaim
-- ==== Proof.AdamwArray.lean ====
/-
  What the optimiser's kernel leaves in its results: the sum of the parts of the gradient, the step, and the two moments.
-/
module

public import proofs.«01_k».proof.Proof.Padded
public import proofs.«01_k».proof.Proof.Gen.AdamwIdeal.Value

@[expose] public section

set_option maxRecDepth 16384

noncomputable section

namespace Cert.AdamwIdeal.Array

open Idealize.ShloMosaic Cert.AdamwIdeal Cert.AdamwIdeal.Gen Cert.AdamwIdeal.Value Idealize.ShloMosaic.TcCoe Cert.Padded

/-- The moments and the step, entry by entry. -/
def mom (m g : EReal) : EReal := Ideal.ofBits .f32 0x3F666666#32 * m + Ideal.ofBits .f32 0x3DCCCCCD#32 * g
def mom2 (v g : EReal) : EReal := Ideal.ofBits .f32 0x3F7FBE77#32 * v + Ideal.ofBits .f32 0x3A83126F#32 * (g * g)
def step (w g m v : EReal) : EReal := Ideal.ofBits .f32 0xBA83126F#32 * (Ideal.div (Ideal.div (mom m g) (Ideal.ofBits .f32 0x3F26BD02#32))
  (Ideal.sqrt (Ideal.div (mom2 v g) (Ideal.ofBits .f32 0x3C231ACC#32)) + Ideal.ofBits .f32 0x322BCC77#32) + Ideal.ofBits .f32 0x3C23D70A#32 * w)

section Point

variable (x : Vec Ideal S8x256x512 .bf16) (a b d : Vec Ideal S256x512 .f32) (r : Fin 256) (j : Fin 512)

abbrev part : EReal := ∑ p : Fin 8, x (ix3 p r j)

theorem pay4 : k0_pay4 (F := Ideal) (View.ld x r0_0) (View.ld x r0_1) (View.ld x r0_2) (View.ld x r0_3) (View.ld x r0_4) (View.ld x r0_5) (View.ld x r0_6) (View.ld x r0_7)
    (ix2 r j) = part x r j := by
  unfold k0_pay4
  pointwise
  exact (Fin.sum_univ_eight fun p => (x (ix3 p r j) : EReal)).symm

theorem pay5 : k0_pay5 (F := Ideal) d x a b (ix2 r j) = part x r j := by
  unfold k0_pay5
  exact pay4 x r j

variable (s : FVec Ideal S256x512 .f32)

theorem pay1 : k0_pay1 s a (ix2 r j) = mom (a (ix2 r j)) (s (ix2 r j)) := by
  unfold k0_pay1 mom
  pointwise

theorem pay2 : k0_pay2 s a (ix2 r j) = mom2 (a (ix2 r j)) (s (ix2 r j)) := by
  unfold k0_pay2 mom2
  pointwise

theorem pay3 : k0_pay3 s a b d (ix2 r j) = step (d (ix2 r j)) (s (ix2 r j)) (a (ix2 r j)) (b (ix2 r j)) := by
  unfold k0_pay3 step
  pointwise
  rw [pay1, pay2]

end Point

/-! ## The windows -/

variable (m : (ℓ : Loc nD τ sig) → Buf (Elt Ideal) ℓ) (c : Dev nD)

abbrev ww : S2048x512.Idx → EReal := m (c.tc.loc main_arg0)
abbrev gp : S8x2048x512.Idx → EReal := m (c.tc.loc main_arg1)
abbrev mm : S2048x512.Idx → EReal := m (c.tc.loc main_arg2)
abbrev vv : S2048x512.Idx → EReal := m (c.tc.loc main_arg3)

/-- The sum of the parts, at a place. -/
def total (g : S8x2048x512.Idx → EReal) (i : S2048x512.Idx) : EReal := ∑ p : Fin 8, g (ix3 p (i 0) (i 1))

theorem index : ∀ t : Fin cfg0.N, (win0_0.index t 0 = t.val ∧ win0_0.index t 1 = 0) ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0) := by decide +kernel

theorem lt8 (t : Fin cfg0.N) : t.val < 8 := lt_of_lt_of_eq t.isLt (show cfg0.N = 8 from N_0)

/-- The place of a block's row. -/
def at_ (t : Fin cfg0.N) (r : Fin 256) (j : Fin 512) : S2048x512.Idx := ix2 ⟨t.val * 256 + r.val, by have := lt8 t; omega⟩ j

theorem blocks (t : Fin cfg0.N) (r : Fin 256) (j : Fin 512) : (iblk m c 0 t : S256x512.Idx → EReal) (ix2 r j) = ww m c (at_ t r j)
    ∧ (iblk m c 2 t : S256x512.Idx → EReal) (ix2 r j) = mm m c (at_ t r j) ∧ (iblk m c 3 t : S256x512.Idx → EReal) (ix2 r j) = vv m c (at_ t r j) := by
  refine ⟨?_, ?_, ?_⟩ <;> unfold iblk <;> rw [View.read_apply]
  · exact congrArg (ww m c) (place_row (a := 256) (b := 512) _ _ j (r := r.val) (index t).1.1 (index t).1.2 rfl rfl rfl)
  · exact congrArg (mm m c) (place_row (a := 256) (b := 512) _ _ j (r := r.val) (index t).2.2.1.1 (index t).2.2.1.2 rfl rfl rfl)
  · exact congrArg (vv m c) (place_row (a := 256) (b := 512) _ _ j (r := r.val) (index t).2.2.2.1 (index t).2.2.2.2 rfl rfl rfl)

theorem parts (t : Fin cfg0.N) (r : Fin 256) (j : Fin 512) : part (iblk m c 1 t) r j = total (gp m c) (at_ t r j) := by
  refine Finset.sum_congr rfl fun p _ => ?_
  unfold iblk
  rw [View.read_apply]
  refine congrArg (gp m c) (funext fun a => Fin.ext ?_)
  obtain ⟨e0, e1, e2⟩ := (index t).2.1
  match a with
  | ⟨0, _⟩ => exact (show _ = win0_1.index t 0 * 8 + 1 * p.val from rfl).trans (by rw [e0]; show 0 * 8 + 1 * p.val = p.val; omega)
  | ⟨1, _⟩ => exact (show _ = win0_1.index t 1 * 256 + 1 * r.val from rfl).trans (by rw [e1]; show t.val * 256 + 1 * r.val = t.val * 256 + r.val; omega)
  | ⟨2, _⟩ => exact (show _ = win0_1.index t 2 * 512 + 1 * j.val from rfl).trans (by rw [e2]; show 0 * 512 + 1 * j.val = j.val; omega)

/-! ## The results -/

theorem outs : ∀ t : Fin cfg0.N, (win0_4.index t 0 = t.val ∧ win0_4.index t 1 = 0 ∧ win0_4.xsize (grid0.coords t) 0 = 256 ∧ win0_4.xsize (grid0.coords t) 1 = 512)
    ∧ (win0_5.index t 0 = t.val ∧ win0_5.index t 1 = 0 ∧ win0_5.xsize (grid0.coords t) 0 = 256 ∧ win0_5.xsize (grid0.coords t) 1 = 512)
    ∧ (win0_6.index t 0 = t.val ∧ win0_6.index t 1 = 0 ∧ win0_6.xsize (grid0.coords t) 0 = 256 ∧ win0_6.xsize (grid0.coords t) 1 = 512)
    ∧ (win0_7.index t 0 = t.val ∧ win0_7.index t 1 = 0 ∧ win0_7.xsize (grid0.coords t) 0 = 256 ∧ win0_7.xsize (grid0.coords t) 1 = 512) := by
  decide +kernel

/-- The four results. -/
theorem arrs : (dats m 0 c).arrAt 4 cfg0.N = total (gp m c)
    ∧ (dats m 0 c).arrAt 5 cfg0.N = (fun i => step (ww m c i) (total (gp m c) i) (mm m c i) (vv m c i) : S2048x512.Idx → EReal)
    ∧ (dats m 0 c).arrAt 6 cfg0.N = (fun i => mom (mm m c i) (total (gp m c) i) : S2048x512.Idx → EReal)
    ∧ (dats m 0 c).arrAt 7 cfg0.N = (fun i => mom2 (vv m c i) (total (gp m c) i) : S2048x512.Idx → EReal) := by
  refine ⟨(dats m 0 c).arrAt_eq_of_cover 4 (total (gp m c)) (fun t _ => funext fun i => ?_) fun i => ?_,
    (dats m 0 c).arrAt_eq_of_cover 5 (fun i => step (ww m c i) (total (gp m c) i) (mm m c i) (vv m c i)) (fun t _ => funext fun i => ?_) fun i => ?_,
    (dats m 0 c).arrAt_eq_of_cover 6 (fun i => mom (mm m c i) (total (gp m c) i)) (fun t _ => funext fun i => ?_) fun i => ?_,
    (dats m 0 c).arrAt_eq_of_cover 7 (fun i => mom2 (vv m c i) (total (gp m c) i)) (fun t _ => funext fun i => ?_) fun i => ?_⟩
  all_goals try
    have ht := lt8 t
    obtain ⟨r, j, rfl⟩ := ex2 i
    obtain ⟨b0, b2, b3⟩ := blocks m c t r j
    rw [View.read_apply]
  all_goals try
    have h0 : (i 0 : Nat) < 2048 := (i 0).isLt
    have e : (i 0 : Nat) / 256 < cfg0.N := by rw [show cfg0.N = 8 from N_0]; omega
  · rw [show ((cfg0.win 4).blk t).view.emb (ix2 r j) = at_ t r j from place_row (a := 256) (b := 512) _ _ j (r := r.val) (outs t).1.1 (outs t).1.2.1 rfl rfl rfl]
    show (dats m 0 c).after 4 t (ix2 r j) = _
    rw [after0_4]
    unfold out0_4
    rw [View.canon_unit_zero (S := S256x512) hz]
    repeat rw [View.ld_unit_zero hz]
    exact (pay4 _ r j).trans (parts m c t r j)
  · refine ⟨⟨_, e⟩, flush0_4 _, ?_⟩
    show i ∈ ((View.whole main_v0_0).slice (win0_4.rect ⟨_, e⟩)).set
    rw [View.set_slice_whole, Rect.mem_set_unit]
    exact covered (outs ⟨_, e⟩).1 (fun a => (i a).val) rfl rfl rfl rfl rfl (by norm_num) (i 1).isLt
  · rw [show ((cfg0.win 5).blk t).view.emb (ix2 r j) = at_ t r j from place_row (a := 256) (b := 512) _ _ j (r := r.val) (outs t).2.1.1 (outs t).2.1.2.1 rfl rfl rfl]
    show (dats m 0 c).after 5 t (ix2 r j) = _
    rw [after0_5]
    unfold out0_5
    rw [View.canon_unit_zero (S := S256x512) hz]
    repeat rw [View.ld_unit_zero hz]
    exact (pay3 ..).trans (by rw [pay5, parts m c t r j, b0, b2, b3]; rfl)
  · refine ⟨⟨_, e⟩, flush0_5 _, ?_⟩
    show i ∈ ((View.whole main_v0_1).slice (win0_5.rect ⟨_, e⟩)).set
    rw [View.set_slice_whole, Rect.mem_set_unit]
    exact covered (outs ⟨_, e⟩).2.1 (fun a => (i a).val) rfl rfl rfl rfl rfl (by norm_num) (i 1).isLt
  · rw [show ((cfg0.win 6).blk t).view.emb (ix2 r j) = at_ t r j from place_row (a := 256) (b := 512) _ _ j (r := r.val) (outs t).2.2.1.1 (outs t).2.2.1.2.1 rfl rfl rfl]
    show (dats m 0 c).after 6 t (ix2 r j) = _
    rw [after0_6]
    unfold out0_6
    rw [View.canon_unit_zero (S := S256x512) hz]
    repeat rw [View.ld_unit_zero hz]
    exact (pay1 ..).trans (by rw [pay5, parts m c t r j, b2]; rfl)
  · refine ⟨⟨_, e⟩, flush0_6 _, ?_⟩
    show i ∈ ((View.whole main_v0_2).slice (win0_6.rect ⟨_, e⟩)).set
    rw [View.set_slice_whole, Rect.mem_set_unit]
    exact covered (outs ⟨_, e⟩).2.2.1 (fun a => (i a).val) rfl rfl rfl rfl rfl (by norm_num) (i 1).isLt
  · rw [show ((cfg0.win 7).blk t).view.emb (ix2 r j) = at_ t r j from place_row (a := 256) (b := 512) _ _ j (r := r.val) (outs t).2.2.2.1 (outs t).2.2.2.2.1 rfl rfl rfl]
    show (dats m 0 c).after 7 t (ix2 r j) = _
    rw [after0_7]
    unfold out0_7
    rw [View.canon_unit_zero (S := S256x512) hz]
    repeat rw [View.ld_unit_zero hz]
    exact (pay2 ..).trans (by rw [pay5, parts m c t r j, b3]; rfl)
  · refine ⟨⟨_, e⟩, flush0_7 _, ?_⟩
    show i ∈ ((View.whole main_v0_3).slice (win0_7.rect ⟨_, e⟩)).set
    rw [View.set_slice_whole, Rect.mem_set_unit]
    exact covered (outs ⟨_, e⟩).2.2.2 (fun a => (i a).val) rfl rfl rfl rfl rfl (by norm_num) (i 1).isLt

end Cert.AdamwIdeal.Array
-- ==== Proof.AdamwClaim.lean ====
/-
  The claims about the optimiser: what its reference's lines compute, and the two runs set side by side.
-/
module

public import proofs.«01_k».proof.Defs
public import proofs.«01_k».proof.Proof.AdamwArray
public import proofs.«01_k».proof.Proof.Gen.AdamwRefIdeal.Read

@[expose] public section

noncomputable section

namespace Cert.AdamwClaim

open Idealize.ShloMosaic Idealize.SL.Sem Idealize.ShloMosaic.TcCoe Cert.AdamwRefIdeal.Read
open Cert.AdamwIdeal.Array (mom mom2 step total ww gp mm vv)

variable (w : Vec Ideal Cert.AdamwRefIdeal.S2048x512 .f32) (g : Vec Ideal Cert.AdamwRefIdeal.S8x2048x512 .bf16) (m v : Vec Ideal Cert.AdamwRefIdeal.S2048x512 .f32)

theorem r1 : val_main_v1 g = total g := by
  funext i
  idx_vars i
  unfold val_main_v1 val_main_v0 val_main_cst total
  pointwise

theorem r6 : val_main_v6 g m = fun i => mom (m i) (total g i) := by
  unfold val_main_v6 val_main_v5 val_main_v4 val_main_v3 val_main_v2 val_main_cst_0 val_main_cst_1
  rw [r1]
  funext i
  idx_vars i
  pointwise
  rfl

theorem r12 : val_main_v12 g v = fun i => mom2 (v i) (total g i) := by
  unfold val_main_v12 val_main_v11 val_main_v10 val_main_v9 val_main_v8 val_main_v7 val_main_cst_2 val_main_cst_3
  rw [r1]
  funext i
  idx_vars i
  pointwise
  rfl

theorem r25 : val_main_v25 w g m v = fun i => step (w i) (total g i) (m i) (v i) := by
  unfold val_main_v25 val_main_v24 val_main_v23 val_main_v22 val_main_v21 val_main_v20 val_main_v19 val_main_v18 val_main_v17 val_main_v16 val_main_v15 val_main_v14 val_main_v13
    val_main_cst_4 val_main_cst_5 val_main_cst_6 val_main_cst_7 val_main_cst_8
  rw [r6, r12]
  funext i
  idx_vars i
  pointwise
  rfl

instance : Cert.AdamwRefIdeal.Facts := Cert.AdamwRefIdeal.Gen.facts
instance : Cert.AdamwIdeal.Facts := Cert.AdamwIdeal.Gen.facts

/-- The reference ends with every counter at zero: it has none. -/
theorem frame_ref : Cert.quiescent_AdamwRefIdeal := fun m g _ =>
  (θ_run Cert.AdamwRefIdeal.defs _ _).mono (fun r h => ⟨fun c => (h c).2.2.2.2, sem_eq_zero_of_no_sems rfl r.2⟩) (Cert.AdamwRefIdeal.Value.run m g)

/-- The kernel and the plain lines give the same gradient, step and moments. -/
theorem algebraic : Cert.algebraic_AdamwIdeal_AdamwRefIdeal := by
  intro m g m' g' _ hargs
  refine ⟨fun c => total (gp m c), fun c i => step (ww m c i) (total (gp m c) i) (mm m c i) (vv m c i), fun c i => mom (mm m c i) (total (gp m c) i),
    fun c i => mom2 (vv m c i) (total (gp m c) i), (θ_run Cert.AdamwIdeal.defs _ _).mono (fun r h c => ?_) (Cert.AdamwIdeal.Value.run_blocks m g),
    (θ_run Cert.AdamwRefIdeal.defs _ _).mono (fun r h c => ?_) (Cert.AdamwRefIdeal.Value.run m' g')⟩
  · obtain ⟨a, b, d, e, k⟩ := h c
    obtain ⟨a', b', d', e'⟩ := Cert.AdamwIdeal.Array.arrs m c
    exact ⟨a.trans a', b.trans b', d.trans d', e.trans e', k⟩
  · obtain ⟨a0, a1, a2, a3⟩ := hargs c
    obtain ⟨a, b, d, e, k⟩ := h c
    refine ⟨a.trans ((val_main_v1_eq ..).trans ((r1 _).trans ?_)), b.trans ((val_main_v25_eq ..).trans ((r25 _ _ _ _).trans ?_)),
      d.trans ((val_main_v6_eq ..).trans ((r6 _ _).trans ?_)), e.trans ((val_main_v12_eq ..).trans ((r12 _ _).trans ?_)), k⟩
    · rw [a1] <;> rfl
    · rw [a0, a1, a2, a3] <;> rfl
    · rw [a1, a2] <;> rfl
    · rw [a1, a3] <;> rfl

end Cert.AdamwClaim
-- ==== Proof.SumMetaClaim.lean ====
/-
  The claims about the sum of the four parts of the meta rows' gradient.
-/
module

public import proofs.«01_k».proof.Defs
public import proofs.«01_k».proof.Proof.Reals
public import proofs.«01_k».proof.Proof.Gen.SumMetaIdeal.Value
public import proofs.«01_k».proof.Proof.Gen.SumMetaRefIdeal.Read

@[expose] public section

noncomputable section

namespace Cert.SumMetaClaim

open Idealize.ShloMosaic Idealize.SL.Sem Idealize.ShloMosaic.TcCoe Cert.SumMetaRefIdeal.Read Cert.SumMetaIdeal Cert.SumMetaIdeal.Gen

variable (x : Vec Ideal S4x16x1024 .f32)

/-- The sum of the parts, as the kernel and as the reference write it. -/
theorem total : Cert.SumMetaIdeal.Value.G1 (F := Ideal) x = val_main_v0 x := by
  funext i
  obtain ⟨r, j, rfl⟩ := ex2 i
  unfold Cert.SumMetaIdeal.Value.G1 k0_pay1 val_main_v0 val_main_cst
  pointwise
  exact (Fin.sum_univ_four fun p => (x (ix3 p r j) : EReal)).symm

instance : Cert.SumMetaRefIdeal.Facts := Cert.SumMetaRefIdeal.Gen.facts
instance : Cert.SumMetaIdeal.Facts := Cert.SumMetaIdeal.Gen.facts

/-- The reference ends with every counter at zero: it has none. -/
theorem frame_ref : Cert.quiescent_SumMetaRefIdeal := fun m g _ =>
  (θ_run Cert.SumMetaRefIdeal.defs _ _).mono (fun r h => ⟨fun c => (h c).2, sem_eq_zero_of_no_sems rfl r.2⟩) (Cert.SumMetaRefIdeal.Value.run m g)

/-- The kernel and the plain sum give the same array. -/
theorem algebraic : Cert.algebraic_SumMetaIdeal_SumMetaRefIdeal := by
  intro m g m' g' _ hargs
  refine ⟨fun c => Cert.SumMetaIdeal.Value.G1 (F := Ideal) (m (c.tc.loc main_arg0)), Cert.SumMetaIdeal.Value.run m g,
    (θ_run Cert.SumMetaRefIdeal.defs _ _).mono (fun r h c => ⟨(h c).1.trans ?_, (h c).2⟩) (Cert.SumMetaRefIdeal.Value.run m' g')⟩
  exact (val_main_v0_eq ..).trans ((congrArg _ (hargs c)).trans (total _).symm)

end Cert.SumMetaClaim
-- ==== Proof.GradWClaim.lean ====
/-
  The claims about the gradient of a weight matrix: a block of the product that grows by the share of every block of
  padded rows, and the product over the sequences and their rows.
-/
module

public import proofs.«01_k».proof.Defs
public import proofs.«01_k».proof.Proof.Padded
public import proofs.«01_k».proof.Proof.Gen.GradWIdeal.Value
public import proofs.«01_k».proof.Proof.Gen.GradWRefIdeal.Read
public import Idealize.ShloMosaic.Lib.TwoAxisContraction
public import Idealize.ShloMosaic.Lib.Pipeline.ValueKit
public import Idealize.ShloMosaic.Lib.Pipeline.ReadBack

@[expose] public section

set_option maxRecDepth 16384

noncomputable section

namespace Cert.GradWIdeal.Array

open Idealize.ShloMosaic Cert.GradWIdeal Cert.GradWIdeal.Gen Cert.GradWIdeal.Value Idealize.ShloMosaic.TcCoe Cert.Padded

/-- A padded row of an array; its share of the product; the product over the padded rows. -/
def rows {n : ℕ} (h : (⟨3, ![4, 2064, n]⟩ : Shape).Idx → EReal) : ℕ → Fin n → EReal := padR fun s q j => h (ix3 s q j)
def share (x : S4x2064x1024.Idx → EReal) (y : S4x2064x4096.Idx → EReal) (i : Fin 1024) (j : Fin 4096) (R : ℕ) : EReal := rows x R i * rows y R j
def prod (x : S4x2064x1024.Idx → EReal) (y : S4x2064x4096.Idx → EReal) : S1024x4096.Idx → EReal :=
  fun i => ∑ R : Fin 8704, share x y (i 0) (i 1) R.val

theorem pay1 (i : Fin 1024) (j : Fin 4096) : k0_pay1 (F := Ideal) (ix2 i j) = 0 := by
  unfold k0_pay1
  pointwise

theorem pay2 (a : Vec Ideal S1024x4096 .f32) (x : Vec Ideal S512x1024 .bf16) (y : Vec Ideal S512x4096 .bf16) (i : Fin 1024) (j : Fin 4096) :
    k0_pay2 a x y (ix2 i j) = (a (ix2 i j) + ∑ r : Fin 512, x (ix2 r i) * y (ix2 r j) : EReal) := by
  unfold k0_pay2
  pointwise

variable (m : (ℓ : Loc nD τ sig) → Buf (Elt Ideal) ℓ) (c : Dev nD)

abbrev xx : S4x2064x1024.Idx → EReal := m (c.tc.loc main_arg0)
abbrev yy : S4x2064x4096.Idx → EReal := m (c.tc.loc main_arg1)

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ win0_2.xsize (grid0.coords t) 0 = 1024 ∧ win0_2.xsize (grid0.coords t) 1 = 4096 := by decide +kernel

theorem lt17 (t : Fin cfg0.N) : t.val < 17 := lt_of_lt_of_eq t.isLt (show cfg0.N = 17 from N_0)

theorem V_rows (R : Fin 8704) (i : Fin 1024) (j : Fin 4096) :
    (V m c main_v3 : S8704x1024.Idx → EReal) (ix2 R i) = rows (xx m c) R.val i ∧ (V m c main_v7 : S8704x4096.Idx → EReal) (ix2 R j) = rows (yy m c) R.val j := by
  constructor <;> unfold V <;> after_results <;> pointwise
  all_goals
    by_cases h : 112 ≤ R.val % 2176
    · rw [dif_neg (by omega), rows, padR_token _ R.val R.isLt h]
    · rw [dif_pos (by omega), rows, padR_zero _ h]

theorem blocks (t : Fin cfg0.N) (r : Fin 512) (i : Fin 1024) (j : Fin 4096) :
    (iblk m c 0 t : S512x1024.Idx → EReal) (ix2 r i) = rows (xx m c) (t.val * 512 + r.val) i
    ∧ (iblk m c 1 t : S512x4096.Idx → EReal) (ix2 r j) = rows (yy m c) (t.val * 512 + r.val) j := by
  have ht := lt17 t
  rw [← (V_rows m c ⟨t.val * 512 + r.val, by omega⟩ i j).1, ← (V_rows m c ⟨t.val * 512 + r.val, by omega⟩ i j).2]
  constructor <;> unfold iblk <;> rw [View.read_apply]
  · show V m c main_v3 _ = V m c main_v3 _
    exact congrArg _ (place_row (a := 512) (b := 1024) _ ⟨t.val * 512 + r.val, by omega⟩ i (r := r.val) (index t).1.1 (index t).1.2 rfl rfl rfl)
  · show V m c main_v7 _ = V m c main_v7 _
    exact congrArg _ (place_row (a := 512) (b := 4096) _ ⟨t.val * 512 + r.val, by omega⟩ j (r := r.val) (index t).2.1.1 (index t).2.1.2 rfl rfl rfl)

/-- A grid point adds the share of its rows. -/
theorem point (t : Fin cfg0.N) (a : Vec Ideal S1024x4096 .f32) (i : Fin 1024) (j : Fin 4096) :
    k0_pay2 a (iblk m c 0 t) (iblk m c 1 t) (ix2 i j) = a (ix2 i j) + ∑ r : Fin 512, share (xx m c) (yy m c) i j (t.val * 512 + r.val) :=
  (pay2 _ _ _ i j).trans (congrArg _ (Finset.sum_congr rfl fun r _ => congrArg₂ (fun a b : EReal => a * b) (blocks m c t r i j).1 (blocks m c t r i j).2))

/-- The shares of the points before point `n`. -/
def before (n : ℕ) (i : Fin 1024) (j : Fin 4096) : EReal := ∑ p ∈ Finset.range n, ∑ r : Fin 512, share (xx m c) (yy m c) i j (p * 512 + r.val)

/-- What the block of sums holds after point `n`, up to the last but one: the shares of the points so far. -/
theorem running : ∀ (n : ℕ) (h : n < cfg0.N) (_ : n < 16) (i : Fin 1024) (j : Fin 4096), (outsAt0 m c n h).2 (ix2 i j) = before m c (n + 1) i j
  | 0, h, _, i, j => by
    have e := outsAt0_A m c ⟨0, h⟩ rfl (by dsimp only; omega)
    change outsAt0 m c 0 h = _ at e
    rw [e]
    frame_out
    refine (point m c ⟨0, h⟩ _ i j).trans ?_
    rw [pay1, zero_add, before, Finset.sum_range_one]
  | n + 1, h, hn, i, j => by
    have e := outsAt0_B m c ⟨n + 1, h⟩ (by dsimp only; omega) (by dsimp only; omega)
    change outsAt0 m c (n + 1) h = _ at e
    rw [e]
    frame_out
    simp only [read_unread_whole]
    refine (point m c ⟨n + 1, h⟩ _ i j).trans ?_
    rw [before, Finset.sum_range_succ]
    exact congrArg₂ (fun a b : EReal => a + b) (running n (Nat.lt_of_succ_lt h) (by omega) i j) rfl

/-- The last point. -/
abbrev last : Fin cfg0.N := ⟨16, by rw [show cfg0.N = 17 from N_0]; decide⟩

theorem arr : (dats m 0 c).arrAt 2 cfg0.N = prod (xx m c) (yy m c) :=
  (dats m 0 c).arrAt_eq_of_cover 2 (prod (xx m c) (yy m c)) (fun t hf => by
    have ht := lt17 t
    have h16 := (flush0_2 t).mp hf
    obtain rfl : t = last := Fin.ext (by show t.val = 16; omega)
    rw [flushed2_C m c last (by decide) (by decide)]
    frame_out
    simp only [read_unread_whole]
    have hz' : (fun a => win0_2.index last a * main_v8.ty.shape.size a) = fun _ => 0 := at_origin (index last).2.2.1
    refine Eq.trans ?_ (Memref.read_access_unit_zero (Elt Ideal) main_v8 hz' (fun a => by rw [congrFun hz' a]; simp) (prod (xx m c) (yy m c))).symm
    funext l
    obtain ⟨i, j, rfl⟩ := ex2 l
    refine (point m c last _ i j).trans (Eq.trans ?_ (sum_blocks 17 512 (share (xx m c) (yy m c) i j)))
    rw [Finset.sum_range_succ]
    exact congrArg₂ (fun a b : EReal => a + b) (running m c 15 _ (by decide) i j) rfl) fun i => by
    refine ⟨last, (flush0_2 last).mpr rfl, ?_⟩
    show i ∈ ((View.whole main_v8).slice (win0_2.rect last)).set
    rw [View.set_slice_whole, Rect.mem_set_unit]
    exact in_tile (n := 1024) (w := 4096) (fun a => (i a).val) _ _ _ (congrArg (· * 1024) (index last).2.2.1.1) (congrArg (· * 4096) (index last).2.2.1.2)
      (index last).2.2.2.1 (index last).2.2.2.2 (Nat.div_eq_of_lt (i 0).isLt).symm (by norm_num) (i 1).isLt

end Cert.GradWIdeal.Array

namespace Cert.GradWClaim

open Idealize.ShloMosaic Idealize.SL.Sem Idealize.ShloMosaic.TcCoe Cert.Padded
open Cert.GradWRefIdeal Cert.GradWRefIdeal.Gen Cert.GradWRefIdeal.Read
open Cert.GradWIdeal.Array (rows share prod xx yy)

variable (x : Vec Ideal S4x2064x1024 .f32) (y : Vec Ideal S4x2064x4096 .f32)

theorem v2 (j : Fin 4096) (i : Fin 1024) : val_main_v2 x y (ix2 j i) = (∑ s : Fin 4, ∑ q : Fin 2064, y (ix3 s q j) * x (ix3 s q i) : EReal) := by
  unfold val_main_v2
  simp only [Host.dotGeneral]
  rw [Ideal.dotGeneral_apply, ValueIdx.sum_contr2 dot_S4x2064x4096_S4x2064x1024_S4096x1024_01_01_2_2_n_n 4 2064 rfl rfl rfl]
  refine Finset.sum_congr rfl fun s _ => Finset.sum_congr rfl fun q _ => congrArg₂ (fun a b : EReal => a * b) (congrArg y ?_) (congrArg x ?_)
  all_goals
    funext a
    fin_cases a
    · exact Fin.ext (ValueIdx.contrEquiv2_symm_val0 dot_S4x2064x4096_S4x2064x1024_S4096x1024_01_01_2_2_n_n 4 2064 rfl rfl rfl (s, q))
    · exact Fin.ext (ValueIdx.contrEquiv2_symm_val1 dot_S4x2064x4096_S4x2064x1024_S4096x1024_01_01_2_2_n_n 4 2064 rfl rfl rfl (s, q))
    · rfl

/-- The reference's result. -/
theorem result : val_main_v4 x y = prod x y := by
  funext l
  obtain ⟨i, j, rfl⟩ := ex2 l
  unfold val_main_v4 val_main_v3
  pointwise
  refine (v2 x y j i).trans (Eq.trans ?_ (sum_padded (share x y i j) fun R h => ?_).symm)
  · refine Finset.sum_congr rfl fun s _ => Finset.sum_congr rfl fun q _ => ?_
    unfold share rows
    rw [padR_at, padR_at]
    exact mul_comm _ _
  · unfold share rows
    rw [padR_zero _ h, zero_mul]

instance : Cert.GradWRefIdeal.Facts := Cert.GradWRefIdeal.Gen.facts
instance : Cert.GradWIdeal.Facts := Cert.GradWIdeal.Gen.facts

/-- The reference ends with every counter at zero: it has none. -/
theorem frame_ref : Cert.quiescent_GradWRefIdeal := fun m g _ =>
  (θ_run Cert.GradWRefIdeal.defs _ _).mono (fun r h => ⟨fun c => (h c).2, sem_eq_zero_of_no_sems rfl r.2⟩) (Cert.GradWRefIdeal.Value.run m g)

/-- The kernel and the plain product give the same array. -/
theorem algebraic : Cert.algebraic_GradWIdeal_GradWRefIdeal := by
  intro m g m' g' _ hargs
  refine ⟨fun c => prod (xx m c) (yy m c), (θ_run Cert.GradWIdeal.defs _ _).mono (fun r h c => ?_) (Cert.GradWIdeal.Value.run_blocks m g),
    (θ_run Cert.GradWRefIdeal.defs _ _).mono (fun r h c => ?_) (Cert.GradWRefIdeal.Value.run m' g')⟩
  · obtain ⟨a, k⟩ := h c
    exact ⟨a.trans (Cert.GradWIdeal.Array.arr m c), k⟩
  · obtain ⟨a0, a1⟩ := hargs c
    obtain ⟨a, k⟩ := h c
    refine ⟨a.trans ((val_main_v4_eq ..).trans ((result _ _).trans ?_)), k⟩
    rw [a0, a1]

end Cert.GradWClaim
-- ==== Proof.MlpFwdRun.lean ====
/-
  The MLP forward's run: a row block's first point leaves the mixed rows, their normalised rows and the sum's start; every
  point adds its hidden columns' share to the sum; the last point leaves the sum.
-/
module

public import proofs.«01_k».proof.Proof.Gen.MlpFwdIdeal.Frame
public import proofs.«01_k».proof.Proof.Gen.MlpFwdIdeal.Skeleton
public import Idealize.ShloMosaic.Lib.Pipeline.TableIdle
public import Idealize.ShloMosaic.Lib.Claim
public import Idealize.ShloMosaic.Lib.VecWindow

@[expose] public section

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer owned at what it reads. -/
abbrev own (c : Dev nD) {s : Shape} {e : EltTy} (m : Memref sig .tc .vmem s e) (x : s.Idx → Elt F e) : sProp 𝕄 := owns (c : Thread nD τ) m fullShare x

/-! ## Whole stores and loads -/

section Whole

variable {s : Shape} {e : EltTy} (w : s.Idx → Elt F e) (L : List (View.Piece (Elt F) s e))
  {off : Fin s.rank → ℕ} (inb : ∀ a, off a + s.size a ≤ s.size a)

theorem held_stored (c : Dev nD) (m : Memref sig .tc .vmem s e) (f : m.view.ty.Contents (Elt F)) :
    (m.view.loc (c : Thread nD τ) ↦[m.view.set]{fullShare} (m.view.writes (Elt F) f (⟨Rect.unit off s.size inb, w⟩ :: L) : Buf (Elt F) (m.view.loc (c : Thread nD τ))) : sProp 𝕄)
      ⊢ m.view.loc (c : Thread nD τ) ↦[m.view.set]{fullShare} m.view.rep w :=
  pointsTo_rep_of_read (c : Thread nD τ) m _ fullShare w (View.read_writes_full m.view f inb w L)

end Whole

/-- The sum after a point: from the mixed rows at a row block's first point, from the sum before at the others. -/
def sumOf (first : Prop) [Decidable first] (x : Vec F S1088x1024 .f32) (y : Vec F S1088x1024 .bf16) (wo : Vec F S1024x1024 .bf16) (g : Vec F S1x1024 .f32)
    (wu : Vec F S1x1x1024x512 .bf16) (wd : Vec F S1x1x512x1024 .bf16) (n : Vec F S1088x1024 .bf16) (s : Vec F S1088x1024 .f32) : Vec F S1088x1024 .f32 :=
  k0_pay4 (if first then k0_pay2 x y wo g else n) wu (if first then k0_pay3 x y wo else s) wd

section Body

variable (c : Dev nD) (i : grid0.Coords)
  (arg2 : Memref sig .tc .vmem S1088x1024 .f32) (harg2 : arg2.IsWhole) (arg3 : Memref sig .tc .vmem S1088x1024 .bf16) (harg3 : arg3.IsWhole)
  (arg4 : Memref sig .tc .vmem S1024x1024 .bf16) (harg4 : arg4.IsWhole) (arg5 : Memref sig .tc .vmem S1x1024 .f32) (harg5 : arg5.IsWhole)
  (arg6 : Memref sig .tc .vmem S1x1x1024x512 .bf16) (harg6 : arg6.IsWhole) (arg7 : Memref sig .tc .vmem S1x1x512x1024 .bf16) (harg7 : arg7.IsWhole)
  (arg8 : Memref sig .tc .vmem S1088x1024 .f32) (harg8 : arg8.IsWhole) (arg9 : Memref sig .tc .vmem S1088x1024 .bf16) (harg9 : arg9.IsWhole)
  (arg10 : Memref sig .tc .vmem S1088x1024 .f32) (harg10 : arg10.IsWhole) (arg11 : Memref sig .tc .vmem S1088x1024 .f32) (harg11 : arg11.IsWhole)
  (x : Vec F S1088x1024 .f32) (y : Vec F S1088x1024 .bf16) (wo : Vec F S1024x1024 .bf16) (g : Vec F S1x1024 .f32)
  (wu : Vec F S1x1x1024x512 .bf16) (wd : Vec F S1x1x512x1024 .bf16) (o : Vec F S1088x1024 .f32) (n : Vec F S1088x1024 .bf16) (p s : Vec F S1088x1024 .f32)

set_option maxHeartbeats 1000000 in
/-- The body's run with its buffers owned at their contents. -/
theorem body_owns :
    (iprop(own c arg2 x ∗ own c arg3 y ∗ own c arg4 wo ∗ own c arg5 g ∗ own c arg6 wu ∗ own c arg7 wd
      ∗ own c arg8 o ∗ own c arg9 n ∗ own c arg10 p ∗ own c arg11 s) : sProp 𝕄)
    ⊢ wp frame (wpE (defs₀ (F := F)) Variants.none (c : Thread nD τ) none) Set.univ
      (cc0_outproj_mlp_fwd (F := F) i arg2 harg2 arg3 harg3 arg4 harg4 arg5 harg5 arg6 harg6 arg7 harg7 arg8 harg8 arg9 harg9 arg10 harg10 arg11 harg11)
      (fun _ => iprop(own c arg2 x ∗ own c arg3 y ∗ own c arg4 wo ∗ own c arg5 g ∗ own c arg6 wu ∗ own c arg7 wd
        ∗ own c arg8 (if k0_cond2 i = 1#1 then sumOf (k0_cond1 i = 1#1) x y wo g wu wd n s else o)
        ∗ own c arg9 (if k0_cond1 i = 1#1 then k0_pay2 x y wo g else n) ∗ own c arg10 (if k0_cond1 i = 1#1 then k0_pay1 x y wo else p)
        ∗ own c arg11 (sumOf (k0_cond1 i = 1#1) x y wo g wu wd n s))) := by
  simp only [own, owns_eq_rep]
  iintro ⟨H2, H3, H4, H5, H6, H7, H8, H9, H10, H11⟩
  rw [cc0_outproj_mlp_fwd_eq_skeleton]
  unfold cc0_outproj_mlp_fwd_skel sumOf
  have l1 := fun (e : EltTy) (v : View sig .tc .vmem S1088x1024 e) w => View.readAt_rep_full (Val := Elt F) v w inb_S1088x1024_S1088x1024_0_0
  have r1 := fun (e : EltTy) (v : View sig .tc .vmem S1088x1024 e) w L => View.readCov_full (Val := Elt F) v inb_S1088x1024_S1088x1024_0_0 inb_S1088x1024_S1088x1024_0_0 w L
  have l2 := View.readAt_rep_full (Val := Elt F) arg4.view wo inb_S1024x1024_S1024x1024_0_0
  have l3 := View.readAt_rep_full (Val := Elt F) arg5.view g inb_S1x1024_S1x1024_0_0
  have l4 := View.readAt_rep_full (Val := Elt F) arg6.view wu inb_S1x1x1024x512_S1x1x1024x512_0_0_0_0
  have l5 := View.readAt_rep_full (Val := Elt F) arg7.view wd inb_S1x1x512x1024_S1x1x512x1024_0_0_0_0
  dsimp only [S1088x1024, S1024x1024, S1x1024, S1x1x1024x512, S1x1x512x1024] at l1 r1 l2 l3 l4 l5
  by_cases hc0 : k0_cond1 i = 1#1 <;> by_cases hc1 : k0_cond2 i = 1#1
  all_goals
    simp only [if_pos, if_neg, hc0, hc1, not_false_eq_true]
    sl_exec (disch := first | sl_exact hc0 | sl_exact hc1)
    sl_step
    sl_unfold_words
    try simp only [r1]
    isplitl [H2]; · iexact H2
    isplitl [H3]; · iexact H3
    isplitl [H4]; · iexact H4
    isplitl [H5]; · iexact H5
    isplitl [H6]; · iexact H6
    isplitl [H7]; · iexact H7
  · isplitl [H8]; · iapply (held_stored _ _ inb_S1088x1024_S1088x1024_0_0 c arg8 _); iexact H8
    isplitl [H9]; · iapply (held_stored _ _ inb_S1088x1024_S1088x1024_0_0 c arg9 _); iexact H9
    isplitl [H10]; · iapply (held_stored _ _ inb_S1088x1024_S1088x1024_0_0 c arg10 _); iexact H10
    iapply (held_stored _ _ inb_S1088x1024_S1088x1024_0_0 c arg11 _); iexact H11
  · isplitl [H8]; · iexact H8
    isplitl [H9]; · iapply (held_stored _ _ inb_S1088x1024_S1088x1024_0_0 c arg9 _); iexact H9
    isplitl [H10]; · iapply (held_stored _ _ inb_S1088x1024_S1088x1024_0_0 c arg10 _); iexact H10
    iapply (held_stored _ _ inb_S1088x1024_S1088x1024_0_0 c arg11 _); iexact H11
  · isplitl [H8]; · iapply (held_stored _ _ inb_S1088x1024_S1088x1024_0_0 c arg8 _); iexact H8
    isplitl [H9]; · iexact H9
    isplitl [H10]; · iexact H10
    iapply (held_stored _ _ inb_S1088x1024_S1088x1024_0_0 c arg11 _); iexact H11
  · isplitl [H8]; · iexact H8
    isplitl [H9]; · iexact H9
    isplitl [H10]; · iexact H10
    iapply (held_stored _ _ inb_S1088x1024_S1088x1024_0_0 c arg11 _); iexact H11

end Body

/-! ## The launch -/

variable (m : (ℓ : Loc nD τ sig) → Buf (Elt F) ℓ) (ρ : Dev nD → PrngReg) (c : Dev nD)

theorem lt64 (t : Fin cfg0.N) : t.val < 64 := lt_of_lt_of_eq t.isLt N_0
theorem cond1_at : ∀ t : Fin cfg0.N, k0_cond1 (grid0.coords t) = 1#1 ↔ t.val % 8 = 0 := by decide +kernel
theorem cond2_at : ∀ t : Fin cfg0.N, k0_cond2 (grid0.coords t) = 1#1 ↔ t.val % 8 = 7 := by decide +kernel
theorem stale : ∀ t : Fin cfg0.N, ¬t.val % 8 = 0 → cfg0.fresh 7 t.val = false ∧ cfg0.fresh 8 t.val = false := by decide +kernel

/-- A row block's first point. -/
def start (t : Fin cfg0.N) : Fin cfg0.N := ⟨8 * (t.val / 8), lt_of_le_of_lt (by omega) t.isLt⟩

theorem start_self (t : Fin cfg0.N) (h : t.val % 8 = 0) : start t = t := Fin.ext (show 8 * (t.val / 8) = t.val by omega)
theorem start_back (t : Fin cfg0.N) (h : ¬t.val % 8 = 0) : start ⟨t.val - 1, by omega⟩ = start t :=
  Fin.ext (show 8 * ((t.val - 1) / 8) = 8 * (t.val / 8) by omega)

/-- The mixed rows and the normalised rows of a point's row block. -/
def mixedAt (t : Fin cfg0.N) : Vec F S1088x1024 .f32 := k0_pay1 (iblk m c 0 (start t)) (iblk m c 1 (start t)) (iblk m c 2 (start t))
def normedAt (t : Fin cfg0.N) : Vec F S1088x1024 .bf16 := k0_pay2 (iblk m c 0 (start t)) (iblk m c 1 (start t)) (iblk m c 2 (start t)) (iblk m c 3 (start t))

/-- The sum after a point, from the sum before it. -/
def stepAt (t : Fin cfg0.N) (s : Vec F S1088x1024 .f32) : Vec F S1088x1024 .f32 :=
  k0_pay4 (normedAt m c t) (iblk m c 4 t) (if t.val % 8 = 0 then k0_pay3 (iblk m c 0 t) (iblk m c 1 t) (iblk m c 2 t) else s) (iblk m c 5 t)
def sumAt : (n : ℕ) → n < cfg0.N → Vec F S1088x1024 .f32
  | 0, h => stepAt m c ⟨0, h⟩ (k0_pay3 (iblk m c 0 ⟨0, h⟩) (iblk m c 1 ⟨0, h⟩) (iblk m c 2 ⟨0, h⟩))
  | n + 1, h => stepAt m c ⟨n + 1, h⟩ (sumAt n (by omega))

theorem sumAt_eq (t : Fin cfg0.N) (s : Vec F S1088x1024 .f32) (hs : ∀ h : t.val ≠ 0, s = sumAt m c (t.val - 1) (by omega)) :
    sumAt m c t.val t.isLt = stepAt m c t s := by
  obtain ⟨n, h⟩ := t
  cases n with
  | zero => rfl
  | succ n => rw [hs (Nat.succ_ne_zero n)]; rfl

abbrev scM0_0 : Memref sig .tc .vmem S1088x1024 .f32 := Memref.whole cc0_scratch0

/-- Between the points: the sum, once there is one. -/
def PhiS : (n : ℕ) → n ≤ cfg0.N → sProp 𝕄
  | 0, _ => Pipeline.ΦA spec0 c
  | n + 1, hn => iprop(own c scM0_0 (sumAt m c n hn) ∗ (∃ r, prngReg c r))

theorem PhiS_pos (n : ℕ) (h : n ≤ cfg0.N) (hz : n ≠ 0) :
    PhiS m c n h = iprop(own c scM0_0 (sumAt m c (n - 1) (by omega)) ∗ (∃ r, prngReg c r)) := by
  cases n with
  | zero => exact absurd rfl hz
  | succ n => rfl

theorem PhiA0_eq : (Pipeline.ΦA spec0 c : sProp 𝕄) = iprop((∃ d, own c scM0_0 d) ∗ (∃ r, prngReg c r)) := by
  unfold Pipeline.ΦA; rw [scopedRest0_eq]; simp only [scM0_0, owns_whole]; rfl

/-- The region's proof data: the inputs stay at their blocks; the outputs hold the sum, the normalised rows and the mixed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumAt m c t.val t.isLt
    | ⟨7, _⟩ => normedAt m c t
    | ⟨8, _⟩ => mixedAt m c t
  Φ t := PhiS m c t.val (Nat.le_of_lt_succ t.isLt)
  q _ := fullShare
  owed _ := 0

theorem A_eq (w : Fin cfg0.W) : (dats m 0 c).A w = V m c (Pipeline.arrRef spec0 w) := by dsimp only [dats]
theorem after0_6 (t : Fin cfg0.N) : (dats m 0 c).after 6 t = sumAt m c t.val t.isLt := by dsimp only [dats]
theorem after0_7 (t : Fin cfg0.N) : (dats m 0 c).after 7 t = normedAt m c t := by dsimp only [dats]
theorem after0_8 (t : Fin cfg0.N) : (dats m 0 c).after 8 t = mixedAt m c t := by dsimp only [dats]

/-- After the first point the normalised and the mixed rows stay. -/
theorem before_kept (t : Fin cfg0.N) (h : ¬t.val % 8 = 0) : (∀ d, (dats m 0 c).before 7 t d = normedAt m c t) ∧ ∀ d, (dats m 0 c).before 8 t d = mixedAt m c t := by
  have hc : ∀ t : Fin cfg0.N, ¬t.val % 8 = 0 → normedAt m c ⟨t.val - 1, by omega⟩ = normedAt m c t ∧ mixedAt m c ⟨t.val - 1, by omega⟩ = mixedAt m c t :=
    fun t h => by unfold normedAt mixedAt; rw [start_back t h]; exact ⟨rfl, rfl⟩
  have hi : ∀ t : Fin cfg0.N, (!(k0_cond1 (grid0.coords t) == 1#1)) = true → ¬t.val % 8 = 0 := fun t e z => by rw [(cond1_at t).mpr z] at e; exact absurd e (by decide)
  refine ⟨fun d => ?_, fun d => ?_⟩
  · rw [Dat.before_out_traj _ 7 rfl (fun _ _ => rfl) (fun t _ e _ => by rw [after0_7, after0_7]; exact (hc t (hi t e)).1.symm) t.val t rfl d, (stale t h).1, after0_7]
    exact (hc t h).1
  · rw [Dat.before_out_traj _ 8 rfl (fun _ _ => rfl) (fun t _ e _ => by rw [after0_8, after0_8]; exact (hc t (hi t e)).2.symm) t.val t rfl d, (stale t h).2, after0_8]
    exact (hc t h).2

/-- A window written at a row block's first point only keeps what it was left with. -/
theorem give (w : Fin cfg0.W) (hl : cfg0.loose w = false) (t : Fin cfg0.N) (hi : cfg0.idle w (grid0.coords t) = !(k0_cond1 (grid0.coords t) == 1#1))
    (d) (hk : ¬t.val % 8 = 0 → (dats m 0 c).before w t d = (dats m 0 c).after w t) :
    (owns (c : Thread nD τ) ((cfg0.win w).stage (cfg0.slots t w)) fullShare ((dats m 0 c).after w t) : sProp 𝕄) ⊢ (dats m 0 c).leavesExact w t := by
  unfold Dat.leavesExact
  rw [hi]
  by_cases h : k0_cond1 (grid0.coords t) = 1#1
  · rw [h]
    exact BI.Entails.refl _
  · rw [show (!(k0_cond1 (grid0.coords t) == 1#1)) = true by simp [h]]
    cases (cfg0.win w).flush t with
    | true => exact BI.Entails.refl _
    | false => rw [← hk fun z => h ((cond1_at t).mpr z)]; iintro H; iexists d; iexact H

/-- The sum's window is written at the last point only. -/
theorem give_sum (t : Fin cfg0.N) (d) :
    (own c (win0_6.stage (cfg0.slots t 6)) (if k0_cond2 (grid0.coords t) = 1#1 then sumAt m c t.val t.isLt else (dats m 0 c).before 6 t d) : sProp 𝕄)
      ⊢ (dats m 0 c).leavesExact 6 t := by
  by_cases h : k0_cond2 (grid0.coords t) = 1#1
  · unfold Dat.leavesExact
    rw [if_pos h, show cfg0.idle 6 (grid0.coords t) = !(k0_cond2 (grid0.coords t) == 1#1) from rfl, h]
    exact BI.Entails.refl _
  · have hi : cfg0.idle 6 (cfg0.grid.coords t) = !(k0_cond2 (grid0.coords t) == 1#1) := rfl
    rw [if_neg h, Dat.leavesExact_idle _ 6 t (hi.trans (by simp [h]))
      (Bool.eq_false_iff.mpr fun k => h ((cond2_at t).mpr ((flush0_6 t).mp k)))]
    iintro H; iexists d; iexact H

/-- What the body is called with at a point besides the sum, -/
def bodyPre (t : Fin cfg0.N) : sProp 𝕄 :=
  iprop((dats m 0 c).owesAt () t.castSucc
    ∗ (∃ d, own c (win0_0.stage (cfg0.slots t 0)) ((dats m 0 c).before 0 t d)) ∗ (∃ d, own c (win0_1.stage (cfg0.slots t 1)) ((dats m 0 c).before 1 t d)) ∗ (∃ d, own c (win0_2.stage (cfg0.slots t 2)) ((dats m 0 c).before 2 t d)) ∗ (∃ d, own c (win0_3.stage (cfg0.slots t 3)) ((dats m 0 c).before 3 t d)) ∗ (∃ d, own c (win0_4.stage (cfg0.slots t 4)) ((dats m 0 c).before 4 t d)) ∗ (∃ d, own c (win0_5.stage (cfg0.slots t 5)) ((dats m 0 c).before 5 t d)) ∗ (∃ d, own c (win0_6.stage (cfg0.slots t 6)) ((dats m 0 c).before 6 t d)) ∗ (∃ d, own c (win0_7.stage (cfg0.slots t 7)) ((dats m 0 c).before 7 t d)) ∗ (∃ d, own c (win0_8.stage (cfg0.slots t 8)) ((dats m 0 c).before 8 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 2000000 in
/-- The body's triple at a point, from the sum before it. -/
theorem sound_step (t : Fin cfg0.N) (s : Vec F S1088x1024 .f32) (hs : ∀ h : t.val ≠ 0, s = sumAt m c (t.val - 1) (by omega)) :
    iprop((own c scM0_0 s ∗ (∃ r, prngReg c r)) ∗ bodyPre m c t)
      ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl)]
  rw [show (dats m 0 c).owesAt () t.succ = (dats m 0 c).owesAt () t.castSucc from rfl,
    show (dats m 0 c).Φ t.succ = iprop(own c scM0_0 (sumAt m c t.val t.isLt) ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have e7 : (if k0_cond1 (grid0.coords t) = 1#1 then k0_pay2 (iblk m c 0 t) (iblk m c 1 t) (iblk m c 2 t) (iblk m c 3 t) else (dats m 0 c).before 7 t d7) = normedAt m c t := by
    by_cases h : t.val % 8 = 0
    · rw [if_pos ((cond1_at t).mpr h), normedAt, start_self t h]
    · rw [if_neg fun k => h ((cond1_at t).mp k), (before_kept m c t h).1]
  have e8 : (if k0_cond1 (grid0.coords t) = 1#1 then k0_pay1 (iblk m c 0 t) (iblk m c 1 t) (iblk m c 2 t) else (dats m 0 c).before 8 t d8) = mixedAt m c t := by
    by_cases h : t.val % 8 = 0
    · rw [if_pos ((cond1_at t).mpr h), mixedAt, start_self t h]
    · rw [if_neg fun k => h ((cond1_at t).mp k), (before_kept m c t h).2]
  have es : sumOf (k0_cond1 (grid0.coords t) = 1#1) (iblk m c 0 t) (iblk m c 1 t) (iblk m c 2 t) (iblk m c 3 t) (iblk m c 4 t) (iblk m c 5 t) ((dats m 0 c).before 7 t d7) s
      = sumAt m c t.val t.isLt := by
    rw [sumAt_eq m c t s hs, sumOf, e7, stepAt]
    simp only [cond1_at]
  iapply (wp_wand_r _ _ _)
  isplitl [HS H0 H1 H2 H3 H4 H5 H6 H7 H8]
  · iapply (body_owns c (grid0.coords t) _ _ _ _ _ _ _ _ _ _ _ _ _ _ _ _ _ _ _ _
      (iblk m c 0 t) (iblk m c 1 t) (iblk m c 2 t) (iblk m c 3 t) (iblk m c 4 t) (iblk m c 5 t) ((dats m 0 c).before 6 t d6) ((dats m 0 c).before 7 t d7) ((dats m 0 c).before 8 t d8) s)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  rw [es, e7, e8]
  iintro %a ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (give_sum m c t d6); iexact H6
  isplitl [H7]; · iapply (give m c 7 rfl t rfl d7 fun h => ((before_kept m c t h).1 d7).trans (after0_7 m c t).symm); iexact H7
  iapply (give m c 8 rfl t rfl d8 fun h => ((before_kept m c t h).2 d8).trans (after0_8 m c t).symm); iexact H8

/-- The body's triple at any point. -/
theorem sound_body (t : Fin cfg0.N) :
    iprop((dats m 0 c).Φ t.castSucc ∗ bodyPre m c t) ⊢ wp frame (wpE (defs₀ (F := F)) Variants.none c none) Set.univ (bodyAt0 t) (fun _ => bodyPost m c t) := by
  rw [show (dats m 0 c).Φ t.castSucc = PhiS m c t.val (Nat.le_of_lt t.isLt) by dsimp only [dats]; exact Pipeline.Dat.Φ_castSucc (PhiS m c) t]
  by_cases hz : t.val = 0
  · rw [show PhiS m c t.val (Nat.le_of_lt t.isLt) = Pipeline.ΦA spec0 c by simp only [hz]; rfl, PhiA0_eq]
    iintro ⟨⟨⟨%s, HS⟩, Hg⟩, Hp⟩
    iapply (sound_step m c t s fun h => absurd hz h)
    isplitl [HS Hg]
    · isplitl [HS]; · iexact HS
      iexact Hg
    iexact Hp
  · rw [PhiS_pos m c _ _ hz]
    exact sound_step m c t _ fun _ => rfl

/-- The body table's row at a point's slots is the body. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := BI.Entails.refl _

/-- After the last point the sum is forgotten. -/
theorem hout : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 64 from N_0]; decide), PhiA0_eq]
  iintro ⟨HS, Hg⟩
  isplitl [HS]
  · iexists _; iexact HS
  iexact Hg

set_option backward.isDefEq.respectTransparency.types false in
/-- The whole run: every fair execution ends with the arrays at what the proof data computes, and with every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the argument arrays are unchanged and no counter is left raised. -/
theorem frame_mlp_fwd : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) (run_main m ρ)) ((θ_run defs _ _).mono (fun _ h => h.2) (run_main_quiescent m ρ))

end Cert.MlpFwdIdeal.Gen
-- ==== Proof.MlpFwdArray.lean ====
/-
  What the MLP's forward leaves in its results, whatever its arguments: the mixed rows, those rows normalised,
  and the mixed rows with the products of the squared activations added block by block of the hidden columns.
-/
module

public import proofs.«01_k».proof.Proof.MlpFwdRun
public import proofs.«01_k».proof.Proof.MlpInputs
public import proofs.«01_k».proof.Proof.InprojFwdArray

@[expose] public section

set_option maxRecDepth 16384

noncomputable section

namespace Cert.MlpFwdIdeal.Array

open Idealize.ShloMosaic Cert.MlpFwdIdeal Cert.MlpFwdIdeal.Gen Idealize.ShloMosaic.TcCoe Cert.Padded
open Cert.InprojFwdIdeal.Array (normed proj int_zero)
open Cert.MlpIdeal.Inputs (col col_eq place4)

/-- A row with another's product added; the square of what is positive of a hidden column. -/
def mixed (x y : Fin 1024 → EReal) (w : Fin 1024 → Fin 1024 → EReal) (j : Fin 1024) : EReal := x j + ∑ k, y k * w k j
def act (n w : Fin 1024 → EReal) : EReal := max (∑ k, n k * w k) 0 * max (∑ k, n k * w k) 0

section Point

variable (x : Vec Ideal S1088x1024 .f32) (y : Vec Ideal S1088x1024 .bf16) (w : Vec Ideal S1024x1024 .bf16) (g : Vec Ideal S1x1024 .f32)
variable (X Y : Fin 1088 → Fin 1024 → EReal) (W : Fin 1024 → Fin 1024 → EReal) (G : Fin 1024 → EReal)
variable (hx : ∀ r j, x (ix2 r j) = X r j) (hy : ∀ r j, y (ix2 r j) = Y r j) (hw : ∀ k j, w (ix2 k j) = W k j) (hg : ∀ j, g (ix2 0 j) = G j)

include hx hy hw in
theorem pay1 (r : Fin 1088) (j : Fin 1024) : k0_pay1 x y w (ix2 r j) = mixed (X r) (Y r) W j := by
  unfold k0_pay1
  pointwise
  simp only [hx, hy, hw, zero_add, mixed]

include hx hy hw hg in
theorem pay2 (r : Fin 1088) (j : Fin 1024) : k0_pay2 x y w g (ix2 r j) = normed (mixed (X r) (Y r) W) G j := by
  unfold k0_pay2
  pointwise
  simp only [pay1 x y w X Y W hx hy hw, hg, normed]

theorem pay4 (n : Vec Ideal S1088x1024 .bf16) (wu : Vec Ideal S1x1x1024x512 .bf16) (s : Vec Ideal S1088x1024 .f32) (wd : Vec Ideal S1x1x512x1024 .bf16)
    (r : Fin 1088) (j : Fin 1024) : k0_pay4 n wu s wd (ix2 r j)
      = s (ix2 r j) + ∑ f : Fin 512, act (fun k => n (ix2 r k)) (fun k => wu (ix4 0 0 k f)) * wd (ix4 0 0 f j) := by
  unfold k0_pay4 act
  pointwise

end Point

/-! ## What the windows read -/

variable (m : (ℓ : Loc nD τ sig) → Buf (Elt Ideal) ℓ) (c : Dev nD)

abbrev hh : S4x2064x1024.Idx → EReal := m (c.tc.loc main_arg0)
abbrev yy : S4x2064x1024.Idx → EReal := m (c.tc.loc main_arg1)
abbrev wo : S1024x1024.Idx → EReal := m (c.tc.loc main_arg2)
abbrev gg : S1024.Idx → EReal := m (c.tc.loc main_arg3)
abbrev wu : S2x1024x4096.Idx → EReal := m (c.tc.loc main_arg4)
abbrev wd : S2x4096x1024.Idx → EReal := m (c.tc.loc main_arg5)

def rows (h : S4x2064x1024.Idx → EReal) : ℕ → Fin 1024 → EReal := padR fun s q j => h (ix3 s q j)

theorem index : ∀ t : Fin cfg0.N, (win0_0.index t 0 = t.val / 8 ∧ win0_0.index t 1 = 0) ∧ (win0_1.index t 0 = t.val / 8 ∧ win0_1.index t 1 = 0)
    ∧ (win0_2.index t 0 = 0 ∧ win0_2.index t 1 = 0) ∧ (win0_3.index t 0 = 0 ∧ win0_3.index t 1 = 0) := by decide +kernel
theorem index4 : ∀ t : Fin cfg0.N, (win0_4.index t 0 = t.val % 8 ∧ win0_4.index t 1 = 1 ∧ win0_4.index t 2 = 0 ∧ win0_4.index t 3 = 0)
    ∧ (win0_5.index t 0 = t.val % 8 ∧ win0_5.index t 1 = 1 ∧ win0_5.index t 2 = 0 ∧ win0_5.index t 3 = 0) := by decide +kernel

/-- The arrays behind the windows. -/
theorem arrays : (∀ (R : Fin 8704) (j : Fin 1024), (V m c main_v8 : S8704x1024.Idx → EReal) (ix2 R j) = rows (hh m c) R.val j
      ∧ (V m c main_v12 : S8704x1024.Idx → EReal) (ix2 R j) = rows (yy m c) R.val j)
    ∧ (∀ k j, (V m c main_v13 : S1024x1024.Idx → EReal) (ix2 k j) = wo m c (ix2 k j)) ∧ (∀ j, (V m c main_v14 : S1x1024.Idx → EReal) (ix2 0 j) = gg m c (ix1 j))
    ∧ (∀ (b : Fin 8) (k : Fin 1024) (n : Fin 512), (V m c main_v2 : S8x2x1024x512.Idx → EReal) (ix4 b 1 k n) = wu m c (ix3 1 k (col (b.val * 512 + n.val)))
      ∧ (V m c main_v5 : S8x2x512x1024.Idx → EReal) (ix4 b 1 n k) = wd m c (ix3 1 (col (b.val * 512 + n.val)) k)) := by
  refine ⟨fun R j => ⟨?_, ?_⟩, fun k j => ?_, fun j => ?_, fun b k n => ⟨?_, ?_⟩⟩ <;> unfold V <;> after_results <;> pointwise
  iterate 2
    by_cases h : 112 ≤ R.val % 2176
    · rw [dif_neg (by omega), rows, padR_token _ R.val R.isLt h]
    · rw [dif_pos (by omega), rows, padR_zero _ h]
  all_goals rw [col_eq]

theorem block0 (t : Fin cfg0.N) (r : Fin 1088) (j : Fin 1024) : (iblk m c 0 t : S1088x1024.Idx → EReal) (ix2 r j) = rows (hh m c) (t.val / 8 * 1088 + r.val) j := by
  have ht := lt64 t
  rw [← ((arrays m c).1 ⟨t.val / 8 * 1088 + r.val, by omega⟩ j).1]
  exact congrArg (V m c main_v8) (place_row (a := 1088) (b := 1024) _ ⟨t.val / 8 * 1088 + r.val, by omega⟩ j (r := r.val) (index t).1.1 (index t).1.2 rfl rfl rfl)

theorem block1 (t : Fin cfg0.N) (r : Fin 1088) (j : Fin 1024) : (iblk m c 1 t : S1088x1024.Idx → EReal) (ix2 r j) = rows (yy m c) (t.val / 8 * 1088 + r.val) j := by
  have ht := lt64 t
  rw [← ((arrays m c).1 ⟨t.val / 8 * 1088 + r.val, by omega⟩ j).2]
  exact congrArg (V m c main_v12) (place_row (a := 1088) (b := 1024) _ ⟨t.val / 8 * 1088 + r.val, by omega⟩ j (r := r.val) (index t).2.1.1 (index t).2.1.2 rfl rfl rfl)

theorem block2 (t : Fin cfg0.N) (k j : Fin 1024) : (iblk m c 2 t : S1024x1024.Idx → EReal) (ix2 k j) = wo m c (ix2 k j) := by
  rw [← (arrays m c).2.1 k j]
  exact congrArg (V m c main_v13) (place_row (a := 1024) (b := 1024) _ k j (r := k.val) (index t).2.2.1.1 (index t).2.2.1.2 rfl rfl (by omega))

theorem block3 (t : Fin cfg0.N) (j : Fin 1024) : (iblk m c 3 t : S1x1024.Idx → EReal) (ix2 0 j) = gg m c (ix1 j) := by
  rw [← (arrays m c).2.2.1 j]
  exact congrArg (V m c main_v14) (place_row (a := 1) (b := 1024) _ 0 j (r := 0) (index t).2.2.2.1 (index t).2.2.2.2 rfl rfl rfl)

theorem block4 (t : Fin cfg0.N) (k : Fin 1024) (n : Fin 512) :
    (iblk m c 4 t : S1x1x1024x512.Idx → EReal) (ix4 0 0 k n) = wu m c (ix3 1 k (col (t.val % 8 * 512 + n.val))) := by
  rw [← ((arrays m c).2.2.2 ⟨t.val % 8, by omega⟩ k n).1]
  obtain ⟨e0, e1, e2, e3⟩ := (index4 t).1
  exact congrArg (V m c main_v2) (place4 (A := 8) (B := 2) (C := 1024) (D := 512) (b := 1024) (d := 512) _ _ _ _ _ _ k.val n.val rfl rfl rfl rfl
    e0.symm e1.symm (by rw [e2, Nat.zero_mul, Nat.zero_add]; rfl) (by rw [e3, Nat.zero_mul, Nat.zero_add]; rfl))

theorem block5 (t : Fin cfg0.N) (n : Fin 512) (j : Fin 1024) :
    (iblk m c 5 t : S1x1x512x1024.Idx → EReal) (ix4 0 0 n j) = wd m c (ix3 1 (col (t.val % 8 * 512 + n.val)) j) := by
  rw [← ((arrays m c).2.2.2 ⟨t.val % 8, by omega⟩ j n).2]
  obtain ⟨e0, e1, e2, e3⟩ := (index4 t).2
  exact congrArg (V m c main_v5) (place4 (A := 8) (B := 2) (C := 512) (D := 1024) (b := 512) (d := 1024) _ _ _ _ _ _ n.val j.val rfl rfl rfl rfl
    e0.symm e1.symm (by rw [e2, Nat.zero_mul, Nat.zero_add]; rfl) (by rw [e3, Nat.zero_mul, Nat.zero_add]; rfl))

/-! ## The rows of a block -/

section Rows

variable (h y : S4x2064x1024.Idx → EReal) (w : S1024x1024.Idx → EReal) (g : S1024.Idx → EReal) (u : S2x1024x4096.Idx → EReal) (d : S2x4096x1024.Idx → EReal)

def mixRow (R : ℕ) : Fin 1024 → EReal := mixed (rows h R) (rows y R) fun k j => w (ix2 k j)
def normRow (R : ℕ) : Fin 1024 → EReal := normed (mixRow h y w R) fun j => g (ix1 j)
/-- What hidden column `f` adds. -/
def term (R : ℕ) (j : Fin 1024) (f : ℕ) : EReal := act (normRow h y w g R) (fun k => u (ix3 1 k (col f))) * d (ix3 1 (col f) j)
def outRow (R : ℕ) (j : Fin 1024) : EReal := mixRow h y w R j + ∑ f : Fin 4096, term h y w g u d R j f.val

def mixArr : S8704x1024.Idx → EReal := fun i => mixRow h y w (i 0).val (i 1)
def normArr : S8704x1024.Idx → EReal := fun i => normRow h y w g (i 0).val (i 1)
def outArr : S8704x1024.Idx → EReal := fun i => outRow h y w g u d (i 0).val (i 1)

end Rows

theorem start_row (t : Fin cfg0.N) : (start t).val / 8 = t.val / 8 := show 8 * (t.val / 8) / 8 = t.val / 8 by omega

theorem mixed_at (t : Fin cfg0.N) (r : Fin 1088) (j : Fin 1024) :
    mixedAt m c t (ix2 r j) = mixRow (hh m c) (yy m c) (wo m c) (t.val / 8 * 1088 + r.val) j := by
  rw [← start_row]
  exact pay1 _ _ _ _ _ _ (block0 m c (start t)) (block1 m c (start t)) (block2 m c (start t)) r j

theorem normed_at (t : Fin cfg0.N) (r : Fin 1088) (j : Fin 1024) :
    normedAt m c t (ix2 r j) = normRow (hh m c) (yy m c) (wo m c) (gg m c) (t.val / 8 * 1088 + r.val) j := by
  rw [← start_row]
  exact pay2 _ _ _ _ _ _ _ _ (block0 m c (start t)) (block1 m c (start t)) (block2 m c (start t)) (block3 m c (start t)) r j

theorem step_at (t : Fin cfg0.N) (s : Vec Ideal S1088x1024 .f32) (r : Fin 1088) (j : Fin 1024) :
    stepAt m c t s (ix2 r j) = (if t.val % 8 = 0 then mixRow (hh m c) (yy m c) (wo m c) (t.val / 8 * 1088 + r.val) j else s (ix2 r j))
      + ∑ f : Fin 512, term (hh m c) (yy m c) (wo m c) (gg m c) (wu m c) (wd m c) (t.val / 8 * 1088 + r.val) j (t.val % 8 * 512 + f.val) := by
  unfold stepAt
  rw [pay4]
  refine congrArg₂ (· + ·) ?_ (Finset.sum_congr rfl fun f _ => ?_)
  · by_cases h : t.val % 8 = 0
    · rw [if_pos h, if_pos h, k0_pay3, shapeCast_self]
      exact pay1 _ _ _ _ _ _ (block0 m c t) (block1 m c t) (block2 m c t) r j
    · rw [if_neg h, if_neg h]
  · rw [term, block5]
    simp only [block4, normed_at]

/-- The sum after a point: the hidden columns up to its block. -/
theorem sum_at : ∀ (n : ℕ) (h : n < cfg0.N) (r : Fin 1088) (j : Fin 1024), sumAt m c n h (ix2 r j) = mixRow (hh m c) (yy m c) (wo m c) (n / 8 * 1088 + r.val) j
      + ∑ b ∈ Finset.range (n % 8 + 1), ∑ f : Fin 512, term (hh m c) (yy m c) (wo m c) (gg m c) (wu m c) (wd m c) (n / 8 * 1088 + r.val) j (b * 512 + f.val) := by
  intro n
  induction n with
  | zero =>
    intro h r j
    refine (step_at m c ⟨0, h⟩ _ r j).trans ?_
    rw [if_pos (show (0 : ℕ) % 8 = 0 from rfl), Finset.sum_range_one]
    rfl
  | succ n ih =>
    intro h r j
    refine (step_at m c ⟨n + 1, h⟩ _ r j).trans ?_
    dsimp only
    by_cases e : (n + 1) % 8 = 0
    · rw [if_pos e, e, Finset.sum_range_one]
    · rw [if_neg e, ih, show n / 8 = (n + 1) / 8 by omega, show n % 8 + 1 = (n + 1) % 8 by omega, Finset.sum_range_succ _ ((n + 1) % 8), add_assoc]

/-! ## The results -/

theorem outs : ∀ t : Fin cfg0.N, (win0_6.index t 0 = t.val / 8 ∧ win0_6.index t 1 = 0 ∧ win0_6.xsize (grid0.coords t) 0 = 1088 ∧ win0_6.xsize (grid0.coords t) 1 = 1024)
    ∧ (win0_7.index t 0 = t.val / 8 ∧ win0_7.index t 1 = 0 ∧ win0_7.xsize (grid0.coords t) 0 = 1088 ∧ win0_7.xsize (grid0.coords t) 1 = 1024)
    ∧ (win0_8.index t 0 = t.val / 8 ∧ win0_8.index t 1 = 0 ∧ win0_8.xsize (grid0.coords t) 0 = 1088 ∧ win0_8.xsize (grid0.coords t) 1 = 1024) := by
  decide +kernel

theorem arrs : (dats m 0 c).arrAt 6 cfg0.N = outArr (hh m c) (yy m c) (wo m c) (gg m c) (wu m c) (wd m c)
    ∧ (dats m 0 c).arrAt 7 cfg0.N = normArr (hh m c) (yy m c) (wo m c) (gg m c)
    ∧ (dats m 0 c).arrAt 8 cfg0.N = mixArr (hh m c) (yy m c) (wo m c) := by
  refine ⟨(dats m 0 c).arrAt_eq_of_cover 6 (outArr (hh m c) (yy m c) (wo m c) (gg m c) (wu m c) (wd m c)) (fun t ht => funext fun i => ?_) fun i => ?_,
    (dats m 0 c).arrAt_eq_of_cover 7 (normArr (hh m c) (yy m c) (wo m c) (gg m c)) (fun t _ => funext fun i => ?_) fun i => ?_,
    (dats m 0 c).arrAt_eq_of_cover 8 (mixArr (hh m c) (yy m c) (wo m c)) (fun t _ => funext fun i => ?_) fun i => ?_⟩
  all_goals try
    have h0 : (i 0 : Nat) < 8704 := (i 0).isLt
    have e : (i 0 : Nat) / 1088 * 8 + 7 < cfg0.N := by rw [show cfg0.N = 64 from N_0]; omega
    have e8 : ((i 0 : Nat) / 1088 * 8 + 7) / 8 = (i 0 : Nat) / 1088 := by omega
  all_goals try
    have h64 := lt64 t
    obtain ⟨r, j, rfl⟩ := ex2 i
    rw [View.read_apply]
  · rw [show ((cfg0.win 6).blk t).view.emb (ix2 r j) = (ix2 ⟨t.val / 8 * 1088 + r.val, by omega⟩ j : S8704x1024.Idx) from
      place_row (a := 1088) (b := 1024) _ _ j (r := r.val) (outs t).1.1 (outs t).1.2.1 rfl rfl rfl]
    show (dats m 0 c).after 6 t (ix2 r j) = _
    rw [after0_6, sum_at, (flush0_6 t).mp ht]
    exact congrArg (_ + ·) (sum_blocks 8 512 _)
  · refine ⟨⟨_, e⟩, (flush0_6 _).mpr (by dsimp only; omega), ?_⟩
    show i ∈ ((View.whole main_v15_0).slice (win0_6.rect ⟨_, e⟩)).set
    rw [View.set_slice_whole, Rect.mem_set_unit]
    exact covered (outs ⟨_, e⟩).1 (fun a => (i a).val) rfl rfl rfl rfl e8 (by norm_num) (i 1).isLt
  · rw [show ((cfg0.win 7).blk t).view.emb (ix2 r j) = (ix2 ⟨t.val / 8 * 1088 + r.val, by omega⟩ j : S8704x1024.Idx) from
      place_row (a := 1088) (b := 1024) _ _ j (r := r.val) (outs t).2.1.1 (outs t).2.1.2.1 rfl rfl rfl]
    show (dats m 0 c).after 7 t (ix2 r j) = _
    rw [after0_7]
    exact normed_at m c t r j
  · refine ⟨⟨_, e⟩, (flush0_7 _).mpr (by dsimp only; omega), ?_⟩
    show i ∈ ((View.whole main_v15_1).slice (win0_7.rect ⟨_, e⟩)).set
    rw [View.set_slice_whole, Rect.mem_set_unit]
    exact covered (outs ⟨_, e⟩).2.1 (fun a => (i a).val) rfl rfl rfl rfl e8 (by norm_num) (i 1).isLt
  · rw [show ((cfg0.win 8).blk t).view.emb (ix2 r j) = (ix2 ⟨t.val / 8 * 1088 + r.val, by omega⟩ j : S8704x1024.Idx) from
      place_row (a := 1088) (b := 1024) _ _ j (r := r.val) (outs t).2.2.1 (outs t).2.2.2.1 rfl rfl rfl]
    show (dats m 0 c).after 8 t (ix2 r j) = _
    rw [after0_8]
    exact mixed_at m c t r j
  · refine ⟨⟨_, e⟩, (flush0_8 _).mpr (by dsimp only; omega), ?_⟩
    show i ∈ ((View.whole main_v15_2).slice (win0_8.rect ⟨_, e⟩)).set
    rw [View.set_slice_whole, Rect.mem_set_unit]
    exact covered (outs ⟨_, e⟩).2.2 (fun a => (i a).val) rfl rfl rfl rfl e8 (by norm_num) (i 1).isLt

end Cert.MlpFwdIdeal.Array
-- ==== Proof.MlpFwdClaim.lean ====
/-
  The claims about the MLP's forward: its frames, what its reference's lines compute, and the two runs set side by side.
-/
module

public import proofs.«01_k».proof.Defs
public import proofs.«01_k».proof.Proof.MlpFwdArray
public import proofs.«01_k».proof.Proof.Gen.MlpFwd
public import proofs.«01_k».proof.Proof.Gen.MlpFwdRefIdeal.Read

@[expose] public section

set_option maxRecDepth 16384

noncomputable section

namespace Cert.MlpFwdClaim

open Idealize.ShloMosaic Idealize.SL.Sem Idealize.ShloMosaic.TcCoe Cert.Padded
open Cert.MlpFwdRefIdeal Cert.MlpFwdRefIdeal.Gen Cert.MlpFwdRefIdeal.Read
open Cert.InprojFwdIdeal.Array (normed int_zero)
open Cert.MlpIdeal.Inputs (col col_eq)
open Cert.MlpFwdIdeal.Array (mixed act rows mixRow normRow term outRow mixArr normArr outArr hh yy wo gg wu wd)

variable (x0 x1 : Vec Ideal S4x2064x1024 .f32) (x2 : Vec Ideal S1024x1024 .f32) (x3 : Vec Ideal S1024 .f32)
  (x4 : Vec Ideal S2x1024x4096 .f32) (x5 : Vec Ideal S2x4096x1024 .f32)

/-- A padded row that holds a token. -/
theorem rows_token {R : ℕ} (hR : R < 8704) (h : 112 ≤ R % 2176) (x : Vec Ideal S4x2064x1024 .f32) :
    rows x R = fun j => x (ix3 ⟨R / 2176, by omega⟩ ⟨R % 2176 - 112, by omega⟩ j) := padR_token _ R hR h

theorem v1 (s : Fin 4) (q : Fin 2064) (j : Fin 1024) :
    val_main_v1 x0 x1 x2 (ix3 s q j) = mixed (fun j => x0 (ix3 s q j)) (fun j => x1 (ix3 s q j)) (fun k j => x2 (ix2 k j)) j := by
  unfold val_main_v1 val_main_v0 mixed
  pointwise

theorem v14 (s : Fin 4) (q : Fin 2064) (j : Fin 1024) : val_main_v14 x0 x1 x2 x3 (ix3 s q j)
    = normed (mixed (fun j => x0 (ix3 s q j)) (fun j => x1 (ix3 s q j)) (fun k j => x2 (ix2 k j))) (fun j => x3 (ix1 j)) j := by
  unfold val_main_v14 val_main_v13 val_main_v12 val_main_v11 val_main_v10 val_main_v9 val_main_v8 val_main_v7 val_main_v6 val_main_v5 val_main_v4 val_main_v3 val_main_v2
    val_main_cst val_main_cst_0 val_main_cst_1 normed
  pointwise
  simp only [v1]

theorem v19 (s : Fin 4) (q : Fin 2064) (f : Fin 4096) : val_main_v19 x0 x1 x2 x3 x4 (ix3 s q f)
    = act (fun k => val_main_v14 x0 x1 x2 x3 (ix3 s q k)) (fun k => x4 (ix3 1 k f)) := by
  unfold val_main_v19 val_main_v18 val_main_v17 val_main_v16 val_main_v15 val_main_call0_v0 val_main_call0_cst act
  pointwise

theorem v23 (s : Fin 4) (q : Fin 2064) (j : Fin 1024) : val_main_v23 x0 x1 x2 x3 x4 x5 (ix3 s q j)
    = val_main_v1 x0 x1 x2 (ix3 s q j) + ∑ f : Fin 4096, val_main_v19 x0 x1 x2 x3 x4 (ix3 s q f) * x5 (ix3 1 f j) := by
  unfold val_main_v23 val_main_v22 val_main_v21 val_main_v20
  pointwise

/-! ## The padding -/

theorem mix_zero {R : ℕ} (h : ¬112 ≤ R % 2176) (j : Fin 1024) : mixRow x0 x1 x2 R j = 0 := by
  rw [mixRow, mixed, rows, padR_zero _ h, zero_add]
  exact Finset.sum_eq_zero fun k _ => by rw [rows, padR_zero _ h, zero_mul]

theorem norm_zero {R : ℕ} (h : ¬112 ≤ R % 2176) (j : Fin 1024) : normRow x0 x1 x2 x3 R j = 0 := by
  rw [normRow, normed, mix_zero x0 x1 x2 h, zero_mul, zero_mul]

theorem out_zero {R : ℕ} (h : ¬112 ≤ R % 2176) (j : Fin 1024) : outRow x0 x1 x2 x3 x4 x5 R j = 0 := by
  rw [outRow, mix_zero x0 x1 x2 h, zero_add]
  refine Finset.sum_eq_zero fun f _ => ?_
  simp only [term, act, norm_zero x0 x1 x2 x3 h, zero_mul, Finset.sum_const_zero, max_self]

/-! ## The results -/

/-- A padded array, from what it holds at the tokens and on the padding. -/
theorem results : val_main_v25 x0 x1 x2 x3 x4 x5 = outArr x0 x1 x2 x3 x4 x5 ∧ val_main_v28 x0 x1 x2 x3 = normArr x0 x1 x2 x3
    ∧ val_main_v30 x0 x1 x2 = mixArr x0 x1 x2 := by
  refine ⟨?_, ?_, ?_⟩ <;> funext i <;> idx_vars i
  on_goal 1 => unfold val_main_v25 val_main_v24 val_main_call1_v0 val_main_c outArr
  on_goal 2 => unfold val_main_v28 val_main_v27 val_main_v26 val_main_call2_v0 val_main_c_2 normArr
  on_goal 3 => unfold val_main_v30 val_main_v29 val_main_call3_v0 val_main_c_3 mixArr
  all_goals
    pointwise
    have hi : i0.val < 8704 := i0.isLt
    by_cases h : 112 ≤ i0.val % 2176
    on_goal 1 => rw [dif_pos ⟨by omega, h, by omega⟩]
    on_goal 2 => rw [dif_neg (by omega)]
  · rw [v23]
    simp only [v19, v14, v1]
    show _ = outRow x0 x1 x2 x3 x4 x5 i0.val i1
    simp only [outRow, term, normRow, mixRow, rows_token hi h, ← col_eq _ (Fin.isLt _)]
  · exact int_zero.trans (out_zero x0 x1 x2 x3 x4 x5 h _).symm
  · rw [v14]
    show _ = normRow x0 x1 x2 x3 i0.val i1
    simp only [normRow, mixRow, rows_token hi h]
  · exact int_zero.trans (norm_zero x0 x1 x2 x3 h _).symm
  · rw [v1]
    show _ = mixRow x0 x1 x2 i0.val i1
    simp only [mixRow, rows_token hi h]
  · exact int_zero.trans (mix_zero x0 x1 x2 h _).symm

instance : Cert.MlpFwd.Facts := Cert.MlpFwd.Gen.facts
instance : Cert.MlpFwdIdeal.Facts := Cert.MlpFwdIdeal.Gen.facts
instance : Cert.MlpFwdRefIdeal.Facts := Cert.MlpFwdRefIdeal.Gen.facts

/-- The machine's program ends with its arguments unchanged: its run is the ideal program's, over the machine's values. -/
theorem frame_kernel : Cert.quiescent_MlpFwd := fun m ρ _ => by
  have h := Cert.MlpFwdIdeal.Gen.frame_mlp_fwd (F := Bits) m ρ
  exact Eq.mp (by sl_kernel_rfl) h

/-- The reference ends with every counter at zero: it has none. -/
theorem frame_ref : Cert.quiescent_MlpFwdRefIdeal := fun m g _ =>
  (θ_run Cert.MlpFwdRefIdeal.defs _ _).mono (fun r h => ⟨fun c => (h c).2.2.2, sem_eq_zero_of_no_sems rfl r.2⟩) (Cert.MlpFwdRefIdeal.Value.run m g)

/-- The kernel and the MLP's forward lines give the same three arrays. -/
theorem algebraic : Cert.algebraic_MlpFwdIdeal_MlpFwdRefIdeal := by
  intro m g m' g' _ hargs
  refine ⟨fun c => outArr (hh m c) (yy m c) (wo m c) (gg m c) (wu m c) (wd m c), fun c => normArr (hh m c) (yy m c) (wo m c) (gg m c), fun c => mixArr (hh m c) (yy m c) (wo m c),
    (θ_run Cert.MlpFwdIdeal.defs _ _).mono (fun r h c => ?_) (θ_run_and (Cert.MlpFwdIdeal.Gen.run_main m g) (Cert.MlpFwdIdeal.Gen.frame_mlp_fwd m g)),
    (θ_run Cert.MlpFwdRefIdeal.defs _ _).mono (fun r h c => ?_) (Cert.MlpFwdRefIdeal.Value.run m' g')⟩
  · obtain ⟨a, b, d⟩ := Cert.MlpFwdIdeal.Array.arrs m c
    exact ⟨((h.1 c).1 6).trans a, ((h.1 c).1 7).trans b, ((h.1 c).1 8).trans d, h.2.1 c⟩
  · obtain ⟨a0, a1, a2, a3, a4, a5⟩ := hargs c
    obtain ⟨a, b, d, k⟩ := h c
    refine ⟨a.trans ((val_main_v25_eq ..).trans ((results _ _ _ _ _ _).1.trans ?_)), b.trans ((val_main_v28_eq ..).trans ((results _ _ _ _ (fun _ => 0) (fun _ => 0)).2.1.trans ?_)),
      d.trans ((val_main_v30_eq ..).trans ((results _ _ _ (fun _ => 0) (fun _ => 0) (fun _ => 0)).2.2.trans ?_)), k⟩
    · rw [a0, a1, a2, a3, a4, a5]
    · rw [a0, a1, a2, a3]
    · rw [a0, a1, a2]

end Cert.MlpFwdClaim
-- ==== Proof.lean ====
/- Every claim about the calls, from the modules that prove them. -/
module

public import proofs.«01_k».proof.Defs
public import proofs.«01_k».proof.Proof.Gen.Loss.Frame
public import proofs.«01_k».proof.Proof.Gen.Inproj.Frame
public import proofs.«01_k».proof.Proof.Gen.Mlp.Frame
public import proofs.«01_k».proof.Proof.Gen.Mixer.Frame
public import proofs.«01_k».proof.Proof.Gen.MixerFwd.Frame
public import proofs.«01_k».proof.Proof.Gen.InprojFwd.Frame
public import proofs.«01_k».proof.Proof.Gen.Outproj.Frame
public import proofs.«01_k».proof.Proof.Gen.Adamw.Frame
public import proofs.«01_k».proof.Proof.Gen.SumMeta.Frame
public import proofs.«01_k».proof.Proof.Gen.GradW.Frame
public import proofs.«01_k».proof.Proof.LossClaim
public import proofs.«01_k».proof.Proof.AttnFrames
public import proofs.«01_k».proof.Proof.InprojClaim
public import proofs.«01_k».proof.Proof.MlpClaim
public import proofs.«01_k».proof.Proof.MixerClaim
public import proofs.«01_k».proof.Proof.FwdClaim
public import proofs.«01_k».proof.Proof.MixerFwdClaim
public import proofs.«01_k».proof.Proof.InprojFwdClaim
public import proofs.«01_k».proof.Proof.OutprojClaim
public import proofs.«01_k».proof.Proof.AdamwClaim
public import proofs.«01_k».proof.Proof.SumMetaClaim
public import proofs.«01_k».proof.Proof.GradWClaim
public import proofs.«01_k».proof.Proof.MlpFwdClaim
public import Idealize.ShloMosaic.Adequacy
public import Idealize.ShloMosaic.Init

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts,
  Cert.Attn.Gen.facts, Cert.AttnIdeal.Gen.facts, Cert.AttnRefIdeal.Gen.facts,
  Cert.Inproj.Gen.facts, Cert.InprojIdeal.Gen.facts, Cert.InprojRefIdeal.Gen.facts,
  Cert.Mlp.Gen.facts, Cert.MlpIdeal.Gen.facts, Cert.MlpRefIdeal.Gen.facts,
  Cert.Mixer.Gen.facts, Cert.MixerIdeal.Gen.facts, Cert.MixerRefIdeal.Gen.facts,
  Cert.AttnFwd.Gen.facts, Cert.AttnFwdIdeal.Gen.facts, Cert.AttnFwdRefIdeal.Gen.facts,
  Cert.MixerFwd.Gen.facts, Cert.MixerFwdIdeal.Gen.facts, Cert.MixerFwdRefIdeal.Gen.facts,
  Cert.InprojFwd.Gen.facts, Cert.InprojFwdIdeal.Gen.facts, Cert.InprojFwdRefIdeal.Gen.facts,
  Cert.Outproj.Gen.facts, Cert.OutprojIdeal.Gen.facts, Cert.OutprojRefIdeal.Gen.facts,
  Cert.Adamw.Gen.facts, Cert.AdamwIdeal.Gen.facts, Cert.AdamwRefIdeal.Gen.facts,
  Cert.SumMeta.Gen.facts, Cert.SumMetaIdeal.Gen.facts, Cert.SumMetaRefIdeal.Gen.facts,
  Cert.GradW.Gen.facts, Cert.GradWIdeal.Gen.facts, Cert.GradWRefIdeal.Gen.facts,
  Cert.MlpFwd.Gen.facts, Cert.MlpFwdIdeal.Gen.facts, Cert.MlpFwdRefIdeal.Gen.facts,
  Cert.Pre_finite_loss.Gen.facts, Cert.Pre_finite_attn.Gen.facts, Cert.Pre_finite_inproj.Gen.facts, Cert.Pre_finite_mlp.Gen.facts, Cert.Pre_finite_mixer.Gen.facts, Cert.Pre_finite_attn_fwd.Gen.facts,
  Cert.Pre_finite_mixer_fwd.Gen.facts,
  fun m ρ _ => Cert.Loss.Gen.frame m ρ, fun m ρ _ => Cert.LossIdeal.Gen.frame m ρ, fun m ρ _ => Cert.LossIdeal.Gen.frame m ρ,
  Cert.LossClaim.frame_ref, fun m ρ _ => Cert.LossClaim.frame_ref m ρ (by trivial),
  Cert.AttnClaim.frame_kernel, fun m ρ _ => Cert.AttnIdeal.Gen.frame_attn m ρ, fun m ρ _ => Cert.AttnIdeal.Gen.frame_attn m ρ,
  Cert.AttnClaim.frame_ref, fun m ρ _ => Cert.AttnClaim.frame_ref m ρ (by trivial),
  fun m ρ _ => Cert.Inproj.Gen.frame m ρ, fun m ρ _ => Cert.InprojIdeal.Gen.frame m ρ, fun m ρ _ => Cert.InprojIdeal.Gen.frame m ρ,
  Cert.InprojClaim.frame_ref, fun m ρ _ => Cert.InprojClaim.frame_ref m ρ (by trivial),
  fun m ρ _ => Cert.Mlp.Gen.frame m ρ, fun m ρ _ => Cert.MlpIdeal.Gen.frame m ρ, fun m ρ _ => Cert.MlpIdeal.Gen.frame m ρ,
  Cert.MlpClaim.frame_ref, fun m ρ _ => Cert.MlpClaim.frame_ref m ρ (by trivial),
  fun m ρ _ => Cert.Mixer.Gen.frame m ρ, fun m ρ _ => Cert.MixerIdeal.Gen.frame m ρ, fun m ρ _ => Cert.MixerIdeal.Gen.frame m ρ,
  Cert.MixerClaim.frame_ref, fun m ρ _ => Cert.MixerClaim.frame_ref m ρ (by trivial),
  Cert.FwdClaim.frame_kernel, fun m ρ _ => Cert.AttnFwdIdeal.Gen.frame_fwd m ρ, fun m ρ _ => Cert.AttnFwdIdeal.Gen.frame_fwd m ρ,
  Cert.FwdClaim.frame_ref, fun m ρ _ => Cert.FwdClaim.frame_ref m ρ (by trivial),
  fun m ρ _ => Cert.MixerFwd.Gen.frame m ρ, fun m ρ _ => Cert.MixerFwdIdeal.Gen.frame m ρ, fun m ρ _ => Cert.MixerFwdIdeal.Gen.frame m ρ,
  Cert.MixerFwdClaim.frame_ref, fun m ρ _ => Cert.MixerFwdClaim.frame_ref m ρ (by trivial),
  fun m ρ _ => Cert.InprojFwd.Gen.frame m ρ, fun m ρ _ => Cert.InprojFwdIdeal.Gen.frame m ρ, Cert.InprojFwdClaim.frame_ref,
  fun m ρ _ => Cert.Outproj.Gen.frame m ρ, fun m ρ _ => Cert.OutprojIdeal.Gen.frame m ρ, Cert.OutprojClaim.frame_ref,
  fun m ρ _ => Cert.Adamw.Gen.frame m ρ, fun m ρ _ => Cert.AdamwIdeal.Gen.frame m ρ, Cert.AdamwClaim.frame_ref,
  fun m ρ _ => Cert.SumMeta.Gen.frame m ρ, fun m ρ _ => Cert.SumMetaIdeal.Gen.frame m ρ, Cert.SumMetaClaim.frame_ref,
  fun m ρ _ => Cert.GradW.Gen.frame m ρ, fun m ρ _ => Cert.GradWIdeal.Gen.frame m ρ, Cert.GradWClaim.frame_ref,
  Cert.MlpFwdClaim.frame_kernel, fun m ρ _ => Cert.MlpFwdIdeal.Gen.frame_mlp_fwd m ρ, Cert.MlpFwdClaim.frame_ref,
  trivial, Cert.LossClaim.algebraic, trivial, Cert.AttnClaim.algebraic, trivial, Cert.InprojClaim.algebraic, trivial, Cert.MlpClaim.algebraic, trivial, Cert.MixerClaim.algebraic,
  trivial, Cert.FwdClaim.algebraic, trivial, Cert.MixerFwdClaim.algebraic, trivial, Cert.InprojFwdClaim.algebraic,
  trivial, Cert.OutprojClaim.algebraic, trivial, Cert.AdamwClaim.algebraic, trivial, Cert.SumMetaClaim.algebraic,
  trivial, Cert.GradWClaim.algebraic, trivial, Cert.MlpFwdClaim.algebraic⟩

end Cert.Proof

end
